-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_FiKernel (m : (ℓ : Loc Cert.FiKernel.nD Cert.FiKernel.τ Cert.FiKernel.sig) → Buf (Elt Bits) ℓ) : Prop :=
  True

def Pre_FiKernelIdeal (m : (ℓ : Loc Cert.FiKernelIdeal.nD Cert.FiKernelIdeal.τ Cert.FiKernelIdeal.sig) → Buf (Elt Ideal) ℓ) : Prop :=
  True

def Pre_FiReferenceIdeal (m : (ℓ : Loc Cert.FiReferenceIdeal.nD Cert.FiReferenceIdeal.τ Cert.FiReferenceIdeal.sig) → Buf (Elt Ideal) ℓ) : Prop :=
  True

def Pre_FoKernel (m : (ℓ : Loc Cert.FoKernel.nD Cert.FoKernel.τ Cert.FoKernel.sig) → Buf (Elt Bits) ℓ) : Prop :=
  True

def Pre_FoKernelIdeal (m : (ℓ : Loc Cert.FoKernelIdeal.nD Cert.FoKernelIdeal.τ Cert.FoKernelIdeal.sig) → Buf (Elt Ideal) ℓ) : Prop :=
  True

def Pre_FoReferenceIdeal (m : (ℓ : Loc Cert.FoReferenceIdeal.nD Cert.FoReferenceIdeal.τ Cert.FoReferenceIdeal.sig) → Buf (Elt Ideal) ℓ) : Prop :=
  True

def Pre_SwKernel (m : (ℓ : Loc Cert.SwKernel.nD Cert.SwKernel.τ Cert.SwKernel.sig) → Buf (Elt Bits) ℓ) : Prop :=
  True

def Pre_SwKernelIdeal (m : (ℓ : Loc Cert.SwKernelIdeal.nD Cert.SwKernelIdeal.τ Cert.SwKernelIdeal.sig) → Buf (Elt Ideal) ℓ) : Prop :=
  True

def Pre_SwKernelIdeal_sw_finite [hPre_sw_finite : Cert.Pre_sw_finite.Facts] (m : (ℓ : Loc Cert.SwKernelIdeal.nD Cert.SwKernelIdeal.τ Cert.SwKernelIdeal.sig) → Buf (Elt Ideal) ℓ) : Prop :=
  ∀ c : Dev Cert.SwKernelIdeal.nD,
    (Cert.Pre_sw_finite.fn (F := Ideal) (m ((c.tc : Thread Cert.SwKernelIdeal.nD Cert.SwKernelIdeal.τ).loc Cert.SwKernelIdeal.main_arg0)) (m ((c.tc : Thread Cert.SwKernelIdeal.nD Cert.SwKernelIdeal.τ).loc Cert.SwKernelIdeal.main_arg1)) (m ((c.tc : Thread Cert.SwKernelIdeal.nD Cert.SwKernelIdeal.τ).loc Cert.SwKernelIdeal.main_arg2)) (m ((c.tc : Thread Cert.SwKernelIdeal.nD Cert.SwKernelIdeal.τ).loc Cert.SwKernelIdeal.main_arg3))) = (fun _ => 1#1)

def Pre_SwReferenceIdeal (m : (ℓ : Loc Cert.SwReferenceIdeal.nD Cert.SwReferenceIdeal.τ Cert.SwReferenceIdeal.sig) → Buf (Elt Ideal) ℓ) : Prop :=
  True

def Pre_SwReferenceIdeal_sw_finite [hPre_sw_finite : Cert.Pre_sw_finite.Facts] (m : (ℓ : Loc Cert.SwReferenceIdeal.nD Cert.SwReferenceIdeal.τ Cert.SwReferenceIdeal.sig) → Buf (Elt Ideal) ℓ) : Prop :=
  ∀ c : Dev Cert.SwReferenceIdeal.nD,
    (Cert.Pre_sw_finite.fn (F := Ideal) (m ((c.tc : Thread Cert.SwReferenceIdeal.nD Cert.SwReferenceIdeal.τ).loc Cert.SwReferenceIdeal.main_arg0)) (m ((c.tc : Thread Cert.SwReferenceIdeal.nD Cert.SwReferenceIdeal.τ).loc Cert.SwReferenceIdeal.main_arg1)) (m ((c.tc : Thread Cert.SwReferenceIdeal.nD Cert.SwReferenceIdeal.τ).loc Cert.SwReferenceIdeal.main_arg2)) (m ((c.tc : Thread Cert.SwReferenceIdeal.nD Cert.SwReferenceIdeal.τ).loc Cert.SwReferenceIdeal.main_arg3))) = (fun _ => 1#1)

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_FwKernel (m : (ℓ : Loc Cert.FwKernel.nD Cert.FwKernel.τ Cert.FwKernel.sig) → Buf (Elt Bits) ℓ) : Prop :=
  True

def Pre_FwKernelIdeal (m : (ℓ : Loc Cert.FwKernelIdeal.nD Cert.FwKernelIdeal.τ Cert.FwKernelIdeal.sig) → Buf (Elt Ideal) ℓ) : Prop :=
  True

def Pre_FwReferenceIdeal (m : (ℓ : Loc Cert.FwReferenceIdeal.nD Cert.FwReferenceIdeal.τ Cert.FwReferenceIdeal.sig) → Buf (Elt Ideal) ℓ) : Prop :=
  True

def Pre_OuKernel (m : (ℓ : Loc Cert.OuKernel.nD Cert.OuKernel.τ Cert.OuKernel.sig) → Buf (Elt Bits) ℓ) : Prop :=
  True

def Pre_OuKernelIdeal (m : (ℓ : Loc Cert.OuKernelIdeal.nD Cert.OuKernelIdeal.τ Cert.OuKernelIdeal.sig) → Buf (Elt Ideal) ℓ) : Prop :=
  True

def Pre_OuReferenceIdeal (m : (ℓ : Loc Cert.OuReferenceIdeal.nD Cert.OuReferenceIdeal.τ Cert.OuReferenceIdeal.sig) → Buf (Elt Ideal) ℓ) : Prop :=
  True

def Pre_AoKernel (m : (ℓ : Loc Cert.AoKernel.nD Cert.AoKernel.τ Cert.AoKernel.sig) → Buf (Elt Bits) ℓ) : Prop :=
  True

def Pre_AoKernelIdeal (m : (ℓ : Loc Cert.AoKernelIdeal.nD Cert.AoKernelIdeal.τ Cert.AoKernelIdeal.sig) → Buf (Elt Ideal) ℓ) : Prop :=
  True

def Pre_AoReferenceIdeal (m : (ℓ : Loc Cert.AoReferenceIdeal.nD Cert.AoReferenceIdeal.τ Cert.AoReferenceIdeal.sig) → Buf (Elt Ideal) ℓ) : Prop :=
  True

def Pre_OlKernel (m : (ℓ : Loc Cert.OlKernel.nD Cert.OlKernel.τ Cert.OlKernel.sig) → Buf (Elt Bits) ℓ) : Prop :=
  True

def Pre_OlKernelIdeal (m : (ℓ : Loc Cert.OlKernelIdeal.nD Cert.OlKernelIdeal.τ Cert.OlKernelIdeal.sig) → Buf (Elt Ideal) ℓ) : Prop :=
  True

def Pre_OlReferenceIdeal (m : (ℓ : Loc Cert.OlReferenceIdeal.nD Cert.OlReferenceIdeal.τ Cert.OlReferenceIdeal.sig) → Buf (Elt Ideal) ℓ) : Prop :=
  True

def Pre_GoKernel (m : (ℓ : Loc Cert.GoKernel.nD Cert.GoKernel.τ Cert.GoKernel.sig) → Buf (Elt Bits) ℓ) : Prop :=
  True

def Pre_GoKernelIdeal (m : (ℓ : Loc Cert.GoKernelIdeal.nD Cert.GoKernelIdeal.τ Cert.GoKernelIdeal.sig) → Buf (Elt Ideal) ℓ) : Prop :=
  True

def Pre_GoReferenceIdeal (m : (ℓ : Loc Cert.GoReferenceIdeal.nD Cert.GoReferenceIdeal.τ Cert.GoReferenceIdeal.sig) → Buf (Elt Ideal) ℓ) : Prop :=
  True

def Pre_DaKernel (m : (ℓ : Loc Cert.DaKernel.nD Cert.DaKernel.τ Cert.DaKernel.sig) → Buf (Elt Bits) ℓ) : Prop :=
  True

def Pre_DaKernelIdeal (m : (ℓ : Loc Cert.DaKernelIdeal.nD Cert.DaKernelIdeal.τ Cert.DaKernelIdeal.sig) → Buf (Elt Ideal) ℓ) : Prop :=
  True

def Pre_DaReferenceIdeal (m : (ℓ : Loc Cert.DaReferenceIdeal.nD Cert.DaReferenceIdeal.τ Cert.DaReferenceIdeal.sig) → Buf (Elt Ideal) ℓ) : Prop :=
  True

def Pre_QeKernel (m : (ℓ : Loc Cert.QeKernel.nD Cert.QeKernel.τ Cert.QeKernel.sig) → Buf (Elt Bits) ℓ) : Prop :=
  True

def Pre_QeKernelIdeal (m : (ℓ : Loc Cert.QeKernelIdeal.nD Cert.QeKernelIdeal.τ Cert.QeKernelIdeal.sig) → Buf (Elt Ideal) ℓ) : Prop :=
  True

def Pre_QeReferenceIdeal (m : (ℓ : Loc Cert.QeReferenceIdeal.nD Cert.QeReferenceIdeal.τ Cert.QeReferenceIdeal.sig) → Buf (Elt Ideal) ℓ) : Prop :=
  True

def Pre_QoKernel (m : (ℓ : Loc Cert.QoKernel.nD Cert.QoKernel.τ Cert.QoKernel.sig) → Buf (Elt Bits) ℓ) : Prop :=
  True

def Pre_QoKernelIdeal (m : (ℓ : Loc Cert.QoKernelIdeal.nD Cert.QoKernelIdeal.τ Cert.QoKernelIdeal.sig) → Buf (Elt Ideal) ℓ) : Prop :=
  True

def Pre_QoReferenceIdeal (m : (ℓ : Loc Cert.QoReferenceIdeal.nD Cert.QoReferenceIdeal.τ Cert.QoReferenceIdeal.sig) → Buf (Elt Ideal) ℓ) : Prop :=
  True

def Pre_GqKernel (m : (ℓ : Loc Cert.GqKernel.nD Cert.GqKernel.τ Cert.GqKernel.sig) → Buf (Elt Bits) ℓ) : Prop :=
  True

def Pre_GqKernelIdeal (m : (ℓ : Loc Cert.GqKernelIdeal.nD Cert.GqKernelIdeal.τ Cert.GqKernelIdeal.sig) → Buf (Elt Ideal) ℓ) : Prop :=
  True

def Pre_GqReferenceIdeal (m : (ℓ : Loc Cert.GqReferenceIdeal.nD Cert.GqReferenceIdeal.τ Cert.GqReferenceIdeal.sig) → Buf (Elt Ideal) ℓ) : Prop :=
  True

def Pre_GnKernel (m : (ℓ : Loc Cert.GnKernel.nD Cert.GnKernel.τ Cert.GnKernel.sig) → Buf (Elt Bits) ℓ) : Prop :=
  True

def Pre_GnKernelIdeal (m : (ℓ : Loc Cert.GnKernelIdeal.nD Cert.GnKernelIdeal.τ Cert.GnKernelIdeal.sig) → Buf (Elt Ideal) ℓ) : Prop :=
  True

def Pre_GnReferenceIdeal (m : (ℓ : Loc Cert.GnReferenceIdeal.nD Cert.GnReferenceIdeal.τ Cert.GnReferenceIdeal.sig) → Buf (Elt Ideal) ℓ) : Prop :=
  True

def Pre_DqKernel (m : (ℓ : Loc Cert.DqKernel.nD Cert.DqKernel.τ Cert.DqKernel.sig) → Buf (Elt Bits) ℓ) : Prop :=
  True

def Pre_DqKernelIdeal (m : (ℓ : Loc Cert.DqKernelIdeal.nD Cert.DqKernelIdeal.τ Cert.DqKernelIdeal.sig) → Buf (Elt Ideal) ℓ) : Prop :=
  True

def Pre_DqReferenceIdeal (m : (ℓ : Loc Cert.DqReferenceIdeal.nD Cert.DqReferenceIdeal.τ Cert.DqReferenceIdeal.sig) → Buf (Elt Ideal) ℓ) : Prop :=
  True

def Pre_DnKernel (m : (ℓ : Loc Cert.DnKernel.nD Cert.DnKernel.τ Cert.DnKernel.sig) → Buf (Elt Bits) ℓ) : Prop :=
  True

def Pre_DnKernelIdeal (m : (ℓ : Loc Cert.DnKernelIdeal.nD Cert.DnKernelIdeal.τ Cert.DnKernelIdeal.sig) → Buf (Elt Ideal) ℓ) : Prop :=
  True

def Pre_DnReferenceIdeal (m : (ℓ : Loc Cert.DnReferenceIdeal.nD Cert.DnReferenceIdeal.τ Cert.DnReferenceIdeal.sig) → Buf (Elt Ideal) ℓ) : Prop :=
  True

def Pre_UsKernel (m : (ℓ : Loc Cert.UsKernel.nD Cert.UsKernel.τ Cert.UsKernel.sig) → Buf (Elt Bits) ℓ) : Prop :=
  True

def Pre_UsKernelIdeal (m : (ℓ : Loc Cert.UsKernelIdeal.nD Cert.UsKernelIdeal.τ Cert.UsKernelIdeal.sig) → Buf (Elt Ideal) ℓ) : Prop :=
  True

def Pre_UsReferenceIdeal (m : (ℓ : Loc Cert.UsReferenceIdeal.nD Cert.UsReferenceIdeal.τ Cert.UsReferenceIdeal.sig) → Buf (Elt Ideal) ℓ) : Prop :=
  True

def Pre_UqKernel (m : (ℓ : Loc Cert.UqKernel.nD Cert.UqKernel.τ Cert.UqKernel.sig) → Buf (Elt Bits) ℓ) : Prop :=
  True

def Pre_UqKernelIdeal (m : (ℓ : Loc Cert.UqKernelIdeal.nD Cert.UqKernelIdeal.τ Cert.UqKernelIdeal.sig) → Buf (Elt Ideal) ℓ) : Prop :=
  True

def Pre_UqReferenceIdeal (m : (ℓ : Loc Cert.UqReferenceIdeal.nD Cert.UqReferenceIdeal.τ Cert.UqReferenceIdeal.sig) → Buf (Elt Ideal) ℓ) : Prop :=
  True

def Pre_UoKernel (m : (ℓ : Loc Cert.UoKernel.nD Cert.UoKernel.τ Cert.UoKernel.sig) → Buf (Elt Bits) ℓ) : Prop :=
  True

def Pre_UoKernelIdeal (m : (ℓ : Loc Cert.UoKernelIdeal.nD Cert.UoKernelIdeal.τ Cert.UoKernelIdeal.sig) → Buf (Elt Ideal) ℓ) : Prop :=
  True

def Pre_UoReferenceIdeal (m : (ℓ : Loc Cert.UoReferenceIdeal.nD Cert.UoReferenceIdeal.τ Cert.UoReferenceIdeal.sig) → Buf (Elt Ideal) ℓ) : Prop :=
  True

def Pre_UfKernel (m : (ℓ : Loc Cert.UfKernel.nD Cert.UfKernel.τ Cert.UfKernel.sig) → Buf (Elt Bits) ℓ) : Prop :=
  True

def Pre_UfKernelIdeal (m : (ℓ : Loc Cert.UfKernelIdeal.nD Cert.UfKernelIdeal.τ Cert.UfKernelIdeal.sig) → Buf (Elt Ideal) ℓ) : Prop :=
  True

def Pre_UfReferenceIdeal (m : (ℓ : Loc Cert.UfReferenceIdeal.nD Cert.UfReferenceIdeal.τ Cert.UfReferenceIdeal.sig) → Buf (Elt Ideal) ℓ) : Prop :=
  True

def Pre_UiKernel (m : (ℓ : Loc Cert.UiKernel.nD Cert.UiKernel.τ Cert.UiKernel.sig) → Buf (Elt Bits) ℓ) : Prop :=
  True

def Pre_UiKernelIdeal (m : (ℓ : Loc Cert.UiKernelIdeal.nD Cert.UiKernelIdeal.τ Cert.UiKernelIdeal.sig) → Buf (Elt Ideal) ℓ) : Prop :=
  True

def Pre_UiReferenceIdeal (m : (ℓ : Loc Cert.UiReferenceIdeal.nD Cert.UiReferenceIdeal.τ Cert.UiReferenceIdeal.sig) → Buf (Elt Ideal) ℓ) : Prop :=
  True

def Pre_UxKernel (m : (ℓ : Loc Cert.UxKernel.nD Cert.UxKernel.τ Cert.UxKernel.sig) → Buf (Elt Bits) ℓ) : Prop :=
  True

def Pre_UxKernelIdeal (m : (ℓ : Loc Cert.UxKernelIdeal.nD Cert.UxKernelIdeal.τ Cert.UxKernelIdeal.sig) → Buf (Elt Ideal) ℓ) : Prop :=
  True

def Pre_UxReferenceIdeal (m : (ℓ : Loc Cert.UxReferenceIdeal.nD Cert.UxReferenceIdeal.τ Cert.UxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FiKernel [hFiKernel : Cert.FiKernel.Facts] : Prop :=
  ∀ (m : (ℓ : Loc Cert.FiKernel.nD Cert.FiKernel.τ Cert.FiKernel.sig) → Buf (Elt Bits) ℓ) (g : Dev Cert.FiKernel.nD → PrngReg), Pre_FiKernel m →
    θ_run (Cert.FiKernel.defs (F := Bits)) (onTc (τ := Cert.FiKernel.τ) (Cert.FiKernel.main (F := Bits))) ⟨m, fun _ => 0, g⟩ (fun r => (∀ c : Dev Cert.FiKernel.nD,
      r.2.mem ((c.tc : Thread Cert.FiKernel.nD Cert.FiKernel.τ).loc Cert.FiKernel.main_arg0) = m ((c.tc : Thread Cert.FiKernel.nD Cert.FiKernel.τ).loc Cert.FiKernel.main_arg0)
      ∧ r.2.mem ((c.tc : Thread Cert.FiKernel.nD Cert.FiKernel.τ).loc Cert.FiKernel.main_arg1) = m ((c.tc : Thread Cert.FiKernel.nD Cert.FiKernel.τ).loc Cert.FiKernel.main_arg1))
      ∧ r.2.sem = fun _ => 0)

def quiescent_FiKernelIdeal [hFiKernelIdeal : Cert.FiKernelIdeal.Facts] : Prop :=
  ∀ (m : (ℓ : Loc Cert.FiKernelIdeal.nD Cert.FiKernelIdeal.τ Cert.FiKernelIdeal.sig) → Buf (Elt Ideal) ℓ) (g : Dev Cert.FiKernelIdeal.nD → PrngReg), Pre_FiKernelIdeal m →
    θ_run (Cert.FiKernelIdeal.defs (F := Ideal)) (onTc (τ := Cert.FiKernelIdeal.τ) (Cert.FiKernelIdeal.main (F := Ideal))) ⟨m, fun _ => 0, g⟩ (fun r => (∀ c : Dev Cert.FiKernelIdeal.nD,
      r.2.mem ((c.tc : Thread Cert.FiKernelIdeal.nD Cert.FiKernelIdeal.τ).loc Cert.FiKernelIdeal.main_arg0) = m ((c.tc : Thread Cert.FiKernelIdeal.nD Cert.FiKernelIdeal.τ).loc Cert.FiKernelIdeal.main_arg0)
      ∧ r.2.mem ((c.tc : Thread Cert.FiKernelIdeal.nD Cert.FiKernelIdeal.τ).loc Cert.FiKernelIdeal.main_arg1) = m ((c.tc : Thread Cert.FiKernelIdeal.nD Cert.FiKernelIdeal.τ).loc Cert.FiKernelIdeal.main_arg1))
      ∧ r.2.sem = fun _ => 0)

def quiescent_FiReferenceIdeal [hFiReferenceIdeal : Cert.FiReferenceIdeal.Facts] : Prop :=
  ∀ (m : (ℓ : Loc Cert.FiReferenceIdeal.nD Cert.FiReferenceIdeal.τ Cert.FiReferenceIdeal.sig) → Buf (Elt Ideal) ℓ) (g : Dev Cert.FiReferenceIdeal.nD → PrngReg), Pre_FiReferenceIdeal m →
    θ_run (Cert.FiReferenceIdeal.defs (F := Ideal)) (onTc (τ := Cert.FiReferenceIdeal.τ) (Cert.FiReferenceIdeal.main (F := Ideal))) ⟨m, fun _ => 0, g⟩ (fun r => (∀ c : Dev Cert.FiReferenceIdeal.nD,
      r.2.mem ((c.tc : Thread Cert.FiReferenceIdeal.nD Cert.FiReferenceIdeal.τ).loc Cert.FiReferenceIdeal.main_arg0) = m ((c.tc : Thread Cert.FiReferenceIdeal.nD Cert.FiReferenceIdeal.τ).loc Cert.FiReferenceIdeal.main_arg0)
      ∧ r.2.mem ((c.tc : Thread Cert.FiReferenceIdeal.nD Cert.FiReferenceIdeal.τ).loc Cert.FiReferenceIdeal.main_arg1) = m ((c.tc : Thread Cert.FiReferenceIdeal.nD Cert.FiReferenceIdeal.τ).loc Cert.FiReferenceIdeal.main_arg1))
      ∧ r.2.sem = fun _ => 0)

def quiescent_FoKernel [hFoKernel : Cert.FoKernel.Facts] : Prop :=
  ∀ (m : (ℓ : Loc Cert.FoKernel.nD Cert.FoKernel.τ Cert.FoKernel.sig) → Buf (Elt Bits) ℓ) (g : Dev Cert.FoKernel.nD → PrngReg), Pre_FoKernel m →
    θ_run (Cert.FoKernel.defs (F := Bits)) (onTc (τ := Cert.FoKernel.τ) (Cert.FoKernel.main (F := Bits))) ⟨m, fun _ => 0, g⟩ (fun r => (∀ c : Dev Cert.FoKernel.nD,
      r.2.mem ((c.tc : Thread Cert.FoKernel.nD Cert.FoKernel.τ).loc Cert.FoKernel.main_arg0) = m ((c.tc : Thread Cert.FoKernel.nD Cert.FoKernel.τ).loc Cert.FoKernel.main_arg0)
      ∧ r.2.mem ((c.tc : Thread Cert.FoKernel.nD Cert.FoKernel.τ).loc Cert.FoKernel.main_arg1) = m ((c.tc : Thread Cert.FoKernel.nD Cert.FoKernel.τ).loc Cert.FoKernel.main_arg1))
      ∧ r.2.sem = fun _ => 0)

def quiescent_FoKernelIdeal [hFoKernelIdeal : Cert.FoKernelIdeal.Facts] : Prop :=
  ∀ (m : (ℓ : Loc Cert.FoKernelIdeal.nD Cert.FoKernelIdeal.τ Cert.FoKernelIdeal.sig) → Buf (Elt Ideal) ℓ) (g : Dev Cert.FoKernelIdeal.nD → PrngReg), Pre_FoKernelIdeal m →
    θ_run (Cert.FoKernelIdeal.defs (F := Ideal)) (onTc (τ := Cert.FoKernelIdeal.τ) (Cert.FoKernelIdeal.main (F := Ideal))) ⟨m, fun _ => 0, g⟩ (fun r => (∀ c : Dev Cert.FoKernelIdeal.nD,
      r.2.mem ((c.tc : Thread Cert.FoKernelIdeal.nD Cert.FoKernelIdeal.τ).loc Cert.FoKernelIdeal.main_arg0) = m ((c.tc : Thread Cert.FoKernelIdeal.nD Cert.FoKernelIdeal.τ).loc Cert.FoKernelIdeal.main_arg0)
      ∧ r.2.mem ((c.tc : Thread Cert.FoKernelIdeal.nD Cert.FoKernelIdeal.τ).loc Cert.FoKernelIdeal.main_arg1) = m ((c.tc : Thread Cert.FoKernelIdeal.nD Cert.FoKernelIdeal.τ).loc Cert.FoKernelIdeal.main_arg1))
      ∧ r.2.sem = fun _ => 0)

def quiescent_FoReferenceIdeal [hFoReferenceIdeal : Cert.FoReferenceIdeal.Facts] : Prop :=
  ∀ (m : (ℓ : Loc Cert.FoReferenceIdeal.nD Cert.FoReferenceIdeal.τ Cert.FoReferenceIdeal.sig) → Buf (Elt Ideal) ℓ) (g : Dev Cert.FoReferenceIdeal.nD → PrngReg), Pre_FoReferenceIdeal m →
    θ_run (Cert.FoReferenceIdeal.defs (F := Ideal)) (onTc (τ := Cert.FoReferenceIdeal.τ) (Cert.FoReferenceIdeal.main (F := Ideal))) ⟨m, fun _ => 0, g⟩ (fun r => (∀ c : Dev Cert.FoReferenceIdeal.nD,
      r.2.mem ((c.tc : Thread Cert.FoReferenceIdeal.nD Cert.FoReferenceIdeal.τ).loc Cert.FoReferenceIdeal.main_arg0) = m ((c.tc : Thread Cert.FoReferenceIdeal.nD Cert.FoReferenceIdeal.τ).loc Cert.FoReferenceIdeal.main_arg0)
      ∧ r.2.mem ((c.tc : Thread Cert.FoReferenceIdeal.nD Cert.FoReferenceIdeal.τ).loc Cert.FoReferenceIdeal.main_arg1) = m ((c.tc : Thread Cert.FoReferenceIdeal.nD Cert.FoReferenceIdeal.τ).loc Cert.FoReferenceIdeal.main_arg1))
      ∧ r.2.sem = fun _ => 0)

def quiescent_SwKernel [hSwKernel : Cert.SwKernel.Facts] : Prop :=
  ∀ (m : (ℓ : Loc Cert.SwKernel.nD Cert.SwKernel.τ Cert.SwKernel.sig) → Buf (Elt Bits) ℓ) (g : Dev Cert.SwKernel.nD → PrngReg), Pre_SwKernel m →
    θ_run (Cert.SwKernel.defs (F := Bits)) (onTc (τ := Cert.SwKernel.τ) (Cert.SwKernel.main (F := Bits))) ⟨m, fun _ => 0, g⟩ (fun r => (∀ c : Dev Cert.SwKernel.nD,
      r.2.mem ((c.tc : Thread Cert.SwKernel.nD Cert.SwKernel.τ).loc Cert.SwKernel.main_arg0) = m ((c.tc : Thread Cert.SwKernel.nD Cert.SwKernel.τ).loc Cert.SwKernel.main_arg0)
      ∧ r.2.mem ((c.tc : Thread Cert.SwKernel.nD Cert.SwKernel.τ).loc Cert.SwKernel.main_arg1) = m ((c.tc : Thread Cert.SwKernel.nD Cert.SwKernel.τ).loc Cert.SwKernel.main_arg1)
      ∧ r.2.mem ((c.tc : Thread Cert.SwKernel.nD Cert.SwKernel.τ).loc Cert.SwKernel.main_arg2) = m ((c.tc : Thread Cert.SwKernel.nD Cert.SwKernel.τ).loc Cert.SwKernel.main_arg2)
      ∧ r.2.mem ((c.tc : Thread Cert.SwKernel.nD Cert.SwKernel.τ).loc Cert.SwKernel.main_arg3) = m ((c.tc : Thread Cert.SwKernel.nD Cert.SwKernel.τ).loc Cert.SwKernel.main_arg3))
      ∧ r.2.sem = fun _ => 0)

def quiescent_SwKernelIdeal [hSwKernelIdeal : Cert.SwKernelIdeal.Facts] : Prop :=
  ∀ (m : (ℓ : Loc Cert.SwKernelIdeal.nD Cert.SwKernelIdeal.τ Cert.SwKernelIdeal.sig) → Buf (Elt Ideal) ℓ) (g : Dev Cert.SwKernelIdeal.nD → PrngReg), Pre_SwKernelIdeal m →
    θ_run (Cert.SwKernelIdeal.defs (F := Ideal)) (onTc (τ := Cert.SwKernelIdeal.τ) (Cert.SwKernelIdeal.main (F := Ideal))) ⟨m, fun _ => 0, g⟩ (fun r => (∀ c : Dev Cert.SwKernelIdeal.nD,
      r.2.mem ((c.tc : Thread Cert.SwKernelIdeal.nD Cert.SwKernelIdeal.τ).loc Cert.SwKernelIdeal.main_arg0) = m ((c.tc : Thread Cert.SwKernelIdeal.nD Cert.SwKernelIdeal.τ).loc Cert.SwKernelIdeal.main_arg0)
      ∧ r.2.mem ((c.tc : Thread Cert.SwKernelIdeal.nD Cert.SwKernelIdeal.τ).loc Cert.SwKernelIdeal.main_arg1) = m ((c.tc : Thread Cert.SwKernelIdeal.nD Cert.SwKernelIdeal.τ).loc Cert.SwKernelIdeal.main_arg1)
      ∧ r.2.mem ((c.tc : Thread Cert.SwKernelIdeal.nD Cert.SwKernelIdeal.τ).loc Cert.SwKernelIdeal.main_arg2) = m ((c.tc : Thread Cert.SwKernelIdeal.nD Cert.SwKernelIdeal.τ).loc Cert.SwKernelIdeal.main_arg2)
      ∧ r.2.mem ((c.tc : Thread Cert.SwKernelIdeal.nD Cert.SwKernelIdeal.τ).loc Cert.SwKernelIdeal.main_arg3) = m ((c.tc : Thread Cert.SwKernelIdeal.nD Cert.SwKernelIdeal.τ).loc Cert.SwKernelIdeal.main_arg3))
      ∧ r.2.sem = fun _ => 0)

def quiescent_SwKernelIdeal_pre_sw_finite [hSwKernelIdeal : Cert.SwKernelIdeal.Facts] [hPre_sw_finite : Cert.Pre_sw_finite.Facts] : Prop :=
  ∀ (m : (ℓ : Loc Cert.SwKernelIdeal.nD Cert.SwKernelIdeal.τ Cert.SwKernelIdeal.sig) → Buf (Elt Ideal) ℓ) (g : Dev Cert.SwKernelIdeal.nD → PrngReg), Pre_SwKernelIdeal_sw_finite m →
    θ_run (Cert.SwKernelIdeal.defs (F := Ideal)) (onTc (τ := Cert.SwKernelIdeal.τ) (Cert.SwKernelIdeal.main (F := Ideal))) ⟨m, fun _ => 0, g⟩ (fun r => (∀ c : Dev Cert.SwKernelIdeal.nD,
      r.2.mem ((c.tc : Thread Cert.SwKernelIdeal.nD Cert.SwKernelIdeal.τ).loc Cert.SwKernelIdeal.main_arg0) = m ((c.tc : Thread Cert.SwKernelIdeal.nD Cert.SwKernelIdeal.τ).loc Cert.SwKernelIdeal.main_arg0)
      ∧ r.2.mem ((c.tc : Thread Cert.SwKernelIdeal.nD Cert.SwKernelIdeal.τ).loc Cert.SwKernelIdeal.main_arg1) = m ((c.tc : Thread Cert.SwKernelIdeal.nD Cert.SwKernelIdeal.τ).loc Cert.SwKernelIdeal.main_arg1)
      ∧ r.2.mem ((c.tc : Thread Cert.SwKernelIdeal.nD Cert.SwKernelIdeal.τ).loc Cert.SwKernelIdeal.main_arg2) = m ((c.tc : Thread Cert.SwKernelIdeal.nD Cert.SwKernelIdeal.τ).loc Cert.SwKernelIdeal.main_arg2)
      ∧ r.2.mem ((c.tc : Thread Cert.SwKernelIdeal.nD Cert.SwKernelIdeal.τ).loc Cert.SwKernelIdeal.main_arg3) = m ((c.tc : Thread Cert.SwKernelIdeal.nD Cert.SwKernelIdeal.τ).loc Cert.SwKernelIdeal.main_arg3))
      ∧ r.2.sem = fun _ => 0)

def quiescent_SwReferenceIdeal [hSwReferenceIdeal : Cert.SwReferenceIdeal.Facts] : Prop :=
  ∀ (m : (ℓ : Loc Cert.SwReferenceIdeal.nD Cert.SwReferenceIdeal.τ Cert.SwReferenceIdeal.sig) → Buf (Elt Ideal) ℓ) (g : Dev Cert.SwReferenceIdeal.nD → PrngReg), Pre_SwReferenceIdeal m →
    θ_run (Cert.SwReferenceIdeal.defs (F := Ideal)) (onTc (τ := Cert.SwReferenceIdeal.τ) (Cert.SwReferenceIdeal.main (F := Ideal))) ⟨m, fun _ => 0, g⟩ (fun r => (∀ c : Dev Cert.SwReferenceIdeal.nD,
      r.2.mem ((c.tc : Thread Cert.SwReferenceIdeal.nD Cert.SwReferenceIdeal.τ).loc Cert.SwReferenceIdeal.main_arg0) = m ((c.tc : Thread Cert.SwReferenceIdeal.nD Cert.SwReferenceIdeal.τ).loc Cert.SwReferenceIdeal.main_arg0)
      ∧ r.2.mem ((c.tc : Thread Cert.SwReferenceIdeal.nD Cert.SwReferenceIdeal.τ).loc Cert.SwReferenceIdeal.main_arg1) = m ((c.tc : Thread Cert.SwReferenceIdeal.nD Cert.SwReferenceIdeal.τ).loc Cert.SwReferenceIdeal.main_arg1)
      ∧ r.2.mem ((c.tc : Thread Cert.SwReferenceIdeal.nD Cert.SwReferenceIdeal.τ).loc Cert.SwReferenceIdeal.main_arg2) = m ((c.tc : Thread Cert.SwReferenceIdeal.nD Cert.SwReferenceIdeal.τ).loc Cert.SwReferenceIdeal.main_arg2)
      ∧ r.2.mem ((c.tc : Thread Cert.SwReferenceIdeal.nD Cert.SwReferenceIdeal.τ).loc Cert.SwReferenceIdeal.main_arg3) = m ((c.tc : Thread Cert.SwReferenceIdeal.nD Cert.SwReferenceIdeal.τ).loc Cert.SwReferenceIdeal.main_arg3))
      ∧ r.2.sem = fun _ => 0)

def quiescent_SwReferenceIdeal_pre_sw_finite [hSwReferenceIdeal : Cert.SwReferenceIdeal.Facts] [hPre_sw_finite : Cert.Pre_sw_finite.Facts] : Prop :=
  ∀ (m : (ℓ : Loc Cert.SwReferenceIdeal.nD Cert.SwReferenceIdeal.τ Cert.SwReferenceIdeal.sig) → Buf (Elt Ideal) ℓ) (g : Dev Cert.SwReferenceIdeal.nD → PrngReg), Pre_SwReferenceIdeal_sw_finite m →
    θ_run (Cert.SwReferenceIdeal.defs (F := Ideal)) (onTc (τ := Cert.SwReferenceIdeal.τ) (Cert.SwReferenceIdeal.main (F := Ideal))) ⟨m, fun _ => 0, g⟩ (fun r => (∀ c : Dev Cert.SwReferenceIdeal.nD,
      r.2.mem ((c.tc : Thread Cert.SwReferenceIdeal.nD Cert.SwReferenceIdeal.τ).loc Cert.SwReferenceIdeal.main_arg0) = m ((c.tc : Thread Cert.SwReferenceIdeal.nD Cert.SwReferenceIdeal.τ).loc Cert.SwReferenceIdeal.main_arg0)
      ∧ r.2.mem ((c.tc : Thread Cert.SwReferenceIdeal.nD Cert.SwReferenceIdeal.τ).loc Cert.SwReferenceIdeal.main_arg1) = m ((c.tc : Thread Cert.SwReferenceIdeal.nD Cert.SwReferenceIdeal.τ).loc Cert.SwReferenceIdeal.main_arg1)
      ∧ r.2.mem ((c.tc : Thread Cert.SwReferenceIdeal.nD Cert.SwReferenceIdeal.τ).loc Cert.SwReferenceIdeal.main_arg2) = m ((c.tc : Thread Cert.SwReferenceIdeal.nD Cert.SwReferenceIdeal.τ).loc Cert.SwReferenceIdeal.main_arg2)
      ∧ r.2.mem ((c.tc : Thread Cert.SwReferenceIdeal.nD Cert.SwReferenceIdeal.τ).loc Cert.SwReferenceIdeal.main_arg3) = m ((c.tc : Thread Cert.SwReferenceIdeal.nD Cert.SwReferenceIdeal.τ).loc Cert.SwReferenceIdeal.main_arg3))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_FwKernel [hFwKernel : Cert.FwKernel.Facts] : Prop :=
  ∀ (m : (ℓ : Loc Cert.FwKernel.nD Cert.FwKernel.τ Cert.FwKernel.sig) → Buf (Elt Bits) ℓ) (g : Dev Cert.FwKernel.nD → PrngReg), Pre_FwKernel m →
    θ_run (Cert.FwKernel.defs (F := Bits)) (onTc (τ := Cert.FwKernel.τ) (Cert.FwKernel.main (F := Bits))) ⟨m, fun _ => 0, g⟩ (fun r => (∀ c : Dev Cert.FwKernel.nD,
      r.2.mem ((c.tc : Thread Cert.FwKernel.nD Cert.FwKernel.τ).loc Cert.FwKernel.main_arg0) = m ((c.tc : Thread Cert.FwKernel.nD Cert.FwKernel.τ).loc Cert.FwKernel.main_arg0)
      ∧ r.2.mem ((c.tc : Thread Cert.FwKernel.nD Cert.FwKernel.τ).loc Cert.FwKernel.main_arg1) = m ((c.tc : Thread Cert.FwKernel.nD Cert.FwKernel.τ).loc Cert.FwKernel.main_arg1))
      ∧ r.2.sem = fun _ => 0)

def quiescent_FwKernelIdeal [hFwKernelIdeal : Cert.FwKernelIdeal.Facts] : Prop :=
  ∀ (m : (ℓ : Loc Cert.FwKernelIdeal.nD Cert.FwKernelIdeal.τ Cert.FwKernelIdeal.sig) → Buf (Elt Ideal) ℓ) (g : Dev Cert.FwKernelIdeal.nD → PrngReg), Pre_FwKernelIdeal m →
    θ_run (Cert.FwKernelIdeal.defs (F := Ideal)) (onTc (τ := Cert.FwKernelIdeal.τ) (Cert.FwKernelIdeal.main (F := Ideal))) ⟨m, fun _ => 0, g⟩ (fun r => (∀ c : Dev Cert.FwKernelIdeal.nD,
      r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
      ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1))
      ∧ r.2.sem = fun _ => 0)

def quiescent_FwReferenceIdeal [hFwReferenceIdeal : Cert.FwReferenceIdeal.Facts] : Prop :=
  ∀ (m : (ℓ : Loc Cert.FwReferenceIdeal.nD Cert.FwReferenceIdeal.τ Cert.FwReferenceIdeal.sig) → Buf (Elt Ideal) ℓ) (g : Dev Cert.FwReferenceIdeal.nD → PrngReg), Pre_FwReferenceIdeal m →
    θ_run (Cert.FwReferenceIdeal.defs (F := Ideal)) (onTc (τ := Cert.FwReferenceIdeal.τ) (Cert.FwReferenceIdeal.main (F := Ideal))) ⟨m, fun _ => 0, g⟩ (fun r => (∀ c : Dev Cert.FwReferenceIdeal.nD,
      r.2.mem ((c.tc : Thread Cert.FwReferenceIdeal.nD Cert.FwReferenceIdeal.τ).loc Cert.FwReferenceIdeal.main_arg0) = m ((c.tc : Thread Cert.FwReferenceIdeal.nD Cert.FwReferenceIdeal.τ).loc Cert.FwReferenceIdeal.main_arg0)
      ∧ r.2.mem ((c.tc : Thread Cert.FwReferenceIdeal.nD Cert.FwReferenceIdeal.τ).loc Cert.FwReferenceIdeal.main_arg1) = m ((c.tc : Thread Cert.FwReferenceIdeal.nD Cert.FwReferenceIdeal.τ).loc Cert.FwReferenceIdeal.main_arg1))
      ∧ r.2.sem = fun _ => 0)

def quiescent_OuKernel [hOuKernel : Cert.OuKernel.Facts] : Prop :=
  ∀ (m : (ℓ : Loc Cert.OuKernel.nD Cert.OuKernel.τ Cert.OuKernel.sig) → Buf (Elt Bits) ℓ) (g : Dev Cert.OuKernel.nD → PrngReg), Pre_OuKernel m →
    θ_run (Cert.OuKernel.defs (F := Bits)) (onTc (τ := Cert.OuKernel.τ) (Cert.OuKernel.main (F := Bits))) ⟨m, fun _ => 0, g⟩ (fun r => (∀ c : Dev Cert.OuKernel.nD,
      r.2.mem ((c.tc : Thread Cert.OuKernel.nD Cert.OuKernel.τ).loc Cert.OuKernel.main_arg0) = m ((c.tc : Thread Cert.OuKernel.nD Cert.OuKernel.τ).loc Cert.OuKernel.main_arg0)
      ∧ r.2.mem ((c.tc : Thread Cert.OuKernel.nD Cert.OuKernel.τ).loc Cert.OuKernel.main_arg1) = m ((c.tc : Thread Cert.OuKernel.nD Cert.OuKernel.τ).loc Cert.OuKernel.main_arg1)
      ∧ r.2.mem ((c.tc : Thread Cert.OuKernel.nD Cert.OuKernel.τ).loc Cert.OuKernel.main_arg2) = m ((c.tc : Thread Cert.OuKernel.nD Cert.OuKernel.τ).loc Cert.OuKernel.main_arg2)
      ∧ r.2.mem ((c.tc : Thread Cert.OuKernel.nD Cert.OuKernel.τ).loc Cert.OuKernel.main_arg3) = m ((c.tc : Thread Cert.OuKernel.nD Cert.OuKernel.τ).loc Cert.OuKernel.main_arg3))
      ∧ r.2.sem = fun _ => 0)

def quiescent_OuKernelIdeal [hOuKernelIdeal : Cert.OuKernelIdeal.Facts] : Prop :=
  ∀ (m : (ℓ : Loc Cert.OuKernelIdeal.nD Cert.OuKernelIdeal.τ Cert.OuKernelIdeal.sig) → Buf (Elt Ideal) ℓ) (g : Dev Cert.OuKernelIdeal.nD → PrngReg), Pre_OuKernelIdeal m →
    θ_run (Cert.OuKernelIdeal.defs (F := Ideal)) (onTc (τ := Cert.OuKernelIdeal.τ) (Cert.OuKernelIdeal.main (F := Ideal))) ⟨m, fun _ => 0, g⟩ (fun r => (∀ c : Dev Cert.OuKernelIdeal.nD,
      r.2.mem ((c.tc : Thread Cert.OuKernelIdeal.nD Cert.OuKernelIdeal.τ).loc Cert.OuKernelIdeal.main_arg0) = m ((c.tc : Thread Cert.OuKernelIdeal.nD Cert.OuKernelIdeal.τ).loc Cert.OuKernelIdeal.main_arg0)
      ∧ r.2.mem ((c.tc : Thread Cert.OuKernelIdeal.nD Cert.OuKernelIdeal.τ).loc Cert.OuKernelIdeal.main_arg1) = m ((c.tc : Thread Cert.OuKernelIdeal.nD Cert.OuKernelIdeal.τ).loc Cert.OuKernelIdeal.main_arg1)
      ∧ r.2.mem ((c.tc : Thread Cert.OuKernelIdeal.nD Cert.OuKernelIdeal.τ).loc Cert.OuKernelIdeal.main_arg2) = m ((c.tc : Thread Cert.OuKernelIdeal.nD Cert.OuKernelIdeal.τ).loc Cert.OuKernelIdeal.main_arg2)
      ∧ r.2.mem ((c.tc : Thread Cert.OuKernelIdeal.nD Cert.OuKernelIdeal.τ).loc Cert.OuKernelIdeal.main_arg3) = m ((c.tc : Thread Cert.OuKernelIdeal.nD Cert.OuKernelIdeal.τ).loc Cert.OuKernelIdeal.main_arg3))
      ∧ r.2.sem = fun _ => 0)

def quiescent_OuReferenceIdeal [hOuReferenceIdeal : Cert.OuReferenceIdeal.Facts] : Prop :=
  ∀ (m : (ℓ : Loc Cert.OuReferenceIdeal.nD Cert.OuReferenceIdeal.τ Cert.OuReferenceIdeal.sig) → Buf (Elt Ideal) ℓ) (g : Dev Cert.OuReferenceIdeal.nD → PrngReg), Pre_OuReferenceIdeal m →
    θ_run (Cert.OuReferenceIdeal.defs (F := Ideal)) (onTc (τ := Cert.OuReferenceIdeal.τ) (Cert.OuReferenceIdeal.main (F := Ideal))) ⟨m, fun _ => 0, g⟩ (fun r => (∀ c : Dev Cert.OuReferenceIdeal.nD,
      r.2.mem ((c.tc : Thread Cert.OuReferenceIdeal.nD Cert.OuReferenceIdeal.τ).loc Cert.OuReferenceIdeal.main_arg0) = m ((c.tc : Thread Cert.OuReferenceIdeal.nD Cert.OuReferenceIdeal.τ).loc Cert.OuReferenceIdeal.main_arg0)
      ∧ r.2.mem ((c.tc : Thread Cert.OuReferenceIdeal.nD Cert.OuReferenceIdeal.τ).loc Cert.OuReferenceIdeal.main_arg1) = m ((c.tc : Thread Cert.OuReferenceIdeal.nD Cert.OuReferenceIdeal.τ).loc Cert.OuReferenceIdeal.main_arg1)
      ∧ r.2.mem ((c.tc : Thread Cert.OuReferenceIdeal.nD Cert.OuReferenceIdeal.τ).loc Cert.OuReferenceIdeal.main_arg2) = m ((c.tc : Thread Cert.OuReferenceIdeal.nD Cert.OuReferenceIdeal.τ).loc Cert.OuReferenceIdeal.main_arg2)
      ∧ r.2.mem ((c.tc : Thread Cert.OuReferenceIdeal.nD Cert.OuReferenceIdeal.τ).loc Cert.OuReferenceIdeal.main_arg3) = m ((c.tc : Thread Cert.OuReferenceIdeal.nD Cert.OuReferenceIdeal.τ).loc Cert.OuReferenceIdeal.main_arg3))
      ∧ r.2.sem = fun _ => 0)

def quiescent_AoKernel [hAoKernel : Cert.AoKernel.Facts] : Prop :=
  ∀ (m : (ℓ : Loc Cert.AoKernel.nD Cert.AoKernel.τ Cert.AoKernel.sig) → Buf (Elt Bits) ℓ) (g : Dev Cert.AoKernel.nD → PrngReg), Pre_AoKernel m →
    θ_run (Cert.AoKernel.defs (F := Bits)) (onTc (τ := Cert.AoKernel.τ) (Cert.AoKernel.main (F := Bits))) ⟨m, fun _ => 0, g⟩ (fun r => (∀ c : Dev Cert.AoKernel.nD,
      r.2.mem ((c.tc : Thread Cert.AoKernel.nD Cert.AoKernel.τ).loc Cert.AoKernel.main_arg0) = m ((c.tc : Thread Cert.AoKernel.nD Cert.AoKernel.τ).loc Cert.AoKernel.main_arg0)
      ∧ r.2.mem ((c.tc : Thread Cert.AoKernel.nD Cert.AoKernel.τ).loc Cert.AoKernel.main_arg1) = m ((c.tc : Thread Cert.AoKernel.nD Cert.AoKernel.τ).loc Cert.AoKernel.main_arg1)
      ∧ r.2.mem ((c.tc : Thread Cert.AoKernel.nD Cert.AoKernel.τ).loc Cert.AoKernel.main_arg2) = m ((c.tc : Thread Cert.AoKernel.nD Cert.AoKernel.τ).loc Cert.AoKernel.main_arg2)
      ∧ r.2.mem ((c.tc : Thread Cert.AoKernel.nD Cert.AoKernel.τ).loc Cert.AoKernel.main_arg3) = m ((c.tc : Thread Cert.AoKernel.nD Cert.AoKernel.τ).loc Cert.AoKernel.main_arg3))
      ∧ r.2.sem = fun _ => 0)

def quiescent_AoKernelIdeal [hAoKernelIdeal : Cert.AoKernelIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg), Pre_AoKernelIdeal m →
    θ_run (Cert.AoKernelIdeal.defs (F := Ideal)) (onTc (τ := Cert.AoKernelIdeal.τ) (Cert.AoKernelIdeal.main (F := Ideal))) ⟨m, fun _ => 0, g⟩ (fun r => (∀ c : Dev Cert.AoKernelIdeal.nD,
      r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
      ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
      ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
      ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3))
      ∧ r.2.sem = fun _ => 0)

def quiescent_AoReferenceIdeal [hAoReferenceIdeal : Cert.AoReferenceIdeal.Facts] : Prop :=
  ∀ (m : (ℓ : Loc Cert.AoReferenceIdeal.nD Cert.AoReferenceIdeal.τ Cert.AoReferenceIdeal.sig) → Buf (Elt Ideal) ℓ) (g : Dev Cert.AoReferenceIdeal.nD → PrngReg), Pre_AoReferenceIdeal m →
    θ_run (Cert.AoReferenceIdeal.defs (F := Ideal)) (onTc (τ := Cert.AoReferenceIdeal.τ) (Cert.AoReferenceIdeal.main (F := Ideal))) ⟨m, fun _ => 0, g⟩ (fun r => (∀ c : Dev Cert.AoReferenceIdeal.nD,
      r.2.mem ((c.tc : Thread Cert.AoReferenceIdeal.nD Cert.AoReferenceIdeal.τ).loc Cert.AoReferenceIdeal.main_arg0) = m ((c.tc : Thread Cert.AoReferenceIdeal.nD Cert.AoReferenceIdeal.τ).loc Cert.AoReferenceIdeal.main_arg0)
      ∧ r.2.mem ((c.tc : Thread Cert.AoReferenceIdeal.nD Cert.AoReferenceIdeal.τ).loc Cert.AoReferenceIdeal.main_arg1) = m ((c.tc : Thread Cert.AoReferenceIdeal.nD Cert.AoReferenceIdeal.τ).loc Cert.AoReferenceIdeal.main_arg1)
      ∧ r.2.mem ((c.tc : Thread Cert.AoReferenceIdeal.nD Cert.AoReferenceIdeal.τ).loc Cert.AoReferenceIdeal.main_arg2) = m ((c.tc : Thread Cert.AoReferenceIdeal.nD Cert.AoReferenceIdeal.τ).loc Cert.AoReferenceIdeal.main_arg2)
      ∧ r.2.mem ((c.tc : Thread Cert.AoReferenceIdeal.nD Cert.AoReferenceIdeal.τ).loc Cert.AoReferenceIdeal.main_arg3) = m ((c.tc : Thread Cert.AoReferenceIdeal.nD Cert.AoReferenceIdeal.τ).loc Cert.AoReferenceIdeal.main_arg3))
      ∧ r.2.sem = fun _ => 0)

def quiescent_OlKernel [hOlKernel : Cert.OlKernel.Facts] : Prop :=
  ∀ (m : (ℓ : Loc Cert.OlKernel.nD Cert.OlKernel.τ Cert.OlKernel.sig) → Buf (Elt Bits) ℓ) (g : Dev Cert.OlKernel.nD → PrngReg), Pre_OlKernel m →
    θ_run (Cert.OlKernel.defs (F := Bits)) (onTc (τ := Cert.OlKernel.τ) (Cert.OlKernel.main (F := Bits))) ⟨m, fun _ => 0, g⟩ (fun r => (∀ c : Dev Cert.OlKernel.nD,
      r.2.mem ((c.tc : Thread Cert.OlKernel.nD Cert.OlKernel.τ).loc Cert.OlKernel.main_arg0) = m ((c.tc : Thread Cert.OlKernel.nD Cert.OlKernel.τ).loc Cert.OlKernel.main_arg0)
      ∧ r.2.mem ((c.tc : Thread Cert.OlKernel.nD Cert.OlKernel.τ).loc Cert.OlKernel.main_arg1) = m ((c.tc : Thread Cert.OlKernel.nD Cert.OlKernel.τ).loc Cert.OlKernel.main_arg1)
      ∧ r.2.mem ((c.tc : Thread Cert.OlKernel.nD Cert.OlKernel.τ).loc Cert.OlKernel.main_arg2) = m ((c.tc : Thread Cert.OlKernel.nD Cert.OlKernel.τ).loc Cert.OlKernel.main_arg2))
      ∧ r.2.sem = fun _ => 0)

def quiescent_OlKernelIdeal [hOlKernelIdeal : Cert.OlKernelIdeal.Facts] : Prop :=
  ∀ (m : (ℓ : Loc Cert.OlKernelIdeal.nD Cert.OlKernelIdeal.τ Cert.OlKernelIdeal.sig) → Buf (Elt Ideal) ℓ) (g : Dev Cert.OlKernelIdeal.nD → PrngReg), Pre_OlKernelIdeal m →
    θ_run (Cert.OlKernelIdeal.defs (F := Ideal)) (onTc (τ := Cert.OlKernelIdeal.τ) (Cert.OlKernelIdeal.main (F := Ideal))) ⟨m, fun _ => 0, g⟩ (fun r => (∀ c : Dev Cert.OlKernelIdeal.nD,
      r.2.mem ((c.tc : Thread Cert.OlKernelIdeal.nD Cert.OlKernelIdeal.τ).loc Cert.OlKernelIdeal.main_arg0) = m ((c.tc : Thread Cert.OlKernelIdeal.nD Cert.OlKernelIdeal.τ).loc Cert.OlKernelIdeal.main_arg0)
      ∧ r.2.mem ((c.tc : Thread Cert.OlKernelIdeal.nD Cert.OlKernelIdeal.τ).loc Cert.OlKernelIdeal.main_arg1) = m ((c.tc : Thread Cert.OlKernelIdeal.nD Cert.OlKernelIdeal.τ).loc Cert.OlKernelIdeal.main_arg1)
      ∧ r.2.mem ((c.tc : Thread Cert.OlKernelIdeal.nD Cert.OlKernelIdeal.τ).loc Cert.OlKernelIdeal.main_arg2) = m ((c.tc : Thread Cert.OlKernelIdeal.nD Cert.OlKernelIdeal.τ).loc Cert.OlKernelIdeal.main_arg2))
      ∧ r.2.sem = fun _ => 0)

def quiescent_OlReferenceIdeal [hOlReferenceIdeal : Cert.OlReferenceIdeal.Facts] : Prop :=
  ∀ (m : (ℓ : Loc Cert.OlReferenceIdeal.nD Cert.OlReferenceIdeal.τ Cert.OlReferenceIdeal.sig) → Buf (Elt Ideal) ℓ) (g : Dev Cert.OlReferenceIdeal.nD → PrngReg), Pre_OlReferenceIdeal m →
    θ_run (Cert.OlReferenceIdeal.defs (F := Ideal)) (onTc (τ := Cert.OlReferenceIdeal.τ) (Cert.OlReferenceIdeal.main (F := Ideal))) ⟨m, fun _ => 0, g⟩ (fun r => (∀ c : Dev Cert.OlReferenceIdeal.nD,
      r.2.mem ((c.tc : Thread Cert.OlReferenceIdeal.nD Cert.OlReferenceIdeal.τ).loc Cert.OlReferenceIdeal.main_arg0) = m ((c.tc : Thread Cert.OlReferenceIdeal.nD Cert.OlReferenceIdeal.τ).loc Cert.OlReferenceIdeal.main_arg0)
      ∧ r.2.mem ((c.tc : Thread Cert.OlReferenceIdeal.nD Cert.OlReferenceIdeal.τ).loc Cert.OlReferenceIdeal.main_arg1) = m ((c.tc : Thread Cert.OlReferenceIdeal.nD Cert.OlReferenceIdeal.τ).loc Cert.OlReferenceIdeal.main_arg1)
      ∧ r.2.mem ((c.tc : Thread Cert.OlReferenceIdeal.nD Cert.OlReferenceIdeal.τ).loc Cert.OlReferenceIdeal.main_arg2) = m ((c.tc : Thread Cert.OlReferenceIdeal.nD Cert.OlReferenceIdeal.τ).loc Cert.OlReferenceIdeal.main_arg2))
      ∧ r.2.sem = fun _ => 0)

def quiescent_GoKernel [hGoKernel : Cert.GoKernel.Facts] : Prop :=
  ∀ (m : (ℓ : Loc Cert.GoKernel.nD Cert.GoKernel.τ Cert.GoKernel.sig) → Buf (Elt Bits) ℓ) (g : Dev Cert.GoKernel.nD → PrngReg), Pre_GoKernel m →
    θ_run (Cert.GoKernel.defs (F := Bits)) (onTc (τ := Cert.GoKernel.τ) (Cert.GoKernel.main (F := Bits))) ⟨m, fun _ => 0, g⟩ (fun r => (∀ c : Dev Cert.GoKernel.nD,
      r.2.mem ((c.tc : Thread Cert.GoKernel.nD Cert.GoKernel.τ).loc Cert.GoKernel.main_arg0) = m ((c.tc : Thread Cert.GoKernel.nD Cert.GoKernel.τ).loc Cert.GoKernel.main_arg0)
      ∧ r.2.mem ((c.tc : Thread Cert.GoKernel.nD Cert.GoKernel.τ).loc Cert.GoKernel.main_arg1) = m ((c.tc : Thread Cert.GoKernel.nD Cert.GoKernel.τ).loc Cert.GoKernel.main_arg1))
      ∧ r.2.sem = fun _ => 0)

def quiescent_GoKernelIdeal [hGoKernelIdeal : Cert.GoKernelIdeal.Facts] : Prop :=
  ∀ (m : (ℓ : Loc Cert.GoKernelIdeal.nD Cert.GoKernelIdeal.τ Cert.GoKernelIdeal.sig) → Buf (Elt Ideal) ℓ) (g : Dev Cert.GoKernelIdeal.nD → PrngReg), Pre_GoKernelIdeal m →
    θ_run (Cert.GoKernelIdeal.defs (F := Ideal)) (onTc (τ := Cert.GoKernelIdeal.τ) (Cert.GoKernelIdeal.main (F := Ideal))) ⟨m, fun _ => 0, g⟩ (fun r => (∀ c : Dev Cert.GoKernelIdeal.nD,
      r.2.mem ((c.tc : Thread Cert.GoKernelIdeal.nD Cert.GoKernelIdeal.τ).loc Cert.GoKernelIdeal.main_arg0) = m ((c.tc : Thread Cert.GoKernelIdeal.nD Cert.GoKernelIdeal.τ).loc Cert.GoKernelIdeal.main_arg0)
      ∧ r.2.mem ((c.tc : Thread Cert.GoKernelIdeal.nD Cert.GoKernelIdeal.τ).loc Cert.GoKernelIdeal.main_arg1) = m ((c.tc : Thread Cert.GoKernelIdeal.nD Cert.GoKernelIdeal.τ).loc Cert.GoKernelIdeal.main_arg1))
      ∧ r.2.sem = fun _ => 0)

def quiescent_GoReferenceIdeal [hGoReferenceIdeal : Cert.GoReferenceIdeal.Facts] : Prop :=
  ∀ (m : (ℓ : Loc Cert.GoReferenceIdeal.nD Cert.GoReferenceIdeal.τ Cert.GoReferenceIdeal.sig) → Buf (Elt Ideal) ℓ) (g : Dev Cert.GoReferenceIdeal.nD → PrngReg), Pre_GoReferenceIdeal m →
    θ_run (Cert.GoReferenceIdeal.defs (F := Ideal)) (onTc (τ := Cert.GoReferenceIdeal.τ) (Cert.GoReferenceIdeal.main (F := Ideal))) ⟨m, fun _ => 0, g⟩ (fun r => (∀ c : Dev Cert.GoReferenceIdeal.nD,
      r.2.mem ((c.tc : Thread Cert.GoReferenceIdeal.nD Cert.GoReferenceIdeal.τ).loc Cert.GoReferenceIdeal.main_arg0) = m ((c.tc : Thread Cert.GoReferenceIdeal.nD Cert.GoReferenceIdeal.τ).loc Cert.GoReferenceIdeal.main_arg0)
      ∧ r.2.mem ((c.tc : Thread Cert.GoReferenceIdeal.nD Cert.GoReferenceIdeal.τ).loc Cert.GoReferenceIdeal.main_arg1) = m ((c.tc : Thread Cert.GoReferenceIdeal.nD Cert.GoReferenceIdeal.τ).loc Cert.GoReferenceIdeal.main_arg1))
      ∧ r.2.sem = fun _ => 0)

def quiescent_DaKernel [hDaKernel : Cert.DaKernel.Facts] : Prop :=
  ∀ (m : (ℓ : Loc Cert.DaKernel.nD Cert.DaKernel.τ Cert.DaKernel.sig) → Buf (Elt Bits) ℓ) (g : Dev Cert.DaKernel.nD → PrngReg), Pre_DaKernel m →
    θ_run (Cert.DaKernel.defs (F := Bits)) (onTc (τ := Cert.DaKernel.τ) (Cert.DaKernel.main (F := Bits))) ⟨m, fun _ => 0, g⟩ (fun r => (∀ c : Dev Cert.DaKernel.nD,
      r.2.mem ((c.tc : Thread Cert.DaKernel.nD Cert.DaKernel.τ).loc Cert.DaKernel.main_arg0) = m ((c.tc : Thread Cert.DaKernel.nD Cert.DaKernel.τ).loc Cert.DaKernel.main_arg0)
      ∧ r.2.mem ((c.tc : Thread Cert.DaKernel.nD Cert.DaKernel.τ).loc Cert.DaKernel.main_arg1) = m ((c.tc : Thread Cert.DaKernel.nD Cert.DaKernel.τ).loc Cert.DaKernel.main_arg1))
      ∧ r.2.sem = fun _ => 0)

def quiescent_DaKernelIdeal [hDaKernelIdeal : Cert.DaKernelIdeal.Facts] : Prop :=
  ∀ (m : (ℓ : Loc Cert.DaKernelIdeal.nD Cert.DaKernelIdeal.τ Cert.DaKernelIdeal.sig) → Buf (Elt Ideal) ℓ) (g : Dev Cert.DaKernelIdeal.nD → PrngReg), Pre_DaKernelIdeal m →
    θ_run (Cert.DaKernelIdeal.defs (F := Ideal)) (onTc (τ := Cert.DaKernelIdeal.τ) (Cert.DaKernelIdeal.main (F := Ideal))) ⟨m, fun _ => 0, g⟩ (fun r => (∀ c : Dev Cert.DaKernelIdeal.nD,
      r.2.mem ((c.tc : Thread Cert.DaKernelIdeal.nD Cert.DaKernelIdeal.τ).loc Cert.DaKernelIdeal.main_arg0) = m ((c.tc : Thread Cert.DaKernelIdeal.nD Cert.DaKernelIdeal.τ).loc Cert.DaKernelIdeal.main_arg0)
      ∧ r.2.mem ((c.tc : Thread Cert.DaKernelIdeal.nD Cert.DaKernelIdeal.τ).loc Cert.DaKernelIdeal.main_arg1) = m ((c.tc : Thread Cert.DaKernelIdeal.nD Cert.DaKernelIdeal.τ).loc Cert.DaKernelIdeal.main_arg1))
      ∧ r.2.sem = fun _ => 0)

def quiescent_DaReferenceIdeal [hDaReferenceIdeal : Cert.DaReferenceIdeal.Facts] : Prop :=
  ∀ (m : (ℓ : Loc Cert.DaReferenceIdeal.nD Cert.DaReferenceIdeal.τ Cert.DaReferenceIdeal.sig) → Buf (Elt Ideal) ℓ) (g : Dev Cert.DaReferenceIdeal.nD → PrngReg), Pre_DaReferenceIdeal m →
    θ_run (Cert.DaReferenceIdeal.defs (F := Ideal)) (onTc (τ := Cert.DaReferenceIdeal.τ) (Cert.DaReferenceIdeal.main (F := Ideal))) ⟨m, fun _ => 0, g⟩ (fun r => (∀ c : Dev Cert.DaReferenceIdeal.nD,
      r.2.mem ((c.tc : Thread Cert.DaReferenceIdeal.nD Cert.DaReferenceIdeal.τ).loc Cert.DaReferenceIdeal.main_arg0) = m ((c.tc : Thread Cert.DaReferenceIdeal.nD Cert.DaReferenceIdeal.τ).loc Cert.DaReferenceIdeal.main_arg0)
      ∧ r.2.mem ((c.tc : Thread Cert.DaReferenceIdeal.nD Cert.DaReferenceIdeal.τ).loc Cert.DaReferenceIdeal.main_arg1) = m ((c.tc : Thread Cert.DaReferenceIdeal.nD Cert.DaReferenceIdeal.τ).loc Cert.DaReferenceIdeal.main_arg1))
      ∧ r.2.sem = fun _ => 0)

def quiescent_QeKernel [hQeKernel : Cert.QeKernel.Facts] : Prop :=
  ∀ (m : (ℓ : Loc Cert.QeKernel.nD Cert.QeKernel.τ Cert.QeKernel.sig) → Buf (Elt Bits) ℓ) (g : Dev Cert.QeKernel.nD → PrngReg), Pre_QeKernel m →
    θ_run (Cert.QeKernel.defs (F := Bits)) (onTc (τ := Cert.QeKernel.τ) (Cert.QeKernel.main (F := Bits))) ⟨m, fun _ => 0, g⟩ (fun r => (∀ c : Dev Cert.QeKernel.nD,
      r.2.mem ((c.tc : Thread Cert.QeKernel.nD Cert.QeKernel.τ).loc Cert.QeKernel.main_arg0) = m ((c.tc : Thread Cert.QeKernel.nD Cert.QeKernel.τ).loc Cert.QeKernel.main_arg0)
      ∧ r.2.mem ((c.tc : Thread Cert.QeKernel.nD Cert.QeKernel.τ).loc Cert.QeKernel.main_arg1) = m ((c.tc : Thread Cert.QeKernel.nD Cert.QeKernel.τ).loc Cert.QeKernel.main_arg1))
      ∧ r.2.sem = fun _ => 0)

def quiescent_QeKernelIdeal [hQeKernelIdeal : Cert.QeKernelIdeal.Facts] : Prop :=
  ∀ (m : (ℓ : Loc Cert.QeKernelIdeal.nD Cert.QeKernelIdeal.τ Cert.QeKernelIdeal.sig) → Buf (Elt Ideal) ℓ) (g : Dev Cert.QeKernelIdeal.nD → PrngReg), Pre_QeKernelIdeal m →
    θ_run (Cert.QeKernelIdeal.defs (F := Ideal)) (onTc (τ := Cert.QeKernelIdeal.τ) (Cert.QeKernelIdeal.main (F := Ideal))) ⟨m, fun _ => 0, g⟩ (fun r => (∀ c : Dev Cert.QeKernelIdeal.nD,
      r.2.mem ((c.tc : Thread Cert.QeKernelIdeal.nD Cert.QeKernelIdeal.τ).loc Cert.QeKernelIdeal.main_arg0) = m ((c.tc : Thread Cert.QeKernelIdeal.nD Cert.QeKernelIdeal.τ).loc Cert.QeKernelIdeal.main_arg0)
      ∧ r.2.mem ((c.tc : Thread Cert.QeKernelIdeal.nD Cert.QeKernelIdeal.τ).loc Cert.QeKernelIdeal.main_arg1) = m ((c.tc : Thread Cert.QeKernelIdeal.nD Cert.QeKernelIdeal.τ).loc Cert.QeKernelIdeal.main_arg1))
      ∧ r.2.sem = fun _ => 0)

def quiescent_QeReferenceIdeal [hQeReferenceIdeal : Cert.QeReferenceIdeal.Facts] : Prop :=
  ∀ (m : (ℓ : Loc Cert.QeReferenceIdeal.nD Cert.QeReferenceIdeal.τ Cert.QeReferenceIdeal.sig) → Buf (Elt Ideal) ℓ) (g : Dev Cert.QeReferenceIdeal.nD → PrngReg), Pre_QeReferenceIdeal m →
    θ_run (Cert.QeReferenceIdeal.defs (F := Ideal)) (onTc (τ := Cert.QeReferenceIdeal.τ) (Cert.QeReferenceIdeal.main (F := Ideal))) ⟨m, fun _ => 0, g⟩ (fun r => (∀ c : Dev Cert.QeReferenceIdeal.nD,
      r.2.mem ((c.tc : Thread Cert.QeReferenceIdeal.nD Cert.QeReferenceIdeal.τ).loc Cert.QeReferenceIdeal.main_arg0) = m ((c.tc : Thread Cert.QeReferenceIdeal.nD Cert.QeReferenceIdeal.τ).loc Cert.QeReferenceIdeal.main_arg0)
      ∧ r.2.mem ((c.tc : Thread Cert.QeReferenceIdeal.nD Cert.QeReferenceIdeal.τ).loc Cert.QeReferenceIdeal.main_arg1) = m ((c.tc : Thread Cert.QeReferenceIdeal.nD Cert.QeReferenceIdeal.τ).loc Cert.QeReferenceIdeal.main_arg1))
      ∧ r.2.sem = fun _ => 0)

def quiescent_QoKernel [hQoKernel : Cert.QoKernel.Facts] : Prop :=
  ∀ (m : (ℓ : Loc Cert.QoKernel.nD Cert.QoKernel.τ Cert.QoKernel.sig) → Buf (Elt Bits) ℓ) (g : Dev Cert.QoKernel.nD → PrngReg), Pre_QoKernel m →
    θ_run (Cert.QoKernel.defs (F := Bits)) (onTc (τ := Cert.QoKernel.τ) (Cert.QoKernel.main (F := Bits))) ⟨m, fun _ => 0, g⟩ (fun r => (∀ c : Dev Cert.QoKernel.nD,
      r.2.mem ((c.tc : Thread Cert.QoKernel.nD Cert.QoKernel.τ).loc Cert.QoKernel.main_arg0) = m ((c.tc : Thread Cert.QoKernel.nD Cert.QoKernel.τ).loc Cert.QoKernel.main_arg0)
      ∧ r.2.mem ((c.tc : Thread Cert.QoKernel.nD Cert.QoKernel.τ).loc Cert.QoKernel.main_arg1) = m ((c.tc : Thread Cert.QoKernel.nD Cert.QoKernel.τ).loc Cert.QoKernel.main_arg1))
      ∧ r.2.sem = fun _ => 0)

def quiescent_QoKernelIdeal [hQoKernelIdeal : Cert.QoKernelIdeal.Facts] : Prop :=
  ∀ (m : (ℓ : Loc Cert.QoKernelIdeal.nD Cert.QoKernelIdeal.τ Cert.QoKernelIdeal.sig) → Buf (Elt Ideal) ℓ) (g : Dev Cert.QoKernelIdeal.nD → PrngReg), Pre_QoKernelIdeal m →
    θ_run (Cert.QoKernelIdeal.defs (F := Ideal)) (onTc (τ := Cert.QoKernelIdeal.τ) (Cert.QoKernelIdeal.main (F := Ideal))) ⟨m, fun _ => 0, g⟩ (fun r => (∀ c : Dev Cert.QoKernelIdeal.nD,
      r.2.mem ((c.tc : Thread Cert.QoKernelIdeal.nD Cert.QoKernelIdeal.τ).loc Cert.QoKernelIdeal.main_arg0) = m ((c.tc : Thread Cert.QoKernelIdeal.nD Cert.QoKernelIdeal.τ).loc Cert.QoKernelIdeal.main_arg0)
      ∧ r.2.mem ((c.tc : Thread Cert.QoKernelIdeal.nD Cert.QoKernelIdeal.τ).loc Cert.QoKernelIdeal.main_arg1) = m ((c.tc : Thread Cert.QoKernelIdeal.nD Cert.QoKernelIdeal.τ).loc Cert.QoKernelIdeal.main_arg1))
      ∧ r.2.sem = fun _ => 0)

def quiescent_QoReferenceIdeal [hQoReferenceIdeal : Cert.QoReferenceIdeal.Facts] : Prop :=
  ∀ (m : (ℓ : Loc Cert.QoReferenceIdeal.nD Cert.QoReferenceIdeal.τ Cert.QoReferenceIdeal.sig) → Buf (Elt Ideal) ℓ) (g : Dev Cert.QoReferenceIdeal.nD → PrngReg), Pre_QoReferenceIdeal m →
    θ_run (Cert.QoReferenceIdeal.defs (F := Ideal)) (onTc (τ := Cert.QoReferenceIdeal.τ) (Cert.QoReferenceIdeal.main (F := Ideal))) ⟨m, fun _ => 0, g⟩ (fun r => (∀ c : Dev Cert.QoReferenceIdeal.nD,
      r.2.mem ((c.tc : Thread Cert.QoReferenceIdeal.nD Cert.QoReferenceIdeal.τ).loc Cert.QoReferenceIdeal.main_arg0) = m ((c.tc : Thread Cert.QoReferenceIdeal.nD Cert.QoReferenceIdeal.τ).loc Cert.QoReferenceIdeal.main_arg0)
      ∧ r.2.mem ((c.tc : Thread Cert.QoReferenceIdeal.nD Cert.QoReferenceIdeal.τ).loc Cert.QoReferenceIdeal.main_arg1) = m ((c.tc : Thread Cert.QoReferenceIdeal.nD Cert.QoReferenceIdeal.τ).loc Cert.QoReferenceIdeal.main_arg1))
      ∧ r.2.sem = fun _ => 0)

def quiescent_GqKernel [hGqKernel : Cert.GqKernel.Facts] : Prop :=
  ∀ (m : (ℓ : Loc Cert.GqKernel.nD Cert.GqKernel.τ Cert.GqKernel.sig) → Buf (Elt Bits) ℓ) (g : Dev Cert.GqKernel.nD → PrngReg), Pre_GqKernel m →
    θ_run (Cert.GqKernel.defs (F := Bits)) (onTc (τ := Cert.GqKernel.τ) (Cert.GqKernel.main (F := Bits))) ⟨m, fun _ => 0, g⟩ (fun r => (∀ c : Dev Cert.GqKernel.nD,
      r.2.mem ((c.tc : Thread Cert.GqKernel.nD Cert.GqKernel.τ).loc Cert.GqKernel.main_arg0) = m ((c.tc : Thread Cert.GqKernel.nD Cert.GqKernel.τ).loc Cert.GqKernel.main_arg0)
      ∧ r.2.mem ((c.tc : Thread Cert.GqKernel.nD Cert.GqKernel.τ).loc Cert.GqKernel.main_arg1) = m ((c.tc : Thread Cert.GqKernel.nD Cert.GqKernel.τ).loc Cert.GqKernel.main_arg1))
      ∧ r.2.sem = fun _ => 0)

def quiescent_GqKernelIdeal [hGqKernelIdeal : Cert.GqKernelIdeal.Facts] : Prop :=
  ∀ (m : (ℓ : Loc Cert.GqKernelIdeal.nD Cert.GqKernelIdeal.τ Cert.GqKernelIdeal.sig) → Buf (Elt Ideal) ℓ) (g : Dev Cert.GqKernelIdeal.nD → PrngReg), Pre_GqKernelIdeal m →
    θ_run (Cert.GqKernelIdeal.defs (F := Ideal)) (onTc (τ := Cert.GqKernelIdeal.τ) (Cert.GqKernelIdeal.main (F := Ideal))) ⟨m, fun _ => 0, g⟩ (fun r => (∀ c : Dev Cert.GqKernelIdeal.nD,
      r.2.mem ((c.tc : Thread Cert.GqKernelIdeal.nD Cert.GqKernelIdeal.τ).loc Cert.GqKernelIdeal.main_arg0) = m ((c.tc : Thread Cert.GqKernelIdeal.nD Cert.GqKernelIdeal.τ).loc Cert.GqKernelIdeal.main_arg0)
      ∧ r.2.mem ((c.tc : Thread Cert.GqKernelIdeal.nD Cert.GqKernelIdeal.τ).loc Cert.GqKernelIdeal.main_arg1) = m ((c.tc : Thread Cert.GqKernelIdeal.nD Cert.GqKernelIdeal.τ).loc Cert.GqKernelIdeal.main_arg1))
      ∧ r.2.sem = fun _ => 0)

def quiescent_GqReferenceIdeal [hGqReferenceIdeal : Cert.GqReferenceIdeal.Facts] : Prop :=
  ∀ (m : (ℓ : Loc Cert.GqReferenceIdeal.nD Cert.GqReferenceIdeal.τ Cert.GqReferenceIdeal.sig) → Buf (Elt Ideal) ℓ) (g : Dev Cert.GqReferenceIdeal.nD → PrngReg), Pre_GqReferenceIdeal m →
    θ_run (Cert.GqReferenceIdeal.defs (F := Ideal)) (onTc (τ := Cert.GqReferenceIdeal.τ) (Cert.GqReferenceIdeal.main (F := Ideal))) ⟨m, fun _ => 0, g⟩ (fun r => (∀ c : Dev Cert.GqReferenceIdeal.nD,
      r.2.mem ((c.tc : Thread Cert.GqReferenceIdeal.nD Cert.GqReferenceIdeal.τ).loc Cert.GqReferenceIdeal.main_arg0) = m ((c.tc : Thread Cert.GqReferenceIdeal.nD Cert.GqReferenceIdeal.τ).loc Cert.GqReferenceIdeal.main_arg0)
      ∧ r.2.mem ((c.tc : Thread Cert.GqReferenceIdeal.nD Cert.GqReferenceIdeal.τ).loc Cert.GqReferenceIdeal.main_arg1) = m ((c.tc : Thread Cert.GqReferenceIdeal.nD Cert.GqReferenceIdeal.τ).loc Cert.GqReferenceIdeal.main_arg1))
      ∧ r.2.sem = fun _ => 0)

def quiescent_GnKernel [hGnKernel : Cert.GnKernel.Facts] : Prop :=
  ∀ (m : (ℓ : Loc Cert.GnKernel.nD Cert.GnKernel.τ Cert.GnKernel.sig) → Buf (Elt Bits) ℓ) (g : Dev Cert.GnKernel.nD → PrngReg), Pre_GnKernel m →
    θ_run (Cert.GnKernel.defs (F := Bits)) (onTc (τ := Cert.GnKernel.τ) (Cert.GnKernel.main (F := Bits))) ⟨m, fun _ => 0, g⟩ (fun r => (∀ c : Dev Cert.GnKernel.nD,
      r.2.mem ((c.tc : Thread Cert.GnKernel.nD Cert.GnKernel.τ).loc Cert.GnKernel.main_arg0) = m ((c.tc : Thread Cert.GnKernel.nD Cert.GnKernel.τ).loc Cert.GnKernel.main_arg0)
      ∧ r.2.mem ((c.tc : Thread Cert.GnKernel.nD Cert.GnKernel.τ).loc Cert.GnKernel.main_arg1) = m ((c.tc : Thread Cert.GnKernel.nD Cert.GnKernel.τ).loc Cert.GnKernel.main_arg1))
      ∧ r.2.sem = fun _ => 0)

def quiescent_GnKernelIdeal [hGnKernelIdeal : Cert.GnKernelIdeal.Facts] : Prop :=
  ∀ (m : (ℓ : Loc Cert.GnKernelIdeal.nD Cert.GnKernelIdeal.τ Cert.GnKernelIdeal.sig) → Buf (Elt Ideal) ℓ) (g : Dev Cert.GnKernelIdeal.nD → PrngReg), Pre_GnKernelIdeal m →
    θ_run (Cert.GnKernelIdeal.defs (F := Ideal)) (onTc (τ := Cert.GnKernelIdeal.τ) (Cert.GnKernelIdeal.main (F := Ideal))) ⟨m, fun _ => 0, g⟩ (fun r => (∀ c : Dev Cert.GnKernelIdeal.nD,
      r.2.mem ((c.tc : Thread Cert.GnKernelIdeal.nD Cert.GnKernelIdeal.τ).loc Cert.GnKernelIdeal.main_arg0) = m ((c.tc : Thread Cert.GnKernelIdeal.nD Cert.GnKernelIdeal.τ).loc Cert.GnKernelIdeal.main_arg0)
      ∧ r.2.mem ((c.tc : Thread Cert.GnKernelIdeal.nD Cert.GnKernelIdeal.τ).loc Cert.GnKernelIdeal.main_arg1) = m ((c.tc : Thread Cert.GnKernelIdeal.nD Cert.GnKernelIdeal.τ).loc Cert.GnKernelIdeal.main_arg1))
      ∧ r.2.sem = fun _ => 0)

def quiescent_GnReferenceIdeal [hGnReferenceIdeal : Cert.GnReferenceIdeal.Facts] : Prop :=
  ∀ (m : (ℓ : Loc Cert.GnReferenceIdeal.nD Cert.GnReferenceIdeal.τ Cert.GnReferenceIdeal.sig) → Buf (Elt Ideal) ℓ) (g : Dev Cert.GnReferenceIdeal.nD → PrngReg), Pre_GnReferenceIdeal m →
    θ_run (Cert.GnReferenceIdeal.defs (F := Ideal)) (onTc (τ := Cert.GnReferenceIdeal.τ) (Cert.GnReferenceIdeal.main (F := Ideal))) ⟨m, fun _ => 0, g⟩ (fun r => (∀ c : Dev Cert.GnReferenceIdeal.nD,
      r.2.mem ((c.tc : Thread Cert.GnReferenceIdeal.nD Cert.GnReferenceIdeal.τ).loc Cert.GnReferenceIdeal.main_arg0) = m ((c.tc : Thread Cert.GnReferenceIdeal.nD Cert.GnReferenceIdeal.τ).loc Cert.GnReferenceIdeal.main_arg0)
      ∧ r.2.mem ((c.tc : Thread Cert.GnReferenceIdeal.nD Cert.GnReferenceIdeal.τ).loc Cert.GnReferenceIdeal.main_arg1) = m ((c.tc : Thread Cert.GnReferenceIdeal.nD Cert.GnReferenceIdeal.τ).loc Cert.GnReferenceIdeal.main_arg1))
      ∧ r.2.sem = fun _ => 0)

def quiescent_DqKernel [hDqKernel : Cert.DqKernel.Facts] : Prop :=
  ∀ (m : (ℓ : Loc Cert.DqKernel.nD Cert.DqKernel.τ Cert.DqKernel.sig) → Buf (Elt Bits) ℓ) (g : Dev Cert.DqKernel.nD → PrngReg), Pre_DqKernel m →
    θ_run (Cert.DqKernel.defs (F := Bits)) (onTc (τ := Cert.DqKernel.τ) (Cert.DqKernel.main (F := Bits))) ⟨m, fun _ => 0, g⟩ (fun r => (∀ c : Dev Cert.DqKernel.nD,
      r.2.mem ((c.tc : Thread Cert.DqKernel.nD Cert.DqKernel.τ).loc Cert.DqKernel.main_arg0) = m ((c.tc : Thread Cert.DqKernel.nD Cert.DqKernel.τ).loc Cert.DqKernel.main_arg0)
      ∧ r.2.mem ((c.tc : Thread Cert.DqKernel.nD Cert.DqKernel.τ).loc Cert.DqKernel.main_arg1) = m ((c.tc : Thread Cert.DqKernel.nD Cert.DqKernel.τ).loc Cert.DqKernel.main_arg1)
      ∧ r.2.mem ((c.tc : Thread Cert.DqKernel.nD Cert.DqKernel.τ).loc Cert.DqKernel.main_arg2) = m ((c.tc : Thread Cert.DqKernel.nD Cert.DqKernel.τ).loc Cert.DqKernel.main_arg2)
      ∧ r.2.mem ((c.tc : Thread Cert.DqKernel.nD Cert.DqKernel.τ).loc Cert.DqKernel.main_arg3) = m ((c.tc : Thread Cert.DqKernel.nD Cert.DqKernel.τ).loc Cert.DqKernel.main_arg3)
      ∧ r.2.mem ((c.tc : Thread Cert.DqKernel.nD Cert.DqKernel.τ).loc Cert.DqKernel.main_arg4) = m ((c.tc : Thread Cert.DqKernel.nD Cert.DqKernel.τ).loc Cert.DqKernel.main_arg4))
      ∧ r.2.sem = fun _ => 0)

def quiescent_DqKernelIdeal [hDqKernelIdeal : Cert.DqKernelIdeal.Facts] : Prop :=
  ∀ (m : (ℓ : Loc Cert.DqKernelIdeal.nD Cert.DqKernelIdeal.τ Cert.DqKernelIdeal.sig) → Buf (Elt Ideal) ℓ) (g : Dev Cert.DqKernelIdeal.nD → PrngReg), Pre_DqKernelIdeal m →
    θ_run (Cert.DqKernelIdeal.defs (F := Ideal)) (onTc (τ := Cert.DqKernelIdeal.τ) (Cert.DqKernelIdeal.main (F := Ideal))) ⟨m, fun _ => 0, g⟩ (fun r => (∀ c : Dev Cert.DqKernelIdeal.nD,
      r.2.mem ((c.tc : Thread Cert.DqKernelIdeal.nD Cert.DqKernelIdeal.τ).loc Cert.DqKernelIdeal.main_arg0) = m ((c.tc : Thread Cert.DqKernelIdeal.nD Cert.DqKernelIdeal.τ).loc Cert.DqKernelIdeal.main_arg0)
      ∧ r.2.mem ((c.tc : Thread Cert.DqKernelIdeal.nD Cert.DqKernelIdeal.τ).loc Cert.DqKernelIdeal.main_arg1) = m ((c.tc : Thread Cert.DqKernelIdeal.nD Cert.DqKernelIdeal.τ).loc Cert.DqKernelIdeal.main_arg1)
      ∧ r.2.mem ((c.tc : Thread Cert.DqKernelIdeal.nD Cert.DqKernelIdeal.τ).loc Cert.DqKernelIdeal.main_arg2) = m ((c.tc : Thread Cert.DqKernelIdeal.nD Cert.DqKernelIdeal.τ).loc Cert.DqKernelIdeal.main_arg2)
      ∧ r.2.mem ((c.tc : Thread Cert.DqKernelIdeal.nD Cert.DqKernelIdeal.τ).loc Cert.DqKernelIdeal.main_arg3) = m ((c.tc : Thread Cert.DqKernelIdeal.nD Cert.DqKernelIdeal.τ).loc Cert.DqKernelIdeal.main_arg3)
      ∧ r.2.mem ((c.tc : Thread Cert.DqKernelIdeal.nD Cert.DqKernelIdeal.τ).loc Cert.DqKernelIdeal.main_arg4) = m ((c.tc : Thread Cert.DqKernelIdeal.nD Cert.DqKernelIdeal.τ).loc Cert.DqKernelIdeal.main_arg4))
      ∧ r.2.sem = fun _ => 0)

def quiescent_DqReferenceIdeal [hDqReferenceIdeal : Cert.DqReferenceIdeal.Facts] : Prop :=
  ∀ (m : (ℓ : Loc Cert.DqReferenceIdeal.nD Cert.DqReferenceIdeal.τ Cert.DqReferenceIdeal.sig) → Buf (Elt Ideal) ℓ) (g : Dev Cert.DqReferenceIdeal.nD → PrngReg), Pre_DqReferenceIdeal m →
    θ_run (Cert.DqReferenceIdeal.defs (F := Ideal)) (onTc (τ := Cert.DqReferenceIdeal.τ) (Cert.DqReferenceIdeal.main (F := Ideal))) ⟨m, fun _ => 0, g⟩ (fun r => (∀ c : Dev Cert.DqReferenceIdeal.nD,
      r.2.mem ((c.tc : Thread Cert.DqReferenceIdeal.nD Cert.DqReferenceIdeal.τ).loc Cert.DqReferenceIdeal.main_arg0) = m ((c.tc : Thread Cert.DqReferenceIdeal.nD Cert.DqReferenceIdeal.τ).loc Cert.DqReferenceIdeal.main_arg0)
      ∧ r.2.mem ((c.tc : Thread Cert.DqReferenceIdeal.nD Cert.DqReferenceIdeal.τ).loc Cert.DqReferenceIdeal.main_arg1) = m ((c.tc : Thread Cert.DqReferenceIdeal.nD Cert.DqReferenceIdeal.τ).loc Cert.DqReferenceIdeal.main_arg1)
      ∧ r.2.mem ((c.tc : Thread Cert.DqReferenceIdeal.nD Cert.DqReferenceIdeal.τ).loc Cert.DqReferenceIdeal.main_arg2) = m ((c.tc : Thread Cert.DqReferenceIdeal.nD Cert.DqReferenceIdeal.τ).loc Cert.DqReferenceIdeal.main_arg2)
      ∧ r.2.mem ((c.tc : Thread Cert.DqReferenceIdeal.nD Cert.DqReferenceIdeal.τ).loc Cert.DqReferenceIdeal.main_arg3) = m ((c.tc : Thread Cert.DqReferenceIdeal.nD Cert.DqReferenceIdeal.τ).loc Cert.DqReferenceIdeal.main_arg3)
      ∧ r.2.mem ((c.tc : Thread Cert.DqReferenceIdeal.nD Cert.DqReferenceIdeal.τ).loc Cert.DqReferenceIdeal.main_arg4) = m ((c.tc : Thread Cert.DqReferenceIdeal.nD Cert.DqReferenceIdeal.τ).loc Cert.DqReferenceIdeal.main_arg4))
      ∧ r.2.sem = fun _ => 0)

def quiescent_DnKernel [hDnKernel : Cert.DnKernel.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1)
      ∧ r.2.mem ((c.tc : Thread Cert.DnKernel.nD Cert.DnKernel.τ).loc Cert.DnKernel.main_arg2) = m ((c.tc : Thread Cert.DnKernel.nD Cert.DnKernel.τ).loc Cert.DnKernel.main_arg2)
      ∧ r.2.mem ((c.tc : Thread Cert.DnKernel.nD Cert.DnKernel.τ).loc Cert.DnKernel.main_arg3) = m ((c.tc : Thread Cert.DnKernel.nD Cert.DnKernel.τ).loc Cert.DnKernel.main_arg3)
      ∧ r.2.mem ((c.tc : Thread Cert.DnKernel.nD Cert.DnKernel.τ).loc Cert.DnKernel.main_arg4) = m ((c.tc : Thread Cert.DnKernel.nD Cert.DnKernel.τ).loc Cert.DnKernel.main_arg4))
      ∧ r.2.sem = fun _ => 0)

def quiescent_DnKernelIdeal [hDnKernelIdeal : Cert.DnKernelIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
      ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
      ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
      ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4))
      ∧ r.2.sem = fun _ => 0)

def quiescent_UsKernel [hUsKernel : Cert.UsKernel.Facts] : Prop :=
  ∀ (m : (ℓ : Loc Cert.UsKernel.nD Cert.UsKernel.τ Cert.UsKernel.sig) → Buf (Elt Bits) ℓ) (g : Dev Cert.UsKernel.nD → PrngReg), Pre_UsKernel m →
    θ_run (Cert.UsKernel.defs (F := Bits)) (onTc (τ := Cert.UsKernel.τ) (Cert.UsKernel.main (F := Bits))) ⟨m, fun _ => 0, g⟩ (fun r => (∀ c : Dev Cert.UsKernel.nD,
      r.2.mem ((c.tc : Thread Cert.UsKernel.nD Cert.UsKernel.τ).loc Cert.UsKernel.main_arg0) = m ((c.tc : Thread Cert.UsKernel.nD Cert.UsKernel.τ).loc Cert.UsKernel.main_arg0)
      ∧ r.2.mem ((c.tc : Thread Cert.UsKernel.nD Cert.UsKernel.τ).loc Cert.UsKernel.main_arg1) = m ((c.tc : Thread Cert.UsKernel.nD Cert.UsKernel.τ).loc Cert.UsKernel.main_arg1)
      ∧ r.2.mem ((c.tc : Thread Cert.UsKernel.nD Cert.UsKernel.τ).loc Cert.UsKernel.main_arg2) = m ((c.tc : Thread Cert.UsKernel.nD Cert.UsKernel.τ).loc Cert.UsKernel.main_arg2)
      ∧ r.2.mem ((c.tc : Thread Cert.UsKernel.nD Cert.UsKernel.τ).loc Cert.UsKernel.main_arg3) = m ((c.tc : Thread Cert.UsKernel.nD Cert.UsKernel.τ).loc Cert.UsKernel.main_arg3))
      ∧ r.2.sem = fun _ => 0)

def quiescent_UsKernelIdeal [hUsKernelIdeal : Cert.UsKernelIdeal.Facts] : Prop :=
  ∀ (m : (ℓ : Loc Cert.UsKernelIdeal.nD Cert.UsKernelIdeal.τ Cert.UsKernelIdeal.sig) → Buf (Elt Ideal) ℓ) (g : Dev Cert.UsKernelIdeal.nD → PrngReg), Pre_UsKernelIdeal m →
    θ_run (Cert.UsKernelIdeal.defs (F := Ideal)) (onTc (τ := Cert.UsKernelIdeal.τ) (Cert.UsKernelIdeal.main (F := Ideal))) ⟨m, fun _ => 0, g⟩ (fun r => (∀ c : Dev Cert.UsKernelIdeal.nD,
      r.2.mem ((c.tc : Thread Cert.UsKernelIdeal.nD Cert.UsKernelIdeal.τ).loc Cert.UsKernelIdeal.main_arg0) = m ((c.tc : Thread Cert.UsKernelIdeal.nD Cert.UsKernelIdeal.τ).loc Cert.UsKernelIdeal.main_arg0)
      ∧ r.2.mem ((c.tc : Thread Cert.UsKernelIdeal.nD Cert.UsKernelIdeal.τ).loc Cert.UsKernelIdeal.main_arg1) = m ((c.tc : Thread Cert.UsKernelIdeal.nD Cert.UsKernelIdeal.τ).loc Cert.UsKernelIdeal.main_arg1)
      ∧ r.2.mem ((c.tc : Thread Cert.UsKernelIdeal.nD Cert.UsKernelIdeal.τ).loc Cert.UsKernelIdeal.main_arg2) = m ((c.tc : Thread Cert.UsKernelIdeal.nD Cert.UsKernelIdeal.τ).loc Cert.UsKernelIdeal.main_arg2)
      ∧ r.2.mem ((c.tc : Thread Cert.UsKernelIdeal.nD Cert.UsKernelIdeal.τ).loc Cert.UsKernelIdeal.main_arg3) = m ((c.tc : Thread Cert.UsKernelIdeal.nD Cert.UsKernelIdeal.τ).loc Cert.UsKernelIdeal.main_arg3))
      ∧ r.2.sem = fun _ => 0)

def quiescent_UsReferenceIdeal [hUsReferenceIdeal : Cert.UsReferenceIdeal.Facts] : Prop :=
  ∀ (m : (ℓ : Loc Cert.UsReferenceIdeal.nD Cert.UsReferenceIdeal.τ Cert.UsReferenceIdeal.sig) → Buf (Elt Ideal) ℓ) (g : Dev Cert.UsReferenceIdeal.nD → PrngReg), Pre_UsReferenceIdeal m →
    θ_run (Cert.UsReferenceIdeal.defs (F := Ideal)) (onTc (τ := Cert.UsReferenceIdeal.τ) (Cert.UsReferenceIdeal.main (F := Ideal))) ⟨m, fun _ => 0, g⟩ (fun r => (∀ c : Dev Cert.UsReferenceIdeal.nD,
      r.2.mem ((c.tc : Thread Cert.UsReferenceIdeal.nD Cert.UsReferenceIdeal.τ).loc Cert.UsReferenceIdeal.main_arg0) = m ((c.tc : Thread Cert.UsReferenceIdeal.nD Cert.UsReferenceIdeal.τ).loc Cert.UsReferenceIdeal.main_arg0)
      ∧ r.2.mem ((c.tc : Thread Cert.UsReferenceIdeal.nD Cert.UsReferenceIdeal.τ).loc Cert.UsReferenceIdeal.main_arg1) = m ((c.tc : Thread Cert.UsReferenceIdeal.nD Cert.UsReferenceIdeal.τ).loc Cert.UsReferenceIdeal.main_arg1)
      ∧ r.2.mem ((c.tc : Thread Cert.UsReferenceIdeal.nD Cert.UsReferenceIdeal.τ).loc Cert.UsReferenceIdeal.main_arg2) = m ((c.tc : Thread Cert.UsReferenceIdeal.nD Cert.UsReferenceIdeal.τ).loc Cert.UsReferenceIdeal.main_arg2)
      ∧ r.2.mem ((c.tc : Thread Cert.UsReferenceIdeal.nD Cert.UsReferenceIdeal.τ).loc Cert.UsReferenceIdeal.main_arg3) = m ((c.tc : Thread Cert.UsReferenceIdeal.nD Cert.UsReferenceIdeal.τ).loc Cert.UsReferenceIdeal.main_arg3))
      ∧ r.2.sem = fun _ => 0)

def quiescent_UqKernel [hUqKernel : Cert.UqKernel.Facts] : Prop :=
  ∀ (m : (ℓ : Loc Cert.UqKernel.nD Cert.UqKernel.τ Cert.UqKernel.sig) → Buf (Elt Bits) ℓ) (g : Dev Cert.UqKernel.nD → PrngReg), Pre_UqKernel m →
    θ_run (Cert.UqKernel.defs (F := Bits)) (onTc (τ := Cert.UqKernel.τ) (Cert.UqKernel.main (F := Bits))) ⟨m, fun _ => 0, g⟩ (fun r => (∀ c : Dev Cert.UqKernel.nD,
      r.2.mem ((c.tc : Thread Cert.UqKernel.nD Cert.UqKernel.τ).loc Cert.UqKernel.main_arg0) = m ((c.tc : Thread Cert.UqKernel.nD Cert.UqKernel.τ).loc Cert.UqKernel.main_arg0)
      ∧ r.2.mem ((c.tc : Thread Cert.UqKernel.nD Cert.UqKernel.τ).loc Cert.UqKernel.main_arg1) = m ((c.tc : Thread Cert.UqKernel.nD Cert.UqKernel.τ).loc Cert.UqKernel.main_arg1)
      ∧ r.2.mem ((c.tc : Thread Cert.UqKernel.nD Cert.UqKernel.τ).loc Cert.UqKernel.main_arg2) = m ((c.tc : Thread Cert.UqKernel.nD Cert.UqKernel.τ).loc Cert.UqKernel.main_arg2)
      ∧ r.2.mem ((c.tc : Thread Cert.UqKernel.nD Cert.UqKernel.τ).loc Cert.UqKernel.main_arg3) = m ((c.tc : Thread Cert.UqKernel.nD Cert.UqKernel.τ).loc Cert.UqKernel.main_arg3)
      ∧ r.2.mem ((c.tc : Thread Cert.UqKernel.nD Cert.UqKernel.τ).loc Cert.UqKernel.main_arg4) = m ((c.tc : Thread Cert.UqKernel.nD Cert.UqKernel.τ).loc Cert.UqKernel.main_arg4)
      ∧ r.2.mem ((c.tc : Thread Cert.UqKernel.nD Cert.UqKernel.τ).loc Cert.UqKernel.main_arg5) = m ((c.tc : Thread Cert.UqKernel.nD Cert.UqKernel.τ).loc Cert.UqKernel.main_arg5))
      ∧ r.2.sem = fun _ => 0)

def quiescent_UqKernelIdeal [hUqKernelIdeal : Cert.UqKernelIdeal.Facts] : Prop :=
  ∀ (m : (ℓ : Loc Cert.UqKernelIdeal.nD Cert.UqKernelIdeal.τ Cert.UqKernelIdeal.sig) → Buf (Elt Ideal) ℓ) (g : Dev Cert.UqKernelIdeal.nD → PrngReg), Pre_UqKernelIdeal m →
    θ_run (Cert.UqKernelIdeal.defs (F := Ideal)) (onTc (τ := Cert.UqKernelIdeal.τ) (Cert.UqKernelIdeal.main (F := Ideal))) ⟨m, fun _ => 0, g⟩ (fun r => (∀ c : Dev Cert.UqKernelIdeal.nD,
      r.2.mem ((c.tc : Thread Cert.UqKernelIdeal.nD Cert.UqKernelIdeal.τ).loc Cert.UqKernelIdeal.main_arg0) = m ((c.tc : Thread Cert.UqKernelIdeal.nD Cert.UqKernelIdeal.τ).loc Cert.UqKernelIdeal.main_arg0)
      ∧ r.2.mem ((c.tc : Thread Cert.UqKernelIdeal.nD Cert.UqKernelIdeal.τ).loc Cert.UqKernelIdeal.main_arg1) = m ((c.tc : Thread Cert.UqKernelIdeal.nD Cert.UqKernelIdeal.τ).loc Cert.UqKernelIdeal.main_arg1)
      ∧ r.2.mem ((c.tc : Thread Cert.UqKernelIdeal.nD Cert.UqKernelIdeal.τ).loc Cert.UqKernelIdeal.main_arg2) = m ((c.tc : Thread Cert.UqKernelIdeal.nD Cert.UqKernelIdeal.τ).loc Cert.UqKernelIdeal.main_arg2)
      ∧ r.2.mem ((c.tc : Thread Cert.UqKernelIdeal.nD Cert.UqKernelIdeal.τ).loc Cert.UqKernelIdeal.main_arg3) = m ((c.tc : Thread Cert.UqKernelIdeal.nD Cert.UqKernelIdeal.τ).loc Cert.UqKernelIdeal.main_arg3)
      ∧ r.2.mem ((c.tc : Thread Cert.UqKernelIdeal.nD Cert.UqKernelIdeal.τ).loc Cert.UqKernelIdeal.main_arg4) = m ((c.tc : Thread Cert.UqKernelIdeal.nD Cert.UqKernelIdeal.τ).loc Cert.UqKernelIdeal.main_arg4)
      ∧ r.2.mem ((c.tc : Thread Cert.UqKernelIdeal.nD Cert.UqKernelIdeal.τ).loc Cert.UqKernelIdeal.main_arg5) = m ((c.tc : Thread Cert.UqKernelIdeal.nD Cert.UqKernelIdeal.τ).loc Cert.UqKernelIdeal.main_arg5))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1)
      ∧ r.2.mem ((c.tc : Thread Cert.UqReferenceIdeal.nD Cert.UqReferenceIdeal.τ).loc Cert.UqReferenceIdeal.main_arg2) = m ((c.tc : Thread Cert.UqReferenceIdeal.nD Cert.UqReferenceIdeal.τ).loc Cert.UqReferenceIdeal.main_arg2)
      ∧ r.2.mem ((c.tc : Thread Cert.UqReferenceIdeal.nD Cert.UqReferenceIdeal.τ).loc Cert.UqReferenceIdeal.main_arg3) = m ((c.tc : Thread Cert.UqReferenceIdeal.nD Cert.UqReferenceIdeal.τ).loc Cert.UqReferenceIdeal.main_arg3)
      ∧ r.2.mem ((c.tc : Thread Cert.UqReferenceIdeal.nD Cert.UqReferenceIdeal.τ).loc Cert.UqReferenceIdeal.main_arg4) = m ((c.tc : Thread Cert.UqReferenceIdeal.nD Cert.UqReferenceIdeal.τ).loc Cert.UqReferenceIdeal.main_arg4)
      ∧ r.2.mem ((c.tc : Thread Cert.UqReferenceIdeal.nD Cert.UqReferenceIdeal.τ).loc Cert.UqReferenceIdeal.main_arg5) = m ((c.tc : Thread Cert.UqReferenceIdeal.nD Cert.UqReferenceIdeal.τ).loc Cert.UqReferenceIdeal.main_arg5))
      ∧ r.2.sem = fun _ => 0)

def quiescent_UoKernel [hUoKernel : Cert.UoKernel.Facts] : Prop :=
  ∀ (m : (ℓ : Loc Cert.UoKernel.nD Cert.UoKernel.τ Cert.UoKernel.sig) → Buf (Elt Bits) ℓ) (g : Dev Cert.UoKernel.nD → PrngReg), Pre_UoKernel m →
    θ_run (Cert.UoKernel.defs (F := Bits)) (onTc (τ := Cert.UoKernel.τ) (Cert.UoKernel.main (F := Bits))) ⟨m, fun _ => 0, g⟩ (fun r => (∀ c : Dev Cert.UoKernel.nD,
      r.2.mem ((c.tc : Thread Cert.UoKernel.nD Cert.UoKernel.τ).loc Cert.UoKernel.main_arg0) = m ((c.tc : Thread Cert.UoKernel.nD Cert.UoKernel.τ).loc Cert.UoKernel.main_arg0)
      ∧ r.2.mem ((c.tc : Thread Cert.UoKernel.nD Cert.UoKernel.τ).loc Cert.UoKernel.main_arg1) = m ((c.tc : Thread Cert.UoKernel.nD Cert.UoKernel.τ).loc Cert.UoKernel.main_arg1)
      ∧ r.2.mem ((c.tc : Thread Cert.UoKernel.nD Cert.UoKernel.τ).loc Cert.UoKernel.main_arg2) = m ((c.tc : Thread Cert.UoKernel.nD Cert.UoKernel.τ).loc Cert.UoKernel.main_arg2)
      ∧ r.2.mem ((c.tc : Thread Cert.UoKernel.nD Cert.UoKernel.τ).loc Cert.UoKernel.main_arg3) = m ((c.tc : Thread Cert.UoKernel.nD Cert.UoKernel.τ).loc Cert.UoKernel.main_arg3)
      ∧ r.2.mem ((c.tc : Thread Cert.UoKernel.nD Cert.UoKernel.τ).loc Cert.UoKernel.main_arg4) = m ((c.tc : Thread Cert.UoKernel.nD Cert.UoKernel.τ).loc Cert.UoKernel.main_arg4)
      ∧ r.2.mem ((c.tc : Thread Cert.UoKernel.nD Cert.UoKernel.τ).loc Cert.UoKernel.main_arg5) = m ((c.tc : Thread Cert.UoKernel.nD Cert.UoKernel.τ).loc Cert.UoKernel.main_arg5))
      ∧ r.2.sem = fun _ => 0)

def quiescent_UoKernelIdeal [hUoKernelIdeal : Cert.UoKernelIdeal.Facts] : Prop :=
  ∀ (m : (ℓ : Loc Cert.UoKernelIdeal.nD Cert.UoKernelIdeal.τ Cert.UoKernelIdeal.sig) → Buf (Elt Ideal) ℓ) (g : Dev Cert.UoKernelIdeal.nD → PrngReg), Pre_UoKernelIdeal m →
    θ_run (Cert.UoKernelIdeal.defs (F := Ideal)) (onTc (τ := Cert.UoKernelIdeal.τ) (Cert.UoKernelIdeal.main (F := Ideal))) ⟨m, fun _ => 0, g⟩ (fun r => (∀ c : Dev Cert.UoKernelIdeal.nD,
      r.2.mem ((c.tc : Thread Cert.UoKernelIdeal.nD Cert.UoKernelIdeal.τ).loc Cert.UoKernelIdeal.main_arg0) = m ((c.tc : Thread Cert.UoKernelIdeal.nD Cert.UoKernelIdeal.τ).loc Cert.UoKernelIdeal.main_arg0)
      ∧ r.2.mem ((c.tc : Thread Cert.UoKernelIdeal.nD Cert.UoKernelIdeal.τ).loc Cert.UoKernelIdeal.main_arg1) = m ((c.tc : Thread Cert.UoKernelIdeal.nD Cert.UoKernelIdeal.τ).loc Cert.UoKernelIdeal.main_arg1)
      ∧ r.2.mem ((c.tc : Thread Cert.UoKernelIdeal.nD Cert.UoKernelIdeal.τ).loc Cert.UoKernelIdeal.main_arg2) = m ((c.tc : Thread Cert.UoKernelIdeal.nD Cert.UoKernelIdeal.τ).loc Cert.UoKernelIdeal.main_arg2)
      ∧ r.2.mem ((c.tc : Thread Cert.UoKernelIdeal.nD Cert.UoKernelIdeal.τ).loc Cert.UoKernelIdeal.main_arg3) = m ((c.tc : Thread Cert.UoKernelIdeal.nD Cert.UoKernelIdeal.τ).loc Cert.UoKernelIdeal.main_arg3)
      ∧ r.2.mem ((c.tc : Thread Cert.UoKernelIdeal.nD Cert.UoKernelIdeal.τ).loc Cert.UoKernelIdeal.main_arg4) = m ((c.tc : Thread Cert.UoKernelIdeal.nD Cert.UoKernelIdeal.τ).loc Cert.UoKernelIdeal.main_arg4)
      ∧ r.2.mem ((c.tc : Thread Cert.UoKernelIdeal.nD Cert.UoKernelIdeal.τ).loc Cert.UoKernelIdeal.main_arg5) = m ((c.tc : Thread Cert.UoKernelIdeal.nD Cert.UoKernelIdeal.τ).loc Cert.UoKernelIdeal.main_arg5))
      ∧ r.2.sem = fun _ => 0)

def quiescent_UoReferenceIdeal [hUoReferenceIdeal : Cert.UoReferenceIdeal.Facts] : Prop :=
  ∀ (m : (ℓ : Loc Cert.UoReferenceIdeal.nD Cert.UoReferenceIdeal.τ Cert.UoReferenceIdeal.sig) → Buf (Elt Ideal) ℓ) (g : Dev Cert.UoReferenceIdeal.nD → PrngReg), Pre_UoReferenceIdeal m →
    θ_run (Cert.UoReferenceIdeal.defs (F := Ideal)) (onTc (τ := Cert.UoReferenceIdeal.τ) (Cert.UoReferenceIdeal.main (F := Ideal))) ⟨m, fun _ => 0, g⟩ (fun r => (∀ c : Dev Cert.UoReferenceIdeal.nD,
      r.2.mem ((c.tc : Thread Cert.UoReferenceIdeal.nD Cert.UoReferenceIdeal.τ).loc Cert.UoReferenceIdeal.main_arg0) = m ((c.tc : Thread Cert.UoReferenceIdeal.nD Cert.UoReferenceIdeal.τ).loc Cert.UoReferenceIdeal.main_arg0)
      ∧ r.2.mem ((c.tc : Thread Cert.UoReferenceIdeal.nD Cert.UoReferenceIdeal.τ).loc Cert.UoReferenceIdeal.main_arg1) = m ((c.tc : Thread Cert.UoReferenceIdeal.nD Cert.UoReferenceIdeal.τ).loc Cert.UoReferenceIdeal.main_arg1)
      ∧ r.2.mem ((c.tc : Thread Cert.UoReferenceIdeal.nD Cert.UoReferenceIdeal.τ).loc Cert.UoReferenceIdeal.main_arg2) = m ((c.tc : Thread Cert.UoReferenceIdeal.nD Cert.UoReferenceIdeal.τ).loc Cert.UoReferenceIdeal.main_arg2)
      ∧ r.2.mem ((c.tc : Thread Cert.UoReferenceIdeal.nD Cert.UoReferenceIdeal.τ).loc Cert.UoReferenceIdeal.main_arg3) = m ((c.tc : Thread Cert.UoReferenceIdeal.nD Cert.UoReferenceIdeal.τ).loc Cert.UoReferenceIdeal.main_arg3)
      ∧ r.2.mem ((c.tc : Thread Cert.UoReferenceIdeal.nD Cert.UoReferenceIdeal.τ).loc Cert.UoReferenceIdeal.main_arg4) = m ((c.tc : Thread Cert.UoReferenceIdeal.nD Cert.UoReferenceIdeal.τ).loc Cert.UoReferenceIdeal.main_arg4)
      ∧ r.2.mem ((c.tc : Thread Cert.UoReferenceIdeal.nD Cert.UoReferenceIdeal.τ).loc Cert.UoReferenceIdeal.main_arg5) = m ((c.tc : Thread Cert.UoReferenceIdeal.nD Cert.UoReferenceIdeal.τ).loc Cert.UoReferenceIdeal.main_arg5))
      ∧ r.2.sem = fun _ => 0)

def quiescent_UfKernel [hUfKernel : Cert.UfKernel.Facts] : Prop :=
  ∀ (m : (ℓ : Loc Cert.UfKernel.nD Cert.UfKernel.τ Cert.UfKernel.sig) → Buf (Elt Bits) ℓ) (g : Dev Cert.UfKernel.nD → PrngReg), Pre_UfKernel m →
    θ_run (Cert.UfKernel.defs (F := Bits)) (onTc (τ := Cert.UfKernel.τ) (Cert.UfKernel.main (F := Bits))) ⟨m, fun _ => 0, g⟩ (fun r => (∀ c : Dev Cert.UfKernel.nD,
      r.2.mem ((c.tc : Thread Cert.UfKernel.nD Cert.UfKernel.τ).loc Cert.UfKernel.main_arg0) = m ((c.tc : Thread Cert.UfKernel.nD Cert.UfKernel.τ).loc Cert.UfKernel.main_arg0)
      ∧ r.2.mem ((c.tc : Thread Cert.UfKernel.nD Cert.UfKernel.τ).loc Cert.UfKernel.main_arg1) = m ((c.tc : Thread Cert.UfKernel.nD Cert.UfKernel.τ).loc Cert.UfKernel.main_arg1)
      ∧ r.2.mem ((c.tc : Thread Cert.UfKernel.nD Cert.UfKernel.τ).loc Cert.UfKernel.main_arg2) = m ((c.tc : Thread Cert.UfKernel.nD Cert.UfKernel.τ).loc Cert.UfKernel.main_arg2)
      ∧ r.2.mem ((c.tc : Thread Cert.UfKernel.nD Cert.UfKernel.τ).loc Cert.UfKernel.main_arg3) = m ((c.tc : Thread Cert.UfKernel.nD Cert.UfKernel.τ).loc Cert.UfKernel.main_arg3)
      ∧ r.2.mem ((c.tc : Thread Cert.UfKernel.nD Cert.UfKernel.τ).loc Cert.UfKernel.main_arg4) = m ((c.tc : Thread Cert.UfKernel.nD Cert.UfKernel.τ).loc Cert.UfKernel.main_arg4)
      ∧ r.2.mem ((c.tc : Thread Cert.UfKernel.nD Cert.UfKernel.τ).loc Cert.UfKernel.main_arg5) = m ((c.tc : Thread Cert.UfKernel.nD Cert.UfKernel.τ).loc Cert.UfKernel.main_arg5))
      ∧ r.2.sem = fun _ => 0)

def quiescent_UfKernelIdeal [hUfKernelIdeal : Cert.UfKernelIdeal.Facts] : Prop :=
  ∀ (m : (ℓ : Loc Cert.UfKernelIdeal.nD Cert.UfKernelIdeal.τ Cert.UfKernelIdeal.sig) → Buf (Elt Ideal) ℓ) (g : Dev Cert.UfKernelIdeal.nD → PrngReg), Pre_UfKernelIdeal m →
    θ_run (Cert.UfKernelIdeal.defs (F := Ideal)) (onTc (τ := Cert.UfKernelIdeal.τ) (Cert.UfKernelIdeal.main (F := Ideal))) ⟨m, fun _ => 0, g⟩ (fun r => (∀ c : Dev Cert.UfKernelIdeal.nD,
      r.2.mem ((c.tc : Thread Cert.UfKernelIdeal.nD Cert.UfKernelIdeal.τ).loc Cert.UfKernelIdeal.main_arg0) = m ((c.tc : Thread Cert.UfKernelIdeal.nD Cert.UfKernelIdeal.τ).loc Cert.UfKernelIdeal.main_arg0)
      ∧ r.2.mem ((c.tc : Thread Cert.UfKernelIdeal.nD Cert.UfKernelIdeal.τ).loc Cert.UfKernelIdeal.main_arg1) = m ((c.tc : Thread Cert.UfKernelIdeal.nD Cert.UfKernelIdeal.τ).loc Cert.UfKernelIdeal.main_arg1)
      ∧ r.2.mem ((c.tc : Thread Cert.UfKernelIdeal.nD Cert.UfKernelIdeal.τ).loc Cert.UfKernelIdeal.main_arg2) = m ((c.tc : Thread Cert.UfKernelIdeal.nD Cert.UfKernelIdeal.τ).loc Cert.UfKernelIdeal.main_arg2)
      ∧ r.2.mem ((c.tc : Thread Cert.UfKernelIdeal.nD Cert.UfKernelIdeal.τ).loc Cert.UfKernelIdeal.main_arg3) = m ((c.tc : Thread Cert.UfKernelIdeal.nD Cert.UfKernelIdeal.τ).loc Cert.UfKernelIdeal.main_arg3)
      ∧ r.2.mem ((c.tc : Thread Cert.UfKernelIdeal.nD Cert.UfKernelIdeal.τ).loc Cert.UfKernelIdeal.main_arg4) = m ((c.tc : Thread Cert.UfKernelIdeal.nD Cert.UfKernelIdeal.τ).loc Cert.UfKernelIdeal.main_arg4)
      ∧ r.2.mem ((c.tc : Thread Cert.UfKernelIdeal.nD Cert.UfKernelIdeal.τ).loc Cert.UfKernelIdeal.main_arg5) = m ((c.tc : Thread Cert.UfKernelIdeal.nD Cert.UfKernelIdeal.τ).loc Cert.UfKernelIdeal.main_arg5))
      ∧ r.2.sem = fun _ => 0)

def quiescent_UfReferenceIdeal [hUfReferenceIdeal : Cert.UfReferenceIdeal.Facts] : Prop :=
  ∀ (m : (ℓ : Loc Cert.UfReferenceIdeal.nD Cert.UfReferenceIdeal.τ Cert.UfReferenceIdeal.sig) → Buf (Elt Ideal) ℓ) (g : Dev Cert.UfReferenceIdeal.nD → PrngReg), Pre_UfReferenceIdeal m →
    θ_run (Cert.UfReferenceIdeal.defs (F := Ideal)) (onTc (τ := Cert.UfReferenceIdeal.τ) (Cert.UfReferenceIdeal.main (F := Ideal))) ⟨m, fun _ => 0, g⟩ (fun r => (∀ c : Dev Cert.UfReferenceIdeal.nD,
      r.2.mem ((c.tc : Thread Cert.UfReferenceIdeal.nD Cert.UfReferenceIdeal.τ).loc Cert.UfReferenceIdeal.main_arg0) = m ((c.tc : Thread Cert.UfReferenceIdeal.nD Cert.UfReferenceIdeal.τ).loc Cert.UfReferenceIdeal.main_arg0)
      ∧ r.2.mem ((c.tc : Thread Cert.UfReferenceIdeal.nD Cert.UfReferenceIdeal.τ).loc Cert.UfReferenceIdeal.main_arg1) = m ((c.tc : Thread Cert.UfReferenceIdeal.nD Cert.UfReferenceIdeal.τ).loc Cert.UfReferenceIdeal.main_arg1)
      ∧ r.2.mem ((c.tc : Thread Cert.UfReferenceIdeal.nD Cert.UfReferenceIdeal.τ).loc Cert.UfReferenceIdeal.main_arg2) = m ((c.tc : Thread Cert.UfReferenceIdeal.nD Cert.UfReferenceIdeal.τ).loc Cert.UfReferenceIdeal.main_arg2)
      ∧ r.2.mem ((c.tc : Thread Cert.UfReferenceIdeal.nD Cert.UfReferenceIdeal.τ).loc Cert.UfReferenceIdeal.main_arg3) = m ((c.tc : Thread Cert.UfReferenceIdeal.nD Cert.UfReferenceIdeal.τ).loc Cert.UfReferenceIdeal.main_arg3)
      ∧ r.2.mem ((c.tc : Thread Cert.UfReferenceIdeal.nD Cert.UfReferenceIdeal.τ).loc Cert.UfReferenceIdeal.main_arg4) = m ((c.tc : Thread Cert.UfReferenceIdeal.nD Cert.UfReferenceIdeal.τ).loc Cert.UfReferenceIdeal.main_arg4)
      ∧ r.2.mem ((c.tc : Thread Cert.UfReferenceIdeal.nD Cert.UfReferenceIdeal.τ).loc Cert.UfReferenceIdeal.main_arg5) = m ((c.tc : Thread Cert.UfReferenceIdeal.nD Cert.UfReferenceIdeal.τ).loc Cert.UfReferenceIdeal.main_arg5))
      ∧ r.2.sem = fun _ => 0)

def quiescent_UiKernel [hUiKernel : Cert.UiKernel.Facts] : Prop :=
  ∀ (m : (ℓ : Loc Cert.UiKernel.nD Cert.UiKernel.τ Cert.UiKernel.sig) → Buf (Elt Bits) ℓ) (g : Dev Cert.UiKernel.nD → PrngReg), Pre_UiKernel m →
    θ_run (Cert.UiKernel.defs (F := Bits)) (onTc (τ := Cert.UiKernel.τ) (Cert.UiKernel.main (F := Bits))) ⟨m, fun _ => 0, g⟩ (fun r => (∀ c : Dev Cert.UiKernel.nD,
      r.2.mem ((c.tc : Thread Cert.UiKernel.nD Cert.UiKernel.τ).loc Cert.UiKernel.main_arg0) = m ((c.tc : Thread Cert.UiKernel.nD Cert.UiKernel.τ).loc Cert.UiKernel.main_arg0)
      ∧ r.2.mem ((c.tc : Thread Cert.UiKernel.nD Cert.UiKernel.τ).loc Cert.UiKernel.main_arg1) = m ((c.tc : Thread Cert.UiKernel.nD Cert.UiKernel.τ).loc Cert.UiKernel.main_arg1)
      ∧ r.2.mem ((c.tc : Thread Cert.UiKernel.nD Cert.UiKernel.τ).loc Cert.UiKernel.main_arg2) = m ((c.tc : Thread Cert.UiKernel.nD Cert.UiKernel.τ).loc Cert.UiKernel.main_arg2)
      ∧ r.2.mem ((c.tc : Thread Cert.UiKernel.nD Cert.UiKernel.τ).loc Cert.UiKernel.main_arg3) = m ((c.tc : Thread Cert.UiKernel.nD Cert.UiKernel.τ).loc Cert.UiKernel.main_arg3)
      ∧ r.2.mem ((c.tc : Thread Cert.UiKernel.nD Cert.UiKernel.τ).loc Cert.UiKernel.main_arg4) = m ((c.tc : Thread Cert.UiKernel.nD Cert.UiKernel.τ).loc Cert.UiKernel.main_arg4)
      ∧ r.2.mem ((c.tc : Thread Cert.UiKernel.nD Cert.UiKernel.τ).loc Cert.UiKernel.main_arg5) = m ((c.tc : Thread Cert.UiKernel.nD Cert.UiKernel.τ).loc Cert.UiKernel.main_arg5))
      ∧ r.2.sem = fun _ => 0)

def quiescent_UiKernelIdeal [hUiKernelIdeal : Cert.UiKernelIdeal.Facts] : Prop :=
  ∀ (m : (ℓ : Loc Cert.UiKernelIdeal.nD Cert.UiKernelIdeal.τ Cert.UiKernelIdeal.sig) → Buf (Elt Ideal) ℓ) (g : Dev Cert.UiKernelIdeal.nD → PrngReg), Pre_UiKernelIdeal m →
    θ_run (Cert.UiKernelIdeal.defs (F := Ideal)) (onTc (τ := Cert.UiKernelIdeal.τ) (Cert.UiKernelIdeal.main (F := Ideal))) ⟨m, fun _ => 0, g⟩ (fun r => (∀ c : Dev Cert.UiKernelIdeal.nD,
      r.2.mem ((c.tc : Thread Cert.UiKernelIdeal.nD Cert.UiKernelIdeal.τ).loc Cert.UiKernelIdeal.main_arg0) = m ((c.tc : Thread Cert.UiKernelIdeal.nD Cert.UiKernelIdeal.τ).loc Cert.UiKernelIdeal.main_arg0)
      ∧ r.2.mem ((c.tc : Thread Cert.UiKernelIdeal.nD Cert.UiKernelIdeal.τ).loc Cert.UiKernelIdeal.main_arg1) = m ((c.tc : Thread Cert.UiKernelIdeal.nD Cert.UiKernelIdeal.τ).loc Cert.UiKernelIdeal.main_arg1)
      ∧ r.2.mem ((c.tc : Thread Cert.UiKernelIdeal.nD Cert.UiKernelIdeal.τ).loc Cert.UiKernelIdeal.main_arg2) = m ((c.tc : Thread Cert.UiKernelIdeal.nD Cert.UiKernelIdeal.τ).loc Cert.UiKernelIdeal.main_arg2)
      ∧ r.2.mem ((c.tc : Thread Cert.UiKernelIdeal.nD Cert.UiKernelIdeal.τ).loc Cert.UiKernelIdeal.main_arg3) = m ((c.tc : Thread Cert.UiKernelIdeal.nD Cert.UiKernelIdeal.τ).loc Cert.UiKernelIdeal.main_arg3)
      ∧ r.2.mem ((c.tc : Thread Cert.UiKernelIdeal.nD Cert.UiKernelIdeal.τ).loc Cert.UiKernelIdeal.main_arg4) = m ((c.tc : Thread Cert.UiKernelIdeal.nD Cert.UiKernelIdeal.τ).loc Cert.UiKernelIdeal.main_arg4)
      ∧ r.2.mem ((c.tc : Thread Cert.UiKernelIdeal.nD Cert.UiKernelIdeal.τ).loc Cert.UiKernelIdeal.main_arg5) = m ((c.tc : Thread Cert.UiKernelIdeal.nD Cert.UiKernelIdeal.τ).loc Cert.UiKernelIdeal.main_arg5))
      ∧ r.2.sem = fun _ => 0)

def quiescent_UiReferenceIdeal [hUiReferenceIdeal : Cert.UiReferenceIdeal.Facts] : Prop :=
  ∀ (m : (ℓ : Loc Cert.UiReferenceIdeal.nD Cert.UiReferenceIdeal.τ Cert.UiReferenceIdeal.sig) → Buf (Elt Ideal) ℓ) (g : Dev Cert.UiReferenceIdeal.nD → PrngReg), Pre_UiReferenceIdeal m →
    θ_run (Cert.UiReferenceIdeal.defs (F := Ideal)) (onTc (τ := Cert.UiReferenceIdeal.τ) (Cert.UiReferenceIdeal.main (F := Ideal))) ⟨m, fun _ => 0, g⟩ (fun r => (∀ c : Dev Cert.UiReferenceIdeal.nD,
      r.2.mem ((c.tc : Thread Cert.UiReferenceIdeal.nD Cert.UiReferenceIdeal.τ).loc Cert.UiReferenceIdeal.main_arg0) = m ((c.tc : Thread Cert.UiReferenceIdeal.nD Cert.UiReferenceIdeal.τ).loc Cert.UiReferenceIdeal.main_arg0)
      ∧ r.2.mem ((c.tc : Thread Cert.UiReferenceIdeal.nD Cert.UiReferenceIdeal.τ).loc Cert.UiReferenceIdeal.main_arg1) = m ((c.tc : Thread Cert.UiReferenceIdeal.nD Cert.UiReferenceIdeal.τ).loc Cert.UiReferenceIdeal.main_arg1)
      ∧ r.2.mem ((c.tc : Thread Cert.UiReferenceIdeal.nD Cert.UiReferenceIdeal.τ).loc Cert.UiReferenceIdeal.main_arg2) = m ((c.tc : Thread Cert.UiReferenceIdeal.nD Cert.UiReferenceIdeal.τ).loc Cert.UiReferenceIdeal.main_arg2)
      ∧ r.2.mem ((c.tc : Thread Cert.UiReferenceIdeal.nD Cert.UiReferenceIdeal.τ).loc Cert.UiReferenceIdeal.main_arg3) = m ((c.tc : Thread Cert.UiReferenceIdeal.nD Cert.UiReferenceIdeal.τ).loc Cert.UiReferenceIdeal.main_arg3)
      ∧ r.2.mem ((c.tc : Thread Cert.UiReferenceIdeal.nD Cert.UiReferenceIdeal.τ).loc Cert.UiReferenceIdeal.main_arg4) = m ((c.tc : Thread Cert.UiReferenceIdeal.nD Cert.UiReferenceIdeal.τ).loc Cert.UiReferenceIdeal.main_arg4)
      ∧ r.2.mem ((c.tc : Thread Cert.UiReferenceIdeal.nD Cert.UiReferenceIdeal.τ).loc Cert.UiReferenceIdeal.main_arg5) = m ((c.tc : Thread Cert.UiReferenceIdeal.nD Cert.UiReferenceIdeal.τ).loc Cert.UiReferenceIdeal.main_arg5))
      ∧ r.2.sem = fun _ => 0)

def quiescent_UxKernel [hUxKernel : Cert.UxKernel.Facts] : Prop :=
  ∀ (m : (ℓ : Loc Cert.UxKernel.nD Cert.UxKernel.τ Cert.UxKernel.sig) → Buf (Elt Bits) ℓ) (g : Dev Cert.UxKernel.nD → PrngReg), Pre_UxKernel m →
    θ_run (Cert.UxKernel.defs (F := Bits)) (onTc (τ := Cert.UxKernel.τ) (Cert.UxKernel.main (F := Bits))) ⟨m, fun _ => 0, g⟩ (fun r => (∀ c : Dev Cert.UxKernel.nD,
      r.2.mem ((c.tc : Thread Cert.UxKernel.nD Cert.UxKernel.τ).loc Cert.UxKernel.main_arg0) = m ((c.tc : Thread Cert.UxKernel.nD Cert.UxKernel.τ).loc Cert.UxKernel.main_arg0)
      ∧ r.2.mem ((c.tc : Thread Cert.UxKernel.nD Cert.UxKernel.τ).loc Cert.UxKernel.main_arg1) = m ((c.tc : Thread Cert.UxKernel.nD Cert.UxKernel.τ).loc Cert.UxKernel.main_arg1)
      ∧ r.2.mem ((c.tc : Thread Cert.UxKernel.nD Cert.UxKernel.τ).loc Cert.UxKernel.main_arg2) = m ((c.tc : Thread Cert.UxKernel.nD Cert.UxKernel.τ).loc Cert.UxKernel.main_arg2)
      ∧ r.2.mem ((c.tc : Thread Cert.UxKernel.nD Cert.UxKernel.τ).loc Cert.UxKernel.main_arg3) = m ((c.tc : Thread Cert.UxKernel.nD Cert.UxKernel.τ).loc Cert.UxKernel.main_arg3)
      ∧ r.2.mem ((c.tc : Thread Cert.UxKernel.nD Cert.UxKernel.τ).loc Cert.UxKernel.main_arg4) = m ((c.tc : Thread Cert.UxKernel.nD Cert.UxKernel.τ).loc Cert.UxKernel.main_arg4)
      ∧ r.2.mem ((c.tc : Thread Cert.UxKernel.nD Cert.UxKernel.τ).loc Cert.UxKernel.main_arg5) = m ((c.tc : Thread Cert.UxKernel.nD Cert.UxKernel.τ).loc Cert.UxKernel.main_arg5))
      ∧ r.2.sem = fun _ => 0)

def quiescent_UxKernelIdeal [hUxKernelIdeal : Cert.UxKernelIdeal.Facts] : Prop :=
  ∀ (m : (ℓ : Loc Cert.UxKernelIdeal.nD Cert.UxKernelIdeal.τ Cert.UxKernelIdeal.sig) → Buf (Elt Ideal) ℓ) (g : Dev Cert.UxKernelIdeal.nD → PrngReg), Pre_UxKernelIdeal m →
    θ_run (Cert.UxKernelIdeal.defs (F := Ideal)) (onTc (τ := Cert.UxKernelIdeal.τ) (Cert.UxKernelIdeal.main (F := Ideal))) ⟨m, fun _ => 0, g⟩ (fun r => (∀ c : Dev Cert.UxKernelIdeal.nD,
      r.2.mem ((c.tc : Thread Cert.UxKernelIdeal.nD Cert.UxKernelIdeal.τ).loc Cert.UxKernelIdeal.main_arg0) = m ((c.tc : Thread Cert.UxKernelIdeal.nD Cert.UxKernelIdeal.τ).loc Cert.UxKernelIdeal.main_arg0)
      ∧ r.2.mem ((c.tc : Thread Cert.UxKernelIdeal.nD Cert.UxKernelIdeal.τ).loc Cert.UxKernelIdeal.main_arg1) = m ((c.tc : Thread Cert.UxKernelIdeal.nD Cert.UxKernelIdeal.τ).loc Cert.UxKernelIdeal.main_arg1)
      ∧ r.2.mem ((c.tc : Thread Cert.UxKernelIdeal.nD Cert.UxKernelIdeal.τ).loc Cert.UxKernelIdeal.main_arg2) = m ((c.tc : Thread Cert.UxKernelIdeal.nD Cert.UxKernelIdeal.τ).loc Cert.UxKernelIdeal.main_arg2)
      ∧ r.2.mem ((c.tc : Thread Cert.UxKernelIdeal.nD Cert.UxKernelIdeal.τ).loc Cert.UxKernelIdeal.main_arg3) = m ((c.tc : Thread Cert.UxKernelIdeal.nD Cert.UxKernelIdeal.τ).loc Cert.UxKernelIdeal.main_arg3)
      ∧ r.2.mem ((c.tc : Thread Cert.UxKernelIdeal.nD Cert.UxKernelIdeal.τ).loc Cert.UxKernelIdeal.main_arg4) = m ((c.tc : Thread Cert.UxKernelIdeal.nD Cert.UxKernelIdeal.τ).loc Cert.UxKernelIdeal.main_arg4)
      ∧ r.2.mem ((c.tc : Thread Cert.UxKernelIdeal.nD Cert.UxKernelIdeal.τ).loc Cert.UxKernelIdeal.main_arg5) = m ((c.tc : Thread Cert.UxKernelIdeal.nD Cert.UxKernelIdeal.τ).loc Cert.UxKernelIdeal.main_arg5))
      ∧ r.2.sem = fun _ => 0)

def quiescent_UxReferenceIdeal [hUxReferenceIdeal : Cert.UxReferenceIdeal.Facts] : Prop :=
  ∀ (m : (ℓ : Loc Cert.UxReferenceIdeal.nD Cert.UxReferenceIdeal.τ Cert.UxReferenceIdeal.sig) → Buf (Elt Ideal) ℓ) (g : Dev Cert.UxReferenceIdeal.nD → PrngReg), Pre_UxReferenceIdeal m →
    θ_run (Cert.UxReferenceIdeal.defs (F := Ideal)) (onTc (τ := Cert.UxReferenceIdeal.τ) (Cert.UxReferenceIdeal.main (F := Ideal))) ⟨m, fun _ => 0, g⟩ (fun r => (∀ c : Dev Cert.UxReferenceIdeal.nD,
      r.2.mem ((c.tc : Thread Cert.UxReferenceIdeal.nD Cert.UxReferenceIdeal.τ).loc Cert.UxReferenceIdeal.main_arg0) = m ((c.tc : Thread Cert.UxReferenceIdeal.nD Cert.UxReferenceIdeal.τ).loc Cert.UxReferenceIdeal.main_arg0)
      ∧ r.2.mem ((c.tc : Thread Cert.UxReferenceIdeal.nD Cert.UxReferenceIdeal.τ).loc Cert.UxReferenceIdeal.main_arg1) = m ((c.tc : Thread Cert.UxReferenceIdeal.nD Cert.UxReferenceIdeal.τ).loc Cert.UxReferenceIdeal.main_arg1)
      ∧ r.2.mem ((c.tc : Thread Cert.UxReferenceIdeal.nD Cert.UxReferenceIdeal.τ).loc Cert.UxReferenceIdeal.main_arg2) = m ((c.tc : Thread Cert.UxReferenceIdeal.nD Cert.UxReferenceIdeal.τ).loc Cert.UxReferenceIdeal.main_arg2)
      ∧ r.2.mem ((c.tc : Thread Cert.UxReferenceIdeal.nD Cert.UxReferenceIdeal.τ).loc Cert.UxReferenceIdeal.main_arg3) = m ((c.tc : Thread Cert.UxReferenceIdeal.nD Cert.UxReferenceIdeal.τ).loc Cert.UxReferenceIdeal.main_arg3)
      ∧ r.2.mem ((c.tc : Thread Cert.UxReferenceIdeal.nD Cert.UxReferenceIdeal.τ).loc Cert.UxReferenceIdeal.main_arg4) = m ((c.tc : Thread Cert.UxReferenceIdeal.nD Cert.UxReferenceIdeal.τ).loc Cert.UxReferenceIdeal.main_arg4)
      ∧ r.2.mem ((c.tc : Thread Cert.UxReferenceIdeal.nD Cert.UxReferenceIdeal.τ).loc Cert.UxReferenceIdeal.main_arg5) = m ((c.tc : Thread Cert.UxReferenceIdeal.nD Cert.UxReferenceIdeal.τ).loc Cert.UxReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FiKernel_FiKernelIdeal : Prop :=
  True

def algebraic_FiKernelIdeal_FiReferenceIdeal [hFiKernelIdeal : Cert.FiKernelIdeal.Facts] [hFiReferenceIdeal : Cert.FiReferenceIdeal.Facts] : Prop :=
  ∀ (m : (ℓ : Loc Cert.FiKernelIdeal.nD Cert.FiKernelIdeal.τ Cert.FiKernelIdeal.sig) → Buf (Elt Ideal) ℓ) (g : Dev Cert.FiKernelIdeal.nD → PrngReg)
    (m' : (ℓ : Loc Cert.FiReferenceIdeal.nD Cert.FiReferenceIdeal.τ Cert.FiReferenceIdeal.sig) → Buf (Elt Ideal) ℓ) (g' : Dev Cert.FiReferenceIdeal.nD → PrngReg), Pre_FiKernelIdeal m →
    (∀ c : Dev Cert.FiKernelIdeal.nD,
      m' ((c.tc : Thread Cert.FiReferenceIdeal.nD Cert.FiReferenceIdeal.τ).loc Cert.FiReferenceIdeal.main_arg0) = m ((c.tc : Thread Cert.FiKernelIdeal.nD Cert.FiKernelIdeal.τ).loc Cert.FiKernelIdeal.main_arg0)
      ∧ m' ((c.tc : Thread Cert.FiReferenceIdeal.nD Cert.FiReferenceIdeal.τ).loc Cert.FiReferenceIdeal.main_arg1) = m ((c.tc : Thread Cert.FiKernelIdeal.nD Cert.FiKernelIdeal.τ).loc Cert.FiKernelIdeal.main_arg1)) →
    ∃ (v0 : (c : Dev Cert.FiKernelIdeal.nD) → Buf (Elt Ideal) ((c.tc : Thread Cert.FiKernelIdeal.nD Cert.FiKernelIdeal.τ).loc Cert.FiKernelIdeal.main_v0)),
      θ_run (Cert.FiKernelIdeal.defs (F := Ideal)) (onTc (τ := Cert.FiKernelIdeal.τ) (Cert.FiKernelIdeal.main (F := Ideal))) ⟨m, fun _ => 0, g⟩ (fun r => ∀ c : Dev Cert.FiKernelIdeal.nD,
          r.2.mem ((c.tc : Thread Cert.FiKernelIdeal.nD Cert.FiKernelIdeal.τ).loc Cert.FiKernelIdeal.main_v0) = v0 c
          ∧ r.2.mem ((c.tc : Thread Cert.FiKernelIdeal.nD Cert.FiKernelIdeal.τ).loc Cert.FiKernelIdeal.main_arg0) = m ((c.tc : Thread Cert.FiKernelIdeal.nD Cert.FiKernelIdeal.τ).loc Cert.FiKernelIdeal.main_arg0)
          ∧ r.2.mem ((c.tc : Thread Cert.FiKernelIdeal.nD Cert.FiKernelIdeal.τ).loc Cert.FiKernelIdeal.main_arg1) = m ((c.tc : Thread Cert.FiKernelIdeal.nD Cert.FiKernelIdeal.τ).loc Cert.FiKernelIdeal.main_arg1))
      ∧ θ_run (Cert.FiReferenceIdeal.defs (F := Ideal)) (onTc (τ := Cert.FiReferenceIdeal.τ) (Cert.FiReferenceIdeal.main (F := Ideal))) ⟨m', fun _ => 0, g'⟩ (fun r => ∀ c : Dev Cert.FiReferenceIdeal.nD,
          r.2.mem ((c.tc : Thread Cert.FiReferenceIdeal.nD Cert.FiReferenceIdeal.τ).loc Cert.FiReferenceIdeal.main_v8) = v0 c
          ∧ r.2.mem ((c.tc : Thread Cert.FiReferenceIdeal.nD Cert.FiReferenceIdeal.τ).loc Cert.FiReferenceIdeal.main_arg0) = m' ((c.tc : Thread Cert.FiReferenceIdeal.nD Cert.FiReferenceIdeal.τ).loc Cert.FiReferenceIdeal.main_arg0)
          ∧ r.2.mem ((c.tc : Thread Cert.FiReferenceIdeal.nD Cert.FiReferenceIdeal.τ).loc Cert.FiReferenceIdeal.main_arg1) = m' ((c.tc : Thread Cert.FiReferenceIdeal.nD Cert.FiReferenceIdeal.τ).loc Cert.FiReferenceIdeal.main_arg1))

def preserves_FoKernel_FoKernelIdeal : Prop :=
  True

def algebraic_FoKernelIdeal_FoReferenceIdeal [hFoKernelIdeal : Cert.FoKernelIdeal.Facts] [hFoReferenceIdeal : Cert.FoReferenceIdeal.Facts] : Prop :=
  ∀ (m : (ℓ : Loc Cert.FoKernelIdeal.nD Cert.FoKernelIdeal.τ Cert.FoKernelIdeal.sig) → Buf (Elt Ideal) ℓ) (g : Dev Cert.FoKernelIdeal.nD → PrngReg)
    (m' : (ℓ : Loc Cert.FoReferenceIdeal.nD Cert.FoReferenceIdeal.τ Cert.FoReferenceIdeal.sig) → Buf (Elt Ideal) ℓ) (g' : Dev Cert.FoReferenceIdeal.nD → PrngReg), Pre_FoKernelIdeal m →
    (∀ c : Dev Cert.FoKernelIdeal.nD,
      m' ((c.tc : Thread Cert.FoReferenceIdeal.nD Cert.FoReferenceIdeal.τ).loc Cert.FoReferenceIdeal.main_arg0) = m ((c.tc : Thread Cert.FoKernelIdeal.nD Cert.FoKernelIdeal.τ).loc Cert.FoKernelIdeal.main_arg0)
      ∧ m' ((c.tc : Thread Cert.FoReferenceIdeal.nD Cert.FoReferenceIdeal.τ).loc Cert.FoReferenceIdeal.main_arg1) = m ((c.tc : Thread Cert.FoKernelIdeal.nD Cert.FoKernelIdeal.τ).loc Cert.FoKernelIdeal.main_arg1)) →
    ∃ (v0 : (c : Dev Cert.FoKernelIdeal.nD) → Buf (Elt Ideal) ((c.tc : Thread Cert.FoKernelIdeal.nD Cert.FoKernelIdeal.τ).loc Cert.FoKernelIdeal.main_v0)),
      θ_run (Cert.FoKernelIdeal.defs (F := Ideal)) (onTc (τ := Cert.FoKernelIdeal.τ) (Cert.FoKernelIdeal.main (F := Ideal))) ⟨m, fun _ => 0, g⟩ (fun r => ∀ c : Dev Cert.FoKernelIdeal.nD,
          r.2.mem ((c.tc : Thread Cert.FoKernelIdeal.nD Cert.FoKernelIdeal.τ).loc Cert.FoKernelIdeal.main_v0) = v0 c
          ∧ r.2.mem ((c.tc : Thread Cert.FoKernelIdeal.nD Cert.FoKernelIdeal.τ).loc Cert.FoKernelIdeal.main_arg0) = m ((c.tc : Thread Cert.FoKernelIdeal.nD Cert.FoKernelIdeal.τ).loc Cert.FoKernelIdeal.main_arg0)
          ∧ r.2.mem ((c.tc : Thread Cert.FoKernelIdeal.nD Cert.FoKernelIdeal.τ).loc Cert.FoKernelIdeal.main_arg1) = m ((c.tc : Thread Cert.FoKernelIdeal.nD Cert.FoKernelIdeal.τ).loc Cert.FoKernelIdeal.main_arg1))
      ∧ θ_run (Cert.FoReferenceIdeal.defs (F := Ideal)) (onTc (τ := Cert.FoReferenceIdeal.τ) (Cert.FoReferenceIdeal.main (F := Ideal))) ⟨m', fun _ => 0, g'⟩ (fun r => ∀ c : Dev Cert.FoReferenceIdeal.nD,
          r.2.mem ((c.tc : Thread Cert.FoReferenceIdeal.nD Cert.FoReferenceIdeal.τ).loc Cert.FoReferenceIdeal.main_v5) = v0 c
          ∧ r.2.mem ((c.tc : Thread Cert.FoReferenceIdeal.nD Cert.FoReferenceIdeal.τ).loc Cert.FoReferenceIdeal.main_arg0) = m' ((c.tc : Thread Cert.FoReferenceIdeal.nD Cert.FoReferenceIdeal.τ).loc Cert.FoReferenceIdeal.main_arg0)
          ∧ r.2.mem ((c.tc : Thread Cert.FoReferenceIdeal.nD Cert.FoReferenceIdeal.τ).loc Cert.FoReferenceIdeal.main_arg1) = m' ((c.tc : Thread Cert.FoReferenceIdeal.nD Cert.FoReferenceIdeal.τ).loc Cert.FoReferenceIdeal.main_arg1))

def preserves_SwKernel_SwKernelIdeal : Prop :=
  True

def algebraic_SwKernelIdeal_SwReferenceIdeal_pre_sw_finite [hSwKernelIdeal : Cert.SwKernelIdeal.Facts] [hSwReferenceIdeal : Cert.SwReferenceIdeal.Facts] [hPre_sw_finite : Cert.Pre_sw_finite.Facts] : Prop :=
  ∀ (m : (ℓ : Loc Cert.SwKernelIdeal.nD Cert.SwKernelIdeal.τ Cert.SwKernelIdeal.sig) → Buf (Elt Ideal) ℓ) (g : Dev Cert.SwKernelIdeal.nD → PrngReg)
    (m' : (ℓ : Loc Cert.SwReferenceIdeal.nD Cert.SwReferenceIdeal.τ Cert.SwReferenceIdeal.sig) → Buf (Elt Ideal) ℓ) (g' : Dev Cert.SwReferenceIdeal.nD → PrngReg), Pre_SwKernelIdeal_sw_finite m →
    (∀ c : Dev Cert.SwKernelIdeal.nD,
      m' ((c.tc : Thread Cert.SwReferenceIdeal.nD Cert.SwReferenceIdeal.τ).loc Cert.SwReferenceIdeal.main_arg0) = m ((c.tc : Thread Cert.SwKernelIdeal.nD Cert.SwKernelIdeal.τ).loc Cert.SwKernelIdeal.main_arg0)
      ∧ m' ((c.tc : Thread Cert.SwReferenceIdeal.nD Cert.SwReferenceIdeal.τ).loc Cert.SwReferenceIdeal.main_arg1) = m ((c.tc : Thread Cert.SwKernelIdeal.nD Cert.SwKernelIdeal.τ).loc Cert.SwKernelIdeal.main_arg1)
      ∧ m' ((c.tc : Thread Cert.SwReferenceIdeal.nD Cert.SwReferenceIdeal.τ).loc Cert.SwReferenceIdeal.main_arg2) = m ((c.tc : Thread Cert.SwKernelIdeal.nD Cert.SwKernelIdeal.τ).loc Cert.SwKernelIdeal.main_arg2)
      ∧ m' ((c.tc : Thread Cert.SwReferenceIdeal.nD Cert.SwReferenceIdeal.τ).loc Cert.SwReferenceIdeal.main_arg3) = m ((c.tc : Thread Cert.SwKernelIdeal.nD Cert.SwKernelIdeal.τ).loc Cert.SwKernelIdeal.main_arg3)) →
    ∃ (v0 : (c : Dev Cert.SwKernelIdeal.nD) → Buf (Elt Ideal) ((c.tc : Thread Cert.SwKernelIdeal.nD Cert.SwKernelIdeal.τ).loc Cert.SwKernelIdeal.main_v1)),
      θ_run (Cert.SwKernelIdeal.defs (F := Ideal)) (onTc (τ := Cert.SwKernelIdeal.τ) (Cert.SwKernelIdeal.main (F := Ideal))) ⟨m, fun _ => 0, g⟩ (fun r => ∀ c : Dev Cert.SwKernelIdeal.nD,
          r.2.mem ((c.tc : Thread Cert.SwKernelIdeal.nD Cert.SwKernelIdeal.τ).loc Cert.SwKernelIdeal.main_v1) = v0 c
          ∧ r.2.mem ((c.tc : Thread Cert.SwKernelIdeal.nD Cert.SwKernelIdeal.τ).loc Cert.SwKernelIdeal.main_arg0) = m ((c.tc : Thread Cert.SwKernelIdeal.nD Cert.SwKernelIdeal.τ).loc Cert.SwKernelIdeal.main_arg0)
          ∧ r.2.mem ((c.tc : Thread Cert.SwKernelIdeal.nD Cert.SwKernelIdeal.τ).loc Cert.SwKernelIdeal.main_arg1) = m ((c.tc : Thread Cert.SwKernelIdeal.nD Cert.SwKernelIdeal.τ).loc Cert.SwKernelIdeal.main_arg1)
          ∧ r.2.mem ((c.tc : Thread Cert.SwKernelIdeal.nD Cert.SwKernelIdeal.τ).loc Cert.SwKernelIdeal.main_arg2) = m ((c.tc : Thread Cert.SwKernelIdeal.nD Cert.SwKernelIdeal.τ).loc Cert.SwKernelIdeal.main_arg2)
          ∧ r.2.mem ((c.tc : Thread Cert.SwKernelIdeal.nD Cert.SwKernelIdeal.τ).loc Cert.SwKernelIdeal.main_arg3) = m ((c.tc : Thread Cert.SwKernelIdeal.nD Cert.SwKernelIdeal.τ).loc Cert.SwKernelIdeal.main_arg3))
      ∧ θ_run (Cert.SwReferenceIdeal.defs (F := Ideal)) (onTc (τ := Cert.SwReferenceIdeal.τ) (Cert.SwReferenceIdeal.main (F := Ideal))) ⟨m', fun _ => 0, g'⟩ (fun r => ∀ c : Dev Cert.SwReferenceIdeal.nD,
          r.2.mem ((c.tc : Thread Cert.SwReferenceIdeal.nD Cert.SwReferenceIdeal.τ).loc Cert.SwReferenceIdeal.main_v10) = v0 c
          ∧ r.2.mem ((c.tc : Thread Cert.SwReferenceIdeal.nD Cert.SwReferenceIdeal.τ).loc Cert.SwReferenceIdeal.main_arg0) = m' ((c.tc : Thread Cert.SwReferenceIdeal.nD Cert.SwReferenceIdeal.τ).loc Cert.SwReferenceIdeal.main_arg0)
          ∧ r.2.mem ((c.tc : Thread Cert.SwReferenceIdeal.nD Cert.SwReferenceIdeal.τ).loc Cert.SwReferenceIdeal.main_arg1) = m' ((c.tc : Thread Cert.SwReferenceIdeal.nD Cert.SwReferenceIdeal.τ).loc Cert.SwReferenceIdeal.main_arg1)
          ∧ r.2.mem ((c.tc : Thread Cert.SwReferenceIdeal.nD Cert.SwReferenceIdeal.τ).loc Cert.SwReferenceIdeal.main_arg2) = m' ((c.tc : Thread Cert.SwReferenceIdeal.nD Cert.SwReferenceIdeal.τ).loc Cert.SwReferenceIdeal.main_arg2)
          ∧ r.2.mem ((c.tc : Thread Cert.SwReferenceIdeal.nD Cert.SwReferenceIdeal.τ).loc Cert.SwReferenceIdeal.main_arg3) = m' ((c.tc : Thread Cert.SwReferenceIdeal.nD Cert.SwReferenceIdeal.τ).loc Cert.SwReferenceIdeal.main_arg3))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)) →
    ∃ (v0 : (c : Dev Cert.DhKernelIdeal.nD) → Buf (Elt Ideal) ((c.tc : Thread Cert.DhKernelIdeal.nD Cert.DhKernelIdeal.τ).loc Cert.DhKernelIdeal.main_v4_0)) (v1 : (c : Dev Cert.DhKernelIdeal.nD) → Buf (Elt Ideal) ((c.tc : Thread Cert.DhKernelIdeal.nD Cert.DhKernelIdeal.τ).loc Cert.DhKernelIdeal.main_v4_1)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v4_0) = v0 c
          ∧ r.2.mem ((c.tc : Thread Cert.DhKernelIdeal.nD Cert.DhKernelIdeal.τ).loc Cert.DhKernelIdeal.main_v4_1) = v1 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v39) = v0 c
          ∧ r.2.mem ((c.tc : Thread Cert.DhReferenceIdeal.nD Cert.DhReferenceIdeal.τ).loc Cert.DhReferenceIdeal.main_v40) = v1 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_FwKernel_FwKernelIdeal : Prop :=
  True

def algebraic_FwKernelIdeal_FwReferenceIdeal [hFwKernelIdeal : Cert.FwKernelIdeal.Facts] [hFwReferenceIdeal : Cert.FwReferenceIdeal.Facts] : Prop :=
  ∀ (m : (ℓ : Loc Cert.FwKernelIdeal.nD Cert.FwKernelIdeal.τ Cert.FwKernelIdeal.sig) → Buf (Elt Ideal) ℓ) (g : Dev Cert.FwKernelIdeal.nD → PrngReg)
    (m' : (ℓ : Loc Cert.FwReferenceIdeal.nD Cert.FwReferenceIdeal.τ Cert.FwReferenceIdeal.sig) → Buf (Elt Ideal) ℓ) (g' : Dev Cert.FwReferenceIdeal.nD → PrngReg), Pre_FwKernelIdeal m →
    (∀ c : Dev Cert.FwKernelIdeal.nD,
      m' ((c.tc : Thread Cert.FwReferenceIdeal.nD Cert.FwReferenceIdeal.τ).loc Cert.FwReferenceIdeal.main_arg0) = m ((c.tc : Thread Cert.FwKernelIdeal.nD Cert.FwKernelIdeal.τ).loc Cert.FwKernelIdeal.main_arg0)
      ∧ m' ((c.tc : Thread Cert.FwReferenceIdeal.nD Cert.FwReferenceIdeal.τ).loc Cert.FwReferenceIdeal.main_arg1) = m ((c.tc : Thread Cert.FwKernelIdeal.nD Cert.FwKernelIdeal.τ).loc Cert.FwKernelIdeal.main_arg1)) →
    ∃ (v0 : (c : Dev Cert.FwKernelIdeal.nD) → Buf (Elt Ideal) ((c.tc : Thread Cert.FwKernelIdeal.nD Cert.FwKernelIdeal.τ).loc Cert.FwKernelIdeal.main_v3_0)) (v1 : (c : Dev Cert.FwKernelIdeal.nD) → Buf (Elt Ideal) ((c.tc : Thread Cert.FwKernelIdeal.nD Cert.FwKernelIdeal.τ).loc Cert.FwKernelIdeal.main_v3_1)) (v2 : (c : Dev Cert.FwKernelIdeal.nD) → Buf (Elt Ideal) ((c.tc : Thread Cert.FwKernelIdeal.nD Cert.FwKernelIdeal.τ).loc Cert.FwKernelIdeal.main_v3_2)),
      θ_run (Cert.FwKernelIdeal.defs (F := Ideal)) (onTc (τ := Cert.FwKernelIdeal.τ) (Cert.FwKernelIdeal.main (F := Ideal))) ⟨m, fun _ => 0, g⟩ (fun r => ∀ c : Dev Cert.FwKernelIdeal.nD,
          r.2.mem ((c.tc : Thread Cert.FwKernelIdeal.nD Cert.FwKernelIdeal.τ).loc Cert.FwKernelIdeal.main_v3_0) = v0 c
          ∧ r.2.mem ((c.tc : Thread Cert.FwKernelIdeal.nD Cert.FwKernelIdeal.τ).loc Cert.FwKernelIdeal.main_v3_1) = v1 c
          ∧ r.2.mem ((c.tc : Thread Cert.FwKernelIdeal.nD Cert.FwKernelIdeal.τ).loc Cert.FwKernelIdeal.main_v3_2) = v2 c
          ∧ r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
          ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1))
      ∧ θ_run (Cert.FwReferenceIdeal.defs (F := Ideal)) (onTc (τ := Cert.FwReferenceIdeal.τ) (Cert.FwReferenceIdeal.main (F := Ideal))) ⟨m', fun _ => 0, g'⟩ (fun r => ∀ c : Dev Cert.FwReferenceIdeal.nD,
          r.2.mem ((c.tc : Thread Cert.FwReferenceIdeal.nD Cert.FwReferenceIdeal.τ).loc Cert.FwReferenceIdeal.main_v4) = v0 c
          ∧ r.2.mem ((c.tc : Thread Cert.FwReferenceIdeal.nD Cert.FwReferenceIdeal.τ).loc Cert.FwReferenceIdeal.main_v5) = v1 c
          ∧ r.2.mem ((c.tc : Thread Cert.FwReferenceIdeal.nD Cert.FwReferenceIdeal.τ).loc Cert.FwReferenceIdeal.main_v8) = v2 c
          ∧ r.2.mem ((c.tc : Thread Cert.FwReferenceIdeal.nD Cert.FwReferenceIdeal.τ).loc Cert.FwReferenceIdeal.main_arg0) = m' ((c.tc : Thread Cert.FwReferenceIdeal.nD Cert.FwReferenceIdeal.τ).loc Cert.FwReferenceIdeal.main_arg0)
          ∧ r.2.mem ((c.tc : Thread Cert.FwReferenceIdeal.nD Cert.FwReferenceIdeal.τ).loc Cert.FwReferenceIdeal.main_arg1) = m' ((c.tc : Thread Cert.FwReferenceIdeal.nD Cert.FwReferenceIdeal.τ).loc Cert.FwReferenceIdeal.main_arg1))

def preserves_OuKernel_OuKernelIdeal : Prop :=
  True

def algebraic_OuKernelIdeal_OuReferenceIdeal [hOuKernelIdeal : Cert.OuKernelIdeal.Facts] [hOuReferenceIdeal : Cert.OuReferenceIdeal.Facts] : Prop :=
  ∀ (m : (ℓ : Loc Cert.OuKernelIdeal.nD Cert.OuKernelIdeal.τ Cert.OuKernelIdeal.sig) → Buf (Elt Ideal) ℓ) (g : Dev Cert.OuKernelIdeal.nD → PrngReg)
    (m' : (ℓ : Loc Cert.OuReferenceIdeal.nD Cert.OuReferenceIdeal.τ Cert.OuReferenceIdeal.sig) → Buf (Elt Ideal) ℓ) (g' : Dev Cert.OuReferenceIdeal.nD → PrngReg), Pre_OuKernelIdeal m →
    (∀ c : Dev Cert.OuKernelIdeal.nD,
      m' ((c.tc : Thread Cert.OuReferenceIdeal.nD Cert.OuReferenceIdeal.τ).loc Cert.OuReferenceIdeal.main_arg0) = m ((c.tc : Thread Cert.OuKernelIdeal.nD Cert.OuKernelIdeal.τ).loc Cert.OuKernelIdeal.main_arg0)
      ∧ m' ((c.tc : Thread Cert.OuReferenceIdeal.nD Cert.OuReferenceIdeal.τ).loc Cert.OuReferenceIdeal.main_arg1) = m ((c.tc : Thread Cert.OuKernelIdeal.nD Cert.OuKernelIdeal.τ).loc Cert.OuKernelIdeal.main_arg1)
      ∧ m' ((c.tc : Thread Cert.OuReferenceIdeal.nD Cert.OuReferenceIdeal.τ).loc Cert.OuReferenceIdeal.main_arg2) = m ((c.tc : Thread Cert.OuKernelIdeal.nD Cert.OuKernelIdeal.τ).loc Cert.OuKernelIdeal.main_arg2)
      ∧ m' ((c.tc : Thread Cert.OuReferenceIdeal.nD Cert.OuReferenceIdeal.τ).loc Cert.OuReferenceIdeal.main_arg3) = m ((c.tc : Thread Cert.OuKernelIdeal.nD Cert.OuKernelIdeal.τ).loc Cert.OuKernelIdeal.main_arg3)) →
    ∃ (v0 : (c : Dev Cert.OuKernelIdeal.nD) → Buf (Elt Ideal) ((c.tc : Thread Cert.OuKernelIdeal.nD Cert.OuKernelIdeal.τ).loc Cert.OuKernelIdeal.main_v2_0)) (v1 : (c : Dev Cert.OuKernelIdeal.nD) → Buf (Elt Ideal) ((c.tc : Thread Cert.OuKernelIdeal.nD Cert.OuKernelIdeal.τ).loc Cert.OuKernelIdeal.main_v2_1)),
      θ_run (Cert.OuKernelIdeal.defs (F := Ideal)) (onTc (τ := Cert.OuKernelIdeal.τ) (Cert.OuKernelIdeal.main (F := Ideal))) ⟨m, fun _ => 0, g⟩ (fun r => ∀ c : Dev Cert.OuKernelIdeal.nD,
          r.2.mem ((c.tc : Thread Cert.OuKernelIdeal.nD Cert.OuKernelIdeal.τ).loc Cert.OuKernelIdeal.main_v2_0) = v0 c
          ∧ r.2.mem ((c.tc : Thread Cert.OuKernelIdeal.nD Cert.OuKernelIdeal.τ).loc Cert.OuKernelIdeal.main_v2_1) = v1 c
          ∧ r.2.mem ((c.tc : Thread Cert.OuKernelIdeal.nD Cert.OuKernelIdeal.τ).loc Cert.OuKernelIdeal.main_arg0) = m ((c.tc : Thread Cert.OuKernelIdeal.nD Cert.OuKernelIdeal.τ).loc Cert.OuKernelIdeal.main_arg0)
          ∧ r.2.mem ((c.tc : Thread Cert.OuKernelIdeal.nD Cert.OuKernelIdeal.τ).loc Cert.OuKernelIdeal.main_arg1) = m ((c.tc : Thread Cert.OuKernelIdeal.nD Cert.OuKernelIdeal.τ).loc Cert.OuKernelIdeal.main_arg1)
          ∧ r.2.mem ((c.tc : Thread Cert.OuKernelIdeal.nD Cert.OuKernelIdeal.τ).loc Cert.OuKernelIdeal.main_arg2) = m ((c.tc : Thread Cert.OuKernelIdeal.nD Cert.OuKernelIdeal.τ).loc Cert.OuKernelIdeal.main_arg2)
          ∧ r.2.mem ((c.tc : Thread Cert.OuKernelIdeal.nD Cert.OuKernelIdeal.τ).loc Cert.OuKernelIdeal.main_arg3) = m ((c.tc : Thread Cert.OuKernelIdeal.nD Cert.OuKernelIdeal.τ).loc Cert.OuKernelIdeal.main_arg3))
      ∧ θ_run (Cert.OuReferenceIdeal.defs (F := Ideal)) (onTc (τ := Cert.OuReferenceIdeal.τ) (Cert.OuReferenceIdeal.main (F := Ideal))) ⟨m', fun _ => 0, g'⟩ (fun r => ∀ c : Dev Cert.OuReferenceIdeal.nD,
          r.2.mem ((c.tc : Thread Cert.OuReferenceIdeal.nD Cert.OuReferenceIdeal.τ).loc Cert.OuReferenceIdeal.main_v2) = v0 c
          ∧ r.2.mem ((c.tc : Thread Cert.OuReferenceIdeal.nD Cert.OuReferenceIdeal.τ).loc Cert.OuReferenceIdeal.main_v16) = v1 c
          ∧ r.2.mem ((c.tc : Thread Cert.OuReferenceIdeal.nD Cert.OuReferenceIdeal.τ).loc Cert.OuReferenceIdeal.main_arg0) = m' ((c.tc : Thread Cert.OuReferenceIdeal.nD Cert.OuReferenceIdeal.τ).loc Cert.OuReferenceIdeal.main_arg0)
          ∧ r.2.mem ((c.tc : Thread Cert.OuReferenceIdeal.nD Cert.OuReferenceIdeal.τ).loc Cert.OuReferenceIdeal.main_arg1) = m' ((c.tc : Thread Cert.OuReferenceIdeal.nD Cert.OuReferenceIdeal.τ).loc Cert.OuReferenceIdeal.main_arg1)
          ∧ r.2.mem ((c.tc : Thread Cert.OuReferenceIdeal.nD Cert.OuReferenceIdeal.τ).loc Cert.OuReferenceIdeal.main_arg2) = m' ((c.tc : Thread Cert.OuReferenceIdeal.nD Cert.OuReferenceIdeal.τ).loc Cert.OuReferenceIdeal.main_arg2)
          ∧ r.2.mem ((c.tc : Thread Cert.OuReferenceIdeal.nD Cert.OuReferenceIdeal.τ).loc Cert.OuReferenceIdeal.main_arg3) = m' ((c.tc : Thread Cert.OuReferenceIdeal.nD Cert.OuReferenceIdeal.τ).loc Cert.OuReferenceIdeal.main_arg3))

def preserves_AoKernel_AoKernelIdeal : Prop :=
  True

def algebraic_AoKernelIdeal_AoReferenceIdeal [hAoKernelIdeal : Cert.AoKernelIdeal.Facts] [hAoReferenceIdeal : Cert.AoReferenceIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg)
    (m' : (ℓ : Loc Cert.AoReferenceIdeal.nD Cert.AoReferenceIdeal.τ Cert.AoReferenceIdeal.sig) → Buf (Elt Ideal) ℓ) (g' : Dev Cert.AoReferenceIdeal.nD → PrngReg), Pre_AoKernelIdeal m →
    (∀ c : Dev Cert.AoKernelIdeal.nD,
      m' ((c.tc : Thread Cert.AoReferenceIdeal.nD Cert.AoReferenceIdeal.τ).loc Cert.AoReferenceIdeal.main_arg0) = m ((c.tc : Thread Cert.AoKernelIdeal.nD Cert.AoKernelIdeal.τ).loc Cert.AoKernelIdeal.main_arg0)
      ∧ m' ((c.tc : Thread Cert.AoReferenceIdeal.nD Cert.AoReferenceIdeal.τ).loc Cert.AoReferenceIdeal.main_arg1) = m ((c.tc : Thread Cert.AoKernelIdeal.nD Cert.AoKernelIdeal.τ).loc Cert.AoKernelIdeal.main_arg1)
      ∧ m' ((c.tc : Thread Cert.AoReferenceIdeal.nD Cert.AoReferenceIdeal.τ).loc Cert.AoReferenceIdeal.main_arg2) = m ((c.tc : Thread Cert.AoKernelIdeal.nD Cert.AoKernelIdeal.τ).loc Cert.AoKernelIdeal.main_arg2)
      ∧ m' ((c.tc : Thread Cert.AoReferenceIdeal.nD Cert.AoReferenceIdeal.τ).loc Cert.AoReferenceIdeal.main_arg3) = m ((c.tc : Thread Cert.AoKernelIdeal.nD Cert.AoKernelIdeal.τ).loc Cert.AoKernelIdeal.main_arg3)) →
    ∃ (v0 : (c : Dev Cert.AoKernelIdeal.nD) → Buf (Elt Ideal) ((c.tc : Thread Cert.AoKernelIdeal.nD Cert.AoKernelIdeal.τ).loc Cert.AoKernelIdeal.main_v2_0)) (v1 : (c : Dev Cert.AoKernelIdeal.nD) → Buf (Elt Ideal) ((c.tc : Thread Cert.AoKernelIdeal.nD Cert.AoKernelIdeal.τ).loc Cert.AoKernelIdeal.main_v2_1)),
      θ_run (Cert.AoKernelIdeal.defs (F := Ideal)) (onTc (τ := Cert.AoKernelIdeal.τ) (Cert.AoKernelIdeal.main (F := Ideal))) ⟨m, fun _ => 0, g⟩ (fun r => ∀ c : Dev Cert.AoKernelIdeal.nD,
          r.2.mem ((c.tc : Thread Cert.AoKernelIdeal.nD Cert.AoKernelIdeal.τ).loc Cert.AoKernelIdeal.main_v2_0) = v0 c
          ∧ r.2.mem ((c.tc : Thread Cert.AoKernelIdeal.nD Cert.AoKernelIdeal.τ).loc Cert.AoKernelIdeal.main_v2_1) = v1 c
          ∧ r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
          ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
          ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
          ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3))
      ∧ θ_run (Cert.AoReferenceIdeal.defs (F := Ideal)) (onTc (τ := Cert.AoReferenceIdeal.τ) (Cert.AoReferenceIdeal.main (F := Ideal))) ⟨m', fun _ => 0, g'⟩ (fun r => ∀ c : Dev Cert.AoReferenceIdeal.nD,
          r.2.mem ((c.tc : Thread Cert.AoReferenceIdeal.nD Cert.AoReferenceIdeal.τ).loc Cert.AoReferenceIdeal.main_v2) = v0 c
          ∧ r.2.mem ((c.tc : Thread Cert.AoReferenceIdeal.nD Cert.AoReferenceIdeal.τ).loc Cert.AoReferenceIdeal.main_v16) = v1 c
          ∧ r.2.mem ((c.tc : Thread Cert.AoReferenceIdeal.nD Cert.AoReferenceIdeal.τ).loc Cert.AoReferenceIdeal.main_arg0) = m' ((c.tc : Thread Cert.AoReferenceIdeal.nD Cert.AoReferenceIdeal.τ).loc Cert.AoReferenceIdeal.main_arg0)
          ∧ r.2.mem ((c.tc : Thread Cert.AoReferenceIdeal.nD Cert.AoReferenceIdeal.τ).loc Cert.AoReferenceIdeal.main_arg1) = m' ((c.tc : Thread Cert.AoReferenceIdeal.nD Cert.AoReferenceIdeal.τ).loc Cert.AoReferenceIdeal.main_arg1)
          ∧ r.2.mem ((c.tc : Thread Cert.AoReferenceIdeal.nD Cert.AoReferenceIdeal.τ).loc Cert.AoReferenceIdeal.main_arg2) = m' ((c.tc : Thread Cert.AoReferenceIdeal.nD Cert.AoReferenceIdeal.τ).loc Cert.AoReferenceIdeal.main_arg2)
          ∧ r.2.mem ((c.tc : Thread Cert.AoReferenceIdeal.nD Cert.AoReferenceIdeal.τ).loc Cert.AoReferenceIdeal.main_arg3) = m' ((c.tc : Thread Cert.AoReferenceIdeal.nD Cert.AoReferenceIdeal.τ).loc Cert.AoReferenceIdeal.main_arg3))

def preserves_OlKernel_OlKernelIdeal : Prop :=
  True

def algebraic_OlKernelIdeal_OlReferenceIdeal [hOlKernelIdeal : Cert.OlKernelIdeal.Facts] [hOlReferenceIdeal : Cert.OlReferenceIdeal.Facts] : Prop :=
  ∀ (m : (ℓ : Loc Cert.OlKernelIdeal.nD Cert.OlKernelIdeal.τ Cert.OlKernelIdeal.sig) → Buf (Elt Ideal) ℓ) (g : Dev Cert.OlKernelIdeal.nD → PrngReg)
    (m' : (ℓ : Loc Cert.OlReferenceIdeal.nD Cert.OlReferenceIdeal.τ Cert.OlReferenceIdeal.sig) → Buf (Elt Ideal) ℓ) (g' : Dev Cert.OlReferenceIdeal.nD → PrngReg), Pre_OlKernelIdeal m →
    (∀ c : Dev Cert.OlKernelIdeal.nD,
      m' ((c.tc : Thread Cert.OlReferenceIdeal.nD Cert.OlReferenceIdeal.τ).loc Cert.OlReferenceIdeal.main_arg0) = m ((c.tc : Thread Cert.OlKernelIdeal.nD Cert.OlKernelIdeal.τ).loc Cert.OlKernelIdeal.main_arg0)
      ∧ m' ((c.tc : Thread Cert.OlReferenceIdeal.nD Cert.OlReferenceIdeal.τ).loc Cert.OlReferenceIdeal.main_arg1) = m ((c.tc : Thread Cert.OlKernelIdeal.nD Cert.OlKernelIdeal.τ).loc Cert.OlKernelIdeal.main_arg1)
      ∧ m' ((c.tc : Thread Cert.OlReferenceIdeal.nD Cert.OlReferenceIdeal.τ).loc Cert.OlReferenceIdeal.main_arg2) = m ((c.tc : Thread Cert.OlKernelIdeal.nD Cert.OlKernelIdeal.τ).loc Cert.OlKernelIdeal.main_arg2)) →
    ∃ (v0 : (c : Dev Cert.OlKernelIdeal.nD) → Buf (Elt Ideal) ((c.tc : Thread Cert.OlKernelIdeal.nD Cert.OlKernelIdeal.τ).loc Cert.OlKernelIdeal.main_v1)),
      θ_run (Cert.OlKernelIdeal.defs (F := Ideal)) (onTc (τ := Cert.OlKernelIdeal.τ) (Cert.OlKernelIdeal.main (F := Ideal))) ⟨m, fun _ => 0, g⟩ (fun r => ∀ c : Dev Cert.OlKernelIdeal.nD,
          r.2.mem ((c.tc : Thread Cert.OlKernelIdeal.nD Cert.OlKernelIdeal.τ).loc Cert.OlKernelIdeal.main_v1) = v0 c
          ∧ r.2.mem ((c.tc : Thread Cert.OlKernelIdeal.nD Cert.OlKernelIdeal.τ).loc Cert.OlKernelIdeal.main_arg0) = m ((c.tc : Thread Cert.OlKernelIdeal.nD Cert.OlKernelIdeal.τ).loc Cert.OlKernelIdeal.main_arg0)
          ∧ r.2.mem ((c.tc : Thread Cert.OlKernelIdeal.nD Cert.OlKernelIdeal.τ).loc Cert.OlKernelIdeal.main_arg1) = m ((c.tc : Thread Cert.OlKernelIdeal.nD Cert.OlKernelIdeal.τ).loc Cert.OlKernelIdeal.main_arg1)
          ∧ r.2.mem ((c.tc : Thread Cert.OlKernelIdeal.nD Cert.OlKernelIdeal.τ).loc Cert.OlKernelIdeal.main_arg2) = m ((c.tc : Thread Cert.OlKernelIdeal.nD Cert.OlKernelIdeal.τ).loc Cert.OlKernelIdeal.main_arg2))
      ∧ θ_run (Cert.OlReferenceIdeal.defs (F := Ideal)) (onTc (τ := Cert.OlReferenceIdeal.τ) (Cert.OlReferenceIdeal.main (F := Ideal))) ⟨m', fun _ => 0, g'⟩ (fun r => ∀ c : Dev Cert.OlReferenceIdeal.nD,
          r.2.mem ((c.tc : Thread Cert.OlReferenceIdeal.nD Cert.OlReferenceIdeal.τ).loc Cert.OlReferenceIdeal.main_v2) = v0 c
          ∧ r.2.mem ((c.tc : Thread Cert.OlReferenceIdeal.nD Cert.OlReferenceIdeal.τ).loc Cert.OlReferenceIdeal.main_arg0) = m' ((c.tc : Thread Cert.OlReferenceIdeal.nD Cert.OlReferenceIdeal.τ).loc Cert.OlReferenceIdeal.main_arg0)
          ∧ r.2.mem ((c.tc : Thread Cert.OlReferenceIdeal.nD Cert.OlReferenceIdeal.τ).loc Cert.OlReferenceIdeal.main_arg1) = m' ((c.tc : Thread Cert.OlReferenceIdeal.nD Cert.OlReferenceIdeal.τ).loc Cert.OlReferenceIdeal.main_arg1)
          ∧ r.2.mem ((c.tc : Thread Cert.OlReferenceIdeal.nD Cert.OlReferenceIdeal.τ).loc Cert.OlReferenceIdeal.main_arg2) = m' ((c.tc : Thread Cert.OlReferenceIdeal.nD Cert.OlReferenceIdeal.τ).loc Cert.OlReferenceIdeal.main_arg2))

def preserves_GoKernel_GoKernelIdeal : Prop :=
  True

def algebraic_GoKernelIdeal_GoReferenceIdeal [hGoKernelIdeal : Cert.GoKernelIdeal.Facts] [hGoReferenceIdeal : Cert.GoReferenceIdeal.Facts] : Prop :=
  ∀ (m : (ℓ : Loc Cert.GoKernelIdeal.nD Cert.GoKernelIdeal.τ Cert.GoKernelIdeal.sig) → Buf (Elt Ideal) ℓ) (g : Dev Cert.GoKernelIdeal.nD → PrngReg)
    (m' : (ℓ : Loc Cert.GoReferenceIdeal.nD Cert.GoReferenceIdeal.τ Cert.GoReferenceIdeal.sig) → Buf (Elt Ideal) ℓ) (g' : Dev Cert.GoReferenceIdeal.nD → PrngReg), Pre_GoKernelIdeal m →
    (∀ c : Dev Cert.GoKernelIdeal.nD,
      m' ((c.tc : Thread Cert.GoReferenceIdeal.nD Cert.GoReferenceIdeal.τ).loc Cert.GoReferenceIdeal.main_arg0) = m ((c.tc : Thread Cert.GoKernelIdeal.nD Cert.GoKernelIdeal.τ).loc Cert.GoKernelIdeal.main_arg0)
      ∧ m' ((c.tc : Thread Cert.GoReferenceIdeal.nD Cert.GoReferenceIdeal.τ).loc Cert.GoReferenceIdeal.main_arg1) = m ((c.tc : Thread Cert.GoKernelIdeal.nD Cert.GoKernelIdeal.τ).loc Cert.GoKernelIdeal.main_arg1)) →
    ∃ (v0 : (c : Dev Cert.GoKernelIdeal.nD) → Buf (Elt Ideal) ((c.tc : Thread Cert.GoKernelIdeal.nD Cert.GoKernelIdeal.τ).loc Cert.GoKernelIdeal.main_v0)),
      θ_run (Cert.GoKernelIdeal.defs (F := Ideal)) (onTc (τ := Cert.GoKernelIdeal.τ) (Cert.GoKernelIdeal.main (F := Ideal))) ⟨m, fun _ => 0, g⟩ (fun r => ∀ c : Dev Cert.GoKernelIdeal.nD,
          r.2.mem ((c.tc : Thread Cert.GoKernelIdeal.nD Cert.GoKernelIdeal.τ).loc Cert.GoKernelIdeal.main_v0) = v0 c
          ∧ r.2.mem ((c.tc : Thread Cert.GoKernelIdeal.nD Cert.GoKernelIdeal.τ).loc Cert.GoKernelIdeal.main_arg0) = m ((c.tc : Thread Cert.GoKernelIdeal.nD Cert.GoKernelIdeal.τ).loc Cert.GoKernelIdeal.main_arg0)
          ∧ r.2.mem ((c.tc : Thread Cert.GoKernelIdeal.nD Cert.GoKernelIdeal.τ).loc Cert.GoKernelIdeal.main_arg1) = m ((c.tc : Thread Cert.GoKernelIdeal.nD Cert.GoKernelIdeal.τ).loc Cert.GoKernelIdeal.main_arg1))
      ∧ θ_run (Cert.GoReferenceIdeal.defs (F := Ideal)) (onTc (τ := Cert.GoReferenceIdeal.τ) (Cert.GoReferenceIdeal.main (F := Ideal))) ⟨m', fun _ => 0, g'⟩ (fun r => ∀ c : Dev Cert.GoReferenceIdeal.nD,
          r.2.mem ((c.tc : Thread Cert.GoReferenceIdeal.nD Cert.GoReferenceIdeal.τ).loc Cert.GoReferenceIdeal.main_v5) = v0 c
          ∧ r.2.mem ((c.tc : Thread Cert.GoReferenceIdeal.nD Cert.GoReferenceIdeal.τ).loc Cert.GoReferenceIdeal.main_arg0) = m' ((c.tc : Thread Cert.GoReferenceIdeal.nD Cert.GoReferenceIdeal.τ).loc Cert.GoReferenceIdeal.main_arg0)
          ∧ r.2.mem ((c.tc : Thread Cert.GoReferenceIdeal.nD Cert.GoReferenceIdeal.τ).loc Cert.GoReferenceIdeal.main_arg1) = m' ((c.tc : Thread Cert.GoReferenceIdeal.nD Cert.GoReferenceIdeal.τ).loc Cert.GoReferenceIdeal.main_arg1))

def preserves_DaKernel_DaKernelIdeal : Prop :=
  True

def algebraic_DaKernelIdeal_DaReferenceIdeal [hDaKernelIdeal : Cert.DaKernelIdeal.Facts] [hDaReferenceIdeal : Cert.DaReferenceIdeal.Facts] : Prop :=
  ∀ (m : (ℓ : Loc Cert.DaKernelIdeal.nD Cert.DaKernelIdeal.τ Cert.DaKernelIdeal.sig) → Buf (Elt Ideal) ℓ) (g : Dev Cert.DaKernelIdeal.nD → PrngReg)
    (m' : (ℓ : Loc Cert.DaReferenceIdeal.nD Cert.DaReferenceIdeal.τ Cert.DaReferenceIdeal.sig) → Buf (Elt Ideal) ℓ) (g' : Dev Cert.DaReferenceIdeal.nD → PrngReg), Pre_DaKernelIdeal m →
    (∀ c : Dev Cert.DaKernelIdeal.nD,
      m' ((c.tc : Thread Cert.DaReferenceIdeal.nD Cert.DaReferenceIdeal.τ).loc Cert.DaReferenceIdeal.main_arg0) = m ((c.tc : Thread Cert.DaKernelIdeal.nD Cert.DaKernelIdeal.τ).loc Cert.DaKernelIdeal.main_arg0)
      ∧ m' ((c.tc : Thread Cert.DaReferenceIdeal.nD Cert.DaReferenceIdeal.τ).loc Cert.DaReferenceIdeal.main_arg1) = m ((c.tc : Thread Cert.DaKernelIdeal.nD Cert.DaKernelIdeal.τ).loc Cert.DaKernelIdeal.main_arg1)) →
    ∃ (v0 : (c : Dev Cert.DaKernelIdeal.nD) → Buf (Elt Ideal) ((c.tc : Thread Cert.DaKernelIdeal.nD Cert.DaKernelIdeal.τ).loc Cert.DaKernelIdeal.main_v1)),
      θ_run (Cert.DaKernelIdeal.defs (F := Ideal)) (onTc (τ := Cert.DaKernelIdeal.τ) (Cert.DaKernelIdeal.main (F := Ideal))) ⟨m, fun _ => 0, g⟩ (fun r => ∀ c : Dev Cert.DaKernelIdeal.nD,
          r.2.mem ((c.tc : Thread Cert.DaKernelIdeal.nD Cert.DaKernelIdeal.τ).loc Cert.DaKernelIdeal.main_v1) = v0 c
          ∧ r.2.mem ((c.tc : Thread Cert.DaKernelIdeal.nD Cert.DaKernelIdeal.τ).loc Cert.DaKernelIdeal.main_arg0) = m ((c.tc : Thread Cert.DaKernelIdeal.nD Cert.DaKernelIdeal.τ).loc Cert.DaKernelIdeal.main_arg0)
          ∧ r.2.mem ((c.tc : Thread Cert.DaKernelIdeal.nD Cert.DaKernelIdeal.τ).loc Cert.DaKernelIdeal.main_arg1) = m ((c.tc : Thread Cert.DaKernelIdeal.nD Cert.DaKernelIdeal.τ).loc Cert.DaKernelIdeal.main_arg1))
      ∧ θ_run (Cert.DaReferenceIdeal.defs (F := Ideal)) (onTc (τ := Cert.DaReferenceIdeal.τ) (Cert.DaReferenceIdeal.main (F := Ideal))) ⟨m', fun _ => 0, g'⟩ (fun r => ∀ c : Dev Cert.DaReferenceIdeal.nD,
          r.2.mem ((c.tc : Thread Cert.DaReferenceIdeal.nD Cert.DaReferenceIdeal.τ).loc Cert.DaReferenceIdeal.main_v2) = v0 c
          ∧ r.2.mem ((c.tc : Thread Cert.DaReferenceIdeal.nD Cert.DaReferenceIdeal.τ).loc Cert.DaReferenceIdeal.main_arg0) = m' ((c.tc : Thread Cert.DaReferenceIdeal.nD Cert.DaReferenceIdeal.τ).loc Cert.DaReferenceIdeal.main_arg0)
          ∧ r.2.mem ((c.tc : Thread Cert.DaReferenceIdeal.nD Cert.DaReferenceIdeal.τ).loc Cert.DaReferenceIdeal.main_arg1) = m' ((c.tc : Thread Cert.DaReferenceIdeal.nD Cert.DaReferenceIdeal.τ).loc Cert.DaReferenceIdeal.main_arg1))

def preserves_QeKernel_QeKernelIdeal : Prop :=
  True

def algebraic_QeKernelIdeal_QeReferenceIdeal [hQeKernelIdeal : Cert.QeKernelIdeal.Facts] [hQeReferenceIdeal : Cert.QeReferenceIdeal.Facts] : Prop :=
  ∀ (m : (ℓ : Loc Cert.QeKernelIdeal.nD Cert.QeKernelIdeal.τ Cert.QeKernelIdeal.sig) → Buf (Elt Ideal) ℓ) (g : Dev Cert.QeKernelIdeal.nD → PrngReg)
    (m' : (ℓ : Loc Cert.QeReferenceIdeal.nD Cert.QeReferenceIdeal.τ Cert.QeReferenceIdeal.sig) → Buf (Elt Ideal) ℓ) (g' : Dev Cert.QeReferenceIdeal.nD → PrngReg), Pre_QeKernelIdeal m →
    (∀ c : Dev Cert.QeKernelIdeal.nD,
      m' ((c.tc : Thread Cert.QeReferenceIdeal.nD Cert.QeReferenceIdeal.τ).loc Cert.QeReferenceIdeal.main_arg0) = m ((c.tc : Thread Cert.QeKernelIdeal.nD Cert.QeKernelIdeal.τ).loc Cert.QeKernelIdeal.main_arg0)
      ∧ m' ((c.tc : Thread Cert.QeReferenceIdeal.nD Cert.QeReferenceIdeal.τ).loc Cert.QeReferenceIdeal.main_arg1) = m ((c.tc : Thread Cert.QeKernelIdeal.nD Cert.QeKernelIdeal.τ).loc Cert.QeKernelIdeal.main_arg1)) →
    ∃ (v0 : (c : Dev Cert.QeKernelIdeal.nD) → Buf (Elt Ideal) ((c.tc : Thread Cert.QeKernelIdeal.nD Cert.QeKernelIdeal.τ).loc Cert.QeKernelIdeal.main_v3)),
      θ_run (Cert.QeKernelIdeal.defs (F := Ideal)) (onTc (τ := Cert.QeKernelIdeal.τ) (Cert.QeKernelIdeal.main (F := Ideal))) ⟨m, fun _ => 0, g⟩ (fun r => ∀ c : Dev Cert.QeKernelIdeal.nD,
          r.2.mem ((c.tc : Thread Cert.QeKernelIdeal.nD Cert.QeKernelIdeal.τ).loc Cert.QeKernelIdeal.main_v3) = v0 c
          ∧ r.2.mem ((c.tc : Thread Cert.QeKernelIdeal.nD Cert.QeKernelIdeal.τ).loc Cert.QeKernelIdeal.main_arg0) = m ((c.tc : Thread Cert.QeKernelIdeal.nD Cert.QeKernelIdeal.τ).loc Cert.QeKernelIdeal.main_arg0)
          ∧ r.2.mem ((c.tc : Thread Cert.QeKernelIdeal.nD Cert.QeKernelIdeal.τ).loc Cert.QeKernelIdeal.main_arg1) = m ((c.tc : Thread Cert.QeKernelIdeal.nD Cert.QeKernelIdeal.τ).loc Cert.QeKernelIdeal.main_arg1))
      ∧ θ_run (Cert.QeReferenceIdeal.defs (F := Ideal)) (onTc (τ := Cert.QeReferenceIdeal.τ) (Cert.QeReferenceIdeal.main (F := Ideal))) ⟨m', fun _ => 0, g'⟩ (fun r => ∀ c : Dev Cert.QeReferenceIdeal.nD,
          r.2.mem ((c.tc : Thread Cert.QeReferenceIdeal.nD Cert.QeReferenceIdeal.τ).loc Cert.QeReferenceIdeal.main_v2) = v0 c
          ∧ r.2.mem ((c.tc : Thread Cert.QeReferenceIdeal.nD Cert.QeReferenceIdeal.τ).loc Cert.QeReferenceIdeal.main_arg0) = m' ((c.tc : Thread Cert.QeReferenceIdeal.nD Cert.QeReferenceIdeal.τ).loc Cert.QeReferenceIdeal.main_arg0)
          ∧ r.2.mem ((c.tc : Thread Cert.QeReferenceIdeal.nD Cert.QeReferenceIdeal.τ).loc Cert.QeReferenceIdeal.main_arg1) = m' ((c.tc : Thread Cert.QeReferenceIdeal.nD Cert.QeReferenceIdeal.τ).loc Cert.QeReferenceIdeal.main_arg1))

def preserves_QoKernel_QoKernelIdeal : Prop :=
  True

def algebraic_QoKernelIdeal_QoReferenceIdeal [hQoKernelIdeal : Cert.QoKernelIdeal.Facts] [hQoReferenceIdeal : Cert.QoReferenceIdeal.Facts] : Prop :=
  ∀ (m : (ℓ : Loc Cert.QoKernelIdeal.nD Cert.QoKernelIdeal.τ Cert.QoKernelIdeal.sig) → Buf (Elt Ideal) ℓ) (g : Dev Cert.QoKernelIdeal.nD → PrngReg)
    (m' : (ℓ : Loc Cert.QoReferenceIdeal.nD Cert.QoReferenceIdeal.τ Cert.QoReferenceIdeal.sig) → Buf (Elt Ideal) ℓ) (g' : Dev Cert.QoReferenceIdeal.nD → PrngReg), Pre_QoKernelIdeal m →
    (∀ c : Dev Cert.QoKernelIdeal.nD,
      m' ((c.tc : Thread Cert.QoReferenceIdeal.nD Cert.QoReferenceIdeal.τ).loc Cert.QoReferenceIdeal.main_arg0) = m ((c.tc : Thread Cert.QoKernelIdeal.nD Cert.QoKernelIdeal.τ).loc Cert.QoKernelIdeal.main_arg0)
      ∧ m' ((c.tc : Thread Cert.QoReferenceIdeal.nD Cert.QoReferenceIdeal.τ).loc Cert.QoReferenceIdeal.main_arg1) = m ((c.tc : Thread Cert.QoKernelIdeal.nD Cert.QoKernelIdeal.τ).loc Cert.QoKernelIdeal.main_arg1)) →
    ∃ (v0 : (c : Dev Cert.QoKernelIdeal.nD) → Buf (Elt Ideal) ((c.tc : Thread Cert.QoKernelIdeal.nD Cert.QoKernelIdeal.τ).loc Cert.QoKernelIdeal.main_v2)),
      θ_run (Cert.QoKernelIdeal.defs (F := Ideal)) (onTc (τ := Cert.QoKernelIdeal.τ) (Cert.QoKernelIdeal.main (F := Ideal))) ⟨m, fun _ => 0, g⟩ (fun r => ∀ c : Dev Cert.QoKernelIdeal.nD,
          r.2.mem ((c.tc : Thread Cert.QoKernelIdeal.nD Cert.QoKernelIdeal.τ).loc Cert.QoKernelIdeal.main_v2) = v0 c
          ∧ r.2.mem ((c.tc : Thread Cert.QoKernelIdeal.nD Cert.QoKernelIdeal.τ).loc Cert.QoKernelIdeal.main_arg0) = m ((c.tc : Thread Cert.QoKernelIdeal.nD Cert.QoKernelIdeal.τ).loc Cert.QoKernelIdeal.main_arg0)
          ∧ r.2.mem ((c.tc : Thread Cert.QoKernelIdeal.nD Cert.QoKernelIdeal.τ).loc Cert.QoKernelIdeal.main_arg1) = m ((c.tc : Thread Cert.QoKernelIdeal.nD Cert.QoKernelIdeal.τ).loc Cert.QoKernelIdeal.main_arg1))
      ∧ θ_run (Cert.QoReferenceIdeal.defs (F := Ideal)) (onTc (τ := Cert.QoReferenceIdeal.τ) (Cert.QoReferenceIdeal.main (F := Ideal))) ⟨m', fun _ => 0, g'⟩ (fun r => ∀ c : Dev Cert.QoReferenceIdeal.nD,
          r.2.mem ((c.tc : Thread Cert.QoReferenceIdeal.nD Cert.QoReferenceIdeal.τ).loc Cert.QoReferenceIdeal.main_v3) = v0 c
          ∧ r.2.mem ((c.tc : Thread Cert.QoReferenceIdeal.nD Cert.QoReferenceIdeal.τ).loc Cert.QoReferenceIdeal.main_arg0) = m' ((c.tc : Thread Cert.QoReferenceIdeal.nD Cert.QoReferenceIdeal.τ).loc Cert.QoReferenceIdeal.main_arg0)
          ∧ r.2.mem ((c.tc : Thread Cert.QoReferenceIdeal.nD Cert.QoReferenceIdeal.τ).loc Cert.QoReferenceIdeal.main_arg1) = m' ((c.tc : Thread Cert.QoReferenceIdeal.nD Cert.QoReferenceIdeal.τ).loc Cert.QoReferenceIdeal.main_arg1))

def preserves_GqKernel_GqKernelIdeal : Prop :=
  True

def algebraic_GqKernelIdeal_GqReferenceIdeal [hGqKernelIdeal : Cert.GqKernelIdeal.Facts] [hGqReferenceIdeal : Cert.GqReferenceIdeal.Facts] : Prop :=
  ∀ (m : (ℓ : Loc Cert.GqKernelIdeal.nD Cert.GqKernelIdeal.τ Cert.GqKernelIdeal.sig) → Buf (Elt Ideal) ℓ) (g : Dev Cert.GqKernelIdeal.nD → PrngReg)
    (m' : (ℓ : Loc Cert.GqReferenceIdeal.nD Cert.GqReferenceIdeal.τ Cert.GqReferenceIdeal.sig) → Buf (Elt Ideal) ℓ) (g' : Dev Cert.GqReferenceIdeal.nD → PrngReg), Pre_GqKernelIdeal m →
    (∀ c : Dev Cert.GqKernelIdeal.nD,
      m' ((c.tc : Thread Cert.GqReferenceIdeal.nD Cert.GqReferenceIdeal.τ).loc Cert.GqReferenceIdeal.main_arg0) = m ((c.tc : Thread Cert.GqKernelIdeal.nD Cert.GqKernelIdeal.τ).loc Cert.GqKernelIdeal.main_arg0)
      ∧ m' ((c.tc : Thread Cert.GqReferenceIdeal.nD Cert.GqReferenceIdeal.τ).loc Cert.GqReferenceIdeal.main_arg1) = m ((c.tc : Thread Cert.GqKernelIdeal.nD Cert.GqKernelIdeal.τ).loc Cert.GqKernelIdeal.main_arg1)) →
    ∃ (v0 : (c : Dev Cert.GqKernelIdeal.nD) → Buf (Elt Ideal) ((c.tc : Thread Cert.GqKernelIdeal.nD Cert.GqKernelIdeal.τ).loc Cert.GqKernelIdeal.main_v0)),
      θ_run (Cert.GqKernelIdeal.defs (F := Ideal)) (onTc (τ := Cert.GqKernelIdeal.τ) (Cert.GqKernelIdeal.main (F := Ideal))) ⟨m, fun _ => 0, g⟩ (fun r => ∀ c : Dev Cert.GqKernelIdeal.nD,
          r.2.mem ((c.tc : Thread Cert.GqKernelIdeal.nD Cert.GqKernelIdeal.τ).loc Cert.GqKernelIdeal.main_v0) = v0 c
          ∧ r.2.mem ((c.tc : Thread Cert.GqKernelIdeal.nD Cert.GqKernelIdeal.τ).loc Cert.GqKernelIdeal.main_arg0) = m ((c.tc : Thread Cert.GqKernelIdeal.nD Cert.GqKernelIdeal.τ).loc Cert.GqKernelIdeal.main_arg0)
          ∧ r.2.mem ((c.tc : Thread Cert.GqKernelIdeal.nD Cert.GqKernelIdeal.τ).loc Cert.GqKernelIdeal.main_arg1) = m ((c.tc : Thread Cert.GqKernelIdeal.nD Cert.GqKernelIdeal.τ).loc Cert.GqKernelIdeal.main_arg1))
      ∧ θ_run (Cert.GqReferenceIdeal.defs (F := Ideal)) (onTc (τ := Cert.GqReferenceIdeal.τ) (Cert.GqReferenceIdeal.main (F := Ideal))) ⟨m', fun _ => 0, g'⟩ (fun r => ∀ c : Dev Cert.GqReferenceIdeal.nD,
          r.2.mem ((c.tc : Thread Cert.GqReferenceIdeal.nD Cert.GqReferenceIdeal.τ).loc Cert.GqReferenceIdeal.main_v8) = v0 c
          ∧ r.2.mem ((c.tc : Thread Cert.GqReferenceIdeal.nD Cert.GqReferenceIdeal.τ).loc Cert.GqReferenceIdeal.main_arg0) = m' ((c.tc : Thread Cert.GqReferenceIdeal.nD Cert.GqReferenceIdeal.τ).loc Cert.GqReferenceIdeal.main_arg0)
          ∧ r.2.mem ((c.tc : Thread Cert.GqReferenceIdeal.nD Cert.GqReferenceIdeal.τ).loc Cert.GqReferenceIdeal.main_arg1) = m' ((c.tc : Thread Cert.GqReferenceIdeal.nD Cert.GqReferenceIdeal.τ).loc Cert.GqReferenceIdeal.main_arg1))

def preserves_GnKernel_GnKernelIdeal : Prop :=
  True

def algebraic_GnKernelIdeal_GnReferenceIdeal [hGnKernelIdeal : Cert.GnKernelIdeal.Facts] [hGnReferenceIdeal : Cert.GnReferenceIdeal.Facts] : Prop :=
  ∀ (m : (ℓ : Loc Cert.GnKernelIdeal.nD Cert.GnKernelIdeal.τ Cert.GnKernelIdeal.sig) → Buf (Elt Ideal) ℓ) (g : Dev Cert.GnKernelIdeal.nD → PrngReg)
    (m' : (ℓ : Loc Cert.GnReferenceIdeal.nD Cert.GnReferenceIdeal.τ Cert.GnReferenceIdeal.sig) → Buf (Elt Ideal) ℓ) (g' : Dev Cert.GnReferenceIdeal.nD → PrngReg), Pre_GnKernelIdeal m →
    (∀ c : Dev Cert.GnKernelIdeal.nD,
      m' ((c.tc : Thread Cert.GnReferenceIdeal.nD Cert.GnReferenceIdeal.τ).loc Cert.GnReferenceIdeal.main_arg0) = m ((c.tc : Thread Cert.GnKernelIdeal.nD Cert.GnKernelIdeal.τ).loc Cert.GnKernelIdeal.main_arg0)
      ∧ m' ((c.tc : Thread Cert.GnReferenceIdeal.nD Cert.GnReferenceIdeal.τ).loc Cert.GnReferenceIdeal.main_arg1) = m ((c.tc : Thread Cert.GnKernelIdeal.nD Cert.GnKernelIdeal.τ).loc Cert.GnKernelIdeal.main_arg1)) →
    ∃ (v0 : (c : Dev Cert.GnKernelIdeal.nD) → Buf (Elt Ideal) ((c.tc : Thread Cert.GnKernelIdeal.nD Cert.GnKernelIdeal.τ).loc Cert.GnKernelIdeal.main_v0)),
      θ_run (Cert.GnKernelIdeal.defs (F := Ideal)) (onTc (τ := Cert.GnKernelIdeal.τ) (Cert.GnKernelIdeal.main (F := Ideal))) ⟨m, fun _ => 0, g⟩ (fun r => ∀ c : Dev Cert.GnKernelIdeal.nD,
          r.2.mem ((c.tc : Thread Cert.GnKernelIdeal.nD Cert.GnKernelIdeal.τ).loc Cert.GnKernelIdeal.main_v0) = v0 c
          ∧ r.2.mem ((c.tc : Thread Cert.GnKernelIdeal.nD Cert.GnKernelIdeal.τ).loc Cert.GnKernelIdeal.main_arg0) = m ((c.tc : Thread Cert.GnKernelIdeal.nD Cert.GnKernelIdeal.τ).loc Cert.GnKernelIdeal.main_arg0)
          ∧ r.2.mem ((c.tc : Thread Cert.GnKernelIdeal.nD Cert.GnKernelIdeal.τ).loc Cert.GnKernelIdeal.main_arg1) = m ((c.tc : Thread Cert.GnKernelIdeal.nD Cert.GnKernelIdeal.τ).loc Cert.GnKernelIdeal.main_arg1))
      ∧ θ_run (Cert.GnReferenceIdeal.defs (F := Ideal)) (onTc (τ := Cert.GnReferenceIdeal.τ) (Cert.GnReferenceIdeal.main (F := Ideal))) ⟨m', fun _ => 0, g'⟩ (fun r => ∀ c : Dev Cert.GnReferenceIdeal.nD,
          r.2.mem ((c.tc : Thread Cert.GnReferenceIdeal.nD Cert.GnReferenceIdeal.τ).loc Cert.GnReferenceIdeal.main_v6) = v0 c
          ∧ r.2.mem ((c.tc : Thread Cert.GnReferenceIdeal.nD Cert.GnReferenceIdeal.τ).loc Cert.GnReferenceIdeal.main_arg0) = m' ((c.tc : Thread Cert.GnReferenceIdeal.nD Cert.GnReferenceIdeal.τ).loc Cert.GnReferenceIdeal.main_arg0)
          ∧ r.2.mem ((c.tc : Thread Cert.GnReferenceIdeal.nD Cert.GnReferenceIdeal.τ).loc Cert.GnReferenceIdeal.main_arg1) = m' ((c.tc : Thread Cert.GnReferenceIdeal.nD Cert.GnReferenceIdeal.τ).loc Cert.GnReferenceIdeal.main_arg1))

def preserves_DqKernel_DqKernelIdeal : Prop :=
  True

def algebraic_DqKernelIdeal_DqReferenceIdeal [hDqKernelIdeal : Cert.DqKernelIdeal.Facts] [hDqReferenceIdeal : Cert.DqReferenceIdeal.Facts] : Prop :=
  ∀ (m : (ℓ : Loc Cert.DqKernelIdeal.nD Cert.DqKernelIdeal.τ Cert.DqKernelIdeal.sig) → Buf (Elt Ideal) ℓ) (g : Dev Cert.DqKernelIdeal.nD → PrngReg)
    (m' : (ℓ : Loc Cert.DqReferenceIdeal.nD Cert.DqReferenceIdeal.τ Cert.DqReferenceIdeal.sig) → Buf (Elt Ideal) ℓ) (g' : Dev Cert.DqReferenceIdeal.nD → PrngReg), Pre_DqKernelIdeal m →
    (∀ c : Dev Cert.DqKernelIdeal.nD,
      m' ((c.tc : Thread Cert.DqReferenceIdeal.nD Cert.DqReferenceIdeal.τ).loc Cert.DqReferenceIdeal.main_arg0) = m ((c.tc : Thread Cert.DqKernelIdeal.nD Cert.DqKernelIdeal.τ).loc Cert.DqKernelIdeal.main_arg0)
      ∧ m' ((c.tc : Thread Cert.DqReferenceIdeal.nD Cert.DqReferenceIdeal.τ).loc Cert.DqReferenceIdeal.main_arg1) = m ((c.tc : Thread Cert.DqKernelIdeal.nD Cert.DqKernelIdeal.τ).loc Cert.DqKernelIdeal.main_arg1)
      ∧ m' ((c.tc : Thread Cert.DqReferenceIdeal.nD Cert.DqReferenceIdeal.τ).loc Cert.DqReferenceIdeal.main_arg2) = m ((c.tc : Thread Cert.DqKernelIdeal.nD Cert.DqKernelIdeal.τ).loc Cert.DqKernelIdeal.main_arg2)
      ∧ m' ((c.tc : Thread Cert.DqReferenceIdeal.nD Cert.DqReferenceIdeal.τ).loc Cert.DqReferenceIdeal.main_arg3) = m ((c.tc : Thread Cert.DqKernelIdeal.nD Cert.DqKernelIdeal.τ).loc Cert.DqKernelIdeal.main_arg3)
      ∧ m' ((c.tc : Thread Cert.DqReferenceIdeal.nD Cert.DqReferenceIdeal.τ).loc Cert.DqReferenceIdeal.main_arg4) = m ((c.tc : Thread Cert.DqKernelIdeal.nD Cert.DqKernelIdeal.τ).loc Cert.DqKernelIdeal.main_arg4)) →
    ∃ (v0 : (c : Dev Cert.DqKernelIdeal.nD) → Buf (Elt Ideal) ((c.tc : Thread Cert.DqKernelIdeal.nD Cert.DqKernelIdeal.τ).loc Cert.DqKernelIdeal.main_v4_0)) (v1 : (c : Dev Cert.DqKernelIdeal.nD) → Buf (Elt Ideal) ((c.tc : Thread Cert.DqKernelIdeal.nD Cert.DqKernelIdeal.τ).loc Cert.DqKernelIdeal.main_v4_1)),
      θ_run (Cert.DqKernelIdeal.defs (F := Ideal)) (onTc (τ := Cert.DqKernelIdeal.τ) (Cert.DqKernelIdeal.main (F := Ideal))) ⟨m, fun _ => 0, g⟩ (fun r => ∀ c : Dev Cert.DqKernelIdeal.nD,
          r.2.mem ((c.tc : Thread Cert.DqKernelIdeal.nD Cert.DqKernelIdeal.τ).loc Cert.DqKernelIdeal.main_v4_0) = v0 c
          ∧ r.2.mem ((c.tc : Thread Cert.DqKernelIdeal.nD Cert.DqKernelIdeal.τ).loc Cert.DqKernelIdeal.main_v4_1) = v1 c
          ∧ r.2.mem ((c.tc : Thread Cert.DqKernelIdeal.nD Cert.DqKernelIdeal.τ).loc Cert.DqKernelIdeal.main_arg0) = m ((c.tc : Thread Cert.DqKernelIdeal.nD Cert.DqKernelIdeal.τ).loc Cert.DqKernelIdeal.main_arg0)
          ∧ r.2.mem ((c.tc : Thread Cert.DqKernelIdeal.nD Cert.DqKernelIdeal.τ).loc Cert.DqKernelIdeal.main_arg1) = m ((c.tc : Thread Cert.DqKernelIdeal.nD Cert.DqKernelIdeal.τ).loc Cert.DqKernelIdeal.main_arg1)
          ∧ r.2.mem ((c.tc : Thread Cert.DqKernelIdeal.nD Cert.DqKernelIdeal.τ).loc Cert.DqKernelIdeal.main_arg2) = m ((c.tc : Thread Cert.DqKernelIdeal.nD Cert.DqKernelIdeal.τ).loc Cert.DqKernelIdeal.main_arg2)
          ∧ r.2.mem ((c.tc : Thread Cert.DqKernelIdeal.nD Cert.DqKernelIdeal.τ).loc Cert.DqKernelIdeal.main_arg3) = m ((c.tc : Thread Cert.DqKernelIdeal.nD Cert.DqKernelIdeal.τ).loc Cert.DqKernelIdeal.main_arg3)
          ∧ r.2.mem ((c.tc : Thread Cert.DqKernelIdeal.nD Cert.DqKernelIdeal.τ).loc Cert.DqKernelIdeal.main_arg4) = m ((c.tc : Thread Cert.DqKernelIdeal.nD Cert.DqKernelIdeal.τ).loc Cert.DqKernelIdeal.main_arg4))
      ∧ θ_run (Cert.DqReferenceIdeal.defs (F := Ideal)) (onTc (τ := Cert.DqReferenceIdeal.τ) (Cert.DqReferenceIdeal.main (F := Ideal))) ⟨m', fun _ => 0, g'⟩ (fun r => ∀ c : Dev Cert.DqReferenceIdeal.nD,
          r.2.mem ((c.tc : Thread Cert.DqReferenceIdeal.nD Cert.DqReferenceIdeal.τ).loc Cert.DqReferenceIdeal.main_v39) = v0 c
          ∧ r.2.mem ((c.tc : Thread Cert.DqReferenceIdeal.nD Cert.DqReferenceIdeal.τ).loc Cert.DqReferenceIdeal.main_v40) = v1 c
          ∧ r.2.mem ((c.tc : Thread Cert.DqReferenceIdeal.nD Cert.DqReferenceIdeal.τ).loc Cert.DqReferenceIdeal.main_arg0) = m' ((c.tc : Thread Cert.DqReferenceIdeal.nD Cert.DqReferenceIdeal.τ).loc Cert.DqReferenceIdeal.main_arg0)
          ∧ r.2.mem ((c.tc : Thread Cert.DqReferenceIdeal.nD Cert.DqReferenceIdeal.τ).loc Cert.DqReferenceIdeal.main_arg1) = m' ((c.tc : Thread Cert.DqReferenceIdeal.nD Cert.DqReferenceIdeal.τ).loc Cert.DqReferenceIdeal.main_arg1)
          ∧ r.2.mem ((c.tc : Thread Cert.DqReferenceIdeal.nD Cert.DqReferenceIdeal.τ).loc Cert.DqReferenceIdeal.main_arg2) = m' ((c.tc : Thread Cert.DqReferenceIdeal.nD Cert.DqReferenceIdeal.τ).loc Cert.DqReferenceIdeal.main_arg2)
          ∧ r.2.mem ((c.tc : Thread Cert.DqReferenceIdeal.nD Cert.DqReferenceIdeal.τ).loc Cert.DqReferenceIdeal.main_arg3) = m' ((c.tc : Thread Cert.DqReferenceIdeal.nD Cert.DqReferenceIdeal.τ).loc Cert.DqReferenceIdeal.main_arg3)
          ∧ r.2.mem ((c.tc : Thread Cert.DqReferenceIdeal.nD Cert.DqReferenceIdeal.τ).loc Cert.DqReferenceIdeal.main_arg4) = m' ((c.tc : Thread Cert.DqReferenceIdeal.nD Cert.DqReferenceIdeal.τ).loc Cert.DqReferenceIdeal.main_arg4))

def preserves_DnKernel_DnKernelIdeal : Prop :=
  True

def algebraic_DnKernelIdeal_DnReferenceIdeal [hDnKernelIdeal : Cert.DnKernelIdeal.Facts] [hDnReferenceIdeal : Cert.DnReferenceIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnKernelIdeal m →
    (∀ c : Dev Cert.DnKernelIdeal.nD,
      m' ((c.tc : Thread Cert.DnReferenceIdeal.nD Cert.DnReferenceIdeal.τ).loc Cert.DnReferenceIdeal.main_arg0) = m ((c.tc : Thread Cert.DnKernelIdeal.nD Cert.DnKernelIdeal.τ).loc Cert.DnKernelIdeal.main_arg0)
      ∧ m' ((c.tc : Thread Cert.DnReferenceIdeal.nD Cert.DnReferenceIdeal.τ).loc Cert.DnReferenceIdeal.main_arg1) = m ((c.tc : Thread Cert.DnKernelIdeal.nD Cert.DnKernelIdeal.τ).loc Cert.DnKernelIdeal.main_arg1)
      ∧ m' ((c.tc : Thread Cert.DnReferenceIdeal.nD Cert.DnReferenceIdeal.τ).loc Cert.DnReferenceIdeal.main_arg2) = m ((c.tc : Thread Cert.DnKernelIdeal.nD Cert.DnKernelIdeal.τ).loc Cert.DnKernelIdeal.main_arg2)
      ∧ m' ((c.tc : Thread Cert.DnReferenceIdeal.nD Cert.DnReferenceIdeal.τ).loc Cert.DnReferenceIdeal.main_arg3) = m ((c.tc : Thread Cert.DnKernelIdeal.nD Cert.DnKernelIdeal.τ).loc Cert.DnKernelIdeal.main_arg3)
      ∧ m' ((c.tc : Thread Cert.DnReferenceIdeal.nD Cert.DnReferenceIdeal.τ).loc Cert.DnReferenceIdeal.main_arg4) = m ((c.tc : Thread Cert.DnKernelIdeal.nD Cert.DnKernelIdeal.τ).loc Cert.DnKernelIdeal.main_arg4)) →
    ∃ (v0 : (c : Dev Cert.DnKernelIdeal.nD) → Buf (Elt Ideal) ((c.tc : Thread Cert.DnKernelIdeal.nD Cert.DnKernelIdeal.τ).loc Cert.DnKernelIdeal.main_v7_0)) (v1 : (c : Dev Cert.DnKernelIdeal.nD) → Buf (Elt Ideal) ((c.tc : Thread Cert.DnKernelIdeal.nD Cert.DnKernelIdeal.τ).loc Cert.DnKernelIdeal.main_v7_1)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v7_0) = v0 c
          ∧ r.2.mem ((c.tc : Thread Cert.DnKernelIdeal.nD Cert.DnKernelIdeal.τ).loc Cert.DnKernelIdeal.main_v7_1) = v1 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
          ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
          ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
          ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v39) = v0 c
          ∧ r.2.mem ((c.tc : Thread Cert.DnReferenceIdeal.nD Cert.DnReferenceIdeal.τ).loc Cert.DnReferenceIdeal.main_v40) = v1 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1)
          ∧ r.2.mem ((c.tc : Thread Cert.DnReferenceIdeal.nD Cert.DnReferenceIdeal.τ).loc Cert.DnReferenceIdeal.main_arg2) = m' ((c.tc : Thread Cert.DnReferenceIdeal.nD Cert.DnReferenceIdeal.τ).loc Cert.DnReferenceIdeal.main_arg2)
          ∧ r.2.mem ((c.tc : Thread Cert.DnReferenceIdeal.nD Cert.DnReferenceIdeal.τ).loc Cert.DnReferenceIdeal.main_arg3) = m' ((c.tc : Thread Cert.DnReferenceIdeal.nD Cert.DnReferenceIdeal.τ).loc Cert.DnReferenceIdeal.main_arg3)
          ∧ r.2.mem ((c.tc : Thread Cert.DnReferenceIdeal.nD Cert.DnReferenceIdeal.τ).loc Cert.DnReferenceIdeal.main_arg4) = m' ((c.tc : Thread Cert.DnReferenceIdeal.nD Cert.DnReferenceIdeal.τ).loc Cert.DnReferenceIdeal.main_arg4))

def preserves_UsKernel_UsKernelIdeal : Prop :=
  True

def algebraic_UsKernelIdeal_UsReferenceIdeal [hUsKernelIdeal : Cert.UsKernelIdeal.Facts] [hUsReferenceIdeal : Cert.UsReferenceIdeal.Facts] : Prop :=
  ∀ (m : (ℓ : Loc Cert.UsKernelIdeal.nD Cert.UsKernelIdeal.τ Cert.UsKernelIdeal.sig) → Buf (Elt Ideal) ℓ) (g : Dev Cert.UsKernelIdeal.nD → PrngReg)
    (m' : (ℓ : Loc Cert.UsReferenceIdeal.nD Cert.UsReferenceIdeal.τ Cert.UsReferenceIdeal.sig) → Buf (Elt Ideal) ℓ) (g' : Dev Cert.UsReferenceIdeal.nD → PrngReg), Pre_UsKernelIdeal m →
    (∀ c : Dev Cert.UsKernelIdeal.nD,
      m' ((c.tc : Thread Cert.UsReferenceIdeal.nD Cert.UsReferenceIdeal.τ).loc Cert.UsReferenceIdeal.main_arg0) = m ((c.tc : Thread Cert.UsKernelIdeal.nD Cert.UsKernelIdeal.τ).loc Cert.UsKernelIdeal.main_arg0)
      ∧ m' ((c.tc : Thread Cert.UsReferenceIdeal.nD Cert.UsReferenceIdeal.τ).loc Cert.UsReferenceIdeal.main_arg1) = m ((c.tc : Thread Cert.UsKernelIdeal.nD Cert.UsKernelIdeal.τ).loc Cert.UsKernelIdeal.main_arg1)
      ∧ m' ((c.tc : Thread Cert.UsReferenceIdeal.nD Cert.UsReferenceIdeal.τ).loc Cert.UsReferenceIdeal.main_arg2) = m ((c.tc : Thread Cert.UsKernelIdeal.nD Cert.UsKernelIdeal.τ).loc Cert.UsKernelIdeal.main_arg2)
      ∧ m' ((c.tc : Thread Cert.UsReferenceIdeal.nD Cert.UsReferenceIdeal.τ).loc Cert.UsReferenceIdeal.main_arg3) = m ((c.tc : Thread Cert.UsKernelIdeal.nD Cert.UsKernelIdeal.τ).loc Cert.UsKernelIdeal.main_arg3)) →
    ∃ (v0 : (c : Dev Cert.UsKernelIdeal.nD) → Buf (Elt Ideal) ((c.tc : Thread Cert.UsKernelIdeal.nD Cert.UsKernelIdeal.τ).loc Cert.UsKernelIdeal.main_v0_0)) (v1 : (c : Dev Cert.UsKernelIdeal.nD) → Buf (Elt Ideal) ((c.tc : Thread Cert.UsKernelIdeal.nD Cert.UsKernelIdeal.τ).loc Cert.UsKernelIdeal.main_v0_1)) (v2 : (c : Dev Cert.UsKernelIdeal.nD) → Buf (Elt Ideal) ((c.tc : Thread Cert.UsKernelIdeal.nD Cert.UsKernelIdeal.τ).loc Cert.UsKernelIdeal.main_v0_2)),
      θ_run (Cert.UsKernelIdeal.defs (F := Ideal)) (onTc (τ := Cert.UsKernelIdeal.τ) (Cert.UsKernelIdeal.main (F := Ideal))) ⟨m, fun _ => 0, g⟩ (fun r => ∀ c : Dev Cert.UsKernelIdeal.nD,
          r.2.mem ((c.tc : Thread Cert.UsKernelIdeal.nD Cert.UsKernelIdeal.τ).loc Cert.UsKernelIdeal.main_v0_0) = v0 c
          ∧ r.2.mem ((c.tc : Thread Cert.UsKernelIdeal.nD Cert.UsKernelIdeal.τ).loc Cert.UsKernelIdeal.main_v0_1) = v1 c
          ∧ r.2.mem ((c.tc : Thread Cert.UsKernelIdeal.nD Cert.UsKernelIdeal.τ).loc Cert.UsKernelIdeal.main_v0_2) = v2 c
          ∧ r.2.mem ((c.tc : Thread Cert.UsKernelIdeal.nD Cert.UsKernelIdeal.τ).loc Cert.UsKernelIdeal.main_arg0) = m ((c.tc : Thread Cert.UsKernelIdeal.nD Cert.UsKernelIdeal.τ).loc Cert.UsKernelIdeal.main_arg0)
          ∧ r.2.mem ((c.tc : Thread Cert.UsKernelIdeal.nD Cert.UsKernelIdeal.τ).loc Cert.UsKernelIdeal.main_arg1) = m ((c.tc : Thread Cert.UsKernelIdeal.nD Cert.UsKernelIdeal.τ).loc Cert.UsKernelIdeal.main_arg1)
          ∧ r.2.mem ((c.tc : Thread Cert.UsKernelIdeal.nD Cert.UsKernelIdeal.τ).loc Cert.UsKernelIdeal.main_arg2) = m ((c.tc : Thread Cert.UsKernelIdeal.nD Cert.UsKernelIdeal.τ).loc Cert.UsKernelIdeal.main_arg2)
          ∧ r.2.mem ((c.tc : Thread Cert.UsKernelIdeal.nD Cert.UsKernelIdeal.τ).loc Cert.UsKernelIdeal.main_arg3) = m ((c.tc : Thread Cert.UsKernelIdeal.nD Cert.UsKernelIdeal.τ).loc Cert.UsKernelIdeal.main_arg3))
      ∧ θ_run (Cert.UsReferenceIdeal.defs (F := Ideal)) (onTc (τ := Cert.UsReferenceIdeal.τ) (Cert.UsReferenceIdeal.main (F := Ideal))) ⟨m', fun _ => 0, g'⟩ (fun r => ∀ c : Dev Cert.UsReferenceIdeal.nD,
          r.2.mem ((c.tc : Thread Cert.UsReferenceIdeal.nD Cert.UsReferenceIdeal.τ).loc Cert.UsReferenceIdeal.main_v23) = v0 c
          ∧ r.2.mem ((c.tc : Thread Cert.UsReferenceIdeal.nD Cert.UsReferenceIdeal.τ).loc Cert.UsReferenceIdeal.main_v4) = v1 c
          ∧ r.2.mem ((c.tc : Thread Cert.UsReferenceIdeal.nD Cert.UsReferenceIdeal.τ).loc Cert.UsReferenceIdeal.main_v10) = v2 c
          ∧ r.2.mem ((c.tc : Thread Cert.UsReferenceIdeal.nD Cert.UsReferenceIdeal.τ).loc Cert.UsReferenceIdeal.main_arg0) = m' ((c.tc : Thread Cert.UsReferenceIdeal.nD Cert.UsReferenceIdeal.τ).loc Cert.UsReferenceIdeal.main_arg0)
          ∧ r.2.mem ((c.tc : Thread Cert.UsReferenceIdeal.nD Cert.UsReferenceIdeal.τ).loc Cert.UsReferenceIdeal.main_arg1) = m' ((c.tc : Thread Cert.UsReferenceIdeal.nD Cert.UsReferenceIdeal.τ).loc Cert.UsReferenceIdeal.main_arg1)
          ∧ r.2.mem ((c.tc : Thread Cert.UsReferenceIdeal.nD Cert.UsReferenceIdeal.τ).loc Cert.UsReferenceIdeal.main_arg2) = m' ((c.tc : Thread Cert.UsReferenceIdeal.nD Cert.UsReferenceIdeal.τ).loc Cert.UsReferenceIdeal.main_arg2)
          ∧ r.2.mem ((c.tc : Thread Cert.UsReferenceIdeal.nD Cert.UsReferenceIdeal.τ).loc Cert.UsReferenceIdeal.main_arg3) = m' ((c.tc : Thread Cert.UsReferenceIdeal.nD Cert.UsReferenceIdeal.τ).loc Cert.UsReferenceIdeal.main_arg3))

def preserves_UqKernel_UqKernelIdeal : Prop :=
  True

def algebraic_UqKernelIdeal_UqReferenceIdeal [hUqKernelIdeal : Cert.UqKernelIdeal.Facts] [hUqReferenceIdeal : Cert.UqReferenceIdeal.Facts] : Prop :=
  ∀ (m : (ℓ : Loc Cert.UqKernelIdeal.nD Cert.UqKernelIdeal.τ Cert.UqKernelIdeal.sig) → Buf (Elt Ideal) ℓ) (g : Dev Cert.UqKernelIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqKernelIdeal m →
    (∀ c : Dev Cert.UqKernelIdeal.nD,
      m' ((c.tc : Thread Cert.UqReferenceIdeal.nD Cert.UqReferenceIdeal.τ).loc Cert.UqReferenceIdeal.main_arg0) = m ((c.tc : Thread Cert.UqKernelIdeal.nD Cert.UqKernelIdeal.τ).loc Cert.UqKernelIdeal.main_arg0)
      ∧ m' ((c.tc : Thread Cert.UqReferenceIdeal.nD Cert.UqReferenceIdeal.τ).loc Cert.UqReferenceIdeal.main_arg1) = m ((c.tc : Thread Cert.UqKernelIdeal.nD Cert.UqKernelIdeal.τ).loc Cert.UqKernelIdeal.main_arg1)
      ∧ m' ((c.tc : Thread Cert.UqReferenceIdeal.nD Cert.UqReferenceIdeal.τ).loc Cert.UqReferenceIdeal.main_arg2) = m ((c.tc : Thread Cert.UqKernelIdeal.nD Cert.UqKernelIdeal.τ).loc Cert.UqKernelIdeal.main_arg2)
      ∧ m' ((c.tc : Thread Cert.UqReferenceIdeal.nD Cert.UqReferenceIdeal.τ).loc Cert.UqReferenceIdeal.main_arg3) = m ((c.tc : Thread Cert.UqKernelIdeal.nD Cert.UqKernelIdeal.τ).loc Cert.UqKernelIdeal.main_arg3)
      ∧ m' ((c.tc : Thread Cert.UqReferenceIdeal.nD Cert.UqReferenceIdeal.τ).loc Cert.UqReferenceIdeal.main_arg4) = m ((c.tc : Thread Cert.UqKernelIdeal.nD Cert.UqKernelIdeal.τ).loc Cert.UqKernelIdeal.main_arg4)
      ∧ m' ((c.tc : Thread Cert.UqReferenceIdeal.nD Cert.UqReferenceIdeal.τ).loc Cert.UqReferenceIdeal.main_arg5) = m ((c.tc : Thread Cert.UqKernelIdeal.nD Cert.UqKernelIdeal.τ).loc Cert.UqKernelIdeal.main_arg5)) →
    ∃ (v0 : (c : Dev Cert.UqKernelIdeal.nD) → Buf (Elt Ideal) ((c.tc : Thread Cert.UqKernelIdeal.nD Cert.UqKernelIdeal.τ).loc Cert.UqKernelIdeal.main_v0_0)) (v1 : (c : Dev Cert.UqKernelIdeal.nD) → Buf (Elt Ideal) ((c.tc : Thread Cert.UqKernelIdeal.nD Cert.UqKernelIdeal.τ).loc Cert.UqKernelIdeal.main_v0_1)) (v2 : (c : Dev Cert.UqKernelIdeal.nD) → Buf (Elt Ideal) ((c.tc : Thread Cert.UqKernelIdeal.nD Cert.UqKernelIdeal.τ).loc Cert.UqKernelIdeal.main_v0_2)) (v3 : (c : Dev Cert.UqKernelIdeal.nD) → Buf (Elt Ideal) ((c.tc : Thread Cert.UqKernelIdeal.nD Cert.UqKernelIdeal.τ).loc Cert.UqKernelIdeal.main_v0_3)),
      θ_run (Cert.UqKernelIdeal.defs (F := Ideal)) (onTc (τ := Cert.UqKernelIdeal.τ) (Cert.UqKernelIdeal.main (F := Ideal))) ⟨m, fun _ => 0, g⟩ (fun r => ∀ c : Dev Cert.UqKernelIdeal.nD,
          r.2.mem ((c.tc : Thread Cert.UqKernelIdeal.nD Cert.UqKernelIdeal.τ).loc Cert.UqKernelIdeal.main_v0_0) = v0 c
          ∧ r.2.mem ((c.tc : Thread Cert.UqKernelIdeal.nD Cert.UqKernelIdeal.τ).loc Cert.UqKernelIdeal.main_v0_1) = v1 c
          ∧ r.2.mem ((c.tc : Thread Cert.UqKernelIdeal.nD Cert.UqKernelIdeal.τ).loc Cert.UqKernelIdeal.main_v0_2) = v2 c
          ∧ r.2.mem ((c.tc : Thread Cert.UqKernelIdeal.nD Cert.UqKernelIdeal.τ).loc Cert.UqKernelIdeal.main_v0_3) = v3 c
          ∧ r.2.mem ((c.tc : Thread Cert.UqKernelIdeal.nD Cert.UqKernelIdeal.τ).loc Cert.UqKernelIdeal.main_arg0) = m ((c.tc : Thread Cert.UqKernelIdeal.nD Cert.UqKernelIdeal.τ).loc Cert.UqKernelIdeal.main_arg0)
          ∧ r.2.mem ((c.tc : Thread Cert.UqKernelIdeal.nD Cert.UqKernelIdeal.τ).loc Cert.UqKernelIdeal.main_arg1) = m ((c.tc : Thread Cert.UqKernelIdeal.nD Cert.UqKernelIdeal.τ).loc Cert.UqKernelIdeal.main_arg1)
          ∧ r.2.mem ((c.tc : Thread Cert.UqKernelIdeal.nD Cert.UqKernelIdeal.τ).loc Cert.UqKernelIdeal.main_arg2) = m ((c.tc : Thread Cert.UqKernelIdeal.nD Cert.UqKernelIdeal.τ).loc Cert.UqKernelIdeal.main_arg2)
          ∧ r.2.mem ((c.tc : Thread Cert.UqKernelIdeal.nD Cert.UqKernelIdeal.τ).loc Cert.UqKernelIdeal.main_arg3) = m ((c.tc : Thread Cert.UqKernelIdeal.nD Cert.UqKernelIdeal.τ).loc Cert.UqKernelIdeal.main_arg3)
          ∧ r.2.mem ((c.tc : Thread Cert.UqKernelIdeal.nD Cert.UqKernelIdeal.τ).loc Cert.UqKernelIdeal.main_arg4) = m ((c.tc : Thread Cert.UqKernelIdeal.nD Cert.UqKernelIdeal.τ).loc Cert.UqKernelIdeal.main_arg4)
          ∧ r.2.mem ((c.tc : Thread Cert.UqKernelIdeal.nD Cert.UqKernelIdeal.τ).loc Cert.UqKernelIdeal.main_arg5) = m ((c.tc : Thread Cert.UqKernelIdeal.nD Cert.UqKernelIdeal.τ).loc Cert.UqKernelIdeal.main_arg5))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v6) = v0 c
          ∧ r.2.mem ((c.tc : Thread Cert.UqReferenceIdeal.nD Cert.UqReferenceIdeal.τ).loc Cert.UqReferenceIdeal.main_v30) = v1 c
          ∧ r.2.mem ((c.tc : Thread Cert.UqReferenceIdeal.nD Cert.UqReferenceIdeal.τ).loc Cert.UqReferenceIdeal.main_v11) = v2 c
          ∧ r.2.mem ((c.tc : Thread Cert.UqReferenceIdeal.nD Cert.UqReferenceIdeal.τ).loc Cert.UqReferenceIdeal.main_v17) = v3 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1)
          ∧ r.2.mem ((c.tc : Thread Cert.UqReferenceIdeal.nD Cert.UqReferenceIdeal.τ).loc Cert.UqReferenceIdeal.main_arg2) = m' ((c.tc : Thread Cert.UqReferenceIdeal.nD Cert.UqReferenceIdeal.τ).loc Cert.UqReferenceIdeal.main_arg2)
          ∧ r.2.mem ((c.tc : Thread Cert.UqReferenceIdeal.nD Cert.UqReferenceIdeal.τ).loc Cert.UqReferenceIdeal.main_arg3) = m' ((c.tc : Thread Cert.UqReferenceIdeal.nD Cert.UqReferenceIdeal.τ).loc Cert.UqReferenceIdeal.main_arg3)
          ∧ r.2.mem ((c.tc : Thread Cert.UqReferenceIdeal.nD Cert.UqReferenceIdeal.τ).loc Cert.UqReferenceIdeal.main_arg4) = m' ((c.tc : Thread Cert.UqReferenceIdeal.nD Cert.UqReferenceIdeal.τ).loc Cert.UqReferenceIdeal.main_arg4)
          ∧ r.2.mem ((c.tc : Thread Cert.UqReferenceIdeal.nD Cert.UqReferenceIdeal.τ).loc Cert.UqReferenceIdeal.main_arg5) = m' ((c.tc : Thread Cert.UqReferenceIdeal.nD Cert.UqReferenceIdeal.τ).loc Cert.UqReferenceIdeal.main_arg5))

def preserves_UoKernel_UoKernelIdeal : Prop :=
  True

def algebraic_UoKernelIdeal_UoReferenceIdeal [hUoKernelIdeal : Cert.UoKernelIdeal.Facts] [hUoReferenceIdeal : Cert.UoReferenceIdeal.Facts] : Prop :=
  ∀ (m : (ℓ : Loc Cert.UoKernelIdeal.nD Cert.UoKernelIdeal.τ Cert.UoKernelIdeal.sig) → Buf (Elt Ideal) ℓ) (g : Dev Cert.UoKernelIdeal.nD → PrngReg)
    (m' : (ℓ : Loc Cert.UoReferenceIdeal.nD Cert.UoReferenceIdeal.τ Cert.UoReferenceIdeal.sig) → Buf (Elt Ideal) ℓ) (g' : Dev Cert.UoReferenceIdeal.nD → PrngReg), Pre_UoKernelIdeal m →
    (∀ c : Dev Cert.UoKernelIdeal.nD,
      m' ((c.tc : Thread Cert.UoReferenceIdeal.nD Cert.UoReferenceIdeal.τ).loc Cert.UoReferenceIdeal.main_arg0) = m ((c.tc : Thread Cert.UoKernelIdeal.nD Cert.UoKernelIdeal.τ).loc Cert.UoKernelIdeal.main_arg0)
      ∧ m' ((c.tc : Thread Cert.UoReferenceIdeal.nD Cert.UoReferenceIdeal.τ).loc Cert.UoReferenceIdeal.main_arg1) = m ((c.tc : Thread Cert.UoKernelIdeal.nD Cert.UoKernelIdeal.τ).loc Cert.UoKernelIdeal.main_arg1)
      ∧ m' ((c.tc : Thread Cert.UoReferenceIdeal.nD Cert.UoReferenceIdeal.τ).loc Cert.UoReferenceIdeal.main_arg2) = m ((c.tc : Thread Cert.UoKernelIdeal.nD Cert.UoKernelIdeal.τ).loc Cert.UoKernelIdeal.main_arg2)
      ∧ m' ((c.tc : Thread Cert.UoReferenceIdeal.nD Cert.UoReferenceIdeal.τ).loc Cert.UoReferenceIdeal.main_arg3) = m ((c.tc : Thread Cert.UoKernelIdeal.nD Cert.UoKernelIdeal.τ).loc Cert.UoKernelIdeal.main_arg3)
      ∧ m' ((c.tc : Thread Cert.UoReferenceIdeal.nD Cert.UoReferenceIdeal.τ).loc Cert.UoReferenceIdeal.main_arg4) = m ((c.tc : Thread Cert.UoKernelIdeal.nD Cert.UoKernelIdeal.τ).loc Cert.UoKernelIdeal.main_arg4)
      ∧ m' ((c.tc : Thread Cert.UoReferenceIdeal.nD Cert.UoReferenceIdeal.τ).loc Cert.UoReferenceIdeal.main_arg5) = m ((c.tc : Thread Cert.UoKernelIdeal.nD Cert.UoKernelIdeal.τ).loc Cert.UoKernelIdeal.main_arg5)) →
    ∃ (v0 : (c : Dev Cert.UoKernelIdeal.nD) → Buf (Elt Ideal) ((c.tc : Thread Cert.UoKernelIdeal.nD Cert.UoKernelIdeal.τ).loc Cert.UoKernelIdeal.main_v0_0)) (v1 : (c : Dev Cert.UoKernelIdeal.nD) → Buf (Elt Ideal) ((c.tc : Thread Cert.UoKernelIdeal.nD Cert.UoKernelIdeal.τ).loc Cert.UoKernelIdeal.main_v0_1)) (v2 : (c : Dev Cert.UoKernelIdeal.nD) → Buf (Elt Ideal) ((c.tc : Thread Cert.UoKernelIdeal.nD Cert.UoKernelIdeal.τ).loc Cert.UoKernelIdeal.main_v0_2)) (v3 : (c : Dev Cert.UoKernelIdeal.nD) → Buf (Elt Ideal) ((c.tc : Thread Cert.UoKernelIdeal.nD Cert.UoKernelIdeal.τ).loc Cert.UoKernelIdeal.main_v0_3)),
      θ_run (Cert.UoKernelIdeal.defs (F := Ideal)) (onTc (τ := Cert.UoKernelIdeal.τ) (Cert.UoKernelIdeal.main (F := Ideal))) ⟨m, fun _ => 0, g⟩ (fun r => ∀ c : Dev Cert.UoKernelIdeal.nD,
          r.2.mem ((c.tc : Thread Cert.UoKernelIdeal.nD Cert.UoKernelIdeal.τ).loc Cert.UoKernelIdeal.main_v0_0) = v0 c
          ∧ r.2.mem ((c.tc : Thread Cert.UoKernelIdeal.nD Cert.UoKernelIdeal.τ).loc Cert.UoKernelIdeal.main_v0_1) = v1 c
          ∧ r.2.mem ((c.tc : Thread Cert.UoKernelIdeal.nD Cert.UoKernelIdeal.τ).loc Cert.UoKernelIdeal.main_v0_2) = v2 c
          ∧ r.2.mem ((c.tc : Thread Cert.UoKernelIdeal.nD Cert.UoKernelIdeal.τ).loc Cert.UoKernelIdeal.main_v0_3) = v3 c
          ∧ r.2.mem ((c.tc : Thread Cert.UoKernelIdeal.nD Cert.UoKernelIdeal.τ).loc Cert.UoKernelIdeal.main_arg0) = m ((c.tc : Thread Cert.UoKernelIdeal.nD Cert.UoKernelIdeal.τ).loc Cert.UoKernelIdeal.main_arg0)
          ∧ r.2.mem ((c.tc : Thread Cert.UoKernelIdeal.nD Cert.UoKernelIdeal.τ).loc Cert.UoKernelIdeal.main_arg1) = m ((c.tc : Thread Cert.UoKernelIdeal.nD Cert.UoKernelIdeal.τ).loc Cert.UoKernelIdeal.main_arg1)
          ∧ r.2.mem ((c.tc : Thread Cert.UoKernelIdeal.nD Cert.UoKernelIdeal.τ).loc Cert.UoKernelIdeal.main_arg2) = m ((c.tc : Thread Cert.UoKernelIdeal.nD Cert.UoKernelIdeal.τ).loc Cert.UoKernelIdeal.main_arg2)
          ∧ r.2.mem ((c.tc : Thread Cert.UoKernelIdeal.nD Cert.UoKernelIdeal.τ).loc Cert.UoKernelIdeal.main_arg3) = m ((c.tc : Thread Cert.UoKernelIdeal.nD Cert.UoKernelIdeal.τ).loc Cert.UoKernelIdeal.main_arg3)
          ∧ r.2.mem ((c.tc : Thread Cert.UoKernelIdeal.nD Cert.UoKernelIdeal.τ).loc Cert.UoKernelIdeal.main_arg4) = m ((c.tc : Thread Cert.UoKernelIdeal.nD Cert.UoKernelIdeal.τ).loc Cert.UoKernelIdeal.main_arg4)
          ∧ r.2.mem ((c.tc : Thread Cert.UoKernelIdeal.nD Cert.UoKernelIdeal.τ).loc Cert.UoKernelIdeal.main_arg5) = m ((c.tc : Thread Cert.UoKernelIdeal.nD Cert.UoKernelIdeal.τ).loc Cert.UoKernelIdeal.main_arg5))
      ∧ θ_run (Cert.UoReferenceIdeal.defs (F := Ideal)) (onTc (τ := Cert.UoReferenceIdeal.τ) (Cert.UoReferenceIdeal.main (F := Ideal))) ⟨m', fun _ => 0, g'⟩ (fun r => ∀ c : Dev Cert.UoReferenceIdeal.nD,
          r.2.mem ((c.tc : Thread Cert.UoReferenceIdeal.nD Cert.UoReferenceIdeal.τ).loc Cert.UoReferenceIdeal.main_v6) = v0 c
          ∧ r.2.mem ((c.tc : Thread Cert.UoReferenceIdeal.nD Cert.UoReferenceIdeal.τ).loc Cert.UoReferenceIdeal.main_v30) = v1 c
          ∧ r.2.mem ((c.tc : Thread Cert.UoReferenceIdeal.nD Cert.UoReferenceIdeal.τ).loc Cert.UoReferenceIdeal.main_v11) = v2 c
          ∧ r.2.mem ((c.tc : Thread Cert.UoReferenceIdeal.nD Cert.UoReferenceIdeal.τ).loc Cert.UoReferenceIdeal.main_v17) = v3 c
          ∧ r.2.mem ((c.tc : Thread Cert.UoReferenceIdeal.nD Cert.UoReferenceIdeal.τ).loc Cert.UoReferenceIdeal.main_arg0) = m' ((c.tc : Thread Cert.UoReferenceIdeal.nD Cert.UoReferenceIdeal.τ).loc Cert.UoReferenceIdeal.main_arg0)
          ∧ r.2.mem ((c.tc : Thread Cert.UoReferenceIdeal.nD Cert.UoReferenceIdeal.τ).loc Cert.UoReferenceIdeal.main_arg1) = m' ((c.tc : Thread Cert.UoReferenceIdeal.nD Cert.UoReferenceIdeal.τ).loc Cert.UoReferenceIdeal.main_arg1)
          ∧ r.2.mem ((c.tc : Thread Cert.UoReferenceIdeal.nD Cert.UoReferenceIdeal.τ).loc Cert.UoReferenceIdeal.main_arg2) = m' ((c.tc : Thread Cert.UoReferenceIdeal.nD Cert.UoReferenceIdeal.τ).loc Cert.UoReferenceIdeal.main_arg2)
          ∧ r.2.mem ((c.tc : Thread Cert.UoReferenceIdeal.nD Cert.UoReferenceIdeal.τ).loc Cert.UoReferenceIdeal.main_arg3) = m' ((c.tc : Thread Cert.UoReferenceIdeal.nD Cert.UoReferenceIdeal.τ).loc Cert.UoReferenceIdeal.main_arg3)
          ∧ r.2.mem ((c.tc : Thread Cert.UoReferenceIdeal.nD Cert.UoReferenceIdeal.τ).loc Cert.UoReferenceIdeal.main_arg4) = m' ((c.tc : Thread Cert.UoReferenceIdeal.nD Cert.UoReferenceIdeal.τ).loc Cert.UoReferenceIdeal.main_arg4)
          ∧ r.2.mem ((c.tc : Thread Cert.UoReferenceIdeal.nD Cert.UoReferenceIdeal.τ).loc Cert.UoReferenceIdeal.main_arg5) = m' ((c.tc : Thread Cert.UoReferenceIdeal.nD Cert.UoReferenceIdeal.τ).loc Cert.UoReferenceIdeal.main_arg5))

def preserves_UfKernel_UfKernelIdeal : Prop :=
  True

def algebraic_UfKernelIdeal_UfReferenceIdeal [hUfKernelIdeal : Cert.UfKernelIdeal.Facts] [hUfReferenceIdeal : Cert.UfReferenceIdeal.Facts] : Prop :=
  ∀ (m : (ℓ : Loc Cert.UfKernelIdeal.nD Cert.UfKernelIdeal.τ Cert.UfKernelIdeal.sig) → Buf (Elt Ideal) ℓ) (g : Dev Cert.UfKernelIdeal.nD → PrngReg)
    (m' : (ℓ : Loc Cert.UfReferenceIdeal.nD Cert.UfReferenceIdeal.τ Cert.UfReferenceIdeal.sig) → Buf (Elt Ideal) ℓ) (g' : Dev Cert.UfReferenceIdeal.nD → PrngReg), Pre_UfKernelIdeal m →
    (∀ c : Dev Cert.UfKernelIdeal.nD,
      m' ((c.tc : Thread Cert.UfReferenceIdeal.nD Cert.UfReferenceIdeal.τ).loc Cert.UfReferenceIdeal.main_arg0) = m ((c.tc : Thread Cert.UfKernelIdeal.nD Cert.UfKernelIdeal.τ).loc Cert.UfKernelIdeal.main_arg0)
      ∧ m' ((c.tc : Thread Cert.UfReferenceIdeal.nD Cert.UfReferenceIdeal.τ).loc Cert.UfReferenceIdeal.main_arg1) = m ((c.tc : Thread Cert.UfKernelIdeal.nD Cert.UfKernelIdeal.τ).loc Cert.UfKernelIdeal.main_arg1)
      ∧ m' ((c.tc : Thread Cert.UfReferenceIdeal.nD Cert.UfReferenceIdeal.τ).loc Cert.UfReferenceIdeal.main_arg2) = m ((c.tc : Thread Cert.UfKernelIdeal.nD Cert.UfKernelIdeal.τ).loc Cert.UfKernelIdeal.main_arg2)
      ∧ m' ((c.tc : Thread Cert.UfReferenceIdeal.nD Cert.UfReferenceIdeal.τ).loc Cert.UfReferenceIdeal.main_arg3) = m ((c.tc : Thread Cert.UfKernelIdeal.nD Cert.UfKernelIdeal.τ).loc Cert.UfKernelIdeal.main_arg3)
      ∧ m' ((c.tc : Thread Cert.UfReferenceIdeal.nD Cert.UfReferenceIdeal.τ).loc Cert.UfReferenceIdeal.main_arg4) = m ((c.tc : Thread Cert.UfKernelIdeal.nD Cert.UfKernelIdeal.τ).loc Cert.UfKernelIdeal.main_arg4)
      ∧ m' ((c.tc : Thread Cert.UfReferenceIdeal.nD Cert.UfReferenceIdeal.τ).loc Cert.UfReferenceIdeal.main_arg5) = m ((c.tc : Thread Cert.UfKernelIdeal.nD Cert.UfKernelIdeal.τ).loc Cert.UfKernelIdeal.main_arg5)) →
    ∃ (v0 : (c : Dev Cert.UfKernelIdeal.nD) → Buf (Elt Ideal) ((c.tc : Thread Cert.UfKernelIdeal.nD Cert.UfKernelIdeal.τ).loc Cert.UfKernelIdeal.main_v0_0)) (v1 : (c : Dev Cert.UfKernelIdeal.nD) → Buf (Elt Ideal) ((c.tc : Thread Cert.UfKernelIdeal.nD Cert.UfKernelIdeal.τ).loc Cert.UfKernelIdeal.main_v0_1)) (v2 : (c : Dev Cert.UfKernelIdeal.nD) → Buf (Elt Ideal) ((c.tc : Thread Cert.UfKernelIdeal.nD Cert.UfKernelIdeal.τ).loc Cert.UfKernelIdeal.main_v0_2)) (v3 : (c : Dev Cert.UfKernelIdeal.nD) → Buf (Elt Ideal) ((c.tc : Thread Cert.UfKernelIdeal.nD Cert.UfKernelIdeal.τ).loc Cert.UfKernelIdeal.main_v0_3)),
      θ_run (Cert.UfKernelIdeal.defs (F := Ideal)) (onTc (τ := Cert.UfKernelIdeal.τ) (Cert.UfKernelIdeal.main (F := Ideal))) ⟨m, fun _ => 0, g⟩ (fun r => ∀ c : Dev Cert.UfKernelIdeal.nD,
          r.2.mem ((c.tc : Thread Cert.UfKernelIdeal.nD Cert.UfKernelIdeal.τ).loc Cert.UfKernelIdeal.main_v0_0) = v0 c
          ∧ r.2.mem ((c.tc : Thread Cert.UfKernelIdeal.nD Cert.UfKernelIdeal.τ).loc Cert.UfKernelIdeal.main_v0_1) = v1 c
          ∧ r.2.mem ((c.tc : Thread Cert.UfKernelIdeal.nD Cert.UfKernelIdeal.τ).loc Cert.UfKernelIdeal.main_v0_2) = v2 c
          ∧ r.2.mem ((c.tc : Thread Cert.UfKernelIdeal.nD Cert.UfKernelIdeal.τ).loc Cert.UfKernelIdeal.main_v0_3) = v3 c
          ∧ r.2.mem ((c.tc : Thread Cert.UfKernelIdeal.nD Cert.UfKernelIdeal.τ).loc Cert.UfKernelIdeal.main_arg0) = m ((c.tc : Thread Cert.UfKernelIdeal.nD Cert.UfKernelIdeal.τ).loc Cert.UfKernelIdeal.main_arg0)
          ∧ r.2.mem ((c.tc : Thread Cert.UfKernelIdeal.nD Cert.UfKernelIdeal.τ).loc Cert.UfKernelIdeal.main_arg1) = m ((c.tc : Thread Cert.UfKernelIdeal.nD Cert.UfKernelIdeal.τ).loc Cert.UfKernelIdeal.main_arg1)
          ∧ r.2.mem ((c.tc : Thread Cert.UfKernelIdeal.nD Cert.UfKernelIdeal.τ).loc Cert.UfKernelIdeal.main_arg2) = m ((c.tc : Thread Cert.UfKernelIdeal.nD Cert.UfKernelIdeal.τ).loc Cert.UfKernelIdeal.main_arg2)
          ∧ r.2.mem ((c.tc : Thread Cert.UfKernelIdeal.nD Cert.UfKernelIdeal.τ).loc Cert.UfKernelIdeal.main_arg3) = m ((c.tc : Thread Cert.UfKernelIdeal.nD Cert.UfKernelIdeal.τ).loc Cert.UfKernelIdeal.main_arg3)
          ∧ r.2.mem ((c.tc : Thread Cert.UfKernelIdeal.nD Cert.UfKernelIdeal.τ).loc Cert.UfKernelIdeal.main_arg4) = m ((c.tc : Thread Cert.UfKernelIdeal.nD Cert.UfKernelIdeal.τ).loc Cert.UfKernelIdeal.main_arg4)
          ∧ r.2.mem ((c.tc : Thread Cert.UfKernelIdeal.nD Cert.UfKernelIdeal.τ).loc Cert.UfKernelIdeal.main_arg5) = m ((c.tc : Thread Cert.UfKernelIdeal.nD Cert.UfKernelIdeal.τ).loc Cert.UfKernelIdeal.main_arg5))
      ∧ θ_run (Cert.UfReferenceIdeal.defs (F := Ideal)) (onTc (τ := Cert.UfReferenceIdeal.τ) (Cert.UfReferenceIdeal.main (F := Ideal))) ⟨m', fun _ => 0, g'⟩ (fun r => ∀ c : Dev Cert.UfReferenceIdeal.nD,
          r.2.mem ((c.tc : Thread Cert.UfReferenceIdeal.nD Cert.UfReferenceIdeal.τ).loc Cert.UfReferenceIdeal.main_v7) = v0 c
          ∧ r.2.mem ((c.tc : Thread Cert.UfReferenceIdeal.nD Cert.UfReferenceIdeal.τ).loc Cert.UfReferenceIdeal.main_v31) = v1 c
          ∧ r.2.mem ((c.tc : Thread Cert.UfReferenceIdeal.nD Cert.UfReferenceIdeal.τ).loc Cert.UfReferenceIdeal.main_v12) = v2 c
          ∧ r.2.mem ((c.tc : Thread Cert.UfReferenceIdeal.nD Cert.UfReferenceIdeal.τ).loc Cert.UfReferenceIdeal.main_v18) = v3 c
          ∧ r.2.mem ((c.tc : Thread Cert.UfReferenceIdeal.nD Cert.UfReferenceIdeal.τ).loc Cert.UfReferenceIdeal.main_arg0) = m' ((c.tc : Thread Cert.UfReferenceIdeal.nD Cert.UfReferenceIdeal.τ).loc Cert.UfReferenceIdeal.main_arg0)
          ∧ r.2.mem ((c.tc : Thread Cert.UfReferenceIdeal.nD Cert.UfReferenceIdeal.τ).loc Cert.UfReferenceIdeal.main_arg1) = m' ((c.tc : Thread Cert.UfReferenceIdeal.nD Cert.UfReferenceIdeal.τ).loc Cert.UfReferenceIdeal.main_arg1)
          ∧ r.2.mem ((c.tc : Thread Cert.UfReferenceIdeal.nD Cert.UfReferenceIdeal.τ).loc Cert.UfReferenceIdeal.main_arg2) = m' ((c.tc : Thread Cert.UfReferenceIdeal.nD Cert.UfReferenceIdeal.τ).loc Cert.UfReferenceIdeal.main_arg2)
          ∧ r.2.mem ((c.tc : Thread Cert.UfReferenceIdeal.nD Cert.UfReferenceIdeal.τ).loc Cert.UfReferenceIdeal.main_arg3) = m' ((c.tc : Thread Cert.UfReferenceIdeal.nD Cert.UfReferenceIdeal.τ).loc Cert.UfReferenceIdeal.main_arg3)
          ∧ r.2.mem ((c.tc : Thread Cert.UfReferenceIdeal.nD Cert.UfReferenceIdeal.τ).loc Cert.UfReferenceIdeal.main_arg4) = m' ((c.tc : Thread Cert.UfReferenceIdeal.nD Cert.UfReferenceIdeal.τ).loc Cert.UfReferenceIdeal.main_arg4)
          ∧ r.2.mem ((c.tc : Thread Cert.UfReferenceIdeal.nD Cert.UfReferenceIdeal.τ).loc Cert.UfReferenceIdeal.main_arg5) = m' ((c.tc : Thread Cert.UfReferenceIdeal.nD Cert.UfReferenceIdeal.τ).loc Cert.UfReferenceIdeal.main_arg5))

def preserves_UiKernel_UiKernelIdeal : Prop :=
  True

def algebraic_UiKernelIdeal_UiReferenceIdeal [hUiKernelIdeal : Cert.UiKernelIdeal.Facts] [hUiReferenceIdeal : Cert.UiReferenceIdeal.Facts] : Prop :=
  ∀ (m : (ℓ : Loc Cert.UiKernelIdeal.nD Cert.UiKernelIdeal.τ Cert.UiKernelIdeal.sig) → Buf (Elt Ideal) ℓ) (g : Dev Cert.UiKernelIdeal.nD → PrngReg)
    (m' : (ℓ : Loc Cert.UiReferenceIdeal.nD Cert.UiReferenceIdeal.τ Cert.UiReferenceIdeal.sig) → Buf (Elt Ideal) ℓ) (g' : Dev Cert.UiReferenceIdeal.nD → PrngReg), Pre_UiKernelIdeal m →
    (∀ c : Dev Cert.UiKernelIdeal.nD,
      m' ((c.tc : Thread Cert.UiReferenceIdeal.nD Cert.UiReferenceIdeal.τ).loc Cert.UiReferenceIdeal.main_arg0) = m ((c.tc : Thread Cert.UiKernelIdeal.nD Cert.UiKernelIdeal.τ).loc Cert.UiKernelIdeal.main_arg0)
      ∧ m' ((c.tc : Thread Cert.UiReferenceIdeal.nD Cert.UiReferenceIdeal.τ).loc Cert.UiReferenceIdeal.main_arg1) = m ((c.tc : Thread Cert.UiKernelIdeal.nD Cert.UiKernelIdeal.τ).loc Cert.UiKernelIdeal.main_arg1)
      ∧ m' ((c.tc : Thread Cert.UiReferenceIdeal.nD Cert.UiReferenceIdeal.τ).loc Cert.UiReferenceIdeal.main_arg2) = m ((c.tc : Thread Cert.UiKernelIdeal.nD Cert.UiKernelIdeal.τ).loc Cert.UiKernelIdeal.main_arg2)
      ∧ m' ((c.tc : Thread Cert.UiReferenceIdeal.nD Cert.UiReferenceIdeal.τ).loc Cert.UiReferenceIdeal.main_arg3) = m ((c.tc : Thread Cert.UiKernelIdeal.nD Cert.UiKernelIdeal.τ).loc Cert.UiKernelIdeal.main_arg3)
      ∧ m' ((c.tc : Thread Cert.UiReferenceIdeal.nD Cert.UiReferenceIdeal.τ).loc Cert.UiReferenceIdeal.main_arg4) = m ((c.tc : Thread Cert.UiKernelIdeal.nD Cert.UiKernelIdeal.τ).loc Cert.UiKernelIdeal.main_arg4)
      ∧ m' ((c.tc : Thread Cert.UiReferenceIdeal.nD Cert.UiReferenceIdeal.τ).loc Cert.UiReferenceIdeal.main_arg5) = m ((c.tc : Thread Cert.UiKernelIdeal.nD Cert.UiKernelIdeal.τ).loc Cert.UiKernelIdeal.main_arg5)) →
    ∃ (v0 : (c : Dev Cert.UiKernelIdeal.nD) → Buf (Elt Ideal) ((c.tc : Thread Cert.UiKernelIdeal.nD Cert.UiKernelIdeal.τ).loc Cert.UiKernelIdeal.main_v0_0)) (v1 : (c : Dev Cert.UiKernelIdeal.nD) → Buf (Elt Ideal) ((c.tc : Thread Cert.UiKernelIdeal.nD Cert.UiKernelIdeal.τ).loc Cert.UiKernelIdeal.main_v0_1)) (v2 : (c : Dev Cert.UiKernelIdeal.nD) → Buf (Elt Ideal) ((c.tc : Thread Cert.UiKernelIdeal.nD Cert.UiKernelIdeal.τ).loc Cert.UiKernelIdeal.main_v0_2)) (v3 : (c : Dev Cert.UiKernelIdeal.nD) → Buf (Elt Ideal) ((c.tc : Thread Cert.UiKernelIdeal.nD Cert.UiKernelIdeal.τ).loc Cert.UiKernelIdeal.main_v0_3)),
      θ_run (Cert.UiKernelIdeal.defs (F := Ideal)) (onTc (τ := Cert.UiKernelIdeal.τ) (Cert.UiKernelIdeal.main (F := Ideal))) ⟨m, fun _ => 0, g⟩ (fun r => ∀ c : Dev Cert.UiKernelIdeal.nD,
          r.2.mem ((c.tc : Thread Cert.UiKernelIdeal.nD Cert.UiKernelIdeal.τ).loc Cert.UiKernelIdeal.main_v0_0) = v0 c
          ∧ r.2.mem ((c.tc : Thread Cert.UiKernelIdeal.nD Cert.UiKernelIdeal.τ).loc Cert.UiKernelIdeal.main_v0_1) = v1 c
          ∧ r.2.mem ((c.tc : Thread Cert.UiKernelIdeal.nD Cert.UiKernelIdeal.τ).loc Cert.UiKernelIdeal.main_v0_2) = v2 c
          ∧ r.2.mem ((c.tc : Thread Cert.UiKernelIdeal.nD Cert.UiKernelIdeal.τ).loc Cert.UiKernelIdeal.main_v0_3) = v3 c
          ∧ r.2.mem ((c.tc : Thread Cert.UiKernelIdeal.nD Cert.UiKernelIdeal.τ).loc Cert.UiKernelIdeal.main_arg0) = m ((c.tc : Thread Cert.UiKernelIdeal.nD Cert.UiKernelIdeal.τ).loc Cert.UiKernelIdeal.main_arg0)
          ∧ r.2.mem ((c.tc : Thread Cert.UiKernelIdeal.nD Cert.UiKernelIdeal.τ).loc Cert.UiKernelIdeal.main_arg1) = m ((c.tc : Thread Cert.UiKernelIdeal.nD Cert.UiKernelIdeal.τ).loc Cert.UiKernelIdeal.main_arg1)
          ∧ r.2.mem ((c.tc : Thread Cert.UiKernelIdeal.nD Cert.UiKernelIdeal.τ).loc Cert.UiKernelIdeal.main_arg2) = m ((c.tc : Thread Cert.UiKernelIdeal.nD Cert.UiKernelIdeal.τ).loc Cert.UiKernelIdeal.main_arg2)
          ∧ r.2.mem ((c.tc : Thread Cert.UiKernelIdeal.nD Cert.UiKernelIdeal.τ).loc Cert.UiKernelIdeal.main_arg3) = m ((c.tc : Thread Cert.UiKernelIdeal.nD Cert.UiKernelIdeal.τ).loc Cert.UiKernelIdeal.main_arg3)
          ∧ r.2.mem ((c.tc : Thread Cert.UiKernelIdeal.nD Cert.UiKernelIdeal.τ).loc Cert.UiKernelIdeal.main_arg4) = m ((c.tc : Thread Cert.UiKernelIdeal.nD Cert.UiKernelIdeal.τ).loc Cert.UiKernelIdeal.main_arg4)
          ∧ r.2.mem ((c.tc : Thread Cert.UiKernelIdeal.nD Cert.UiKernelIdeal.τ).loc Cert.UiKernelIdeal.main_arg5) = m ((c.tc : Thread Cert.UiKernelIdeal.nD Cert.UiKernelIdeal.τ).loc Cert.UiKernelIdeal.main_arg5))
      ∧ θ_run (Cert.UiReferenceIdeal.defs (F := Ideal)) (onTc (τ := Cert.UiReferenceIdeal.τ) (Cert.UiReferenceIdeal.main (F := Ideal))) ⟨m', fun _ => 0, g'⟩ (fun r => ∀ c : Dev Cert.UiReferenceIdeal.nD,
          r.2.mem ((c.tc : Thread Cert.UiReferenceIdeal.nD Cert.UiReferenceIdeal.τ).loc Cert.UiReferenceIdeal.main_v6) = v0 c
          ∧ r.2.mem ((c.tc : Thread Cert.UiReferenceIdeal.nD Cert.UiReferenceIdeal.τ).loc Cert.UiReferenceIdeal.main_v30) = v1 c
          ∧ r.2.mem ((c.tc : Thread Cert.UiReferenceIdeal.nD Cert.UiReferenceIdeal.τ).loc Cert.UiReferenceIdeal.main_v11) = v2 c
          ∧ r.2.mem ((c.tc : Thread Cert.UiReferenceIdeal.nD Cert.UiReferenceIdeal.τ).loc Cert.UiReferenceIdeal.main_v17) = v3 c
          ∧ r.2.mem ((c.tc : Thread Cert.UiReferenceIdeal.nD Cert.UiReferenceIdeal.τ).loc Cert.UiReferenceIdeal.main_arg0) = m' ((c.tc : Thread Cert.UiReferenceIdeal.nD Cert.UiReferenceIdeal.τ).loc Cert.UiReferenceIdeal.main_arg0)
          ∧ r.2.mem ((c.tc : Thread Cert.UiReferenceIdeal.nD Cert.UiReferenceIdeal.τ).loc Cert.UiReferenceIdeal.main_arg1) = m' ((c.tc : Thread Cert.UiReferenceIdeal.nD Cert.UiReferenceIdeal.τ).loc Cert.UiReferenceIdeal.main_arg1)
          ∧ r.2.mem ((c.tc : Thread Cert.UiReferenceIdeal.nD Cert.UiReferenceIdeal.τ).loc Cert.UiReferenceIdeal.main_arg2) = m' ((c.tc : Thread Cert.UiReferenceIdeal.nD Cert.UiReferenceIdeal.τ).loc Cert.UiReferenceIdeal.main_arg2)
          ∧ r.2.mem ((c.tc : Thread Cert.UiReferenceIdeal.nD Cert.UiReferenceIdeal.τ).loc Cert.UiReferenceIdeal.main_arg3) = m' ((c.tc : Thread Cert.UiReferenceIdeal.nD Cert.UiReferenceIdeal.τ).loc Cert.UiReferenceIdeal.main_arg3)
          ∧ r.2.mem ((c.tc : Thread Cert.UiReferenceIdeal.nD Cert.UiReferenceIdeal.τ).loc Cert.UiReferenceIdeal.main_arg4) = m' ((c.tc : Thread Cert.UiReferenceIdeal.nD Cert.UiReferenceIdeal.τ).loc Cert.UiReferenceIdeal.main_arg4)
          ∧ r.2.mem ((c.tc : Thread Cert.UiReferenceIdeal.nD Cert.UiReferenceIdeal.τ).loc Cert.UiReferenceIdeal.main_arg5) = m' ((c.tc : Thread Cert.UiReferenceIdeal.nD Cert.UiReferenceIdeal.τ).loc Cert.UiReferenceIdeal.main_arg5))

def preserves_UxKernel_UxKernelIdeal : Prop :=
  True

def algebraic_UxKernelIdeal_UxReferenceIdeal [hUxKernelIdeal : Cert.UxKernelIdeal.Facts] [hUxReferenceIdeal : Cert.UxReferenceIdeal.Facts] : Prop :=
  ∀ (m : (ℓ : Loc Cert.UxKernelIdeal.nD Cert.UxKernelIdeal.τ Cert.UxKernelIdeal.sig) → Buf (Elt Ideal) ℓ) (g : Dev Cert.UxKernelIdeal.nD → PrngReg)
    (m' : (ℓ : Loc Cert.UxReferenceIdeal.nD Cert.UxReferenceIdeal.τ Cert.UxReferenceIdeal.sig) → Buf (Elt Ideal) ℓ) (g' : Dev Cert.UxReferenceIdeal.nD → PrngReg), Pre_UxKernelIdeal m →
    (∀ c : Dev Cert.UxKernelIdeal.nD,
      m' ((c.tc : Thread Cert.UxReferenceIdeal.nD Cert.UxReferenceIdeal.τ).loc Cert.UxReferenceIdeal.main_arg0) = m ((c.tc : Thread Cert.UxKernelIdeal.nD Cert.UxKernelIdeal.τ).loc Cert.UxKernelIdeal.main_arg0)
      ∧ m' ((c.tc : Thread Cert.UxReferenceIdeal.nD Cert.UxReferenceIdeal.τ).loc Cert.UxReferenceIdeal.main_arg1) = m ((c.tc : Thread Cert.UxKernelIdeal.nD Cert.UxKernelIdeal.τ).loc Cert.UxKernelIdeal.main_arg1)
      ∧ m' ((c.tc : Thread Cert.UxReferenceIdeal.nD Cert.UxReferenceIdeal.τ).loc Cert.UxReferenceIdeal.main_arg2) = m ((c.tc : Thread Cert.UxKernelIdeal.nD Cert.UxKernelIdeal.τ).loc Cert.UxKernelIdeal.main_arg2)
      ∧ m' ((c.tc : Thread Cert.UxReferenceIdeal.nD Cert.UxReferenceIdeal.τ).loc Cert.UxReferenceIdeal.main_arg3) = m ((c.tc : Thread Cert.UxKernelIdeal.nD Cert.UxKernelIdeal.τ).loc Cert.UxKernelIdeal.main_arg3)
      ∧ m' ((c.tc : Thread Cert.UxReferenceIdeal.nD Cert.UxReferenceIdeal.τ).loc Cert.UxReferenceIdeal.main_arg4) = m ((c.tc : Thread Cert.UxKernelIdeal.nD Cert.UxKernelIdeal.τ).loc Cert.UxKernelIdeal.main_arg4)
      ∧ m' ((c.tc : Thread Cert.UxReferenceIdeal.nD Cert.UxReferenceIdeal.τ).loc Cert.UxReferenceIdeal.main_arg5) = m ((c.tc : Thread Cert.UxKernelIdeal.nD Cert.UxKernelIdeal.τ).loc Cert.UxKernelIdeal.main_arg5)) →
    ∃ (v0 : (c : Dev Cert.UxKernelIdeal.nD) → Buf (Elt Ideal) ((c.tc : Thread Cert.UxKernelIdeal.nD Cert.UxKernelIdeal.τ).loc Cert.UxKernelIdeal.main_v0_0)) (v1 : (c : Dev Cert.UxKernelIdeal.nD) → Buf (Elt Ideal) ((c.tc : Thread Cert.UxKernelIdeal.nD Cert.UxKernelIdeal.τ).loc Cert.UxKernelIdeal.main_v0_1)) (v2 : (c : Dev Cert.UxKernelIdeal.nD) → Buf (Elt Ideal) ((c.tc : Thread Cert.UxKernelIdeal.nD Cert.UxKernelIdeal.τ).loc Cert.UxKernelIdeal.main_v0_2)) (v3 : (c : Dev Cert.UxKernelIdeal.nD) → Buf (Elt Ideal) ((c.tc : Thread Cert.UxKernelIdeal.nD Cert.UxKernelIdeal.τ).loc Cert.UxKernelIdeal.main_v0_3)),
      θ_run (Cert.UxKernelIdeal.defs (F := Ideal)) (onTc (τ := Cert.UxKernelIdeal.τ) (Cert.UxKernelIdeal.main (F := Ideal))) ⟨m, fun _ => 0, g⟩ (fun r => ∀ c : Dev Cert.UxKernelIdeal.nD,
          r.2.mem ((c.tc : Thread Cert.UxKernelIdeal.nD Cert.UxKernelIdeal.τ).loc Cert.UxKernelIdeal.main_v0_0) = v0 c
          ∧ r.2.mem ((c.tc : Thread Cert.UxKernelIdeal.nD Cert.UxKernelIdeal.τ).loc Cert.UxKernelIdeal.main_v0_1) = v1 c
          ∧ r.2.mem ((c.tc : Thread Cert.UxKernelIdeal.nD Cert.UxKernelIdeal.τ).loc Cert.UxKernelIdeal.main_v0_2) = v2 c
          ∧ r.2.mem ((c.tc : Thread Cert.UxKernelIdeal.nD Cert.UxKernelIdeal.τ).loc Cert.UxKernelIdeal.main_v0_3) = v3 c
          ∧ r.2.mem ((c.tc : Thread Cert.UxKernelIdeal.nD Cert.UxKernelIdeal.τ).loc Cert.UxKernelIdeal.main_arg0) = m ((c.tc : Thread Cert.UxKernelIdeal.nD Cert.UxKernelIdeal.τ).loc Cert.UxKernelIdeal.main_arg0)
          ∧ r.2.mem ((c.tc : Thread Cert.UxKernelIdeal.nD Cert.UxKernelIdeal.τ).loc Cert.UxKernelIdeal.main_arg1) = m ((c.tc : Thread Cert.UxKernelIdeal.nD Cert.UxKernelIdeal.τ).loc Cert.UxKernelIdeal.main_arg1)
          ∧ r.2.mem ((c.tc : Thread Cert.UxKernelIdeal.nD Cert.UxKernelIdeal.τ).loc Cert.UxKernelIdeal.main_arg2) = m ((c.tc : Thread Cert.UxKernelIdeal.nD Cert.UxKernelIdeal.τ).loc Cert.UxKernelIdeal.main_arg2)
          ∧ r.2.mem ((c.tc : Thread Cert.UxKernelIdeal.nD Cert.UxKernelIdeal.τ).loc Cert.UxKernelIdeal.main_arg3) = m ((c.tc : Thread Cert.UxKernelIdeal.nD Cert.UxKernelIdeal.τ).loc Cert.UxKernelIdeal.main_arg3)
          ∧ r.2.mem ((c.tc : Thread Cert.UxKernelIdeal.nD Cert.UxKernelIdeal.τ).loc Cert.UxKernelIdeal.main_arg4) = m ((c.tc : Thread Cert.UxKernelIdeal.nD Cert.UxKernelIdeal.τ).loc Cert.UxKernelIdeal.main_arg4)
          ∧ r.2.mem ((c.tc : Thread Cert.UxKernelIdeal.nD Cert.UxKernelIdeal.τ).loc Cert.UxKernelIdeal.main_arg5) = m ((c.tc : Thread Cert.UxKernelIdeal.nD Cert.UxKernelIdeal.τ).loc Cert.UxKernelIdeal.main_arg5))
      ∧ θ_run (Cert.UxReferenceIdeal.defs (F := Ideal)) (onTc (τ := Cert.UxReferenceIdeal.τ) (Cert.UxReferenceIdeal.main (F := Ideal))) ⟨m', fun _ => 0, g'⟩ (fun r => ∀ c : Dev Cert.UxReferenceIdeal.nD,
          r.2.mem ((c.tc : Thread Cert.UxReferenceIdeal.nD Cert.UxReferenceIdeal.τ).loc Cert.UxReferenceIdeal.main_v6) = v0 c
          ∧ r.2.mem ((c.tc : Thread Cert.UxReferenceIdeal.nD Cert.UxReferenceIdeal.τ).loc Cert.UxReferenceIdeal.main_v30) = v1 c
          ∧ r.2.mem ((c.tc : Thread Cert.UxReferenceIdeal.nD Cert.UxReferenceIdeal.τ).loc Cert.UxReferenceIdeal.main_v11) = v2 c
          ∧ r.2.mem ((c.tc : Thread Cert.UxReferenceIdeal.nD Cert.UxReferenceIdeal.τ).loc Cert.UxReferenceIdeal.main_v17) = v3 c
          ∧ r.2.mem ((c.tc : Thread Cert.UxReferenceIdeal.nD Cert.UxReferenceIdeal.τ).loc Cert.UxReferenceIdeal.main_arg0) = m' ((c.tc : Thread Cert.UxReferenceIdeal.nD Cert.UxReferenceIdeal.τ).loc Cert.UxReferenceIdeal.main_arg0)
          ∧ r.2.mem ((c.tc : Thread Cert.UxReferenceIdeal.nD Cert.UxReferenceIdeal.τ).loc Cert.UxReferenceIdeal.main_arg1) = m' ((c.tc : Thread Cert.UxReferenceIdeal.nD Cert.UxReferenceIdeal.τ).loc Cert.UxReferenceIdeal.main_arg1)
          ∧ r.2.mem ((c.tc : Thread Cert.UxReferenceIdeal.nD Cert.UxReferenceIdeal.τ).loc Cert.UxReferenceIdeal.main_arg2) = m' ((c.tc : Thread Cert.UxReferenceIdeal.nD Cert.UxReferenceIdeal.τ).loc Cert.UxReferenceIdeal.main_arg2)
          ∧ r.2.mem ((c.tc : Thread Cert.UxReferenceIdeal.nD Cert.UxReferenceIdeal.τ).loc Cert.UxReferenceIdeal.main_arg3) = m' ((c.tc : Thread Cert.UxReferenceIdeal.nD Cert.UxReferenceIdeal.τ).loc Cert.UxReferenceIdeal.main_arg3)
          ∧ r.2.mem ((c.tc : Thread Cert.UxReferenceIdeal.nD Cert.UxReferenceIdeal.τ).loc Cert.UxReferenceIdeal.main_arg4) = m' ((c.tc : Thread Cert.UxReferenceIdeal.nD Cert.UxReferenceIdeal.τ).loc Cert.UxReferenceIdeal.main_arg4)
          ∧ r.2.mem ((c.tc : Thread Cert.UxReferenceIdeal.nD Cert.UxReferenceIdeal.τ).loc Cert.UxReferenceIdeal.main_arg5) = m' ((c.tc : Thread Cert.UxReferenceIdeal.nD Cert.UxReferenceIdeal.τ).loc Cert.UxReferenceIdeal.main_arg5))

def Claim : Prop :=
  ∃ (hKernel : Cert.Kernel.Facts) (hKernelIdeal : Cert.KernelIdeal.Facts) (hReferenceIdeal : Cert.ReferenceIdeal.Facts) (hFiKernel : Cert.FiKernel.Facts) (hFiKernelIdeal : Cert.FiKernelIdeal.Facts) (hFiReferenceIdeal : Cert.FiReferenceIdeal.Facts) (hFoKernel : Cert.FoKernel.Facts) (hFoKernelIdeal : Cert.FoKernelIdeal.Facts) (hFoReferenceIdeal : Cert.FoReferenceIdeal.Facts) (hSwKernel : Cert.SwKernel.Facts) (hSwKernelIdeal : Cert.SwKernelIdeal.Facts) (hSwReferenceIdeal : Cert.SwReferenceIdeal.Facts) (hDhKernel : Cert.DhKernel.Facts) (hDhKernelIdeal : Cert.DhKernelIdeal.Facts) (hDhReferenceIdeal : Cert.DhReferenceIdeal.Facts) (hFwKernel : Cert.FwKernel.Facts) (hFwKernelIdeal : Cert.FwKernelIdeal.Facts) (hFwReferenceIdeal : Cert.FwReferenceIdeal.Facts) (hOuKernel : Cert.OuKernel.Facts) (hOuKernelIdeal : Cert.OuKernelIdeal.Facts) (hOuReferenceIdeal : Cert.OuReferenceIdeal.Facts) (hAoKernel : Cert.AoKernel.Facts) (hAoKernelIdeal : Cert.AoKernelIdeal.Facts) (hAoReferenceIdeal : Cert.AoReferenceIdeal.Facts) (hOlKernel : Cert.OlKernel.Facts) (hOlKernelIdeal : Cert.OlKernelIdeal.Facts) (hOlReferenceIdeal : Cert.OlReferenceIdeal.Facts) (hGoKernel : Cert.GoKernel.Facts) (hGoKernelIdeal : Cert.GoKernelIdeal.Facts) (hGoReferenceIdeal : Cert.GoReferenceIdeal.Facts) (hDaKernel : Cert.DaKernel.Facts) (hDaKernelIdeal : Cert.DaKernelIdeal.Facts) (hDaReferenceIdeal : Cert.DaReferenceIdeal.Facts) (hQeKernel : Cert.QeKernel.Facts) (hQeKernelIdeal : Cert.QeKernelIdeal.Facts) (hQeReferenceIdeal : Cert.QeReferenceIdeal.Facts) (hQoKernel : Cert.QoKernel.Facts) (hQoKernelIdeal : Cert.QoKernelIdeal.Facts) (hQoReferenceIdeal : Cert.QoReferenceIdeal.Facts) (hGqKernel : Cert.GqKernel.Facts) (hGqKernelIdeal : Cert.GqKernelIdeal.Facts) (hGqReferenceIdeal : Cert.GqReferenceIdeal.Facts) (hGnKernel : Cert.GnKernel.Facts) (hGnKernelIdeal : Cert.GnKernelIdeal.Facts) (hGnReferenceIdeal : Cert.GnReferenceIdeal.Facts) (hDqKernel : Cert.DqKernel.Facts) (hDqKernelIdeal : Cert.DqKernelIdeal.Facts) (hDqReferenceIdeal : Cert.DqReferenceIdeal.Facts) (hDnKernel : Cert.DnKernel.Facts) (hDnKernelIdeal : Cert.DnKernelIdeal.Facts) (hDnReferenceIdeal : Cert.DnReferenceIdeal.Facts) (hUsKernel : Cert.UsKernel.Facts) (hUsKernelIdeal : Cert.UsKernelIdeal.Facts) (hUsReferenceIdeal : Cert.UsReferenceIdeal.Facts) (hUqKernel : Cert.UqKernel.Facts) (hUqKernelIdeal : Cert.UqKernelIdeal.Facts) (hUqReferenceIdeal : Cert.UqReferenceIdeal.Facts) (hUoKernel : Cert.UoKernel.Facts) (hUoKernelIdeal : Cert.UoKernelIdeal.Facts) (hUoReferenceIdeal : Cert.UoReferenceIdeal.Facts) (hUfKernel : Cert.UfKernel.Facts) (hUfKernelIdeal : Cert.UfKernelIdeal.Facts) (hUfReferenceIdeal : Cert.UfReferenceIdeal.Facts) (hUiKernel : Cert.UiKernel.Facts) (hUiKernelIdeal : Cert.UiKernelIdeal.Facts) (hUiReferenceIdeal : Cert.UiReferenceIdeal.Facts) (hUxKernel : Cert.UxKernel.Facts) (hUxKernelIdeal : Cert.UxKernelIdeal.Facts) (hUxReferenceIdeal : Cert.UxReferenceIdeal.Facts) (hPre_finite : Cert.Pre_finite.Facts) (hPre_sw_finite : Cert.Pre_sw_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FiKernel (hFiKernel := hFiKernel)
    ∧ quiescent_FiKernelIdeal (hFiKernelIdeal := hFiKernelIdeal)
    ∧ quiescent_FiReferenceIdeal (hFiReferenceIdeal := hFiReferenceIdeal)
    ∧ quiescent_FoKernel (hFoKernel := hFoKernel)
    ∧ quiescent_FoKernelIdeal (hFoKernelIdeal := hFoKernelIdeal)
    ∧ quiescent_FoReferenceIdeal (hFoReferenceIdeal := hFoReferenceIdeal)
    ∧ quiescent_SwKernel (hSwKernel := hSwKernel)
    ∧ quiescent_SwKernelIdeal (hSwKernelIdeal := hSwKernelIdeal)
    ∧ quiescent_SwKernelIdeal_pre_sw_finite (hSwKernelIdeal := hSwKernelIdeal) (hPre_sw_finite := hPre_sw_finite)
    ∧ quiescent_SwReferenceIdeal (hSwReferenceIdeal := hSwReferenceIdeal)
    ∧ quiescent_SwReferenceIdeal_pre_sw_finite (hSwReferenceIdeal := hSwReferenceIdeal) (hPre_sw_finite := hPre_sw_finite)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_FwKernel (hFwKernel := hFwKernel)
    ∧ quiescent_FwKernelIdeal (hFwKernelIdeal := hFwKernelIdeal)
    ∧ quiescent_FwReferenceIdeal (hFwReferenceIdeal := hFwReferenceIdeal)
    ∧ quiescent_OuKernel (hOuKernel := hOuKernel)
    ∧ quiescent_OuKernelIdeal (hOuKernelIdeal := hOuKernelIdeal)
    ∧ quiescent_OuReferenceIdeal (hOuReferenceIdeal := hOuReferenceIdeal)
    ∧ quiescent_AoKernel (hAoKernel := hAoKernel)
    ∧ quiescent_AoKernelIdeal (hAoKernelIdeal := hAoKernelIdeal)
    ∧ quiescent_AoReferenceIdeal (hAoReferenceIdeal := hAoReferenceIdeal)
    ∧ quiescent_OlKernel (hOlKernel := hOlKernel)
    ∧ quiescent_OlKernelIdeal (hOlKernelIdeal := hOlKernelIdeal)
    ∧ quiescent_OlReferenceIdeal (hOlReferenceIdeal := hOlReferenceIdeal)
    ∧ quiescent_GoKernel (hGoKernel := hGoKernel)
    ∧ quiescent_GoKernelIdeal (hGoKernelIdeal := hGoKernelIdeal)
    ∧ quiescent_GoReferenceIdeal (hGoReferenceIdeal := hGoReferenceIdeal)
    ∧ quiescent_DaKernel (hDaKernel := hDaKernel)
    ∧ quiescent_DaKernelIdeal (hDaKernelIdeal := hDaKernelIdeal)
    ∧ quiescent_DaReferenceIdeal (hDaReferenceIdeal := hDaReferenceIdeal)
    ∧ quiescent_QeKernel (hQeKernel := hQeKernel)
    ∧ quiescent_QeKernelIdeal (hQeKernelIdeal := hQeKernelIdeal)
    ∧ quiescent_QeReferenceIdeal (hQeReferenceIdeal := hQeReferenceIdeal)
    ∧ quiescent_QoKernel (hQoKernel := hQoKernel)
    ∧ quiescent_QoKernelIdeal (hQoKernelIdeal := hQoKernelIdeal)
    ∧ quiescent_QoReferenceIdeal (hQoReferenceIdeal := hQoReferenceIdeal)
    ∧ quiescent_GqKernel (hGqKernel := hGqKernel)
    ∧ quiescent_GqKernelIdeal (hGqKernelIdeal := hGqKernelIdeal)
    ∧ quiescent_GqReferenceIdeal (hGqReferenceIdeal := hGqReferenceIdeal)
    ∧ quiescent_GnKernel (hGnKernel := hGnKernel)
    ∧ quiescent_GnKernelIdeal (hGnKernelIdeal := hGnKernelIdeal)
    ∧ quiescent_GnReferenceIdeal (hGnReferenceIdeal := hGnReferenceIdeal)
    ∧ quiescent_DqKernel (hDqKernel := hDqKernel)
    ∧ quiescent_DqKernelIdeal (hDqKernelIdeal := hDqKernelIdeal)
    ∧ quiescent_DqReferenceIdeal (hDqReferenceIdeal := hDqReferenceIdeal)
    ∧ quiescent_DnKernel (hDnKernel := hDnKernel)
    ∧ quiescent_DnKernelIdeal (hDnKernelIdeal := hDnKernelIdeal)
    ∧ quiescent_DnReferenceIdeal (hDnReferenceIdeal := hDnReferenceIdeal)
    ∧ quiescent_UsKernel (hUsKernel := hUsKernel)
    ∧ quiescent_UsKernelIdeal (hUsKernelIdeal := hUsKernelIdeal)
    ∧ quiescent_UsReferenceIdeal (hUsReferenceIdeal := hUsReferenceIdeal)
    ∧ quiescent_UqKernel (hUqKernel := hUqKernel)
    ∧ quiescent_UqKernelIdeal (hUqKernelIdeal := hUqKernelIdeal)
    ∧ quiescent_UqReferenceIdeal (hUqReferenceIdeal := hUqReferenceIdeal)
    ∧ quiescent_UoKernel (hUoKernel := hUoKernel)
    ∧ quiescent_UoKernelIdeal (hUoKernelIdeal := hUoKernelIdeal)
    ∧ quiescent_UoReferenceIdeal (hUoReferenceIdeal := hUoReferenceIdeal)
    ∧ quiescent_UfKernel (hUfKernel := hUfKernel)
    ∧ quiescent_UfKernelIdeal (hUfKernelIdeal := hUfKernelIdeal)
    ∧ quiescent_UfReferenceIdeal (hUfReferenceIdeal := hUfReferenceIdeal)
    ∧ quiescent_UiKernel (hUiKernel := hUiKernel)
    ∧ quiescent_UiKernelIdeal (hUiKernelIdeal := hUiKernelIdeal)
    ∧ quiescent_UiReferenceIdeal (hUiReferenceIdeal := hUiReferenceIdeal)
    ∧ quiescent_UxKernel (hUxKernel := hUxKernel)
    ∧ quiescent_UxKernelIdeal (hUxKernelIdeal := hUxKernelIdeal)
    ∧ quiescent_UxReferenceIdeal (hUxReferenceIdeal := hUxReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FiKernel_FiKernelIdeal
    ∧ algebraic_FiKernelIdeal_FiReferenceIdeal (hFiKernelIdeal := hFiKernelIdeal) (hFiReferenceIdeal := hFiReferenceIdeal)
    ∧ preserves_FoKernel_FoKernelIdeal
    ∧ algebraic_FoKernelIdeal_FoReferenceIdeal (hFoKernelIdeal := hFoKernelIdeal) (hFoReferenceIdeal := hFoReferenceIdeal)
    ∧ preserves_SwKernel_SwKernelIdeal
    ∧ algebraic_SwKernelIdeal_SwReferenceIdeal_pre_sw_finite (hSwKernelIdeal := hSwKernelIdeal) (hSwReferenceIdeal := hSwReferenceIdeal) (hPre_sw_finite := hPre_sw_finite)
    ∧ preserves_DhKernel_DhKernelIdeal
    ∧ algebraic_DhKernelIdeal_DhReferenceIdeal (hDhKernelIdeal := hDhKernelIdeal) (hDhReferenceIdeal := hDhReferenceIdeal)
    ∧ preserves_FwKernel_FwKernelIdeal
    ∧ algebraic_FwKernelIdeal_FwReferenceIdeal (hFwKernelIdeal := hFwKernelIdeal) (hFwReferenceIdeal := hFwReferenceIdeal)
    ∧ preserves_OuKernel_OuKernelIdeal
    ∧ algebraic_OuKernelIdeal_OuReferenceIdeal (hOuKernelIdeal := hOuKernelIdeal) (hOuReferenceIdeal := hOuReferenceIdeal)
    ∧ preserves_AoKernel_AoKernelIdeal
    ∧ algebraic_AoKernelIdeal_AoReferenceIdeal (hAoKernelIdeal := hAoKernelIdeal) (hAoReferenceIdeal := hAoReferenceIdeal)
    ∧ preserves_OlKernel_OlKernelIdeal
    ∧ algebraic_OlKernelIdeal_OlReferenceIdeal (hOlKernelIdeal := hOlKernelIdeal) (hOlReferenceIdeal := hOlReferenceIdeal)
    ∧ preserves_GoKernel_GoKernelIdeal
    ∧ algebraic_GoKernelIdeal_GoReferenceIdeal (hGoKernelIdeal := hGoKernelIdeal) (hGoReferenceIdeal := hGoReferenceIdeal)
    ∧ preserves_DaKernel_DaKernelIdeal
    ∧ algebraic_DaKernelIdeal_DaReferenceIdeal (hDaKernelIdeal := hDaKernelIdeal) (hDaReferenceIdeal := hDaReferenceIdeal)
    ∧ preserves_QeKernel_QeKernelIdeal
    ∧ algebraic_QeKernelIdeal_QeReferenceIdeal (hQeKernelIdeal := hQeKernelIdeal) (hQeReferenceIdeal := hQeReferenceIdeal)
    ∧ preserves_QoKernel_QoKernelIdeal
    ∧ algebraic_QoKernelIdeal_QoReferenceIdeal (hQoKernelIdeal := hQoKernelIdeal) (hQoReferenceIdeal := hQoReferenceIdeal)
    ∧ preserves_GqKernel_GqKernelIdeal
    ∧ algebraic_GqKernelIdeal_GqReferenceIdeal (hGqKernelIdeal := hGqKernelIdeal) (hGqReferenceIdeal := hGqReferenceIdeal)
    ∧ preserves_GnKernel_GnKernelIdeal
    ∧ algebraic_GnKernelIdeal_GnReferenceIdeal (hGnKernelIdeal := hGnKernelIdeal) (hGnReferenceIdeal := hGnReferenceIdeal)
    ∧ preserves_DqKernel_DqKernelIdeal
    ∧ algebraic_DqKernelIdeal_DqReferenceIdeal (hDqKernelIdeal := hDqKernelIdeal) (hDqReferenceIdeal := hDqReferenceIdeal)
    ∧ preserves_DnKernel_DnKernelIdeal
    ∧ algebraic_DnKernelIdeal_DnReferenceIdeal (hDnKernelIdeal := hDnKernelIdeal) (hDnReferenceIdeal := hDnReferenceIdeal)
    ∧ preserves_UsKernel_UsKernelIdeal
    ∧ algebraic_UsKernelIdeal_UsReferenceIdeal (hUsKernelIdeal := hUsKernelIdeal) (hUsReferenceIdeal := hUsReferenceIdeal)
    ∧ preserves_UqKernel_UqKernelIdeal
    ∧ algebraic_UqKernelIdeal_UqReferenceIdeal (hUqKernelIdeal := hUqKernelIdeal) (hUqReferenceIdeal := hUqReferenceIdeal)
    ∧ preserves_UoKernel_UoKernelIdeal
    ∧ algebraic_UoKernelIdeal_UoReferenceIdeal (hUoKernelIdeal := hUoKernelIdeal) (hUoReferenceIdeal := hUoReferenceIdeal)
    ∧ preserves_UfKernel_UfKernelIdeal
    ∧ algebraic_UfKernelIdeal_UfReferenceIdeal (hUfKernelIdeal := hUfKernelIdeal) (hUfReferenceIdeal := hUfReferenceIdeal)
    ∧ preserves_UiKernel_UiKernelIdeal
    ∧ algebraic_UiKernelIdeal_UiReferenceIdeal (hUiKernelIdeal := hUiKernelIdeal) (hUiReferenceIdeal := hUiReferenceIdeal)
    ∧ preserves_UxKernel_UxKernelIdeal
    ∧ algebraic_UxKernelIdeal_UxReferenceIdeal (hUxKernelIdeal := hUxKernelIdeal) (hUxReferenceIdeal := hUxReferenceIdeal)
-- ==== Pre_finite.lean ====
abbrev S2048x3072 : Shape := ⟨2, ![2048, 3072]⟩
abbrev S2048x1024 : Shape := ⟨2, ![2048, 1024]⟩
abbrev S2048x512 : Shape := ⟨2, ![2048, 512]⟩
abbrev S_ : Shape := ⟨0, ![]⟩

class Facts : Prop where
  bitsLt_bf16_f32 : FTy.bits .bf16 < FTy.bits .f32
  slices_S2048x3072_S2048x512_0_0 : S2048x3072.Slices ![0, 0] S2048x512
  bcast_S_S2048x512 : S_.BroadcastsInDim S2048x512 (![] : Fin 0 → Fin S2048x512.rank)
  slices_S2048x3072_S2048x512_0_1024 : S2048x3072.Slices ![0, 1024] S2048x512
  slices_S2048x3072_S2048x512_0_2048 : S2048x3072.Slices ![0, 2048] S2048x512
  slices_S2048x1024_S2048x512_0_0 : S2048x1024.Slices ![0, 0] S2048x512

variable [Facts]

def fn {F : FTy → Type} [FloatOps F] (main_arg0 : FVec F S2048x3072 .bf16) (main_arg1 : FVec F S2048x1024 .f32) : IVec S2048x512 1 :=
  let main_v0 : FVec F S2048x3072 .f32 := (extf .f32 · bitsLt_bf16_f32) main_arg0
  let main_v1 : FVec F S2048x512 .f32 := (extractStridedSlice S2048x512 ![0, 0] · slices_S2048x3072_S2048x512_0_0) main_v0
  let main_v2 : FVec F S2048x512 .f32 := Host.absf main_v1
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_v5 : FVec F S2048x512 .f32 := (extractStridedSlice S2048x512 ![0, 1024] · slices_S2048x3072_S2048x512_0_1024) main_v0
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_v9 : IVec S2048x512 1 := andi main_v4 main_v8
  let main_v10 : FVec F S2048x512 .f32 := (extractStridedSlice S2048x512 ![0, 2048] · slices_S2048x3072_S2048x512_0_2048) main_v0
  let main_v11 : FVec F S2048x512 .f32 := Host.absf main_v10
  let main_cst_1 : FVec F S_ .f32 := constant S_ .f32 0x7F800000#32
  let main_v12 : FVec F S2048x512 .f32 := broadcastInDim S2048x512 ![] bcast_S_S2048x512 main_cst_1
  let main_v13 : IVec S2048x512 1 := cmpf .olt main_v11 main_v12
  let main_v14 : IVec S2048x512 1 := andi main_v9 main_v13
  let main_v15 : FVec F S2048x512 .f32 := (extractStridedSlice S2048x512 ![0, 0] · slices_S2048x1024_S2048x512_0_0) main_arg1
  let main_v16 : FVec F S2048x512 .f32 := Host.absf main_v15
  let main_cst_2 : FVec F S_ .f32 := constant S_ .f32 0x7F800000#32
  let main_v17 : FVec F S2048x512 .f32 := broadcastInDim S2048x512 ![] bcast_S_S2048x512 main_cst_2
  let main_v18 : IVec S2048x512 1 := cmpf .olt main_v16 main_v17
  let main_v19 : IVec S2048x512 1 := andi main_v14 main_v18
  main_v19
-- ==== Pre_sw_finite.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2816 : Shape := ⟨1, ![2816]⟩
abbrev S1x2816 : Shape := ⟨2, ![1, 2816]⟩

class Facts : Prop where
  bitsLt_bf16_f32 : FTy.bits .bf16 < FTy.bits .f32
  bcast_S_S2048x2816 : S_.BroadcastsInDim S2048x2816 (![] : Fin 0 → Fin S2048x2816.rank)
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2816_0_1 : S2048x1.BroadcastsInDim S2048x2816 (![0, 1] : Fin 2 → Fin S2048x2816.rank)
  reducesTo_S2816x1024_S2816_d1 : S2816x1024.ReducesTo [1] S2816
  bcast_S2816_S1x2816_1 : S2816.BroadcastsInDim S1x2816 (![1] : Fin 1 → Fin S1x2816.rank)
  bcast_S_S1x2816 : S_.BroadcastsInDim S1x2816 (![] : Fin 0 → Fin S1x2816.rank)
  bcast_S1x2816_S2048x2816_0_1 : S1x2816.BroadcastsInDim S2048x2816 (![0, 1] : Fin 2 → Fin S2048x2816.rank)

variable [Facts]

def fn {F : FTy → Type} [FloatOps F] (main_arg0 : FVec F S2048x2816 .bf16) (main_arg1 : FVec F S2048x2816 .bf16) (main_arg2 : FVec F S2816x1024 .f32) (main_arg3 : FVec F S2048x1024 .f32) : IVec S2048x2816 1 :=
  let main_v0 : FVec F S2048x2816 .f32 := (extf .f32 · bitsLt_bf16_f32) main_arg1
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_v4 : FVec F S2048x1024 .f32 := Host.absf main_arg3
  let main_cst_0 : FVec F S_ .f32 := constant S_ .f32 0xFF800000#32
  let main_v5 : FVec F S2048 .f32 := (fun x v => Host.reduce FloatOps.maximumf x v reducesTo_S2048x1024_S2048_d1 h_S_) main_v4 main_cst_0
  let main_v6 : FVec F S2048x1 .f32 := broadcastInDim S2048x1 ![0] bcast_S2048_S2048x1_0 main_v5
  let main_cst_1 : FVec F S_ .f32 := constant S_ .f32 0x7F800000#32
  let main_v7 : FVec F S2048x1 .f32 := broadcastInDim S2048x1 ![] bcast_S_S2048x1 main_cst_1
  let main_v8 : IVec S2048x1 1 := cmpf .olt main_v6 main_v7
  let main_v9 : IVec S2048x2816 1 := broadcastInDim S2048x2816 ![0, 1] bcast_S2048x1_S2048x2816_0_1 main_v8
  let main_v10 : IVec S2048x2816 1 := andi main_v3 main_v9
  let main_v11 : FVec F S2816x1024 .f32 := Host.absf main_arg2
  let main_cst_2 : FVec F S_ .f32 := constant S_ .f32 0xFF800000#32
  let main_v12 : FVec F S2816 .f32 := (fun x v => Host.reduce FloatOps.maximumf x v reducesTo_S2816x1024_S2816_d1 h_S_) main_v11 main_cst_2
  let main_v13 : FVec F S1x2816 .f32 := broadcastInDim S1x2816 ![1] bcast_S2816_S1x2816_1 main_v12
  let main_cst_3 : FVec F S_ .f32 := constant S_ .f32 0x7F800000#32
  let main_v14 : FVec F S1x2816 .f32 := broadcastInDim S1x2816 ![] bcast_S_S1x2816 main_cst_3
  let main_v15 : IVec S1x2816 1 := cmpf .olt main_v13 main_v14
  let main_v16 : IVec S2048x2816 1 := broadcastInDim S2048x2816 ![0, 1] bcast_S1x2816_S2048x2816_0_1 main_v15
  let main_v17 : IVec S2048x2816 1 := andi main_v10 main_v16
  main_v17
-- ==== Kernel.lean ====
abbrev S2048x3072 : Shape := ⟨2, ![2048, 3072]⟩
abbrev S2048x1024 : Shape := ⟨2, ![2048, 1024]⟩
abbrev S2048x512 : Shape := ⟨2, ![2048, 512]⟩
abbrev S2048x8x64 : Shape := ⟨3, ![2048, 8, 64]⟩
abbrev S8x2048x64 : Shape := ⟨3, ![8, 2048, 64]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x2048x128 : Shape := ⟨3, ![8, 2048, 128]⟩
abbrev S512x128 : Shape := ⟨2, ![512, 128]⟩
abbrev S2048x128 : Shape := ⟨2, ![2048, 128]⟩
abbrev S2x512x128 : Shape := ⟨3, ![2, 512, 128]⟩
abbrev S512x512 : Shape := ⟨2, ![512, 512]⟩
abbrev S128x128 : Shape := ⟨2, ![128, 128]⟩
abbrev S1x512x128 : Shape := ⟨3, ![1, 512, 128]⟩
abbrev S512x1 : Shape := ⟨2, ![512, 1]⟩
abbrev S4096x128 : Shape := ⟨2, ![4096, 128]⟩
abbrev S512 : Shape := ⟨1, ![512]⟩

abbrev nBuf : Space → Nat
  | .hbm => 48
  | .vmem => 18
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S2048x3072, .f32⟩
  | .hbm, ⟨3, _⟩ => ⟨S2048x512, .f32⟩
  | .hbm, ⟨4, _⟩ => ⟨S2048x8x64, .f32⟩
  | .hbm, ⟨5, _⟩ => ⟨S8x2048x64, .f32⟩
  | .hbm, ⟨6, _⟩ => ⟨S2048x512, .f32⟩
  | .hbm, ⟨7, _⟩ => ⟨S2048x8x64, .f32⟩
  | .hbm, ⟨8, _⟩ => ⟨S8x2048x64, .f32⟩
  | .hbm, ⟨9, _⟩ => ⟨S_, .f32⟩
  | .hbm, ⟨10, _⟩ => ⟨S8x2048x64, .f32⟩
  | .hbm, ⟨11, _⟩ => ⟨S8x2048x64, .f32⟩
  | .hbm, ⟨12, _⟩ => ⟨S8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S8x2048x2048, .i1⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x128, .f32⟩
  | .hbm, ⟨45, _⟩ => ⟨S2048x512, .bf16⟩
  | .hbm, ⟨46, _⟩ => ⟨S2048x512, .bf16⟩
  | .hbm, ⟨47, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v89 : BitVec 32 := Scalar.subi v41 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_40 : BitVec 32 := 1#32
  ⟨c0_i32_38, v93, c1_i32_40⟩
def k0_mult1 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c512_i32_49 : BitVec 32 := 512#32
  let v111 : BitVec 32 := Scalar.muli arg12 c512_i32_49
  v111
def k0_off1 (i : grid0.Coords) (k0_t1 : Fin (k0_t1_loop i).trips) : Fin 2 → Nat :=
  let c0_i32_38 : BitVec 32 := 0#32
  let c1_i32_40 : BitVec 32 := 1#32
  let arg12 : BitVec 32 := Scf.iv c0_i32_38 c1_i32_40 k0_t1
  let c512_i32_49 : BitVec 32 := 512#32
  let v111 : BitVec 32 := Scalar.muli arg12 c512_i32_49
  let v112 : BitVec 32 := v111
  let v113 : Index := Scalar.indexCast v112
  let c0_50 : Index := 0#32
  ![v113.toNat, 0]
@[reducible] def k0_t2_loop (i : grid0.Coords) : Scf.Loop 32 :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v89 : BitVec 32 := Scalar.subi v41 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let v90 : BitVec 32 := Scalar.addi c0_i32_38 v89
  let c1_i32_41 : BitVec 32 := 1#32
  ⟨v93, v90, c1_i32_41⟩
def k0_mult2 (i : grid0.Coords) (k0_t2 : Fin (k0_t2_loop i).trips) : BitVec 32 :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v89 : BitVec 32 := Scalar.subi v41 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_49 : BitVec 32 := 512#32
  let v111 : BitVec 32 := Scalar.muli arg12 c512_i32_49
  v111
def k0_off2 (i : grid0.Coords) (k0_t2 : Fin (k0_t2_loop i).trips) : Fin 2 → Nat :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v89 : BitVec 32 := Scalar.subi v41 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_49 : BitVec 32 := 512#32
  let v111 : BitVec 32 := Scalar.muli arg12 c512_i32_49
  let v112 : BitVec 32 := v111
  let v113 : Index := Scalar.indexCast v112
  let c0_50 : Index := 0#32
  ![v113.toNat, 0]
@[reducible] def k0_t3_loop (i : grid0.Coords) : Scf.Loop 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v96 : BitVec 32 := Scalar.subi v23 v41
  let c1_i32_42 : BitVec 32 := 1#32
  let v98 : BitVec 32 := Scalar.divsi v96 c1_i32_42
  let v99 : BitVec 32 := Scalar.muli v98 c1_i32_42
  let v100 : BitVec 32 := Scalar.addi v41 v99
  let c1_i32_43 : BitVec 32 := 1#32
  ⟨v41, v100, c1_i32_43⟩
def k0_mult3 (i : grid0.Coords) (k0_t3 : Fin (k0_t3_loop i).trips) : BitVec 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_43 : BitVec 32 := 1#32
  let arg12 : BitVec 32 := Scf.iv v41 c1_i32_43 k0_t3
  let c512_i32_49 : BitVec 32 := 512#32
  let v111 : BitVec 32 := Scalar.muli arg12 c512_i32_49
  v111
def k0_off3 (i : grid0.Coords) (k0_t3 : Fin (k0_t3_loop i).trips) : Fin 2 → Nat :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_43 : BitVec 32 := 1#32
  let arg12 : BitVec 32 := Scf.iv v41 c1_i32_43 k0_t3
  let c512_i32_49 : BitVec 32 := 512#32
  let v111 : BitVec 32 := Scalar.muli arg12 c512_i32_49
  let v112 : BitVec 32 := v111
  let v113 : Index := Scalar.indexCast v112
  let c0_50 : Index := 0#32
  ![v113.toNat, 0]
@[reducible] def k0_t4_loop (i : grid0.Coords) : Scf.Loop 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v96 : BitVec 32 := Scalar.subi v23 v41
  let c1_i32_42 : BitVec 32 := 1#32
  let v98 : BitVec 32 := Scalar.divsi v96 c1_i32_42
  let v99 : BitVec 32 := Scalar.muli v98 c1_i32_42
  let v100 : BitVec 32 := Scalar.addi v41 v99
  let v97 : BitVec 32 := Scalar.addi v41 v96
  let c1_i32_44 : BitVec 32 := 1#32
  ⟨v100, v97, c1_i32_44⟩
def k0_mult4 (i : grid0.Coords) (k0_t4 : Fin (k0_t4_loop i).trips) : BitVec 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v96 : BitVec 32 := Scalar.subi v23 v41
  let c1_i32_42 : BitVec 32 := 1#32
  let v98 : BitVec 32 := Scalar.divsi v96 c1_i32_42
  let v99 : BitVec 32 := Scalar.muli v98 c1_i32_42
  let v100 : BitVec 32 := Scalar.addi v41 v99
  let c1_i32_44 : BitVec 32 := 1#32
  let arg12 : BitVec 32 := Scf.iv v100 c1_i32_44 k0_t4
  let c512_i32_49 : BitVec 32 := 512#32
  let v111 : BitVec 32 := Scalar.muli arg12 c512_i32_49
  v111
def k0_off4 (i : grid0.Coords) (k0_t4 : Fin (k0_t4_loop i).trips) : Fin 2 → Nat :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v96 : BitVec 32 := Scalar.subi v23 v41
  let c1_i32_42 : BitVec 32 := 1#32
  let v98 : BitVec 32 := Scalar.divsi v96 c1_i32_42
  let v99 : BitVec 32 := Scalar.muli v98 c1_i32_42
  let v100 : BitVec 32 := Scalar.addi v41 v99
  let c1_i32_44 : BitVec 32 := 1#32
  let arg12 : BitVec 32 := Scf.iv v100 c1_i32_44 k0_t4
  let c512_i32_49 : BitVec 32 := 512#32
  let v111 : BitVec 32 := Scalar.muli arg12 c512_i32_49
  let v112 : BitVec 32 := v111
  let v113 : Index := Scalar.indexCast v112
  let c0_50 : Index := 0#32
  ![v113.toNat, 0]
def k0_cond2 (i : grid0.Coords) : BitVec 1 :=
  let arg1 : BitVec 32 := BitVec.ofNat 32 (i 1).val
  let c3_i32 : BitVec 32 := 3#32
  let v108 : BitVec 1 := Scalar.cmpi .eq arg1 c3_i32
  let v109 : BitVec 32 := Scalar.extui v108
  let c0_i32_48 : BitVec 32 := 0#32
  let v110 : BitVec 1 := Scalar.cmpi .ne v109 c0_i32_48
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x3072 : Shape := ⟨2, ![2048, 3072]⟩
abbrev S2048x1024 : Shape := ⟨2, ![2048, 1024]⟩
abbrev S2048x512 : Shape := ⟨2, ![2048, 512]⟩
abbrev S_ : Shape := ⟨0, ![]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩

abbrev nBuf : Space → Nat
  | .hbm => 182
  | .vmem => 0
  | .smem => 0
  | _ => 0

abbrev hbmTy0_0 (i : Nat) : BufTy := match i % 128 with
  | 0 => ⟨S2048x3072, .bf16⟩
  | 1 => ⟨S2048x1024, .f32⟩
  | 2 => ⟨S2048x3072, .f32⟩
  | 3 => ⟨S2048x512, .f32⟩
  | 4 => ⟨S2048x512, .f32⟩
  | 5 => ⟨S2048x512, .f32⟩
  | 6 => ⟨S_, .f32⟩
  | 7 => ⟨S2048x512, .f32⟩
  | 8 => ⟨S2048x512, .f32⟩
  | 9 => ⟨S2048x8x64, .f32⟩
  | 10 => ⟨S8x2048x64, .f32⟩
  | 11 => ⟨S2048x8x64, .f32⟩
  | 12 => ⟨S8x2048x64, .f32⟩
  | 13 => ⟨S2048x8x64, .f32⟩
  | 14 => ⟨S8x2048x64, .f32⟩
  | 15 => ⟨S8x2048x2048, .f32⟩
  | 16 => ⟨S2048, .i32⟩
  | 17 => ⟨S1x2048, .i32⟩
  | 18 => ⟨S2048x1, .i32⟩
  | 19 => ⟨S2048x2048, .i32⟩
  | 20 => ⟨S2048x2048, .i32⟩
  | 21 => ⟨S2048x2048, .i1⟩
  | 22 => ⟨S8x2048x2048, .f32⟩
  | 23 => ⟨S8x2048x2048, .f32⟩
  | 24 => ⟨S_, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .i1⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .i1⟩
  | 41 => ⟨S_, .f32⟩
  | 42 => ⟨S8x2048x2048, .f32⟩
  | 43 => ⟨S8x2048x2048, .f32⟩
  | 44 => ⟨S_, .f32⟩
  | 45 => ⟨S8x2048x2048, .f32⟩
  | 46 => ⟨S8x2048x2048, .i1⟩
  | 47 => ⟨S_, .f32⟩
  | 48 => ⟨S8x2048x2048, .f32⟩
  | 49 => ⟨S8x2048x2048, .f32⟩
  | 50 => ⟨S8x2048x2048, .f32⟩
  | 51 => ⟨S8x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x2048x2048, .f32⟩
  | 60 => ⟨S8x2048x2048, .i1⟩
  | 61 => ⟨S_, .f32⟩
  | 62 => ⟨S8x2048x2048, .f32⟩
  | 63 => ⟨S8x2048x2048, .f32⟩
  | 64 => ⟨S8x2048x2048, .f32⟩
  | 65 => ⟨S8x2048x2048, .f32⟩
  | 66 => ⟨S8x2048x2048, .f32⟩
  | 67 => ⟨S_, .f32⟩
  | 68 => ⟨S8x2048x2048, .f32⟩
  | 69 => ⟨S8x2048x2048, .f32⟩
  | 70 => ⟨S8x2048x2048, .f32⟩
  | 71 => ⟨S_, .f32⟩
  | 72 => ⟨S_, .f32⟩
  | 73 => ⟨S8x2048x2048, .i1⟩
  | 74 => ⟨S8x2048x2048, .f32⟩
  | 75 => ⟨S8x2048x2048, .f32⟩
  | 76 => ⟨S_, .f32⟩
  | 77 => ⟨S8x2048x2048, .f32⟩
  | 78 => ⟨S_, .f32⟩
  | 79 => ⟨S_, .f32⟩
  | 80 => ⟨S8x2048x2048, .f32⟩
  | 81 => ⟨S8x2048x2048, .f32⟩
  | 82 => ⟨S8x2048x2048, .f32⟩
  | 83 => ⟨S_, .f32⟩
  | 84 => ⟨S8x2048x2048, .f32⟩
  | 85 => ⟨S8x2048x2048, .f32⟩
  | 86 => ⟨S8x2048x2048, .f32⟩
  | 87 => ⟨S8x2048x2048, .f32⟩
  | 88 => ⟨S8x2048x2048, .i1⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .i1⟩
  | 100 => ⟨S_, .f32⟩
  | 101 => ⟨S8x2048x2048, .f32⟩
  | 102 => ⟨S8x2048x2048, .f32⟩
  | 103 => ⟨S_, .f32⟩
  | 104 => ⟨S8x2048x2048, .f32⟩
  | 105 => ⟨S8x2048x2048, .i1⟩
  | 106 => ⟨S_, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x2048x2048, .f32⟩
  | 119 => ⟨S8x2048x2048, .i1⟩
  | 120 => ⟨S_, .f32⟩
  | 121 => ⟨S8x2048x2048, .f32⟩
  | 122 => ⟨S8x2048x2048, .f32⟩
  | 123 => ⟨S8x2048x2048, .f32⟩
  | 124 => ⟨S8x2048x2048, .f32⟩
  | 125 => ⟨S8x2048x2048, .f32⟩
  | 126 => ⟨S_, .f32⟩
  | 127 => ⟨S8x2048x2048, .f32⟩
  | _ => ⟨S2048x3072, .bf16⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S_, .f32⟩
  | 5 => ⟨S_, .f32⟩
  | 6 => ⟨S8x2048x2048, .i1⟩
  | 7 => ⟨S8x2048x2048, .f32⟩
  | 8 => ⟨S8x2048x2048, .f32⟩
  | 9 => ⟨S_, .f32⟩
  | 10 => ⟨S8x2048x2048, .f32⟩
  | 11 => ⟨S8x2048x64, .f32⟩
  | 12 => ⟨S2048x8x64, .f32⟩
  | 13 => ⟨S2048x512, .f32⟩
  | 14 => ⟨S2048x512, .f32⟩
  | 15 => ⟨S2048x8x64, .f32⟩
  | 16 => ⟨S8x2048x64, .f32⟩
  | 17 => ⟨S8x64x2048, .f32⟩
  | 18 => ⟨S8x2048x64, .f32⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .f32⟩
  | 27 => ⟨S8x2048x2048, .f32⟩
  | 28 => ⟨S_, .f32⟩
  | 29 => ⟨S_, .f32⟩
  | 30 => ⟨S8x2048x2048, .f32⟩
  | 31 => ⟨S8x2048x2048, .f32⟩
  | 32 => ⟨S_, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x64, .f32⟩
  | 41 => ⟨S8x2048x64, .f32⟩
  | 42 => ⟨S2048x8x64, .f32⟩
  | 43 => ⟨S2048x512, .f32⟩
  | 44 => ⟨S2048x8x64, .f32⟩
  | 45 => ⟨S2048x512, .f32⟩
  | 46 => ⟨S2048x8x64, .f32⟩
  | 47 => ⟨S2048x512, .f32⟩
  | 48 => ⟨S_, .f32⟩
  | 49 => ⟨S2048x512, .f32⟩
  | 50 => ⟨S2048x512, .f32⟩
  | 51 => ⟨S2048x512, .bf16⟩
  | 52 => ⟨S2048x512, .bf16⟩
  | 53 => ⟨S2048x512, .bf16⟩
  | _ => ⟨S2048x3072, .bf16⟩

abbrev hbmTy (i : Nat) : BufTy := match i / 128 with
  | 0 => hbmTy0_0 i
  | 1 => hbmTy0_1 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_cst_2 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== FiKernel.lean ====
abbrev S2048x1024 : Shape := ⟨2, ![2048, 1024]⟩
abbrev S2048x5632 : Shape := ⟨2, ![2048, 5632]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S4x1024x1408, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .bf16⟩
  | .local _ .vmem, ⟨4, _⟩ => ⟨S1x1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== FiReferenceIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S2048x5632, .f32⟩
  | .hbm, ⟨4, _⟩ => ⟨S_, .f32⟩
  | .hbm, ⟨5, _⟩ => ⟨S1024x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FoKernel.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x2816, .f32⟩
  | .hbm, ⟨3, _⟩ => ⟨S_, .f32⟩
  | .hbm, ⟨4, _⟩ => ⟨S2816x1024, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwKernel.lean ====
abbrev S2048x2816 : Shape := ⟨2, ![2048, 2816]⟩
abbrev S2816x1024 : Shape := ⟨2, ![2816, 1024]⟩
abbrev S2048x1024 : Shape := ⟨2, ![2048, 1024]⟩
abbrev S2048x5632 : Shape := ⟨2, ![2048, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 6
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .f32⟩
  | .hbm, ⟨3, _⟩ => ⟨S2048x1024, .f32⟩
  | .hbm, ⟨4, _⟩ => ⟨S2816x1024, .bf16⟩
  | .hbm, ⟨5, _⟩ => ⟨S2048x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwReferenceIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048x5632 : Shape := ⟨2, ![2048, 5632]⟩

abbrev nBuf : Space → Nat
  | .hbm => 30
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x5632, .f32⟩
  | .hbm, ⟨29, _⟩ => ⟨S2048x5632, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== DhKernel.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S256x5632 : Shape := ⟨2, ![256, 5632]⟩
abbrev S256x1024 : Shape := ⟨2, ![256, 1024]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x5632, .bf16⟩
  | .hbm, ⟨4, _⟩ => ⟨S2048x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S1x1024, .f32⟩
  | .hbm, ⟨9, _⟩ => ⟨S2048x1024, .f32⟩
  | .hbm, ⟨10, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_18 : BitVec 32 := 0#32
  let v46 : BitVec 1 := Scalar.cmpi .ne v45 c0_i32_18
  v46

def k0_cond2 (i : grid0.Coords) : BitVec 1 :=
  let arg0 : BitVec 32 := BitVec.ofNat 32 (i 0).val
  let c0_i32_19 : BitVec 32 := 0#32
  let v47 : BitVec 1 := Scalar.cmpi .sgt arg0 c0_i32_19
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DhReferenceIdeal.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x5632, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x5632, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FwKernel.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x2816 : Shape := ⟨2, ![2048, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S2048x2816, .bf16⟩
  | .hbm, ⟨6, _⟩ => ⟨S2048x2816, .bf16⟩
  | .hbm, ⟨7, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwReferenceIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2048x1024, .f32⟩
  | .hbm, ⟨3, _⟩ => ⟨S2048x5632, .f32⟩
  | .hbm, ⟨4, _⟩ => ⟨S2048x2816, .f32⟩
  | .hbm, ⟨5, _⟩ => ⟨S2048x2816, .f32⟩
  | .hbm, ⟨6, _⟩ => ⟨S2048x2816, .bf16⟩
  | .hbm, ⟨7, _⟩ => ⟨S2048x2816, .bf16⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== OuKernel.lean ====
abbrev S2048x1024 : Shape := ⟨2, ![2048, 1024]⟩
abbrev S2048x2816 : Shape := ⟨2, ![2048, 2816]⟩
abbrev S2816x1024 : Shape := ⟨2, ![2816, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S2048x1024, .f32⟩
  | .hbm, ⟨7, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OuReferenceIdeal.lean ====
abbrev S2048x1024 : Shape := ⟨2, ![2048, 1024]⟩
abbrev S2048x2816 : Shape := ⟨2, ![2048, 2816]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== AoKernel.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S2048x1024, .f32⟩
  | .hbm, ⟨7, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AoReferenceIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OlKernel.lean ====
abbrev S2048x1024 : Shape := ⟨2, ![2048, 1024]⟩
abbrev S2048x2816 : Shape := ⟨2, ![2048, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S2816x1024, .bf16⟩
  | .hbm, ⟨4, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OlReferenceIdeal.lean ====
abbrev S2048x1024 : Shape := ⟨2, ![2048, 1024]⟩
abbrev S2048x2816 : Shape := ⟨2, ![2048, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S2048x2816, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GoKernel.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GoReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DaKernel.lean ====
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QeKernel.lean ====
abbrev S2048x1024 : Shape := ⟨2, ![2048, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S2048x3072 : Shape := ⟨2, ![2048, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S1024x3072, .bf16⟩
  | .hbm, ⟨3, _⟩ => ⟨S1024x4x768, .bf16⟩
  | .hbm, ⟨4, _⟩ => ⟨S4x1024x768, .bf16⟩
  | .hbm, ⟨5, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QeReferenceIdeal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .f32⟩
  | .hbm, ⟨2, _⟩ => ⟨S2048x1024, .f32⟩
  | .hbm, ⟨3, _⟩ => ⟨S2048x3072, .f32⟩
  | .hbm, ⟨4, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QoKernel.lean ====
abbrev S2048x1024 : Shape := ⟨2, ![2048, 1024]⟩
abbrev S1024x3088 : Shape := ⟨2, ![1024, 3088]⟩
abbrev S1024x3072 : Shape := ⟨2, ![1024, 3072]⟩
abbrev S2048x3072 : Shape := ⟨2, ![2048, 3072]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3088, .f32⟩
  | .hbm, ⟨2, _⟩ => ⟨S1024x3088, .bf16⟩
  | .hbm, ⟨3, _⟩ => ⟨S1024x3072, .bf16⟩
  | .hbm, ⟨4, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QoReferenceIdeal.lean ====
abbrev S2048x1024 : Shape := ⟨2, ![2048, 1024]⟩
abbrev S1024x3088 : Shape := ⟨2, ![1024, 3088]⟩
abbrev S2048x3088 : Shape := ⟨2, ![2048, 3088]⟩
abbrev S2048x3072 : Shape := ⟨2, ![2048, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3088, .f32⟩
  | .hbm, ⟨2, _⟩ => ⟨S2048x1024, .f32⟩
  | .hbm, ⟨3, _⟩ => ⟨S2048x3088, .f32⟩
  | .hbm, ⟨4, _⟩ => ⟨S2048x3072, .f32⟩
  | .hbm, ⟨5, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GqKernel.lean ====
abbrev S2048x1024 : Shape := ⟨2, ![2048, 1024]⟩
abbrev S2048x3072 : Shape := ⟨2, ![2048, 3072]⟩
abbrev S4x1024x768 : Shape := ⟨3, ![4, 1024, 768]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S4x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GqReferenceIdeal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S2048x1024, .f32⟩
  | .hbm, ⟨3, _⟩ => ⟨S2048x3072, .f32⟩
  | .hbm, ⟨4, _⟩ => ⟨S_, .f32⟩
  | .hbm, ⟨5, _⟩ => ⟨S1024x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S4x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GnKernel.lean ====
abbrev S2048x1024 : Shape := ⟨2, ![2048, 1024]⟩
abbrev S2048x3200 : Shape := ⟨2, ![2048, 3200]⟩
abbrev S1024x3200 : Shape := ⟨2, ![1024, 3200]⟩
abbrev S2048x640 : Shape := ⟨2, ![2048, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S1024x3200, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .bf16⟩
  | .local _ .vmem, ⟨4, _⟩ => ⟨S1024x640, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GnReferenceIdeal.lean ====
abbrev S2048x1024 : Shape := ⟨2, ![2048, 1024]⟩
abbrev S2048x3200 : Shape := ⟨2, ![2048, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3200, .bf16⟩
  | .hbm, ⟨2, _⟩ => ⟨S2048x1024, .f32⟩
  | .hbm, ⟨3, _⟩ => ⟨S2048x3200, .f32⟩
  | .hbm, ⟨4, _⟩ => ⟨S_, .f32⟩
  | .hbm, ⟨5, _⟩ => ⟨S1024x3200, .f32⟩
  | .hbm, ⟨6, _⟩ => ⟨S2048x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DqKernel.lean ====
abbrev S2048x1024 : Shape := ⟨2, ![2048, 1024]⟩
abbrev S1024 : Shape := ⟨1, ![1024]⟩
abbrev S1024x3072 : Shape := ⟨2, ![1024, 3072]⟩
abbrev S2048x3072 : Shape := ⟨2, ![2048, 3072]⟩
abbrev S1024x4x768 : Shape := ⟨3, ![1024, 4, 768]⟩
abbrev S4x1024x768 : Shape := ⟨3, ![4, 1024, 768]⟩
abbrev S1x1024 : Shape := ⟨2, ![1, 1024]⟩
abbrev S512x3072 : Shape := ⟨2, ![512, 3072]⟩
abbrev S512x1024 : Shape := ⟨2, ![512, 1024]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3072, .f32⟩
  | .hbm, ⟨3, _⟩ => ⟨S2048x3072, .bf16⟩
  | .hbm, ⟨4, _⟩ => ⟨S2048x1024, .f32⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S1x1024, .f32⟩
  | .hbm, ⟨9, _⟩ => ⟨S2048x1024, .f32⟩
  | .hbm, ⟨10, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_18 : BitVec 32 := 0#32
  let v46 : BitVec 1 := Scalar.cmpi .ne v45 c0_i32_18
  v46

def k0_cond2 (i : grid0.Coords) : BitVec 1 :=
  let arg0 : BitVec 32 := BitVec.ofNat 32 (i 0).val
  let c0_i32_19 : BitVec 32 := 0#32
  let v47 : BitVec 1 := Scalar.cmpi .sgt arg0 c0_i32_19
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DqReferenceIdeal.lean ====
abbrev S2048x1024 : Shape := ⟨2, ![2048, 1024]⟩
abbrev S1024 : Shape := ⟨1, ![1024]⟩
abbrev S1024x3072 : Shape := ⟨2, ![1024, 3072]⟩
abbrev S2048x3072 : Shape := ⟨2, ![2048, 3072]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3072, .f32⟩
  | .hbm, ⟨3, _⟩ => ⟨S2048x3072, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x3072, .f32⟩
  | .hbm, ⟨26, _⟩ => ⟨S2048x3072, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DnKernel.lean ====
abbrev S2048x1024 : Shape := ⟨2, ![2048, 1024]⟩
abbrev S1024 : Shape := ⟨1, ![1024]⟩
abbrev S1024x3088 : Shape := ⟨2, ![1024, 3088]⟩
abbrev S2048x3088 : Shape := ⟨2, ![2048, 3088]⟩
abbrev S1024x16 : Shape := ⟨2, ![1024, 16]⟩
abbrev S_ : Shape := ⟨0, ![]⟩
abbrev S1024x128 : Shape := ⟨2, ![1024, 128]⟩
abbrev S1024x3072 : Shape := ⟨2, ![1024, 3072]⟩
abbrev S1024x3200 : Shape := ⟨2, ![1024, 3200]⟩
abbrev S2048x3200 : Shape := ⟨2, ![2048, 3200]⟩
abbrev S1x1024 : Shape := ⟨2, ![1, 1024]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3088, .f32⟩
  | .hbm, ⟨3, _⟩ => ⟨S2048x3088, .bf16⟩
  | .hbm, ⟨4, _⟩ => ⟨S2048x1024, .f32⟩
  | .hbm, ⟨5, _⟩ => ⟨S1024x3088, .bf16⟩
  | .hbm, ⟨6, _⟩ => ⟨S1024x16, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S1024x3072, .bf16⟩
  | .hbm, ⟨11, _⟩ => ⟨S1024x3200, .bf16⟩
  | .hbm, ⟨12, _⟩ => ⟨S_, .i32⟩
  | .hbm, ⟨13, _⟩ => ⟨S_, .bf16⟩
  | .hbm, ⟨14, _⟩ => ⟨S2048x3200, .bf16⟩
  | .hbm, ⟨15, _⟩ => ⟨S1x1024, .f32⟩
  | .hbm, ⟨16, _⟩ => ⟨S2048x1024, .f32⟩
  | .hbm, ⟨17, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32_18 : BitVec 32 := 0#32
  let v39 : BitVec 1 := Scalar.cmpi .sgt arg0 c0_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnReferenceIdeal.lean ====
abbrev S2048x1024 : Shape := ⟨2, ![2048, 1024]⟩
abbrev S1024 : Shape := ⟨1, ![1024]⟩
abbrev S1024x3088 : Shape := ⟨2, ![1024, 3088]⟩
abbrev S2048x3088 : Shape := ⟨2, ![2048, 3088]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3088, .f32⟩
  | .hbm, ⟨3, _⟩ => ⟨S2048x3088, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x3088, .f32⟩
  | .hbm, ⟨26, _⟩ => ⟨S2048x3088, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== UsKernel.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UsReferenceIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UqKernel.lean ====
abbrev S2x1024x768 : Shape := ⟨3, ![2, 1024, 768]⟩
abbrev S2x512x768 : Shape := ⟨3, ![2, 512, 768]⟩
abbrev S1 : Shape := ⟨1, ![1]⟩
abbrev S1x128x768 : Shape := ⟨3, ![1, 128, 768]⟩
abbrev S128x768 : Shape := ⟨2, ![128, 768]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x512x768, .f32⟩
  | .hbm, ⟨4, _⟩ => ⟨S2x512x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | .local _ .vmem, ⟨16, _⟩ => ⟨S1x128x768, .f32⟩
  | .local _ .vmem, ⟨17, _⟩ => ⟨S1x128x768, .f32⟩
  | .local _ .smem, ⟨0, _⟩ => ⟨S1, .i32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UqKernelIdeal.lean ====
abbrev S2x1024x768 : Shape := ⟨3, ![2, 1024, 768]⟩
abbrev S2x512x768 : Shape := ⟨3, ![2, 512, 768]⟩
abbrev S1 : Shape := ⟨1, ![1]⟩
abbrev S1x128x768 : Shape := ⟨3, ![1, 128, 768]⟩
abbrev S128x768 : Shape := ⟨2, ![128, 768]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x512x768, .f32⟩
  | .hbm, ⟨4, _⟩ => ⟨S2x512x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | .local _ .vmem, ⟨16, _⟩ => ⟨S1x128x768, .f32⟩
  | .local _ .vmem, ⟨17, _⟩ => ⟨S1x128x768, .f32⟩
  | .local _ .smem, ⟨0, _⟩ => ⟨S1, .i32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UqReferenceIdeal.lean ====
abbrev S2x1024x768 : Shape := ⟨3, ![2, 1024, 768]⟩
abbrev S2x512x768 : Shape := ⟨3, ![2, 512, 768]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x512x768, .f32⟩
  | .hbm, ⟨4, _⟩ => ⟨S2x512x768, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x512x768, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x512x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S_, .f32⟩
  | .hbm, ⟨19, _⟩ => ⟨S2x1024x768, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S_, .f32⟩
  | .hbm, ⟨34, _⟩ => ⟨S2x1024x768, .f32⟩
  | .hbm, ⟨35, _⟩ => ⟨S2x1024x768, .f32⟩
  | .hbm, ⟨36, _⟩ => ⟨S2x1024x768, .f32⟩
  | .hbm, ⟨37, _⟩ => ⟨S_, .f32⟩
  | .hbm, ⟨38, _⟩ => ⟨S2x1024x768, .f32⟩
  | .hbm, ⟨39, _⟩ => ⟨S2x1024x768, .f32⟩
  | .hbm, ⟨40, _⟩ => ⟨S2x1024x768, .f32⟩
  | .hbm, ⟨41, _⟩ => ⟨S_, .f32⟩
  | .hbm, ⟨42, _⟩ => ⟨S2x1024x768, .f32⟩
  | .hbm, ⟨43, _⟩ => ⟨S2x1024x768, .f32⟩
  | .hbm, ⟨44, _⟩ => ⟨S2x1024x768, .f32⟩
  | .hbm, ⟨45, _⟩ => ⟨S_, .f32⟩
  | .hbm, ⟨46, _⟩ => ⟨S2x1024x768, .f32⟩
  | .hbm, ⟨47, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UoKernel.lean ====
abbrev S2x256x1024 : Shape := ⟨3, ![2, 256, 1024]⟩
abbrev S2x128x1024 : Shape := ⟨3, ![2, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x128x1024, .f32⟩
  | .hbm, ⟨4, _⟩ => ⟨S2x128x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UoKernelIdeal.lean ====
abbrev S2x256x1024 : Shape := ⟨3, ![2, 256, 1024]⟩
abbrev S2x128x1024 : Shape := ⟨3, ![2, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x128x1024, .f32⟩
  | .hbm, ⟨4, _⟩ => ⟨S2x128x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UoReferenceIdeal.lean ====
abbrev S2x256x1024 : Shape := ⟨3, ![2, 256, 1024]⟩
abbrev S2x128x1024 : Shape := ⟨3, ![2, 128, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x128x1024, .f32⟩
  | .hbm, ⟨4, _⟩ => ⟨S2x128x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x128x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | .hbm, ⟨40, _⟩ => ⟨S2x256x1024, .f32⟩
  | .hbm, ⟨41, _⟩ => ⟨S_, .f32⟩
  | .hbm, ⟨42, _⟩ => ⟨S2x256x1024, .f32⟩
  | .hbm, ⟨43, _⟩ => ⟨S2x256x1024, .f32⟩
  | .hbm, ⟨44, _⟩ => ⟨S2x256x1024, .f32⟩
  | .hbm, ⟨45, _⟩ => ⟨S_, .f32⟩
  | .hbm, ⟨46, _⟩ => ⟨S2x256x1024, .f32⟩
  | .hbm, ⟨47, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UfKernel.lean ====
abbrev S2x1024x772 : Shape := ⟨3, ![2, 1024, 772]⟩
abbrev S2x512x896 : Shape := ⟨3, ![2, 512, 896]⟩
abbrev S1 : Shape := ⟨1, ![1]⟩
abbrev S1x128x772 : Shape := ⟨3, ![1, 128, 772]⟩
abbrev S1x128x896 : Shape := ⟨3, ![1, 128, 896]⟩
abbrev S128x896 : Shape := ⟨2, ![128, 896]⟩
abbrev S128x772 : Shape := ⟨2, ![128, 772]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x512x896, .f32⟩
  | .hbm, ⟨4, _⟩ => ⟨S2x512x896, .f32⟩
  | .hbm, ⟨5, _⟩ => ⟨S2x1024x772, .f32⟩
  | .hbm, ⟨6, _⟩ => ⟨S2x1024x772, .f32⟩
  | .hbm, ⟨7, _⟩ => ⟨S2x1024x772, .f32⟩
  | .hbm, ⟨8, _⟩ => ⟨S2x1024x772, .f32⟩
  | .local _ .vmem, ⟨0, _⟩ => ⟨S1x128x772, .f32⟩
  | .local _ .vmem, ⟨1, _⟩ => ⟨S1x128x772, .f32⟩
  | .local _ .vmem, ⟨2, _⟩ => ⟨S1x128x772, .f32⟩
  | .local _ .vmem, ⟨3, _⟩ => ⟨S1x128x772, .f32⟩
  | .local _ .vmem, ⟨4, _⟩ => ⟨S1x128x772, .f32⟩
  | .local _ .vmem, ⟨5, _⟩ => ⟨S1x128x772, .f32⟩
  | .local _ .vmem, ⟨6, _⟩ => ⟨S1x128x896, .f32⟩
  | .local _ .vmem, ⟨7, _⟩ => ⟨S1x128x896, .f32⟩
  | .local _ .vmem, ⟨8, _⟩ => ⟨S1x128x896, .f32⟩
  | .local _ .vmem, ⟨9, _⟩ => ⟨S1x128x896, .f32⟩
  | .local _ .vmem, ⟨10, _⟩ => ⟨S1x128x772, .f32⟩
  | .local _ .vmem, ⟨11, _⟩ => ⟨S1x128x772, .f32⟩
  | .local _ .vmem, ⟨12, _⟩ => ⟨S1x128x772, .f32⟩
  | .local _ .vmem, ⟨13, _⟩ => ⟨S1x128x772, .f32⟩
  | .local _ .vmem, ⟨14, _⟩ => ⟨S1x128x772, .f32⟩
  | .local _ .vmem, ⟨15, _⟩ => ⟨S1x128x772, .f32⟩
  | .local _ .vmem, ⟨16, _⟩ => ⟨S1x128x772, .f32⟩
  | .local _ .vmem, ⟨17, _⟩ => ⟨S1x128x772, .f32⟩
  | .local _ .smem, ⟨0, _⟩ => ⟨S1, .i32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x772 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UfKernelIdeal.lean ====
abbrev S2x1024x772 : Shape := ⟨3, ![2, 1024, 772]⟩
abbrev S2x512x896 : Shape := ⟨3, ![2, 512, 896]⟩
abbrev S1 : Shape := ⟨1, ![1]⟩
abbrev S1x128x772 : Shape := ⟨3, ![1, 128, 772]⟩
abbrev S1x128x896 : Shape := ⟨3, ![1, 128, 896]⟩
abbrev S128x896 : Shape := ⟨2, ![128, 896]⟩
abbrev S128x772 : Shape := ⟨2, ![128, 772]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x512x896, .f32⟩
  | .hbm, ⟨4, _⟩ => ⟨S2x512x896, .f32⟩
  | .hbm, ⟨5, _⟩ => ⟨S2x1024x772, .f32⟩
  | .hbm, ⟨6, _⟩ => ⟨S2x1024x772, .f32⟩
  | .hbm, ⟨7, _⟩ => ⟨S2x1024x772, .f32⟩
  | .hbm, ⟨8, _⟩ => ⟨S2x1024x772, .f32⟩
  | .local _ .vmem, ⟨0, _⟩ => ⟨S1x128x772, .f32⟩
  | .local _ .vmem, ⟨1, _⟩ => ⟨S1x128x772, .f32⟩
  | .local _ .vmem, ⟨2, _⟩ => ⟨S1x128x772, .f32⟩
  | .local _ .vmem, ⟨3, _⟩ => ⟨S1x128x772, .f32⟩
  | .local _ .vmem, ⟨4, _⟩ => ⟨S1x128x772, .f32⟩
  | .local _ .vmem, ⟨5, _⟩ => ⟨S1x128x772, .f32⟩
  | .local _ .vmem, ⟨6, _⟩ => ⟨S1x128x896, .f32⟩
  | .local _ .vmem, ⟨7, _⟩ => ⟨S1x128x896, .f32⟩
  | .local _ .vmem, ⟨8, _⟩ => ⟨S1x128x896, .f32⟩
  | .local _ .vmem, ⟨9, _⟩ => ⟨S1x128x896, .f32⟩
  | .local _ .vmem, ⟨10, _⟩ => ⟨S1x128x772, .f32⟩
  | .local _ .vmem, ⟨11, _⟩ => ⟨S1x128x772, .f32⟩
  | .local _ .vmem, ⟨12, _⟩ => ⟨S1x128x772, .f32⟩
  | .local _ .vmem, ⟨13, _⟩ => ⟨S1x128x772, .f32⟩
  | .local _ .vmem, ⟨14, _⟩ => ⟨S1x128x772, .f32⟩
  | .local _ .vmem, ⟨15, _⟩ => ⟨S1x128x772, .f32⟩
  | .local _ .vmem, ⟨16, _⟩ => ⟨S1x128x772, .f32⟩
  | .local _ .vmem, ⟨17, _⟩ => ⟨S1x128x772, .f32⟩
  | .local _ .smem, ⟨0, _⟩ => ⟨S1, .i32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x772 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UfReferenceIdeal.lean ====
abbrev S2x1024x772 : Shape := ⟨3, ![2, 1024, 772]⟩
abbrev S2x512x896 : Shape := ⟨3, ![2, 512, 896]⟩
abbrev S1 : Shape := ⟨1, ![1]⟩
abbrev S_ : Shape := ⟨0, ![]⟩
abbrev S2x1024x896 : Shape := ⟨3, ![2, 1024, 896]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x512x896, .f32⟩
  | .hbm, ⟨4, _⟩ => ⟨S2x512x896, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2x512x896, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2x512x896, .f32⟩
  | .hbm, ⟨14, _⟩ => ⟨S2x1024x896, .f32⟩
  | .hbm, ⟨15, _⟩ => ⟨S2x1024x772, .f32⟩
  | .hbm, ⟨16, _⟩ => ⟨S_, .f32⟩
  | .hbm, ⟨17, _⟩ => ⟨S2x1024x772, .f32⟩
  | .hbm, ⟨18, _⟩ => ⟨S2x1024x772, .f32⟩
  | .hbm, ⟨19, _⟩ => ⟨S_, .f32⟩
  | .hbm, ⟨20, _⟩ => ⟨S2x1024x772, .f32⟩
  | .hbm, ⟨21, _⟩ => ⟨S2x1024x772, .f32⟩
  | .hbm, ⟨22, _⟩ => ⟨S2x1024x772, .f32⟩
  | .hbm, ⟨23, _⟩ => ⟨S_, .f32⟩
  | .hbm, ⟨24, _⟩ => ⟨S2x1024x772, .f32⟩
  | .hbm, ⟨25, _⟩ => ⟨S2x1024x772, .f32⟩
  | .hbm, ⟨26, _⟩ => ⟨S2x1024x772, .f32⟩
  | .hbm, ⟨27, _⟩ => ⟨S_, .f32⟩
  | .hbm, ⟨28, _⟩ => ⟨S2x1024x772, .f32⟩
  | .hbm, ⟨29, _⟩ => ⟨S2x1024x772, .f32⟩
  | .hbm, ⟨30, _⟩ => ⟨S2x1024x772, .f32⟩
  | .hbm, ⟨31, _⟩ => ⟨S_, .f32⟩
  | .hbm, ⟨32, _⟩ => ⟨S2x1024x772, .f32⟩
  | .hbm, ⟨33, _⟩ => ⟨S2x1024x772, .f32⟩
  | .hbm, ⟨34, _⟩ => ⟨S_, .f32⟩
  | .hbm, ⟨35, _⟩ => ⟨S2x1024x772, .f32⟩
  | .hbm, ⟨36, _⟩ => ⟨S2x1024x772, .f32⟩
  | .hbm, ⟨37, _⟩ => ⟨S2x1024x772, .f32⟩
  | .hbm, ⟨38, _⟩ => ⟨S_, .f32⟩
  | .hbm, ⟨39, _⟩ => ⟨S2x1024x772, .f32⟩
  | .hbm, ⟨40, _⟩ => ⟨S2x1024x772, .f32⟩
  | .hbm, ⟨41, _⟩ => ⟨S2x1024x772, .f32⟩
  | .hbm, ⟨42, _⟩ => ⟨S_, .f32⟩
  | .hbm, ⟨43, _⟩ => ⟨S2x1024x772, .f32⟩
  | .hbm, ⟨44, _⟩ => ⟨S2x1024x772, .f32⟩
  | .hbm, ⟨45, _⟩ => ⟨S2x1024x772, .f32⟩
  | .hbm, ⟨46, _⟩ => ⟨S_, .f32⟩
  | .hbm, ⟨47, _⟩ => ⟨S2x1024x772, .f32⟩
  | .hbm, ⟨48, _⟩ => ⟨S2x1024x772, .f32⟩
  | _, _ => ⟨S2x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== UiKernel.lean ====
abbrev S4x1024x1408 : Shape := ⟨3, ![4, 1024, 1408]⟩
abbrev S4x512x1408 : Shape := ⟨3, ![4, 512, 1408]⟩
abbrev S1 : Shape := ⟨1, ![1]⟩
abbrev S1x128x1408 : Shape := ⟨3, ![1, 128, 1408]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x512x1408, .f32⟩
  | .hbm, ⟨4, _⟩ => ⟨S4x512x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UiKernelIdeal.lean ====
abbrev S4x1024x1408 : Shape := ⟨3, ![4, 1024, 1408]⟩
abbrev S4x512x1408 : Shape := ⟨3, ![4, 512, 1408]⟩
abbrev S1 : Shape := ⟨1, ![1]⟩
abbrev S1x128x1408 : Shape := ⟨3, ![1, 128, 1408]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x512x1408, .f32⟩
  | .hbm, ⟨4, _⟩ => ⟨S4x512x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UiReferenceIdeal.lean ====
abbrev S4x1024x1408 : Shape := ⟨3, ![4, 1024, 1408]⟩
abbrev S4x512x1408 : Shape := ⟨3, ![4, 512, 1408]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x512x1408, .f32⟩
  | .hbm, ⟨4, _⟩ => ⟨S4x512x1408, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x512x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S_, .f32⟩
  | .hbm, ⟨19, _⟩ => ⟨S4x1024x1408, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S_, .f32⟩
  | .hbm, ⟨34, _⟩ => ⟨S4x1024x1408, .f32⟩
  | .hbm, ⟨35, _⟩ => ⟨S4x1024x1408, .f32⟩
  | .hbm, ⟨36, _⟩ => ⟨S4x1024x1408, .f32⟩
  | .hbm, ⟨37, _⟩ => ⟨S_, .f32⟩
  | .hbm, ⟨38, _⟩ => ⟨S4x1024x1408, .f32⟩
  | .hbm, ⟨39, _⟩ => ⟨S4x1024x1408, .f32⟩
  | .hbm, ⟨40, _⟩ => ⟨S4x1024x1408, .f32⟩
  | .hbm, ⟨41, _⟩ => ⟨S_, .f32⟩
  | .hbm, ⟨42, _⟩ => ⟨S4x1024x1408, .f32⟩
  | .hbm, ⟨43, _⟩ => ⟨S4x1024x1408, .f32⟩
  | .hbm, ⟨44, _⟩ => ⟨S4x1024x1408, .f32⟩
  | .hbm, ⟨45, _⟩ => ⟨S_, .f32⟩
  | .hbm, ⟨46, _⟩ => ⟨S4x1024x1408, .f32⟩
  | .hbm, ⟨47, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== UxKernel.lean ====
abbrev S4x704x1024 : Shape := ⟨3, ![4, 704, 1024]⟩
abbrev S4x352x1024 : Shape := ⟨3, ![4, 352, 1024]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x352x1024, .f32⟩
  | .hbm, ⟨4, _⟩ => ⟨S4x352x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== UxReferenceIdeal.lean ====
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x352x1024, .f32⟩
  | .hbm, ⟨4, _⟩ => ⟨S4x352x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x352x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S_, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S_, .f32⟩
  | .hbm, ⟨34, _⟩ => ⟨S4x704x1024, .f32⟩
  | .hbm, ⟨35, _⟩ => ⟨S4x704x1024, .f32⟩
  | .hbm, ⟨36, _⟩ => ⟨S4x704x1024, .f32⟩
  | .hbm, ⟨37, _⟩ => ⟨S_, .f32⟩
  | .hbm, ⟨38, _⟩ => ⟨S4x704x1024, .f32⟩
  | .hbm, ⟨39, _⟩ => ⟨S4x704x1024, .f32⟩
  | .hbm, ⟨40, _⟩ => ⟨S4x704x1024, .f32⟩
  | .hbm, ⟨41, _⟩ => ⟨S_, .f32⟩
  | .hbm, ⟨42, _⟩ => ⟨S4x704x1024, .f32⟩
  | .hbm, ⟨43, _⟩ => ⟨S4x704x1024, .f32⟩
  | .hbm, ⟨44, _⟩ => ⟨S4x704x1024, .f32⟩
  | .hbm, ⟨45, _⟩ => ⟨S_, .f32⟩
  | .hbm, ⟨46, _⟩ => ⟨S4x704x1024, .f32⟩
  | .hbm, ⟨47, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.FiValue.lean ====
/- The gradient of the feed-forward input weights: the kernel's array is the reference's. -/
module

public import proofs.«01_k».proof.Proof.Gen.FiKernelIdeal.Frame
public import proofs.«01_k».proof.Proof.Gen.FiReferenceIdeal.Read
public import Idealize.ShloMosaic.Lib.Pipeline.ValueKit
public import Idealize.ShloMosaic.Lib.Claim

@[expose] public section

set_option maxRecDepth 16384

noncomputable section

namespace Cert.FiKernelIdeal.Whole

open Idealize.ShloMosaic Idealize.ShloMosaic.TcCoe Idealize.SL.Sem
open Idealize.ShloMosaic.Pipeline (Dat)

open Cert.FiKernelIdeal Cert.FiKernelIdeal.Gen

variable (m : (ℓ : Loc nD τ sig) → Buf (Elt Ideal) ℓ)

/-- Which blocks each grid point takes. -/
theorem idx : ∀ t : Fin cfg0.N, win0_0.index t = ![0, 0] ∧ win0_1.index t = ![0, t.val] ∧ win0_2.index t = ![t.val, 0, 0] :=
  (by decide +kernel : ∀ t : Fin grid0.N, _)

/-- One element of one block of the gradient is the reference's element at that place. -/
theorem point (c : Dev nD) (t : Fin cfg0.N) (y) : k0_pay1 (iblk m c 1 t) (iblk m c 0 t) y
    = Cert.FiReferenceIdeal.Read.val_main_v8 (F := Ideal) (m ((c : Thread nD τ).loc main_arg0)) (m ((c : Thread nD τ).loc main_arg1)) (((cfg0.win 2).blk t).view.emb y) := by
  rw [← Cert.FiReferenceIdeal.Read.val_main_v8_eq]
  pointwise [k0_pay1]
  refine Finset.sum_congr rfl fun x _ => ?_
  rw [mul_comm]
  blk_point [iblk, V, idx t]

/-- The whole array of the gradient is the reference's. -/
theorem final (c : Dev nD) : (dats m 0 c).arrAt 2 (cfgs 0).N = Cert.FiReferenceIdeal.Read.val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FiKernelIdeal.Whole

end
-- ==== Proof.FoValue.lean ====
/- The gradient of the feed-forward output weights: the kernel's array is the reference's. -/
module

public import proofs.«01_k».proof.Proof.Gen.FoKernelIdeal.Frame
public import proofs.«01_k».proof.Proof.Gen.FoReferenceIdeal.Read
public import Idealize.ShloMosaic.Lib.Pipeline.ValueKit
public import Idealize.ShloMosaic.Lib.Claim

@[expose] public section

set_option maxRecDepth 16384

noncomputable section

namespace Cert.FoKernelIdeal.Whole

open Idealize.ShloMosaic Idealize.ShloMosaic.TcCoe Idealize.SL.Sem
open Idealize.ShloMosaic.Pipeline (Dat)

open Cert.FoKernelIdeal Cert.FoKernelIdeal.Gen

variable (m : (ℓ : Loc nD τ sig) → Buf (Elt Ideal) ℓ)

/-- Which blocks each grid point takes. -/
theorem idx : ∀ t : Fin cfg0.N, win0_0.index t = ![0, t.val] ∧ win0_1.index t = ![0, 0] ∧ win0_2.index t = ![t.val, 0] :=
  (by decide +kernel : ∀ t : Fin grid0.N, _)

/-- One element of one block of the gradient is the reference's element at that place. -/
theorem point (c : Dev nD) (t : Fin cfg0.N) (y) : k0_pay1 (iblk m c 1 t) (iblk m c 0 t) y
    = Cert.FoReferenceIdeal.Read.val_main_v5 (F := Ideal) (m ((c : Thread nD τ).loc main_arg0)) (m ((c : Thread nD τ).loc main_arg1)) (((cfg0.win 2).blk t).view.emb y) := by
  rw [← Cert.FoReferenceIdeal.Read.val_main_v5_eq]
  pointwise [k0_pay1]
  refine Finset.sum_congr rfl fun x _ => ?_
  rw [mul_comm]
  blk_point [iblk, V, idx t]

/-- The whole array of the gradient is the reference's. -/
theorem final (c : Dev nD) : (dats m 0 c).arrAt 2 (cfgs 0).N = Cert.FoReferenceIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FoKernelIdeal.Whole

end
-- ==== Proof.Silu.lean ====
/- The derivative of a gated product, in the two forms it is written. -/
module

public import Idealize.ShloMosaic.PureOps.Ideal.Laws

@[expose] public section

noncomputable section

namespace Cert.Silu

open Idealize.ShloMosaic

/-- The logistic function of a number, which may be infinite. -/
abbrev sg (g : EReal) : EReal := Ideal.div 1 (1 + Ideal.exp (-g))

theorem sg_coe (g : ℝ) : sg (g : EReal) = ((1 / (1 + Real.exp (-g)) : ℝ) : EReal) := by
  have h : (1 + Real.exp (-g) : ℝ) ≠ 0 := by positivity
  rw [sg, ← EReal.coe_neg, Ideal.exp_coe, ← EReal.coe_one, ← EReal.coe_add, Ideal.div_coe h, ← EReal.coe_mul, one_mul]

theorem sg_top : sg ⊤ = 1 := by
  have h : (1 : ℝ) ≠ 0 := one_ne_zero
  rw [sg, EReal.neg_top, show Ideal.exp ⊥ = 0 from rfl, add_zero, ← EReal.coe_one, Ideal.div_coe h]
  norm_num

theorem sg_bot : sg ⊥ = 0 := by
  rw [sg, EReal.neg_bot, show Ideal.exp ⊤ = ⊤ from rfl, EReal.add_top_of_ne_bot (by decide), Ideal.div, if_neg (by decide), EReal.inv_top, mul_zero]

theorem one_sub_one : (1 : EReal) - 1 = 0 := by
  rw [← EReal.coe_one, ← EReal.coe_sub, sub_self, EReal.coe_zero]

/-- The derivative of `g * sg g * u` in `g`, times `a`: as one product, and as a sum of two. The product `c = a * u` is a real number;
    `g` may be infinite. -/
theorem law (c : ℝ) (g : EReal) :
    (c : EReal) * sg g * (1 + g * (1 - sg g)) = (c : EReal) * sg g + g * (c : EReal) * (sg g * (1 - sg g)) := by
  induction g using EReal.rec with
  | bot => rw [sg_bot]; simp
  | top => rw [sg_top, one_sub_one]; simp
  | coe g =>
    rw [sg_coe]
    norm_cast
    ring

end Cert.Silu

end
-- ==== Proof.SwValue.lean ====
/- The gradients of the gate and of the other factor in the feed-forward layer: the kernel's array is the reference's. -/
module

public import proofs.«01_k».proof.Proof.Gen.SwKernelIdeal.Frame
public import proofs.«01_k».proof.Proof.Gen.SwReferenceIdeal.Read
public import proofs.«01_k».proof.Proof.Silu
public import Idealize.ShloMosaic.Lib.Pipeline.ValueKit
public import Idealize.ShloMosaic.Lib.Claim

@[expose] public section

set_option maxRecDepth 16384

noncomputable section

namespace Cert.SwKernelIdeal.Whole

open Idealize.ShloMosaic Idealize.ShloMosaic.TcCoe Idealize.SL.Sem
open Idealize.ShloMosaic.Pipeline (Dat)

open Cert.SwKernelIdeal Cert.SwKernelIdeal.Gen Cert.Silu

/-- The gradient of the gated product at row `r` and column `f`. -/
abbrev da (x2 : (⟨2, ![2816, 1024]⟩ : Shape).Idx → EReal) (x3 : (⟨2, ![2048, 1024]⟩ : Shape).Idx → EReal) (r : Fin 2048) (f : Fin 2816) : EReal :=
  ∑ k : Fin 1024, x3 (ix2 r k) * x2 (ix2 f k)

/-- The gradient of the gated product, times the factor which is not the gate, is a real number everywhere. -/
def Good (x1 : (⟨2, ![2048, 2816]⟩ : Shape).Idx → EReal) (x2 : (⟨2, ![2816, 1024]⟩ : Shape).Idx → EReal) (x3 : (⟨2, ![2048, 1024]⟩ : Shape).Idx → EReal) : Prop :=
  ∀ (r : Fin 2048) (f : Fin 2816), ∃ v : ℝ, da x2 x3 r f * x1 (ix2 r f) = (v : EReal)

/-- The reference's array on its left half: the gradient of the gate, as one product. -/
theorem ref_gate (x0 x1 : (⟨2, ![2048, 2816]⟩ : Shape).Idx → EReal) (x2 : (⟨2, ![2816, 1024]⟩ : Shape).Idx → EReal) (x3 : (⟨2, ![2048, 1024]⟩ : Shape).Idx → EReal)
    (hg : Good x1 x2 x3) (i : (⟨2, ![2048, 5632]⟩ : Shape).Idx) (r : Fin 2048) (f : Fin 2816) (h0 : (i 0).val = r.val) (h1 : (i 1).val = f.val) :
    Cert.SwReferenceIdeal.Read.val_main_v10 (F := Ideal) x0 x1 x2 x3 i
      = da x2 x3 r f * x1 (ix2 r f) * sg (x0 (ix2 r f)) * (1 + x0 (ix2 r f) * (1 - sg (x0 (ix2 r f)))) := by
  obtain ⟨v, hv⟩ := hg r f
  rw [hv, law, ← hv, ← Cert.SwReferenceIdeal.Read.val_main_v10_eq]
  pointwise
  have hlt : (i 1).val < 2816 := by omega
  rw [dif_pos hlt]
  have e0 : i 0 = r := Fin.ext h0
  have e1 : (⟨(i 1).val, hlt⟩ : Fin 2816) = f := Fin.ext h1
  rw [e0, e1]

/-- The reference's array on its right half: the gradient of the other factor. -/
theorem ref_up (x0 x1 : (⟨2, ![2048, 2816]⟩ : Shape).Idx → EReal) (x2 : (⟨2, ![2816, 1024]⟩ : Shape).Idx → EReal) (x3 : (⟨2, ![2048, 1024]⟩ : Shape).Idx → EReal)
    (i : (⟨2, ![2048, 5632]⟩ : Shape).Idx) (r : Fin 2048) (f : Fin 2816) (h0 : (i 0).val = r.val) (h1 : (i 1).val = 2816 + f.val) :
    Cert.SwReferenceIdeal.Read.val_main_v10 (F := Ideal) x0 x1 x2 x3 i = da x2 x3 r f * x0 (ix2 r f) * sg (x0 (ix2 r f)) := by
  rw [mul_assoc, mul_comm, ← Cert.SwReferenceIdeal.Read.val_main_v10_eq]
  pointwise
  have hlt : ¬ (i 1).val < 2816 := by omega
  rw [dif_neg hlt]
  have e0 : i 0 = r := Fin.ext h0
  have e1 : (⟨(i 1).val - 2816, by omega⟩ : Fin 2816) = f := Fin.ext (by simp only; omega)
  rw [e0, e1]

variable (m : (ℓ : Loc nD τ sig) → Buf (Elt Ideal) ℓ)

/-- Which blocks each grid point takes. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

/-- One element of one block is the reference's element at that place. -/
theorem point (c : Dev nD) (hg : Good (m ((c : Thread nD τ).loc main_arg1)) (m ((c : Thread nD τ).loc main_arg2)) (m ((c : Thread nD τ).loc main_arg3))) (t : Fin cfg0.N) (y) :
    View.canon [⟨r0_4, k0_pay5 (iblk m c 0 t) (iblk m c 1 t) (iblk m c 2 t)⟩, ⟨r0_3, k0_pay4 (iblk m c 0 t) (iblk m c 1 t) (iblk m c 2 t) (iblk m c 3 t)⟩] y
      = Cert.SwReferenceIdeal.Read.val_main_v10 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 8 := lt_of_lt_of_eq t.isLt N_0
  canon_tiles x h
  · have hx0 : (x 0).val < 256 := (x 0).isLt
    have hx1 : (x 1).val < 2816 := (x 1).isLt
    rw [ref_up _ _ _ _ _ ⟨t.val * 256 + (x 0).val, by omega⟩ ⟨(x 1).val, hx1⟩ (by blk_simp [idx t]; simp [h0]) (by blk_simp [idx t]; simp [h1])]
    pointwise [k0_pay5, k0_pay1, k0_pay2, k0_pay3]
    simp only [zero_sub, da, sg]
    blk_point [iblk, V, idx t]
  · have hx0 : (x 0).val < 256 := (x 0).isLt
    have hx1 : (x 1).val < 2816 := (x 1).isLt
    rw [ref_gate _ _ _ _ hg _ ⟨t.val * 256 + (x 0).val, by omega⟩ ⟨(x 1).val, hx1⟩ (by blk_simp [idx t]; simp [h0]) (by blk_simp [idx t]; simp [h1])]
    pointwise [k0_pay4, k0_pay1, k0_pay2, k0_pay3]
    simp only [zero_sub, da, sg]
    blk_point [iblk, V, idx t]

/-- The whole array is the reference's. -/
theorem final (c : Dev nD) (hg : Good (m ((c : Thread nD τ).loc main_arg1)) (m ((c : Thread nD τ).loc main_arg2)) (m ((c : Thread nD τ).loc main_arg3))) :
    (dats m 0 c).arrAt 4 (cfgs 0).N = Cert.SwReferenceIdeal.Read.val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c hg t y

end Cert.SwKernelIdeal.Whole

end
-- ==== Proof.Norm.lean ====
/- The backward of a root-mean-square norm on one row, over the extended reals: two forms of the same gradient agree. -/
module

public import Idealize.ShloMosaic.Lib.Claim
public import Idealize.ShloMosaic.Lib.Pipeline.ValueKit

@[expose] public section

noncomputable section

namespace Cert.Norm

open Idealize.ShloMosaic

/-- The constants of the norm: the width of a row, the small number added to the mean of the squares, and minus one half. -/
abbrev width : EReal := Ideal.ofBits .f32 1149239296#32
abbrev small : EReal := Ideal.ofBits .f32 925353388#32
abbrev mhalf : EReal := Ideal.ofBits .f32 3204448256#32

theorem width_eq : width = ((1024 : ℝ) : EReal) := by
  simp [width, Ideal.ofBits, Ideal.ieee, -EReal.coe_mul, -EReal.coe_neg]; norm_num

theorem mhalf_eq : mhalf = ((-(1 / 2) : ℝ) : EReal) := by
  simp [mhalf, Ideal.ofBits, Ideal.ieee, -EReal.coe_mul, -EReal.coe_neg]; norm_num

theorem small_eq : ∃ e : ℝ, 0 < e ∧ small = (e : EReal) := by
  refine ⟨10995116 / 2 ^ 40, by positivity, ?_⟩
  simp [small, Ideal.ofBits, Ideal.ieee, -EReal.coe_mul, -EReal.coe_neg]; norm_num

/-- A real factor which is not negative goes into a sum of extended reals. -/
theorem sum_mul_coe {n : ℕ} (f : Fin n → EReal) (r : ℝ) (hr : 0 ≤ r) : (∑ k, f k) * (r : EReal) = ∑ k, f k * (r : EReal) := by
  have key : ∀ s : Finset (Fin n), (∑ k ∈ s, f k) * (r : EReal) = ∑ k ∈ s, f k * (r : EReal) := by
    intro s
    induction s using Finset.induction_on with
    | empty => simp
    | insert a s ha ih =>
      rw [Finset.sum_insert ha, Finset.sum_insert ha, ← ih]
      exact EReal.right_distrib_of_nonneg_of_ne_top (by exact_mod_cast hr) (EReal.coe_ne_top r) _ _
  exact key Finset.univ

/-- A sum of reals, read as an extended real. -/
theorem coe_sum {n : ℕ} (f : Fin n → ℝ) : ((∑ k, f k : ℝ) : EReal) = ∑ k, (f k : EReal) := by
  have key : ∀ s : Finset (Fin n), ((∑ k ∈ s, f k : ℝ) : EReal) = ∑ k ∈ s, (f k : EReal) := by
    intro s
    induction s using Finset.induction_on with
    | empty => simp
    | insert a s ha ih => rw [Finset.sum_insert ha, Finset.sum_insert ha, ← ih, EReal.coe_add]
  exact key Finset.univ

/-- Twice an extended real times a real. -/
theorem twice (t : EReal) (q : ℝ) : t * (q : EReal) + t * (q : EReal) = t * ((q + q : ℝ) : EReal) := by
  induction t using EReal.rec with
  | coe t => norm_cast; ring
  | top =>
    rcases lt_trichotomy q 0 with h | h | h
    · rw [EReal.top_mul_coe_of_neg h, EReal.top_mul_coe_of_neg (by linarith)]; rfl
    · simp [h]
    · rw [EReal.top_mul_coe_of_pos h, EReal.top_mul_coe_of_pos (by linarith)]; rfl
  | bot =>
    rcases lt_trichotomy q 0 with h | h | h
    · rw [EReal.bot_mul_coe_of_neg h, EReal.bot_mul_coe_of_neg (by linarith)]; rfl
    · simp [h]
    · rw [EReal.bot_mul_coe_of_pos h, EReal.bot_mul_coe_of_pos (by linarith)]; rfl

/-- The reciprocal root of the mean square of a row. -/
abbrev rstd {n : ℕ} (x : Fin n → EReal) : EReal := Ideal.rsqrt (Ideal.div (∑ k, x k * x k) width + small)

theorem sq_nonneg (a : EReal) : 0 ≤ a * a := by
  induction a using EReal.rec with
  | coe a => exact_mod_cast mul_self_nonneg a
  | top => simp
  | bot => simp

/-- A row with an infinite entry has an infinite sum of squares. -/
theorem sum_top {n : ℕ} (x : Fin n → EReal) (k : Fin n) (hk : x k = ⊤ ∨ x k = ⊥) : ∑ k, x k * x k = ⊤ := by
  have h := Finset.single_le_sum (f := fun k => x k * x k) (fun i _ => sq_nonneg (x i)) (Finset.mem_univ k)
  have e : x k * x k = ⊤ := by rcases hk with h | h <;> rw [h] <;> simp
  exact top_le_iff.mp (e ▸ h)

/-- The gradient with the reciprocal root taken out is the gradient as the chain rule writes it. -/
theorem law {n : ℕ} (x u : Fin n → EReal) (y w : EReal) (j : Fin n) (hy : y = x j) :
    rstd x * (w - y * rstd x * Ideal.div (∑ k, u k * (x k * rstd x)) width)
      = (w * rstd x + y * Ideal.div ((∑ k, x k * u k) * (mhalf * Ideal.div (rstd x) (Ideal.div (∑ k, x k * x k) width + small))) width)
        + Ideal.div ((∑ k, x k * u k) * (mhalf * Ideal.div (rstd x) (Ideal.div (∑ k, x k * x k) width + small))) width * y := by
  obtain ⟨e, he, hs⟩ := small_eq
  rw [rstd, hs, width_eq, mhalf_eq]
  simp only [Ideal.div_coe (show (1024 : ℝ) ≠ 0 by norm_num)]
  by_cases hx : ∃ k, x k = ⊤ ∨ x k = ⊥
  · obtain ⟨k, hk⟩ := hx
    rw [sum_top x k hk, EReal.top_mul_coe_of_pos (by norm_num), EReal.top_add_coe, Ideal.rsqrt_top]
    have h0 : Ideal.div 0 ⊤ = 0 := by simp [Ideal.div]
    simp [h0]
  · have hx' : ∀ k, ∃ a : ℝ, x k = (a : EReal) := by
      intro k
      have hk : ¬ (x k = ⊤ ∨ x k = ⊥) := fun h => hx ⟨k, h⟩
      exact ⟨(x k).toReal, (EReal.coe_toReal (fun h => hk (.inl h)) (fun h => hk (.inr h))).symm⟩
    choose a ha using hx'
    have hS : ∑ k, x k * x k = ((∑ k, a k * a k : ℝ) : EReal) := by
      rw [coe_sum]; exact Finset.sum_congr rfl fun k _ => by rw [ha k, EReal.coe_mul]
    have hS0 : 0 ≤ ∑ k, a k * a k := Finset.sum_nonneg fun k _ => mul_self_nonneg _
    rw [hS, ← EReal.coe_mul, ← EReal.coe_add]
    generalize hv : (∑ k, a k * a k) * (1 / 1024) + e = v
    have hv0 : 0 < v := by rw [← hv]; positivity
    rw [Ideal.rsqrt_coe, if_neg (not_lt.mpr hv0.le), if_neg hv0.ne', Ideal.div_coe hv0.ne', hy, ha j]
    have hr : 0 ≤ (Real.sqrt v)⁻¹ := by positivity
    have hrr : (Real.sqrt v)⁻¹ * (Real.sqrt v)⁻¹ = 1 / v := by
      rw [← mul_inv, Real.mul_self_sqrt hv0.le, one_div]
    generalize (Real.sqrt v)⁻¹ = r at hr hrr
    have hT : ∑ k, u k * (x k * (r : EReal)) = (∑ k, x k * u k) * (r : EReal) := by
      rw [sum_mul_coe _ r hr]; exact Finset.sum_congr rfl fun k _ => by rw [mul_comm (x k) (u k), mul_assoc]
    rw [hT, ← hrr]
    generalize ∑ k, x k * u k = t
    have e1 : (a j : EReal) * r * (t * r * ((1 / 1024 : ℝ) : EReal)) = t * ((a j * r * r * (1 / 1024) : ℝ) : EReal) := by
      push_cast; ac_rfl
    have e2 : t * (((-(1 / 2) : ℝ) : EReal) * ((r : EReal) * ((r * r : ℝ) : EReal))) * ((1 / 1024 : ℝ) : EReal) * (a j : EReal)
        = t * ((-(1 / 2) * (r * (r * r)) * (1 / 1024) * a j : ℝ) : EReal) := by
      simp only [EReal.coe_mul]; ac_rfl
    rw [mul_comm (a j : EReal) (t * _ * _), e2, e1, add_assoc, twice, sub_eq_add_neg,
      EReal.left_distrib_of_nonneg_of_ne_top (by exact_mod_cast hr) (EReal.coe_ne_top r), mul_comm w]
    congr 1
    rw [← mul_neg, ← EReal.coe_neg, mul_comm (r : EReal), mul_assoc, ← EReal.coe_mul]
    congr 2
    ring

end Cert.Norm

end
-- ==== Proof.DhValue.lean ====
/- The backward of the feed-forward input product and of the norm before it: the kernel's two arrays are the reference's. -/
module

public import proofs.«01_k».proof.Proof.Gen.DhKernelIdeal.Frame
public import proofs.«01_k».proof.Proof.Gen.DhReferenceIdeal.Read
public import proofs.«01_k».proof.Proof.Norm
public import Idealize.ShloMosaic.Lib.Pipeline.ValueKit
public import Idealize.ShloMosaic.Lib.Claim

@[expose] public section

set_option maxRecDepth 16384

noncomputable section

namespace Cert.DhKernelIdeal.Whole

open Idealize.ShloMosaic Idealize.ShloMosaic.TcCoe Idealize.SL.Sem
open Idealize.ShloMosaic.Pipeline (Dat)

open Cert.DhKernelIdeal Cert.DhKernelIdeal.Gen Cert.Norm

/-- The gradient of the normed row `r` at column `k`, before the gain. -/
abbrev dn (x2 : (⟨2, ![1024, 5632]⟩ : Shape).Idx → EReal) (x3 : (⟨2, ![2048, 5632]⟩ : Shape).Idx → EReal) (r : Fin 2048) (k : Fin 1024) : EReal :=
  ∑ f : Fin 5632, x3 (ix2 r f) * x2 (ix2 k f)

/-- One row's part of the gradient of the gain at column `k`. -/
abbrev dgt (x0 : (⟨2, ![2048, 1024]⟩ : Shape).Idx → EReal) (x2 : (⟨2, ![1024, 5632]⟩ : Shape).Idx → EReal) (x3 : (⟨2, ![2048, 5632]⟩ : Shape).Idx → EReal) (r : Fin 2048) (k : Fin 1024) : EReal :=
  dn x2 x3 r k * (x0 (ix2 r k) * rstd (fun k => x0 (ix2 r k)))

/-- The reference's gradient of the row, with the reciprocal root taken out. -/
theorem ref_dx (x0 : (⟨2, ![2048, 1024]⟩ : Shape).Idx → EReal) (x1 : (⟨1, ![1024]⟩ : Shape).Idx → EReal) (x2 : (⟨2, ![1024, 5632]⟩ : Shape).Idx → EReal) (x3 : (⟨2, ![2048, 5632]⟩ : Shape).Idx → EReal) (x4 : (⟨2, ![2048, 1024]⟩ : Shape).Idx → EReal) (i : (⟨2, ![2048, 1024]⟩ : Shape).Idx) :
    Cert.DhReferenceIdeal.Read.val_main_v39 (F := Ideal) x0 x1 x2 x3 x4 i
      = x4 i + rstd (fun k => x0 (ix2 (i 0) k)) * (dn x2 x3 (i 0) (i 1) * x1 (ix1 (i 1))
          - x0 i * rstd (fun k => x0 (ix2 (i 0) k))
            * Ideal.div (∑ k : Fin 1024, dn x2 x3 (i 0) k * x1 (ix1 k) * (x0 (ix2 (i 0) k) * rstd (fun k => x0 (ix2 (i 0) k)))) width) := by
  have hi : x0 i = x0 (ix2 (i 0) (i 1)) := by blk_ext
  rw [law (fun k => x0 (ix2 (i 0) k)) (fun k => dn x2 x3 (i 0) k * x1 (ix1 k)) (x0 i) _ (i 1) hi]
  pointwise [Cert.DhReferenceIdeal.Read.val_main_v0, Cert.DhReferenceIdeal.Read.val_main_cst, Cert.DhReferenceIdeal.Read.val_main_v1, Cert.DhReferenceIdeal.Read.val_main_v2, Cert.DhReferenceIdeal.Read.val_main_cst_0, Cert.DhReferenceIdeal.Read.val_main_v3, Cert.DhReferenceIdeal.Read.val_main_v4, Cert.DhReferenceIdeal.Read.val_main_cst_1, Cert.DhReferenceIdeal.Read.val_main_v5, Cert.DhReferenceIdeal.Read.val_main_v6, Cert.DhReferenceIdeal.Read.val_main_v7, Cert.DhReferenceIdeal.Read.val_main_v8, Cert.DhReferenceIdeal.Read.val_main_cst_2, Cert.DhReferenceIdeal.Read.val_main_v9, Cert.DhReferenceIdeal.Read.val_main_v10, Cert.DhReferenceIdeal.Read.val_main_v11, Cert.DhReferenceIdeal.Read.val_main_v12, Cert.DhReferenceIdeal.Read.val_main_v13, Cert.DhReferenceIdeal.Read.val_main_v14, Cert.DhReferenceIdeal.Read.val_main_v15, Cert.DhReferenceIdeal.Read.val_main_v16, Cert.DhReferenceIdeal.Read.val_main_v17, Cert.DhReferenceIdeal.Read.val_main_v18, Cert.DhReferenceIdeal.Read.val_main_v19, Cert.DhReferenceIdeal.Read.val_main_cst_3, Cert.DhReferenceIdeal.Read.val_main_v20, Cert.DhReferenceIdeal.Read.val_main_v21, Cert.DhReferenceIdeal.Read.val_main_v22, Cert.DhReferenceIdeal.Read.val_main_v23, Cert.DhReferenceIdeal.Read.val_main_cst_4, Cert.DhReferenceIdeal.Read.val_main_v24, Cert.DhReferenceIdeal.Read.val_main_v25, Cert.DhReferenceIdeal.Read.val_main_cst_5, Cert.DhReferenceIdeal.Read.val_main_v26, Cert.DhReferenceIdeal.Read.val_main_v27, Cert.DhReferenceIdeal.Read.val_main_v28, Cert.DhReferenceIdeal.Read.val_main_v29, Cert.DhReferenceIdeal.Read.val_main_v30, Cert.DhReferenceIdeal.Read.val_main_cst_6, Cert.DhReferenceIdeal.Read.val_main_v31, Cert.DhReferenceIdeal.Read.val_main_v32, Cert.DhReferenceIdeal.Read.val_main_cst_7, Cert.DhReferenceIdeal.Read.val_main_v33, Cert.DhReferenceIdeal.Read.val_main_v34, Cert.DhReferenceIdeal.Read.val_main_v35, Cert.DhReferenceIdeal.Read.val_main_v36, Cert.DhReferenceIdeal.Read.val_main_v37, Cert.DhReferenceIdeal.Read.val_main_v38, Cert.DhReferenceIdeal.Read.val_main_v39]
  simp only [Finset.univ_unique, Finset.sum_singleton]

/-- The reference's gradient of the gain, as one sum over the rows. -/
theorem ref_dg (x0 : (⟨2, ![2048, 1024]⟩ : Shape).Idx → EReal) (x2 : (⟨2, ![1024, 5632]⟩ : Shape).Idx → EReal) (x3 : (⟨2, ![2048, 5632]⟩ : Shape).Idx → EReal) (i : (⟨2, ![1, 1024]⟩ : Shape).Idx) :
    Cert.DhReferenceIdeal.Read.val_main_v40 (F := Ideal) x0 x2 x3 i
      = ∑ r : Fin 2048, dgt x0 x2 x3 r (i 1) := by
  rw [← Cert.DhReferenceIdeal.Read.val_main_v40_eq]
  pointwise
  simp only [Finset.univ_unique, Finset.sum_singleton]
  exact Finset.sum_congr rfl fun r _ => mul_comm _ _

variable (m : (ℓ : Loc nD τ sig) → Buf (Elt Ideal) ℓ)

/-- Which blocks each grid point takes. -/
theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The weight as the kernel holds it, one slab per chip. -/
theorem slab (c : Dev nD) (t : Fin cfg0.N) (j : Fin 4) (k : Fin 1024) (f : Fin 1408) (x : Fin 5632) (hx : x.val = j.val * 1408 + f.val) :
    iblk m c 1 t (ix3 j k f) = m ((c : Thread nD τ).loc main_arg2) (ix2 k x) := by
  blk_point [iblk, V, idx t]

/-- The product of one block of rows with the whole weight. -/
theorem prod (c : Dev nD) (t : Fin cfg0.N) (a : Fin 256) (k : Fin 1024) (r : Fin 2048) (h0 : r.val = t.val * 256 + a.val) :
    k0_pay3 (F := Ideal) (iblk m c 1 t) (iblk m c 0 t) (ix2 a k)
      = dn (m ((c : Thread nD τ).loc main_arg2)) (m ((c : Thread nD τ).loc main_arg3)) r k := by
  pointwise [k0_pay3]
  refine Finset.sum_congr rfl fun x _ => ?_
  have e0 : iblk m c 0 t (ix2 a x) = m ((c : Thread nD τ).loc main_arg3) (ix2 r x) := by blk_ext [iblk, V, idx t]
  rw [e0]
  congr 1
  have hx : x.val < 5632 := x.isLt
  by_cases h1 : x.val < 1408
  · rw [dif_pos h1]
    exact slab m c t 0 k ⟨x.val, h1⟩ x (by simp)
  rw [dif_neg h1]
  by_cases h2 : x.val - 1408 < 1408
  · rw [dif_pos h2]
    exact slab m c t 1 k ⟨x.val - 1408, h2⟩ x (by simp; omega)
  rw [dif_neg h2]
  by_cases h3 : x.val - 1408 - 1408 < 1408
  · rw [dif_pos h3]
    exact slab m c t 2 k ⟨x.val - 1408 - 1408, h3⟩ x (by simp; omega)
  rw [dif_neg h3]
  exact slab m c t 3 k ⟨x.val - 1408 - 1408 - 1408, by omega⟩ x (by simp; omega)

/-- One block of the rows which were normed. -/
theorem rows (c : Dev nD) (t : Fin cfg0.N) (a : Fin 256) (k : Fin 1024) (r : Fin 2048) (h0 : r.val = t.val * 256 + a.val) :
    iblk m c 2 t (ix2 a k) = m ((c : Thread nD τ).loc main_arg0) (ix2 r k) := by
  blk_ext [iblk, V, idx t]

/-- One block of the gradient which goes around the norm. -/
theorem around (c : Dev nD) (t : Fin cfg0.N) (a : Fin 256) (k : Fin 1024) (r : Fin 2048) (h0 : r.val = t.val * 256 + a.val) :
    iblk m c 4 t (ix2 a k) = m ((c : Thread nD τ).loc main_arg4) (ix2 r k) := by
  blk_ext [iblk, V, idx t]

/-- The gain as the kernel holds it. -/
theorem gain (c : Dev nD) (t : Fin cfg0.N) (k : Fin 1024) :
    iblk m c 3 t (ix2 0 k) = m ((c : Thread nD τ).loc main_arg1) (ix1 k) := by
  blk_point [iblk, V, idx t]

/-- What one grid point writes of the gradient of the rows. -/
theorem core (c : Dev nD) (t : Fin cfg0.N) (a : Fin 256) (b : Fin 1024) (r : Fin 2048) (h0 : r.val = t.val * 256 + a.val) :
    k0_pay7 (F := Ideal) (iblk m c 1 t) (iblk m c 2 t) (iblk m c 3 t) (iblk m c 0 t) (iblk m c 4 t) (ix2 a b)
      = Cert.DhReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r b) := by
  rw [ref_dx]
  pointwise [k0_pay7, k0_pay5, k0_pay4]
  have hp := fun k => prod m c t a k r h0
  have hx := fun k => rows m c t a k r h0
  have hd := around m c t a b r h0
  have hg := gain m c t
  simp only [hp, hx, hd, hg]

/-- One element of what a grid point writes is the reference's element at that place. -/
theorem point5 (c : Dev nD) (t : Fin cfg0.N) (y) :
    k0_pay7 (iblk m c 1 t) (iblk m c 2 t) (iblk m c 3 t) (iblk m c 0 t) (iblk m c 4 t) y
      = Cert.DhReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 8 := lt_of_lt_of_eq t.isLt N_0
  have hy : (y 0).val < 256 := (y 0).isLt
  refine Eq.trans (congrArg (k0_pay7 (iblk m c 1 t) (iblk m c 2 t) (iblk m c 3 t) (iblk m c 0 t) (iblk m c 4 t)) ?_) ((core m c t (y 0) (y 1) ⟨t.val * 256 + (y 0).val, by omega⟩ rfl).trans
    (congrArg (Cert.DhReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_))
  · funext i; fin_cases i <;> rfl
  · blk_ext [idx t]

/-- The whole gradient of the rows is the reference's. -/
theorem final5 (c : Dev nD) : (dats m 0 c).arrAt 5 (cfgs 0).N = Cert.DhReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 8 = 0
  · have ht : t.val < 8 := lt_of_lt_of_eq t.isLt N_0
    rw [outsAt0_A m c t h (by omega)]; frame_out
    exact point5 m c t y
  · rw [outsAt0_B m c t h (by omega)]; frame_out
    exact point5 m c t y

/-- One grid point's part of the gradient of the gain. -/
theorem part (c : Dev nD) (t : Fin cfg0.N) (y : S1x1024.Idx) :
    k0_pay1 (F := Ideal) (k0_pay6 (iblk m c 1 t) (iblk m c 2 t) (iblk m c 0 t)) y
      = ∑ k : Fin 256, k0_pay6 (F := Ideal) (iblk m c 1 t) (iblk m c 2 t) (iblk m c 0 t) (ix2 k (y 1)) := by
  pointwise [k0_pay1]

/-- The later grid points add their part to what is there. -/
theorem step (v : FVec Ideal S256x1024 .f32) (acc : Vec Ideal S1x1024 .f32) (y : S1x1024.Idx) :
    k0_pay2 (F := Ideal) v acc y = acc y + k0_pay1 (F := Ideal) v y := by
  pointwise [k0_pay2]

/-- One term of the gradient of the gain. -/
theorem term (c : Dev nD) (t : Fin cfg0.N) (a : Fin 256) (b : Fin 1024) (r : Fin 2048) (h0 : r.val = t.val * 256 + a.val) :
    k0_pay6 (F := Ideal) (iblk m c 1 t) (iblk m c 2 t) (iblk m c 0 t) (ix2 a b)
      = dgt (m ((c : Thread nD τ).loc main_arg0)) (m ((c : Thread nD τ).loc main_arg2)) (m ((c : Thread nD τ).loc main_arg3)) r b := by
  pointwise [k0_pay6, k0_pay5, k0_pay4]
  have hp := fun k => prod m c t a k r h0
  have hx := fun k => rows m c t a k r h0
  simp only [hp, hx]

/-- The whole gradient of the gain is the reference's. -/
theorem final6 (c : Dev nD) : (dats m 0 c).arrAt 6 (cfgs 0).N = Cert.DhReferenceIdeal.Read.val_main_v40 (F := Ideal) (m ((c : Thread nD τ).loc main_arg0)) (m ((c : Thread nD τ).loc main_arg2)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => k0_pay1 (F := Ideal) (k0_pay6 (iblk m c 1 t) (iblk m c 2 t) (iblk m c 0 t)) j)
    (fun t h j => by rw [outsAt0_A m c t h (by have := lt_of_lt_of_eq t.isLt N_0; omega)]; frame_out; rw [zero_add])
    (fun t h j => by rw [outsAt0_B m c t h (by omega)]; frame_out; rw [step])
    (le_of_eq N_0) t0_7 rfl j, zero_add, ref_dg]
  simp only [part]
  refine Fin.sum_mul_add_congr (fun t k hl => ?_) (by rw [show cfg0.N = 8 from N_0])
  exact term m c t k (j 1) ⟨t.val * 256 + k.val, hl⟩ rfl

end Cert.DhKernelIdeal.Whole

end
-- ==== Proof.FwValue.lean ====
/- The forward product of the feed-forward input and its gate: the kernel's three arrays are the reference's. -/
module

public import proofs.«01_k».proof.Proof.Gen.FwKernelIdeal.Frame
public import proofs.«01_k».proof.Proof.Gen.FwReferenceIdeal.Read
public import Idealize.ShloMosaic.Lib.Pipeline.ValueKit
public import Idealize.ShloMosaic.Lib.Claim

@[expose] public section

set_option maxRecDepth 16384

noncomputable section

namespace Cert.FwKernelIdeal.Whole

open Idealize.ShloMosaic Idealize.ShloMosaic.TcCoe Idealize.SL.Sem
open Idealize.ShloMosaic.Pipeline (Dat)

open Cert.FwKernelIdeal Cert.FwKernelIdeal.Gen

variable (m : (ℓ : Loc nD τ sig) → Buf (Elt Ideal) ℓ)

/-- Which blocks each grid point takes. -/
theorem idx : ∀ t : Fin cfg0.N, win0_0.index t = ![t.val / 2, 0] ∧ win0_1.index t = ![t.val % 2, 0, 0] ∧ win0_2.index t = ![t.val % 2 + 2, 0, 0]
    ∧ win0_3.index t = ![t.val / 2, t.val % 2] ∧ win0_4.index t = ![t.val / 2, t.val % 2] ∧ win0_5.index t = ![t.val / 2, t.val % 2] :=
  (by decide +kernel : ∀ t : Fin grid0.N, _)

/-- One element of one block of the gate is the reference's element at that place. -/
theorem pointG (c : Dev nD) (t : Fin cfg0.N) (y) : k0_pay3 (iblk m c 0 t) (iblk m c 1 t) y
    = Cert.FwReferenceIdeal.Read.val_main_v4 (F := Ideal) (m ((c : Thread nD τ).loc main_arg0)) (m ((c : Thread nD τ).loc main_arg1)) (((cfg0.win 3).blk t).view.emb y) := by
  rw [← Cert.FwReferenceIdeal.Read.val_main_v4_eq]
  pointwise [k0_pay3, k0_pay1]
  blk_point [iblk, V, idx t]

/-- The whole array of the gate is the reference's. -/
theorem finalG (c : Dev nD) : (dats m 0 c).arrAt 3 (cfgs 0).N = Cert.FwReferenceIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact pointG m c t y

/-- One element of one block of the other factor is the reference's element at that place. -/
theorem pointU (c : Dev nD) (t : Fin cfg0.N) (y) : k0_pay4 (iblk m c 0 t) (iblk m c 2 t) y
    = Cert.FwReferenceIdeal.Read.val_main_v5 (F := Ideal) (m ((c : Thread nD τ).loc main_arg0)) (m ((c : Thread nD τ).loc main_arg1)) (((cfg0.win 4).blk t).view.emb y) := by
  rw [← Cert.FwReferenceIdeal.Read.val_main_v5_eq]
  pointwise [k0_pay4, k0_pay2]
  blk_point [iblk, V, idx t]

/-- The whole array of the other factor is the reference's. -/
theorem finalU (c : Dev nD) : (dats m 0 c).arrAt 4 (cfgs 0).N = Cert.FwReferenceIdeal.Read.val_main_v5 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  exact pointU m c t y

/-- One element of one block of the gated product is the reference's element at that place. -/
theorem pointA (c : Dev nD) (t : Fin cfg0.N) (y) : k0_pay5 (iblk m c 0 t) (iblk m c 1 t) (iblk m c 2 t) y
    = Cert.FwReferenceIdeal.Read.val_main_v8 (F := Ideal) (m ((c : Thread nD τ).loc main_arg0)) (m ((c : Thread nD τ).loc main_arg1)) (((cfg0.win 5).blk t).view.emb y) := by
  rw [← Cert.FwReferenceIdeal.Read.val_main_v8_eq]
  pointwise [k0_pay5, k0_pay1, k0_pay2]
  simp only [zero_sub]
  blk_point [iblk, V, idx t]

/-- The whole array of the gated product is the reference's. -/
theorem finalA (c : Dev nD) : (dats m 0 c).arrAt 5 (cfgs 0).N = Cert.FwReferenceIdeal.Read.val_main_v8 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  exact pointA m c t y

end Cert.FwKernelIdeal.Whole

end
-- ==== Proof.OuValue.lean ====
/- The forward product of the feed-forward output, added to the residual, and its norm: the kernel's two arrays are the reference's. -/
module

public import proofs.«01_k».proof.Proof.Gen.OuKernelIdeal.Frame
public import proofs.«01_k».proof.Proof.Gen.OuReferenceIdeal.Read
public import Idealize.ShloMosaic.Lib.Pipeline.ValueKit
public import Idealize.ShloMosaic.Lib.Claim

@[expose] public section

set_option maxRecDepth 16384

noncomputable section

namespace Cert.OuKernelIdeal.Whole

open Idealize.ShloMosaic Idealize.ShloMosaic.TcCoe Idealize.SL.Sem
open Idealize.ShloMosaic.Pipeline (Dat)

open Cert.OuKernelIdeal Cert.OuKernelIdeal.Gen

variable (m : (ℓ : Loc nD τ sig) → Buf (Elt Ideal) ℓ)

/-- Which blocks each grid point takes. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- One element of one block of the residual stream is the reference's element at that place. -/
theorem pointX (c : Dev nD) (t : Fin cfg0.N) (y) : k0_pay1 (iblk m c 1 t) (iblk m c 0 t) (iblk m c 2 t) y
    = Cert.OuReferenceIdeal.Read.val_main_v2 (F := Ideal) (m ((c : Thread nD τ).loc main_arg0)) (m ((c : Thread nD τ).loc main_arg1)) (m ((c : Thread nD τ).loc main_arg2)) (((cfg0.win 4).blk t).view.emb y) := by
  rw [← Cert.OuReferenceIdeal.Read.val_main_v2_eq]
  pointwise [k0_pay1]
  blk_point [iblk, V, idx t]

/-- The whole array of the residual stream is the reference's. -/
theorem finalX (c : Dev nD) : (dats m 0 c).arrAt 4 (cfgs 0).N = Cert.OuReferenceIdeal.Read.val_main_v2 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact pointX m c t y

/-- One element of one block of the next norm is the reference's element at that place. -/
theorem pointN (c : Dev nD) (t : Fin cfg0.N) (y) : k0_pay2 (iblk m c 1 t) (iblk m c 0 t) (iblk m c 2 t) (iblk m c 3 t) y
    = Cert.OuReferenceIdeal.Read.val_main_v16 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  rw [← Cert.OuReferenceIdeal.Read.val_main_v16_eq]
  pointwise [k0_pay2, k0_pay1]
  blk_point [iblk, V, idx t]

/-- The whole array of the next norm is the reference's. -/
theorem finalN (c : Dev nD) : (dats m 0 c).arrAt 5 (cfgs 0).N = Cert.OuReferenceIdeal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact pointN m c t y

end Cert.OuKernelIdeal.Whole

end
-- ==== Proof.AoValue.lean ====
/- The forward product of the attention's output, added to the residual, and its norm: the kernel's two arrays are the reference's. -/
module

public import proofs.«01_k».proof.Proof.Gen.AoKernelIdeal.Frame
public import proofs.«01_k».proof.Proof.Gen.AoReferenceIdeal.Read
public import Idealize.ShloMosaic.Lib.Pipeline.ValueKit
public import Idealize.ShloMosaic.Lib.Claim

@[expose] public section

set_option maxRecDepth 16384

noncomputable section

namespace Cert.AoKernelIdeal.Whole

open Idealize.ShloMosaic Idealize.ShloMosaic.TcCoe Idealize.SL.Sem
open Idealize.ShloMosaic.Pipeline (Dat)

open Cert.AoKernelIdeal Cert.AoKernelIdeal.Gen

variable (m : (ℓ : Loc nD τ sig) → Buf (Elt Ideal) ℓ)

/-- Which blocks each grid point takes. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- One element of one block of the residual stream is the reference's element at that place. -/
theorem pointX (c : Dev nD) (t : Fin cfg0.N) (y) : k0_pay1 (iblk m c 1 t) (iblk m c 0 t) (iblk m c 2 t) y
    = Cert.AoReferenceIdeal.Read.val_main_v2 (F := Ideal) (m ((c : Thread nD τ).loc main_arg0)) (m ((c : Thread nD τ).loc main_arg1)) (m ((c : Thread nD τ).loc main_arg2)) (((cfg0.win 4).blk t).view.emb y) := by
  rw [← Cert.AoReferenceIdeal.Read.val_main_v2_eq]
  pointwise [k0_pay1]
  blk_point [iblk, V, idx t]

/-- The whole array of the residual stream is the reference's. -/
theorem finalX (c : Dev nD) : (dats m 0 c).arrAt 4 (cfgs 0).N = Cert.AoReferenceIdeal.Read.val_main_v2 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact pointX m c t y

/-- One element of one block of the next norm is the reference's element at that place. -/
theorem pointN (c : Dev nD) (t : Fin cfg0.N) (y) : k0_pay2 (iblk m c 1 t) (iblk m c 0 t) (iblk m c 2 t) (iblk m c 3 t) y
    = Cert.AoReferenceIdeal.Read.val_main_v16 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  rw [← Cert.AoReferenceIdeal.Read.val_main_v16_eq]
  pointwise [k0_pay2, k0_pay1]
  blk_point [iblk, V, idx t]

/-- The whole array of the next norm is the reference's. -/
theorem finalN (c : Dev nD) : (dats m 0 c).arrAt 5 (cfgs 0).N = Cert.AoReferenceIdeal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact pointN m c t y

end Cert.AoKernelIdeal.Whole

end
-- ==== Proof.OlValue.lean ====
/- The forward product of the last layer's feed-forward output, added to the residual: the kernel's array is the reference's. -/
module

public import proofs.«01_k».proof.Proof.Gen.OlKernelIdeal.Frame
public import proofs.«01_k».proof.Proof.Gen.OlReferenceIdeal.Read
public import Idealize.ShloMosaic.Lib.Pipeline.ValueKit
public import Idealize.ShloMosaic.Lib.Claim

@[expose] public section

set_option maxRecDepth 16384

noncomputable section

namespace Cert.OlKernelIdeal.Whole

open Idealize.ShloMosaic Idealize.ShloMosaic.TcCoe Idealize.SL.Sem
open Idealize.ShloMosaic.Pipeline (Dat)

open Cert.OlKernelIdeal Cert.OlKernelIdeal.Gen

variable (m : (ℓ : Loc nD τ sig) → Buf (Elt Ideal) ℓ)

/-- Which blocks each grid point takes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- One element of one block of the residual stream is the reference's element at that place. -/
theorem point (c : Dev nD) (t : Fin cfg0.N) (y) : k0_pay1 (iblk m c 1 t) (iblk m c 0 t) (iblk m c 2 t) y
    = Cert.OlReferenceIdeal.Read.val_main_v2 (F := Ideal) (m ((c : Thread nD τ).loc main_arg0)) (m ((c : Thread nD τ).loc main_arg1)) (m ((c : Thread nD τ).loc main_arg2)) (((cfg0.win 3).blk t).view.emb y) := by
  rw [← Cert.OlReferenceIdeal.Read.val_main_v2_eq]
  pointwise [k0_pay1]
  blk_point [iblk, V, idx t]

/-- The whole array of the residual stream is the reference's. -/
theorem final (c : Dev nD) : (dats m 0 c).arrAt 3 (cfgs 0).N = Cert.OlReferenceIdeal.Read.val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OlKernelIdeal.Whole

end
-- ==== Proof.GoValue.lean ====
/- The gradient of the attention's output weights: the kernel's array is the reference's. -/
module

public import proofs.«01_k».proof.Proof.Gen.GoKernelIdeal.Frame
public import proofs.«01_k».proof.Proof.Gen.GoReferenceIdeal.Read
public import Idealize.ShloMosaic.Lib.Pipeline.ValueKit
public import Idealize.ShloMosaic.Lib.Claim

@[expose] public section

set_option maxRecDepth 16384

noncomputable section

namespace Cert.GoKernelIdeal.Whole

open Idealize.ShloMosaic Idealize.ShloMosaic.TcCoe Idealize.SL.Sem
open Idealize.ShloMosaic.Pipeline (Dat)

open Cert.GoKernelIdeal Cert.GoKernelIdeal.Gen

variable (m : (ℓ : Loc nD τ sig) → Buf (Elt Ideal) ℓ)

/-- Which blocks each grid point takes. -/
theorem idx : ∀ t : Fin cfg0.N, win0_0.index t = ![0, 0] ∧ win0_1.index t = ![0, 0] ∧ win0_2.index t = ![0, 0] :=
  (by decide +kernel : ∀ t : Fin grid0.N, _)

/-- One element of one block of the gradient is the reference's element at that place. -/
theorem point (c : Dev nD) (t : Fin cfg0.N) (y) : k0_pay1 (iblk m c 1 t) (iblk m c 0 t) y
    = Cert.GoReferenceIdeal.Read.val_main_v5 (F := Ideal) (m ((c : Thread nD τ).loc main_arg0)) (m ((c : Thread nD τ).loc main_arg1)) (((cfg0.win 2).blk t).view.emb y) := by
  rw [← Cert.GoReferenceIdeal.Read.val_main_v5_eq]
  pointwise [k0_pay1]
  refine Finset.sum_congr rfl fun x _ => ?_
  rw [mul_comm]
  blk_point [iblk, V, idx t]

/-- The whole array of the gradient is the reference's. -/
theorem final (c : Dev nD) : (dats m 0 c).arrAt 2 (cfgs 0).N = Cert.GoReferenceIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GoKernelIdeal.Whole

end
-- ==== Proof.DaValue.lean ====
/- The gradient of the attention's output: the kernel's array is the reference's. -/
module

public import proofs.«01_k».proof.Proof.Gen.DaKernelIdeal.Frame
public import proofs.«01_k».proof.Proof.Gen.DaReferenceIdeal.Read
public import Idealize.ShloMosaic.Lib.Pipeline.ValueKit
public import Idealize.ShloMosaic.Lib.Claim

@[expose] public section

set_option maxRecDepth 16384

noncomputable section

namespace Cert.DaKernelIdeal.Whole

open Idealize.ShloMosaic Idealize.ShloMosaic.TcCoe Idealize.SL.Sem
open Idealize.ShloMosaic.Pipeline (Dat)

open Cert.DaKernelIdeal Cert.DaKernelIdeal.Gen

variable (m : (ℓ : Loc nD τ sig) → Buf (Elt Ideal) ℓ)

/-- Which blocks each grid point takes. -/
theorem idx : ∀ t : Fin cfg0.N, win0_0.index t = ![t.val, 0] ∧ win0_1.index t = ![0, 0] ∧ win0_2.index t = ![t.val, 0] :=
  (by decide +kernel : ∀ t : Fin grid0.N, _)

/-- One element of one block of the gradient is the reference's element at that place. -/
theorem point (c : Dev nD) (t : Fin cfg0.N) (y) : k0_pay1 (iblk m c 1 t) (iblk m c 0 t) y
    = Cert.DaReferenceIdeal.Read.val_main_v2 (F := Ideal) (m ((c : Thread nD τ).loc main_arg0)) (m ((c : Thread nD τ).loc main_arg1)) (((cfg0.win 2).blk t).view.emb y) := by
  rw [← Cert.DaReferenceIdeal.Read.val_main_v2_eq]
  pointwise [k0_pay1]
  blk_point [iblk, V, idx t]

/-- The whole array of the gradient is the reference's. -/
theorem final (c : Dev nD) : (dats m 0 c).arrAt 2 (cfgs 0).N = Cert.DaReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DaKernelIdeal.Whole

end
-- ==== Proof.QeValue.lean ====
/- The q, k and v of an even layer: the kernel's array is the reference's. -/
module

public import proofs.«01_k».proof.Proof.Gen.QeKernelIdeal.Frame
public import proofs.«01_k».proof.Proof.Gen.QeReferenceIdeal.Read
public import Idealize.ShloMosaic.Lib.Pipeline.ValueKit
public import Idealize.ShloMosaic.Lib.Claim

@[expose] public section

set_option maxRecDepth 16384

noncomputable section

namespace Cert.QeKernelIdeal.Whole

open Idealize.ShloMosaic Idealize.ShloMosaic.TcCoe Idealize.SL.Sem
open Idealize.ShloMosaic.Pipeline (Dat)

open Cert.QeKernelIdeal Cert.QeKernelIdeal.Gen

variable (m : (ℓ : Loc nD τ sig) → Buf (Elt Ideal) ℓ)

/-- Which blocks each grid point takes. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- One element of one block of the projection is the reference's element at that place. -/
theorem point (c : Dev nD) (t : Fin cfg0.N) (y) : k0_pay1 (iblk m c 1 t) (iblk m c 0 t) y
    = Cert.QeReferenceIdeal.Read.val_main_v2 (F := Ideal) (m ((c : Thread nD τ).loc main_arg0)) (m ((c : Thread nD τ).loc main_arg1)) (((cfg0.win 2).blk t).view.emb y) := by
  rw [← Cert.QeReferenceIdeal.Read.val_main_v2_eq]
  pointwise [k0_pay1]
  blk_point [iblk, V, idx t]

/-- The whole array of the projection is the reference's. -/
theorem final (c : Dev nD) : (dats m 0 c).arrAt 2 (cfgs 0).N = Cert.QeReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QeKernelIdeal.Whole

end
-- ==== Proof.QoValue.lean ====
/- The q, k and v of an odd layer: the kernel's array is the reference's. -/
module

public import proofs.«01_k».proof.Proof.Gen.QoKernelIdeal.Frame
public import proofs.«01_k».proof.Proof.Gen.QoReferenceIdeal.Read
public import Idealize.ShloMosaic.Lib.Pipeline.ValueKit
public import Idealize.ShloMosaic.Lib.Claim

@[expose] public section

set_option maxRecDepth 16384

noncomputable section

namespace Cert.QoKernelIdeal.Whole

open Idealize.ShloMosaic Idealize.ShloMosaic.TcCoe Idealize.SL.Sem
open Idealize.ShloMosaic.Pipeline (Dat)

open Cert.QoKernelIdeal Cert.QoKernelIdeal.Gen

variable (m : (ℓ : Loc nD τ sig) → Buf (Elt Ideal) ℓ)

/-- Which blocks each grid point takes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- One element of one block of the projection is the reference's element at that place. -/
theorem point (c : Dev nD) (t : Fin cfg0.N) (y) : k0_pay1 (iblk m c 1 t) (iblk m c 0 t) y
    = Cert.QoReferenceIdeal.Read.val_main_v3 (F := Ideal) (m ((c : Thread nD τ).loc main_arg0)) (m ((c : Thread nD τ).loc main_arg1)) (((cfg0.win 2).blk t).view.emb y) := by
  rw [← Cert.QoReferenceIdeal.Read.val_main_v3_eq]
  pointwise [k0_pay1]
  blk_point [iblk, V, idx t]

/-- The whole array of the projection is the reference's. -/
theorem final (c : Dev nD) : (dats m 0 c).arrAt 2 (cfgs 0).N = Cert.QoReferenceIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QoKernelIdeal.Whole

end
-- ==== Proof.GqValue.lean ====
/- The gradient of an even layer's projection weights: the kernel's array is the reference's. -/
module

public import proofs.«01_k».proof.Proof.Gen.GqKernelIdeal.Frame
public import proofs.«01_k».proof.Proof.Gen.GqReferenceIdeal.Read
public import Idealize.ShloMosaic.Lib.Pipeline.ValueKit
public import Idealize.ShloMosaic.Lib.Claim

@[expose] public section

set_option maxRecDepth 16384

noncomputable section

namespace Cert.GqKernelIdeal.Whole

open Idealize.ShloMosaic Idealize.ShloMosaic.TcCoe Idealize.SL.Sem
open Idealize.ShloMosaic.Pipeline (Dat)

open Cert.GqKernelIdeal Cert.GqKernelIdeal.Gen

variable (m : (ℓ : Loc nD τ sig) → Buf (Elt Ideal) ℓ)

/-- Which blocks each grid point takes. -/
theorem idx : ∀ t : Fin cfg0.N, win0_0.index t = ![0, 0] ∧ win0_1.index t = ![0, t.val] ∧ win0_2.index t = ![t.val, 0, 0] :=
  (by decide +kernel : ∀ t : Fin grid0.N, _)

/-- One element of one block of the gradient is the reference's element at that place. -/
theorem point (c : Dev nD) (t : Fin cfg0.N) (y) : k0_pay1 (iblk m c 1 t) (iblk m c 0 t) y
    = Cert.GqReferenceIdeal.Read.val_main_v8 (F := Ideal) (m ((c : Thread nD τ).loc main_arg0)) (m ((c : Thread nD τ).loc main_arg1)) (((cfg0.win 2).blk t).view.emb y) := by
  rw [← Cert.GqReferenceIdeal.Read.val_main_v8_eq]
  pointwise [k0_pay1]
  refine Finset.sum_congr rfl fun x _ => ?_
  rw [mul_comm]
  blk_point [iblk, V, idx t]

/-- The whole array of the gradient is the reference's. -/
theorem final (c : Dev nD) : (dats m 0 c).arrAt 2 (cfgs 0).N = Cert.GqReferenceIdeal.Read.val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GqKernelIdeal.Whole

end
-- ==== Proof.GnValue.lean ====
/- The gradient of an odd layer's projection weights: the kernel's array is the reference's. -/
module

public import proofs.«01_k».proof.Proof.Gen.GnKernelIdeal.Frame
public import proofs.«01_k».proof.Proof.Gen.GnReferenceIdeal.Read
public import Idealize.ShloMosaic.Lib.Pipeline.ValueKit
public import Idealize.ShloMosaic.Lib.Claim

@[expose] public section

set_option maxRecDepth 16384

noncomputable section

namespace Cert.GnKernelIdeal.Whole

open Idealize.ShloMosaic Idealize.ShloMosaic.TcCoe Idealize.SL.Sem
open Idealize.ShloMosaic.Pipeline (Dat)

open Cert.GnKernelIdeal Cert.GnKernelIdeal.Gen

variable (m : (ℓ : Loc nD τ sig) → Buf (Elt Ideal) ℓ)

/-- Which blocks each grid point takes. -/
theorem idx : ∀ t : Fin cfg0.N, win0_0.index t = ![0, 0] ∧ win0_1.index t = ![0, t.val] ∧ win0_2.index t = ![0, t.val] :=
  (by decide +kernel : ∀ t : Fin grid0.N, _)

/-- One element of one block of the gradient is the reference's element at that place. -/
theorem point (c : Dev nD) (t : Fin cfg0.N) (y) : k0_pay1 (iblk m c 1 t) (iblk m c 0 t) y
    = Cert.GnReferenceIdeal.Read.val_main_v6 (F := Ideal) (m ((c : Thread nD τ).loc main_arg0)) (m ((c : Thread nD τ).loc main_arg1)) (((cfg0.win 2).blk t).view.emb y) := by
  rw [← Cert.GnReferenceIdeal.Read.val_main_v6_eq]
  pointwise [k0_pay1]
  refine Finset.sum_congr rfl fun x _ => ?_
  rw [mul_comm]
  blk_point [iblk, V, idx t]

/-- The whole array of the gradient is the reference's. -/
theorem final (c : Dev nD) : (dats m 0 c).arrAt 2 (cfgs 0).N = Cert.GnReferenceIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GnKernelIdeal.Whole

end
-- ==== Proof.DqValue.lean ====
/- The backward of the attention input product and of the norm before it: the kernel's two arrays are the reference's. -/
module

public import proofs.«01_k».proof.Proof.Gen.DqKernelIdeal.Frame
public import proofs.«01_k».proof.Proof.Gen.DqReferenceIdeal.Read
public import proofs.«01_k».proof.Proof.Norm
public import Idealize.ShloMosaic.Lib.Pipeline.ValueKit
public import Idealize.ShloMosaic.Lib.Claim

@[expose] public section

set_option maxRecDepth 16384

noncomputable section

namespace Cert.DqKernelIdeal.Whole

open Idealize.ShloMosaic Idealize.ShloMosaic.TcCoe Idealize.SL.Sem
open Idealize.ShloMosaic.Pipeline (Dat)

open Cert.DqKernelIdeal Cert.DqKernelIdeal.Gen Cert.Norm

/-- The gradient of the normed row `r` at column `k`, before the gain. -/
abbrev dn (x2 : (⟨2, ![1024, 3072]⟩ : Shape).Idx → EReal) (x3 : (⟨2, ![2048, 3072]⟩ : Shape).Idx → EReal) (r : Fin 2048) (k : Fin 1024) : EReal :=
  ∑ f : Fin 3072, x3 (ix2 r f) * x2 (ix2 k f)

/-- One row's part of the gradient of the gain at column `k`. -/
abbrev dgt (x0 : (⟨2, ![2048, 1024]⟩ : Shape).Idx → EReal) (x2 : (⟨2, ![1024, 3072]⟩ : Shape).Idx → EReal) (x3 : (⟨2, ![2048, 3072]⟩ : Shape).Idx → EReal) (r : Fin 2048) (k : Fin 1024) : EReal :=
  dn x2 x3 r k * (x0 (ix2 r k) * rstd (fun k => x0 (ix2 r k)))

/-- The reference's gradient of the row, with the reciprocal root taken out. -/
theorem ref_dx (x0 : (⟨2, ![2048, 1024]⟩ : Shape).Idx → EReal) (x1 : (⟨1, ![1024]⟩ : Shape).Idx → EReal) (x2 : (⟨2, ![1024, 3072]⟩ : Shape).Idx → EReal) (x3 : (⟨2, ![2048, 3072]⟩ : Shape).Idx → EReal) (x4 : (⟨2, ![2048, 1024]⟩ : Shape).Idx → EReal) (i : (⟨2, ![2048, 1024]⟩ : Shape).Idx) :
    Cert.DqReferenceIdeal.Read.val_main_v39 (F := Ideal) x0 x1 x2 x3 x4 i
      = x4 i + rstd (fun k => x0 (ix2 (i 0) k)) * (dn x2 x3 (i 0) (i 1) * x1 (ix1 (i 1))
          - x0 i * rstd (fun k => x0 (ix2 (i 0) k))
            * Ideal.div (∑ k : Fin 1024, dn x2 x3 (i 0) k * x1 (ix1 k) * (x0 (ix2 (i 0) k) * rstd (fun k => x0 (ix2 (i 0) k)))) width) := by
  have hi : x0 i = x0 (ix2 (i 0) (i 1)) := by blk_ext
  rw [law (fun k => x0 (ix2 (i 0) k)) (fun k => dn x2 x3 (i 0) k * x1 (ix1 k)) (x0 i) _ (i 1) hi]
  pointwise [Cert.DqReferenceIdeal.Read.val_main_v0, Cert.DqReferenceIdeal.Read.val_main_cst, Cert.DqReferenceIdeal.Read.val_main_v1, Cert.DqReferenceIdeal.Read.val_main_v2, Cert.DqReferenceIdeal.Read.val_main_cst_0, Cert.DqReferenceIdeal.Read.val_main_v3, Cert.DqReferenceIdeal.Read.val_main_v4, Cert.DqReferenceIdeal.Read.val_main_cst_1, Cert.DqReferenceIdeal.Read.val_main_v5, Cert.DqReferenceIdeal.Read.val_main_v6, Cert.DqReferenceIdeal.Read.val_main_v7, Cert.DqReferenceIdeal.Read.val_main_v8, Cert.DqReferenceIdeal.Read.val_main_cst_2, Cert.DqReferenceIdeal.Read.val_main_v9, Cert.DqReferenceIdeal.Read.val_main_v10, Cert.DqReferenceIdeal.Read.val_main_v11, Cert.DqReferenceIdeal.Read.val_main_v12, Cert.DqReferenceIdeal.Read.val_main_v13, Cert.DqReferenceIdeal.Read.val_main_v14, Cert.DqReferenceIdeal.Read.val_main_v15, Cert.DqReferenceIdeal.Read.val_main_v16, Cert.DqReferenceIdeal.Read.val_main_v17, Cert.DqReferenceIdeal.Read.val_main_v18, Cert.DqReferenceIdeal.Read.val_main_v19, Cert.DqReferenceIdeal.Read.val_main_cst_3, Cert.DqReferenceIdeal.Read.val_main_v20, Cert.DqReferenceIdeal.Read.val_main_v21, Cert.DqReferenceIdeal.Read.val_main_v22, Cert.DqReferenceIdeal.Read.val_main_v23, Cert.DqReferenceIdeal.Read.val_main_cst_4, Cert.DqReferenceIdeal.Read.val_main_v24, Cert.DqReferenceIdeal.Read.val_main_v25, Cert.DqReferenceIdeal.Read.val_main_cst_5, Cert.DqReferenceIdeal.Read.val_main_v26, Cert.DqReferenceIdeal.Read.val_main_v27, Cert.DqReferenceIdeal.Read.val_main_v28, Cert.DqReferenceIdeal.Read.val_main_v29, Cert.DqReferenceIdeal.Read.val_main_v30, Cert.DqReferenceIdeal.Read.val_main_cst_6, Cert.DqReferenceIdeal.Read.val_main_v31, Cert.DqReferenceIdeal.Read.val_main_v32, Cert.DqReferenceIdeal.Read.val_main_cst_7, Cert.DqReferenceIdeal.Read.val_main_v33, Cert.DqReferenceIdeal.Read.val_main_v34, Cert.DqReferenceIdeal.Read.val_main_v35, Cert.DqReferenceIdeal.Read.val_main_v36, Cert.DqReferenceIdeal.Read.val_main_v37, Cert.DqReferenceIdeal.Read.val_main_v38, Cert.DqReferenceIdeal.Read.val_main_v39]
  simp only [Finset.univ_unique, Finset.sum_singleton]

/-- The reference's gradient of the gain, as one sum over the rows. -/
theorem ref_dg (x0 : (⟨2, ![2048, 1024]⟩ : Shape).Idx → EReal) (x2 : (⟨2, ![1024, 3072]⟩ : Shape).Idx → EReal) (x3 : (⟨2, ![2048, 3072]⟩ : Shape).Idx → EReal) (i : (⟨2, ![1, 1024]⟩ : Shape).Idx) :
    Cert.DqReferenceIdeal.Read.val_main_v40 (F := Ideal) x0 x2 x3 i
      = ∑ r : Fin 2048, dgt x0 x2 x3 r (i 1) := by
  rw [← Cert.DqReferenceIdeal.Read.val_main_v40_eq]
  pointwise
  simp only [Finset.univ_unique, Finset.sum_singleton]
  exact Finset.sum_congr rfl fun r _ => mul_comm _ _

variable (m : (ℓ : Loc nD τ sig) → Buf (Elt Ideal) ℓ)

/-- Which blocks each grid point takes. -/
theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The weight as the kernel holds it, one slab per chip. -/
theorem slab (c : Dev nD) (t : Fin cfg0.N) (j : Fin 4) (k : Fin 1024) (f : Fin 768) (x : Fin 3072) (hx : x.val = j.val * 768 + f.val) :
    iblk m c 1 t (ix3 j k f) = m ((c : Thread nD τ).loc main_arg2) (ix2 k x) := by
  blk_point [iblk, V, idx t]

/-- The product of one block of rows with the whole weight. -/
theorem prod (c : Dev nD) (t : Fin cfg0.N) (a : Fin 512) (k : Fin 1024) (r : Fin 2048) (h0 : r.val = t.val * 512 + a.val) :
    k0_pay3 (F := Ideal) (iblk m c 1 t) (iblk m c 0 t) (ix2 a k)
      = dn (m ((c : Thread nD τ).loc main_arg2)) (m ((c : Thread nD τ).loc main_arg3)) r k := by
  pointwise [k0_pay3]
  refine Finset.sum_congr rfl fun x _ => ?_
  have e0 : iblk m c 0 t (ix2 a x) = m ((c : Thread nD τ).loc main_arg3) (ix2 r x) := by blk_ext [iblk, V, idx t]
  rw [e0]
  congr 1
  have hx : x.val < 3072 := x.isLt
  by_cases h1 : x.val < 768
  · rw [dif_pos h1]
    exact slab m c t 0 k ⟨x.val, h1⟩ x (by simp)
  rw [dif_neg h1]
  by_cases h2 : x.val - 768 < 768
  · rw [dif_pos h2]
    exact slab m c t 1 k ⟨x.val - 768, h2⟩ x (by simp; omega)
  rw [dif_neg h2]
  by_cases h3 : x.val - 768 - 768 < 768
  · rw [dif_pos h3]
    exact slab m c t 2 k ⟨x.val - 768 - 768, h3⟩ x (by simp; omega)
  rw [dif_neg h3]
  exact slab m c t 3 k ⟨x.val - 768 - 768 - 768, by omega⟩ x (by simp; omega)

/-- One block of the rows which were normed. -/
theorem rows (c : Dev nD) (t : Fin cfg0.N) (a : Fin 512) (k : Fin 1024) (r : Fin 2048) (h0 : r.val = t.val * 512 + a.val) :
    iblk m c 2 t (ix2 a k) = m ((c : Thread nD τ).loc main_arg0) (ix2 r k) := by
  blk_ext [iblk, V, idx t]

/-- One block of the gradient which goes around the norm. -/
theorem around (c : Dev nD) (t : Fin cfg0.N) (a : Fin 512) (k : Fin 1024) (r : Fin 2048) (h0 : r.val = t.val * 512 + a.val) :
    iblk m c 4 t (ix2 a k) = m ((c : Thread nD τ).loc main_arg4) (ix2 r k) := by
  blk_ext [iblk, V, idx t]

/-- The gain as the kernel holds it. -/
theorem gain (c : Dev nD) (t : Fin cfg0.N) (k : Fin 1024) :
    iblk m c 3 t (ix2 0 k) = m ((c : Thread nD τ).loc main_arg1) (ix1 k) := by
  blk_point [iblk, V, idx t]

/-- What one grid point writes of the gradient of the rows. -/
theorem core (c : Dev nD) (t : Fin cfg0.N) (a : Fin 512) (b : Fin 1024) (r : Fin 2048) (h0 : r.val = t.val * 512 + a.val) :
    k0_pay7 (F := Ideal) (iblk m c 1 t) (iblk m c 2 t) (iblk m c 3 t) (iblk m c 0 t) (iblk m c 4 t) (ix2 a b)
      = Cert.DqReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r b) := by
  rw [ref_dx]
  pointwise [k0_pay7, k0_pay5, k0_pay4]
  have hp := fun k => prod m c t a k r h0
  have hx := fun k => rows m c t a k r h0
  have hd := around m c t a b r h0
  have hg := gain m c t
  simp only [hp, hx, hd, hg]

/-- One element of what a grid point writes is the reference's element at that place. -/
theorem point5 (c : Dev nD) (t : Fin cfg0.N) (y) :
    k0_pay7 (iblk m c 1 t) (iblk m c 2 t) (iblk m c 3 t) (iblk m c 0 t) (iblk m c 4 t) y
      = Cert.DqReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 4 := lt_of_lt_of_eq t.isLt N_0
  have hy : (y 0).val < 512 := (y 0).isLt
  refine Eq.trans (congrArg (k0_pay7 (iblk m c 1 t) (iblk m c 2 t) (iblk m c 3 t) (iblk m c 0 t) (iblk m c 4 t)) ?_) ((core m c t (y 0) (y 1) ⟨t.val * 512 + (y 0).val, by omega⟩ rfl).trans
    (congrArg (Cert.DqReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_))
  · funext i; fin_cases i <;> rfl
  · blk_ext [idx t]

/-- The whole gradient of the rows is the reference's. -/
theorem final5 (c : Dev nD) : (dats m 0 c).arrAt 5 (cfgs 0).N = Cert.DqReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 4 = 0
  · have ht : t.val < 4 := lt_of_lt_of_eq t.isLt N_0
    rw [outsAt0_A m c t h (by omega)]; frame_out
    exact point5 m c t y
  · rw [outsAt0_B m c t h (by omega)]; frame_out
    exact point5 m c t y

/-- One grid point's part of the gradient of the gain. -/
theorem part (c : Dev nD) (t : Fin cfg0.N) (y : S1x1024.Idx) :
    k0_pay1 (F := Ideal) (k0_pay6 (iblk m c 1 t) (iblk m c 2 t) (iblk m c 0 t)) y
      = ∑ k : Fin 512, k0_pay6 (F := Ideal) (iblk m c 1 t) (iblk m c 2 t) (iblk m c 0 t) (ix2 k (y 1)) := by
  pointwise [k0_pay1]

/-- The later grid points add their part to what is there. -/
theorem step (v : FVec Ideal S512x1024 .f32) (acc : Vec Ideal S1x1024 .f32) (y : S1x1024.Idx) :
    k0_pay2 (F := Ideal) v acc y = acc y + k0_pay1 (F := Ideal) v y := by
  pointwise [k0_pay2]

/-- One term of the gradient of the gain. -/
theorem term (c : Dev nD) (t : Fin cfg0.N) (a : Fin 512) (b : Fin 1024) (r : Fin 2048) (h0 : r.val = t.val * 512 + a.val) :
    k0_pay6 (F := Ideal) (iblk m c 1 t) (iblk m c 2 t) (iblk m c 0 t) (ix2 a b)
      = dgt (m ((c : Thread nD τ).loc main_arg0)) (m ((c : Thread nD τ).loc main_arg2)) (m ((c : Thread nD τ).loc main_arg3)) r b := by
  pointwise [k0_pay6, k0_pay5, k0_pay4]
  have hp := fun k => prod m c t a k r h0
  have hx := fun k => rows m c t a k r h0
  simp only [hp, hx]

/-- The whole gradient of the gain is the reference's. -/
theorem final6 (c : Dev nD) : (dats m 0 c).arrAt 6 (cfgs 0).N = Cert.DqReferenceIdeal.Read.val_main_v40 (F := Ideal) (m ((c : Thread nD τ).loc main_arg0)) (m ((c : Thread nD τ).loc main_arg2)) (m ((c : Thread nD τ).loc main_arg3)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0)
    (fun t j => k0_pay1 (F := Ideal) (k0_pay6 (iblk m c 1 t) (iblk m c 2 t) (iblk m c 0 t)) j)
    (fun t h j => by rw [outsAt0_A m c t h (by have := lt_of_lt_of_eq t.isLt N_0; omega)]; frame_out; rw [zero_add])
    (fun t h j => by rw [outsAt0_B m c t h (by omega)]; frame_out; rw [step])
    (le_of_eq N_0) t0_3 rfl j, zero_add, ref_dg]
  simp only [part]
  refine Fin.sum_mul_add_congr (fun t k hl => ?_) (by rw [show cfg0.N = 4 from N_0])
  exact term m c t k (j 1) ⟨t.val * 512 + k.val, hl⟩ rfl

end Cert.DqKernelIdeal.Whole

end
-- ==== Proof.DnValue.lean ====
/- The backward of the odd layers' attention input product and of the norm before it: the kernel's two arrays are the reference's. -/
module

public import proofs.«01_k».proof.Proof.Gen.DnKernelIdeal.Frame
public import proofs.«01_k».proof.Proof.Gen.DnReferenceIdeal.Read
public import proofs.«01_k».proof.Proof.Norm
public import Idealize.ShloMosaic.Lib.Pipeline.ValueKit
public import Idealize.ShloMosaic.Lib.Claim

@[expose] public section

set_option maxRecDepth 16384

noncomputable section

namespace Cert.DnKernelIdeal.Whole

open Idealize.ShloMosaic Idealize.ShloMosaic.TcCoe Idealize.SL.Sem
open Idealize.ShloMosaic.Pipeline (Dat)

open Cert.DnKernelIdeal Cert.DnKernelIdeal.Gen Cert.Norm

/-- The gradient of the normed row `r` at column `k`, before the gain. -/
abbrev dn (x2 : (⟨2, ![1024, 3088]⟩ : Shape).Idx → EReal) (x3 : (⟨2, ![2048, 3088]⟩ : Shape).Idx → EReal) (r : Fin 2048) (k : Fin 1024) : EReal :=
  ∑ f : Fin 3088, x3 (ix2 r f) * x2 (ix2 k f)

/-- One row's part of the gradient of the gain at column `k`. -/
abbrev dgt (x0 : (⟨2, ![2048, 1024]⟩ : Shape).Idx → EReal) (x2 : (⟨2, ![1024, 3088]⟩ : Shape).Idx → EReal) (x3 : (⟨2, ![2048, 3088]⟩ : Shape).Idx → EReal) (r : Fin 2048) (k : Fin 1024) : EReal :=
  dn x2 x3 r k * (x0 (ix2 r k) * rstd (fun k => x0 (ix2 r k)))

/-- The reference's gradient of the row, with the reciprocal root taken out. -/
theorem ref_dx (x0 : (⟨2, ![2048, 1024]⟩ : Shape).Idx → EReal) (x1 : (⟨1, ![1024]⟩ : Shape).Idx → EReal) (x2 : (⟨2, ![1024, 3088]⟩ : Shape).Idx → EReal) (x3 : (⟨2, ![2048, 3088]⟩ : Shape).Idx → EReal) (x4 : (⟨2, ![2048, 1024]⟩ : Shape).Idx → EReal) (i : (⟨2, ![2048, 1024]⟩ : Shape).Idx) :
    Cert.DnReferenceIdeal.Read.val_main_v39 (F := Ideal) x0 x1 x2 x3 x4 i
      = x4 i + rstd (fun k => x0 (ix2 (i 0) k)) * (dn x2 x3 (i 0) (i 1) * x1 (ix1 (i 1))
          - x0 i * rstd (fun k => x0 (ix2 (i 0) k))
            * Ideal.div (∑ k : Fin 1024, dn x2 x3 (i 0) k * x1 (ix1 k) * (x0 (ix2 (i 0) k) * rstd (fun k => x0 (ix2 (i 0) k)))) width) := by
  have hi : x0 i = x0 (ix2 (i 0) (i 1)) := by blk_ext
  rw [law (fun k => x0 (ix2 (i 0) k)) (fun k => dn x2 x3 (i 0) k * x1 (ix1 k)) (x0 i) _ (i 1) hi]
  pointwise [Cert.DnReferenceIdeal.Read.val_main_v0, Cert.DnReferenceIdeal.Read.val_main_cst, Cert.DnReferenceIdeal.Read.val_main_v1, Cert.DnReferenceIdeal.Read.val_main_v2, Cert.DnReferenceIdeal.Read.val_main_cst_0, Cert.DnReferenceIdeal.Read.val_main_v3, Cert.DnReferenceIdeal.Read.val_main_v4, Cert.DnReferenceIdeal.Read.val_main_cst_1, Cert.DnReferenceIdeal.Read.val_main_v5, Cert.DnReferenceIdeal.Read.val_main_v6, Cert.DnReferenceIdeal.Read.val_main_v7, Cert.DnReferenceIdeal.Read.val_main_v8, Cert.DnReferenceIdeal.Read.val_main_cst_2, Cert.DnReferenceIdeal.Read.val_main_v9, Cert.DnReferenceIdeal.Read.val_main_v10, Cert.DnReferenceIdeal.Read.val_main_v11, Cert.DnReferenceIdeal.Read.val_main_v12, Cert.DnReferenceIdeal.Read.val_main_v13, Cert.DnReferenceIdeal.Read.val_main_v14, Cert.DnReferenceIdeal.Read.val_main_v15, Cert.DnReferenceIdeal.Read.val_main_v16, Cert.DnReferenceIdeal.Read.val_main_v17, Cert.DnReferenceIdeal.Read.val_main_v18, Cert.DnReferenceIdeal.Read.val_main_v19, Cert.DnReferenceIdeal.Read.val_main_cst_3, Cert.DnReferenceIdeal.Read.val_main_v20, Cert.DnReferenceIdeal.Read.val_main_v21, Cert.DnReferenceIdeal.Read.val_main_v22, Cert.DnReferenceIdeal.Read.val_main_v23, Cert.DnReferenceIdeal.Read.val_main_cst_4, Cert.DnReferenceIdeal.Read.val_main_v24, Cert.DnReferenceIdeal.Read.val_main_v25, Cert.DnReferenceIdeal.Read.val_main_cst_5, Cert.DnReferenceIdeal.Read.val_main_v26, Cert.DnReferenceIdeal.Read.val_main_v27, Cert.DnReferenceIdeal.Read.val_main_v28, Cert.DnReferenceIdeal.Read.val_main_v29, Cert.DnReferenceIdeal.Read.val_main_v30, Cert.DnReferenceIdeal.Read.val_main_cst_6, Cert.DnReferenceIdeal.Read.val_main_v31, Cert.DnReferenceIdeal.Read.val_main_v32, Cert.DnReferenceIdeal.Read.val_main_cst_7, Cert.DnReferenceIdeal.Read.val_main_v33, Cert.DnReferenceIdeal.Read.val_main_v34, Cert.DnReferenceIdeal.Read.val_main_v35, Cert.DnReferenceIdeal.Read.val_main_v36, Cert.DnReferenceIdeal.Read.val_main_v37, Cert.DnReferenceIdeal.Read.val_main_v38, Cert.DnReferenceIdeal.Read.val_main_v39]
  simp only [Finset.univ_unique, Finset.sum_singleton]

/-- The reference's gradient of the gain, as one sum over the rows. -/
theorem ref_dg (x0 : (⟨2, ![2048, 1024]⟩ : Shape).Idx → EReal) (x2 : (⟨2, ![1024, 3088]⟩ : Shape).Idx → EReal) (x3 : (⟨2, ![2048, 3088]⟩ : Shape).Idx → EReal) (i : (⟨2, ![1, 1024]⟩ : Shape).Idx) :
    Cert.DnReferenceIdeal.Read.val_main_v40 (F := Ideal) x0 x2 x3 i
      = ∑ r : Fin 2048, dgt x0 x2 x3 r (i 1) := by
  rw [← Cert.DnReferenceIdeal.Read.val_main_v40_eq]
  pointwise
  simp only [Finset.univ_unique, Finset.sum_singleton]
  exact Finset.sum_congr rfl fun r _ => mul_comm _ _

variable (m : (ℓ : Loc nD τ sig) → Buf (Elt Ideal) ℓ)

/-- Which blocks each grid point takes. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The weight's array at entry: its columns in two parts, the second padded. -/
theorem V4 (c : Dev nD) : V m c main_v4 = concatenate S1024x3200 1 [⟨S1024x3072, extractStridedSlice S1024x3072 ![0, 0] (truncf (F := Ideal) (φ := .f32) .bf16 (m ((c : Thread nD τ).loc main_arg2)) Facts₀.bitsLt_bf16_f32) Facts₀.slices_S1024x3088_S1024x3072_0_0⟩,
      ⟨S1024x128, pad S1024x128 ![0, 0] ![0, 112] ![0, 0] (extractStridedSlice S1024x16 ![0, 3072] (truncf (F := Ideal) (φ := .f32) .bf16 (m ((c : Thread nD τ).loc main_arg2)) Facts₀.bitsLt_bf16_f32) Facts₀.slices_S1024x3088_S1024x16_0_3072) (sitofp (F := Ideal) .bf16 (constantI S_ 32 0#32)) Facts₀.pads_S1024x16_S1024x128_000_01120 Facts₀.h_S_⟩] Facts₀.concatenates_S1024x3072_S1024x128_S1024x3200_d1 := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]

/-- The cotangent's array at entry: padded. -/
theorem V5 (c : Dev nD) : V m c main_v5 = pad S2048x3200 ![0, 0] ![0, 112] ![0, 0] (m ((c : Thread nD τ).loc main_arg3)) (sitofp (F := Ideal) .bf16 (constantI S_ 32 0#32)) Facts₀.pads_S2048x3088_S2048x3200_000_01120 Facts₀.h_S_ := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]

/-- The gain's array at entry. -/
theorem V6 (c : Dev nD) : V m c main_v6 = shapeCast S1x1024 (m ((c : Thread nD τ).loc main_arg1)) Facts₀.shapeCasts_S1024_S1x1024 := by
  simp only [V, hostOps0, hostOps0_1, hostOps0_2, hostOps0_3, hostOps0_4, List.flatten_cons, List.flatten_nil, List.append_nil, List.cons_append, List.nil_append]
  entry_read
  rfl

/-- The padding is zero. -/
theorem zero_pad : (FloatOps.sitofp (F := Ideal) .bf16 (0#32) : Ideal .bf16) = (0 : EReal) := by
  show (((0#32 : BitVec 32).toInt : ℝ) : EReal) = 0
  simp

/-- The padded cotangent at an element. -/
theorem padded (x3 : FVec Ideal S2048x3088 .bf16) (r : Fin 2048) (f : Fin 3200) :
    pad S2048x3200 ![0, 0] ![0, 112] ![0, 0] x3 (sitofp (F := Ideal) .bf16 (constantI S_ 32 0#32)) Facts₀.pads_S2048x3088_S2048x3200_000_01120 Facts₀.h_S_ (ix2 r f)
      = if h : f.val < 3088 then x3 (ix2 r ⟨f.val, h⟩) else (0 : EReal) := by
  pointwise [zero_pad]

/-- The weight as the kernel holds it, in its first 3088 columns. -/
theorem weight (c : Dev nD) (t : Fin cfg0.N) (k : Fin 1024) (f : Fin 3200) (x : Fin 3088) (hx : x.val = f.val) :
    iblk m c 1 t (ix2 k f) = m ((c : Thread nD τ).loc main_arg2) (ix2 k x) := by
  have h : iblk m c 1 t (ix2 k f) = V m c main_v4 (ix2 k f) := by blk_ext [iblk, idx t]
  rw [h, V4]
  pointwise []
  split
  · blk_ext
  · rw [dif_pos (by omega)]
    blk_ext

/-- The cotangent as the kernel holds it, in its first 3088 columns. -/
theorem left (c : Dev nD) (t : Fin cfg0.N) (a : Fin 512) (r : Fin 2048) (h0 : r.val = t.val * 512 + a.val) (f : Fin 3200) (x : Fin 3088) (hx : x.val = f.val) :
    iblk m c 0 t (ix2 a f) = m ((c : Thread nD τ).loc main_arg3) (ix2 r x) := by
  have h : iblk m c 0 t (ix2 a f) = V m c main_v5 (ix2 r f) := by blk_ext [iblk, idx t]
  rw [h, V5]
  refine (padded _ r f).trans ?_
  rw [dif_pos (by omega)]
  blk_ext

/-- Its further columns are zero. -/
theorem right (c : Dev nD) (t : Fin cfg0.N) (a : Fin 512) (r : Fin 2048) (h0 : r.val = t.val * 512 + a.val) (f : Fin 3200) (hf : 3088 ≤ f.val) :
    iblk m c 0 t (ix2 a f) = (0 : EReal) := by
  have h : iblk m c 0 t (ix2 a f) = V m c main_v5 (ix2 r f) := by blk_ext [iblk, idx t]
  rw [h, V5]
  refine (padded _ r f).trans ?_
  rw [dif_neg (by omega)]

/-- The product of one block of rows with the whole weight. -/
theorem prod (c : Dev nD) (t : Fin cfg0.N) (a : Fin 512) (k : Fin 1024) (r : Fin 2048) (h0 : r.val = t.val * 512 + a.val) :
    k0_pay2 (F := Ideal) (iblk m c 1 t) (iblk m c 0 t) (ix2 a k)
      = dn (m ((c : Thread nD τ).loc main_arg2)) (m ((c : Thread nD τ).loc main_arg3)) r k := by
  pointwise [k0_pay2]
  refine (Fin.sum_univ_add (a := 3088) (b := 112) _).trans ?_
  rw [Finset.sum_eq_zero (s := (Finset.univ : Finset (Fin 112)))]
  · rw [add_zero]
    refine Finset.sum_congr rfl fun x _ => ?_
    rw [left m c t a r h0 _ x rfl, weight m c t k _ x rfl]
  · intro x _
    rw [right m c t a r h0 _ (by simp), zero_mul]

/-- One block of the rows which were normed. -/
theorem rows (c : Dev nD) (t : Fin cfg0.N) (a : Fin 512) (k : Fin 1024) (r : Fin 2048) (h0 : r.val = t.val * 512 + a.val) :
    iblk m c 2 t (ix2 a k) = m ((c : Thread nD τ).loc main_arg0) (ix2 r k) := by
  blk_ext [iblk, V, idx t]

/-- One block of the gradient which goes around the norm. -/
theorem around (c : Dev nD) (t : Fin cfg0.N) (a : Fin 512) (k : Fin 1024) (r : Fin 2048) (h0 : r.val = t.val * 512 + a.val) :
    iblk m c 4 t (ix2 a k) = m ((c : Thread nD τ).loc main_arg4) (ix2 r k) := by
  blk_ext [iblk, V, idx t]

/-- The gain as the kernel holds it. -/
theorem gain (c : Dev nD) (t : Fin cfg0.N) (k : Fin 1024) :
    iblk m c 3 t (ix2 0 k) = m ((c : Thread nD τ).loc main_arg1) (ix1 k) := by
  have h : iblk m c 3 t (ix2 0 k) = V m c main_v6 (ix2 0 k) := by blk_ext [iblk, idx t]
  rw [h, V6]
  pointwise []

/-- What one grid point writes of the gradient of the rows. -/
theorem core (c : Dev nD) (t : Fin cfg0.N) (a : Fin 512) (b : Fin 1024) (r : Fin 2048) (h0 : r.val = t.val * 512 + a.val) :
    k0_pay5 (F := Ideal) (iblk m c 1 t) (iblk m c 2 t) (iblk m c 3 t) (iblk m c 0 t) (iblk m c 4 t) (ix2 a b)
      = Cert.DnReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r b) := by
  rw [ref_dx]
  pointwise [k0_pay5, k0_pay4, k0_pay3]
  have hp := fun k => prod m c t a k r h0
  have hx := fun k => rows m c t a k r h0
  have hd := around m c t a b r h0
  have hg := gain m c t
  simp only [hp, hx, hd, hg]

/-- One element of what a grid point writes is the reference's element at that place. -/
theorem point5 (c : Dev nD) (t : Fin cfg0.N) (y) :
    k0_pay5 (iblk m c 1 t) (iblk m c 2 t) (iblk m c 3 t) (iblk m c 0 t) (iblk m c 4 t) y
      = Cert.DnReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 4 := lt_of_lt_of_eq t.isLt N_0
  have hy : (y 0).val < 512 := (y 0).isLt
  refine Eq.trans (congrArg (k0_pay5 (iblk m c 1 t) (iblk m c 2 t) (iblk m c 3 t) (iblk m c 0 t) (iblk m c 4 t)) ?_) ((core m c t (y 0) (y 1) ⟨t.val * 512 + (y 0).val, by omega⟩ rfl).trans
    (congrArg (Cert.DnReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_))
  · funext i; fin_cases i <;> rfl
  · blk_ext [idx t]

/-- The whole gradient of the rows is the reference's. -/
theorem final5 (c : Dev nD) : (dats m 0 c).arrAt 5 (cfgs 0).N = Cert.DnReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 4 = 0
  · have ht : t.val < 4 := lt_of_lt_of_eq t.isLt N_0
    rw [outsAt0_A m c t h (by omega)]; frame_out
    exact point5 m c t y
  · rw [outsAt0_B m c t h (by omega)]; frame_out
    exact point5 m c t y

/-- One grid point's part of the gradient of the gain. -/
theorem part (c : Dev nD) (t : Fin cfg0.N) (y : S1x1024.Idx) :
    k0_pay6 (F := Ideal) (iblk m c 1 t) (iblk m c 2 t) (iblk m c 0 t) y
      = ∑ a : Fin 512, k0_pay2 (F := Ideal) (iblk m c 1 t) (iblk m c 0 t) (ix2 a (y 1)) * k0_pay4 (F := Ideal) (iblk m c 2 t) (ix2 a (y 1)) := by
  pointwise [k0_pay6]

/-- The later grid points add their part to what is there. -/
theorem step (v : FVec Ideal S1x1024 .f32) (acc : Vec Ideal S1x1024 .f32) (y : S1x1024.Idx) :
    k0_pay1 (F := Ideal) v acc y = acc y + v y := by
  pointwise [k0_pay1]

/-- One term of the gradient of the gain. -/
theorem term (c : Dev nD) (t : Fin cfg0.N) (a : Fin 512) (b : Fin 1024) (r : Fin 2048) (h0 : r.val = t.val * 512 + a.val) :
    k0_pay2 (F := Ideal) (iblk m c 1 t) (iblk m c 0 t) (ix2 a b) * k0_pay4 (F := Ideal) (iblk m c 2 t) (ix2 a b)
      = dgt (m ((c : Thread nD τ).loc main_arg0)) (m ((c : Thread nD τ).loc main_arg2)) (m ((c : Thread nD τ).loc main_arg3)) r b := by
  rw [prod m c t a b r h0]
  have hx := fun k => rows m c t a k r h0
  pointwise [k0_pay4, k0_pay3]
  simp only [hx]

/-- The whole gradient of the gain is the reference's. -/
theorem final6 (c : Dev nD) : (dats m 0 c).arrAt 6 (cfgs 0).N = Cert.DnReferenceIdeal.Read.val_main_v40 (F := Ideal) (m ((c : Thread nD τ).loc main_arg0)) (m ((c : Thread nD τ).loc main_arg2)) (m ((c : Thread nD τ).loc main_arg3)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0)
    (fun t j => k0_pay6 (F := Ideal) (iblk m c 1 t) (iblk m c 2 t) (iblk m c 0 t) j)
    (fun t h j => by rw [outsAt0_A m c t h (by have := lt_of_lt_of_eq t.isLt N_0; omega)]; frame_out; rw [zero_add])
    (fun t h j => by rw [outsAt0_B m c t h (by omega)]; frame_out; rw [step])
    (le_of_eq N_0) t0_3 rfl j, zero_add, ref_dg]
  simp only [part m c _ j]
  refine Fin.sum_mul_add_congr (fun t k hl => ?_) (by rw [show cfg0.N = 4 from N_0])
  exact term m c t k (j 1) ⟨t.val * 512 + k.val, hl⟩ rfl

end Cert.DnKernelIdeal.Whole

end
-- ==== Proof.UsValue.lean ====
/- One AdamW step of the small weights, whose rows are packed in one array: the kernel's three arrays are the reference's. -/
module

public import proofs.«01_k».proof.Proof.Gen.UsKernelIdeal.Frame
public import proofs.«01_k».proof.Proof.Gen.UsReferenceIdeal.Read
public import Idealize.ShloMosaic.Lib.Pipeline.ValueKit
public import Idealize.ShloMosaic.Lib.Claim

@[expose] public section

set_option maxRecDepth 16384

noncomputable section

namespace Cert.UsKernelIdeal.Whole

open Idealize.ShloMosaic Idealize.ShloMosaic.TcCoe Idealize.SL.Sem
open Idealize.ShloMosaic.Pipeline (Dat)

open Cert.UsKernelIdeal Cert.UsKernelIdeal.Gen

variable (m : (ℓ : Loc nD τ sig) → Buf (Elt Ideal) ℓ)

/-- Every array is one block. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- One element of the step of the weights is the reference's element at that place. -/
theorem pointD (c : Dev nD) (t : Fin cfg0.N) (y) : k0_pay3 (iblk m c 1 t) (iblk m c 2 t) (iblk m c 3 t) (iblk m c 0 t) y
    = Cert.UsReferenceIdeal.Read.val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  rw [← Cert.UsReferenceIdeal.Read.val_main_v23_eq]
  pointwise [k0_pay3, k0_pay1, k0_pay2]
  blk_point [iblk, V, idx t]

/-- The whole array of the step of the weights is the reference's. -/
theorem finalD (c : Dev nD) : (dats m 0 c).arrAt 4 (cfgs 0).N = Cert.UsReferenceIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact pointD m c t y

/-- One element of the new first moment is the reference's element at that place. -/
theorem pointM (c : Dev nD) (t : Fin cfg0.N) (y) : k0_pay1 (iblk m c 1 t) (iblk m c 2 t) y
    = Cert.UsReferenceIdeal.Read.val_main_v4 (F := Ideal) (m ((c : Thread nD τ).loc main_arg1)) (m ((c : Thread nD τ).loc main_arg2)) (((cfg0.win 5).blk t).view.emb y) := by
  rw [← Cert.UsReferenceIdeal.Read.val_main_v4_eq]
  pointwise [k0_pay1]
  blk_point [iblk, V, idx t]

/-- The whole array of the new first moment is the reference's. -/
theorem finalM (c : Dev nD) : (dats m 0 c).arrAt 5 (cfgs 0).N = Cert.UsReferenceIdeal.Read.val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  exact pointM m c t y

/-- One element of the new second moment is the reference's element at that place. -/
theorem pointV (c : Dev nD) (t : Fin cfg0.N) (y) : k0_pay2 (iblk m c 1 t) (iblk m c 3 t) y
    = Cert.UsReferenceIdeal.Read.val_main_v10 (F := Ideal) (m ((c : Thread nD τ).loc main_arg1)) (m ((c : Thread nD τ).loc main_arg3)) (((cfg0.win 6).blk t).view.emb y) := by
  rw [← Cert.UsReferenceIdeal.Read.val_main_v10_eq]
  pointwise [k0_pay2]
  blk_point [iblk, V, idx t]

/-- The whole array of the new second moment is the reference's. -/
theorem finalV (c : Dev nD) : (dats m 0 c).arrAt 6 (cfgs 0).N = Cert.UsReferenceIdeal.Read.val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  exact pointV m c t y

end Cert.UsKernelIdeal.Whole

end
-- ==== Proof.UqValue.lean ====
/- One AdamW step. -/
module

public import proofs.«01_k».proof.Proof.Gen.UqKernelIdeal.Frame
public import proofs.«01_k».proof.Proof.Gen.UqKernel.Frame
public import proofs.«01_k».proof.Proof.Gen.UqReferenceIdeal.Read
public import Idealize.ShloMosaic.Lib.Pipeline.ValueKit
public import Idealize.ShloMosaic.Lib.Claim

@[expose] public section

set_option maxRecDepth 16384

noncomputable section

namespace Cert.UqKernelIdeal.Whole

open Idealize.ShloMosaic Idealize.ShloMosaic.TcCoe Idealize.SL.Sem
open Idealize.ShloMosaic.Pipeline (Dat)

open Cert.UqKernelIdeal Cert.UqKernelIdeal.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x768.size a ≤ S2x512x768.size a := by
    decide +kernel
  have first : ∀ (i : grid0.Coords) a, (![(BitVec.ofNat 32 (i 0).val).toNat, 0, 0] a + 1) * S1x128x768.size a ≤ S2x512x768.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

variable (m : (ℓ : Loc nD τ sig) → Buf (Elt Ideal) ℓ)

/-- The blocks of the full arrays are numbered through all their rows. -/
theorem onto5 : ∀ (a : Fin 2) (b : Fin 8), ∃ t : Fin grid0.N, cc0_transform_5 (grid0.coords t) = ![a.val, b.val, 0] := by decide +kernel

/-- The block of the full arrays a grid point takes. -/
theorem idx5 : ∀ t : Fin grid0.N, cc0_transform_5 (grid0.coords t) = ![(grid0.coords t 0).val, 4 * (grid0.coords t 1).val + (grid0.coords t 2).val, 0] := by decide +kernel

/-- The coordinates of a grid point are small. -/
theorem coords_small : ∀ t : Fin grid0.N, (BitVec.ofNat 32 (grid0.coords t 0).val).toNat = (grid0.coords t 0).val ∧ (BitVec.ofNat 32 (grid0.coords t 2).val).toNat = (grid0.coords t 2).val
    ∧ (BitVec.ofNat 32 (grid0.coords t 1).val = 0#32 ∧ (grid0.coords t 1).val = 0 ∨ BitVec.ofNat 32 (grid0.coords t 1).val = 1#32 ∧ (grid0.coords t 1).val = 1)
    ∧ (grid0.coords t 2).val < 4 := by decide +kernel

/-- The table has one place. -/
theorem one (x y : S1.Idx) : x = y := by
  funext a
  match a with
  | ⟨0, _⟩ => exact Subsingleton.elim (α := Fin 1) _ _

/-- The number the table holds is the argument's. -/
theorem core_eq (c : Dev nD) : core (tbl m) = m ((c : Thread nD τ).loc main_arg5) (ix1 0) := by
  obtain rfl : c = 0 := Subsingleton.elim _ _
  exact congrArg (m (((0 : Dev nD) : Thread nD τ).loc main_arg5)) (one _ _)

/-- An element `j` of a full array is element `y` of the block that grid point `t` takes. -/
def At (t : Fin grid0.N) (y : S1x128x768.Idx) (j : S2x1024x768.Idx) : Prop := ∀ a, (j a).val = cc0_transform_5 (grid0.coords t) a * S1x128x768.size a + (y a).val

/-- The gradient put together from its halves, at an element: the kernel's choice between the two cores' blocks is the reference's choice between the two halves. -/
theorem halves (x3 x4 : S2x512x768.Idx → Ideal .f32) (x5 : S1.Idx → BitVec 32) (i0 i1 i2 : ℕ) (hi : BitVec.ofNat 32 i1 = 0#32 ∧ i1 = 0 ∨ BitVec.ofNat 32 i1 = 1#32 ∧ i1 = 1)
    (h2 : i2 < 4) (y : S1x128x768.Idx) (j : S2x1024x768.Idx) (j3 j4 : S2x512x768.Idx)
    (hj : ∀ a, (j a).val = ![i0, 4 * i1 + i2, 0] a * S1x128x768.size a + (y a).val)
    (h3 : ∀ a, (j3 a).val = ![i0, if BitVec.ofNat 32 i1 = x5 (ix1 0) then i2 else 0, 0] a * S1x128x768.size a + (y a).val)
    (h4 : ∀ a, (j4 a).val = ![i0, if BitVec.ofNat 32 i1 = x5 (ix1 0) then 0 else i2, 0] a * S1x128x768.size a + (y a).val) :
    (if BitVec.ofNat 32 i1 = x5 (ix1 0) then x3 j3 else x4 j4) = Cert.UqReferenceIdeal.Read.val_main_v6 (F := Ideal) x3 x4 x5 j := by
  rw [← Cert.UqReferenceIdeal.Read.val_main_v6_eq]
  pointwise []
  have hy : (y 1).val < 128 := (y 1).isLt
  have hj1 : (j 1).val = (4 * i1 + i2) * 128 + (y 1).val := hj 1
  have agree (q : S2x512x768.Idx) (r : ℕ) (hq : ∀ a, (q a).val = ![i0, i2, 0] a * S1x128x768.size a + (y a).val) (hr : r < 512) (e : r = i2 * 128 + (y 1).val) :
      q = ix3 (j 0) ⟨r, hr⟩ (j 2) := by
    funext a
    match a with
    | ⟨0, _⟩ => exact Fin.ext ((hq 0).trans (hj 0).symm)
    | ⟨1, _⟩ => exact Fin.ext ((hq 1).trans e.symm)
    | ⟨2, _⟩ => exact Fin.ext ((hq 2).trans (hj 2).symm)
  rcases hi with ⟨hb, rfl⟩ | ⟨hb, rfl⟩
  · rw [dif_pos (show (j 1).val < 512 by omega)]
    rw [hb] at h3 h4 ⊢
    by_cases h : (0#32 : BitVec 32) = x5 (ix1 0)
    · rw [if_pos h] at h3 ⊢
      rw [agree j3 (j 1).val h3 (by omega) (by omega), ← h]
      rfl
    · rw [if_neg h] at h4 ⊢
      rw [agree j4 (j 1).val h4 (by omega) (by omega)]
      exact ((pick _ _ _ _).trans (if_neg fun e => h e.symm)).symm
  · rw [dif_neg (show ¬(j 1).val < 512 by omega)]
    rw [hb] at h3 h4 ⊢
    by_cases h : (1#32 : BitVec 32) = x5 (ix1 0)
    · rw [if_pos h] at h3 ⊢
      rw [agree j3 ((j 1).val - 512) h3 (by omega) (by omega), ← h]
      rfl
    · rw [if_neg h] at h4 ⊢
      rw [agree j4 ((j 1).val - 512) h4 (by omega) (by omega)]
      exact ((pick _ _ _ _).trans (if_neg fun e => h e.symm)).symm

/-- One element of the gradient put together from its halves. -/
theorem grad (hO : Ok m) (c : Dev nD) (t : Fin grid0.N) (y : S1x128x768.Idx) (j : S2x1024x768.Idx) (hj : At t y j) :
    Scalar.select (Scalar.cmpi CmpIPredicate.eq (BitVec.ofNat 32 (grid0.coords t 1).val) (core (tbl m))) (iblk m hO c 3 t y) (iblk m hO c 4 t y)
    = Cert.UqReferenceIdeal.Read.val_main_v6 (F := Ideal) (m ((c : Thread nD τ).loc main_arg3)) (m ((c : Thread nD τ).loc main_arg4)) (m ((c : Thread nD τ).loc main_arg5)) j := by
  obtain ⟨e0, e2, e1, l2⟩ := coords_small t
  refine (pick _ _ _ _).trans ?_
  rw [core_eq m c]
  refine halves _ _ _ (grid0.coords t 0).val _ _ e1 l2 y j ((((cfgM m hO).win 3).blk t).view.emb y) ((((cfgM m hO).win 4).blk t).view.emb y) (fun a => ?_) (fun a => ?_) (fun a => ?_)
  · rw [hj a, idx5]
  · refine (ValueKit.view_emb_slice_whole_unit_val main_arg3 _ _ _ y a).trans ?_
    show cc0_transform_3 inb_S1_S1_0 numel1_S1 (tbl m) (grid0.coords t) a * S1x128x768.size a + _ = _
    rw [index3, core_eq m c, e0, e2]
  · refine (ValueKit.view_emb_slice_whole_unit_val main_arg4 _ _ _ y a).trans ?_
    show cc0_transform_4 inb_S1_S1_0 numel1_S1 (tbl m) (grid0.coords t) a * S1x128x768.size a + _ = _
    rw [index4, core_eq m c, e0, e2]

/-- The blocks of result 1 cover its whole array. -/
theorem covers5 (hO : Ok m) : ((cfgM m hO).win 5).Covers := by
  refine ⟨(by decide : ∀ a : Fin 3, 0 < S1x128x768.size a), fun β => ?_⟩
  have e0 : ((cfgM m hO).win 5).nblk (0 : Fin 3) = 2 := (by decide : (S2x1024x768.size 0 + S1x128x768.size 0 - 1) / S1x128x768.size 0 = 2)
  have e1 : ((cfgM m hO).win 5).nblk (1 : Fin 3) = 8 := (by decide : (S2x1024x768.size 1 + S1x128x768.size 1 - 1) / S1x128x768.size 1 = 8)
  have e2 : ((cfgM m hO).win 5).nblk (2 : Fin 3) = 1 := (by decide : (S2x1024x768.size 2 + S1x128x768.size 2 - 1) / S1x128x768.size 2 = 1)
  obtain ⟨t, ht⟩ := onto5 ((β (0 : Fin 3)).cast e0) ((β (1 : Fin 3)).cast e1)
  refine ⟨t, flush0_5 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 1 lies. -/
theorem at5 (hO : Ok m) (t : Fin grid0.N) (y : S1x128x768.Idx) : At t y ((((cfgM m hO).win 5).blk t).view.emb y) :=
  fun a => ValueKit.view_emb_slice_whole_unit_val main_v0_0 _ _ _ y a

/-- The blocks of result 2 cover its whole array. -/
theorem covers6 (hO : Ok m) : ((cfgM m hO).win 6).Covers := by
  refine ⟨(by decide : ∀ a : Fin 3, 0 < S1x128x768.size a), fun β => ?_⟩
  have e0 : ((cfgM m hO).win 6).nblk (0 : Fin 3) = 2 := (by decide : (S2x1024x768.size 0 + S1x128x768.size 0 - 1) / S1x128x768.size 0 = 2)
  have e1 : ((cfgM m hO).win 6).nblk (1 : Fin 3) = 8 := (by decide : (S2x1024x768.size 1 + S1x128x768.size 1 - 1) / S1x128x768.size 1 = 8)
  have e2 : ((cfgM m hO).win 6).nblk (2 : Fin 3) = 1 := (by decide : (S2x1024x768.size 2 + S1x128x768.size 2 - 1) / S1x128x768.size 2 = 1)
  obtain ⟨t, ht⟩ := onto5 ((β (0 : Fin 3)).cast e0) ((β (1 : Fin 3)).cast e1)
  refine ⟨t, flush0_6 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 2 lies. -/
theorem at6 (hO : Ok m) (t : Fin grid0.N) (y : S1x128x768.Idx) : At t y ((((cfgM m hO).win 6).blk t).view.emb y) :=
  fun a => ValueKit.view_emb_slice_whole_unit_val main_v0_1 _ _ _ y a

/-- The blocks of result 3 cover its whole array. -/
theorem covers7 (hO : Ok m) : ((cfgM m hO).win 7).Covers := by
  refine ⟨(by decide : ∀ a : Fin 3, 0 < S1x128x768.size a), fun β => ?_⟩
  have e0 : ((cfgM m hO).win 7).nblk (0 : Fin 3) = 2 := (by decide : (S2x1024x768.size 0 + S1x128x768.size 0 - 1) / S1x128x768.size 0 = 2)
  have e1 : ((cfgM m hO).win 7).nblk (1 : Fin 3) = 8 := (by decide : (S2x1024x768.size 1 + S1x128x768.size 1 - 1) / S1x128x768.size 1 = 8)
  have e2 : ((cfgM m hO).win 7).nblk (2 : Fin 3) = 1 := (by decide : (S2x1024x768.size 2 + S1x128x768.size 2 - 1) / S1x128x768.size 2 = 1)
  obtain ⟨t, ht⟩ := onto5 ((β (0 : Fin 3)).cast e0) ((β (1 : Fin 3)).cast e1)
  refine ⟨t, flush0_7 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 3 lies. -/
theorem at7 (hO : Ok m) (t : Fin grid0.N) (y : S1x128x768.Idx) : At t y ((((cfgM m hO).win 7).blk t).view.emb y) :=
  fun a => ValueKit.view_emb_slice_whole_unit_val main_v0_2 _ _ _ y a

/-- The blocks of result 4 cover its whole array. -/
theorem covers8 (hO : Ok m) : ((cfgM m hO).win 8).Covers := by
  refine ⟨(by decide : ∀ a : Fin 3, 0 < S1x128x768.size a), fun β => ?_⟩
  have e0 : ((cfgM m hO).win 8).nblk (0 : Fin 3) = 2 := (by decide : (S2x1024x768.size 0 + S1x128x768.size 0 - 1) / S1x128x768.size 0 = 2)
  have e1 : ((cfgM m hO).win 8).nblk (1 : Fin 3) = 8 := (by decide : (S2x1024x768.size 1 + S1x128x768.size 1 - 1) / S1x128x768.size 1 = 8)
  have e2 : ((cfgM m hO).win 8).nblk (2 : Fin 3) = 1 := (by decide : (S2x1024x768.size 2 + S1x128x768.size 2 - 1) / S1x128x768.size 2 = 1)
  obtain ⟨t, ht⟩ := onto5 ((β (0 : Fin 3)).cast e0) ((β (1 : Fin 3)).cast e1)
  refine ⟨t, flush0_8 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 4 lies. -/
theorem at8 (hO : Ok m) (t : Fin grid0.N) (y : S1x128x768.Idx) : At t y ((((cfgM m hO).win 8).blk t).view.emb y) :=
  fun a => ValueKit.view_emb_slice_whole_unit_val main_v0_3 _ _ _ y a

/-- A block of argument 0 is read where the results are written. -/
theorem read0 (hO : Ok m) (c : Dev nD) (t : Fin grid0.N) (y : S1x128x768.Idx) (j : S2x1024x768.Idx) (hj : At t y j) : iblk m hO c 0 t y = m ((c : Thread nD τ).loc main_arg0) j :=
  congrArg (m ((c : Thread nD τ).loc main_arg0)) (funext fun a => Fin.ext ((ValueKit.view_emb_slice_whole_unit_val main_arg0 _ _ _ y a).trans (hj a).symm))

/-- A block of argument 1 is read where the results are written. -/
theorem read1 (hO : Ok m) (c : Dev nD) (t : Fin grid0.N) (y : S1x128x768.Idx) (j : S2x1024x768.Idx) (hj : At t y j) : iblk m hO c 1 t y = m ((c : Thread nD τ).loc main_arg1) j :=
  congrArg (m ((c : Thread nD τ).loc main_arg1)) (funext fun a => Fin.ext ((ValueKit.view_emb_slice_whole_unit_val main_arg1 _ _ _ y a).trans (hj a).symm))

/-- A block of argument 2 is read where the results are written. -/
theorem read2 (hO : Ok m) (c : Dev nD) (t : Fin grid0.N) (y : S1x128x768.Idx) (j : S2x1024x768.Idx) (hj : At t y j) : iblk m hO c 2 t y = m ((c : Thread nD τ).loc main_arg2) j :=
  congrArg (m ((c : Thread nD τ).loc main_arg2)) (funext fun a => Fin.ext ((ValueKit.view_emb_slice_whole_unit_val main_arg2 _ _ _ y a).trans (hj a).symm))

/-- The gradient the kernel puts together is the reference's. -/
theorem pointG (hO : Ok m) (c : Dev nD) (t : Fin grid0.N) (y : S1x128x768.Idx) (j : S2x1024x768.Idx) (hj : At t y j) :
    k0_pay7 (grid0.coords t) (core (tbl m)) (iblk m hO c 3 t) (iblk m hO c 4 t) y = Cert.UqReferenceIdeal.Read.val_main_v6 (F := Ideal) (m ((c : Thread nD τ).loc main_arg3)) (m ((c : Thread nD τ).loc main_arg4)) (m ((c : Thread nD τ).loc main_arg5)) j := by
  rw [← grad m hO c t y j hj]
  pointwise [k0_pay7, k0_pay4]

/-- The new first moment is the reference's. -/
theorem pointM (hO : Ok m) (c : Dev nD) (t : Fin grid0.N) (y : S1x128x768.Idx) (j : S2x1024x768.Idx) (hj : At t y j) :
    k0_pay2 (k0_pay5 (grid0.coords t) (core (tbl m)) (iblk m hO c 3 t) (iblk m hO c 4 t) (iblk m hO c 1 t)) y = Cert.UqReferenceIdeal.Read.val_main_v11 (F := Ideal) (m ((c : Thread nD τ).loc main_arg1)) (m ((c : Thread nD τ).loc main_arg3)) (m ((c : Thread nD τ).loc main_arg4)) (m ((c : Thread nD τ).loc main_arg5)) j := by
  rw [Cert.UqReferenceIdeal.Read.val_main_v11_apply, Cert.UqReferenceIdeal.Read.val_main_v8_apply, Cert.UqReferenceIdeal.Read.val_main_v10_apply, ← grad m hO c t y j hj, ← read1 m hO c t y j hj]
  pointwise [k0_pay2, k0_pay5, k0_pay4, Cert.UqReferenceIdeal.Read.val_main_v7_apply, Cert.UqReferenceIdeal.Read.val_main_v9_apply, Cert.UqReferenceIdeal.Read.val_main_cst_apply, Cert.UqReferenceIdeal.Read.val_main_cst_1_apply]

/-- The new second moment is the reference's. -/
theorem pointV (hO : Ok m) (c : Dev nD) (t : Fin grid0.N) (y : S1x128x768.Idx) (j : S2x1024x768.Idx) (hj : At t y j) :
    k0_pay3 (k0_pay6 (grid0.coords t) (core (tbl m)) (iblk m hO c 3 t) (iblk m hO c 4 t) (iblk m hO c 2 t)) y = Cert.UqReferenceIdeal.Read.val_main_v17 (F := Ideal) (m ((c : Thread nD τ).loc main_arg2)) (m ((c : Thread nD τ).loc main_arg3)) (m ((c : Thread nD τ).loc main_arg4)) (m ((c : Thread nD τ).loc main_arg5)) j := by
  rw [Cert.UqReferenceIdeal.Read.val_main_v17_apply, Cert.UqReferenceIdeal.Read.val_main_v13_apply, Cert.UqReferenceIdeal.Read.val_main_v16_apply, Cert.UqReferenceIdeal.Read.val_main_v14_apply, ← grad m hO c t y j hj, ← read2 m hO c t y j hj]
  pointwise [k0_pay3, k0_pay6, k0_pay4, Cert.UqReferenceIdeal.Read.val_main_v12_apply, Cert.UqReferenceIdeal.Read.val_main_v15_apply, Cert.UqReferenceIdeal.Read.val_main_cst_2_apply, Cert.UqReferenceIdeal.Read.val_main_cst_3_apply]

/-- The step of the weights is the reference's. -/
theorem pointD (hO : Ok m) (c : Dev nD) (t : Fin grid0.N) (y : S1x128x768.Idx) (j : S2x1024x768.Idx) (hj : At t y j) :
    k0_pay1 (k0_pay8 (grid0.coords t) (core (tbl m)) (iblk m hO c 3 t) (iblk m hO c 4 t) (iblk m hO c 1 t) (iblk m hO c 2 t)) (iblk m hO c 0 t) y
    = Cert.UqReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [Cert.UqReferenceIdeal.Read.val_main_v30_apply, Cert.UqReferenceIdeal.Read.val_main_v28_apply, Cert.UqReferenceIdeal.Read.val_main_v25_apply, Cert.UqReferenceIdeal.Read.val_main_v27_apply, Cert.UqReferenceIdeal.Read.val_main_v19_apply, Cert.UqReferenceIdeal.Read.val_main_v24_apply, Cert.UqReferenceIdeal.Read.val_main_v22_apply, Cert.UqReferenceIdeal.Read.val_main_v21_apply, ← pointM m hO c t y j hj, ← pointV m hO c t y j hj, ← read0 m hO c t y j hj]
  pointwise [k0_pay1, k0_pay8, k0_pay2, k0_pay3, k0_pay5, k0_pay6, k0_pay4, Cert.UqReferenceIdeal.Read.val_main_v18_apply, Cert.UqReferenceIdeal.Read.val_main_v20_apply, Cert.UqReferenceIdeal.Read.val_main_v23_apply, Cert.UqReferenceIdeal.Read.val_main_v26_apply, Cert.UqReferenceIdeal.Read.val_main_v29_apply, Cert.UqReferenceIdeal.Read.val_main_cst_4_apply, Cert.UqReferenceIdeal.Read.val_main_cst_5_apply, Cert.UqReferenceIdeal.Read.val_main_cst_6_apply, Cert.UqReferenceIdeal.Read.val_main_cst_7_apply, Cert.UqReferenceIdeal.Read.val_main_cst_8_apply]

/-- The gradient after the run. -/
theorem final5 (hO : Ok m) (c : Dev nD) : (dats m hO 0 c).arrAt 5 (cfgM m hO).N = Cert.UqReferenceIdeal.Read.val_main_v6 (F := Ideal) (m ((c : Thread nD τ).loc main_arg3)) (m ((c : Thread nD τ).loc main_arg4)) (m ((c : Thread nD τ).loc main_arg5)) := by
  refine (dats m hO 0 c).arrAt_eq_of_covers 5 _ (covers5 m hO) fun t _ y => ?_
  blk_simp
  rw [after0_5]
  unfold outsAt0
  dsimp only
  frame_out
  exact (congrFun (congr (congrArg (k0_pay7 (grid0.coords t) (core (tbl m))) ((hs0_3 m hO t).read_unread (iblk m hO c 3 t))) ((hs0_4 m hO t).read_unread (iblk m hO c 4 t))) y).trans (pointG m hO c t y _ (at5 m hO t y))

/-- The weights' step after the run. -/
theorem final6 (hO : Ok m) (c : Dev nD) : (dats m hO 0 c).arrAt 6 (cfgM m hO).N = Cert.UqReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 m hO) fun t _ y => ?_
  blk_simp
  rw [after0_6]
  unfold outsAt0
  dsimp only
  frame_out
  exact (congrFun (congr (congrArg k0_pay1 (congr (congr (congr (congrArg (k0_pay8 (grid0.coords t) (core (tbl m))) ((hs0_3 m hO t).read_unread (iblk m hO c 3 t))) ((hs0_4 m hO t).read_unread (iblk m hO c 4 t))) ((hs0_1 m hO t).read_unread (iblk m hO c 1 t))) ((hs0_2 m hO t).read_unread (iblk m hO c 2 t)))) ((hs0_0 m hO t).read_unread (iblk m hO c 0 t))) y).trans (pointD m hO c t y _ (at6 m hO t y))

/-- The first moment after the run. -/
theorem final7 (hO : Ok m) (c : Dev nD) : (dats m hO 0 c).arrAt 7 (cfgM m hO).N = Cert.UqReferenceIdeal.Read.val_main_v11 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers7 m hO) fun t _ y => ?_
  blk_simp
  rw [after0_7]
  unfold outsAt0
  dsimp only
  frame_out
  exact (congrFun (congrArg k0_pay2 (congr (congr (congrArg (k0_pay5 (grid0.coords t) (core (tbl m))) ((hs0_3 m hO t).read_unread (iblk m hO c 3 t))) ((hs0_4 m hO t).read_unread (iblk m hO c 4 t))) ((hs0_1 m hO t).read_unread (iblk m hO c 1 t)))) y).trans (pointM m hO c t y _ (at7 m hO t y))

/-- The second moment after the run. -/
theorem final8 (hO : Ok m) (c : Dev nD) : (dats m hO 0 c).arrAt 8 (cfgM m hO).N = Cert.UqReferenceIdeal.Read.val_main_v17 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers8 m hO) fun t _ y => ?_
  blk_simp
  rw [after0_8]
  unfold outsAt0
  dsimp only
  frame_out
  exact (congrFun (congrArg k0_pay3 (congr (congr (congrArg (k0_pay6 (grid0.coords t) (core (tbl m))) ((hs0_3 m hO t).read_unread (iblk m hO c 3 t))) ((hs0_4 m hO t).read_unread (iblk m hO c 4 t))) ((hs0_2 m hO t).read_unread (iblk m hO c 2 t)))) y).trans (pointV m hO c t y _ (at8 m hO t y))

variable (ρ : Dev nD → PrngReg)

/-- The kernel's run: every result is the reference's, and the arguments are unchanged. -/
theorem run_blocks : θ_run defs (onTc (τ := τ) (main (F := Ideal))) ⟨m, fun _ => 0, ρ⟩ fun r => ∀ c : Dev nD,
      r.2.mem ((c : Thread nD τ).loc main_v0_0) = Cert.UqReferenceIdeal.Read.val_main_v6 (F := Ideal) (m ((c : Thread nD τ).loc main_arg3)) (m ((c : Thread nD τ).loc main_arg4)) (m ((c : Thread nD τ).loc main_arg5))
      ∧ r.2.mem ((c : Thread nD τ).loc main_v0_1) = Cert.UqReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.UqReferenceIdeal.Read.val_main_v11 (F := Ideal) (m ((c : Thread nD τ).loc main_arg1)) (m ((c : Thread nD τ).loc main_arg3)) (m ((c : Thread nD τ).loc main_arg4)) (m ((c : Thread nD τ).loc main_arg5))
      ∧ r.2.mem ((c : Thread nD τ).loc main_v0_3) = Cert.UqReferenceIdeal.Read.val_main_v17 (F := Ideal) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m (ok (tbl m)) c),
      ((h c).1 6).trans (final6 m (ok (tbl m)) c),
      ((h c).1 7).trans (final7 m (ok (tbl m)) c),
      ((h c).1 8).trans (final8 m (ok (tbl m)) c),
      ((h c).1 0).trans (((dats m (ok (tbl m)) 0 c).arrAt_in 0 rfl _).trans ((A_eq m (ok (tbl m)) c 0).trans (V_main_arg0 m c))),
      ((h c).1 1).trans (((dats m (ok (tbl m)) 0 c).arrAt_in 1 rfl _).trans ((A_eq m (ok (tbl m)) c 1).trans (V_main_arg1 m c))),
      ((h c).1 2).trans (((dats m (ok (tbl m)) 0 c).arrAt_in 2 rfl _).trans ((A_eq m (ok (tbl m)) c 2).trans (V_main_arg2 m c))),
      ((h c).1 3).trans (((dats m (ok (tbl m)) 0 c).arrAt_in 3 rfl _).trans ((A_eq m (ok (tbl m)) c 3).trans (V_main_arg3 m c))),
      ((h c).1 4).trans (((dats m (ok (tbl m)) 0 c).arrAt_in 4 rfl _).trans ((A_eq m (ok (tbl m)) c 4).trans (V_main_arg4 m c))),
      ((h c).2 main_arg5 (by decide : main_arg5 ∈ Pipeline.restRefs sig spec0)).trans (V_main_arg5 m c)⟩)
    (run_main m ρ (ok (tbl m)))

end Cert.UqKernelIdeal.Whole

namespace Cert.UqKernel.Whole

open Idealize.ShloMosaic Idealize.ShloMosaic.TcCoe Idealize.SL.Sem
open Cert.UqKernel Cert.UqKernel.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x768.size a ≤ S2x512x768.size a := by
    decide +kernel
  have first : ∀ (i : grid0.Coords) a, (![(BitVec.ofNat 32 (i 0).val).toNat, 0, 0] a + 1) * S1x128x768.size a ≤ S2x512x768.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

end Cert.UqKernel.Whole

end
-- ==== Proof.UoValue.lean ====
/- One AdamW step. -/
module

public import proofs.«01_k».proof.Proof.Gen.UoKernelIdeal.Frame
public import proofs.«01_k».proof.Proof.Gen.UoKernel.Frame
public import proofs.«01_k».proof.Proof.Gen.UoReferenceIdeal.Read
public import Idealize.ShloMosaic.Lib.Pipeline.ValueKit
public import Idealize.ShloMosaic.Lib.Claim

@[expose] public section

set_option maxRecDepth 16384

noncomputable section

namespace Cert.UoKernelIdeal.Whole

open Idealize.ShloMosaic Idealize.ShloMosaic.TcCoe Idealize.SL.Sem
open Idealize.ShloMosaic.Pipeline (Dat)

open Cert.UoKernelIdeal Cert.UoKernelIdeal.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x1024.size a ≤ S2x128x1024.size a := by
    decide +kernel
  have first : ∀ (i : grid0.Coords) a, (![(BitVec.ofNat 32 (i 0).val).toNat, 0, 0] a + 1) * S1x128x1024.size a ≤ S2x128x1024.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

variable (m : (ℓ : Loc nD τ sig) → Buf (Elt Ideal) ℓ)

/-- The blocks of the full arrays are numbered through all their rows. -/
theorem onto5 : ∀ (a : Fin 2) (b : Fin 2), ∃ t : Fin grid0.N, cc0_transform_5 (grid0.coords t) = ![a.val, b.val, 0] := by decide +kernel

/-- The block of the full arrays a grid point takes. -/
theorem idx5 : ∀ t : Fin grid0.N, cc0_transform_5 (grid0.coords t) = ![(grid0.coords t 0).val, 1 * (grid0.coords t 1).val + (grid0.coords t 2).val, 0] := by decide +kernel

/-- The coordinates of a grid point are small. -/
theorem coords_small : ∀ t : Fin grid0.N, (BitVec.ofNat 32 (grid0.coords t 0).val).toNat = (grid0.coords t 0).val ∧ (BitVec.ofNat 32 (grid0.coords t 2).val).toNat = (grid0.coords t 2).val
    ∧ (BitVec.ofNat 32 (grid0.coords t 1).val = 0#32 ∧ (grid0.coords t 1).val = 0 ∨ BitVec.ofNat 32 (grid0.coords t 1).val = 1#32 ∧ (grid0.coords t 1).val = 1)
    ∧ (grid0.coords t 2).val < 1 := by decide +kernel

/-- The table has one place. -/
theorem one (x y : S1.Idx) : x = y := by
  funext a
  match a with
  | ⟨0, _⟩ => exact Subsingleton.elim (α := Fin 1) _ _

/-- The number the table holds is the argument's. -/
theorem core_eq (c : Dev nD) : core (tbl m) = m ((c : Thread nD τ).loc main_arg5) (ix1 0) := by
  obtain rfl : c = 0 := Subsingleton.elim _ _
  exact congrArg (m (((0 : Dev nD) : Thread nD τ).loc main_arg5)) (one _ _)

/-- An element `j` of a full array is element `y` of the block that grid point `t` takes. -/
def At (t : Fin grid0.N) (y : S1x128x1024.Idx) (j : S2x256x1024.Idx) : Prop := ∀ a, (j a).val = cc0_transform_5 (grid0.coords t) a * S1x128x1024.size a + (y a).val

/-- The gradient put together from its halves, at an element: the kernel's choice between the two cores' blocks is the reference's choice between the two halves. -/
theorem halves (x3 x4 : S2x128x1024.Idx → Ideal .f32) (x5 : S1.Idx → BitVec 32) (i0 i1 i2 : ℕ) (hi : BitVec.ofNat 32 i1 = 0#32 ∧ i1 = 0 ∨ BitVec.ofNat 32 i1 = 1#32 ∧ i1 = 1)
    (h2 : i2 < 1) (y : S1x128x1024.Idx) (j : S2x256x1024.Idx) (j3 j4 : S2x128x1024.Idx)
    (hj : ∀ a, (j a).val = ![i0, 1 * i1 + i2, 0] a * S1x128x1024.size a + (y a).val)
    (h3 : ∀ a, (j3 a).val = ![i0, if BitVec.ofNat 32 i1 = x5 (ix1 0) then i2 else 0, 0] a * S1x128x1024.size a + (y a).val)
    (h4 : ∀ a, (j4 a).val = ![i0, if BitVec.ofNat 32 i1 = x5 (ix1 0) then 0 else i2, 0] a * S1x128x1024.size a + (y a).val) :
    (if BitVec.ofNat 32 i1 = x5 (ix1 0) then x3 j3 else x4 j4) = Cert.UoReferenceIdeal.Read.val_main_v6 (F := Ideal) x3 x4 x5 j := by
  rw [← Cert.UoReferenceIdeal.Read.val_main_v6_eq]
  pointwise []
  have hy : (y 1).val < 128 := (y 1).isLt
  have hj1 : (j 1).val = (1 * i1 + i2) * 128 + (y 1).val := hj 1
  have agree (q : S2x128x1024.Idx) (r : ℕ) (hq : ∀ a, (q a).val = ![i0, i2, 0] a * S1x128x1024.size a + (y a).val) (hr : r < 128) (e : r = i2 * 128 + (y 1).val) :
      q = ix3 (j 0) ⟨r, hr⟩ (j 2) := by
    funext a
    match a with
    | ⟨0, _⟩ => exact Fin.ext ((hq 0).trans (hj 0).symm)
    | ⟨1, _⟩ => exact Fin.ext ((hq 1).trans e.symm)
    | ⟨2, _⟩ => exact Fin.ext ((hq 2).trans (hj 2).symm)
  rcases hi with ⟨hb, rfl⟩ | ⟨hb, rfl⟩
  · rw [dif_pos (show (j 1).val < 128 by omega)]
    rw [hb] at h3 h4 ⊢
    by_cases h : (0#32 : BitVec 32) = x5 (ix1 0)
    · rw [if_pos h] at h3 ⊢
      rw [agree j3 (j 1).val h3 (by omega) (by omega), ← h]
      rfl
    · rw [if_neg h] at h4 ⊢
      rw [agree j4 (j 1).val h4 (by omega) (by omega)]
      exact ((pick _ _ _ _).trans (if_neg fun e => h e.symm)).symm
  · rw [dif_neg (show ¬(j 1).val < 128 by omega)]
    rw [hb] at h3 h4 ⊢
    by_cases h : (1#32 : BitVec 32) = x5 (ix1 0)
    · rw [if_pos h] at h3 ⊢
      rw [agree j3 ((j 1).val - 128) h3 (by omega) (by omega), ← h]
      rfl
    · rw [if_neg h] at h4 ⊢
      rw [agree j4 ((j 1).val - 128) h4 (by omega) (by omega)]
      exact ((pick _ _ _ _).trans (if_neg fun e => h e.symm)).symm

/-- One element of the gradient put together from its halves. -/
theorem grad (hO : Ok m) (c : Dev nD) (t : Fin grid0.N) (y : S1x128x1024.Idx) (j : S2x256x1024.Idx) (hj : At t y j) :
    Scalar.select (Scalar.cmpi CmpIPredicate.eq (BitVec.ofNat 32 (grid0.coords t 1).val) (core (tbl m))) (iblk m hO c 3 t y) (iblk m hO c 4 t y)
    = Cert.UoReferenceIdeal.Read.val_main_v6 (F := Ideal) (m ((c : Thread nD τ).loc main_arg3)) (m ((c : Thread nD τ).loc main_arg4)) (m ((c : Thread nD τ).loc main_arg5)) j := by
  obtain ⟨e0, e2, e1, l2⟩ := coords_small t
  refine (pick _ _ _ _).trans ?_
  rw [core_eq m c]
  refine halves _ _ _ (grid0.coords t 0).val _ _ e1 l2 y j ((((cfgM m hO).win 3).blk t).view.emb y) ((((cfgM m hO).win 4).blk t).view.emb y) (fun a => ?_) (fun a => ?_) (fun a => ?_)
  · rw [hj a, idx5]
  · refine (ValueKit.view_emb_slice_whole_unit_val main_arg3 _ _ _ y a).trans ?_
    show cc0_transform_3 inb_S1_S1_0 numel1_S1 (tbl m) (grid0.coords t) a * S1x128x1024.size a + _ = _
    rw [index3, core_eq m c, e0, e2]
  · refine (ValueKit.view_emb_slice_whole_unit_val main_arg4 _ _ _ y a).trans ?_
    show cc0_transform_4 inb_S1_S1_0 numel1_S1 (tbl m) (grid0.coords t) a * S1x128x1024.size a + _ = _
    rw [index4, core_eq m c, e0, e2]

/-- The blocks of result 1 cover its whole array. -/
theorem covers5 (hO : Ok m) : ((cfgM m hO).win 5).Covers := by
  refine ⟨(by decide : ∀ a : Fin 3, 0 < S1x128x1024.size a), fun β => ?_⟩
  have e0 : ((cfgM m hO).win 5).nblk (0 : Fin 3) = 2 := (by decide : (S2x256x1024.size 0 + S1x128x1024.size 0 - 1) / S1x128x1024.size 0 = 2)
  have e1 : ((cfgM m hO).win 5).nblk (1 : Fin 3) = 2 := (by decide : (S2x256x1024.size 1 + S1x128x1024.size 1 - 1) / S1x128x1024.size 1 = 2)
  have e2 : ((cfgM m hO).win 5).nblk (2 : Fin 3) = 1 := (by decide : (S2x256x1024.size 2 + S1x128x1024.size 2 - 1) / S1x128x1024.size 2 = 1)
  obtain ⟨t, ht⟩ := onto5 ((β (0 : Fin 3)).cast e0) ((β (1 : Fin 3)).cast e1)
  refine ⟨t, flush0_5 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 1 lies. -/
theorem at5 (hO : Ok m) (t : Fin grid0.N) (y : S1x128x1024.Idx) : At t y ((((cfgM m hO).win 5).blk t).view.emb y) :=
  fun a => ValueKit.view_emb_slice_whole_unit_val main_v0_0 _ _ _ y a

/-- The blocks of result 2 cover its whole array. -/
theorem covers6 (hO : Ok m) : ((cfgM m hO).win 6).Covers := by
  refine ⟨(by decide : ∀ a : Fin 3, 0 < S1x128x1024.size a), fun β => ?_⟩
  have e0 : ((cfgM m hO).win 6).nblk (0 : Fin 3) = 2 := (by decide : (S2x256x1024.size 0 + S1x128x1024.size 0 - 1) / S1x128x1024.size 0 = 2)
  have e1 : ((cfgM m hO).win 6).nblk (1 : Fin 3) = 2 := (by decide : (S2x256x1024.size 1 + S1x128x1024.size 1 - 1) / S1x128x1024.size 1 = 2)
  have e2 : ((cfgM m hO).win 6).nblk (2 : Fin 3) = 1 := (by decide : (S2x256x1024.size 2 + S1x128x1024.size 2 - 1) / S1x128x1024.size 2 = 1)
  obtain ⟨t, ht⟩ := onto5 ((β (0 : Fin 3)).cast e0) ((β (1 : Fin 3)).cast e1)
  refine ⟨t, flush0_6 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 2 lies. -/
theorem at6 (hO : Ok m) (t : Fin grid0.N) (y : S1x128x1024.Idx) : At t y ((((cfgM m hO).win 6).blk t).view.emb y) :=
  fun a => ValueKit.view_emb_slice_whole_unit_val main_v0_1 _ _ _ y a

/-- The blocks of result 3 cover its whole array. -/
theorem covers7 (hO : Ok m) : ((cfgM m hO).win 7).Covers := by
  refine ⟨(by decide : ∀ a : Fin 3, 0 < S1x128x1024.size a), fun β => ?_⟩
  have e0 : ((cfgM m hO).win 7).nblk (0 : Fin 3) = 2 := (by decide : (S2x256x1024.size 0 + S1x128x1024.size 0 - 1) / S1x128x1024.size 0 = 2)
  have e1 : ((cfgM m hO).win 7).nblk (1 : Fin 3) = 2 := (by decide : (S2x256x1024.size 1 + S1x128x1024.size 1 - 1) / S1x128x1024.size 1 = 2)
  have e2 : ((cfgM m hO).win 7).nblk (2 : Fin 3) = 1 := (by decide : (S2x256x1024.size 2 + S1x128x1024.size 2 - 1) / S1x128x1024.size 2 = 1)
  obtain ⟨t, ht⟩ := onto5 ((β (0 : Fin 3)).cast e0) ((β (1 : Fin 3)).cast e1)
  refine ⟨t, flush0_7 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 3 lies. -/
theorem at7 (hO : Ok m) (t : Fin grid0.N) (y : S1x128x1024.Idx) : At t y ((((cfgM m hO).win 7).blk t).view.emb y) :=
  fun a => ValueKit.view_emb_slice_whole_unit_val main_v0_2 _ _ _ y a

/-- The blocks of result 4 cover its whole array. -/
theorem covers8 (hO : Ok m) : ((cfgM m hO).win 8).Covers := by
  refine ⟨(by decide : ∀ a : Fin 3, 0 < S1x128x1024.size a), fun β => ?_⟩
  have e0 : ((cfgM m hO).win 8).nblk (0 : Fin 3) = 2 := (by decide : (S2x256x1024.size 0 + S1x128x1024.size 0 - 1) / S1x128x1024.size 0 = 2)
  have e1 : ((cfgM m hO).win 8).nblk (1 : Fin 3) = 2 := (by decide : (S2x256x1024.size 1 + S1x128x1024.size 1 - 1) / S1x128x1024.size 1 = 2)
  have e2 : ((cfgM m hO).win 8).nblk (2 : Fin 3) = 1 := (by decide : (S2x256x1024.size 2 + S1x128x1024.size 2 - 1) / S1x128x1024.size 2 = 1)
  obtain ⟨t, ht⟩ := onto5 ((β (0 : Fin 3)).cast e0) ((β (1 : Fin 3)).cast e1)
  refine ⟨t, flush0_8 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 4 lies. -/
theorem at8 (hO : Ok m) (t : Fin grid0.N) (y : S1x128x1024.Idx) : At t y ((((cfgM m hO).win 8).blk t).view.emb y) :=
  fun a => ValueKit.view_emb_slice_whole_unit_val main_v0_3 _ _ _ y a

/-- A block of argument 0 is read where the results are written. -/
theorem read0 (hO : Ok m) (c : Dev nD) (t : Fin grid0.N) (y : S1x128x1024.Idx) (j : S2x256x1024.Idx) (hj : At t y j) : iblk m hO c 0 t y = m ((c : Thread nD τ).loc main_arg0) j :=
  congrArg (m ((c : Thread nD τ).loc main_arg0)) (funext fun a => Fin.ext ((ValueKit.view_emb_slice_whole_unit_val main_arg0 _ _ _ y a).trans (hj a).symm))

/-- A block of argument 1 is read where the results are written. -/
theorem read1 (hO : Ok m) (c : Dev nD) (t : Fin grid0.N) (y : S1x128x1024.Idx) (j : S2x256x1024.Idx) (hj : At t y j) : iblk m hO c 1 t y = m ((c : Thread nD τ).loc main_arg1) j :=
  congrArg (m ((c : Thread nD τ).loc main_arg1)) (funext fun a => Fin.ext ((ValueKit.view_emb_slice_whole_unit_val main_arg1 _ _ _ y a).trans (hj a).symm))

/-- A block of argument 2 is read where the results are written. -/
theorem read2 (hO : Ok m) (c : Dev nD) (t : Fin grid0.N) (y : S1x128x1024.Idx) (j : S2x256x1024.Idx) (hj : At t y j) : iblk m hO c 2 t y = m ((c : Thread nD τ).loc main_arg2) j :=
  congrArg (m ((c : Thread nD τ).loc main_arg2)) (funext fun a => Fin.ext ((ValueKit.view_emb_slice_whole_unit_val main_arg2 _ _ _ y a).trans (hj a).symm))

/-- The gradient the kernel puts together is the reference's. -/
theorem pointG (hO : Ok m) (c : Dev nD) (t : Fin grid0.N) (y : S1x128x1024.Idx) (j : S2x256x1024.Idx) (hj : At t y j) :
    k0_pay7 (grid0.coords t) (core (tbl m)) (iblk m hO c 3 t) (iblk m hO c 4 t) y = Cert.UoReferenceIdeal.Read.val_main_v6 (F := Ideal) (m ((c : Thread nD τ).loc main_arg3)) (m ((c : Thread nD τ).loc main_arg4)) (m ((c : Thread nD τ).loc main_arg5)) j := by
  rw [← grad m hO c t y j hj]
  pointwise [k0_pay7, k0_pay4]

/-- The new first moment is the reference's. -/
theorem pointM (hO : Ok m) (c : Dev nD) (t : Fin grid0.N) (y : S1x128x1024.Idx) (j : S2x256x1024.Idx) (hj : At t y j) :
    k0_pay2 (k0_pay5 (grid0.coords t) (core (tbl m)) (iblk m hO c 3 t) (iblk m hO c 4 t) (iblk m hO c 1 t)) y = Cert.UoReferenceIdeal.Read.val_main_v11 (F := Ideal) (m ((c : Thread nD τ).loc main_arg1)) (m ((c : Thread nD τ).loc main_arg3)) (m ((c : Thread nD τ).loc main_arg4)) (m ((c : Thread nD τ).loc main_arg5)) j := by
  rw [Cert.UoReferenceIdeal.Read.val_main_v11_apply, Cert.UoReferenceIdeal.Read.val_main_v8_apply, Cert.UoReferenceIdeal.Read.val_main_v10_apply, ← grad m hO c t y j hj, ← read1 m hO c t y j hj]
  pointwise [k0_pay2, k0_pay5, k0_pay4, Cert.UoReferenceIdeal.Read.val_main_v7_apply, Cert.UoReferenceIdeal.Read.val_main_v9_apply, Cert.UoReferenceIdeal.Read.val_main_cst_apply, Cert.UoReferenceIdeal.Read.val_main_cst_1_apply]

/-- The new second moment is the reference's. -/
theorem pointV (hO : Ok m) (c : Dev nD) (t : Fin grid0.N) (y : S1x128x1024.Idx) (j : S2x256x1024.Idx) (hj : At t y j) :
    k0_pay3 (k0_pay6 (grid0.coords t) (core (tbl m)) (iblk m hO c 3 t) (iblk m hO c 4 t) (iblk m hO c 2 t)) y = Cert.UoReferenceIdeal.Read.val_main_v17 (F := Ideal) (m ((c : Thread nD τ).loc main_arg2)) (m ((c : Thread nD τ).loc main_arg3)) (m ((c : Thread nD τ).loc main_arg4)) (m ((c : Thread nD τ).loc main_arg5)) j := by
  rw [Cert.UoReferenceIdeal.Read.val_main_v17_apply, Cert.UoReferenceIdeal.Read.val_main_v13_apply, Cert.UoReferenceIdeal.Read.val_main_v16_apply, Cert.UoReferenceIdeal.Read.val_main_v14_apply, ← grad m hO c t y j hj, ← read2 m hO c t y j hj]
  pointwise [k0_pay3, k0_pay6, k0_pay4, Cert.UoReferenceIdeal.Read.val_main_v12_apply, Cert.UoReferenceIdeal.Read.val_main_v15_apply, Cert.UoReferenceIdeal.Read.val_main_cst_2_apply, Cert.UoReferenceIdeal.Read.val_main_cst_3_apply]

/-- The step of the weights is the reference's. -/
theorem pointD (hO : Ok m) (c : Dev nD) (t : Fin grid0.N) (y : S1x128x1024.Idx) (j : S2x256x1024.Idx) (hj : At t y j) :
    k0_pay1 (k0_pay8 (grid0.coords t) (core (tbl m)) (iblk m hO c 3 t) (iblk m hO c 4 t) (iblk m hO c 1 t) (iblk m hO c 2 t)) (iblk m hO c 0 t) y
    = Cert.UoReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [Cert.UoReferenceIdeal.Read.val_main_v30_apply, Cert.UoReferenceIdeal.Read.val_main_v28_apply, Cert.UoReferenceIdeal.Read.val_main_v25_apply, Cert.UoReferenceIdeal.Read.val_main_v27_apply, Cert.UoReferenceIdeal.Read.val_main_v19_apply, Cert.UoReferenceIdeal.Read.val_main_v24_apply, Cert.UoReferenceIdeal.Read.val_main_v22_apply, Cert.UoReferenceIdeal.Read.val_main_v21_apply, ← pointM m hO c t y j hj, ← pointV m hO c t y j hj, ← read0 m hO c t y j hj]
  pointwise [k0_pay1, k0_pay8, k0_pay2, k0_pay3, k0_pay5, k0_pay6, k0_pay4, Cert.UoReferenceIdeal.Read.val_main_v18_apply, Cert.UoReferenceIdeal.Read.val_main_v20_apply, Cert.UoReferenceIdeal.Read.val_main_v23_apply, Cert.UoReferenceIdeal.Read.val_main_v26_apply, Cert.UoReferenceIdeal.Read.val_main_v29_apply, Cert.UoReferenceIdeal.Read.val_main_cst_4_apply, Cert.UoReferenceIdeal.Read.val_main_cst_5_apply, Cert.UoReferenceIdeal.Read.val_main_cst_6_apply, Cert.UoReferenceIdeal.Read.val_main_cst_7_apply, Cert.UoReferenceIdeal.Read.val_main_cst_8_apply]

/-- The gradient after the run. -/
theorem final5 (hO : Ok m) (c : Dev nD) : (dats m hO 0 c).arrAt 5 (cfgM m hO).N = Cert.UoReferenceIdeal.Read.val_main_v6 (F := Ideal) (m ((c : Thread nD τ).loc main_arg3)) (m ((c : Thread nD τ).loc main_arg4)) (m ((c : Thread nD τ).loc main_arg5)) := by
  refine (dats m hO 0 c).arrAt_eq_of_covers 5 _ (covers5 m hO) fun t _ y => ?_
  blk_simp
  rw [after0_5]
  unfold outsAt0
  dsimp only
  frame_out
  exact (congrFun (congr (congrArg (k0_pay7 (grid0.coords t) (core (tbl m))) ((hs0_3 m hO t).read_unread (iblk m hO c 3 t))) ((hs0_4 m hO t).read_unread (iblk m hO c 4 t))) y).trans (pointG m hO c t y _ (at5 m hO t y))

/-- The weights' step after the run. -/
theorem final6 (hO : Ok m) (c : Dev nD) : (dats m hO 0 c).arrAt 6 (cfgM m hO).N = Cert.UoReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 m hO) fun t _ y => ?_
  blk_simp
  rw [after0_6]
  unfold outsAt0
  dsimp only
  frame_out
  exact (congrFun (congr (congrArg k0_pay1 (congr (congr (congr (congrArg (k0_pay8 (grid0.coords t) (core (tbl m))) ((hs0_3 m hO t).read_unread (iblk m hO c 3 t))) ((hs0_4 m hO t).read_unread (iblk m hO c 4 t))) ((hs0_1 m hO t).read_unread (iblk m hO c 1 t))) ((hs0_2 m hO t).read_unread (iblk m hO c 2 t)))) ((hs0_0 m hO t).read_unread (iblk m hO c 0 t))) y).trans (pointD m hO c t y _ (at6 m hO t y))

/-- The first moment after the run. -/
theorem final7 (hO : Ok m) (c : Dev nD) : (dats m hO 0 c).arrAt 7 (cfgM m hO).N = Cert.UoReferenceIdeal.Read.val_main_v11 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers7 m hO) fun t _ y => ?_
  blk_simp
  rw [after0_7]
  unfold outsAt0
  dsimp only
  frame_out
  exact (congrFun (congrArg k0_pay2 (congr (congr (congrArg (k0_pay5 (grid0.coords t) (core (tbl m))) ((hs0_3 m hO t).read_unread (iblk m hO c 3 t))) ((hs0_4 m hO t).read_unread (iblk m hO c 4 t))) ((hs0_1 m hO t).read_unread (iblk m hO c 1 t)))) y).trans (pointM m hO c t y _ (at7 m hO t y))

/-- The second moment after the run. -/
theorem final8 (hO : Ok m) (c : Dev nD) : (dats m hO 0 c).arrAt 8 (cfgM m hO).N = Cert.UoReferenceIdeal.Read.val_main_v17 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers8 m hO) fun t _ y => ?_
  blk_simp
  rw [after0_8]
  unfold outsAt0
  dsimp only
  frame_out
  exact (congrFun (congrArg k0_pay3 (congr (congr (congrArg (k0_pay6 (grid0.coords t) (core (tbl m))) ((hs0_3 m hO t).read_unread (iblk m hO c 3 t))) ((hs0_4 m hO t).read_unread (iblk m hO c 4 t))) ((hs0_2 m hO t).read_unread (iblk m hO c 2 t)))) y).trans (pointV m hO c t y _ (at8 m hO t y))

variable (ρ : Dev nD → PrngReg)

/-- The kernel's run: every result is the reference's, and the arguments are unchanged. -/
theorem run_blocks : θ_run defs (onTc (τ := τ) (main (F := Ideal))) ⟨m, fun _ => 0, ρ⟩ fun r => ∀ c : Dev nD,
      r.2.mem ((c : Thread nD τ).loc main_v0_0) = Cert.UoReferenceIdeal.Read.val_main_v6 (F := Ideal) (m ((c : Thread nD τ).loc main_arg3)) (m ((c : Thread nD τ).loc main_arg4)) (m ((c : Thread nD τ).loc main_arg5))
      ∧ r.2.mem ((c : Thread nD τ).loc main_v0_1) = Cert.UoReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.UoReferenceIdeal.Read.val_main_v11 (F := Ideal) (m ((c : Thread nD τ).loc main_arg1)) (m ((c : Thread nD τ).loc main_arg3)) (m ((c : Thread nD τ).loc main_arg4)) (m ((c : Thread nD τ).loc main_arg5))
      ∧ r.2.mem ((c : Thread nD τ).loc main_v0_3) = Cert.UoReferenceIdeal.Read.val_main_v17 (F := Ideal) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m (ok (tbl m)) c),
      ((h c).1 6).trans (final6 m (ok (tbl m)) c),
      ((h c).1 7).trans (final7 m (ok (tbl m)) c),
      ((h c).1 8).trans (final8 m (ok (tbl m)) c),
      ((h c).1 0).trans (((dats m (ok (tbl m)) 0 c).arrAt_in 0 rfl _).trans ((A_eq m (ok (tbl m)) c 0).trans (V_main_arg0 m c))),
      ((h c).1 1).trans (((dats m (ok (tbl m)) 0 c).arrAt_in 1 rfl _).trans ((A_eq m (ok (tbl m)) c 1).trans (V_main_arg1 m c))),
      ((h c).1 2).trans (((dats m (ok (tbl m)) 0 c).arrAt_in 2 rfl _).trans ((A_eq m (ok (tbl m)) c 2).trans (V_main_arg2 m c))),
      ((h c).1 3).trans (((dats m (ok (tbl m)) 0 c).arrAt_in 3 rfl _).trans ((A_eq m (ok (tbl m)) c 3).trans (V_main_arg3 m c))),
      ((h c).1 4).trans (((dats m (ok (tbl m)) 0 c).arrAt_in 4 rfl _).trans ((A_eq m (ok (tbl m)) c 4).trans (V_main_arg4 m c))),
      ((h c).2 main_arg5 (by decide : main_arg5 ∈ Pipeline.restRefs sig spec0)).trans (V_main_arg5 m c)⟩)
    (run_main m ρ (ok (tbl m)))

end Cert.UoKernelIdeal.Whole

namespace Cert.UoKernel.Whole

open Idealize.ShloMosaic Idealize.ShloMosaic.TcCoe Idealize.SL.Sem
open Cert.UoKernel Cert.UoKernel.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x1024.size a ≤ S2x128x1024.size a := by
    decide +kernel
  have first : ∀ (i : grid0.Coords) a, (![(BitVec.ofNat 32 (i 0).val).toNat, 0, 0] a + 1) * S1x128x1024.size a ≤ S2x128x1024.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

end Cert.UoKernel.Whole

end
-- ==== Proof.UfValue.lean ====
/- One AdamW step. -/
module

public import proofs.«01_k».proof.Proof.Gen.UfKernelIdeal.Frame
public import proofs.«01_k».proof.Proof.Gen.UfKernel.Frame
public import proofs.«01_k».proof.Proof.Gen.UfReferenceIdeal.Read
public import Idealize.ShloMosaic.Lib.Pipeline.ValueKit
public import Idealize.ShloMosaic.Lib.Claim

@[expose] public section

set_option maxRecDepth 16384

noncomputable section

namespace Cert.UfKernelIdeal.Whole

open Idealize.ShloMosaic Idealize.ShloMosaic.TcCoe Idealize.SL.Sem
open Idealize.ShloMosaic.Pipeline (Dat)

open Cert.UfKernelIdeal Cert.UfKernelIdeal.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x896.size a ≤ S2x512x896.size a := by
    decide +kernel
  have first : ∀ (i : grid0.Coords) a, (![(BitVec.ofNat 32 (i 0).val).toNat, 0, 0] a + 1) * S1x128x896.size a ≤ S2x512x896.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

variable (m : (ℓ : Loc nD τ sig) → Buf (Elt Ideal) ℓ)

/-- The blocks of the full arrays are numbered through all their rows. -/
theorem onto5 : ∀ (a : Fin 2) (b : Fin 8), ∃ t : Fin grid0.N, cc0_transform_5 (grid0.coords t) = ![a.val, b.val, 0] := by decide +kernel

/-- The block of the full arrays a grid point takes. -/
theorem idx5 : ∀ t : Fin grid0.N, cc0_transform_5 (grid0.coords t) = ![(grid0.coords t 0).val, 4 * (grid0.coords t 1).val + (grid0.coords t 2).val, 0] := by decide +kernel

/-- The coordinates of a grid point are small. -/
theorem coords_small : ∀ t : Fin grid0.N, (BitVec.ofNat 32 (grid0.coords t 0).val).toNat = (grid0.coords t 0).val ∧ (BitVec.ofNat 32 (grid0.coords t 2).val).toNat = (grid0.coords t 2).val
    ∧ (BitVec.ofNat 32 (grid0.coords t 1).val = 0#32 ∧ (grid0.coords t 1).val = 0 ∨ BitVec.ofNat 32 (grid0.coords t 1).val = 1#32 ∧ (grid0.coords t 1).val = 1)
    ∧ (grid0.coords t 2).val < 4 := by decide +kernel

/-- The table has one place. -/
theorem one (x y : S1.Idx) : x = y := by
  funext a
  match a with
  | ⟨0, _⟩ => exact Subsingleton.elim (α := Fin 1) _ _

/-- The number the table holds is the argument's. -/
theorem core_eq (c : Dev nD) : core (tbl m) = m ((c : Thread nD τ).loc main_arg5) (ix1 0) := by
  obtain rfl : c = 0 := Subsingleton.elim _ _
  exact congrArg (m (((0 : Dev nD) : Thread nD τ).loc main_arg5)) (one _ _)

/-- An element `j` of a full array is element `y` of the block that grid point `t` takes. -/
def At (t : Fin grid0.N) (y : S1x128x772.Idx) (j : S2x1024x772.Idx) : Prop := ∀ a, (j a).val = cc0_transform_5 (grid0.coords t) a * S1x128x772.size a + (y a).val

/-- An element of a block as an element of the wider block of a half, whose last columns are padding. -/
abbrev wide (y : S1x128x772.Idx) : S1x128x896.Idx := ix3 0 (y 1) ⟨(y 2).val, (show (y 2).val < 772 from (y 2).isLt).trans (by decide)⟩

/-- It lies at the same coordinates. -/
theorem wide_val (y : S1x128x772.Idx) (a : Fin 3) : (wide y a).val = (y a).val := by
  match a with
  | ⟨0, _⟩ => exact (Nat.lt_one_iff.mp (show (y 0).val < 1 from (y 0).isLt)).symm
  | ⟨1, _⟩ => rfl
  | ⟨2, _⟩ => rfl

/-- The gradient put together from its halves, at an element: the kernel's choice between the two cores' blocks is the reference's choice between the two halves. -/
theorem halves (x3 x4 : S2x512x896.Idx → Ideal .f32) (x5 : S1.Idx → BitVec 32) (i0 i1 i2 : ℕ) (hi : BitVec.ofNat 32 i1 = 0#32 ∧ i1 = 0 ∨ BitVec.ofNat 32 i1 = 1#32 ∧ i1 = 1)
    (h2 : i2 < 4) (y : S1x128x772.Idx) (j : S2x1024x772.Idx) (j3 j4 : S2x512x896.Idx)
    (hj : ∀ a, (j a).val = ![i0, 4 * i1 + i2, 0] a * S1x128x772.size a + (y a).val)
    (h3 : ∀ a, (j3 a).val = ![i0, if BitVec.ofNat 32 i1 = x5 (ix1 0) then i2 else 0, 0] a * S1x128x896.size a + (y a).val)
    (h4 : ∀ a, (j4 a).val = ![i0, if BitVec.ofNat 32 i1 = x5 (ix1 0) then 0 else i2, 0] a * S1x128x896.size a + (y a).val) :
    (if BitVec.ofNat 32 i1 = x5 (ix1 0) then x3 j3 else x4 j4) = Cert.UfReferenceIdeal.Read.val_main_v7 (F := Ideal) x3 x4 x5 j := by
  rw [← Cert.UfReferenceIdeal.Read.val_main_v7_eq]
  pointwise []
  have hy : (y 1).val < 128 := (y 1).isLt
  have hj1 : (j 1).val = (4 * i1 + i2) * 128 + (y 1).val := hj 1
  have agree (q : S2x512x896.Idx) (r : ℕ) (hq : ∀ a, (q a).val = ![i0, i2, 0] a * S1x128x896.size a + (y a).val) (hr : r < 512) (e : r = i2 * 128 + (y 1).val) :
      q = ix3 (j 0) ⟨r, hr⟩ ⟨(j 2).val, (show (j 2).val < 772 from (j 2).isLt).trans (by decide)⟩ := by
    funext a
    match a with
    | ⟨0, _⟩ => exact Fin.ext ((hq 0).trans (hj 0).symm)
    | ⟨1, _⟩ => exact Fin.ext ((hq 1).trans e.symm)
    | ⟨2, _⟩ => exact Fin.ext ((hq 2).trans (hj 2).symm)
  rcases hi with ⟨hb, rfl⟩ | ⟨hb, rfl⟩
  · rw [dif_pos (show (j 1).val < 512 by omega)]
    rw [hb] at h3 h4 ⊢
    by_cases h : (0#32 : BitVec 32) = x5 (ix1 0)
    · rw [if_pos h] at h3 ⊢
      rw [agree j3 (j 1).val h3 (by omega) (by omega), ← h]
      rfl
    · rw [if_neg h] at h4 ⊢
      rw [agree j4 (j 1).val h4 (by omega) (by omega)]
      exact ((pick _ _ _ _).trans (if_neg fun e => h e.symm)).symm
  · rw [dif_neg (show ¬(j 1).val < 512 by omega)]
    rw [hb] at h3 h4 ⊢
    by_cases h : (1#32 : BitVec 32) = x5 (ix1 0)
    · rw [if_pos h] at h3 ⊢
      rw [agree j3 ((j 1).val - 512) h3 (by omega) (by omega), ← h]
      rfl
    · rw [if_neg h] at h4 ⊢
      rw [agree j4 ((j 1).val - 512) h4 (by omega) (by omega)]
      exact ((pick _ _ _ _).trans (if_neg fun e => h e.symm)).symm

/-- One element of the gradient put together from its halves. -/
theorem grad (hO : Ok m) (c : Dev nD) (t : Fin grid0.N) (y : S1x128x772.Idx) (j : S2x1024x772.Idx) (hj : At t y j) :
    Scalar.select (Scalar.cmpi CmpIPredicate.eq (BitVec.ofNat 32 (grid0.coords t 1).val) (core (tbl m))) (iblk m hO c 3 t (wide y)) (iblk m hO c 4 t (wide y))
    = Cert.UfReferenceIdeal.Read.val_main_v7 (F := Ideal) (m ((c : Thread nD τ).loc main_arg3)) (m ((c : Thread nD τ).loc main_arg4)) (m ((c : Thread nD τ).loc main_arg5)) j := by
  obtain ⟨e0, e2, e1, l2⟩ := coords_small t
  refine (pick _ _ _ _).trans ?_
  rw [core_eq m c]
  refine halves _ _ _ (grid0.coords t 0).val _ _ e1 l2 y j ((((cfgM m hO).win 3).blk t).view.emb (wide y)) ((((cfgM m hO).win 4).blk t).view.emb (wide y)) (fun a => ?_) (fun a => ?_) (fun a => ?_)
  · rw [hj a, idx5]
  · refine (ValueKit.view_emb_slice_whole_unit_val main_arg3 _ _ _ (wide y) a).trans ?_
    show cc0_transform_3 inb_S1_S1_0 numel1_S1 (tbl m) (grid0.coords t) a * S1x128x896.size a + _ = _
    rw [index3, core_eq m c, e0, e2, wide_val]
  · refine (ValueKit.view_emb_slice_whole_unit_val main_arg4 _ _ _ (wide y) a).trans ?_
    show cc0_transform_4 inb_S1_S1_0 numel1_S1 (tbl m) (grid0.coords t) a * S1x128x896.size a + _ = _
    rw [index4, core_eq m c, e0, e2, wide_val]

/-- The blocks of result 1 cover its whole array. -/
theorem covers5 (hO : Ok m) : ((cfgM m hO).win 5).Covers := by
  refine ⟨(by decide : ∀ a : Fin 3, 0 < S1x128x772.size a), fun β => ?_⟩
  have e0 : ((cfgM m hO).win 5).nblk (0 : Fin 3) = 2 := (by decide : (S2x1024x772.size 0 + S1x128x772.size 0 - 1) / S1x128x772.size 0 = 2)
  have e1 : ((cfgM m hO).win 5).nblk (1 : Fin 3) = 8 := (by decide : (S2x1024x772.size 1 + S1x128x772.size 1 - 1) / S1x128x772.size 1 = 8)
  have e2 : ((cfgM m hO).win 5).nblk (2 : Fin 3) = 1 := (by decide : (S2x1024x772.size 2 + S1x128x772.size 2 - 1) / S1x128x772.size 2 = 1)
  obtain ⟨t, ht⟩ := onto5 ((β (0 : Fin 3)).cast e0) ((β (1 : Fin 3)).cast e1)
  refine ⟨t, flush0_5 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 1 lies. -/
theorem at5 (hO : Ok m) (t : Fin grid0.N) (y : S1x128x772.Idx) : At t y ((((cfgM m hO).win 5).blk t).view.emb y) :=
  fun a => ValueKit.view_emb_slice_whole_unit_val main_v0_0 _ _ _ y a

/-- The blocks of result 2 cover its whole array. -/
theorem covers6 (hO : Ok m) : ((cfgM m hO).win 6).Covers := by
  refine ⟨(by decide : ∀ a : Fin 3, 0 < S1x128x772.size a), fun β => ?_⟩
  have e0 : ((cfgM m hO).win 6).nblk (0 : Fin 3) = 2 := (by decide : (S2x1024x772.size 0 + S1x128x772.size 0 - 1) / S1x128x772.size 0 = 2)
  have e1 : ((cfgM m hO).win 6).nblk (1 : Fin 3) = 8 := (by decide : (S2x1024x772.size 1 + S1x128x772.size 1 - 1) / S1x128x772.size 1 = 8)
  have e2 : ((cfgM m hO).win 6).nblk (2 : Fin 3) = 1 := (by decide : (S2x1024x772.size 2 + S1x128x772.size 2 - 1) / S1x128x772.size 2 = 1)
  obtain ⟨t, ht⟩ := onto5 ((β (0 : Fin 3)).cast e0) ((β (1 : Fin 3)).cast e1)
  refine ⟨t, flush0_6 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 2 lies. -/
theorem at6 (hO : Ok m) (t : Fin grid0.N) (y : S1x128x772.Idx) : At t y ((((cfgM m hO).win 6).blk t).view.emb y) :=
  fun a => ValueKit.view_emb_slice_whole_unit_val main_v0_1 _ _ _ y a

/-- The blocks of result 3 cover its whole array. -/
theorem covers7 (hO : Ok m) : ((cfgM m hO).win 7).Covers := by
  refine ⟨(by decide : ∀ a : Fin 3, 0 < S1x128x772.size a), fun β => ?_⟩
  have e0 : ((cfgM m hO).win 7).nblk (0 : Fin 3) = 2 := (by decide : (S2x1024x772.size 0 + S1x128x772.size 0 - 1) / S1x128x772.size 0 = 2)
  have e1 : ((cfgM m hO).win 7).nblk (1 : Fin 3) = 8 := (by decide : (S2x1024x772.size 1 + S1x128x772.size 1 - 1) / S1x128x772.size 1 = 8)
  have e2 : ((cfgM m hO).win 7).nblk (2 : Fin 3) = 1 := (by decide : (S2x1024x772.size 2 + S1x128x772.size 2 - 1) / S1x128x772.size 2 = 1)
  obtain ⟨t, ht⟩ := onto5 ((β (0 : Fin 3)).cast e0) ((β (1 : Fin 3)).cast e1)
  refine ⟨t, flush0_7 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 3 lies. -/
theorem at7 (hO : Ok m) (t : Fin grid0.N) (y : S1x128x772.Idx) : At t y ((((cfgM m hO).win 7).blk t).view.emb y) :=
  fun a => ValueKit.view_emb_slice_whole_unit_val main_v0_2 _ _ _ y a

/-- The blocks of result 4 cover its whole array. -/
theorem covers8 (hO : Ok m) : ((cfgM m hO).win 8).Covers := by
  refine ⟨(by decide : ∀ a : Fin 3, 0 < S1x128x772.size a), fun β => ?_⟩
  have e0 : ((cfgM m hO).win 8).nblk (0 : Fin 3) = 2 := (by decide : (S2x1024x772.size 0 + S1x128x772.size 0 - 1) / S1x128x772.size 0 = 2)
  have e1 : ((cfgM m hO).win 8).nblk (1 : Fin 3) = 8 := (by decide : (S2x1024x772.size 1 + S1x128x772.size 1 - 1) / S1x128x772.size 1 = 8)
  have e2 : ((cfgM m hO).win 8).nblk (2 : Fin 3) = 1 := (by decide : (S2x1024x772.size 2 + S1x128x772.size 2 - 1) / S1x128x772.size 2 = 1)
  obtain ⟨t, ht⟩ := onto5 ((β (0 : Fin 3)).cast e0) ((β (1 : Fin 3)).cast e1)
  refine ⟨t, flush0_8 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 4 lies. -/
theorem at8 (hO : Ok m) (t : Fin grid0.N) (y : S1x128x772.Idx) : At t y ((((cfgM m hO).win 8).blk t).view.emb y) :=
  fun a => ValueKit.view_emb_slice_whole_unit_val main_v0_3 _ _ _ y a

/-- A block of argument 0 is read where the results are written. -/
theorem read0 (hO : Ok m) (c : Dev nD) (t : Fin grid0.N) (y : S1x128x772.Idx) (j : S2x1024x772.Idx) (hj : At t y j) : iblk m hO c 0 t y = m ((c : Thread nD τ).loc main_arg0) j :=
  congrArg (m ((c : Thread nD τ).loc main_arg0)) (funext fun a => Fin.ext ((ValueKit.view_emb_slice_whole_unit_val main_arg0 _ _ _ y a).trans (hj a).symm))

/-- A block of argument 1 is read where the results are written. -/
theorem read1 (hO : Ok m) (c : Dev nD) (t : Fin grid0.N) (y : S1x128x772.Idx) (j : S2x1024x772.Idx) (hj : At t y j) : iblk m hO c 1 t y = m ((c : Thread nD τ).loc main_arg1) j :=
  congrArg (m ((c : Thread nD τ).loc main_arg1)) (funext fun a => Fin.ext ((ValueKit.view_emb_slice_whole_unit_val main_arg1 _ _ _ y a).trans (hj a).symm))

/-- A block of argument 2 is read where the results are written. -/
theorem read2 (hO : Ok m) (c : Dev nD) (t : Fin grid0.N) (y : S1x128x772.Idx) (j : S2x1024x772.Idx) (hj : At t y j) : iblk m hO c 2 t y = m ((c : Thread nD τ).loc main_arg2) j :=
  congrArg (m ((c : Thread nD τ).loc main_arg2)) (funext fun a => Fin.ext ((ValueKit.view_emb_slice_whole_unit_val main_arg2 _ _ _ y a).trans (hj a).symm))

/-- The gradient the kernel puts together is the reference's. -/
theorem pointG (hO : Ok m) (c : Dev nD) (t : Fin grid0.N) (y : S1x128x772.Idx) (j : S2x1024x772.Idx) (hj : At t y j) :
    k0_pay7 (grid0.coords t) (core (tbl m)) (iblk m hO c 3 t) (iblk m hO c 4 t) y = Cert.UfReferenceIdeal.Read.val_main_v7 (F := Ideal) (m ((c : Thread nD τ).loc main_arg3)) (m ((c : Thread nD τ).loc main_arg4)) (m ((c : Thread nD τ).loc main_arg5)) j := by
  rw [← grad m hO c t y j hj]
  pointwise [k0_pay7, k0_pay4]

/-- The new first moment is the reference's. -/
theorem pointM (hO : Ok m) (c : Dev nD) (t : Fin grid0.N) (y : S1x128x772.Idx) (j : S2x1024x772.Idx) (hj : At t y j) :
    k0_pay2 (k0_pay5 (grid0.coords t) (core (tbl m)) (iblk m hO c 3 t) (iblk m hO c 4 t) (iblk m hO c 1 t)) y = Cert.UfReferenceIdeal.Read.val_main_v12 (F := Ideal) (m ((c : Thread nD τ).loc main_arg1)) (m ((c : Thread nD τ).loc main_arg3)) (m ((c : Thread nD τ).loc main_arg4)) (m ((c : Thread nD τ).loc main_arg5)) j := by
  rw [Cert.UfReferenceIdeal.Read.val_main_v12_apply, Cert.UfReferenceIdeal.Read.val_main_v9_apply, Cert.UfReferenceIdeal.Read.val_main_v11_apply, ← grad m hO c t y j hj, ← read1 m hO c t y j hj]
  pointwise [k0_pay2, k0_pay5, k0_pay4, Cert.UfReferenceIdeal.Read.val_main_v8_apply, Cert.UfReferenceIdeal.Read.val_main_v10_apply, Cert.UfReferenceIdeal.Read.val_main_cst_apply, Cert.UfReferenceIdeal.Read.val_main_cst_1_apply]

/-- The new second moment is the reference's. -/
theorem pointV (hO : Ok m) (c : Dev nD) (t : Fin grid0.N) (y : S1x128x772.Idx) (j : S2x1024x772.Idx) (hj : At t y j) :
    k0_pay3 (k0_pay6 (grid0.coords t) (core (tbl m)) (iblk m hO c 3 t) (iblk m hO c 4 t) (iblk m hO c 2 t)) y = Cert.UfReferenceIdeal.Read.val_main_v18 (F := Ideal) (m ((c : Thread nD τ).loc main_arg2)) (m ((c : Thread nD τ).loc main_arg3)) (m ((c : Thread nD τ).loc main_arg4)) (m ((c : Thread nD τ).loc main_arg5)) j := by
  rw [Cert.UfReferenceIdeal.Read.val_main_v18_apply, Cert.UfReferenceIdeal.Read.val_main_v14_apply, Cert.UfReferenceIdeal.Read.val_main_v17_apply, Cert.UfReferenceIdeal.Read.val_main_v15_apply, ← grad m hO c t y j hj, ← read2 m hO c t y j hj]
  pointwise [k0_pay3, k0_pay6, k0_pay4, Cert.UfReferenceIdeal.Read.val_main_v13_apply, Cert.UfReferenceIdeal.Read.val_main_v16_apply, Cert.UfReferenceIdeal.Read.val_main_cst_2_apply, Cert.UfReferenceIdeal.Read.val_main_cst_3_apply]

/-- The step of the weights is the reference's. -/
theorem pointD (hO : Ok m) (c : Dev nD) (t : Fin grid0.N) (y : S1x128x772.Idx) (j : S2x1024x772.Idx) (hj : At t y j) :
    k0_pay1 (k0_pay8 (grid0.coords t) (core (tbl m)) (iblk m hO c 3 t) (iblk m hO c 4 t) (iblk m hO c 1 t)) (k0_pay9 (grid0.coords t) (core (tbl m)) (iblk m hO c 3 t) (iblk m hO c 4 t) (iblk m hO c 2 t)) (iblk m hO c 0 t) y
    = Cert.UfReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [Cert.UfReferenceIdeal.Read.val_main_v31_apply, Cert.UfReferenceIdeal.Read.val_main_v29_apply, Cert.UfReferenceIdeal.Read.val_main_v26_apply, Cert.UfReferenceIdeal.Read.val_main_v28_apply, Cert.UfReferenceIdeal.Read.val_main_v20_apply, Cert.UfReferenceIdeal.Read.val_main_v25_apply, Cert.UfReferenceIdeal.Read.val_main_v23_apply, Cert.UfReferenceIdeal.Read.val_main_v22_apply, ← pointM m hO c t y j hj, ← pointV m hO c t y j hj, ← read0 m hO c t y j hj]
  pointwise [k0_pay1, k0_pay8, k0_pay9, k0_pay2, k0_pay3, k0_pay5, k0_pay6, k0_pay4, Cert.UfReferenceIdeal.Read.val_main_v19_apply, Cert.UfReferenceIdeal.Read.val_main_v21_apply, Cert.UfReferenceIdeal.Read.val_main_v24_apply, Cert.UfReferenceIdeal.Read.val_main_v27_apply, Cert.UfReferenceIdeal.Read.val_main_v30_apply, Cert.UfReferenceIdeal.Read.val_main_cst_4_apply, Cert.UfReferenceIdeal.Read.val_main_cst_5_apply, Cert.UfReferenceIdeal.Read.val_main_cst_6_apply, Cert.UfReferenceIdeal.Read.val_main_cst_7_apply, Cert.UfReferenceIdeal.Read.val_main_cst_8_apply]

/-- The gradient after the run. -/
theorem final5 (hO : Ok m) (c : Dev nD) : (dats m hO 0 c).arrAt 5 (cfgM m hO).N = Cert.UfReferenceIdeal.Read.val_main_v7 (F := Ideal) (m ((c : Thread nD τ).loc main_arg3)) (m ((c : Thread nD τ).loc main_arg4)) (m ((c : Thread nD τ).loc main_arg5)) := by
  refine (dats m hO 0 c).arrAt_eq_of_covers 5 _ (covers5 m hO) fun t _ y => ?_
  blk_simp
  rw [after0_5]
  unfold outsAt0
  dsimp only
  frame_out
  exact (congrFun (congr (congrArg (k0_pay7 (grid0.coords t) (core (tbl m))) ((hs0_3 m hO t).read_unread (iblk m hO c 3 t))) ((hs0_4 m hO t).read_unread (iblk m hO c 4 t))) y).trans (pointG m hO c t y _ (at5 m hO t y))

/-- The weights' step after the run. -/
theorem final6 (hO : Ok m) (c : Dev nD) : (dats m hO 0 c).arrAt 6 (cfgM m hO).N = Cert.UfReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 m hO) fun t _ y => ?_
  blk_simp
  rw [after0_6]
  unfold outsAt0
  dsimp only
  frame_out
  exact (congrFun (congr (congr (congrArg k0_pay1 (congr (congr (congrArg (k0_pay8 (grid0.coords t) (core (tbl m))) ((hs0_3 m hO t).read_unread (iblk m hO c 3 t))) ((hs0_4 m hO t).read_unread (iblk m hO c 4 t))) ((hs0_1 m hO t).read_unread (iblk m hO c 1 t)))) (congr (congr (congrArg (k0_pay9 (grid0.coords t) (core (tbl m))) ((hs0_3 m hO t).read_unread (iblk m hO c 3 t))) ((hs0_4 m hO t).read_unread (iblk m hO c 4 t))) ((hs0_2 m hO t).read_unread (iblk m hO c 2 t)))) ((hs0_0 m hO t).read_unread (iblk m hO c 0 t))) y).trans (pointD m hO c t y _ (at6 m hO t y))

/-- The first moment after the run. -/
theorem final7 (hO : Ok m) (c : Dev nD) : (dats m hO 0 c).arrAt 7 (cfgM m hO).N = Cert.UfReferenceIdeal.Read.val_main_v12 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers7 m hO) fun t _ y => ?_
  blk_simp
  rw [after0_7]
  unfold outsAt0
  dsimp only
  frame_out
  exact (congrFun (congrArg k0_pay2 (congr (congr (congrArg (k0_pay5 (grid0.coords t) (core (tbl m))) ((hs0_3 m hO t).read_unread (iblk m hO c 3 t))) ((hs0_4 m hO t).read_unread (iblk m hO c 4 t))) ((hs0_1 m hO t).read_unread (iblk m hO c 1 t)))) y).trans (pointM m hO c t y _ (at7 m hO t y))

/-- The second moment after the run. -/
theorem final8 (hO : Ok m) (c : Dev nD) : (dats m hO 0 c).arrAt 8 (cfgM m hO).N = Cert.UfReferenceIdeal.Read.val_main_v18 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers8 m hO) fun t _ y => ?_
  blk_simp
  rw [after0_8]
  unfold outsAt0
  dsimp only
  frame_out
  exact (congrFun (congrArg k0_pay3 (congr (congr (congrArg (k0_pay6 (grid0.coords t) (core (tbl m))) ((hs0_3 m hO t).read_unread (iblk m hO c 3 t))) ((hs0_4 m hO t).read_unread (iblk m hO c 4 t))) ((hs0_2 m hO t).read_unread (iblk m hO c 2 t)))) y).trans (pointV m hO c t y _ (at8 m hO t y))

variable (ρ : Dev nD → PrngReg)

/-- The kernel's run: every result is the reference's, and the arguments are unchanged. -/
theorem run_blocks : θ_run defs (onTc (τ := τ) (main (F := Ideal))) ⟨m, fun _ => 0, ρ⟩ fun r => ∀ c : Dev nD,
      r.2.mem ((c : Thread nD τ).loc main_v0_0) = Cert.UfReferenceIdeal.Read.val_main_v7 (F := Ideal) (m ((c : Thread nD τ).loc main_arg3)) (m ((c : Thread nD τ).loc main_arg4)) (m ((c : Thread nD τ).loc main_arg5))
      ∧ r.2.mem ((c : Thread nD τ).loc main_v0_1) = Cert.UfReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.UfReferenceIdeal.Read.val_main_v12 (F := Ideal) (m ((c : Thread nD τ).loc main_arg1)) (m ((c : Thread nD τ).loc main_arg3)) (m ((c : Thread nD τ).loc main_arg4)) (m ((c : Thread nD τ).loc main_arg5))
      ∧ r.2.mem ((c : Thread nD τ).loc main_v0_3) = Cert.UfReferenceIdeal.Read.val_main_v18 (F := Ideal) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m (ok (tbl m)) c),
      ((h c).1 6).trans (final6 m (ok (tbl m)) c),
      ((h c).1 7).trans (final7 m (ok (tbl m)) c),
      ((h c).1 8).trans (final8 m (ok (tbl m)) c),
      ((h c).1 0).trans (((dats m (ok (tbl m)) 0 c).arrAt_in 0 rfl _).trans ((A_eq m (ok (tbl m)) c 0).trans (V_main_arg0 m c))),
      ((h c).1 1).trans (((dats m (ok (tbl m)) 0 c).arrAt_in 1 rfl _).trans ((A_eq m (ok (tbl m)) c 1).trans (V_main_arg1 m c))),
      ((h c).1 2).trans (((dats m (ok (tbl m)) 0 c).arrAt_in 2 rfl _).trans ((A_eq m (ok (tbl m)) c 2).trans (V_main_arg2 m c))),
      ((h c).1 3).trans (((dats m (ok (tbl m)) 0 c).arrAt_in 3 rfl _).trans ((A_eq m (ok (tbl m)) c 3).trans (V_main_arg3 m c))),
      ((h c).1 4).trans (((dats m (ok (tbl m)) 0 c).arrAt_in 4 rfl _).trans ((A_eq m (ok (tbl m)) c 4).trans (V_main_arg4 m c))),
      ((h c).2 main_arg5 (by decide : main_arg5 ∈ Pipeline.restRefs sig spec0)).trans (V_main_arg5 m c)⟩)
    (run_main m ρ (ok (tbl m)))

end Cert.UfKernelIdeal.Whole

namespace Cert.UfKernel.Whole

open Idealize.ShloMosaic Idealize.ShloMosaic.TcCoe Idealize.SL.Sem
open Cert.UfKernel Cert.UfKernel.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x896.size a ≤ S2x512x896.size a := by
    decide +kernel
  have first : ∀ (i : grid0.Coords) a, (![(BitVec.ofNat 32 (i 0).val).toNat, 0, 0] a + 1) * S1x128x896.size a ≤ S2x512x896.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

end Cert.UfKernel.Whole

end
-- ==== Proof.UiValue.lean ====
/- One AdamW step. -/
module

public import proofs.«01_k».proof.Proof.Gen.UiKernelIdeal.Frame
public import proofs.«01_k».proof.Proof.Gen.UiKernel.Frame
public import proofs.«01_k».proof.Proof.Gen.UiReferenceIdeal.Read
public import Idealize.ShloMosaic.Lib.Pipeline.ValueKit
public import Idealize.ShloMosaic.Lib.Claim

@[expose] public section

set_option maxRecDepth 16384

noncomputable section

namespace Cert.UiKernelIdeal.Whole

open Idealize.ShloMosaic Idealize.ShloMosaic.TcCoe Idealize.SL.Sem
open Idealize.ShloMosaic.Pipeline (Dat)

open Cert.UiKernelIdeal Cert.UiKernelIdeal.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x1408.size a ≤ S4x512x1408.size a := by
    decide +kernel
  have first : ∀ (i : grid0.Coords) a, (![(BitVec.ofNat 32 (i 0).val).toNat, 0, 0] a + 1) * S1x128x1408.size a ≤ S4x512x1408.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

variable (m : (ℓ : Loc nD τ sig) → Buf (Elt Ideal) ℓ)

/-- The blocks of the full arrays are numbered through all their rows. -/
theorem onto5 : ∀ (a : Fin 4) (b : Fin 8), ∃ t : Fin grid0.N, cc0_transform_5 (grid0.coords t) = ![a.val, b.val, 0] := by decide +kernel

/-- The block of the full arrays a grid point takes. -/
theorem idx5 : ∀ t : Fin grid0.N, cc0_transform_5 (grid0.coords t) = ![(grid0.coords t 0).val, 4 * (grid0.coords t 1).val + (grid0.coords t 2).val, 0] := by decide +kernel

/-- The coordinates of a grid point are small. -/
theorem coords_small : ∀ t : Fin grid0.N, (BitVec.ofNat 32 (grid0.coords t 0).val).toNat = (grid0.coords t 0).val ∧ (BitVec.ofNat 32 (grid0.coords t 2).val).toNat = (grid0.coords t 2).val
    ∧ (BitVec.ofNat 32 (grid0.coords t 1).val = 0#32 ∧ (grid0.coords t 1).val = 0 ∨ BitVec.ofNat 32 (grid0.coords t 1).val = 1#32 ∧ (grid0.coords t 1).val = 1)
    ∧ (grid0.coords t 2).val < 4 := by decide +kernel

/-- The table has one place. -/
theorem one (x y : S1.Idx) : x = y := by
  funext a
  match a with
  | ⟨0, _⟩ => exact Subsingleton.elim (α := Fin 1) _ _

/-- The number the table holds is the argument's. -/
theorem core_eq (c : Dev nD) : core (tbl m) = m ((c : Thread nD τ).loc main_arg5) (ix1 0) := by
  obtain rfl : c = 0 := Subsingleton.elim _ _
  exact congrArg (m (((0 : Dev nD) : Thread nD τ).loc main_arg5)) (one _ _)

/-- An element `j` of a full array is element `y` of the block that grid point `t` takes. -/
def At (t : Fin grid0.N) (y : S1x128x1408.Idx) (j : S4x1024x1408.Idx) : Prop := ∀ a, (j a).val = cc0_transform_5 (grid0.coords t) a * S1x128x1408.size a + (y a).val

/-- The gradient put together from its halves, at an element: the kernel's choice between the two cores' blocks is the reference's choice between the two halves. -/
theorem halves (x3 x4 : S4x512x1408.Idx → Ideal .f32) (x5 : S1.Idx → BitVec 32) (i0 i1 i2 : ℕ) (hi : BitVec.ofNat 32 i1 = 0#32 ∧ i1 = 0 ∨ BitVec.ofNat 32 i1 = 1#32 ∧ i1 = 1)
    (h2 : i2 < 4) (y : S1x128x1408.Idx) (j : S4x1024x1408.Idx) (j3 j4 : S4x512x1408.Idx)
    (hj : ∀ a, (j a).val = ![i0, 4 * i1 + i2, 0] a * S1x128x1408.size a + (y a).val)
    (h3 : ∀ a, (j3 a).val = ![i0, if BitVec.ofNat 32 i1 = x5 (ix1 0) then i2 else 0, 0] a * S1x128x1408.size a + (y a).val)
    (h4 : ∀ a, (j4 a).val = ![i0, if BitVec.ofNat 32 i1 = x5 (ix1 0) then 0 else i2, 0] a * S1x128x1408.size a + (y a).val) :
    (if BitVec.ofNat 32 i1 = x5 (ix1 0) then x3 j3 else x4 j4) = Cert.UiReferenceIdeal.Read.val_main_v6 (F := Ideal) x3 x4 x5 j := by
  rw [← Cert.UiReferenceIdeal.Read.val_main_v6_eq]
  pointwise []
  have hy : (y 1).val < 128 := (y 1).isLt
  have hj1 : (j 1).val = (4 * i1 + i2) * 128 + (y 1).val := hj 1
  have agree (q : S4x512x1408.Idx) (r : ℕ) (hq : ∀ a, (q a).val = ![i0, i2, 0] a * S1x128x1408.size a + (y a).val) (hr : r < 512) (e : r = i2 * 128 + (y 1).val) :
      q = ix3 (j 0) ⟨r, hr⟩ (j 2) := by
    funext a
    match a with
    | ⟨0, _⟩ => exact Fin.ext ((hq 0).trans (hj 0).symm)
    | ⟨1, _⟩ => exact Fin.ext ((hq 1).trans e.symm)
    | ⟨2, _⟩ => exact Fin.ext ((hq 2).trans (hj 2).symm)
  rcases hi with ⟨hb, rfl⟩ | ⟨hb, rfl⟩
  · rw [dif_pos (show (j 1).val < 512 by omega)]
    rw [hb] at h3 h4 ⊢
    by_cases h : (0#32 : BitVec 32) = x5 (ix1 0)
    · rw [if_pos h] at h3 ⊢
      rw [agree j3 (j 1).val h3 (by omega) (by omega), ← h]
      rfl
    · rw [if_neg h] at h4 ⊢
      rw [agree j4 (j 1).val h4 (by omega) (by omega)]
      exact ((pick _ _ _ _).trans (if_neg fun e => h e.symm)).symm
  · rw [dif_neg (show ¬(j 1).val < 512 by omega)]
    rw [hb] at h3 h4 ⊢
    by_cases h : (1#32 : BitVec 32) = x5 (ix1 0)
    · rw [if_pos h] at h3 ⊢
      rw [agree j3 ((j 1).val - 512) h3 (by omega) (by omega), ← h]
      rfl
    · rw [if_neg h] at h4 ⊢
      rw [agree j4 ((j 1).val - 512) h4 (by omega) (by omega)]
      exact ((pick _ _ _ _).trans (if_neg fun e => h e.symm)).symm

/-- One element of the gradient put together from its halves. -/
theorem grad (hO : Ok m) (c : Dev nD) (t : Fin grid0.N) (y : S1x128x1408.Idx) (j : S4x1024x1408.Idx) (hj : At t y j) :
    Scalar.select (Scalar.cmpi CmpIPredicate.eq (BitVec.ofNat 32 (grid0.coords t 1).val) (core (tbl m))) (iblk m hO c 3 t y) (iblk m hO c 4 t y)
    = Cert.UiReferenceIdeal.Read.val_main_v6 (F := Ideal) (m ((c : Thread nD τ).loc main_arg3)) (m ((c : Thread nD τ).loc main_arg4)) (m ((c : Thread nD τ).loc main_arg5)) j := by
  obtain ⟨e0, e2, e1, l2⟩ := coords_small t
  refine (pick _ _ _ _).trans ?_
  rw [core_eq m c]
  refine halves _ _ _ (grid0.coords t 0).val _ _ e1 l2 y j ((((cfgM m hO).win 3).blk t).view.emb y) ((((cfgM m hO).win 4).blk t).view.emb y) (fun a => ?_) (fun a => ?_) (fun a => ?_)
  · rw [hj a, idx5]
  · refine (ValueKit.view_emb_slice_whole_unit_val main_arg3 _ _ _ y a).trans ?_
    show cc0_transform_3 inb_S1_S1_0 numel1_S1 (tbl m) (grid0.coords t) a * S1x128x1408.size a + _ = _
    rw [index3, core_eq m c, e0, e2]
  · refine (ValueKit.view_emb_slice_whole_unit_val main_arg4 _ _ _ y a).trans ?_
    show cc0_transform_4 inb_S1_S1_0 numel1_S1 (tbl m) (grid0.coords t) a * S1x128x1408.size a + _ = _
    rw [index4, core_eq m c, e0, e2]

/-- The blocks of result 1 cover its whole array. -/
theorem covers5 (hO : Ok m) : ((cfgM m hO).win 5).Covers := by
  refine ⟨(by decide : ∀ a : Fin 3, 0 < S1x128x1408.size a), fun β => ?_⟩
  have e0 : ((cfgM m hO).win 5).nblk (0 : Fin 3) = 4 := (by decide : (S4x1024x1408.size 0 + S1x128x1408.size 0 - 1) / S1x128x1408.size 0 = 4)
  have e1 : ((cfgM m hO).win 5).nblk (1 : Fin 3) = 8 := (by decide : (S4x1024x1408.size 1 + S1x128x1408.size 1 - 1) / S1x128x1408.size 1 = 8)
  have e2 : ((cfgM m hO).win 5).nblk (2 : Fin 3) = 1 := (by decide : (S4x1024x1408.size 2 + S1x128x1408.size 2 - 1) / S1x128x1408.size 2 = 1)
  obtain ⟨t, ht⟩ := onto5 ((β (0 : Fin 3)).cast e0) ((β (1 : Fin 3)).cast e1)
  refine ⟨t, flush0_5 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 1 lies. -/
theorem at5 (hO : Ok m) (t : Fin grid0.N) (y : S1x128x1408.Idx) : At t y ((((cfgM m hO).win 5).blk t).view.emb y) :=
  fun a => ValueKit.view_emb_slice_whole_unit_val main_v0_0 _ _ _ y a

/-- The blocks of result 2 cover its whole array. -/
theorem covers6 (hO : Ok m) : ((cfgM m hO).win 6).Covers := by
  refine ⟨(by decide : ∀ a : Fin 3, 0 < S1x128x1408.size a), fun β => ?_⟩
  have e0 : ((cfgM m hO).win 6).nblk (0 : Fin 3) = 4 := (by decide : (S4x1024x1408.size 0 + S1x128x1408.size 0 - 1) / S1x128x1408.size 0 = 4)
  have e1 : ((cfgM m hO).win 6).nblk (1 : Fin 3) = 8 := (by decide : (S4x1024x1408.size 1 + S1x128x1408.size 1 - 1) / S1x128x1408.size 1 = 8)
  have e2 : ((cfgM m hO).win 6).nblk (2 : Fin 3) = 1 := (by decide : (S4x1024x1408.size 2 + S1x128x1408.size 2 - 1) / S1x128x1408.size 2 = 1)
  obtain ⟨t, ht⟩ := onto5 ((β (0 : Fin 3)).cast e0) ((β (1 : Fin 3)).cast e1)
  refine ⟨t, flush0_6 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 2 lies. -/
theorem at6 (hO : Ok m) (t : Fin grid0.N) (y : S1x128x1408.Idx) : At t y ((((cfgM m hO).win 6).blk t).view.emb y) :=
  fun a => ValueKit.view_emb_slice_whole_unit_val main_v0_1 _ _ _ y a

/-- The blocks of result 3 cover its whole array. -/
theorem covers7 (hO : Ok m) : ((cfgM m hO).win 7).Covers := by
  refine ⟨(by decide : ∀ a : Fin 3, 0 < S1x128x1408.size a), fun β => ?_⟩
  have e0 : ((cfgM m hO).win 7).nblk (0 : Fin 3) = 4 := (by decide : (S4x1024x1408.size 0 + S1x128x1408.size 0 - 1) / S1x128x1408.size 0 = 4)
  have e1 : ((cfgM m hO).win 7).nblk (1 : Fin 3) = 8 := (by decide : (S4x1024x1408.size 1 + S1x128x1408.size 1 - 1) / S1x128x1408.size 1 = 8)
  have e2 : ((cfgM m hO).win 7).nblk (2 : Fin 3) = 1 := (by decide : (S4x1024x1408.size 2 + S1x128x1408.size 2 - 1) / S1x128x1408.size 2 = 1)
  obtain ⟨t, ht⟩ := onto5 ((β (0 : Fin 3)).cast e0) ((β (1 : Fin 3)).cast e1)
  refine ⟨t, flush0_7 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 3 lies. -/
theorem at7 (hO : Ok m) (t : Fin grid0.N) (y : S1x128x1408.Idx) : At t y ((((cfgM m hO).win 7).blk t).view.emb y) :=
  fun a => ValueKit.view_emb_slice_whole_unit_val main_v0_2 _ _ _ y a

/-- The blocks of result 4 cover its whole array. -/
theorem covers8 (hO : Ok m) : ((cfgM m hO).win 8).Covers := by
  refine ⟨(by decide : ∀ a : Fin 3, 0 < S1x128x1408.size a), fun β => ?_⟩
  have e0 : ((cfgM m hO).win 8).nblk (0 : Fin 3) = 4 := (by decide : (S4x1024x1408.size 0 + S1x128x1408.size 0 - 1) / S1x128x1408.size 0 = 4)
  have e1 : ((cfgM m hO).win 8).nblk (1 : Fin 3) = 8 := (by decide : (S4x1024x1408.size 1 + S1x128x1408.size 1 - 1) / S1x128x1408.size 1 = 8)
  have e2 : ((cfgM m hO).win 8).nblk (2 : Fin 3) = 1 := (by decide : (S4x1024x1408.size 2 + S1x128x1408.size 2 - 1) / S1x128x1408.size 2 = 1)
  obtain ⟨t, ht⟩ := onto5 ((β (0 : Fin 3)).cast e0) ((β (1 : Fin 3)).cast e1)
  refine ⟨t, flush0_8 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 4 lies. -/
theorem at8 (hO : Ok m) (t : Fin grid0.N) (y : S1x128x1408.Idx) : At t y ((((cfgM m hO).win 8).blk t).view.emb y) :=
  fun a => ValueKit.view_emb_slice_whole_unit_val main_v0_3 _ _ _ y a

/-- A block of argument 0 is read where the results are written. -/
theorem read0 (hO : Ok m) (c : Dev nD) (t : Fin grid0.N) (y : S1x128x1408.Idx) (j : S4x1024x1408.Idx) (hj : At t y j) : iblk m hO c 0 t y = m ((c : Thread nD τ).loc main_arg0) j :=
  congrArg (m ((c : Thread nD τ).loc main_arg0)) (funext fun a => Fin.ext ((ValueKit.view_emb_slice_whole_unit_val main_arg0 _ _ _ y a).trans (hj a).symm))

/-- A block of argument 1 is read where the results are written. -/
theorem read1 (hO : Ok m) (c : Dev nD) (t : Fin grid0.N) (y : S1x128x1408.Idx) (j : S4x1024x1408.Idx) (hj : At t y j) : iblk m hO c 1 t y = m ((c : Thread nD τ).loc main_arg1) j :=
  congrArg (m ((c : Thread nD τ).loc main_arg1)) (funext fun a => Fin.ext ((ValueKit.view_emb_slice_whole_unit_val main_arg1 _ _ _ y a).trans (hj a).symm))

/-- A block of argument 2 is read where the results are written. -/
theorem read2 (hO : Ok m) (c : Dev nD) (t : Fin grid0.N) (y : S1x128x1408.Idx) (j : S4x1024x1408.Idx) (hj : At t y j) : iblk m hO c 2 t y = m ((c : Thread nD τ).loc main_arg2) j :=
  congrArg (m ((c : Thread nD τ).loc main_arg2)) (funext fun a => Fin.ext ((ValueKit.view_emb_slice_whole_unit_val main_arg2 _ _ _ y a).trans (hj a).symm))

/-- The gradient the kernel puts together is the reference's. -/
theorem pointG (hO : Ok m) (c : Dev nD) (t : Fin grid0.N) (y : S1x128x1408.Idx) (j : S4x1024x1408.Idx) (hj : At t y j) :
    k0_pay7 (grid0.coords t) (core (tbl m)) (iblk m hO c 3 t) (iblk m hO c 4 t) y = Cert.UiReferenceIdeal.Read.val_main_v6 (F := Ideal) (m ((c : Thread nD τ).loc main_arg3)) (m ((c : Thread nD τ).loc main_arg4)) (m ((c : Thread nD τ).loc main_arg5)) j := by
  rw [← grad m hO c t y j hj]
  pointwise [k0_pay7, k0_pay4]

/-- The new first moment is the reference's. -/
theorem pointM (hO : Ok m) (c : Dev nD) (t : Fin grid0.N) (y : S1x128x1408.Idx) (j : S4x1024x1408.Idx) (hj : At t y j) :
    k0_pay2 (k0_pay5 (grid0.coords t) (core (tbl m)) (iblk m hO c 3 t) (iblk m hO c 4 t) (iblk m hO c 1 t)) y = Cert.UiReferenceIdeal.Read.val_main_v11 (F := Ideal) (m ((c : Thread nD τ).loc main_arg1)) (m ((c : Thread nD τ).loc main_arg3)) (m ((c : Thread nD τ).loc main_arg4)) (m ((c : Thread nD τ).loc main_arg5)) j := by
  rw [Cert.UiReferenceIdeal.Read.val_main_v11_apply, Cert.UiReferenceIdeal.Read.val_main_v8_apply, Cert.UiReferenceIdeal.Read.val_main_v10_apply, ← grad m hO c t y j hj, ← read1 m hO c t y j hj]
  pointwise [k0_pay2, k0_pay5, k0_pay4, Cert.UiReferenceIdeal.Read.val_main_v7_apply, Cert.UiReferenceIdeal.Read.val_main_v9_apply, Cert.UiReferenceIdeal.Read.val_main_cst_apply, Cert.UiReferenceIdeal.Read.val_main_cst_1_apply]

/-- The new second moment is the reference's. -/
theorem pointV (hO : Ok m) (c : Dev nD) (t : Fin grid0.N) (y : S1x128x1408.Idx) (j : S4x1024x1408.Idx) (hj : At t y j) :
    k0_pay3 (k0_pay6 (grid0.coords t) (core (tbl m)) (iblk m hO c 3 t) (iblk m hO c 4 t) (iblk m hO c 2 t)) y = Cert.UiReferenceIdeal.Read.val_main_v17 (F := Ideal) (m ((c : Thread nD τ).loc main_arg2)) (m ((c : Thread nD τ).loc main_arg3)) (m ((c : Thread nD τ).loc main_arg4)) (m ((c : Thread nD τ).loc main_arg5)) j := by
  rw [Cert.UiReferenceIdeal.Read.val_main_v17_apply, Cert.UiReferenceIdeal.Read.val_main_v13_apply, Cert.UiReferenceIdeal.Read.val_main_v16_apply, Cert.UiReferenceIdeal.Read.val_main_v14_apply, ← grad m hO c t y j hj, ← read2 m hO c t y j hj]
  pointwise [k0_pay3, k0_pay6, k0_pay4, Cert.UiReferenceIdeal.Read.val_main_v12_apply, Cert.UiReferenceIdeal.Read.val_main_v15_apply, Cert.UiReferenceIdeal.Read.val_main_cst_2_apply, Cert.UiReferenceIdeal.Read.val_main_cst_3_apply]

/-- The step of the weights is the reference's. -/
theorem pointD (hO : Ok m) (c : Dev nD) (t : Fin grid0.N) (y : S1x128x1408.Idx) (j : S4x1024x1408.Idx) (hj : At t y j) :
    k0_pay1 (k0_pay8 (grid0.coords t) (core (tbl m)) (iblk m hO c 3 t) (iblk m hO c 4 t) (iblk m hO c 1 t) (iblk m hO c 2 t)) (iblk m hO c 0 t) y
    = Cert.UiReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [Cert.UiReferenceIdeal.Read.val_main_v30_apply, Cert.UiReferenceIdeal.Read.val_main_v28_apply, Cert.UiReferenceIdeal.Read.val_main_v25_apply, Cert.UiReferenceIdeal.Read.val_main_v27_apply, Cert.UiReferenceIdeal.Read.val_main_v19_apply, Cert.UiReferenceIdeal.Read.val_main_v24_apply, Cert.UiReferenceIdeal.Read.val_main_v22_apply, Cert.UiReferenceIdeal.Read.val_main_v21_apply, ← pointM m hO c t y j hj, ← pointV m hO c t y j hj, ← read0 m hO c t y j hj]
  pointwise [k0_pay1, k0_pay8, k0_pay2, k0_pay3, k0_pay5, k0_pay6, k0_pay4, Cert.UiReferenceIdeal.Read.val_main_v18_apply, Cert.UiReferenceIdeal.Read.val_main_v20_apply, Cert.UiReferenceIdeal.Read.val_main_v23_apply, Cert.UiReferenceIdeal.Read.val_main_v26_apply, Cert.UiReferenceIdeal.Read.val_main_v29_apply, Cert.UiReferenceIdeal.Read.val_main_cst_4_apply, Cert.UiReferenceIdeal.Read.val_main_cst_5_apply, Cert.UiReferenceIdeal.Read.val_main_cst_6_apply, Cert.UiReferenceIdeal.Read.val_main_cst_7_apply, Cert.UiReferenceIdeal.Read.val_main_cst_8_apply]

/-- The gradient after the run. -/
theorem final5 (hO : Ok m) (c : Dev nD) : (dats m hO 0 c).arrAt 5 (cfgM m hO).N = Cert.UiReferenceIdeal.Read.val_main_v6 (F := Ideal) (m ((c : Thread nD τ).loc main_arg3)) (m ((c : Thread nD τ).loc main_arg4)) (m ((c : Thread nD τ).loc main_arg5)) := by
  refine (dats m hO 0 c).arrAt_eq_of_covers 5 _ (covers5 m hO) fun t _ y => ?_
  blk_simp
  rw [after0_5]
  unfold outsAt0
  dsimp only
  frame_out
  exact (congrFun (congr (congrArg (k0_pay7 (grid0.coords t) (core (tbl m))) ((hs0_3 m hO t).read_unread (iblk m hO c 3 t))) ((hs0_4 m hO t).read_unread (iblk m hO c 4 t))) y).trans (pointG m hO c t y _ (at5 m hO t y))

/-- The weights' step after the run. -/
theorem final6 (hO : Ok m) (c : Dev nD) : (dats m hO 0 c).arrAt 6 (cfgM m hO).N = Cert.UiReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 m hO) fun t _ y => ?_
  blk_simp
  rw [after0_6]
  unfold outsAt0
  dsimp only
  frame_out
  exact (congrFun (congr (congrArg k0_pay1 (congr (congr (congr (congrArg (k0_pay8 (grid0.coords t) (core (tbl m))) ((hs0_3 m hO t).read_unread (iblk m hO c 3 t))) ((hs0_4 m hO t).read_unread (iblk m hO c 4 t))) ((hs0_1 m hO t).read_unread (iblk m hO c 1 t))) ((hs0_2 m hO t).read_unread (iblk m hO c 2 t)))) ((hs0_0 m hO t).read_unread (iblk m hO c 0 t))) y).trans (pointD m hO c t y _ (at6 m hO t y))

/-- The first moment after the run. -/
theorem final7 (hO : Ok m) (c : Dev nD) : (dats m hO 0 c).arrAt 7 (cfgM m hO).N = Cert.UiReferenceIdeal.Read.val_main_v11 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers7 m hO) fun t _ y => ?_
  blk_simp
  rw [after0_7]
  unfold outsAt0
  dsimp only
  frame_out
  exact (congrFun (congrArg k0_pay2 (congr (congr (congrArg (k0_pay5 (grid0.coords t) (core (tbl m))) ((hs0_3 m hO t).read_unread (iblk m hO c 3 t))) ((hs0_4 m hO t).read_unread (iblk m hO c 4 t))) ((hs0_1 m hO t).read_unread (iblk m hO c 1 t)))) y).trans (pointM m hO c t y _ (at7 m hO t y))

/-- The second moment after the run. -/
theorem final8 (hO : Ok m) (c : Dev nD) : (dats m hO 0 c).arrAt 8 (cfgM m hO).N = Cert.UiReferenceIdeal.Read.val_main_v17 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers8 m hO) fun t _ y => ?_
  blk_simp
  rw [after0_8]
  unfold outsAt0
  dsimp only
  frame_out
  exact (congrFun (congrArg k0_pay3 (congr (congr (congrArg (k0_pay6 (grid0.coords t) (core (tbl m))) ((hs0_3 m hO t).read_unread (iblk m hO c 3 t))) ((hs0_4 m hO t).read_unread (iblk m hO c 4 t))) ((hs0_2 m hO t).read_unread (iblk m hO c 2 t)))) y).trans (pointV m hO c t y _ (at8 m hO t y))

variable (ρ : Dev nD → PrngReg)

/-- The kernel's run: every result is the reference's, and the arguments are unchanged. -/
theorem run_blocks : θ_run defs (onTc (τ := τ) (main (F := Ideal))) ⟨m, fun _ => 0, ρ⟩ fun r => ∀ c : Dev nD,
      r.2.mem ((c : Thread nD τ).loc main_v0_0) = Cert.UiReferenceIdeal.Read.val_main_v6 (F := Ideal) (m ((c : Thread nD τ).loc main_arg3)) (m ((c : Thread nD τ).loc main_arg4)) (m ((c : Thread nD τ).loc main_arg5))
      ∧ r.2.mem ((c : Thread nD τ).loc main_v0_1) = Cert.UiReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.UiReferenceIdeal.Read.val_main_v11 (F := Ideal) (m ((c : Thread nD τ).loc main_arg1)) (m ((c : Thread nD τ).loc main_arg3)) (m ((c : Thread nD τ).loc main_arg4)) (m ((c : Thread nD τ).loc main_arg5))
      ∧ r.2.mem ((c : Thread nD τ).loc main_v0_3) = Cert.UiReferenceIdeal.Read.val_main_v17 (F := Ideal) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m (ok (tbl m)) c),
      ((h c).1 6).trans (final6 m (ok (tbl m)) c),
      ((h c).1 7).trans (final7 m (ok (tbl m)) c),
      ((h c).1 8).trans (final8 m (ok (tbl m)) c),
      ((h c).1 0).trans (((dats m (ok (tbl m)) 0 c).arrAt_in 0 rfl _).trans ((A_eq m (ok (tbl m)) c 0).trans (V_main_arg0 m c))),
      ((h c).1 1).trans (((dats m (ok (tbl m)) 0 c).arrAt_in 1 rfl _).trans ((A_eq m (ok (tbl m)) c 1).trans (V_main_arg1 m c))),
      ((h c).1 2).trans (((dats m (ok (tbl m)) 0 c).arrAt_in 2 rfl _).trans ((A_eq m (ok (tbl m)) c 2).trans (V_main_arg2 m c))),
      ((h c).1 3).trans (((dats m (ok (tbl m)) 0 c).arrAt_in 3 rfl _).trans ((A_eq m (ok (tbl m)) c 3).trans (V_main_arg3 m c))),
      ((h c).1 4).trans (((dats m (ok (tbl m)) 0 c).arrAt_in 4 rfl _).trans ((A_eq m (ok (tbl m)) c 4).trans (V_main_arg4 m c))),
      ((h c).2 main_arg5 (by decide : main_arg5 ∈ Pipeline.restRefs sig spec0)).trans (V_main_arg5 m c)⟩)
    (run_main m ρ (ok (tbl m)))

end Cert.UiKernelIdeal.Whole

namespace Cert.UiKernel.Whole

open Idealize.ShloMosaic Idealize.ShloMosaic.TcCoe Idealize.SL.Sem
open Cert.UiKernel Cert.UiKernel.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x128x1408.size a ≤ S4x512x1408.size a := by
    decide +kernel
  have first : ∀ (i : grid0.Coords) a, (![(BitVec.ofNat 32 (i 0).val).toNat, 0, 0] a + 1) * S1x128x1408.size a ≤ S4x512x1408.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

end Cert.UiKernel.Whole

end
-- ==== Proof.UxValue.lean ====
/- One AdamW step. -/
module

public import proofs.«01_k».proof.Proof.Gen.UxKernelIdeal.Frame
public import proofs.«01_k».proof.Proof.Gen.UxKernel.Frame
public import proofs.«01_k».proof.Proof.Gen.UxReferenceIdeal.Read
public import Idealize.ShloMosaic.Lib.Pipeline.ValueKit
public import Idealize.ShloMosaic.Lib.Claim

@[expose] public section

set_option maxRecDepth 16384

noncomputable section

namespace Cert.UxKernelIdeal.Whole

open Idealize.ShloMosaic Idealize.ShloMosaic.TcCoe Idealize.SL.Sem
open Idealize.ShloMosaic.Pipeline (Dat)

open Cert.UxKernelIdeal Cert.UxKernelIdeal.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x176x1024.size a ≤ S4x352x1024.size a := by
    decide +kernel
  have first : ∀ (i : grid0.Coords) a, (![(BitVec.ofNat 32 (i 0).val).toNat, 0, 0] a + 1) * S1x176x1024.size a ≤ S4x352x1024.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

variable (m : (ℓ : Loc nD τ sig) → Buf (Elt Ideal) ℓ)

/-- The blocks of the full arrays are numbered through all their rows. -/
theorem onto5 : ∀ (a : Fin 4) (b : Fin 4), ∃ t : Fin grid0.N, cc0_transform_5 (grid0.coords t) = ![a.val, b.val, 0] := by decide +kernel

/-- The block of the full arrays a grid point takes. -/
theorem idx5 : ∀ t : Fin grid0.N, cc0_transform_5 (grid0.coords t) = ![(grid0.coords t 0).val, 2 * (grid0.coords t 1).val + (grid0.coords t 2).val, 0] := by decide +kernel

/-- The coordinates of a grid point are small. -/
theorem coords_small : ∀ t : Fin grid0.N, (BitVec.ofNat 32 (grid0.coords t 0).val).toNat = (grid0.coords t 0).val ∧ (BitVec.ofNat 32 (grid0.coords t 2).val).toNat = (grid0.coords t 2).val
    ∧ (BitVec.ofNat 32 (grid0.coords t 1).val = 0#32 ∧ (grid0.coords t 1).val = 0 ∨ BitVec.ofNat 32 (grid0.coords t 1).val = 1#32 ∧ (grid0.coords t 1).val = 1)
    ∧ (grid0.coords t 2).val < 2 := by decide +kernel

/-- The table has one place. -/
theorem one (x y : S1.Idx) : x = y := by
  funext a
  match a with
  | ⟨0, _⟩ => exact Subsingleton.elim (α := Fin 1) _ _

/-- The number the table holds is the argument's. -/
theorem core_eq (c : Dev nD) : core (tbl m) = m ((c : Thread nD τ).loc main_arg5) (ix1 0) := by
  obtain rfl : c = 0 := Subsingleton.elim _ _
  exact congrArg (m (((0 : Dev nD) : Thread nD τ).loc main_arg5)) (one _ _)

/-- An element `j` of a full array is element `y` of the block that grid point `t` takes. -/
def At (t : Fin grid0.N) (y : S1x176x1024.Idx) (j : S4x704x1024.Idx) : Prop := ∀ a, (j a).val = cc0_transform_5 (grid0.coords t) a * S1x176x1024.size a + (y a).val

/-- The gradient put together from its halves, at an element: the kernel's choice between the two cores' blocks is the reference's choice between the two halves. -/
theorem halves (x3 x4 : S4x352x1024.Idx → Ideal .f32) (x5 : S1.Idx → BitVec 32) (i0 i1 i2 : ℕ) (hi : BitVec.ofNat 32 i1 = 0#32 ∧ i1 = 0 ∨ BitVec.ofNat 32 i1 = 1#32 ∧ i1 = 1)
    (h2 : i2 < 2) (y : S1x176x1024.Idx) (j : S4x704x1024.Idx) (j3 j4 : S4x352x1024.Idx)
    (hj : ∀ a, (j a).val = ![i0, 2 * i1 + i2, 0] a * S1x176x1024.size a + (y a).val)
    (h3 : ∀ a, (j3 a).val = ![i0, if BitVec.ofNat 32 i1 = x5 (ix1 0) then i2 else 0, 0] a * S1x176x1024.size a + (y a).val)
    (h4 : ∀ a, (j4 a).val = ![i0, if BitVec.ofNat 32 i1 = x5 (ix1 0) then 0 else i2, 0] a * S1x176x1024.size a + (y a).val) :
    (if BitVec.ofNat 32 i1 = x5 (ix1 0) then x3 j3 else x4 j4) = Cert.UxReferenceIdeal.Read.val_main_v6 (F := Ideal) x3 x4 x5 j := by
  rw [← Cert.UxReferenceIdeal.Read.val_main_v6_eq]
  pointwise []
  have hy : (y 1).val < 176 := (y 1).isLt
  have hj1 : (j 1).val = (2 * i1 + i2) * 176 + (y 1).val := hj 1
  have agree (q : S4x352x1024.Idx) (r : ℕ) (hq : ∀ a, (q a).val = ![i0, i2, 0] a * S1x176x1024.size a + (y a).val) (hr : r < 352) (e : r = i2 * 176 + (y 1).val) :
      q = ix3 (j 0) ⟨r, hr⟩ (j 2) := by
    funext a
    match a with
    | ⟨0, _⟩ => exact Fin.ext ((hq 0).trans (hj 0).symm)
    | ⟨1, _⟩ => exact Fin.ext ((hq 1).trans e.symm)
    | ⟨2, _⟩ => exact Fin.ext ((hq 2).trans (hj 2).symm)
  rcases hi with ⟨hb, rfl⟩ | ⟨hb, rfl⟩
  · rw [dif_pos (show (j 1).val < 352 by omega)]
    rw [hb] at h3 h4 ⊢
    by_cases h : (0#32 : BitVec 32) = x5 (ix1 0)
    · rw [if_pos h] at h3 ⊢
      rw [agree j3 (j 1).val h3 (by omega) (by omega), ← h]
      rfl
    · rw [if_neg h] at h4 ⊢
      rw [agree j4 (j 1).val h4 (by omega) (by omega)]
      exact ((pick _ _ _ _).trans (if_neg fun e => h e.symm)).symm
  · rw [dif_neg (show ¬(j 1).val < 352 by omega)]
    rw [hb] at h3 h4 ⊢
    by_cases h : (1#32 : BitVec 32) = x5 (ix1 0)
    · rw [if_pos h] at h3 ⊢
      rw [agree j3 ((j 1).val - 352) h3 (by omega) (by omega), ← h]
      rfl
    · rw [if_neg h] at h4 ⊢
      rw [agree j4 ((j 1).val - 352) h4 (by omega) (by omega)]
      exact ((pick _ _ _ _).trans (if_neg fun e => h e.symm)).symm

/-- One element of the gradient put together from its halves. -/
theorem grad (hO : Ok m) (c : Dev nD) (t : Fin grid0.N) (y : S1x176x1024.Idx) (j : S4x704x1024.Idx) (hj : At t y j) :
    Scalar.select (Scalar.cmpi CmpIPredicate.eq (BitVec.ofNat 32 (grid0.coords t 1).val) (core (tbl m))) (iblk m hO c 3 t y) (iblk m hO c 4 t y)
    = Cert.UxReferenceIdeal.Read.val_main_v6 (F := Ideal) (m ((c : Thread nD τ).loc main_arg3)) (m ((c : Thread nD τ).loc main_arg4)) (m ((c : Thread nD τ).loc main_arg5)) j := by
  obtain ⟨e0, e2, e1, l2⟩ := coords_small t
  refine (pick _ _ _ _).trans ?_
  rw [core_eq m c]
  refine halves _ _ _ (grid0.coords t 0).val _ _ e1 l2 y j ((((cfgM m hO).win 3).blk t).view.emb y) ((((cfgM m hO).win 4).blk t).view.emb y) (fun a => ?_) (fun a => ?_) (fun a => ?_)
  · rw [hj a, idx5]
  · refine (ValueKit.view_emb_slice_whole_unit_val main_arg3 _ _ _ y a).trans ?_
    show cc0_transform_3 inb_S1_S1_0 numel1_S1 (tbl m) (grid0.coords t) a * S1x176x1024.size a + _ = _
    rw [index3, core_eq m c, e0, e2]
  · refine (ValueKit.view_emb_slice_whole_unit_val main_arg4 _ _ _ y a).trans ?_
    show cc0_transform_4 inb_S1_S1_0 numel1_S1 (tbl m) (grid0.coords t) a * S1x176x1024.size a + _ = _
    rw [index4, core_eq m c, e0, e2]

/-- The blocks of result 1 cover its whole array. -/
theorem covers5 (hO : Ok m) : ((cfgM m hO).win 5).Covers := by
  refine ⟨(by decide : ∀ a : Fin 3, 0 < S1x176x1024.size a), fun β => ?_⟩
  have e0 : ((cfgM m hO).win 5).nblk (0 : Fin 3) = 4 := (by decide : (S4x704x1024.size 0 + S1x176x1024.size 0 - 1) / S1x176x1024.size 0 = 4)
  have e1 : ((cfgM m hO).win 5).nblk (1 : Fin 3) = 4 := (by decide : (S4x704x1024.size 1 + S1x176x1024.size 1 - 1) / S1x176x1024.size 1 = 4)
  have e2 : ((cfgM m hO).win 5).nblk (2 : Fin 3) = 1 := (by decide : (S4x704x1024.size 2 + S1x176x1024.size 2 - 1) / S1x176x1024.size 2 = 1)
  obtain ⟨t, ht⟩ := onto5 ((β (0 : Fin 3)).cast e0) ((β (1 : Fin 3)).cast e1)
  refine ⟨t, flush0_5 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 1 lies. -/
theorem at5 (hO : Ok m) (t : Fin grid0.N) (y : S1x176x1024.Idx) : At t y ((((cfgM m hO).win 5).blk t).view.emb y) :=
  fun a => ValueKit.view_emb_slice_whole_unit_val main_v0_0 _ _ _ y a

/-- The blocks of result 2 cover its whole array. -/
theorem covers6 (hO : Ok m) : ((cfgM m hO).win 6).Covers := by
  refine ⟨(by decide : ∀ a : Fin 3, 0 < S1x176x1024.size a), fun β => ?_⟩
  have e0 : ((cfgM m hO).win 6).nblk (0 : Fin 3) = 4 := (by decide : (S4x704x1024.size 0 + S1x176x1024.size 0 - 1) / S1x176x1024.size 0 = 4)
  have e1 : ((cfgM m hO).win 6).nblk (1 : Fin 3) = 4 := (by decide : (S4x704x1024.size 1 + S1x176x1024.size 1 - 1) / S1x176x1024.size 1 = 4)
  have e2 : ((cfgM m hO).win 6).nblk (2 : Fin 3) = 1 := (by decide : (S4x704x1024.size 2 + S1x176x1024.size 2 - 1) / S1x176x1024.size 2 = 1)
  obtain ⟨t, ht⟩ := onto5 ((β (0 : Fin 3)).cast e0) ((β (1 : Fin 3)).cast e1)
  refine ⟨t, flush0_6 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 2 lies. -/
theorem at6 (hO : Ok m) (t : Fin grid0.N) (y : S1x176x1024.Idx) : At t y ((((cfgM m hO).win 6).blk t).view.emb y) :=
  fun a => ValueKit.view_emb_slice_whole_unit_val main_v0_1 _ _ _ y a

/-- The blocks of result 3 cover its whole array. -/
theorem covers7 (hO : Ok m) : ((cfgM m hO).win 7).Covers := by
  refine ⟨(by decide : ∀ a : Fin 3, 0 < S1x176x1024.size a), fun β => ?_⟩
  have e0 : ((cfgM m hO).win 7).nblk (0 : Fin 3) = 4 := (by decide : (S4x704x1024.size 0 + S1x176x1024.size 0 - 1) / S1x176x1024.size 0 = 4)
  have e1 : ((cfgM m hO).win 7).nblk (1 : Fin 3) = 4 := (by decide : (S4x704x1024.size 1 + S1x176x1024.size 1 - 1) / S1x176x1024.size 1 = 4)
  have e2 : ((cfgM m hO).win 7).nblk (2 : Fin 3) = 1 := (by decide : (S4x704x1024.size 2 + S1x176x1024.size 2 - 1) / S1x176x1024.size 2 = 1)
  obtain ⟨t, ht⟩ := onto5 ((β (0 : Fin 3)).cast e0) ((β (1 : Fin 3)).cast e1)
  refine ⟨t, flush0_7 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 3 lies. -/
theorem at7 (hO : Ok m) (t : Fin grid0.N) (y : S1x176x1024.Idx) : At t y ((((cfgM m hO).win 7).blk t).view.emb y) :=
  fun a => ValueKit.view_emb_slice_whole_unit_val main_v0_2 _ _ _ y a

/-- The blocks of result 4 cover its whole array. -/
theorem covers8 (hO : Ok m) : ((cfgM m hO).win 8).Covers := by
  refine ⟨(by decide : ∀ a : Fin 3, 0 < S1x176x1024.size a), fun β => ?_⟩
  have e0 : ((cfgM m hO).win 8).nblk (0 : Fin 3) = 4 := (by decide : (S4x704x1024.size 0 + S1x176x1024.size 0 - 1) / S1x176x1024.size 0 = 4)
  have e1 : ((cfgM m hO).win 8).nblk (1 : Fin 3) = 4 := (by decide : (S4x704x1024.size 1 + S1x176x1024.size 1 - 1) / S1x176x1024.size 1 = 4)
  have e2 : ((cfgM m hO).win 8).nblk (2 : Fin 3) = 1 := (by decide : (S4x704x1024.size 2 + S1x176x1024.size 2 - 1) / S1x176x1024.size 2 = 1)
  obtain ⟨t, ht⟩ := onto5 ((β (0 : Fin 3)).cast e0) ((β (1 : Fin 3)).cast e1)
  refine ⟨t, flush0_8 _ t, fun a => ⟨?_, .inl rfl⟩⟩
  refine (congrFun ht a).trans ?_
  match a with
  | ⟨0, _⟩ => rfl
  | ⟨1, _⟩ => rfl
  | ⟨2, h⟩ => exact (Nat.lt_one_iff.mp ((β (2 : Fin 3)).isLt.trans_eq e2)).symm

/-- Where a block of result 4 lies. -/
theorem at8 (hO : Ok m) (t : Fin grid0.N) (y : S1x176x1024.Idx) : At t y ((((cfgM m hO).win 8).blk t).view.emb y) :=
  fun a => ValueKit.view_emb_slice_whole_unit_val main_v0_3 _ _ _ y a

/-- A block of argument 0 is read where the results are written. -/
theorem read0 (hO : Ok m) (c : Dev nD) (t : Fin grid0.N) (y : S1x176x1024.Idx) (j : S4x704x1024.Idx) (hj : At t y j) : iblk m hO c 0 t y = m ((c : Thread nD τ).loc main_arg0) j :=
  congrArg (m ((c : Thread nD τ).loc main_arg0)) (funext fun a => Fin.ext ((ValueKit.view_emb_slice_whole_unit_val main_arg0 _ _ _ y a).trans (hj a).symm))

/-- A block of argument 1 is read where the results are written. -/
theorem read1 (hO : Ok m) (c : Dev nD) (t : Fin grid0.N) (y : S1x176x1024.Idx) (j : S4x704x1024.Idx) (hj : At t y j) : iblk m hO c 1 t y = m ((c : Thread nD τ).loc main_arg1) j :=
  congrArg (m ((c : Thread nD τ).loc main_arg1)) (funext fun a => Fin.ext ((ValueKit.view_emb_slice_whole_unit_val main_arg1 _ _ _ y a).trans (hj a).symm))

/-- A block of argument 2 is read where the results are written. -/
theorem read2 (hO : Ok m) (c : Dev nD) (t : Fin grid0.N) (y : S1x176x1024.Idx) (j : S4x704x1024.Idx) (hj : At t y j) : iblk m hO c 2 t y = m ((c : Thread nD τ).loc main_arg2) j :=
  congrArg (m ((c : Thread nD τ).loc main_arg2)) (funext fun a => Fin.ext ((ValueKit.view_emb_slice_whole_unit_val main_arg2 _ _ _ y a).trans (hj a).symm))

/-- The gradient the kernel puts together is the reference's. -/
theorem pointG (hO : Ok m) (c : Dev nD) (t : Fin grid0.N) (y : S1x176x1024.Idx) (j : S4x704x1024.Idx) (hj : At t y j) :
    k0_pay7 (grid0.coords t) (core (tbl m)) (iblk m hO c 3 t) (iblk m hO c 4 t) y = Cert.UxReferenceIdeal.Read.val_main_v6 (F := Ideal) (m ((c : Thread nD τ).loc main_arg3)) (m ((c : Thread nD τ).loc main_arg4)) (m ((c : Thread nD τ).loc main_arg5)) j := by
  rw [← grad m hO c t y j hj]
  pointwise [k0_pay7, k0_pay4]

/-- The new first moment is the reference's. -/
theorem pointM (hO : Ok m) (c : Dev nD) (t : Fin grid0.N) (y : S1x176x1024.Idx) (j : S4x704x1024.Idx) (hj : At t y j) :
    k0_pay2 (k0_pay5 (grid0.coords t) (core (tbl m)) (iblk m hO c 3 t) (iblk m hO c 4 t) (iblk m hO c 1 t)) y = Cert.UxReferenceIdeal.Read.val_main_v11 (F := Ideal) (m ((c : Thread nD τ).loc main_arg1)) (m ((c : Thread nD τ).loc main_arg3)) (m ((c : Thread nD τ).loc main_arg4)) (m ((c : Thread nD τ).loc main_arg5)) j := by
  rw [Cert.UxReferenceIdeal.Read.val_main_v11_apply, Cert.UxReferenceIdeal.Read.val_main_v8_apply, Cert.UxReferenceIdeal.Read.val_main_v10_apply, ← grad m hO c t y j hj, ← read1 m hO c t y j hj]
  pointwise [k0_pay2, k0_pay5, k0_pay4, Cert.UxReferenceIdeal.Read.val_main_v7_apply, Cert.UxReferenceIdeal.Read.val_main_v9_apply, Cert.UxReferenceIdeal.Read.val_main_cst_apply, Cert.UxReferenceIdeal.Read.val_main_cst_1_apply]

/-- The new second moment is the reference's. -/
theorem pointV (hO : Ok m) (c : Dev nD) (t : Fin grid0.N) (y : S1x176x1024.Idx) (j : S4x704x1024.Idx) (hj : At t y j) :
    k0_pay3 (k0_pay6 (grid0.coords t) (core (tbl m)) (iblk m hO c 3 t) (iblk m hO c 4 t) (iblk m hO c 2 t)) y = Cert.UxReferenceIdeal.Read.val_main_v17 (F := Ideal) (m ((c : Thread nD τ).loc main_arg2)) (m ((c : Thread nD τ).loc main_arg3)) (m ((c : Thread nD τ).loc main_arg4)) (m ((c : Thread nD τ).loc main_arg5)) j := by
  rw [Cert.UxReferenceIdeal.Read.val_main_v17_apply, Cert.UxReferenceIdeal.Read.val_main_v13_apply, Cert.UxReferenceIdeal.Read.val_main_v16_apply, Cert.UxReferenceIdeal.Read.val_main_v14_apply, ← grad m hO c t y j hj, ← read2 m hO c t y j hj]
  pointwise [k0_pay3, k0_pay6, k0_pay4, Cert.UxReferenceIdeal.Read.val_main_v12_apply, Cert.UxReferenceIdeal.Read.val_main_v15_apply, Cert.UxReferenceIdeal.Read.val_main_cst_2_apply, Cert.UxReferenceIdeal.Read.val_main_cst_3_apply]

/-- The step of the weights is the reference's. -/
theorem pointD (hO : Ok m) (c : Dev nD) (t : Fin grid0.N) (y : S1x176x1024.Idx) (j : S4x704x1024.Idx) (hj : At t y j) :
    k0_pay1 (k0_pay8 (grid0.coords t) (core (tbl m)) (iblk m hO c 3 t) (iblk m hO c 4 t) (iblk m hO c 1 t) (iblk m hO c 2 t)) (iblk m hO c 0 t) y
    = Cert.UxReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [Cert.UxReferenceIdeal.Read.val_main_v30_apply, Cert.UxReferenceIdeal.Read.val_main_v28_apply, Cert.UxReferenceIdeal.Read.val_main_v25_apply, Cert.UxReferenceIdeal.Read.val_main_v27_apply, Cert.UxReferenceIdeal.Read.val_main_v19_apply, Cert.UxReferenceIdeal.Read.val_main_v24_apply, Cert.UxReferenceIdeal.Read.val_main_v22_apply, Cert.UxReferenceIdeal.Read.val_main_v21_apply, ← pointM m hO c t y j hj, ← pointV m hO c t y j hj, ← read0 m hO c t y j hj]
  pointwise [k0_pay1, k0_pay8, k0_pay2, k0_pay3, k0_pay5, k0_pay6, k0_pay4, Cert.UxReferenceIdeal.Read.val_main_v18_apply, Cert.UxReferenceIdeal.Read.val_main_v20_apply, Cert.UxReferenceIdeal.Read.val_main_v23_apply, Cert.UxReferenceIdeal.Read.val_main_v26_apply, Cert.UxReferenceIdeal.Read.val_main_v29_apply, Cert.UxReferenceIdeal.Read.val_main_cst_4_apply, Cert.UxReferenceIdeal.Read.val_main_cst_5_apply, Cert.UxReferenceIdeal.Read.val_main_cst_6_apply, Cert.UxReferenceIdeal.Read.val_main_cst_7_apply, Cert.UxReferenceIdeal.Read.val_main_cst_8_apply]

/-- The gradient after the run. -/
theorem final5 (hO : Ok m) (c : Dev nD) : (dats m hO 0 c).arrAt 5 (cfgM m hO).N = Cert.UxReferenceIdeal.Read.val_main_v6 (F := Ideal) (m ((c : Thread nD τ).loc main_arg3)) (m ((c : Thread nD τ).loc main_arg4)) (m ((c : Thread nD τ).loc main_arg5)) := by
  refine (dats m hO 0 c).arrAt_eq_of_covers 5 _ (covers5 m hO) fun t _ y => ?_
  blk_simp
  rw [after0_5]
  unfold outsAt0
  dsimp only
  frame_out
  exact (congrFun (congr (congrArg (k0_pay7 (grid0.coords t) (core (tbl m))) ((hs0_3 m hO t).read_unread (iblk m hO c 3 t))) ((hs0_4 m hO t).read_unread (iblk m hO c 4 t))) y).trans (pointG m hO c t y _ (at5 m hO t y))

/-- The weights' step after the run. -/
theorem final6 (hO : Ok m) (c : Dev nD) : (dats m hO 0 c).arrAt 6 (cfgM m hO).N = Cert.UxReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 m hO) fun t _ y => ?_
  blk_simp
  rw [after0_6]
  unfold outsAt0
  dsimp only
  frame_out
  exact (congrFun (congr (congrArg k0_pay1 (congr (congr (congr (congrArg (k0_pay8 (grid0.coords t) (core (tbl m))) ((hs0_3 m hO t).read_unread (iblk m hO c 3 t))) ((hs0_4 m hO t).read_unread (iblk m hO c 4 t))) ((hs0_1 m hO t).read_unread (iblk m hO c 1 t))) ((hs0_2 m hO t).read_unread (iblk m hO c 2 t)))) ((hs0_0 m hO t).read_unread (iblk m hO c 0 t))) y).trans (pointD m hO c t y _ (at6 m hO t y))

/-- The first moment after the run. -/
theorem final7 (hO : Ok m) (c : Dev nD) : (dats m hO 0 c).arrAt 7 (cfgM m hO).N = Cert.UxReferenceIdeal.Read.val_main_v11 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers7 m hO) fun t _ y => ?_
  blk_simp
  rw [after0_7]
  unfold outsAt0
  dsimp only
  frame_out
  exact (congrFun (congrArg k0_pay2 (congr (congr (congrArg (k0_pay5 (grid0.coords t) (core (tbl m))) ((hs0_3 m hO t).read_unread (iblk m hO c 3 t))) ((hs0_4 m hO t).read_unread (iblk m hO c 4 t))) ((hs0_1 m hO t).read_unread (iblk m hO c 1 t)))) y).trans (pointM m hO c t y _ (at7 m hO t y))

/-- The second moment after the run. -/
theorem final8 (hO : Ok m) (c : Dev nD) : (dats m hO 0 c).arrAt 8 (cfgM m hO).N = Cert.UxReferenceIdeal.Read.val_main_v17 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers8 m hO) fun t _ y => ?_
  blk_simp
  rw [after0_8]
  unfold outsAt0
  dsimp only
  frame_out
  exact (congrFun (congrArg k0_pay3 (congr (congr (congrArg (k0_pay6 (grid0.coords t) (core (tbl m))) ((hs0_3 m hO t).read_unread (iblk m hO c 3 t))) ((hs0_4 m hO t).read_unread (iblk m hO c 4 t))) ((hs0_2 m hO t).read_unread (iblk m hO c 2 t)))) y).trans (pointV m hO c t y _ (at8 m hO t y))

variable (ρ : Dev nD → PrngReg)

/-- The kernel's run: every result is the reference's, and the arguments are unchanged. -/
theorem run_blocks : θ_run defs (onTc (τ := τ) (main (F := Ideal))) ⟨m, fun _ => 0, ρ⟩ fun r => ∀ c : Dev nD,
      r.2.mem ((c : Thread nD τ).loc main_v0_0) = Cert.UxReferenceIdeal.Read.val_main_v6 (F := Ideal) (m ((c : Thread nD τ).loc main_arg3)) (m ((c : Thread nD τ).loc main_arg4)) (m ((c : Thread nD τ).loc main_arg5))
      ∧ r.2.mem ((c : Thread nD τ).loc main_v0_1) = Cert.UxReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Cert.UxReferenceIdeal.Read.val_main_v11 (F := Ideal) (m ((c : Thread nD τ).loc main_arg1)) (m ((c : Thread nD τ).loc main_arg3)) (m ((c : Thread nD τ).loc main_arg4)) (m ((c : Thread nD τ).loc main_arg5))
      ∧ r.2.mem ((c : Thread nD τ).loc main_v0_3) = Cert.UxReferenceIdeal.Read.val_main_v17 (F := Ideal) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m (ok (tbl m)) c),
      ((h c).1 6).trans (final6 m (ok (tbl m)) c),
      ((h c).1 7).trans (final7 m (ok (tbl m)) c),
      ((h c).1 8).trans (final8 m (ok (tbl m)) c),
      ((h c).1 0).trans (((dats m (ok (tbl m)) 0 c).arrAt_in 0 rfl _).trans ((A_eq m (ok (tbl m)) c 0).trans (V_main_arg0 m c))),
      ((h c).1 1).trans (((dats m (ok (tbl m)) 0 c).arrAt_in 1 rfl _).trans ((A_eq m (ok (tbl m)) c 1).trans (V_main_arg1 m c))),
      ((h c).1 2).trans (((dats m (ok (tbl m)) 0 c).arrAt_in 2 rfl _).trans ((A_eq m (ok (tbl m)) c 2).trans (V_main_arg2 m c))),
      ((h c).1 3).trans (((dats m (ok (tbl m)) 0 c).arrAt_in 3 rfl _).trans ((A_eq m (ok (tbl m)) c 3).trans (V_main_arg3 m c))),
      ((h c).1 4).trans (((dats m (ok (tbl m)) 0 c).arrAt_in 4 rfl _).trans ((A_eq m (ok (tbl m)) c 4).trans (V_main_arg4 m c))),
      ((h c).2 main_arg5 (by decide : main_arg5 ∈ Pipeline.restRefs sig spec0)).trans (V_main_arg5 m c)⟩)
    (run_main m ρ (ok (tbl m)))

end Cert.UxKernelIdeal.Whole

namespace Cert.UxKernel.Whole

open Idealize.ShloMosaic Idealize.ShloMosaic.TcCoe Idealize.SL.Sem
open Cert.UxKernel Cert.UxKernel.Gen

section Admissible
variable {F : FTy → Type} [FloatOps F]

/-- The core's number, as the kernel reads it from its table. -/
def core (pf : pre0.Contents (Elt F)) : BitVec 32 := pf.at 0 (Rect.unit (s := S1) ![0] S1.size inb_S1_S1_0) numel1_S1

/-- A choice on the equality of two words. -/
theorem pick {α : Type} (a k : BitVec 32) (x y : α) : Scalar.select (Scalar.cmpi .eq a k) x y = if a = k then x else y := by
  by_cases h : a = k
  · subst h; simp [Scalar.cmpi, Scalar.select, IntOp.cmpi]
  · rw [if_neg h]; simp [Scalar.cmpi, Scalar.select, IntOp.cmpi, beq_eq_false_iff_ne.mpr h]

/-- Which block of this core's own half of the gradient a grid point takes. -/
theorem index3 (pf : pre0.Contents (Elt F)) (i : grid0.Coords) : cc0_transform_3 inb_S1_S1_0 numel1_S1 pf i
    = ![(BitVec.ofNat 32 (i 0).val).toNat, if BitVec.ofNat 32 (i 1).val = core pf then (BitVec.ofNat 32 (i 2).val).toNat else 0, 0] := by
  show ![(BitVec.ofNat 32 (i 0).val).toNat, (Scalar.select (Scalar.cmpi .eq (BitVec.ofNat 32 (i 1).val) (core pf)) (BitVec.ofNat 32 (i 2).val) 0#32).toNat, 0] = _
  rw [pick]; split <;> rfl

/-- Which block of the other core's half of the gradient a grid point takes. -/
theorem index4 (pf : pre0.Contents (Elt F)) (i : grid0.Coords) : cc0_transform_4 inb_S1_S1_0 numel1_S1 pf i
    = ![(BitVec.ofNat 32 (i 0).val).toNat, if BitVec.ofNat 32 (i 1).val = core pf then 0 else (BitVec.ofNat 32 (i 2).val).toNat, 0] := by
  show ![(BitVec.ofNat 32 (i 0).val).toNat, (Scalar.select (Scalar.cmpi .eq (BitVec.ofNat 32 (i 1).val) (core pf)) 0#32 (BitVec.ofNat 32 (i 2).val)).toNat, 0] = _
  rw [pick]; split <;> rfl

/-- Both blocks lie inside the halves whatever the core's number is. -/
theorem ok (pf : pre0.Contents (Elt F)) : ok0 pf := by
  have taken : ∀ (i : grid0.Coords) a, (![(BitVec.ofNat 32 (i 0).val).toNat, (BitVec.ofNat 32 (i 2).val).toNat, 0] a + 1) * S1x176x1024.size a ≤ S4x352x1024.size a := by
    decide +kernel
  have first : ∀ (i : grid0.Coords) a, (![(BitVec.ofNat 32 (i 0).val).toNat, 0, 0] a + 1) * S1x176x1024.size a ≤ S4x352x1024.size a := by
    decide +kernel
  refine ⟨fun i => ⟨fun a => ?_, .inl rfl⟩, fun i => ⟨fun a => ?_, .inl rfl⟩⟩
  · rw [index3]; split
    · exact taken i a
    · exact first i a
  · rw [index4]; split
    · exact first i a
    · exact taken i a

end Admissible

end Cert.UxKernel.Whole

end
-- ==== Proof.SwFinite.lean ====
/- The precondition of the gate's gradient: where it holds, the gradient of the gated product times the other factor is a real number. -/
module

public import proofs.«01_k».proof.Pre_sw_finite
public import proofs.«01_k».proof.Proof.SwValue
public import Idealize.ShloMosaic.Lib.Pointwise

@[expose] public section

set_option maxRecDepth 16384

noncomputable section

namespace Cert.SwKernelIdeal.Whole

open Idealize.ShloMosaic Idealize.ShloMosaic.TcCoe Idealize.SL.Sem

/-- The shape relations the precondition states. -/
theorem sw_finite_facts : Cert.Pre_sw_finite.Facts where
  bitsLt_bf16_f32 := by decide
  bcast_S_S2048x2816 := by decide
  reducesTo_S2048x1024_S2048_d1 := by decide
  h_S_ := by decide
  bcast_S2048_S2048x1_0 := by decide
  bcast_S_S2048x1 := by decide
  bcast_S2048x1_S2048x2816_0_1 := by decide
  reducesTo_S2816x1024_S2816_d1 := by decide
  bcast_S2816_S1x2816_1 := by decide
  bcast_S_S1x2816 := by decide
  bcast_S1x2816_S2048x2816_0_1 := by decide

theorem reduces_rows : (⟨2, ![2048, 1024]⟩ : Shape).Reduces [1] ⟨1, ![2048]⟩ := by decide

theorem reduces_columns : (⟨2, ![2816, 1024]⟩ : Shape).Reduces [1] ⟨1, ![2816]⟩ := by decide

/-- The comparison with infinity, read. -/
theorem lt_top_of_bit {x : EReal} (h : Ideal.cmp .olt x (Ideal.ofBits .f32 0x7F800000#32) = 1#1) : x < ⊤ := by
  have e : Ideal.ofBits .f32 0x7F800000#32 = ⊤ := by simp [Ideal.ofBits, Ideal.ieee]
  rw [e] at h
  by_contra hc
  simp [Ideal.cmp, hc] at h

/-- A number whose absolute value is below infinity is real. -/
theorem real_of_abs {x : EReal} (h : max x (-x) < ⊤) : ∃ v : ℝ, x = (v : EReal) := by
  refine ⟨x.toReal, (EReal.coe_toReal ?_ ?_).symm⟩
  · rintro rfl; simp at h
  · rintro rfl; simp at h

/-- Where the largest absolute value of a row is below infinity, every entry of the row is real. -/
theorem row_real {n : ℕ} (x : FVec Ideal ⟨2, ![n, 1024]⟩ .f32) (v : FVec Ideal ⟨0, ![]⟩ .f32)
    (h' : (⟨2, ![n, 1024]⟩ : Shape).ReducesTo [1] ⟨1, ![n]⟩) (h : (⟨2, ![n, 1024]⟩ : Shape).Reduces [1] ⟨1, ![n]⟩) (hu : 0 < (⟨0, ![]⟩ : Shape).numel)
    (j : (⟨1, ![n]⟩ : Shape).Idx) (r : Fin n) (hr : j 0 = r) (hlt : Host.reduce (α := Ideal .f32) FloatOps.maximumf (Host.absf x) v h' hu j < (⊤ : EReal)) (k : Fin 1024) :
    ∃ w : ℝ, (x (ix2 r k) : EReal) = (w : EReal) := by
  rw [Host.reduce_eq_fold_single FloatOps.maximumf _ _ h' h hu] at hlt
  have i : ∀ k : Fin 1024, h.lift j k = ix2 r k := fun k => by
    funext a
    match a with
    | ⟨0, _⟩ => exact hr
    | ⟨1, _⟩ => rfl
  have f : (Host.absf x ∘ h.lift j : Fin 1024 → EReal) = fun k => max (x (ix2 r k) : EReal) (-(x (ix2 r k) : EReal)) := funext fun k => by
    show max (x (h.lift j k) : EReal) (-(x (h.lift j k) : EReal)) = _
    rw [i k]
  have hlt' : (Finset.univ : Finset (Fin 1024)).fold (max : EReal → EReal → EReal) (v (Shape.Idx.first hu)) (fun k => max (x (ix2 r k) : EReal) (-(x (ix2 r k) : EReal))) < ⊤ := by
    rw [← f]; exact hlt
  exact real_of_abs (((Finset.fold_max_lt _).1 hlt').2 k (Finset.mem_univ _))

/-- The comparison of the rows' numbers with infinity, spread over the columns, read at one place. -/
theorem rows_lt (X : (⟨1, ![2048]⟩ : Shape).Idx → EReal) (r : Fin 2048) (f : Fin 2816)
    (e : broadcastInDim ⟨2, ![2048, 2816]⟩ ![0, 1] sw_finite_facts.bcast_S2048x1_S2048x2816_0_1
      (cmpf (F := Ideal) (φ := .f32) .olt (broadcastInDim ⟨2, ![2048, 1]⟩ ![0] sw_finite_facts.bcast_S2048_S2048x1_0 X)
        (broadcastInDim ⟨2, ![2048, 1]⟩ ![] sw_finite_facts.bcast_S_S2048x1 (constant ⟨0, ![]⟩ .f32 0x7F800000#32))) (ix2 r f) = 1#1) :
    X (ix1 r) < ⊤ := by
  have q := lt_top_of_bit e
  refine lt_of_eq_of_lt (congrArg X ?_) q
  funext a
  match a with
  | ⟨0, _⟩ => exact Fin.ext (by simp [ix1])

/-- The same for the comparison spread over the rows. -/
theorem columns_lt (X : (⟨1, ![2816]⟩ : Shape).Idx → EReal) (r : Fin 2048) (f : Fin 2816)
    (e : broadcastInDim ⟨2, ![2048, 2816]⟩ ![0, 1] sw_finite_facts.bcast_S1x2816_S2048x2816_0_1
      (cmpf (F := Ideal) (φ := .f32) .olt (broadcastInDim ⟨2, ![1, 2816]⟩ ![1] sw_finite_facts.bcast_S2816_S1x2816_1 X)
        (broadcastInDim ⟨2, ![1, 2816]⟩ ![] sw_finite_facts.bcast_S_S1x2816 (constant ⟨0, ![]⟩ .f32 0x7F800000#32))) (ix2 r f) = 1#1) :
    X (ix1 f) < ⊤ := by
  have q := lt_top_of_bit e
  refine lt_of_eq_of_lt (congrArg X ?_) q
  funext a
  match a with
  | ⟨0, _⟩ => exact Fin.ext (by simp [ix1])

theorem bits_and {a b : BitVec 1} (h : a &&& b = 1#1) : a = 1#1 ∧ b = 1#1 := by
  revert a b; decide

/-- A finite sum of real numbers is real. -/
theorem sum_real {n : ℕ} (f : Fin n → EReal) (hf : ∀ k, ∃ w : ℝ, f k = (w : EReal)) : ∃ w : ℝ, ∑ k, f k = (w : EReal) := by
  choose w hw using hf
  refine ⟨∑ k, w k, ?_⟩
  rw [Finset.sum_congr rfl fun k _ => hw k]
  induction (Finset.univ : Finset (Fin n)) using Finset.induction_on with
  | empty => rfl
  | insert a s ha ih => rw [Finset.sum_insert ha, Finset.sum_insert ha, ih, EReal.coe_add]

/-- Where the precondition holds, the product of the two factors is real everywhere. -/
theorem good_of_finite (x0 x1 : (⟨2, ![2048, 2816]⟩ : Shape).Idx → EReal) (x2 : (⟨2, ![2816, 1024]⟩ : Shape).Idx → EReal) (x3 : (⟨2, ![2048, 1024]⟩ : Shape).Idx → EReal)
    (h : @Cert.Pre_sw_finite.fn sw_finite_facts Ideal _ x0 x1 x2 x3 = fun _ => 1#1) : Good x1 x2 x3 := by
  intro r f
  have e := congrFun h (ix2 r f)
  obtain ⟨e, e3⟩ := bits_and e
  obtain ⟨e1, e2⟩ := bits_and e
  obtain ⟨a, ha⟩ := real_of_abs (x := x1 (ix2 r f)) (lt_top_of_bit e1)
  have h3 := row_real x3 _ sw_finite_facts.reducesTo_S2048x1024_S2048_d1 reduces_rows sw_finite_facts.h_S_ (ix1 r) r rfl (rows_lt _ r f e2)
  have h2 := row_real x2 _ sw_finite_facts.reducesTo_S2816x1024_S2816_d1 reduces_columns sw_finite_facts.h_S_ (ix1 f) f rfl (columns_lt _ r f e3)
  obtain ⟨b, hb⟩ := sum_real (fun k : Fin 1024 => x3 (ix2 r k) * x2 (ix2 f k)) fun k => by
    obtain ⟨u, hu⟩ := h3 k
    obtain ⟨v, hv⟩ := h2 k
    exact ⟨u * v, by rw [hu, hv, EReal.coe_mul]⟩
  exact ⟨b * a, by rw [da, hb, ha, EReal.coe_mul]⟩

end Cert.SwKernelIdeal.Whole

end
-- ==== Proof.Body.lean ====
/- One trip of the kernel's loop over the key blocks, written once for both heads and for the masked and the
unmasked loop, and that the trips the program runs are this one. -/
module

public import proofs.«01_k».proof.Proof.Gen.KernelIdeal.Loops

@[expose] public section

set_option maxRecDepth 16384

noncomputable section

namespace Cert.KernelIdeal

open Idealize.ShloMosaic Idealize.ShloMosaic.TcCoe Idealize.SL.Sem
open Cert.KernelIdeal.Facts₀ Cert.KernelIdeal.Facts

variable {F : FTy → Type} [FloatOps F]

/-- The products of the rows of `a` with the rows of `b`. -/
def scores (a b : FVec F S512x128 .bf16) : FVec F S512x512 .f32 :=
  matmul dot_S512x128_S512x128_S512x512_1_1_0_0_n_n none a b (constant S512x512 .f32 0x00000000#32)

/-- The logarithm of the sigmoid. -/
def logSig (z : FVec F S512x512 .f32) : FVec F S512x512 .f32 :=
  subf (minimumf z (broadcast S512x512 (Scalar.ofBits .f32 0x00000000#32)))
    (log (addf (broadcast S512x512 (Scalar.ofBits .f32 0x3F800000#32))
      (exp (subf (broadcast S512x512 (Scalar.ofBits .f32 0x00000000#32)) (absf z)))))

/-- The logarithm of one minus the sigmoid. -/
def logOneSub (z : FVec F S512x512 .f32) : FVec F S512x512 .f32 := subf (logSig z) z

/-- The sigmoid. -/
def sig1 (z : FVec F S512x512 .f32) : FVec F S512x512 .f32 := exp (logSig z)

/-- The leading bits of an array. -/
def hi (x : FVec F S512x128 .f32) : FVec F S512x128 .bf16 := truncf .bf16 x bitsLt_bf16_f32

/-- What the leading bits leave. -/
def lo (x : FVec F S512x128 .f32) : FVec F S512x128 .bf16 :=
  truncf .bf16 (subf x (extf .f32 (hi x) bitsLt_bf16_f32)) bitsLt_bf16_f32

/-- The four column chunks of an array. -/
def ch0 (x : FVec F S512x512 .f32) : FVec F S512x128 .f32 :=
  extractStridedSlice S512x128 ![0, 0] x slices_S512x512_o0_0_S512x128
@[inherit_doc ch0] def ch1 (x : FVec F S512x512 .f32) : FVec F S512x128 .f32 :=
  extractStridedSlice S512x128 ![0, 128] x slices_S512x512_o0_128_S512x128
@[inherit_doc ch0] def ch2 (x : FVec F S512x512 .f32) : FVec F S512x128 .f32 :=
  extractStridedSlice S512x128 ![0, 256] x slices_S512x512_o0_256_S512x128
@[inherit_doc ch0] def ch3 (x : FVec F S512x512 .f32) : FVec F S512x128 .f32 :=
  extractStridedSlice S512x128 ![0, 384] x slices_S512x512_o0_384_S512x128

/-- The leading bits and the rest of the four chunks, one under the other, times a triangle. -/
def chunkDots (x : FVec F S512x512 .f32) (tri : FVec F S128x128 .bf16) : FVec F S4096x128 .f32 :=
  matmul dot_S4096x128_S128x128_S4096x128_1_0_0_1_n_n none
    (concatenate S4096x128 0 [⟨S512x128, hi (ch0 x)⟩, ⟨S512x128, lo (ch0 x)⟩, ⟨S512x128, hi (ch1 x)⟩, ⟨S512x128, lo (ch1 x)⟩,
      ⟨S512x128, hi (ch2 x)⟩, ⟨S512x128, lo (ch2 x)⟩, ⟨S512x128, hi (ch3 x)⟩, ⟨S512x128, lo (ch3 x)⟩]
      concatenates_S512x128_S512x128_S512x128_S512x128_S512x128_S512x128_S512x128_S512x128_S4096x128_d0)
    tri (constant S4096x128 .f32 0x00000000#32)

/-- The sums along the rows of each chunk: the two parts of the product added. -/
def loc0 (r : FVec F S4096x128 .f32) : FVec F S512x128 .f32 :=
  addf (extractStridedSlice S512x128 ![0, 0] r slices_S4096x128_o0_0_S512x128)
    (extractStridedSlice S512x128 ![512, 0] r slices_S4096x128_o512_0_S512x128)
@[inherit_doc loc0] def loc1 (r : FVec F S4096x128 .f32) : FVec F S512x128 .f32 :=
  addf (extractStridedSlice S512x128 ![1024, 0] r slices_S4096x128_o1024_0_S512x128)
    (extractStridedSlice S512x128 ![1536, 0] r slices_S4096x128_o1536_0_S512x128)
@[inherit_doc loc0] def loc2 (r : FVec F S4096x128 .f32) : FVec F S512x128 .f32 :=
  addf (extractStridedSlice S512x128 ![2048, 0] r slices_S4096x128_o2048_0_S512x128)
    (extractStridedSlice S512x128 ![2560, 0] r slices_S4096x128_o2560_0_S512x128)
@[inherit_doc loc0] def loc3 (r : FVec F S4096x128 .f32) : FVec F S512x128 .f32 :=
  addf (extractStridedSlice S512x128 ![3072, 0] r slices_S4096x128_o3072_0_S512x128)
    (extractStridedSlice S512x128 ![3584, 0] r slices_S4096x128_o3584_0_S512x128)

/-- A column plus the sums of the rows of a chunk. -/
def addSum (c : FVec F S512x1 .f32) (x : FVec F S512x128 .f32) : FVec F S512x1 .f32 :=
  addf c (shapeCast S512x1 (multiReduction .add [1] S512 x 0x00000000#32 reduces_S512x128_S512 (.inl rfl) rfl) shapeCasts_S512_S512x1)

/-- The carried column after each chunk. -/
def car1 (x : FVec F S512x512 .f32) (c : FVec F S512x1 .f32) : FVec F S512x1 .f32 := addSum c (ch0 x)
@[inherit_doc car1] def car2 (x : FVec F S512x512 .f32) (c : FVec F S512x1 .f32) : FVec F S512x1 .f32 := addSum (car1 x c) (ch1 x)
@[inherit_doc car1] def car3 (x : FVec F S512x512 .f32) (c : FVec F S512x1 .f32) : FVec F S512x1 .f32 := addSum (car2 x c) (ch2 x)
@[inherit_doc car1] def car4 (x : FVec F S512x512 .f32) (c : FVec F S512x1 .f32) : FVec F S512x1 .f32 := addSum (car3 x c) (ch3 x)

/-- A column added to every column of a chunk. -/
def addCol (x : FVec F S512x128 .f32) (c : FVec F S512x1 .f32) : FVec F S512x128 .f32 :=
  addf x (broadcastTo S512x128 c broadcasts_S512x1_S512x128)

/-- The sums along the rows of the whole block, continuing a carried column. -/
def prefixes (x : FVec F S512x512 .f32) (tri : FVec F S128x128 .bf16) (c : FVec F S512x1 .f32) : FVec F S512x512 .f32 :=
  concatenate S512x512 1 [⟨S512x128, addCol (loc0 (chunkDots x tri)) c⟩, ⟨S512x128, addCol (loc1 (chunkDots x tri)) (car1 x c)⟩,
    ⟨S512x128, addCol (loc2 (chunkDots x tri)) (car2 x c)⟩, ⟨S512x128, addCol (loc3 (chunkDots x tri)) (car3 x c)⟩]
    concatenates_S512x128_S512x128_S512x128_S512x128_S512x512_d1

/-- Zero where the mask is not set. -/
def masked (m : IVec S512x512 1) (x : FVec F S512x512 .f32) : FVec F S512x512 .f32 :=
  select m x (broadcast S512x512 (Scalar.ofBits .f32 0x00000000#32))

section Head
variable (mk : FVec F S512x512 .f32 → FVec F S512x512 .f32)

/-- What the weights' prefix sums run over. -/
def lmA (z : FVec F S512x512 .f32) : FVec F S512x512 .f32 := mk (logOneSub z)

/-- The attention's weights, from the scores, the rows' totals and the carried sums. -/
def awA (z sta : FVec F S512x512 .f32) (ti : FVec F S128x128 .bf16) (cm : FVec F S512x1 .f32) : FVec F S512x512 .f32 :=
  mk (exp (subf (addf (logSig z) sta) (prefixes (lmA mk z) ti cm)))

/-- The weights times their cotangents. -/
def gA (z sta dp : FVec F S512x512 .f32) (ti : FVec F S128x128 .bf16) (cm : FVec F S512x1 .f32) : FVec F S512x512 .f32 :=
  mulf (awA mk z sta ti cm) dp

/-- The scores' cotangents. -/
def dzA (z sta dp : FVec F S512x512 .f32) (ti te : FVec F S128x128 .bf16) (cm cg : FVec F S512x1 .f32) : FVec F S512x512 .f32 :=
  mk (subf (mulf (gA mk z sta dp ti cm) (subf (broadcast S512x512 (Scalar.ofBits .f32 0x3F800000#32)) (sig1 z)))
    (mulf (prefixes (gA mk z sta dp ti cm) te cg) (sig1 z)))

end Head

/-- The transposed product with a block of rows. -/
def dotT (x : FVec F S512x512 .f32) (a : FVec F S512x128 .bf16) : FVec F S512x128 .f32 :=
  matmul dot_S512x512_S512x128_S512x128_0_0_1_1_n_n none (truncf .bf16 x bitsLt_bf16_f32) a (constant S512x128 .f32 0x00000000#32)

/-- The product with a block of rows. -/
def dotN (x : FVec F S512x512 .f32) (a : FVec F S512x128 .bf16) : FVec F S512x128 .f32 :=
  matmul dot_S512x512_S512x128_S512x128_1_0_0_1_n_n none (truncf .bf16 x bitsLt_bf16_f32) a (constant S512x128 .f32 0x00000000#32)

/-- The carried values: for each head its part of the gradient of `q`, and the two carried columns. -/
abbrev Carry (F : FTy → Type) : Type :=
  FVec F S512x128 .f32 × FVec F S512x1 .f32 × FVec F S512x1 .f32 × FVec F S512x128 .f32 × FVec F S512x1 .f32 × FVec F S512x1 .f32

section Trip
variable (mk : FVec F S512x512 .f32 → FVec F S512x512 .f32) (qa0 qa1 doa0 doa1 : FVec F S512x128 .bf16)
  (sta0 sta1 : FVec F S512x512 .f32) (ti te : FVec F S128x128 .bf16) (kb vb : FVec F S512x128 .bf16) (acc : Carry F)

/-- The scores' cotangents of the two heads in one trip. -/
def dz0 : FVec F S512x512 .f32 := dzA mk (scores qa0 kb) sta0 (scores doa0 vb) ti te acc.2.1 acc.2.2.1
@[inherit_doc dz0] def dz1 : FVec F S512x512 .f32 := dzA mk (scores qa1 kb) sta1 (scores doa1 vb) ti te acc.2.2.2.2.1 acc.2.2.2.2.2

/-- The carried values after one trip. -/
def next : Carry F :=
  (addf acc.1 (dotN (dz0 mk qa0 doa0 sta0 ti te kb vb acc) kb),
    car4 (lmA mk (scores qa0 kb)) acc.2.1,
    car4 (gA mk (scores qa0 kb) sta0 (scores doa0 vb) ti acc.2.1) acc.2.2.1,
    addf acc.2.2.2.1 (dotN (dz1 mk qa1 doa1 sta1 ti te kb vb acc) kb),
    car4 (lmA mk (scores qa1 kb)) acc.2.2.2.2.1,
    car4 (gA mk (scores qa1 kb) sta1 (scores doa1 vb) ti acc.2.2.2.2.1) acc.2.2.2.2.2)

/-- What one trip adds to the gradient of `k`. -/
def dkAdd : FVec F S512x128 .f32 :=
  addf (addf (broadcast S512x128 (Scalar.ofBits .f32 0x00000000#32)) (dotT (dz0 mk qa0 doa0 sta0 ti te kb vb acc) qa0))
    (dotT (dz1 mk qa1 doa1 sta1 ti te kb vb acc) qa1)

/-- What one trip adds to the gradient of `v`. -/
def dvAdd : FVec F S512x128 .f32 :=
  addf (addf (broadcast S512x128 (Scalar.ofBits .f32 0x00000000#32)) (dotT (awA mk (scores qa0 kb) sta0 ti acc.2.1) doa0))
    (dotT (awA mk (scores qa1 kb) sta1 ti acc.2.2.2.2.1) doa1)

end Trip

/-- The triangles of the prefix sums, the diagonal counted and not counted. -/
def triI (r c : IVec S128x128 32) : FVec F S128x128 .bf16 := Gen.k0_pay3 r c
@[inherit_doc triI] def triE (r c : IVec S128x128 32) : FVec F S128x128 .bf16 := Gen.k0_pay4 r c

end Cert.KernelIdeal

end
-- ==== Proof.Trips.lean ====
/- The trips the program runs are the trip of `Body`: without a mask in the first loop, with one in the third. -/
module

public import proofs.«01_k».proof.Proof.Body
public import Idealize.ShloMosaic.Lib.Pointwise

@[expose] public section

set_option maxRecDepth 16384

noncomputable section

namespace Cert.KernelIdeal

open Idealize.ShloMosaic Idealize.ShloMosaic.TcCoe Idealize.SL.Sem
open Cert.KernelIdeal.Gen

variable {F : FTy → Type} [FloatOps F]

theorem pay5_eq (v : FVec F S512x128 .f32) : k0_pay5 v = v := shapeCast_id v _

theorem pay6_eq (v w : FVec F S512x128 .f32) : k0_pay6 v w = addf w v := shapeCast_id (addf w v) _

theorem pay11_eq (a : FVec F S512x128 .bf16) (x w : FVec F S512x128 .f32) (y : FVec F S512x512 .f32) :
    k0_pay11 a x y w = addf w (addf x (dotT y a)) := shapeCast_id (addf w (addf x (dotT y a))) _

theorem pay12_eq (a : FVec F S512x128 .bf16) (x w : FVec F S512x128 .f32) (y : FVec F S512x512 .f32) :
    k0_pay12 a x y w = addf w (addf x (dotT y a)) := shapeCast_id (addf w (addf x (dotT y a))) _

/-- The rows of the key block of a trip. -/
abbrev rect1 (i : grid0.Coords) (k : Fin (k0_t1_loop i).trips) : Rect S2048x128 :=
  Rect.unit (k0_off1 i k) ![512, 128] (k0_off1_inb i k)

/-- The carried values after a trip of loop 1. -/
theorem tripR1 (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v43 : IVec S512x512 32) (v44 : IVec S128x128 32) (v45 : IVec S128x128 32) (v49 : IVec S512x512 32) (v61 : FVec F S512x128 .bf16) (v64 : FVec F S512x128 .bf16) (v67 : FVec F S512x128 .bf16) (v70 : FVec F S512x128 .bf16) (v73 : FVec F S512x512 .f32) (v76 : FVec F S512x512 .f32) (X_arg3 : BufTy.Contents (Elt F) arg3.view.ty) (X_arg4 : BufTy.Contents (Elt F) arg4.view.ty) (k : Fin (k0_t1_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) :
    tripR_k0_t1 𝒱 c bd i arg2 harg2 arg3 harg3 arg4 harg4 arg5 harg5 arg6 harg6 arg7 harg7 arg8 harg8 arg9 harg9 arg10 harg10 arg11 harg11 v43 v44 v45 v49 v61 v64 v67 v70 v73 v76 X_arg3 X_arg4 k acc f_arg10 f_arg11 =
    next (fun x => x) v61 v64 v67 v70 v73 v76 (triI v44 v45) (triE v44 v45)
      (View.readAt (Elt F) arg3.view (rect1 i k).toLoadRect X_arg3)
      (View.readAt (Elt F) arg4.view (rect1 i k).toLoadRect X_arg4) acc := by
  unfold tripR_k0_t1 trip_k0_t1
  dsimp only
  rfl

/-- What a trip of loop 1 stores. -/
theorem tripL1 (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v43 : IVec S512x512 32) (v44 : IVec S128x128 32) (v45 : IVec S128x128 32) (v49 : IVec S512x512 32) (v61 : FVec F S512x128 .bf16) (v64 : FVec F S512x128 .bf16) (v67 : FVec F S512x128 .bf16) (v70 : FVec F S512x128 .bf16) (v73 : FVec F S512x512 .f32) (v76 : FVec F S512x512 .f32) (X_arg3 : BufTy.Contents (Elt F) arg3.view.ty) (X_arg4 : BufTy.Contents (Elt F) arg4.view.ty) (k : Fin (k0_t1_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) :
    tripL_k0_t1 𝒱 c bd i arg2 harg2 arg3 harg3 arg4 harg4 arg5 harg5 arg6 harg6 arg7 harg7 arg8 harg8 arg9 harg9 arg10 harg10 arg11 harg11 v43 v44 v45 v49 v61 v64 v67 v70 v73 v76 X_arg3 X_arg4 k acc f_arg10 f_arg11 =
    ([⟨(rect1 i k), addf ((View.readAt (Elt F) arg10.view (rect1 i k).toLoadRect f_arg10) : FVec F S512x128 .f32) (dkAdd (fun x => x) v61 v64 v67 v70 v73 v76 (triI v44 v45) (triE v44 v45)
      (View.readAt (Elt F) arg3.view (rect1 i k).toLoadRect X_arg3)
      (View.readAt (Elt F) arg4.view (rect1 i k).toLoadRect X_arg4) acc)⟩],
    [⟨(rect1 i k), addf ((View.readAt (Elt F) arg11.view (rect1 i k).toLoadRect f_arg11) : FVec F S512x128 .f32) (dvAdd (fun x => x) v61 v64 v67 v70 v73 v76 (triI v44 v45)
      (View.readAt (Elt F) arg3.view (rect1 i k).toLoadRect X_arg3) acc)⟩]) := by
  unfold tripL_k0_t1 trip_k0_t1
  dsimp only
  rw [pay5_eq, pay6_eq]; rfl

/-- The rows of the key block of a trip. -/
abbrev rect3 (i : grid0.Coords) (k : Fin (k0_t3_loop i).trips) : Rect S2048x128 :=
  Rect.unit (k0_off3 i k) ![512, 128] (k0_off3_inb i k)

/-- The carried values after a trip of loop 3. -/
theorem tripR3 (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v41 : BitVec 32) (v43 : IVec S512x512 32) (v44 : IVec S128x128 32) (v45 : IVec S128x128 32) (v49 : IVec S512x512 32) (v61 : FVec F S512x128 .bf16) (v64 : FVec F S512x128 .bf16) (v67 : FVec F S512x128 .bf16) (v70 : FVec F S512x128 .bf16) (v73 : FVec F S512x512 .f32) (v76 : FVec F S512x512 .f32) (X_arg3 : BufTy.Contents (Elt F) arg3.view.ty) (X_arg4 : BufTy.Contents (Elt F) arg4.view.ty) (k : Fin (k0_t3_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) :
    tripR_k0_t3 𝒱 c bd i arg2 harg2 arg3 harg3 arg4 harg4 arg5 harg5 arg6 harg6 arg7 harg7 arg8 harg8 arg9 harg9 arg10 harg10 arg11 harg11 v41 v43 v44 v45 v49 v61 v64 v67 v70 v73 v76 X_arg3 X_arg4 k acc f_arg10 f_arg11 =
    next (masked (k0_pay142 i v41 v43 v49 1#32 k)) v61 v64 v67 v70 v73 v76 (triI v44 v45) (triE v44 v45)
      (View.readAt (Elt F) arg3.view (rect3 i k).toLoadRect X_arg3)
      (View.readAt (Elt F) arg4.view (rect3 i k).toLoadRect X_arg4) acc := by
  unfold tripR_k0_t3 trip_k0_t3
  dsimp only
  rfl

/-- What a trip of loop 3 stores. -/
theorem tripL3 (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v41 : BitVec 32) (v43 : IVec S512x512 32) (v44 : IVec S128x128 32) (v45 : IVec S128x128 32) (v49 : IVec S512x512 32) (v61 : FVec F S512x128 .bf16) (v64 : FVec F S512x128 .bf16) (v67 : FVec F S512x128 .bf16) (v70 : FVec F S512x128 .bf16) (v73 : FVec F S512x512 .f32) (v76 : FVec F S512x512 .f32) (X_arg3 : BufTy.Contents (Elt F) arg3.view.ty) (X_arg4 : BufTy.Contents (Elt F) arg4.view.ty) (k : Fin (k0_t3_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) :
    tripL_k0_t3 𝒱 c bd i arg2 harg2 arg3 harg3 arg4 harg4 arg5 harg5 arg6 harg6 arg7 harg7 arg8 harg8 arg9 harg9 arg10 harg10 arg11 harg11 v41 v43 v44 v45 v49 v61 v64 v67 v70 v73 v76 X_arg3 X_arg4 k acc f_arg10 f_arg11 =
    ([⟨(rect3 i k), addf ((View.readAt (Elt F) arg10.view (rect3 i k).toLoadRect f_arg10) : FVec F S512x128 .f32) (dkAdd (masked (k0_pay142 i v41 v43 v49 1#32 k)) v61 v64 v67 v70 v73 v76 (triI v44 v45) (triE v44 v45)
      (View.readAt (Elt F) arg3.view (rect3 i k).toLoadRect X_arg3)
      (View.readAt (Elt F) arg4.view (rect3 i k).toLoadRect X_arg4) acc)⟩],
    [⟨(rect3 i k), addf ((View.readAt (Elt F) arg11.view (rect3 i k).toLoadRect f_arg11) : FVec F S512x128 .f32) (dvAdd (masked (k0_pay142 i v41 v43 v49 1#32 k)) v61 v64 v67 v70 v73 v76 (triI v44 v45)
      (View.readAt (Elt F) arg3.view (rect3 i k).toLoadRect X_arg3) acc)⟩]) := by
  unfold tripL_k0_t3 trip_k0_t3
  dsimp only
  rw [pay11_eq, pay12_eq]; rfl

end Cert.KernelIdeal

end
-- ==== Proof.Sums.lean ====
/- The stick-breaking attention of one head and its gradient, over the real numbers.

Every quantity is a function of natural-number positions: `z t s` is the scaled score of query `t` against
key `s`, `dp t s` the product of the output's cotangent at `t` with the value at `s`. A quantity at `(t, s)`
matters only where `s < t`; there it is what the formulas below say, elsewhere it is zero. -/
module

public import Idealize.ShloMosaic.Lib.Pointwise

@[expose] public section

noncomputable section

namespace Cert.Sb

/-! ### One score -/

/-- The logarithm of the sigmoid. -/
def ls (x : ℝ) : ℝ := min x 0 - Real.log (1 + Real.exp (-|x|))

/-- The logarithm of one minus the sigmoid. -/
def lm (x : ℝ) : ℝ := ls x - x

/-- The sigmoid, as the exponential of its logarithm. -/
def beta (x : ℝ) : ℝ := Real.exp (ls x)

theorem ls_neg (x : ℝ) : ls (-x) = lm x := by
  have h : min (-x) 0 = min x 0 - x := by
    rcases le_total x 0 with h | h
    · rw [min_eq_right (by linarith), min_eq_left h]; ring
    · rw [min_eq_left (by linarith), min_eq_right h]; ring
  simp only [ls, lm, abs_neg, h]; ring

/-- The sigmoid of the opposite score is one minus the sigmoid. -/
theorem exp_lm (x : ℝ) : Real.exp (lm x) = 1 - beta x := by
  have hp : 0 < 1 + Real.exp (-|x|) := by positivity
  have e1 : beta x = Real.exp (min x 0) / (1 + Real.exp (-|x|)) := by
    rw [beta, ls, Real.exp_sub, Real.exp_log hp]
  have e2 : Real.exp (lm x) = Real.exp (min x 0 - x) / (1 + Real.exp (-|x|)) := by
    rw [lm, ls, show min x 0 - Real.log (1 + Real.exp (-|x|)) - x = (min x 0 - x) - Real.log (1 + Real.exp (-|x|)) by ring,
      Real.exp_sub, Real.exp_log hp]
  rw [e1, e2, eq_sub_iff_add_eq, ← add_div, div_eq_one_iff_eq hp.ne']
  rcases le_total x 0 with h | h
  · rw [min_eq_left h, abs_of_nonpos h, sub_self, Real.exp_zero, neg_neg]
  · rw [min_eq_right h, abs_of_nonneg h, Real.exp_zero, zero_sub]; ring

/-! ### Sums along a row -/

/-- The sum of the first `n` entries of a row. -/
def pre (f : ℕ → ℝ) (n : ℕ) : ℝ := ∑ j ∈ Finset.range n, f j

theorem pre_zero (f : ℕ → ℝ) : pre f 0 = 0 := by simp [pre]

theorem pre_add (f : ℕ → ℝ) (n m : ℕ) : pre f (n + m) = pre f n + pre (fun x => f (n + x)) m := by
  simp only [pre, Finset.sum_range_add]

theorem pre_congr {f g : ℕ → ℝ} {n : ℕ} (h : ∀ x < n, f x = g x) : pre f n = pre g n :=
  Finset.sum_congr rfl fun x hx => h x (Finset.mem_range.mp hx)

theorem pre_fin (f : ℕ → ℝ) (n : ℕ) : pre f n = ∑ j : Fin n, f j := by
  rw [pre, Finset.sum_range]

/-- A sum over `n` positions of the entries below `m` is the sum of the first `m`. -/
theorem sum_lt (f : ℕ → ℝ) {n m : ℕ} (h : m ≤ n) : (∑ j : Fin n, if (j : ℕ) < m then f j else 0) = pre f m := by
  rw [pre, ← Finset.sum_range (fun j => if j < m then f j else 0), ← Finset.sum_filter]
  refine Finset.sum_congr ?_ fun _ _ => rfl
  ext x; simp only [Finset.mem_filter, Finset.mem_range]; omega

/-- Entries that vanish from `m` on add nothing. -/
theorem pre_of_zero (f : ℕ → ℝ) {m n : ℕ} (h : m ≤ n) (h0 : ∀ x, m ≤ x → f x = 0) : pre f n = pre f m := by
  obtain ⟨d, rfl⟩ := Nat.exists_eq_add_of_le h
  rw [pre_add, pre_congr (f := fun x => f (m + x)) (g := fun _ => 0) (fun x _ => h0 _ (by omega))]
  simp [pre]

/-! ### The attention of one head -/

/-- The logarithm of one minus the sigmoid, of the keys strictly before the query. -/
def L (z : ℕ → ℕ → ℝ) (t s : ℕ) : ℝ := if s < t then lm (z t s) else 0

/-- Its sum over a whole row. -/
def ST (z : ℕ → ℕ → ℝ) (t : ℕ) : ℝ := pre (L z t) 2048

/-- The attention's weight: the stick left by the keys between, times the part this key breaks off. -/
def A (z : ℕ → ℕ → ℝ) (t s : ℕ) : ℝ := if s < t then Real.exp (ls (z t s) + ST z t - pre (L z t) (s + 1)) else 0

/-- The weight's cotangent times the weight. -/
def G (z dp : ℕ → ℕ → ℝ) (t s : ℕ) : ℝ := A z t s * dp t s

/-- The score's cotangent. -/
def DZ (z dp : ℕ → ℕ → ℝ) (t s : ℕ) : ℝ :=
  if s < t then G z dp t s * (1 - beta (z t s)) - pre (G z dp t) s * beta (z t s) else 0

/-! ### The eight heads of a row of 512 columns -/

/-- The scaled score of head `h`: columns `64 h … 64 h + 63` of `q` and `k`. -/
def Z (q k : ℕ → ℕ → ℝ) (h t s : ℕ) : ℝ := pre (fun d => q t (64 * h + d) * 0.125 * k s (64 * h + d)) 64

/-- The product of the cotangent with the value. -/
def DP (g v : ℕ → ℕ → ℝ) (h t s : ℕ) : ℝ := pre (fun d => g t (64 * h + d) * v s (64 * h + d)) 64

/-- The gradient of `q` at row `t`, column `c`. -/
def DQ (q k v g : ℕ → ℕ → ℝ) (t c : ℕ) : ℝ :=
  pre (fun s => DZ (Z q k (c / 64)) (DP g v (c / 64)) t s * k s c) 2048 * 0.125

/-- The gradient of `k` at row `s`, column `c`. -/
def DK (q k v g : ℕ → ℕ → ℝ) (s c : ℕ) : ℝ :=
  pre (fun t => DZ (Z q k (c / 64)) (DP g v (c / 64)) t s * (q t c * 0.125)) 2048

/-- The gradient of `v` at row `s`, column `c`. -/
def DV (q k g : ℕ → ℕ → ℝ) (s c : ℕ) : ℝ :=
  pre (fun t => A (Z q k (c / 64)) t s * g t c) 2048

end Cert.Sb

end
-- ==== Proof.Vals.lean ====
/- What the operations of a trip compute, over the extended reals, where every entry is a real number. -/
module

public import proofs.«01_k».proof.Proof.Body
public import proofs.«01_k».proof.Proof.Sums
public import Idealize.ShloMosaic.Lib.Pointwise

@[expose] public section

set_option maxRecDepth 16384

noncomputable section

namespace Cert.KernelIdeal

open Idealize.ShloMosaic Idealize.ShloMosaic.TcCoe Idealize.SL.Sem
open Cert.Sb

/-! ### Operations at an index -/

theorem scores_apply (a b : FVec Ideal S512x128 .bf16) (r c : Fin 512) :
    scores a b (ix2 r c) = ∑ d : Fin 128, a (ix2 r d) * b (ix2 c d) := by
  pointwise [scores]

theorem dotT_apply (x : FVec Ideal S512x512 .f32) (a : FVec Ideal S512x128 .bf16) (r : Fin 512) (c : Fin 128) :
    dotT x a (ix2 r c) = ∑ t : Fin 512, x (ix2 t r) * a (ix2 t c) := by
  pointwise [dotT]

theorem dotN_apply (x : FVec Ideal S512x512 .f32) (a : FVec Ideal S512x128 .bf16) (r : Fin 512) (c : Fin 128) :
    dotN x a (ix2 r c) = ∑ s : Fin 512, x (ix2 r s) * a (ix2 s c) := by
  pointwise [dotN]

theorem ch0_apply (x : FVec Ideal S512x512 .f32) (r : Fin 512) (c : Fin 128) :
    ch0 x (ix2 r c) = x (ix2 r ⟨c, by omega⟩) := by
  pointwise [ch0]

theorem ch1_apply (x : FVec Ideal S512x512 .f32) (r : Fin 512) (c : Fin 128) :
    ch1 x (ix2 r c) = x (ix2 r ⟨128 + c, by omega⟩) := by
  pointwise [ch1]

theorem ch2_apply (x : FVec Ideal S512x512 .f32) (r : Fin 512) (c : Fin 128) :
    ch2 x (ix2 r c) = x (ix2 r ⟨256 + c, by omega⟩) := by
  pointwise [ch2]

theorem ch3_apply (x : FVec Ideal S512x512 .f32) (r : Fin 512) (c : Fin 128) :
    ch3 x (ix2 r c) = x (ix2 r ⟨384 + c, by omega⟩) := by
  pointwise [ch3]

theorem addSum_apply (c : FVec Ideal S512x1 .f32) (x : FVec Ideal S512x128 .f32) (r : Fin 512) (u : Fin 1) :
    addSum c x (ix2 r u) = c (ix2 r u) + ∑ d : Fin 128, x (ix2 r d) := by
  pointwise [addSum]

theorem addCol_apply (x : FVec Ideal S512x128 .f32) (c : FVec Ideal S512x1 .f32) (r : Fin 512) (d : Fin 128) :
    addCol x c (ix2 r d) = x (ix2 r d) + c (ix2 r 0) := by
  pointwise [addCol]

theorem loc0_apply (x : FVec Ideal S4096x128 .f32) (r : Fin 512) (c : Fin 128) :
    loc0 x (ix2 r c) = x (ix2 ⟨r, by omega⟩ c) + x (ix2 ⟨512 + r, by omega⟩ c) := by
  pointwise [loc0]

theorem loc1_apply (x : FVec Ideal S4096x128 .f32) (r : Fin 512) (c : Fin 128) :
    loc1 x (ix2 r c) = x (ix2 ⟨1024 + r, by omega⟩ c) + x (ix2 ⟨1536 + r, by omega⟩ c) := by
  pointwise [loc1]

theorem loc2_apply (x : FVec Ideal S4096x128 .f32) (r : Fin 512) (c : Fin 128) :
    loc2 x (ix2 r c) = x (ix2 ⟨2048 + r, by omega⟩ c) + x (ix2 ⟨2560 + r, by omega⟩ c) := by
  pointwise [loc2]

theorem loc3_apply (x : FVec Ideal S4096x128 .f32) (r : Fin 512) (c : Fin 128) :
    loc3 x (ix2 r c) = x (ix2 ⟨3072 + r, by omega⟩ c) + x (ix2 ⟨3584 + r, by omega⟩ c) := by
  pointwise [loc3]

theorem chunkDots_apply (x : FVec Ideal S512x512 .f32) (tri : FVec Ideal S128x128 .bf16) (r : Fin 4096) (c : Fin 128) :
    chunkDots x tri (ix2 r c) = ∑ d : Fin 128,
      concatenate S4096x128 0 [⟨S512x128, hi (ch0 x)⟩, ⟨S512x128, lo (ch0 x)⟩, ⟨S512x128, hi (ch1 x)⟩, ⟨S512x128, lo (ch1 x)⟩,
      ⟨S512x128, hi (ch2 x)⟩, ⟨S512x128, lo (ch2 x)⟩, ⟨S512x128, hi (ch3 x)⟩, ⟨S512x128, lo (ch3 x)⟩]
      Facts₀.concatenates_S512x128_S512x128_S512x128_S512x128_S512x128_S512x128_S512x128_S512x128_S4096x128_d0 (ix2 r d) * tri (ix2 d c) := by
  pointwise [chunkDots, hi, lo]

section
variable (p0 p1 p2 p3 p4 p5 p6 p7 : FVec Ideal S512x128 .bf16) (r : Fin 512) (d : Fin 128)

/-- Eight blocks of rows, one under the other. -/
abbrev cat8 : FVec Ideal S4096x128 .bf16 :=
  concatenate S4096x128 0 [⟨S512x128, p0⟩, ⟨S512x128, p1⟩, ⟨S512x128, p2⟩, ⟨S512x128, p3⟩,
    ⟨S512x128, p4⟩, ⟨S512x128, p5⟩, ⟨S512x128, p6⟩, ⟨S512x128, p7⟩]
    Facts₀.concatenates_S512x128_S512x128_S512x128_S512x128_S512x128_S512x128_S512x128_S512x128_S4096x128_d0

theorem ix2_of_eq {n : ℕ} (h : n < 512) (e : n = r.val) : ix2 (⟨n, h⟩ : Fin 512) d = ix2 r d := by
  subst e; rfl

theorem cat8_0 : cat8 p0 p1 p2 p3 p4 p5 p6 p7 (ix2 ⟨r, by omega⟩ d) = p0 (ix2 r d) := by
  pointwise

theorem cat8_1 : cat8 p0 p1 p2 p3 p4 p5 p6 p7 (ix2 ⟨512 + r, by omega⟩ d) = p1 (ix2 r d) := by
  pointwise

theorem cat8_2 : cat8 p0 p1 p2 p3 p4 p5 p6 p7 (ix2 ⟨1024 + r, by omega⟩ d) = p2 (ix2 r d) := by
  pointwise
  rw [dif_neg (by omega)]
  rw [dif_neg (by omega)]
  rw [dif_pos (by omega)]
  exact congrArg p2 (ix2_of_eq _ _ _ (by omega))

theorem cat8_3 : cat8 p0 p1 p2 p3 p4 p5 p6 p7 (ix2 ⟨1536 + r, by omega⟩ d) = p3 (ix2 r d) := by
  pointwise
  rw [dif_neg (by omega)]
  rw [dif_neg (by omega)]
  rw [dif_neg (by omega)]
  rw [dif_pos (by omega)]
  exact congrArg p3 (ix2_of_eq _ _ _ (by omega))

theorem cat8_4 : cat8 p0 p1 p2 p3 p4 p5 p6 p7 (ix2 ⟨2048 + r, by omega⟩ d) = p4 (ix2 r d) := by
  pointwise
  rw [dif_neg (by omega)]
  rw [dif_neg (by omega)]
  rw [dif_neg (by omega)]
  rw [dif_neg (by omega)]
  rw [dif_pos (by omega)]
  exact congrArg p4 (ix2_of_eq _ _ _ (by omega))

theorem cat8_5 : cat8 p0 p1 p2 p3 p4 p5 p6 p7 (ix2 ⟨2560 + r, by omega⟩ d) = p5 (ix2 r d) := by
  pointwise
  rw [dif_neg (by omega)]
  rw [dif_neg (by omega)]
  rw [dif_neg (by omega)]
  rw [dif_neg (by omega)]
  rw [dif_neg (by omega)]
  rw [dif_pos (by omega)]
  exact congrArg p5 (ix2_of_eq _ _ _ (by omega))

theorem cat8_6 : cat8 p0 p1 p2 p3 p4 p5 p6 p7 (ix2 ⟨3072 + r, by omega⟩ d) = p6 (ix2 r d) := by
  pointwise
  rw [dif_neg (by omega)]
  rw [dif_neg (by omega)]
  rw [dif_neg (by omega)]
  rw [dif_neg (by omega)]
  rw [dif_neg (by omega)]
  rw [dif_neg (by omega)]
  rw [dif_pos (by omega)]
  exact congrArg p6 (ix2_of_eq _ _ _ (by omega))

theorem cat8_7 : cat8 p0 p1 p2 p3 p4 p5 p6 p7 (ix2 ⟨3584 + r, by omega⟩ d) = p7 (ix2 r d) := by
  pointwise
  rw [dif_neg (by omega)]
  rw [dif_neg (by omega)]
  rw [dif_neg (by omega)]
  rw [dif_neg (by omega)]
  rw [dif_neg (by omega)]
  rw [dif_neg (by omega)]
  rw [dif_neg (by omega)]
  exact congrArg p7 (ix2_of_eq _ _ _ (by omega))

end

theorem hi_apply (x : FVec Ideal S512x128 .f32) (r : Fin 512) (c : Fin 128) : hi x (ix2 r c) = x (ix2 r c) := by
  pointwise [hi]

theorem lo_apply (x : FVec Ideal S512x128 .f32) (r : Fin 512) (c : Fin 128) : lo x (ix2 r c) = x (ix2 r c) - x (ix2 r c) := by
  pointwise [lo, hi]

/-! ### Arrays of real numbers -/

/-- Every entry is the real number `x` says. -/
def IsR {m n : ℕ} (X : (⟨2, ![m, n]⟩ : Shape).Idx → EReal) (x : ℕ → ℕ → ℝ) : Prop :=
  ∀ (r : Fin m) (c : Fin n), X (ix2 r c) = ((x r c : ℝ) : EReal)

theorem IsR.congr {m n : ℕ} {X : (⟨2, ![m, n]⟩ : Shape).Idx → EReal} {x y : ℕ → ℕ → ℝ} (h : IsR X x)
    (e : ∀ r < m, ∀ c < n, x r c = y r c) : IsR X y := fun r c => by rw [h r c, e r r.2 c c.2]

/-- A sum of real numbers, counted from zero. -/
theorem sum_coe (n : ℕ) (f : ℕ → ℝ) : (∑ j : Fin n, ((f j : ℝ) : EReal)) = ((pre f n : ℝ) : EReal) := by
  induction n with
  | zero => simp [pre]
  | succ n ih =>
    rw [Fin.sum_univ_castSucc, pre_add, EReal.coe_add, ← ih]
    simp [pre]

theorem sum_coe' {n : ℕ} {f : Fin n → EReal} (g : ℕ → ℝ) (h : ∀ j : Fin n, f j = ((g j : ℝ) : EReal)) :
    (∑ j : Fin n, f j) = ((pre g n : ℝ) : EReal) := by
  rw [← sum_coe]; exact Finset.sum_congr rfl fun j _ => h j

theorem max_neg_coe (x : ℝ) : max ((x : ℝ) : EReal) (-((x : ℝ) : EReal)) = ((|x| : ℝ) : EReal) := by
  rw [← EReal.coe_neg, ← EReal.coe_strictMono.monotone.map_max]; rfl

theorem min_coe (x y : ℝ) : min ((x : ℝ) : EReal) ((y : ℝ) : EReal) = ((min x y : ℝ) : EReal) :=
  (EReal.coe_strictMono.monotone.map_min).symm

/-- The logarithm of the sigmoid, computed on a real number. -/
theorem ls_coe (x : ℝ) : min ((x : ℝ) : EReal) 0 - Ideal.log (1 + Ideal.exp (0 - max ((x : ℝ) : EReal) (-((x : ℝ) : EReal)))) = ((ls x : ℝ) : EReal) := by
  have hp : ¬ (1 + Real.exp (-|x|) ≤ 0) := not_le.2 (by positivity)
  rw [max_neg_coe, ← EReal.coe_zero, ← EReal.coe_sub, Ideal.exp_coe, ← EReal.coe_one, ← EReal.coe_add, Ideal.log_coe, zero_sub,
    if_neg hp, min_coe, ← EReal.coe_sub]
  rfl

section
variable {X Y : FVec Ideal S512x512 .f32} {x y : ℕ → ℕ → ℝ}

theorem logSig_isR (hX : IsR X x) : IsR (logSig X) (fun r c => ls (x r c)) := fun r c => by
  pointwise [logSig]
  rw [hX r c]
  exact ls_coe _

theorem logOneSub_isR (hX : IsR X x) : IsR (logOneSub X) (fun r c => lm (x r c)) := fun r c => by
  have h := logSig_isR hX r c
  pointwise [logOneSub]
  rw [h, hX r c, ← EReal.coe_sub]
  rfl

theorem sig1_isR (hX : IsR X x) : IsR (sig1 X) (fun r c => beta (x r c)) := fun r c => by
  have h := logSig_isR hX r c
  pointwise [sig1]
  rw [h, Ideal.exp_coe]
  rfl

variable {tri : FVec Ideal S128x128 .bf16} {e : ℕ} (he : e ≤ 1)
  (ht : ∀ d c : Fin 128, tri (ix2 d c) = if d.val < c.val + e then 1 else 0)

include he ht in
/-- A row of real numbers times the triangle is the sum of its first entries. -/
theorem sum_tri (f : ℕ → ℝ) (c : Fin 128) : (∑ d : Fin 128, ((f d : ℝ) : EReal) * tri (ix2 d c)) = ((pre f (c + e) : ℝ) : EReal) := by
  rw [← sum_lt f (n := 128) (by omega), ← pre_fin (fun d => if d < c.val + e then f d else 0)]
  refine sum_coe' (fun d => if d < c.val + e then f d else 0) fun d => ?_
  rw [ht]
  split_ifs
  · rw [mul_one]
  · rw [mul_zero, EReal.coe_zero]

include he ht in
theorem sum_tri_zero (f : ℕ → ℝ) (c : Fin 128) : (∑ d : Fin 128, (((f d : ℝ) : EReal) - ((f d : ℝ) : EReal)) * tri (ix2 d c)) = 0 := by
  refine Finset.sum_eq_zero fun d _ => ?_
  rw [← EReal.coe_sub, sub_self, EReal.coe_zero, zero_mul]

include he ht in
theorem loc0_chunk (hX : IsR X x) (r : Fin 512) (c : Fin 128) :
    loc0 (chunkDots X tri) (ix2 r c) = ((pre (fun d => x r (d)) (c + e) : ℝ) : EReal) := by
  have h1 := sum_tri he ht (fun d => x r (d)) c
  have h2 := sum_tri_zero he ht (fun d => x r (d)) c
  have hd : ∀ d : Fin 128, ch0 X (ix2 r d) = ((x r (d) : ℝ) : EReal) := fun d => by rw [ch0_apply, hX]
  rw [loc0_apply, chunkDots_apply, chunkDots_apply, ← add_zero (((pre _ _ : ℝ) : EReal)), ← h1, ← h2]
  congr 1
  · exact Finset.sum_congr rfl fun d _ => congrArg (· * _) (((cat8_0 _ _ _ _ _ _ _ _ r d).trans (hi_apply _ r d)).trans (hd d))
  · exact Finset.sum_congr rfl fun d _ => congrArg (· * _) (((cat8_1 _ _ _ _ _ _ _ _ r d).trans (lo_apply _ r d)).trans (by rw [hd d]))

include he ht in
theorem loc1_chunk (hX : IsR X x) (r : Fin 512) (c : Fin 128) :
    loc1 (chunkDots X tri) (ix2 r c) = ((pre (fun d => x r (128 + d)) (c + e) : ℝ) : EReal) := by
  have h1 := sum_tri he ht (fun d => x r (128 + d)) c
  have h2 := sum_tri_zero he ht (fun d => x r (128 + d)) c
  have hd : ∀ d : Fin 128, ch1 X (ix2 r d) = ((x r (128 + d) : ℝ) : EReal) := fun d => by rw [ch1_apply, hX]
  rw [loc1_apply, chunkDots_apply, chunkDots_apply, ← add_zero (((pre _ _ : ℝ) : EReal)), ← h1, ← h2]
  congr 1
  · exact Finset.sum_congr rfl fun d _ => congrArg (· * _) (((cat8_2 _ _ _ _ _ _ _ _ r d).trans (hi_apply _ r d)).trans (hd d))
  · exact Finset.sum_congr rfl fun d _ => congrArg (· * _) (((cat8_3 _ _ _ _ _ _ _ _ r d).trans (lo_apply _ r d)).trans (by rw [hd d]))

include he ht in
theorem loc2_chunk (hX : IsR X x) (r : Fin 512) (c : Fin 128) :
    loc2 (chunkDots X tri) (ix2 r c) = ((pre (fun d => x r (256 + d)) (c + e) : ℝ) : EReal) := by
  have h1 := sum_tri he ht (fun d => x r (256 + d)) c
  have h2 := sum_tri_zero he ht (fun d => x r (256 + d)) c
  have hd : ∀ d : Fin 128, ch2 X (ix2 r d) = ((x r (256 + d) : ℝ) : EReal) := fun d => by rw [ch2_apply, hX]
  rw [loc2_apply, chunkDots_apply, chunkDots_apply, ← add_zero (((pre _ _ : ℝ) : EReal)), ← h1, ← h2]
  congr 1
  · exact Finset.sum_congr rfl fun d _ => congrArg (· * _) (((cat8_4 _ _ _ _ _ _ _ _ r d).trans (hi_apply _ r d)).trans (hd d))
  · exact Finset.sum_congr rfl fun d _ => congrArg (· * _) (((cat8_5 _ _ _ _ _ _ _ _ r d).trans (lo_apply _ r d)).trans (by rw [hd d]))

include he ht in
theorem loc3_chunk (hX : IsR X x) (r : Fin 512) (c : Fin 128) :
    loc3 (chunkDots X tri) (ix2 r c) = ((pre (fun d => x r (384 + d)) (c + e) : ℝ) : EReal) := by
  have h1 := sum_tri he ht (fun d => x r (384 + d)) c
  have h2 := sum_tri_zero he ht (fun d => x r (384 + d)) c
  have hd : ∀ d : Fin 128, ch3 X (ix2 r d) = ((x r (384 + d) : ℝ) : EReal) := fun d => by rw [ch3_apply, hX]
  rw [loc3_apply, chunkDots_apply, chunkDots_apply, ← add_zero (((pre _ _ : ℝ) : EReal)), ← h1, ← h2]
  congr 1
  · exact Finset.sum_congr rfl fun d _ => congrArg (· * _) (((cat8_6 _ _ _ _ _ _ _ _ r d).trans (hi_apply _ r d)).trans (hd d))
  · exact Finset.sum_congr rfl fun d _ => congrArg (· * _) (((cat8_7 _ _ _ _ _ _ _ _ r d).trans (lo_apply _ r d)).trans (by rw [hd d]))

end

end Cert.KernelIdeal

end
-- ==== Proof.Block.lean ====
/- One trip over the real numbers: what the prefix sums, the weights, the scores' cotangents and the carried values
of a block of 512 keys are. -/
module

public import proofs.«01_k».proof.Proof.Vals
public import Idealize.ShloMosaic.Lib.WordCmp

@[expose] public section

set_option maxRecDepth 16384

noncomputable section

namespace Cert.KernelIdeal

open Idealize.ShloMosaic Idealize.ShloMosaic.TcCoe Idealize.SL.Sem
open Cert.Sb

section Cat
variable (p0 p1 p2 p3 : FVec Ideal S512x128 .f32) (r : Fin 512) (d : Fin 128)

/-- Four blocks of columns side by side. -/
abbrev cat4 : FVec Ideal S512x512 .f32 :=
  concatenate S512x512 1 [⟨S512x128, p0⟩, ⟨S512x128, p1⟩, ⟨S512x128, p2⟩, ⟨S512x128, p3⟩]
    Facts₀.concatenates_S512x128_S512x128_S512x128_S512x128_S512x512_d1

theorem ix2_of_eq' {n : ℕ} (h : n < 128) (e : n = d.val) : ix2 r (⟨n, h⟩ : Fin 128) = ix2 r d := by
  subst e; rfl

theorem cat4_0 : cat4 p0 p1 p2 p3 (ix2 r ⟨d, by omega⟩) = p0 (ix2 r d) := by
  pointwise

theorem cat4_1 : cat4 p0 p1 p2 p3 (ix2 r ⟨128 + d, by omega⟩) = p1 (ix2 r d) := by
  pointwise

theorem cat4_2 : cat4 p0 p1 p2 p3 (ix2 r ⟨256 + d, by omega⟩) = p2 (ix2 r d) := by
  pointwise
  rw [dif_neg (by omega), dif_neg (by omega), dif_pos (by omega)]
  exact congrArg p2 (ix2_of_eq' _ _ _ (by omega))

theorem cat4_3 : cat4 p0 p1 p2 p3 (ix2 r ⟨384 + d, by omega⟩) = p3 (ix2 r d) := by
  pointwise
  rw [dif_neg (by omega), dif_neg (by omega), dif_neg (by omega)]
  exact congrArg p3 (ix2_of_eq' _ _ _ (by omega))

/-- A statement about every column of four blocks side by side, block by block. -/
theorem forall_cat {P : Fin 512 → Prop} (h0 : ∀ d : Fin 128, P ⟨d, by omega⟩) (h1 : ∀ d : Fin 128, P ⟨128 + d, by omega⟩)
    (h2 : ∀ d : Fin 128, P ⟨256 + d, by omega⟩) (h3 : ∀ d : Fin 128, P ⟨384 + d, by omega⟩) (c : Fin 512) : P c := by
  obtain ⟨c, hc⟩ := c
  by_cases e0 : c < 128
  · exact h0 ⟨c, e0⟩
  by_cases e1 : c < 256
  · simpa [show 128 + (c - 128) = c by omega] using h1 ⟨c - 128, by omega⟩
  by_cases e2 : c < 384
  · simpa [show 256 + (c - 256) = c by omega] using h2 ⟨c - 256, by omega⟩
  · simpa [show 384 + (c - 384) = c by omega] using h3 ⟨c - 384, by omega⟩

/-- A block of columns repeated four times, when its columns are all equal. -/
theorem wide_isR {X : FVec Ideal S512x128 .f32} {x : ℕ → ℝ} (h : IsR X fun r _ => x r) : IsR (cat4 X X X X) fun r _ => x r := by
  intro r c
  revert c
  refine forall_cat (fun d => ?_) (fun d => ?_) (fun d => ?_) (fun d => ?_)
  · rw [cat4_0, h]
  · rw [cat4_1, h]
  · rw [cat4_2, h]
  · rw [cat4_3, h]

end Cat

section
variable {X : FVec Ideal S512x512 .f32} {x : ℕ → ℕ → ℝ} {C : FVec Ideal S512x1 .f32} {cc : ℕ → ℝ}
  (hX : IsR X x) (hC : IsR C fun r _ => cc r)
include hX hC

theorem car1_isR : IsR (car1 X C) fun r _ => cc r + pre (x r) 128 := fun r u => by
  rw [car1, addSum_apply, hC, sum_coe' (fun d => x r d) (fun d => by rw [ch0_apply, hX]), ← EReal.coe_add]

theorem car2_isR : IsR (car2 X C) fun r _ => cc r + pre (x r) 256 := fun r u => by
  rw [car2, addSum_apply, car1_isR hX hC, sum_coe' (fun d => x r (128 + d)) (fun d => by rw [ch1_apply, hX]), ← EReal.coe_add]
  exact congrArg _ (by dsimp only; rw [show pre (x r) 256 = pre (x r) (128 + 128) from rfl, pre_add, ← add_assoc])

theorem car3_isR : IsR (car3 X C) fun r _ => cc r + pre (x r) 384 := fun r u => by
  rw [car3, addSum_apply, car2_isR hX hC, sum_coe' (fun d => x r (256 + d)) (fun d => by rw [ch2_apply, hX]), ← EReal.coe_add]
  exact congrArg _ (by dsimp only; rw [show pre (x r) 384 = pre (x r) (256 + 128) from rfl, pre_add, ← add_assoc])

theorem car4_isR : IsR (car4 X C) fun r _ => cc r + pre (x r) 512 := fun r u => by
  rw [car4, addSum_apply, car3_isR hX hC, sum_coe' (fun d => x r (384 + d)) (fun d => by rw [ch3_apply, hX]), ← EReal.coe_add]
  exact congrArg _ (by dsimp only; rw [show pre (x r) 512 = pre (x r) (384 + 128) from rfl, pre_add, ← add_assoc])

theorem prefixes_isR {tri : FVec Ideal S128x128 .bf16} {e : ℕ} (he : e ≤ 1)
    (ht : ∀ d c : Fin 128, tri (ix2 d c) = if d.val < c.val + e then 1 else 0) :
    IsR (prefixes X tri C) fun r c => cc r + pre (x r) (c + e) := by
  intro r c
  revert c
  refine forall_cat (fun d => ?_) (fun d => ?_) (fun d => ?_) (fun d => ?_)
  · refine (cat4_0 _ _ _ _ r d).trans ?_
    rw [addCol_apply, loc0_chunk he ht hX, hC, ← EReal.coe_add, add_comm]
  · refine (cat4_1 _ _ _ _ r d).trans ?_
    rw [addCol_apply, loc1_chunk he ht hX, car1_isR hX hC, ← EReal.coe_add, add_comm, add_assoc, ← pre_add]
    simp only [add_assoc]
  · refine (cat4_2 _ _ _ _ r d).trans ?_
    rw [addCol_apply, loc2_chunk he ht hX, car2_isR hX hC, ← EReal.coe_add, add_comm, add_assoc, ← pre_add]
    simp only [add_assoc]
  · refine (cat4_3 _ _ _ _ r d).trans ?_
    rw [addCol_apply, loc3_chunk he ht hX, car3_isR hX hC, ← EReal.coe_add, add_comm, add_assoc, ← pre_add]
    simp only [add_assoc]

end

/-! ### The triangles -/

/-- What a mask does: keeps the entries `S` says, makes the others zero. -/
def Keeps (mk : FVec Ideal S512x512 .f32 → FVec Ideal S512x512 .f32) (S : ℕ → ℕ → Prop) [∀ r c, Decidable (S r c)] : Prop :=
  ∀ X x, IsR X x → IsR (mk X) fun r c => if S r c then x r c else 0

/-! ### One head of one trip -/

/-- What a head's local quantities are: the logarithms the prefix sums run over, -/
def lmL (S : ℕ → ℕ → Prop) [∀ r c, Decidable (S r c)] (z : ℕ → ℕ → ℝ) (r c : ℕ) : ℝ := if S r c then lm (z r c) else 0

/-- the weights, -/
def awL (S : ℕ → ℕ → Prop) [∀ r c, Decidable (S r c)] (z : ℕ → ℕ → ℝ) (st cm : ℕ → ℝ) (r c : ℕ) : ℝ :=
  if S r c then Real.exp (ls (z r c) + st r - (cm r + pre (lmL S z r) (c + 1))) else 0

/-- the weights times their cotangents, -/
def gL (S : ℕ → ℕ → Prop) [∀ r c, Decidable (S r c)] (z dp : ℕ → ℕ → ℝ) (st cm : ℕ → ℝ) (r c : ℕ) : ℝ := awL S z st cm r c * dp r c

/-- and the scores' cotangents. -/
def dzL (S : ℕ → ℕ → Prop) [∀ r c, Decidable (S r c)] (z dp : ℕ → ℕ → ℝ) (st cm cg : ℕ → ℝ) (r c : ℕ) : ℝ :=
  if S r c then gL S z dp st cm r c * (1 - beta (z r c)) - (cg r + pre (gL S z dp st cm r) c) * beta (z r c) else 0

section
variable {mk : FVec Ideal S512x512 .f32 → FVec Ideal S512x512 .f32} {S : ℕ → ℕ → Prop} [∀ r c, Decidable (S r c)]
  (hmk : Keeps mk S) {ti te : FVec Ideal S128x128 .bf16}
  (hti : ∀ d c : Fin 128, ti (ix2 d c) = if d.val < c.val + 1 then 1 else 0)
  (hte : ∀ d c : Fin 128, te (ix2 d c) = if d.val < c.val + 0 then 1 else 0)
  {Zb St Dp : FVec Ideal S512x512 .f32} {z dp : ℕ → ℕ → ℝ} {st cm cg : ℕ → ℝ} {Cm Cg : FVec Ideal S512x1 .f32}
  (hZ : IsR Zb z) (hSt : IsR St fun r _ => st r) (hDp : IsR Dp dp)
  (hCm : IsR Cm fun r _ => cm r) (hCg : IsR Cg fun r _ => cg r)

include hmk hZ in
theorem lmA_isR : IsR (lmA mk Zb) (lmL S z) := hmk _ _ (logOneSub_isR hZ)

include hmk hti hZ hSt hCm in
theorem awA_isR : IsR (awA mk Zb St ti Cm) (awL S z st cm) := by
  refine hmk _ (fun r c => Real.exp (ls (z r c) + st r - (cm r + pre (lmL S z r) (c + 1)))) fun r c => ?_
  have h1 := logSig_isR hZ r c
  have h2 := prefixes_isR (lmA_isR hmk hZ) hCm (le_refl 1) hti r c
  have h3 := hSt r c
  pointwise
  rw [h1, h2, h3, ← EReal.coe_add, ← EReal.coe_sub, Ideal.exp_coe]

include hmk hti hZ hSt hDp hCm in
theorem gA_isR : IsR (gA mk Zb St Dp ti Cm) (gL S z dp st cm) := fun r c => by
  have h1 := awA_isR hmk hti hZ hSt hCm r c
  have h2 := hDp r c
  pointwise [gA]
  rw [h1, h2, ← EReal.coe_mul]
  rfl

include hmk hti hte hZ hSt hDp hCm hCg in
theorem dzA_isR : IsR (dzA mk Zb St Dp ti te Cm Cg) (dzL S z dp st cm cg) := by
  refine hmk _ (fun r c => gL S z dp st cm r c * (1 - beta (z r c)) - (cg r + pre (gL S z dp st cm r) c) * beta (z r c)) fun r c => ?_
  have h1 := sig1_isR hZ r c
  have h2 := gA_isR hmk hti hZ hSt hDp hCm r c
  have h3 := prefixes_isR (gA_isR hmk hti hZ hSt hDp hCm) hCg (Nat.zero_le 1) hte r c
  pointwise
  rw [h1, h2, h3, ← EReal.coe_one, ← EReal.coe_sub, ← EReal.coe_mul, ← EReal.coe_mul, ← EReal.coe_sub]
  rfl

end

section
variable {a b : FVec Ideal S512x128 .bf16} {X : FVec Ideal S512x512 .f32} {x qa kb : ℕ → ℕ → ℝ}

theorem scores_isR (ha : IsR a qa) (hb : IsR b kb) : IsR (scores a b) fun r c => pre (fun d => qa r d * kb c d) 128 := fun r c => by
  rw [scores_apply]
  exact sum_coe' (fun d => qa r d * kb c d) fun d => by rw [ha, hb, EReal.coe_mul]

theorem dotT_isR (hX : IsR X x) (ha : IsR a qa) : IsR (dotT X a) fun r c => pre (fun t => x t r * qa t c) 512 := fun r c => by
  rw [dotT_apply]
  exact sum_coe' (fun t => x t r * qa t c) fun d => by rw [ha, hX, EReal.coe_mul]

theorem dotN_isR (hX : IsR X x) (ha : IsR a qa) : IsR (dotN X a) fun r c => pre (fun s => x r s * qa s c) 512 := fun r c => by
  rw [dotN_apply]
  exact sum_coe' (fun s => x r s * qa s c) fun d => by rw [ha, hX, EReal.coe_mul]

end

theorem addf_isR {m n : ℕ} {A B : FVec Ideal ⟨2, ![m, n]⟩ .f32} {a b : ℕ → ℕ → ℝ} (hA : IsR A a) (hB : IsR B b) :
    IsR (addf A B) fun r c => a r c + b r c := fun r c => by
  have h1 := hA r c
  have h2 := hB r c
  pointwise
  rw [h1, h2, EReal.coe_add]

theorem zero_isR {m n : ℕ} : IsR (broadcast ⟨2, ![m, n]⟩ (Scalar.ofBits (F := Ideal) .f32 0x00000000#32)) fun _ _ => 0 := fun r c => by
  pointwise
  exact EReal.coe_zero.symm

/-- The mask that keeps everything. -/
theorem keeps_all : Keeps (fun X => X) (fun _ _ => True) := fun X x h r c => by simpa using h r c

/-- The mask of the diagonal block. -/
theorem keeps_masked {m : IVec S512x512 1} {S : ℕ → ℕ → Prop} [∀ r c, Decidable (S r c)]
    (h : ∀ r c : Fin 512, m (ix2 r c) = if S r c then 1#1 else 0#1) : Keeps (masked m) S := fun X x hX r c => by
  have h1 := hX r c
  pointwise [masked]
  rw [h]
  by_cases hs : S r c
  · rw [if_pos hs, if_pos hs]; pointwise; exact h1
  · rw [if_neg hs, if_neg hs]; pointwise; exact EReal.coe_zero.symm

theorem triI_apply (d c : Fin 128) :
    triI (F := Ideal) (iota .tc S128x128 32 [0] Facts₀.iota_S128x128_d0_w32) (iota .tc S128x128 32 [1] Facts₀.iota_S128x128_d1_w32) (ix2 d c)
      = if d.val < c.val + 1 then 1 else 0 := by
  pointwise [triI, Gen.k0_pay3]
  rw [WordCmp.cmpi_sle_ofNat (by omega) (by omega), WordCmp.ofBool_decide_eq_ite]
  by_cases h : d.val ≤ c.val
  · rw [if_pos h, if_pos (by omega)]; pointwise
  · rw [if_neg h, if_neg (by omega)]; pointwise

theorem triE_apply (d c : Fin 128) :
    triE (F := Ideal) (iota .tc S128x128 32 [0] Facts₀.iota_S128x128_d0_w32) (iota .tc S128x128 32 [1] Facts₀.iota_S128x128_d1_w32) (ix2 d c)
      = if d.val < c.val + 0 then 1 else 0 := by
  pointwise [triE, Gen.k0_pay4]
  rw [WordCmp.cmpi_slt_ofNat (by omega) (by omega), WordCmp.ofBool_decide_eq_ite]
  by_cases h : d.val < c.val
  · rw [if_pos h, if_pos (by omega)]; pointwise
  · rw [if_neg h, if_neg (by omega)]; pointwise

end Cert.KernelIdeal

end
-- ==== Proof.Step.lean ====
/- One trip of one grid point in terms of the whole problem: query block `i`, key block `j`, head pair `p`. The
carried values before the trip are the sums over the keys before the block, those after it the sums over the keys
up to its end. -/
module

public import proofs.«01_k».proof.Proof.Block

@[expose] public section

set_option maxRecDepth 16384

noncomputable section

namespace Cert.KernelIdeal

open Idealize.ShloMosaic Idealize.ShloMosaic.TcCoe Idealize.SL.Sem
open Cert.Sb

/-! ### Sums over one block -/

/-- The keys of block `j` that come strictly before a query of block `i`. -/
abbrev Before (i j r c : ℕ) : Prop := 512 * j + c < 512 * i + r

section
variable (z dp : ℕ → ℕ → ℝ) (i j : ℕ)

theorem lmL_eq (r c : ℕ) : lmL (Before i j) (fun r c => z (512 * i + r) (512 * j + c)) r c = L z (512 * i + r) (512 * j + c) := rfl

theorem pre_lmL (r n : ℕ) : pre (L z (512 * i + r)) (512 * j) + pre (lmL (Before i j) (fun r c => z (512 * i + r) (512 * j + c)) r) n
    = pre (L z (512 * i + r)) (512 * j + n) := (pre_add _ _ _).symm

theorem awL_eq (r c : ℕ) : awL (Before i j) (fun r c => z (512 * i + r) (512 * j + c)) (fun r => ST z (512 * i + r))
    (fun r => pre (L z (512 * i + r)) (512 * j)) r c = A z (512 * i + r) (512 * j + c) := by
  unfold awL A
  rw [pre_lmL, add_assoc]

theorem gL_eq (r c : ℕ) : gL (Before i j) (fun r c => z (512 * i + r) (512 * j + c)) (fun r c => dp (512 * i + r) (512 * j + c))
    (fun r => ST z (512 * i + r)) (fun r => pre (L z (512 * i + r)) (512 * j)) r c = G z dp (512 * i + r) (512 * j + c) := by
  unfold gL G
  rw [awL_eq]

theorem pre_gL (r n : ℕ) : pre (G z dp (512 * i + r)) (512 * j) + pre (gL (Before i j) (fun r c => z (512 * i + r) (512 * j + c))
    (fun r c => dp (512 * i + r) (512 * j + c)) (fun r => ST z (512 * i + r)) (fun r => pre (L z (512 * i + r)) (512 * j)) r) n
    = pre (G z dp (512 * i + r)) (512 * j + n) := by
  rw [pre_add]
  exact congrArg _ (pre_congr fun c _ => gL_eq z dp i j r c)

theorem dzL_eq (r c : ℕ) : dzL (Before i j) (fun r c => z (512 * i + r) (512 * j + c)) (fun r c => dp (512 * i + r) (512 * j + c))
    (fun r => ST z (512 * i + r)) (fun r => pre (L z (512 * i + r)) (512 * j)) (fun r => pre (G z dp (512 * i + r)) (512 * j)) r c
    = DZ z dp (512 * i + r) (512 * j + c) := by
  unfold dzL DZ
  rw [pre_gL, gL_eq]

end

/-! ### The two heads of a pair -/

/-- A row of 128 columns with one half made zero, against another row: the sum over the other half. -/
theorem pre_half0 (f : ℕ → ℝ) : pre (fun d => if d < 64 then f d else 0) 128 = pre f 64 := by
  rw [show (128 : ℕ) = 64 + 64 from rfl, pre_add, pre_congr (f := fun x => if 64 + x < 64 then f (64 + x) else 0) (g := fun _ => 0)
    (fun x _ => if_neg (by omega)), pre_congr (g := f) (fun x hx => if_pos hx)]
  simp [pre]

theorem pre_half1 (f : ℕ → ℝ) : pre (fun d => if d < 64 then 0 else f d) 128 = pre (fun d => f (64 + d)) 64 := by
  rw [show (128 : ℕ) = 64 + 64 from rfl, pre_add, pre_congr (f := fun d => if d < 64 then 0 else f d) (g := fun _ => 0)
    (fun x hx => if_pos hx), pre_congr (f := fun x => if 64 + x < 64 then 0 else f (64 + x)) (g := fun x => f (64 + x))
    (fun x _ => if_neg (by omega))]
  simp [pre]

section
variable (q k v g : ℕ → ℕ → ℝ) (p i j : ℕ)

/-- The pair's scaled queries, of its first head and of its second. -/
def qaR0 (r d : ℕ) : ℝ := if d < 64 then q (512 * i + r) (128 * p + d) * 0.125 else 0
@[inherit_doc qaR0] def qaR1 (r d : ℕ) : ℝ := if d < 64 then 0 else q (512 * i + r) (128 * p + d) * 0.125

/-- The pair's cotangents, of its first head and of its second. -/
def doR0 (r d : ℕ) : ℝ := if d < 64 then g (512 * i + r) (128 * p + d) else 0
@[inherit_doc doR0] def doR1 (r d : ℕ) : ℝ := if d < 64 then 0 else g (512 * i + r) (128 * p + d)

/-- The keys (or values) of a block. -/
def kvR (r d : ℕ) : ℝ := k (512 * j + r) (128 * p + d)

theorem scoresR0 (r c : ℕ) : pre (fun d => qaR0 q p i r d * kvR k p j c d) 128 = Z q k (2 * p) (512 * i + r) (512 * j + c) := by
  rw [Z, ← pre_half0]
  refine pre_congr fun d _ => ?_
  unfold qaR0 kvR
  rw [show 64 * (2 * p) + d = 128 * p + d by ring]
  split_ifs <;> simp

theorem scoresR1 (r c : ℕ) : pre (fun d => qaR1 q p i r d * kvR k p j c d) 128 = Z q k (2 * p + 1) (512 * i + r) (512 * j + c) := by
  refine Eq.trans ?_ ((pre_half1 fun d => q (512 * i + r) (128 * p + d) * 0.125 * k (512 * j + c) (128 * p + d)).trans
    (pre_congr fun d _ => by rw [show 64 * (2 * p + 1) + d = 128 * p + (64 + d) by ring]))
  refine pre_congr fun d _ => ?_
  unfold qaR1 kvR
  split_ifs <;> simp

theorem dpR0 (r c : ℕ) : pre (fun d => doR0 g p i r d * kvR v p j c d) 128 = DP g v (2 * p) (512 * i + r) (512 * j + c) := by
  rw [DP, ← pre_half0]
  refine pre_congr fun d _ => ?_
  unfold doR0 kvR
  rw [show 64 * (2 * p) + d = 128 * p + d by ring]
  split_ifs <;> simp

theorem dpR1 (r c : ℕ) : pre (fun d => doR1 g p i r d * kvR v p j c d) 128 = DP g v (2 * p + 1) (512 * i + r) (512 * j + c) := by
  refine Eq.trans ?_ ((pre_half1 fun d => g (512 * i + r) (128 * p + d) * v (512 * j + c) (128 * p + d)).trans
    (pre_congr fun d _ => by rw [show 64 * (2 * p + 1) + d = 128 * p + (64 + d) by ring]))
  refine pre_congr fun d _ => ?_
  unfold doR1 kvR
  split_ifs <;> simp

/-- The head that owns a column of the pair. -/
theorem head_of_lt {c : ℕ} (h : c < 64) : (128 * p + c) / 64 = 2 * p := by omega
theorem head_of_ge {c : ℕ} (h : ¬ c < 64) (h' : c < 128) : (128 * p + c) / 64 = 2 * p + 1 := by omega

/-- The carried values after the first `n` keys. -/
structure CarryR (n : ℕ) (acc : Carry Ideal) : Prop where
  dq0 : IsR acc.1 fun r c => pre (fun s => DZ (Z q k (2 * p)) (DP g v (2 * p)) (512 * i + r) s * k s (128 * p + c)) n
  cm0 : IsR acc.2.1 fun r _ => pre (L (Z q k (2 * p)) (512 * i + r)) n
  cg0 : IsR acc.2.2.1 fun r _ => pre (G (Z q k (2 * p)) (DP g v (2 * p)) (512 * i + r)) n
  dq1 : IsR acc.2.2.2.1 fun r c => pre (fun s => DZ (Z q k (2 * p + 1)) (DP g v (2 * p + 1)) (512 * i + r) s * k s (128 * p + c)) n
  cm1 : IsR acc.2.2.2.2.1 fun r _ => pre (L (Z q k (2 * p + 1)) (512 * i + r)) n
  cg1 : IsR acc.2.2.2.2.2 fun r _ => pre (G (Z q k (2 * p + 1)) (DP g v (2 * p + 1)) (512 * i + r)) n

/-- What a grid point's blocks are. -/
structure PointR (qa0 qa1 doa0 doa1 : FVec Ideal S512x128 .bf16) (sta0 sta1 : FVec Ideal S512x512 .f32) (ti te : FVec Ideal S128x128 .bf16) : Prop where
  qa0 : IsR qa0 (qaR0 q p i)
  qa1 : IsR qa1 (qaR1 q p i)
  doa0 : IsR doa0 (doR0 g p i)
  doa1 : IsR doa1 (doR1 g p i)
  sta0 : IsR sta0 fun r _ => ST (Z q k (2 * p)) (512 * i + r)
  sta1 : IsR sta1 fun r _ => ST (Z q k (2 * p + 1)) (512 * i + r)
  ti : ∀ d c : Fin 128, ti (ix2 d c) = if d.val < c.val + 1 then 1 else 0
  te : ∀ d c : Fin 128, te (ix2 d c) = if d.val < c.val + 0 then 1 else 0

section Trip
variable {q k v g p i j}
  {mk : FVec Ideal S512x512 .f32 → FVec Ideal S512x512 .f32} (hmk : Keeps mk (Before i j))
  {qa0 qa1 doa0 doa1 : FVec Ideal S512x128 .bf16} {sta0 sta1 : FVec Ideal S512x512 .f32} {ti te : FVec Ideal S128x128 .bf16}
  (hp : PointR q k g p i qa0 qa1 doa0 doa1 sta0 sta1 ti te)
  {kb vb : FVec Ideal S512x128 .bf16} (hk : IsR kb (kvR k p j)) (hv : IsR vb (kvR v p j))
  {acc : Carry Ideal} (ha : CarryR q k v g p i (512 * j) acc)

include hp hk in
theorem z0_isR : IsR (scores qa0 kb) fun r c => Z q k (2 * p) (512 * i + r) (512 * j + c) :=
  (scores_isR hp.qa0 hk).congr fun r _ c _ => scoresR0 q k p i j r c

include hp hk in
theorem z1_isR : IsR (scores qa1 kb) fun r c => Z q k (2 * p + 1) (512 * i + r) (512 * j + c) :=
  (scores_isR hp.qa1 hk).congr fun r _ c _ => scoresR1 q k p i j r c

include hp hv in
theorem dp0_isR : IsR (scores doa0 vb) fun r c => DP g v (2 * p) (512 * i + r) (512 * j + c) :=
  (scores_isR hp.doa0 hv).congr fun r _ c _ => dpR0 v g p i j r c

include hp hv in
theorem dp1_isR : IsR (scores doa1 vb) fun r c => DP g v (2 * p + 1) (512 * i + r) (512 * j + c) :=
  (scores_isR hp.doa1 hv).congr fun r _ c _ => dpR1 v g p i j r c

include hmk hp hk hv ha in
theorem dz0_isR : IsR (dz0 mk qa0 doa0 sta0 ti te kb vb acc)
    fun r c => DZ (Z q k (2 * p)) (DP g v (2 * p)) (512 * i + r) (512 * j + c) :=
  (dzA_isR hmk hp.ti hp.te (z0_isR hp hk) hp.sta0 (dp0_isR hp hv) ha.cm0 ha.cg0).congr fun r _ c _ => dzL_eq _ _ i j r c

include hmk hp hk hv ha in
theorem dz1_isR : IsR (dz1 mk qa1 doa1 sta1 ti te kb vb acc)
    fun r c => DZ (Z q k (2 * p + 1)) (DP g v (2 * p + 1)) (512 * i + r) (512 * j + c) :=
  (dzA_isR hmk hp.ti hp.te (z1_isR hp hk) hp.sta1 (dp1_isR hp hv) ha.cm1 ha.cg1).congr fun r _ c _ => dzL_eq _ _ i j r c

include hmk hp hk hv ha in
/-- One trip takes the carried values from the keys before the block to those up to its end. -/
theorem next_carry : CarryR q k v g p i (512 * j + 512) (next mk qa0 qa1 doa0 doa1 sta0 sta1 ti te kb vb acc) where
  dq0 := (addf_isR ha.dq0 (dotN_isR (dz0_isR hmk hp hk hv ha) hk)).congr fun r _ c _ => (pre_add _ _ _).symm
  cm0 := (car4_isR (lmA_isR hmk (z0_isR hp hk)) ha.cm0).congr fun r _ c _ => pre_lmL _ i j r 512
  cg0 := (car4_isR (gA_isR hmk hp.ti (z0_isR hp hk) hp.sta0 (dp0_isR hp hv) ha.cm0) ha.cg0).congr fun r _ c _ => pre_gL _ _ i j r 512
  dq1 := (addf_isR ha.dq1 (dotN_isR (dz1_isR hmk hp hk hv ha) hk)).congr fun r _ c _ => (pre_add _ _ _).symm
  cm1 := (car4_isR (lmA_isR hmk (z1_isR hp hk)) ha.cm1).congr fun r _ c _ => pre_lmL _ i j r 512
  cg1 := (car4_isR (gA_isR hmk hp.ti (z1_isR hp hk) hp.sta1 (dp1_isR hp hv) ha.cm1) ha.cg1).congr fun r _ c _ => pre_gL _ _ i j r 512

/-- A sum over two heads, one of which is zero in each half of the columns. -/
theorem two_heads (f0 f1 : ℕ → ℝ) (x : ℕ → ℝ) {c : ℕ} (hc : c < 128) (w : ℕ → ℕ → ℝ) (e0 : w (2 * p) = f0) (e1 : w (2 * p + 1) = f1) :
    0 + pre (fun t => f0 t * (if c < 64 then x t else 0)) 512 + pre (fun t => f1 t * (if c < 64 then 0 else x t)) 512
      = pre (fun t => w ((128 * p + c) / 64) t * x t) 512 := by
  by_cases h : c < 64
  · rw [head_of_lt p h, e0]
    simp [h, pre]
  · rw [head_of_ge p h hc, e1]
    simp [h, pre]

include hmk hp hk hv ha in
theorem dkAdd_isR : IsR (dkAdd mk qa0 qa1 doa0 doa1 sta0 sta1 ti te kb vb acc)
    fun r c => pre (fun t => DZ (Z q k ((128 * p + c) / 64)) (DP g v ((128 * p + c) / 64)) (512 * i + t) (512 * j + r)
      * (q (512 * i + t) (128 * p + c) * 0.125)) 512 :=
  (addf_isR (addf_isR zero_isR (dotT_isR (dz0_isR hmk hp hk hv ha) hp.qa0)) (dotT_isR (dz1_isR hmk hp hk hv ha) hp.qa1)).congr
    fun r _ c hc => two_heads _ _ _ hc (fun h t => DZ (Z q k h) (DP g v h) (512 * i + t) (512 * j + r)) rfl rfl

include hmk hp hk ha in
theorem dvAdd_isR : IsR (dvAdd mk qa0 qa1 doa0 doa1 sta0 sta1 ti kb acc)
    fun r c => pre (fun t => A (Z q k ((128 * p + c) / 64)) (512 * i + t) (512 * j + r) * g (512 * i + t) (128 * p + c)) 512 :=
  (addf_isR (addf_isR zero_isR
    (dotT_isR ((awA_isR hmk hp.ti (z0_isR hp hk) hp.sta0 ha.cm0).congr fun r _ c _ => awL_eq _ i j r c) hp.doa0))
    (dotT_isR ((awA_isR hmk hp.ti (z1_isR hp hk) hp.sta1 ha.cm1).congr fun r _ c _ => awL_eq _ i j r c) hp.doa1)).congr
    fun r _ c hc => two_heads _ _ _ hc (fun h t => A (Z q k h) (512 * i + t) (512 * j + r)) rfl rfl

end Trip

end

end Cert.KernelIdeal

end
-- ==== Proof.Ranges.lean ====
/- The bounds of the four loops at a grid point, and the rows each trip reads: the first loop runs over the key blocks
before the query block, the third over the query block's own, the second and the fourth not at all. -/
module

public import proofs.«01_k».proof.Proof.Trips
public import proofs.«01_k».proof.Proof.Step
public import Idealize.ShloMosaic.Lib.WordCmp

@[expose] public section

set_option maxRecDepth 16384

noncomputable section

namespace Cert.KernelIdeal

open Idealize.ShloMosaic Idealize.ShloMosaic.TcCoe Idealize.SL.Sem
open Cert.KernelIdeal.Gen

theorem trips1 (i : grid0.Coords) : (k0_t1_loop i).trips = (i 1).val := by
  unfold k0_t1_loop
  generalize i 1 = a
  revert a
  exact (by decide +kernel)

theorem trips2 (i : grid0.Coords) : (k0_t2_loop i).trips = 0 := by
  unfold k0_t2_loop
  generalize i 1 = a
  revert a
  exact (by decide +kernel)

theorem trips3 (i : grid0.Coords) : (k0_t3_loop i).trips = 1 := by
  unfold k0_t3_loop
  generalize i 1 = a
  revert a
  exact (by decide +kernel)

theorem trips4 (i : grid0.Coords) : (k0_t4_loop i).trips = 0 := by
  unfold k0_t4_loop
  generalize i 1 = a
  revert a
  exact (by decide +kernel)

theorem off1 (i : grid0.Coords) (k : Fin (k0_t1_loop i).trips) : k0_off1 i k = ![512 * k.val, 0] := by
  have h : k.val < 4 := lt_trans (lt_of_lt_of_eq k.isLt (trips1 i)) (i 1).isLt
  unfold k0_off1
  dsimp only
  generalize k.val = n at h ⊢
  revert n
  exact (by decide +kernel)

/-- The third loop's induction variable is the query block. -/
theorem lb3 (i : grid0.Coords) : (k0_t3_loop i).lb = BitVec.ofNat 32 (i 1).val := by
  unfold k0_t3_loop
  generalize i 1 = a
  revert a
  exact (by decide +kernel)

theorem off3 (i : grid0.Coords) (k : Fin (k0_t3_loop i).trips) : k0_off3 i k = ![512 * (i 1).val, 0] := by
  have h : k.val = 0 := Nat.lt_one_iff.mp (lt_of_lt_of_eq k.isLt (trips3 i))
  unfold k0_off3
  dsimp only
  rw [h]
  generalize i 1 = a
  revert a
  exact (by decide +kernel)

/-- The key blocks of the third loop start where its queries do. -/
theorem iv3 (i : grid0.Coords) (k : Fin (k0_t3_loop i).trips) :
    Scalar.muli (Scf.iv (k0_t3_loop i).lb 1#32 k) 512#32 = BitVec.ofNat 32 (512 * (i 1).val) := by
  have h : k.val = 0 := Nat.lt_one_iff.mp (lt_of_lt_of_eq k.isLt (trips3 i))
  rw [lb3, h]
  generalize i 1 = a
  revert a
  exact (by decide +kernel)

/-- The third loop's mask: the keys strictly before the query. -/
theorem mask3 (i : grid0.Coords) (k : Fin (k0_t3_loop i).trips) (v43 v49 : IVec S512x512 32)
    (h43 : ∀ r c : Fin 512, v43 (ix2 r c) = BitVec.ofNat 32 c.val)
    (h49 : ∀ r c : Fin 512, v49 (ix2 r c) = BitVec.ofNat 32 (512 * (i 1).val + r.val)) (r c : Fin 512) :
    k0_pay142 i (k0_t3_loop i).lb v43 v49 1#32 k (ix2 r c) = if Cert.KernelIdeal.Before (i 1).val (i 1).val r c then 1#1 else 0#1 := by
  have hi : (i 1).val < 4 := (i 1).isLt
  unfold k0_pay142
  dsimp only
  rw [iv3]
  show Scalar.cmpi .slt (BitVec.ofNat 32 (512 * (i 1).val) + v43 (ix2 r c)) (v49 (ix2 r c)) = _
  rw [h43, h49, ← BitVec.ofNat_add]
  refine (WordCmp.cmpi_slt_ofNat (by norm_num; omega) (by norm_num; omega)).trans ?_
  exact WordCmp.ofBool_decide_eq_ite _

end Cert.KernelIdeal

end
-- ==== Proof.Accum.lean ====
/- The two accumulators of a pair over one grid point: a trip adds its block's contribution to the block's rows. -/
module

public import proofs.«01_k».proof.Proof.Ranges
public import Idealize.ShloMosaic.Lib.WritesUnit

@[expose] public section

set_option maxRecDepth 16384

noncomputable section

namespace Cert.KernelIdeal

open Idealize.ShloMosaic Idealize.ShloMosaic.TcCoe Idealize.SL.Sem
open Cert.Sb

/-- A block of rows of an array. -/
theorem rows_isR {X : FVec Ideal S2048x128 .f32} {x : ℕ → ℕ → ℝ} (hX : IsR X x) {n : ℕ} {off : Fin 2 → ℕ} (hoff : off = ![512 * n, 0])
    (inb : ∀ a : Fin 2, off a + (![512, 128] : Fin 2 → ℕ) a ≤ S2048x128.size a) :
    IsR (m := 512) (n := 128) (View.ld (Val := Elt Ideal) (e' := .f32) X (Rect.unit (s := S2048x128) off ![512, 128] inb) : FVec Ideal S512x128 .f32) fun r c => x (512 * n + r) c := by
  subst hoff
  intro r c
  have h0 : 512 * n + 512 ≤ 2048 := inb 0
  have e : (Rect.unit (s := S2048x128) ![512 * n, 0] ![512, 128] inb).idx (ix2 r c) = ix2 (⟨512 * n + r.val, by omega⟩ : Fin 2048) c := by
    funext a
    apply Fin.ext
    match a with
    | ⟨0, _⟩ => show 512 * n + 1 * r.val = 512 * n + r.val; omega
    | ⟨1, _⟩ => show 0 + 1 * c.val = c.val; omega
  show X _ = _
  rw [e, hX]

/-- A block of keys wholly before the block of queries is not masked. -/
theorem keeps_before {i j : ℕ} (h : j < i) : Keeps (fun X => X) (Before i j) := fun X x hX r c => by
  have := r.isLt
  have := c.isLt
  dsimp only
  rw [if_pos (by unfold Before; omega), hX]

/-- A store of whole rows over an array: the array's own entries elsewhere. -/
theorem put_rows {sig : RefSig} {κ : Kind} {sp : Space} (w : View sig κ sp S2048x128 .f32) (f : w.ty.Contents (Elt Ideal))
    (l : List (View.Piece (Elt Ideal) S2048x128 .f32)) {n : ℕ} {off : Fin 2 → ℕ} (hoff : off = ![512 * n, 0])
    (inb : ∀ a : Fin 2, off a + (![512, 128] : Fin 2 → ℕ) a ≤ S2048x128.size a) (X : FVec Ideal S512x128 .f32) {x y : ℕ → ℕ → ℝ}
    (hX : IsR X x) (hy : IsR (m := 2048) (n := 128) (w.read (Elt Ideal) (w.writes (Elt Ideal) f l)) y) :
    IsR (m := 2048) (n := 128) (w.read (Elt Ideal) (w.writes (Elt Ideal) f (⟨Rect.unit (s := S2048x128) off ![512, 128] inb, X⟩ :: l)))
      fun s c => if 512 * n ≤ s ∧ s < 512 * n + 512 then x (s - 512 * n) c else y s c := by
  intro s c
  dsimp only
  by_cases h : 512 * n ≤ s.val ∧ s.val < 512 * n + 512
  · rw [if_pos h]
    refine (View.read_writes_cons_rows_of_mem w f inb X l (ix2 s c) (ix2 (⟨s.val - 512 * n, by omega⟩ : Fin 512) c) hoff ?_ rfl).trans ?_
    · show s.val = 512 * n + (s.val - 512 * n); omega
    · exact hX _ _
  · rw [if_neg h]
    refine (View.read_writes_cons_rows_of_not_mem w f inb X l (ix2 s c) hoff (W := 512) rfl ?_).trans (hy s c)
    show s.val < 512 * n ∨ 512 * n + 512 ≤ s.val
    omega

/-- Adding a block to whole rows of an array. -/
theorem add_rows {sig : RefSig} {κ : Kind} {sp : Space} (w : View sig κ sp S2048x128 .f32) (f : w.ty.Contents (Elt Ideal))
    (l : List (View.Piece (Elt Ideal) S2048x128 .f32)) {n : ℕ} {off : Fin 2 → ℕ} (hoff : off = ![512 * n, 0])
    (inb : ∀ a : Fin 2, off a + (![512, 128] : Fin 2 → ℕ) a ≤ S2048x128.size a) (X : FVec Ideal S512x128 .f32) {x y : ℕ → ℕ → ℝ}
    (hX : IsR X x) (hy : IsR (m := 2048) (n := 128) (w.read (Elt Ideal) (w.writes (Elt Ideal) f l)) y) :
    IsR (m := 2048) (n := 128) (w.read (Elt Ideal) (w.writes (Elt Ideal) f (⟨Rect.unit (s := S2048x128) off ![512, 128] inb,
      addf (w.readAt (Elt Ideal) (Rect.unit (s := S2048x128) off ![512, 128] inb).toLoadRect (w.writes (Elt Ideal) f l) : FVec Ideal S512x128 .f32) X⟩ :: l)))
      fun s c => if 512 * n ≤ s ∧ s < 512 * n + 512 then y (512 * n + (s - 512 * n)) c + x (s - 512 * n) c else y s c :=
  put_rows w f l hoff inb _ (addf_isR (rows_isR hy hoff inb) hX) hy

section
variable (q k v g : ℕ → ℕ → ℝ) (p : ℕ)

/-- The terms of the gradient of the keys and of the values. -/
def dkT (s c t : ℕ) : ℝ :=
  DZ (Z q k ((128 * p + c) / 64)) (DP g v ((128 * p + c) / 64)) t s * (q t (128 * p + c) * 0.125)
@[inherit_doc dkT] def dvT (s c t : ℕ) : ℝ := A (Z q k ((128 * p + c) / 64)) t s * g t (128 * p + c)

/-- An accumulator during query block `i`, when the first `n` key blocks have their contributions. -/
def part (f : ℕ → ℕ → ℕ → ℝ) (i n s c : ℕ) : ℝ := pre (f s c) (if s < 512 * n then 512 * (i + 1) else 512 * i)

theorem part_succ (f : ℕ → ℕ → ℕ → ℝ) (i n s c : ℕ) :
    (if 512 * n ≤ s ∧ s < 512 * n + 512 then part f i n (512 * n + (s - 512 * n)) c + pre (fun t => f (512 * n + (s - 512 * n)) c (512 * i + t)) 512
      else part f i n s c) = part f i (n + 1) s c := by
  unfold part
  by_cases h : 512 * n ≤ s ∧ s < 512 * n + 512
  · rw [if_pos h, show 512 * n + (s - 512 * n) = s by omega, if_neg (by omega), if_pos (by omega), ← pre_add]
    rfl
  · rw [if_neg h]
    by_cases h' : s < 512 * n
    · rw [if_pos h', if_pos (by omega)]
    · rw [if_neg h', if_neg (by omega)]

theorem part_zero (f : ℕ → ℕ → ℕ → ℝ) (i s c : ℕ) : part f i 0 s c = pre (f s c) (512 * i) := by
  unfold part
  rw [if_neg (by omega)]

/-- When every block up to the queries' own has its contribution, so has every row: later keys have none. -/
theorem part_end (f : ℕ → ℕ → ℕ → ℝ) (hf : ∀ s c t, t ≤ s → f s c t = 0) (i s c : ℕ) : part f i (i + 1) s c = pre (f s c) (512 * (i + 1)) := by
  unfold part
  by_cases h : s < 512 * (i + 1)
  · rw [if_pos h]
  · rw [if_neg h, pre_congr (g := fun _ => 0) fun t ht => hf s c t (by omega),
      pre_congr (n := 512 * (i + 1)) (g := fun _ => 0) fun t ht => hf s c t (by omega)]
    simp [pre]

theorem dkT_zero (s c t : ℕ) (h : t ≤ s) : dkT q k v g p s c t = 0 := by
  unfold dkT DZ
  rw [if_neg (by omega), zero_mul]

theorem dvT_zero (s c t : ℕ) (h : t ≤ s) : dvT q k g p s c t = 0 := by
  unfold dvT A
  rw [if_neg (by omega), zero_mul]

/-- One grid point's loop state after `n` key blocks: what is carried and what the two accumulators hold. -/
structure LoopR (i n : ℕ) (acc : Carry Ideal) (dk dv : FVec Ideal S2048x128 .f32) : Prop where
  carry : CarryR q k v g p i (512 * n) acc
  dk : IsR dk (part (dkT q k v g p) i n)
  dv : IsR dv (part (dvT q k g p) i n)

end

section Trip
variable {q k v g : ℕ → ℕ → ℝ} {p i n : ℕ}
  {mk : FVec Ideal S512x512 .f32 → FVec Ideal S512x512 .f32} (hmk : Keeps mk (Before i n))
  {qa0 qa1 doa0 doa1 : FVec Ideal S512x128 .bf16} {sta0 sta1 : FVec Ideal S512x512 .f32} {ti te : FVec Ideal S128x128 .bf16}
  (hp : PointR q k g p i qa0 qa1 doa0 doa1 sta0 sta1 ti te)
  {kb vb : FVec Ideal S512x128 .bf16} (hk : IsR kb (kvR k p n)) (hv : IsR vb (kvR v p n))
  {acc : Carry Ideal} {sg : RefSig} {κ : Kind} {sp sp' : Space}
  {w : View sg κ sp S2048x128 .f32} {f : w.ty.Contents (Elt Ideal)} {l : List (View.Piece (Elt Ideal) S2048x128 .f32)}
  {w' : View sg κ sp' S2048x128 .f32} {f' : w'.ty.Contents (Elt Ideal)} {l' : List (View.Piece (Elt Ideal) S2048x128 .f32)}
  (h : LoopR q k v g p i n acc (w.read (Elt Ideal) (w.writes (Elt Ideal) f l)) (w'.read (Elt Ideal) (w'.writes (Elt Ideal) f' l')))
  {off : Fin 2 → ℕ} (hoff : off = ![512 * n, 0]) (inb : ∀ a : Fin 2, off a + (![512, 128] : Fin 2 → ℕ) a ≤ S2048x128.size a)

include hmk hp hk hv h hoff in
/-- One trip. -/
theorem trip_loop : LoopR q k v g p i (n + 1) (next mk qa0 qa1 doa0 doa1 sta0 sta1 ti te kb vb acc)
    (w.read (Elt Ideal) (w.writes (Elt Ideal) f (⟨Rect.unit (s := S2048x128) off ![512, 128] inb,
      addf (w.readAt (Elt Ideal) (Rect.unit (s := S2048x128) off ![512, 128] inb).toLoadRect (w.writes (Elt Ideal) f l) : FVec Ideal S512x128 .f32)
        (dkAdd mk qa0 qa1 doa0 doa1 sta0 sta1 ti te kb vb acc)⟩ :: l)))
    (w'.read (Elt Ideal) (w'.writes (Elt Ideal) f' (⟨Rect.unit (s := S2048x128) off ![512, 128] inb,
      addf (w'.readAt (Elt Ideal) (Rect.unit (s := S2048x128) off ![512, 128] inb).toLoadRect (w'.writes (Elt Ideal) f' l') : FVec Ideal S512x128 .f32)
        (dvAdd mk qa0 qa1 doa0 doa1 sta0 sta1 ti kb acc)⟩ :: l'))) where
  carry := by rw [Nat.mul_succ]; exact next_carry hmk hp hk hv h.carry
  dk := (add_rows w f l hoff inb _ (dkAdd_isR hmk hp hk hv h.carry) h.dk).congr fun s _ c _ => part_succ (dkT q k v g p) i n s c
  dv := (add_rows w' f' l' hoff inb _ (dvAdd_isR hmk hp hk h.carry) h.dv).congr fun s _ c _ => part_succ (dvT q k g p) i n s c

end Trip

end Cert.KernelIdeal

end
-- ==== Proof.Blocks.lean ====
/- The key blocks of one grid point: the loop over the blocks before the queries' own, and the masked block. -/
module

public import proofs.«01_k».proof.Proof.Accum

@[expose] public section

set_option maxRecDepth 16384

noncomputable section

namespace Cert.KernelIdeal

open Idealize.ShloMosaic Idealize.ShloMosaic.TcCoe Idealize.SL.Sem
open Cert.Sb
open Gen

section
variable (q k v g : ℕ → ℕ → ℝ) (p : ℕ)
variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v43 : IVec S512x512 32) (v44 : IVec S128x128 32) (v45 : IVec S128x128 32) (v49 : IVec S512x512 32) (v61 : FVec Ideal S512x128 .bf16) (v64 : FVec Ideal S512x128 .bf16) (v67 : FVec Ideal S512x128 .bf16) (v70 : FVec Ideal S512x128 .bf16) (v73 : FVec Ideal S512x512 .f32) (v76 : FVec Ideal S512x512 .f32) (X_arg3 : BufTy.Contents (Elt Ideal) arg3.view.ty) (X_arg4 : BufTy.Contents (Elt Ideal) arg4.view.ty)
  (G_arg10 : BufTy.Contents (Elt Ideal) arg10.view.ty) (G_arg11 : BufTy.Contents (Elt Ideal) arg11.view.ty) (init : Carry Ideal)
  (hp : PointR q k g p (i 1).val v61 v64 v67 v70 v73 v76 (triI v44 v45) (triE v44 v45))
  (hX3 : IsR (m := 2048) (n := 128) (arg3.view.read (Elt Ideal) X_arg3) fun s d => k s (128 * p + d))
  (hX4 : IsR (m := 2048) (n := 128) (arg4.view.read (Elt Ideal) X_arg4) fun s d => v s (128 * p + d))

include hp hX3 hX4 in
/-- The loop over the blocks before the queries' own. -/
theorem loop1 (h0 : LoopR q k v g p (i 1).val 0 init (arg10.view.read (Elt Ideal) G_arg10) (arg11.view.read (Elt Ideal) G_arg11)) :
    ∀ n, n ≤ (i 1).val → LoopR q k v g p (i 1).val n (st_k0_t1 𝒱 c bd i arg2 harg2 arg3 harg3 arg4 harg4 arg5 harg5 arg6 harg6 arg7 harg7 arg8 harg8 arg9 harg9 arg10 harg10 arg11 harg11 v43 v44 v45 v49 v61 v64 v67 v70 v73 v76 X_arg3 X_arg4 G_arg10 G_arg11 init n).1
      (arg10.view.read (Elt Ideal) (arg10.view.writes (Elt Ideal) G_arg10 (st_k0_t1 𝒱 c bd i arg2 harg2 arg3 harg3 arg4 harg4 arg5 harg5 arg6 harg6 arg7 harg7 arg8 harg8 arg9 harg9 arg10 harg10 arg11 harg11 v43 v44 v45 v49 v61 v64 v67 v70 v73 v76 X_arg3 X_arg4 G_arg10 G_arg11 init n).2.1))
      (arg11.view.read (Elt Ideal) (arg11.view.writes (Elt Ideal) G_arg11 (st_k0_t1 𝒱 c bd i arg2 harg2 arg3 harg3 arg4 harg4 arg5 harg5 arg6 harg6 arg7 harg7 arg8 harg8 arg9 harg9 arg10 harg10 arg11 harg11 v43 v44 v45 v49 v61 v64 v67 v70 v73 v76 X_arg3 X_arg4 G_arg10 G_arg11 init n).2.2))
  | 0, _ => h0
  | n + 1, hn => by
    have ih := loop1 h0 n (by omega)
    have hk : n < (k0_t1_loop i).trips := by rw [trips1]; omega
    have hoff : k0_off1 i ⟨n, hk⟩ = ![512 * n, 0] := off1 i ⟨n, hk⟩
    have hs : st_k0_t1 𝒱 c bd i arg2 harg2 arg3 harg3 arg4 harg4 arg5 harg5 arg6 harg6 arg7 harg7 arg8 harg8 arg9 harg9 arg10 harg10 arg11 harg11 v43 v44 v45 v49 v61 v64 v67 v70 v73 v76 X_arg3 X_arg4 G_arg10 G_arg11 init (n + 1) = _ := st_k0_t1_succ (F := Ideal) 𝒱 c bd i arg2 harg2 arg3 harg3 arg4 harg4 arg5 harg5 arg6 harg6 arg7 harg7 arg8 harg8 arg9 harg9 arg10 harg10 arg11 harg11 v43 v44 v45 v49 v61 v64 v67 v70 v73 v76 X_arg3 X_arg4 G_arg10 G_arg11 init ⟨n, hk⟩
    rw [hs, tripR1, tripL1]
    exact trip_loop (keeps_before (by omega)) hp (rows_isR hX3 hoff (k0_off1_inb i ⟨n, hk⟩))
      (rows_isR hX4 hoff (k0_off1_inb i ⟨n, hk⟩)) ih hoff (k0_off1_inb i ⟨n, hk⟩)

include hp hX3 hX4 in
/-- The masked block. -/
theorem loop3 (v41 : BitVec 32) (h41 : v41 = (k0_t3_loop i).lb) (h43 : ∀ r c : Fin 512, v43 (ix2 r c) = BitVec.ofNat 32 c.val) (h49 : ∀ r c : Fin 512, v49 (ix2 r c) = BitVec.ofNat 32 (512 * (i 1).val + r.val))
    (h0 : LoopR q k v g p (i 1).val (i 1).val init (arg10.view.read (Elt Ideal) G_arg10) (arg11.view.read (Elt Ideal) G_arg11)) :
    LoopR q k v g p (i 1).val ((i 1).val + 1) (st_k0_t3 𝒱 c bd i arg2 harg2 arg3 harg3 arg4 harg4 arg5 harg5 arg6 harg6 arg7 harg7 arg8 harg8 arg9 harg9 arg10 harg10 arg11 harg11 v41 v43 v44 v45 v49 v61 v64 v67 v70 v73 v76 X_arg3 X_arg4 G_arg10 G_arg11 init 1).1
      (arg10.view.read (Elt Ideal) (arg10.view.writes (Elt Ideal) G_arg10 (st_k0_t3 𝒱 c bd i arg2 harg2 arg3 harg3 arg4 harg4 arg5 harg5 arg6 harg6 arg7 harg7 arg8 harg8 arg9 harg9 arg10 harg10 arg11 harg11 v41 v43 v44 v45 v49 v61 v64 v67 v70 v73 v76 X_arg3 X_arg4 G_arg10 G_arg11 init 1).2.1))
      (arg11.view.read (Elt Ideal) (arg11.view.writes (Elt Ideal) G_arg11 (st_k0_t3 𝒱 c bd i arg2 harg2 arg3 harg3 arg4 harg4 arg5 harg5 arg6 harg6 arg7 harg7 arg8 harg8 arg9 harg9 arg10 harg10 arg11 harg11 v41 v43 v44 v45 v49 v61 v64 v67 v70 v73 v76 X_arg3 X_arg4 G_arg10 G_arg11 init 1).2.2)) := by
  have hk : 0 < (k0_t3_loop i).trips := by rw [trips3]; omega
  have hoff : k0_off3 i ⟨0, hk⟩ = ![512 * (i 1).val, 0] := off3 i ⟨0, hk⟩
  have hs : st_k0_t3 𝒱 c bd i arg2 harg2 arg3 harg3 arg4 harg4 arg5 harg5 arg6 harg6 arg7 harg7 arg8 harg8 arg9 harg9 arg10 harg10 arg11 harg11 v41 v43 v44 v45 v49 v61 v64 v67 v70 v73 v76 X_arg3 X_arg4 G_arg10 G_arg11 init 1 = _ := st_k0_t3_succ (F := Ideal) 𝒱 c bd i arg2 harg2 arg3 harg3 arg4 harg4 arg5 harg5 arg6 harg6 arg7 harg7 arg8 harg8 arg9 harg9 arg10 harg10 arg11 harg11 v41 v43 v44 v45 v49 v61 v64 v67 v70 v73 v76 X_arg3 X_arg4 G_arg10 G_arg11 init ⟨0, hk⟩
  rw [hs, tripR3, tripL3]
  exact trip_loop (keeps_masked fun r c => (congrFun (congrArg (fun w => k0_pay142 i w v43 v49 1#32 ⟨0, hk⟩) h41) _).trans (mask3 i ⟨0, hk⟩ v43 v49 h43 h49 r c)) hp (rows_isR hX3 hoff (k0_off3_inb i ⟨0, hk⟩))
    (rows_isR hX4 hoff (k0_off3_inb i ⟨0, hk⟩)) h0 hoff (k0_off3_inb i ⟨0, hk⟩)

end

end Cert.KernelIdeal

end
-- ==== Proof.Point.lean ====
/- One grid point as the frame's run leaves it: its stores are the four loops' stores, one after the other. -/
module

public import proofs.«01_k».proof.Proof.Blocks
public import proofs.«01_k».proof.Proof.Gen.KernelIdeal.Frame.RunA
public import proofs.«01_k».proof.Proof.Gen.KernelIdeal.Frame.RunB
public import proofs.«01_k».proof.Proof.Gen.KernelIdeal.Frame.RunC

@[expose] public section

set_option maxRecDepth 16384

noncomputable section

namespace Cert.KernelIdeal

open Idealize.ShloMosaic Idealize.ShloMosaic.TcCoe Idealize.SL.Sem
open Gen

variable {F : FTy → Type} [FloatOps F]

/-- Nothing is carried into the first block. -/
def carry0 : Carry F :=
  (k0_pay1 (Scalar.ofBits .f32 0x00000000#32), k0_pay2 (F := F), k0_pay2 (F := F), k0_pay1 (Scalar.ofBits .f32 0x00000000#32), k0_pay2 (F := F), k0_pay2 (F := F))

section
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec F S512x128 .bf16) (x1 : Vec F S2048x128 .bf16) (x2 : Vec F S2048x128 .bf16) (x3 : Vec F S512x128 .f32) (x4 : Vec F S2x512x128 .f32)

/-- The first loop at a point: what it carries out and its stores into the two accumulators. -/
def seg1 (G10 : BufTy.Contents (Elt F) arg10.view.ty) (G11 : BufTy.Contents (Elt F) arg11.view.ty) (acc : Carry F) :
    Carry F × List (View.Piece (Elt F) S2048x128 .f32) × List (View.Piece (Elt F) S2048x128 .f32) :=
  st_k0_t1 Variants.none c none i arg2 harg2 arg3 harg3 arg4 harg4 arg5 harg5 arg6 harg6 arg7 harg7 arg8 harg8 arg9 harg9 arg10 harg10 arg11 harg11 (iota .tc S512x512 32 [1] iota_S512x512_d1_w32) (iota .tc S128x128 32 [0] iota_S128x128_d0_w32) (iota .tc S128x128 32 [1] iota_S128x128_d1_w32) (k0_pay254 (BitVec.ofNat 32 (i 1).val)) (k0_pay258 (arg2.view.readAt (Elt F) (Rect.unit (s := S512x128) ![0, 0] S512x128.size inb_S512x128_S512x128_0_0).toLoadRect (harg2.unread x0))) (k0_pay259 (arg2.view.readAt (Elt F) (Rect.unit (s := S512x128) ![0, 0] S512x128.size inb_S512x128_S512x128_0_0).toLoadRect (harg2.unread x0))) (k0_pay260 (arg5.view.readAt (Elt F) (Rect.unit (s := S512x128) ![0, 0] S512x128.size inb_S512x128_S512x128_0_0).toLoadRect (harg5.unread x3))) (k0_pay261 (arg5.view.readAt (Elt F) (Rect.unit (s := S512x128) ![0, 0] S512x128.size inb_S512x128_S512x128_0_0).toLoadRect (harg5.unread x3))) (k0_pay262 (arg6.view.readAt (Elt F) (Rect.unit (s := S2x512x128) ![0, 0, 0] S1x512x128.size inb_S2x512x128_S1x512x128_0_0_0).toLoadRect (harg6.unread x4))) (k0_pay263 (arg6.view.readAt (Elt F) (Rect.unit (s := S2x512x128) ![1, 0, 0] S1x512x128.size inb_S2x512x128_S1x512x128_1_0_0).toLoadRect (harg6.unread x4))) (harg3.unread x1) (harg4.unread x2) G10 G11 acc (k0_t1_loop i).trips

/-- The second loop. -/
def seg2 (G10 : BufTy.Contents (Elt F) arg10.view.ty) (G11 : BufTy.Contents (Elt F) arg11.view.ty) (acc : Carry F) :
    Carry F × List (View.Piece (Elt F) S2048x128 .f32) × List (View.Piece (Elt F) S2048x128 .f32) :=
  st_k0_t2 Variants.none c none i arg2 harg2 arg3 harg3 arg4 harg4 arg5 harg5 arg6 harg6 arg7 harg7 arg8 harg8 arg9 harg9 arg10 harg10 arg11 harg11 (iota .tc S512x512 32 [1] iota_S512x512_d1_w32) (iota .tc S128x128 32 [0] iota_S128x128_d0_w32) (iota .tc S128x128 32 [1] iota_S128x128_d1_w32) (k0_pay254 (BitVec.ofNat 32 (i 1).val)) (k0_pay258 (arg2.view.readAt (Elt F) (Rect.unit (s := S512x128) ![0, 0] S512x128.size inb_S512x128_S512x128_0_0).toLoadRect (harg2.unread x0))) (k0_pay259 (arg2.view.readAt (Elt F) (Rect.unit (s := S512x128) ![0, 0] S512x128.size inb_S512x128_S512x128_0_0).toLoadRect (harg2.unread x0))) (k0_pay260 (arg5.view.readAt (Elt F) (Rect.unit (s := S512x128) ![0, 0] S512x128.size inb_S512x128_S512x128_0_0).toLoadRect (harg5.unread x3))) (k0_pay261 (arg5.view.readAt (Elt F) (Rect.unit (s := S512x128) ![0, 0] S512x128.size inb_S512x128_S512x128_0_0).toLoadRect (harg5.unread x3))) (k0_pay262 (arg6.view.readAt (Elt F) (Rect.unit (s := S2x512x128) ![0, 0, 0] S1x512x128.size inb_S2x512x128_S1x512x128_0_0_0).toLoadRect (harg6.unread x4))) (k0_pay263 (arg6.view.readAt (Elt F) (Rect.unit (s := S2x512x128) ![1, 0, 0] S1x512x128.size inb_S2x512x128_S1x512x128_1_0_0).toLoadRect (harg6.unread x4))) (k0_t2_loop i).lb (harg3.unread x1) (harg4.unread x2) G10 G11 acc (k0_t2_loop i).trips

/-- The third loop. -/
def seg3 (G10 : BufTy.Contents (Elt F) arg10.view.ty) (G11 : BufTy.Contents (Elt F) arg11.view.ty) (acc : Carry F) :
    Carry F × List (View.Piece (Elt F) S2048x128 .f32) × List (View.Piece (Elt F) S2048x128 .f32) :=
  st_k0_t3 Variants.none c none i arg2 harg2 arg3 harg3 arg4 harg4 arg5 harg5 arg6 harg6 arg7 harg7 arg8 harg8 arg9 harg9 arg10 harg10 arg11 harg11 (k0_t3_loop i).lb (iota .tc S512x512 32 [1] iota_S512x512_d1_w32) (iota .tc S128x128 32 [0] iota_S128x128_d0_w32) (iota .tc S128x128 32 [1] iota_S128x128_d1_w32) (k0_pay254 (BitVec.ofNat 32 (i 1).val)) (k0_pay258 (arg2.view.readAt (Elt F) (Rect.unit (s := S512x128) ![0, 0] S512x128.size inb_S512x128_S512x128_0_0).toLoadRect (harg2.unread x0))) (k0_pay259 (arg2.view.readAt (Elt F) (Rect.unit (s := S512x128) ![0, 0] S512x128.size inb_S512x128_S512x128_0_0).toLoadRect (harg2.unread x0))) (k0_pay260 (arg5.view.readAt (Elt F) (Rect.unit (s := S512x128) ![0, 0] S512x128.size inb_S512x128_S512x128_0_0).toLoadRect (harg5.unread x3))) (k0_pay261 (arg5.view.readAt (Elt F) (Rect.unit (s := S512x128) ![0, 0] S512x128.size inb_S512x128_S512x128_0_0).toLoadRect (harg5.unread x3))) (k0_pay262 (arg6.view.readAt (Elt F) (Rect.unit (s := S2x512x128) ![0, 0, 0] S1x512x128.size inb_S2x512x128_S1x512x128_0_0_0).toLoadRect (harg6.unread x4))) (k0_pay263 (arg6.view.readAt (Elt F) (Rect.unit (s := S2x512x128) ![1, 0, 0] S1x512x128.size inb_S2x512x128_S1x512x128_1_0_0).toLoadRect (harg6.unread x4))) (harg3.unread x1) (harg4.unread x2) G10 G11 acc (k0_t3_loop i).trips

/-- The fourth loop. -/
def seg4 (G10 : BufTy.Contents (Elt F) arg10.view.ty) (G11 : BufTy.Contents (Elt F) arg11.view.ty) (acc : Carry F) :
    Carry F × List (View.Piece (Elt F) S2048x128 .f32) × List (View.Piece (Elt F) S2048x128 .f32) :=
  st_k0_t4 Variants.none c none i arg2 harg2 arg3 harg3 arg4 harg4 arg5 harg5 arg6 harg6 arg7 harg7 arg8 harg8 arg9 harg9 arg10 harg10 arg11 harg11 (iota .tc S512x512 32 [1] iota_S512x512_d1_w32) (iota .tc S128x128 32 [0] iota_S128x128_d0_w32) (iota .tc S128x128 32 [1] iota_S128x128_d1_w32) (k0_pay254 (BitVec.ofNat 32 (i 1).val)) (k0_pay258 (arg2.view.readAt (Elt F) (Rect.unit (s := S512x128) ![0, 0] S512x128.size inb_S512x128_S512x128_0_0).toLoadRect (harg2.unread x0))) (k0_pay259 (arg2.view.readAt (Elt F) (Rect.unit (s := S512x128) ![0, 0] S512x128.size inb_S512x128_S512x128_0_0).toLoadRect (harg2.unread x0))) (k0_pay260 (arg5.view.readAt (Elt F) (Rect.unit (s := S512x128) ![0, 0] S512x128.size inb_S512x128_S512x128_0_0).toLoadRect (harg5.unread x3))) (k0_pay261 (arg5.view.readAt (Elt F) (Rect.unit (s := S512x128) ![0, 0] S512x128.size inb_S512x128_S512x128_0_0).toLoadRect (harg5.unread x3))) (k0_pay262 (arg6.view.readAt (Elt F) (Rect.unit (s := S2x512x128) ![0, 0, 0] S1x512x128.size inb_S2x512x128_S1x512x128_0_0_0).toLoadRect (harg6.unread x4))) (k0_pay263 (arg6.view.readAt (Elt F) (Rect.unit (s := S2x512x128) ![1, 0, 0] S1x512x128.size inb_S2x512x128_S1x512x128_1_0_0).toLoadRect (harg6.unread x4))) (k0_t4_loop i).lb (harg3.unread x1) (harg4.unread x2) G10 G11 acc (k0_t4_loop i).trips

/-- The four loops over what the accumulators hold at first, `b10` and `b11`, with the stores `P` and `Q` before them. -/
def point (b10 : BufTy.Contents (Elt F) arg10.view.ty) (b11 : BufTy.Contents (Elt F) arg11.view.ty)
    (P Q : List (View.Piece (Elt F) S2048x128 .f32)) (app : List (View.Piece (Elt F) S2048x128 .f32) → List (View.Piece (Elt F) S2048x128 .f32) → List (View.Piece (Elt F) S2048x128 .f32)) :
    Carry F × List (View.Piece (Elt F) S2048x128 .f32) × List (View.Piece (Elt F) S2048x128 .f32) :=
  let s1 := seg1 c i arg2 harg2 arg3 harg3 arg4 harg4 arg5 harg5 arg6 harg6 arg7 harg7 arg8 harg8 arg9 harg9 arg10 harg10 arg11 harg11 x0 x1 x2 x3 x4 (arg10.view.writes (Elt F) b10 P) (arg11.view.writes (Elt F) b11 Q) carry0
  let p1 := app s1.2.1 P
  let q1 := app s1.2.2 Q
  let s2 := seg2 c i arg2 harg2 arg3 harg3 arg4 harg4 arg5 harg5 arg6 harg6 arg7 harg7 arg8 harg8 arg9 harg9 arg10 harg10 arg11 harg11 x0 x1 x2 x3 x4 (arg10.view.writes (Elt F) b10 p1) (arg11.view.writes (Elt F) b11 q1) s1.1
  let p2 := s2.2.1 ++ p1
  let q2 := s2.2.2 ++ q1
  let s3 := seg3 c i arg2 harg2 arg3 harg3 arg4 harg4 arg5 harg5 arg6 harg6 arg7 harg7 arg8 harg8 arg9 harg9 arg10 harg10 arg11 harg11 x0 x1 x2 x3 x4 (arg10.view.writes (Elt F) b10 p2) (arg11.view.writes (Elt F) b11 q2) s2.1
  let p3 := s3.2.1 ++ p2
  let q3 := s3.2.2 ++ q2
  let s4 := seg4 c i arg2 harg2 arg3 harg3 arg4 harg4 arg5 harg5 arg6 harg6 arg7 harg7 arg8 harg8 arg9 harg9 arg10 harg10 arg11 harg11 x0 x1 x2 x3 x4 (arg10.view.writes (Elt F) b10 p3) (arg11.view.writes (Elt F) b11 q3) s3.1
  (s4.1, s4.2.1 ++ p3, s4.2.2 ++ q3)

end

end Cert.KernelIdeal

end
-- ==== Proof.PointReal.lean ====
/- What a grid point's blocks are as real numbers: the two heads' scaled queries and cotangents, the row totals, the
   triangles; and what the accumulators and the carried sums are at the point's end. -/
module

public import proofs.«01_k».proof.Proof.Point

@[expose] public section

set_option maxRecDepth 16384

noncomputable section

namespace Cert.KernelIdeal

open Idealize.ShloMosaic Idealize.ShloMosaic.TcCoe Idealize.SL.Sem
open Cert.Sb
open Gen

theorem pay256_apply (r : Fin 512) (c : Fin 128) : k0_pay256 (ix2 r c) = if c.val < 64 then 1#1 else 0#1 := by
  have := c.isLt
  pointwise [k0_pay256]
  refine (WordCmp.cmpi_slt_ofNat (by norm_num; omega) (by norm_num)).trans ?_
  exact WordCmp.ofBool_decide_eq_ite _

theorem pay257_apply (r : Fin 512) (c : Fin 128) : k0_pay257 (ix2 r c) = if c.val < 64 then 0#1 else 1#1 := by
  pointwise [k0_pay257]
  revert c
  exact (by decide +kernel)

theorem eighth : (Ideal.ofBits .f32 0x3E000000#32 : EReal) = ((0.125 : ℝ) : EReal) := by
  simp [Ideal.ofBits, Ideal.ieee, -EReal.coe_mul]; norm_num

section
variable {x : FVec Ideal S512x128 .bf16} {x' : FVec Ideal S512x128 .f32} {a : ℕ → ℕ → ℝ}

theorem pay258_isR (h : IsR x a) : IsR (k0_pay258 (F := Ideal) x) fun r c => if c < 64 then a r c * 0.125 else 0 := fun r c => by
  pointwise [k0_pay258, k0_pay255]
  rw [pay256_apply, h, eighth]
  split_ifs
  · exact (EReal.coe_mul _ _).symm
  · exact EReal.coe_zero.symm

theorem pay259_isR (h : IsR x a) : IsR (k0_pay259 (F := Ideal) x) fun r c => if c < 64 then 0 else a r c * 0.125 := fun r c => by
  pointwise [k0_pay259, k0_pay255]
  rw [pay257_apply, h, eighth]
  split_ifs
  · exact EReal.coe_zero.symm
  · exact (EReal.coe_mul _ _).symm

theorem pay260_isR (h : IsR x' a) : IsR (k0_pay260 (F := Ideal) x') fun r c => if c < 64 then a r c else 0 := fun r c => by
  pointwise [k0_pay260]
  rw [pay256_apply, h]
  split_ifs
  · rfl
  · exact EReal.coe_zero.symm

theorem pay261_isR (h : IsR x' a) : IsR (k0_pay261 (F := Ideal) x') fun r c => if c < 64 then 0 else a r c := fun r c => by
  pointwise [k0_pay261]
  rw [pay257_apply, h]
  split_ifs
  · exact EReal.coe_zero.symm
  · rfl

end

theorem pay262_isR {x : FVec Ideal S1x512x128 .f32} {a : ℕ → ℝ} (h : ∀ (r : Fin 512) (l : Fin 128), x (ix3 0 r l) = ((a r : ℝ) : EReal)) :
    IsR (k0_pay262 (F := Ideal) x) fun r _ => a r :=
  wide_isR (X := shapeCast S512x128 x shapeCasts_S1x512x128_S512x128) fun r c => by
    pointwise
    exact h r c

theorem pay17_isR {a b : FVec Ideal S512x128 .f32} {f g : ℕ → ℕ → ℝ} (ha : IsR a f) (hb : IsR b g) :
    IsR (k0_pay17 (F := Ideal) k0_pay256 a b) fun r c => (if c < 64 then f r c else g r c) * 0.125 := fun r c => by
  pointwise [k0_pay17]
  rw [pay256_apply, ha, hb, eighth]
  split_ifs
  · exact (EReal.coe_mul _ _).symm
  · exact (EReal.coe_mul _ _).symm

theorem pay254_apply (i : grid0.Coords) (r c : Fin 512) : k0_pay254 (BitVec.ofNat 32 (i 1).val) (ix2 r c) = BitVec.ofNat 32 (512 * (i 1).val + r.val) := by
  pointwise [k0_pay254]
  show BitVec.ofNat 32 (i 1).val * BitVec.ofNat 32 512 + BitVec.ofNat 32 r.val = _
  rw [← BitVec.ofNat_mul, ← BitVec.ofNat_add, mul_comm]

theorem zero2 : (![0, 0] : Fin 2 → ℕ) = fun _ => 0 := by decide

/-- Nothing summed yet. -/
theorem carry0_isR (q k v g : ℕ → ℕ → ℝ) (p i : ℕ) : CarryR q k v g p i 0 carry0 where
  dq0 := zero_isR
  cm0 := zero_isR
  cg0 := zero_isR
  dq1 := zero_isR
  cm1 := zero_isR
  cg1 := zero_isR

section
variable (q k v g : ℕ → ℕ → ℝ) (p : ℕ) (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec Ideal S512x128 .bf16) (x1 : Vec Ideal S2048x128 .bf16) (x2 : Vec Ideal S2048x128 .bf16) (x3 : Vec Ideal S512x128 .f32) (x4 : Vec Ideal S2x512x128 .f32)

/-- The blocks a grid point reads. -/
structure BlocksR : Prop where
  hq : IsR x0 fun r d => q (512 * (i 1).val + r) (128 * p + d)
  hk : IsR x1 fun s d => k s (128 * p + d)
  hv : IsR x2 fun s d => v s (128 * p + d)
  hg : IsR x3 fun r d => g (512 * (i 1).val + r) (128 * p + d)
  st : ∀ (a : Fin 2) (r : Fin 512) (l : Fin 128), x4 (ix3 a r l) = ((ST (Z q k (2 * p + a.val)) (512 * (i 1).val + r.val) : ℝ) : EReal)

variable (h : BlocksR q k v g p i x0 x1 x2 x3 x4)

include h in
theorem pointR : PointR q k g p (i 1).val (k0_pay258 (F := Ideal) (arg2.view.readAt (Elt Ideal) (Rect.unit (s := S512x128) ![0, 0] S512x128.size inb_S512x128_S512x128_0_0).toLoadRect (harg2.unread x0))) (k0_pay259 (arg2.view.readAt (Elt Ideal) (Rect.unit (s := S512x128) ![0, 0] S512x128.size inb_S512x128_S512x128_0_0).toLoadRect (harg2.unread x0))) (k0_pay260 (arg5.view.readAt (Elt Ideal) (Rect.unit (s := S512x128) ![0, 0] S512x128.size inb_S512x128_S512x128_0_0).toLoadRect (harg5.unread x3))) (k0_pay261 (arg5.view.readAt (Elt Ideal) (Rect.unit (s := S512x128) ![0, 0] S512x128.size inb_S512x128_S512x128_0_0).toLoadRect (harg5.unread x3))) (k0_pay262 (arg6.view.readAt (Elt Ideal) (Rect.unit (s := S2x512x128) ![0, 0, 0] S1x512x128.size inb_S2x512x128_S1x512x128_0_0_0).toLoadRect (harg6.unread x4))) (k0_pay263 (arg6.view.readAt (Elt Ideal) (Rect.unit (s := S2x512x128) ![1, 0, 0] S1x512x128.size inb_S2x512x128_S1x512x128_1_0_0).toLoadRect (harg6.unread x4)))
    (triI (iota .tc S128x128 32 [0] iota_S128x128_d0_w32) (iota .tc S128x128 32 [1] iota_S128x128_d1_w32))
    (triE (iota .tc S128x128 32 [0] iota_S128x128_d0_w32) (iota .tc S128x128 32 [1] iota_S128x128_d1_w32)) where
  qa0 := pay258_isR (by rw [View.readAt_eq_ld, harg2.read_unread, View.ld_unit_zero zero2]; exact h.hq)
  qa1 := pay259_isR (by rw [View.readAt_eq_ld, harg2.read_unread, View.ld_unit_zero zero2]; exact h.hq)
  doa0 := pay260_isR (by rw [View.readAt_eq_ld, harg5.read_unread, View.ld_unit_zero zero2]; exact h.hg)
  doa1 := pay261_isR (by rw [View.readAt_eq_ld, harg5.read_unread, View.ld_unit_zero zero2]; exact h.hg)
  sta0 := pay262_isR fun r l => by
    rw [View.readAt_eq_ld, harg6.read_unread]
    pointwise
    exact h.st 0 r l
  sta1 := pay262_isR fun r l => by
    rw [View.readAt_eq_ld, harg6.read_unread]
    pointwise
    exact h.st 1 r l
  ti := triI_apply
  te := triE_apply

theorem seg2_eq (G10 : BufTy.Contents (Elt Ideal) arg10.view.ty) (G11 : BufTy.Contents (Elt Ideal) arg11.view.ty) (acc : Carry Ideal) : seg2 c i arg2 harg2 arg3 harg3 arg4 harg4 arg5 harg5 arg6 harg6 arg7 harg7 arg8 harg8 arg9 harg9 arg10 harg10 arg11 harg11 x0 x1 x2 x3 x4 G10 G11 acc = (acc, [], []) := by
  unfold seg2
  rw [trips2]
  rfl

theorem seg4_eq (G10 : BufTy.Contents (Elt Ideal) arg10.view.ty) (G11 : BufTy.Contents (Elt Ideal) arg11.view.ty) (acc : Carry Ideal) : seg4 c i arg2 harg2 arg3 harg3 arg4 harg4 arg5 harg5 arg6 harg6 arg7 harg7 arg8 harg8 arg9 harg9 arg10 harg10 arg11 harg11 x0 x1 x2 x3 x4 G10 G11 acc = (acc, [], []) := by
  unfold seg4
  rw [trips4]
  rfl

include h in
theorem seg1_loop (G10 : BufTy.Contents (Elt Ideal) arg10.view.ty) (G11 : BufTy.Contents (Elt Ideal) arg11.view.ty) (acc : Carry Ideal)
    (h0 : LoopR q k v g p (i 1).val 0 acc (arg10.view.read (Elt Ideal) G10) (arg11.view.read (Elt Ideal) G11)) :
    LoopR q k v g p (i 1).val (i 1).val (seg1 c i arg2 harg2 arg3 harg3 arg4 harg4 arg5 harg5 arg6 harg6 arg7 harg7 arg8 harg8 arg9 harg9 arg10 harg10 arg11 harg11 x0 x1 x2 x3 x4 G10 G11 acc).1
      (arg10.view.read (Elt Ideal) (arg10.view.writes (Elt Ideal) G10 (seg1 c i arg2 harg2 arg3 harg3 arg4 harg4 arg5 harg5 arg6 harg6 arg7 harg7 arg8 harg8 arg9 harg9 arg10 harg10 arg11 harg11 x0 x1 x2 x3 x4 G10 G11 acc).2.1))
      (arg11.view.read (Elt Ideal) (arg11.view.writes (Elt Ideal) G11 (seg1 c i arg2 harg2 arg3 harg3 arg4 harg4 arg5 harg5 arg6 harg6 arg7 harg7 arg8 harg8 arg9 harg9 arg10 harg10 arg11 harg11 x0 x1 x2 x3 x4 G10 G11 acc).2.2)) := by
  have hp := pointR q k v g p i arg2 harg2 arg5 harg5 arg6 harg6 x0 x1 x2 x3 x4 h
  have h3 : IsR (m := 2048) (n := 128) (arg3.view.read (Elt Ideal) (harg3.unread x1)) fun s d => k s (128 * p + d) := by
    rw [harg3.read_unread]; exact h.hk
  have h4 : IsR (m := 2048) (n := 128) (arg4.view.read (Elt Ideal) (harg4.unread x2)) fun s d => v s (128 * p + d) := by
    rw [harg4.read_unread]; exact h.hv
  unfold seg1
  rw [trips1]
  exact loop1 q k v g p Variants.none c none i arg2 harg2 arg3 harg3 arg4 harg4 arg5 harg5 arg6 harg6 arg7 harg7 arg8 harg8 arg9 harg9 arg10 harg10 arg11 harg11 (iota .tc S512x512 32 [1] iota_S512x512_d1_w32) (iota .tc S128x128 32 [0] iota_S128x128_d0_w32) (iota .tc S128x128 32 [1] iota_S128x128_d1_w32) (k0_pay254 (BitVec.ofNat 32 (i 1).val))
    (k0_pay258 (arg2.view.readAt (Elt Ideal) (Rect.unit (s := S512x128) ![0, 0] S512x128.size inb_S512x128_S512x128_0_0).toLoadRect (harg2.unread x0))) (k0_pay259 (arg2.view.readAt (Elt Ideal) (Rect.unit (s := S512x128) ![0, 0] S512x128.size inb_S512x128_S512x128_0_0).toLoadRect (harg2.unread x0))) (k0_pay260 (arg5.view.readAt (Elt Ideal) (Rect.unit (s := S512x128) ![0, 0] S512x128.size inb_S512x128_S512x128_0_0).toLoadRect (harg5.unread x3))) (k0_pay261 (arg5.view.readAt (Elt Ideal) (Rect.unit (s := S512x128) ![0, 0] S512x128.size inb_S512x128_S512x128_0_0).toLoadRect (harg5.unread x3))) (k0_pay262 (arg6.view.readAt (Elt Ideal) (Rect.unit (s := S2x512x128) ![0, 0, 0] S1x512x128.size inb_S2x512x128_S1x512x128_0_0_0).toLoadRect (harg6.unread x4))) (k0_pay263 (arg6.view.readAt (Elt Ideal) (Rect.unit (s := S2x512x128) ![1, 0, 0] S1x512x128.size inb_S2x512x128_S1x512x128_1_0_0).toLoadRect (harg6.unread x4))) (harg3.unread x1) (harg4.unread x2) G10 G11 acc hp h3 h4 h0 (i 1).val le_rfl

include h in
theorem seg3_loop (G10 : BufTy.Contents (Elt Ideal) arg10.view.ty) (G11 : BufTy.Contents (Elt Ideal) arg11.view.ty) (acc : Carry Ideal)
    (h0 : LoopR q k v g p (i 1).val (i 1).val acc (arg10.view.read (Elt Ideal) G10) (arg11.view.read (Elt Ideal) G11)) :
    LoopR q k v g p (i 1).val ((i 1).val + 1) (seg3 c i arg2 harg2 arg3 harg3 arg4 harg4 arg5 harg5 arg6 harg6 arg7 harg7 arg8 harg8 arg9 harg9 arg10 harg10 arg11 harg11 x0 x1 x2 x3 x4 G10 G11 acc).1
      (arg10.view.read (Elt Ideal) (arg10.view.writes (Elt Ideal) G10 (seg3 c i arg2 harg2 arg3 harg3 arg4 harg4 arg5 harg5 arg6 harg6 arg7 harg7 arg8 harg8 arg9 harg9 arg10 harg10 arg11 harg11 x0 x1 x2 x3 x4 G10 G11 acc).2.1))
      (arg11.view.read (Elt Ideal) (arg11.view.writes (Elt Ideal) G11 (seg3 c i arg2 harg2 arg3 harg3 arg4 harg4 arg5 harg5 arg6 harg6 arg7 harg7 arg8 harg8 arg9 harg9 arg10 harg10 arg11 harg11 x0 x1 x2 x3 x4 G10 G11 acc).2.2)) := by
  have hp := pointR q k v g p i arg2 harg2 arg5 harg5 arg6 harg6 x0 x1 x2 x3 x4 h
  have h3 : IsR (m := 2048) (n := 128) (arg3.view.read (Elt Ideal) (harg3.unread x1)) fun s d => k s (128 * p + d) := by
    rw [harg3.read_unread]; exact h.hk
  have h4 : IsR (m := 2048) (n := 128) (arg4.view.read (Elt Ideal) (harg4.unread x2)) fun s d => v s (128 * p + d) := by
    rw [harg4.read_unread]; exact h.hv
  unfold seg3
  rw [trips3]
  exact loop3 q k v g p Variants.none c none i arg2 harg2 arg3 harg3 arg4 harg4 arg5 harg5 arg6 harg6 arg7 harg7 arg8 harg8 arg9 harg9 arg10 harg10 arg11 harg11 (iota .tc S512x512 32 [1] iota_S512x512_d1_w32) (iota .tc S128x128 32 [0] iota_S128x128_d0_w32) (iota .tc S128x128 32 [1] iota_S128x128_d1_w32) (k0_pay254 (BitVec.ofNat 32 (i 1).val))
    (k0_pay258 (arg2.view.readAt (Elt Ideal) (Rect.unit (s := S512x128) ![0, 0] S512x128.size inb_S512x128_S512x128_0_0).toLoadRect (harg2.unread x0))) (k0_pay259 (arg2.view.readAt (Elt Ideal) (Rect.unit (s := S512x128) ![0, 0] S512x128.size inb_S512x128_S512x128_0_0).toLoadRect (harg2.unread x0))) (k0_pay260 (arg5.view.readAt (Elt Ideal) (Rect.unit (s := S512x128) ![0, 0] S512x128.size inb_S512x128_S512x128_0_0).toLoadRect (harg5.unread x3))) (k0_pay261 (arg5.view.readAt (Elt Ideal) (Rect.unit (s := S512x128) ![0, 0] S512x128.size inb_S512x128_S512x128_0_0).toLoadRect (harg5.unread x3))) (k0_pay262 (arg6.view.readAt (Elt Ideal) (Rect.unit (s := S2x512x128) ![0, 0, 0] S1x512x128.size inb_S2x512x128_S1x512x128_0_0_0).toLoadRect (harg6.unread x4))) (k0_pay263 (arg6.view.readAt (Elt Ideal) (Rect.unit (s := S2x512x128) ![1, 0, 0] S1x512x128.size inb_S2x512x128_S1x512x128_1_0_0).toLoadRect (harg6.unread x4))) (harg3.unread x1) (harg4.unread x2) G10 G11 acc hp h3 h4 (k0_t3_loop i).lb rfl (fun r c => by pointwise) (pay254_apply i) h0

include h in
/-- The four loops of a point: every key block up to the queries' own has its contribution. -/
theorem point_loop (b10 : BufTy.Contents (Elt Ideal) arg10.view.ty) (b11 : BufTy.Contents (Elt Ideal) arg11.view.ty)
    (P Q : List (View.Piece (Elt Ideal) S2048x128 .f32)) (app : List (View.Piece (Elt Ideal) S2048x128 .f32) → List (View.Piece (Elt Ideal) S2048x128 .f32) → List (View.Piece (Elt Ideal) S2048x128 .f32))
    (hP : ∀ s, arg10.view.writes (Elt Ideal) b10 (app s P) = arg10.view.writes (Elt Ideal) (arg10.view.writes (Elt Ideal) b10 P) s)
    (hQ : ∀ s, arg11.view.writes (Elt Ideal) b11 (app s Q) = arg11.view.writes (Elt Ideal) (arg11.view.writes (Elt Ideal) b11 Q) s)
    (h10 : IsR (m := 2048) (n := 128) (arg10.view.read (Elt Ideal) (arg10.view.writes (Elt Ideal) b10 P)) (part (dkT q k v g p) (i 1).val 0))
    (h11 : IsR (m := 2048) (n := 128) (arg11.view.read (Elt Ideal) (arg11.view.writes (Elt Ideal) b11 Q)) (part (dvT q k g p) (i 1).val 0)) :
    LoopR q k v g p (i 1).val ((i 1).val + 1) (point c i arg2 harg2 arg3 harg3 arg4 harg4 arg5 harg5 arg6 harg6 arg7 harg7 arg8 harg8 arg9 harg9 arg10 harg10 arg11 harg11 x0 x1 x2 x3 x4 b10 b11 P Q app).1
      (arg10.view.read (Elt Ideal) (arg10.view.writes (Elt Ideal) b10 (point c i arg2 harg2 arg3 harg3 arg4 harg4 arg5 harg5 arg6 harg6 arg7 harg7 arg8 harg8 arg9 harg9 arg10 harg10 arg11 harg11 x0 x1 x2 x3 x4 b10 b11 P Q app).2.1))
      (arg11.view.read (Elt Ideal) (arg11.view.writes (Elt Ideal) b11 (point c i arg2 harg2 arg3 harg3 arg4 harg4 arg5 harg5 arg6 harg6 arg7 harg7 arg8 harg8 arg9 harg9 arg10 harg10 arg11 harg11 x0 x1 x2 x3 x4 b10 b11 P Q app).2.2)) := by
  unfold point
  dsimp only
  rw [seg4_eq, seg2_eq]
  have e1 := seg1_loop q k v g p c i arg2 harg2 arg3 harg3 arg4 harg4 arg5 harg5 arg6 harg6 arg7 harg7 arg8 harg8 arg9 harg9 arg10 harg10 arg11 harg11 x0 x1 x2 x3 x4 h (arg10.view.writes (Elt Ideal) b10 P) (arg11.view.writes (Elt Ideal) b11 Q) carry0
    ⟨carry0_isR q k v g p _, h10, h11⟩
  rw [← hP, ← hQ] at e1
  have e3 := seg3_loop q k v g p c i arg2 harg2 arg3 harg3 arg4 harg4 arg5 harg5 arg6 harg6 arg7 harg7 arg8 harg8 arg9 harg9 arg10 harg10 arg11 harg11 x0 x1 x2 x3 x4 h _ _ _ e1
  rw [← View.writes_append, ← View.writes_append] at e3
  simp only [List.nil_append]
  exact e3

end

end Cert.KernelIdeal

end
-- ==== Proof.PointRuns.lean ====
/- What the frame's run of a grid point stores, in each of its three cases: the stores of `point`. -/
module

public import proofs.«01_k».proof.Proof.Point

@[expose] public section

set_option maxRecDepth 65536

noncomputable section

namespace Cert.KernelIdeal

open Idealize.ShloMosaic Idealize.ShloMosaic.TcCoe Idealize.SL.Sem
open Gen

variable {F : FTy → Type} [FloatOps F]
section
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec F S512x128 .bf16) (x1 : Vec F S2048x128 .bf16) (x2 : Vec F S2048x128 .bf16) (x3 : Vec F S512x128 .f32) (x4 : Vec F S2x512x128 .f32)

theorem runB_s0 (hc0 : ¬cond0_0 i) (hc1 : ¬cond0_1 i) (xs0 : Vec F S2048x128 .f32) (xs1 : Vec F S2048x128 .f32) : (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.1 = (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.1 := by sl_kernel_rfl

theorem runB_s1 (hc0 : ¬cond0_0 i) (hc1 : ¬cond0_1 i) (xs0 : Vec F S2048x128 .f32) (xs1 : Vec F S2048x128 .f32) : (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 = (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.2 := by sl_kernel_rfl

theorem runB_5 (hc0 : ¬cond0_0 i) (hc1 : ¬cond0_1 i) (xs0 : Vec F S2048x128 .f32) (xs1 : Vec F S2048x128 .f32) : (kernelRun0_B c i arg2 harg2 arg3 harg3 arg4 harg4 arg5 harg5 arg6 harg6 arg7 harg7 arg8 harg8 arg9 harg9 arg10 harg10 arg11 harg11 hc0 hc1 x0 x1 x2 x3 x4 xs0 xs1).1 =
    [⟨Rect.unit (s := S512x128) ![0, 0] S512x128.size inb_S512x128_S512x128_0_0, k0_pay17 k0_pay256 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.1 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.2.2.2.1⟩] := by sl_kernel_rfl

theorem runC_s0 (hc0 : ¬cond0_0 i) (hc1 : cond0_1 i) (xs0 : Vec F S2048x128 .f32) (xs1 : Vec F S2048x128 .f32) : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.1 = (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.1 := by sl_kernel_rfl

theorem runC_s1 (hc0 : ¬cond0_0 i) (hc1 : cond0_1 i) (xs0 : Vec F S2048x128 .f32) (xs1 : Vec F S2048x128 .f32) : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 = (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.2 := by sl_kernel_rfl

theorem runC_5 (hc0 : ¬cond0_0 i) (hc1 : cond0_1 i) (xs0 : Vec F S2048x128 .f32) (xs1 : Vec F S2048x128 .f32) : (kernelRun0_C c i arg2 harg2 arg3 harg3 arg4 harg4 arg5 harg5 arg6 harg6 arg7 harg7 arg8 harg8 arg9 harg9 arg10 harg10 arg11 harg11 hc0 hc1 x0 x1 x2 x3 x4 xs0 xs1).1 =
    [⟨Rect.unit (s := S512x128) ![0, 0] S512x128.size inb_S512x128_S512x128_0_0, k0_pay17 k0_pay256 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.1 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.2.2.2.1⟩] := by sl_kernel_rfl

theorem runC_6 (hc0 : ¬cond0_0 i) (hc1 : cond0_1 i) (xs0 : Vec F S2048x128 .f32) (xs1 : Vec F S2048x128 .f32) : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.1 =
    [⟨Rect.unit (s := S2048x128) ![0, 0] S2048x128.size inb_S2048x128_S2048x128_0_0, k0_pay18 (arg10.view.readAt (Elt F) (Rect.unit (s := S2048x128) ![0, 0] S2048x128.size inb_S2048x128_S2048x128_0_0).toLoadRect (arg10.view.writes (Elt F) (harg10.unread xs0) (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.1))⟩] := by sl_kernel_rfl

theorem runC_7 (hc0 : ¬cond0_0 i) (hc1 : cond0_1 i) (xs0 : Vec F S2048x128 .f32) (xs1 : Vec F S2048x128 .f32) : (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.1 =
    [⟨Rect.unit (s := S2048x128) ![0, 0] S2048x128.size inb_S2048x128_S2048x128_0_0, k0_pay19 (arg11.view.readAt (Elt F) (Rect.unit (s := S2048x128) ![0, 0] S2048x128.size inb_S2048x128_S2048x128_0_0).toLoadRect (arg11.view.writes (Elt F) (harg11.unread xs1) (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.2))⟩] := by sl_kernel_rfl

/-- The accumulators' first stores at a pair's first point. -/
def zero10 : List (View.Piece (Elt F) S2048x128 .f32) := [⟨Rect.unit (s := S2048x128) ![0, 0] S2048x128.size inb_S2048x128_S2048x128_0_0, k0_pay252 (F := F)⟩]
@[inherit_doc zero10] def zero11 : List (View.Piece (Elt F) S2048x128 .f32) := [⟨Rect.unit (s := S2048x128) ![0, 0] S2048x128.size inb_S2048x128_S2048x128_0_0, k0_pay253 (F := F)⟩]

theorem runA_s0 (hc0 : cond0_0 i) (hc1 : ¬cond0_1 i) : (kernelRun0_A c i arg2 harg2 arg3 harg3 arg4 harg4 arg5 harg5 arg6 harg6 arg7 harg7 arg8 harg8 arg9 harg9 arg10 harg10 arg11 harg11 hc0 hc1 x0 x1 x2 x3 x4).2.2.2.1 = (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).2.1 := by sl_kernel_rfl

theorem runA_s1 (hc0 : cond0_0 i) (hc1 : ¬cond0_1 i) : (kernelRun0_A c i arg2 harg2 arg3 harg3 arg4 harg4 arg5 harg5 arg6 harg6 arg7 harg7 arg8 harg8 arg9 harg9 arg10 harg10 arg11 harg11 hc0 hc1 x0 x1 x2 x3 x4).2.2.2.2.1 = (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).2.2 := by sl_kernel_rfl

theorem runA_5 (hc0 : cond0_0 i) (hc1 : ¬cond0_1 i) : (kernelRun0_A c i arg2 harg2 arg3 harg3 arg4 harg4 arg5 harg5 arg6 harg6 arg7 harg7 arg8 harg8 arg9 harg9 arg10 harg10 arg11 harg11 hc0 hc1 x0 x1 x2 x3 x4).1 =
    [⟨Rect.unit (s := S512x128) ![0, 0] S512x128.size inb_S512x128_S512x128_0_0, k0_pay17 k0_pay256 (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).1.1 (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).1.2.2.2.1⟩] := by sl_kernel_rfl

end

end Cert.KernelIdeal

end
-- ==== Proof.Cases.lean ====
/- What a grid point leaves, in each of its three cases: its block of the gradient of `q`, and the two accumulators. -/
module

public import proofs.«01_k».proof.Proof.PointReal
public import proofs.«01_k».proof.Proof.PointRuns
public import proofs.«01_k».proof.Proof.Gen.KernelIdeal.Frame

@[expose] public section

set_option maxRecDepth 16384

noncomputable section

namespace Cert.KernelIdeal

open Idealize.ShloMosaic Idealize.ShloMosaic.TcCoe Idealize.SL.Sem
open Cert.Sb
open Gen

theorem read_one {s : Shape} {e : EltTy} (v : View sig .tc .vmem s e) {off : Fin s.rank → ℕ} {inb : ∀ a, off a + s.size a ≤ s.size a} {w : s.Idx → Elt Ideal e}
    {L : List (View.Piece (Elt Ideal) s e)} (h : L = [⟨Rect.unit off s.size inb, w⟩]) (h0 : off = fun _ => 0 := by exact zero2) : v.read (Elt Ideal) (v.writes (Elt Ideal) v.junk L) = w := by
  subst h; rw [View.read_writes_junk_eq_canon]; exact View.canon_unit_zero h0 _ _

theorem read_junk {s : Shape} {e : EltTy} (v v' : View sig .tc .vmem s e) {L L' : List (View.Piece (Elt Ideal) s e)} (h : L = L') :
    v.read (Elt Ideal) (v.writes (Elt Ideal) v.junk L) = v'.read (Elt Ideal) (v'.writes (Elt Ideal) v'.junk L') := by
  subst h; rw [View.read_writes_junk_eq_canon, View.read_writes_junk_eq_canon]

theorem read_same {s : Shape} {e : EltTy} (v : View sig .tc .vmem s e) (f : v.ty.Contents (Elt Ideal)) {L L' : List (View.Piece (Elt Ideal) s e)} (h : L = L') :
    v.read (Elt Ideal) (v.writes (Elt Ideal) f L) = v.read (Elt Ideal) (v.writes (Elt Ideal) f L') := by
  subst h; rfl

section
variable (q k v g : ℕ → ℕ → ℝ) (p i : ℕ)

/-- What is left after query block `i`: its rows of the gradient of `q`; in the accumulators every query up to its end. -/
structure LeftR (dq : FVec Ideal S512x128 .bf16) (dk dv : FVec Ideal S2048x128 .f32) : Prop where
  dq : IsR dq fun r c => DQ q k v g (512 * i + r) (128 * p + c)
  dk : IsR dk fun s c => pre (dkT q k v g p s c) (512 * (i + 1))
  dv : IsR dv fun s c => pre (dvT q k g p s c) (512 * (i + 1))

theorem dq_row {i r n : ℕ} (hr : r < 512) (hi : i < 4) (h : ℕ) (c : ℕ) :
    pre (fun s => DZ (Z q k h) (DP g v h) (512 * i + r) s * k s c) (512 * (i + 1)) = pre (fun s => DZ (Z q k h) (DP g v h) (512 * i + r) s * k s c) 2048 :=
  (pre_of_zero _ (by omega) fun s hs => by unfold DZ; rw [if_neg (by omega), zero_mul]).symm

variable {q k v g p i}

theorem LoopR.left (hi : i < 4) {acc : Carry Ideal} {dk dv : FVec Ideal S2048x128 .f32} (h : LoopR q k v g p i (i + 1) acc dk dv) :
    LeftR q k v g p i (k0_pay17 k0_pay256 acc.1 acc.2.2.2.1) dk dv where
  dq := (pay17_isR h.carry.dq0 h.carry.dq1).congr fun r hr c hc => by
    unfold DQ
    rw [dq_row q k v g (n := 0) hr hi, dq_row q k v g (n := 0) hr hi]
    by_cases h : c < 64
    · rw [if_pos h, head_of_lt p h]
    · rw [if_neg h, head_of_ge p h hc]
  dk := h.dk.congr fun s _ c _ => part_end _ (dkT_zero q k v g p) i s c
  dv := h.dv.congr fun s _ c _ => part_end _ (dvT_zero q k g p) i s c

theorem LeftR.of {dq dq' : FVec Ideal S512x128 .bf16} {dk dk' dv dv' : FVec Ideal S2048x128 .f32} (h : LeftR q k v g p i dq dk dv)
    (e : dq' = dq) (e0 : dk' = dk) (e1 : dv' = dv) : LeftR q k v g p i dq' dk' dv' := by
  subst e e0 e1; exact h

end

section
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec Ideal S512x128 .bf16) (x1 : Vec Ideal S2048x128 .bf16) (x2 : Vec Ideal S2048x128 .bf16) (x3 : Vec Ideal S512x128 .f32) (x4 : Vec Ideal S2x512x128 .f32)

theorem outA_5 (hc0 : cond0_0 i) (hc1 : ¬cond0_1 i) : out0_A_5 c i arg2 harg2 arg3 harg3 arg4 harg4 arg5 harg5 arg6 harg6 arg7 harg7 arg8 harg8 arg9 harg9 arg10 harg10 arg11 harg11 hc0 hc1 x0 x1 x2 x3 x4 = k0_pay17 k0_pay256 (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).1.1 (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).1.2.2.2.1 := by
  unfold out0_A_5
  exact read_one VO0_5 (runA_5 c i arg2 harg2 arg3 harg3 arg4 harg4 arg5 harg5 arg6 harg6 arg7 harg7 arg8 harg8 arg9 harg9 arg10 harg10 arg11 harg11 x0 x1 x2 x3 x4 hc0 hc1)

theorem soutA_0 (hc0 : cond0_0 i) (hc1 : ¬cond0_1 i) : sout0_A_0 c i arg2 harg2 arg3 harg3 arg4 harg4 arg5 harg5 arg6 harg6 arg7 harg7 arg8 harg8 arg9 harg9 arg10 harg10 arg11 harg11 hc0 hc1 x0 x1 x2 x3 x4 = arg10.view.read (Elt Ideal) (arg10.view.writes (Elt Ideal) arg10.view.junk (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).2.1) := by
  unfold sout0_A_0
  exact read_junk VS0_0 arg10.view (runA_s0 c i arg2 harg2 arg3 harg3 arg4 harg4 arg5 harg5 arg6 harg6 arg7 harg7 arg8 harg8 arg9 harg9 arg10 harg10 arg11 harg11 x0 x1 x2 x3 x4 hc0 hc1)

theorem soutA_1 (hc0 : cond0_0 i) (hc1 : ¬cond0_1 i) : sout0_A_1 c i arg2 harg2 arg3 harg3 arg4 harg4 arg5 harg5 arg6 harg6 arg7 harg7 arg8 harg8 arg9 harg9 arg10 harg10 arg11 harg11 hc0 hc1 x0 x1 x2 x3 x4 = arg11.view.read (Elt Ideal) (arg11.view.writes (Elt Ideal) arg11.view.junk (point c i arg2 harg2 arg3 harg3 arg4 harg4 arg5 harg5 arg6 harg6 arg7 harg7 arg8 harg8 arg9 harg9 arg10 harg10 arg11 harg11 x0 x1 x2 x3 x4 arg10.view.junk arg11.view.junk zero10 zero11 (fun s P => s ++ P)).2.2) := by
  unfold sout0_A_1
  exact read_junk VS0_1 arg11.view (runA_s1 c i arg2 harg2 arg3 harg3 arg4 harg4 arg5 harg5 arg6 harg6 arg7 harg7 arg8 harg8 arg9 harg9 arg10 harg10 arg11 harg11 x0 x1 x2 x3 x4 hc0 hc1)

theorem outB_5 (hc0 : ¬cond0_0 i) (hc1 : ¬cond0_1 i) (xs0 : Vec Ideal S2048x128 .f32) (xs1 : Vec Ideal S2048x128 .f32) : out0_B_5 c i arg2 harg2 arg3 harg3 arg4 harg4 arg5 harg5 arg6 harg6 arg7 harg7 arg8 harg8 arg9 harg9 arg10 harg10 arg11 harg11 hc0 hc1 x0 x1 x2 x3 x4 xs0 xs1 = k0_pay17 k0_pay256 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.1 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.2.2.2.1 := by
  unfold out0_B_5
  exact read_one VO0_5 (runB_5 c i arg2 harg2 arg3 harg3 arg4 harg4 arg5 harg5 arg6 harg6 arg7 harg7 arg8 harg8 arg9 harg9 arg10 harg10 arg11 harg11 x0 x1 x2 x3 x4 hc0 hc1 xs0 xs1)

theorem soutB_0 (hc0 : ¬cond0_0 i) (hc1 : ¬cond0_1 i) (xs0 : Vec Ideal S2048x128 .f32) (xs1 : Vec Ideal S2048x128 .f32) : sout0_B_0 c i arg2 harg2 arg3 harg3 arg4 harg4 arg5 harg5 arg6 harg6 arg7 harg7 arg8 harg8 arg9 harg9 arg10 harg10 arg11 harg11 hc0 hc1 x0 x1 x2 x3 x4 xs0 xs1 = arg10.view.read (Elt Ideal) (arg10.view.writes (Elt Ideal) (harg10.unread xs0) (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.1) := by
  unfold sout0_B_0
  exact read_same arg10.view _ (runB_s0 c i arg2 harg2 arg3 harg3 arg4 harg4 arg5 harg5 arg6 harg6 arg7 harg7 arg8 harg8 arg9 harg9 arg10 harg10 arg11 harg11 x0 x1 x2 x3 x4 hc0 hc1 xs0 xs1)

theorem soutB_1 (hc0 : ¬cond0_0 i) (hc1 : ¬cond0_1 i) (xs0 : Vec Ideal S2048x128 .f32) (xs1 : Vec Ideal S2048x128 .f32) : sout0_B_1 c i arg2 harg2 arg3 harg3 arg4 harg4 arg5 harg5 arg6 harg6 arg7 harg7 arg8 harg8 arg9 harg9 arg10 harg10 arg11 harg11 hc0 hc1 x0 x1 x2 x3 x4 xs0 xs1 = arg11.view.read (Elt Ideal) (arg11.view.writes (Elt Ideal) (harg11.unread xs1) (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.2) := by
  unfold sout0_B_1
  exact read_same arg11.view _ (runB_s1 c i arg2 harg2 arg3 harg3 arg4 harg4 arg5 harg5 arg6 harg6 arg7 harg7 arg8 harg8 arg9 harg9 arg10 harg10 arg11 harg11 x0 x1 x2 x3 x4 hc0 hc1 xs0 xs1)

theorem outC_5 (hc0 : ¬cond0_0 i) (hc1 : cond0_1 i) (xs0 : Vec Ideal S2048x128 .f32) (xs1 : Vec Ideal S2048x128 .f32) : out0_C_5 c i arg2 harg2 arg3 harg3 arg4 harg4 arg5 harg5 arg6 harg6 arg7 harg7 arg8 harg8 arg9 harg9 arg10 harg10 arg11 harg11 hc0 hc1 x0 x1 x2 x3 x4 xs0 xs1 = k0_pay17 k0_pay256 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.1 (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).1.2.2.2.1 := by
  unfold out0_C_5
  exact read_one VO0_5 (runC_5 c i arg2 harg2 arg3 harg3 arg4 harg4 arg5 harg5 arg6 harg6 arg7 harg7 arg8 harg8 arg9 harg9 arg10 harg10 arg11 harg11 x0 x1 x2 x3 x4 hc0 hc1 xs0 xs1)

theorem soutC_0 (hc0 : ¬cond0_0 i) (hc1 : cond0_1 i) (xs0 : Vec Ideal S2048x128 .f32) (xs1 : Vec Ideal S2048x128 .f32) : sout0_C_0 c i arg2 harg2 arg3 harg3 arg4 harg4 arg5 harg5 arg6 harg6 arg7 harg7 arg8 harg8 arg9 harg9 arg10 harg10 arg11 harg11 hc0 hc1 x0 x1 x2 x3 x4 xs0 xs1 = arg10.view.read (Elt Ideal) (arg10.view.writes (Elt Ideal) (harg10.unread xs0) (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.1) := by
  unfold sout0_C_0
  exact read_same arg10.view _ (runC_s0 c i arg2 harg2 arg3 harg3 arg4 harg4 arg5 harg5 arg6 harg6 arg7 harg7 arg8 harg8 arg9 harg9 arg10 harg10 arg11 harg11 x0 x1 x2 x3 x4 hc0 hc1 xs0 xs1)

theorem soutC_1 (hc0 : ¬cond0_0 i) (hc1 : cond0_1 i) (xs0 : Vec Ideal S2048x128 .f32) (xs1 : Vec Ideal S2048x128 .f32) : sout0_C_1 c i arg2 harg2 arg3 harg3 arg4 harg4 arg5 harg5 arg6 harg6 arg7 harg7 arg8 harg8 arg9 harg9 arg10 harg10 arg11 harg11 hc0 hc1 x0 x1 x2 x3 x4 xs0 xs1 = arg11.view.read (Elt Ideal) (arg11.view.writes (Elt Ideal) (harg11.unread xs1) (point c i arg2 harg2 arg3 harg3 arg4 harg4 arg5 harg5 arg6 harg6 arg7 harg7 arg8 harg8 arg9 harg9 arg10 harg10 arg11 harg11 x0 x1 x2 x3 x4 (harg10.unread xs0) (harg11.unread xs1) [] [] (fun s _ => s)).2.2) := by
  unfold sout0_C_1
  exact read_same arg11.view _ (runC_s1 c i arg2 harg2 arg3 harg3 arg4 harg4 arg5 harg5 arg6 harg6 arg7 harg7 arg8 harg8 arg9 harg9 arg10 harg10 arg11 harg11 x0 x1 x2 x3 x4 hc0 hc1 xs0 xs1)

theorem outC_6 (hc0 : ¬cond0_0 i) (hc1 : cond0_1 i) (xs0 : Vec Ideal S2048x128 .f32) (xs1 : Vec Ideal S2048x128 .f32) : out0_C_6 c i arg2 harg2 arg3 harg3 arg4 harg4 arg5 harg5 arg6 harg6 arg7 harg7 arg8 harg8 arg9 harg9 arg10 harg10 arg11 harg11 hc0 hc1 x0 x1 x2 x3 x4 xs0 xs1 = k0_pay18 (sout0_C_0 c i arg2 harg2 arg3 harg3 arg4 harg4 arg5 harg5 arg6 harg6 arg7 harg7 arg8 harg8 arg9 harg9 arg10 harg10 arg11 harg11 hc0 hc1 x0 x1 x2 x3 x4 xs0 xs1) := by
  rw [soutC_0]
  unfold out0_C_6
  refine (read_one VO0_6 (runC_6 c i arg2 harg2 arg3 harg3 arg4 harg4 arg5 harg5 arg6 harg6 arg7 harg7 arg8 harg8 arg9 harg9 arg10 harg10 arg11 harg11 x0 x1 x2 x3 x4 hc0 hc1 xs0 xs1)).trans ?_
  rw [View.readAt_eq_ld, View.ld_unit_zero zero2]

theorem outC_7 (hc0 : ¬cond0_0 i) (hc1 : cond0_1 i) (xs0 : Vec Ideal S2048x128 .f32) (xs1 : Vec Ideal S2048x128 .f32) : out0_C_7 c i arg2 harg2 arg3 harg3 arg4 harg4 arg5 harg5 arg6 harg6 arg7 harg7 arg8 harg8 arg9 harg9 arg10 harg10 arg11 harg11 hc0 hc1 x0 x1 x2 x3 x4 xs0 xs1 = k0_pay19 (sout0_C_1 c i arg2 harg2 arg3 harg3 arg4 harg4 arg5 harg5 arg6 harg6 arg7 harg7 arg8 harg8 arg9 harg9 arg10 harg10 arg11 harg11 hc0 hc1 x0 x1 x2 x3 x4 xs0 xs1) := by
  rw [soutC_1]
  unfold out0_C_7
  refine (read_one VO0_7 (runC_7 c i arg2 harg2 arg3 harg3 arg4 harg4 arg5 harg5 arg6 harg6 arg7 harg7 arg8 harg8 arg9 harg9 arg10 harg10 arg11 harg11 x0 x1 x2 x3 x4 hc0 hc1 xs0 xs1)).trans ?_
  rw [View.readAt_eq_ld, View.ld_unit_zero zero2]

end

section
variable {q k v g : ℕ → ℕ → ℝ} {p : ℕ} (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (x0 : Vec Ideal S512x128 .bf16) (x1 : Vec Ideal S2048x128 .bf16) (x2 : Vec Ideal S2048x128 .bf16) (x3 : Vec Ideal S512x128 .f32) (x4 : Vec Ideal S2x512x128 .f32) (h : BlocksR q k v g p i x0 x1 x2 x3 x4)

include h in
theorem leftB (hc0 : ¬cond0_0 i) (hc1 : ¬cond0_1 i) (xs0 : Vec Ideal S2048x128 .f32) (xs1 : Vec Ideal S2048x128 .f32) (hs0 : IsR xs0 fun s c => pre (dkT q k v g p s c) (512 * (i 1).val)) (hs1 : IsR xs1 fun s c => pre (dvT q k g p s c) (512 * (i 1).val)) :
    LeftR q k v g p (i 1).val (out0_B_5 c i arg2 harg2 arg3 harg3 arg4 harg4 arg5 harg5 arg6 harg6 arg7 harg7 arg8 harg8 arg9 harg9 arg10 harg10 arg11 harg11 hc0 hc1 x0 x1 x2 x3 x4 xs0 xs1) (sout0_B_0 c i arg2 harg2 arg3 harg3 arg4 harg4 arg5 harg5 arg6 harg6 arg7 harg7 arg8 harg8 arg9 harg9 arg10 harg10 arg11 harg11 hc0 hc1 x0 x1 x2 x3 x4 xs0 xs1) (sout0_B_1 c i arg2 harg2 arg3 harg3 arg4 harg4 arg5 harg5 arg6 harg6 arg7 harg7 arg8 harg8 arg9 harg9 arg10 harg10 arg11 harg11 hc0 hc1 x0 x1 x2 x3 x4 xs0 xs1) := by
  have h1 := (point_loop q k v g p c i arg2 harg2 arg3 harg3 arg4 harg4 arg5 harg5 arg6 harg6 arg7 harg7 arg8 harg8 arg9 harg9 arg10 harg10 arg11 harg11 x0 x1 x2 x3 x4 h (harg10.unread xs0) (harg11.unread xs1) [] [] (fun s _ => s) (fun _ => rfl) (fun _ => rfl)
    (IsR.congr (m := 2048) (n := 128) (x := fun s c => pre (dkT q k v g p s c) (512 * (i 1).val)) (by show IsR (m := 2048) (n := 128) (arg10.view.read (Elt Ideal) (harg10.unread xs0)) _; rw [harg10.read_unread]; exact hs0) fun s _ c _ => (part_zero _ _ _ _).symm)
    (IsR.congr (m := 2048) (n := 128) (x := fun s c => pre (dvT q k g p s c) (512 * (i 1).val)) (by show IsR (m := 2048) (n := 128) (arg11.view.read (Elt Ideal) (harg11.unread xs1)) _; rw [harg11.read_unread]; exact hs1) fun s _ c _ => (part_zero _ _ _ _).symm)).left (i 1).isLt
  exact h1.of (outB_5 c i arg2 harg2 arg3 harg3 arg4 harg4 arg5 harg5 arg6 harg6 arg7 harg7 arg8 harg8 arg9 harg9 arg10 harg10 arg11 harg11 x0 x1 x2 x3 x4 hc0 hc1 xs0 xs1) (soutB_0 c i arg2 harg2 arg3 harg3 arg4 harg4 arg5 harg5 arg6 harg6 arg7 harg7 arg8 harg8 arg9 harg9 arg10 harg10 arg11 harg11 x0 x1 x2 x3 x4 hc0 hc1 xs0 xs1) (soutB_1 c i arg2 harg2 arg3 harg3 arg4 harg4 arg5 harg5 arg6 harg6 arg7 harg7 arg8 harg8 arg9 harg9 arg10 harg10 arg11 harg11 x0 x1 x2 x3 x4 hc0 hc1 xs0 xs1)

include h in
theorem leftC (hc0 : ¬cond0_0 i) (hc1 : cond0_1 i) (xs0 : Vec Ideal S2048x128 .f32) (xs1 : Vec Ideal S2048x128 .f32) (hs0 : IsR xs0 fun s c => pre (dkT q k v g p s c) (512 * (i 1).val)) (hs1 : IsR xs1 fun s c => pre (dvT q k g p s c) (512 * (i 1).val)) :
    LeftR q k v g p (i 1).val (out0_C_5 c i arg2 harg2 arg3 harg3 arg4 harg4 arg5 harg5 arg6 harg6 arg7 harg7 arg8 harg8 arg9 harg9 arg10 harg10 arg11 harg11 hc0 hc1 x0 x1 x2 x3 x4 xs0 xs1) (sout0_C_0 c i arg2 harg2 arg3 harg3 arg4 harg4 arg5 harg5 arg6 harg6 arg7 harg7 arg8 harg8 arg9 harg9 arg10 harg10 arg11 harg11 hc0 hc1 x0 x1 x2 x3 x4 xs0 xs1) (sout0_C_1 c i arg2 harg2 arg3 harg3 arg4 harg4 arg5 harg5 arg6 harg6 arg7 harg7 arg8 harg8 arg9 harg9 arg10 harg10 arg11 harg11 hc0 hc1 x0 x1 x2 x3 x4 xs0 xs1) := by
  have h1 := (point_loop q k v g p c i arg2 harg2 arg3 harg3 arg4 harg4 arg5 harg5 arg6 harg6 arg7 harg7 arg8 harg8 arg9 harg9 arg10 harg10 arg11 harg11 x0 x1 x2 x3 x4 h (harg10.unread xs0) (harg11.unread xs1) [] [] (fun s _ => s) (fun _ => rfl) (fun _ => rfl)
    (IsR.congr (m := 2048) (n := 128) (x := fun s c => pre (dkT q k v g p s c) (512 * (i 1).val)) (by show IsR (m := 2048) (n := 128) (arg10.view.read (Elt Ideal) (harg10.unread xs0)) _; rw [harg10.read_unread]; exact hs0) fun s _ c _ => (part_zero _ _ _ _).symm)
    (IsR.congr (m := 2048) (n := 128) (x := fun s c => pre (dvT q k g p s c) (512 * (i 1).val)) (by show IsR (m := 2048) (n := 128) (arg11.view.read (Elt Ideal) (harg11.unread xs1)) _; rw [harg11.read_unread]; exact hs1) fun s _ c _ => (part_zero _ _ _ _).symm)).left (i 1).isLt
  exact h1.of (outC_5 c i arg2 harg2 arg3 harg3 arg4 harg4 arg5 harg5 arg6 harg6 arg7 harg7 arg8 harg8 arg9 harg9 arg10 harg10 arg11 harg11 x0 x1 x2 x3 x4 hc0 hc1 xs0 xs1) (soutC_0 c i arg2 harg2 arg3 harg3 arg4 harg4 arg5 harg5 arg6 harg6 arg7 harg7 arg8 harg8 arg9 harg9 arg10 harg10 arg11 harg11 x0 x1 x2 x3 x4 hc0 hc1 xs0 xs1) (soutC_1 c i arg2 harg2 arg3 harg3 arg4 harg4 arg5 harg5 arg6 harg6 arg7 harg7 arg8 harg8 arg9 harg9 arg10 harg10 arg11 harg11 x0 x1 x2 x3 x4 hc0 hc1 xs0 xs1)

include h in
theorem leftA (hc0 : cond0_0 i) (hc1 : ¬cond0_1 i) (hi : (i 1).val = 0) :
    LeftR q k v g p (i 1).val (out0_A_5 c i arg2 harg2 arg3 harg3 arg4 harg4 arg5 harg5 arg6 harg6 arg7 harg7 arg8 harg8 arg9 harg9 arg10 harg10 arg11 harg11 hc0 hc1 x0 x1 x2 x3 x4) (sout0_A_0 c i arg2 harg2 arg3 harg3 arg4 harg4 arg5 harg5 arg6 harg6 arg7 harg7 arg8 harg8 arg9 harg9 arg10 harg10 arg11 harg11 hc0 hc1 x0 x1 x2 x3 x4) (sout0_A_1 c i arg2 harg2 arg3 harg3 arg4 harg4 arg5 harg5 arg6 harg6 arg7 harg7 arg8 harg8 arg9 harg9 arg10 harg10 arg11 harg11 hc0 hc1 x0 x1 x2 x3 x4) := by
  have h1 := (point_loop q k v g p c i arg2 harg2 arg3 harg3 arg4 harg4 arg5 harg5 arg6 harg6 arg7 harg7 arg8 harg8 arg9 harg9 arg10 harg10 arg11 harg11 x0 x1 x2 x3 x4 h arg10.view.junk arg11.view.junk zero10 zero11 (fun s P => s ++ P)
    (fun s => View.writes_append ..) (fun s => View.writes_append ..)
    (IsR.congr (m := 2048) (n := 128) (x := fun _ _ => 0) (by
      unfold zero10; rw [View.read_writes_junk_eq_canon, View.canon_unit_zero zero2]; unfold k0_pay252; exact zero_isR) fun s _ c _ => by rw [part_zero, hi]; rfl)
    (IsR.congr (m := 2048) (n := 128) (x := fun _ _ => 0) (by
      unfold zero11; rw [View.read_writes_junk_eq_canon, View.canon_unit_zero zero2]; unfold k0_pay253; exact zero_isR) fun s _ c _ => by rw [part_zero, hi]; rfl)).left (i 1).isLt
  exact h1.of (outA_5 c i arg2 harg2 arg3 harg3 arg4 harg4 arg5 harg5 arg6 harg6 arg7 harg7 arg8 harg8 arg9 harg9 arg10 harg10 arg11 harg11 x0 x1 x2 x3 x4 hc0 hc1) (soutA_0 c i arg2 harg2 arg3 harg3 arg4 harg4 arg5 harg5 arg6 harg6 arg7 harg7 arg8 harg8 arg9 harg9 arg10 harg10 arg11 harg11 x0 x1 x2 x3 x4 hc0 hc1) (soutA_1 c i arg2 harg2 arg3 harg3 arg4 harg4 arg5 harg5 arg6 harg6 arg7 harg7 arg8 harg8 arg9 harg9 arg10 harg10 arg11 harg11 x0 x1 x2 x3 x4 hc0 hc1)

end

end Cert.KernelIdeal

end
-- ==== Proof.Cumsum.lean ====
/- Running sums along the last axis of a stack of square arrays of real numbers, and the softplus of a real number, as the host computes them. -/
module

public import proofs.«01_k».proof.Proof.Vals

@[expose] public section

set_option maxRecDepth 16384

noncomputable section

namespace Cert.Sb

open Idealize.ShloMosaic Idealize.ShloMosaic.TcCoe Idealize.SL.Sem
open Cert.KernelIdeal (sum_coe sum_coe' max_neg_coe)

/-- Every entry of the stack is the real number `x` says. -/
def IsR3 {a b c : ℕ} (X : (⟨3, ![a, b, c]⟩ : Shape).Idx → EReal) (x : ℕ → ℕ → ℕ → ℝ) : Prop :=
  ∀ (h : Fin a) (t : Fin b) (s : Fin c), X (ix3 h t s) = ((x h t s : ℝ) : EReal)

theorem foldl_sum {N : ℕ} (g : Fin N → EReal) (v : EReal) :
    (List.finRange N).foldl (fun r n => r + g n) v = v + ∑ n, g n := by
  have key : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [key, Fin.sum_univ_def]

abbrev B3 : Shape := ⟨3, ![8, 2048, 2048]⟩
abbrev B0 : Shape := ⟨0, ![]⟩

/-- The window sum, as a sum over the window's positions. -/
theorem window_apply (lo hi : Fin 3 → ℕ) (X : B3.Idx → EReal) (h : B3.ReduceWindows ![1, 1, 2048] ![1, 1, 1] lo hi B3) (i : B3.Idx) :
    Ideal.hostReduceWindowAdd ![1, 1, 2048] ![1, 1, 1] lo hi h X 0 i
      = ∑ w : Fin 2048, (let p : Fin 3 → ℕ := fun a => (i (a.cast h.1.symm)).val * ![1, 1, 1] a + (ix3 (0 : Fin 1) (0 : Fin 1) w a).val
          if hin : ∀ a, lo a ≤ p a ∧ p a - lo a < B3.size a then X (fun a => ⟨p a - lo a, (hin a).2⟩) else 0) := by
  unfold Ideal.hostReduceWindowAdd Host.reduceWindow
  refine (foldl_sum (N := Shape.numel ⟨3, ![1, 1, 2048]⟩) _ 0).trans ?_
  rw [zero_add]
  refine (Equiv.sum_comp (Shape.rowMajor ⟨3, ![1, 1, 2048]⟩) _).symm.trans ?_
  simp only [Equiv.symm_apply_apply]
  refine (sum_idx3 (n0 := 1) (n1 := 1) (n2 := 2048) _).trans ?_
  simp only [Fin.sum_univ_one]

/-- The sums from each position to the end of its row. -/
theorem sum_from {X : B3.Idx → EReal} {x : ℕ → ℕ → ℕ → ℝ} (hX : IsR3 X x) (h : B3.ReduceWindows ![1, 1, 2048] ![1, 1, 1] ![0, 0, 0] ![0, 0, 2047] B3) :
    IsR3 (a := 8) (b := 2048) (c := 2048) (Ideal.hostReduceWindowAdd ![1, 1, 2048] ![1, 1, 1] ![0, 0, 0] ![0, 0, 2047] h X 0) fun a t s => pre (x a t) 2048 - pre (x a t) s := by
  intro a t s
  rw [window_apply]
  rw [sum_coe' (fun w => if w < 2048 - s.val then x a t (s.val + w) else 0)]
  · rw [pre_fin, sum_lt (fun w => x a t (s.val + w)) (by omega)]
    have e := pre_add (x a t) s.val (2048 - s.val)
    rw [show s.val + (2048 - s.val) = 2048 by omega] at e
    show ((_ : ℝ) : EReal) = ((pre (x a t) 2048 - pre (x a t) s : ℝ) : EReal)
    rw [e]; simp
  · intro w
    dsimp only
    by_cases hw : w.val < 2048 - s.val
    · rw [if_pos hw, dif_pos]
      · refine Eq.trans ?_ (hX a t ⟨s.val + w.val, by omega⟩)
        congr 1
        funext b
        match b with
        | ⟨0, _⟩ => exact Fin.ext (by simp [ix3])
        | ⟨1, _⟩ => exact Fin.ext (by simp [ix3])
        | ⟨2, _⟩ => exact Fin.ext (by simp [ix3])
      · intro b
        match b with
        | ⟨0, _⟩ => simp [ix3]
        | ⟨1, _⟩ => simp [ix3]
        | ⟨2, _⟩ => simp [ix3]; omega
    · rw [if_neg hw, dif_neg, EReal.coe_zero]
      intro hin
      have := (hin 2).2
      simp [ix3] at this; omega

/-- The sums from the start of the row to each position, that position included. -/
theorem sum_upto {X : B3.Idx → EReal} {x : ℕ → ℕ → ℕ → ℝ} (hX : IsR3 X x) (h : B3.ReduceWindows ![1, 1, 2048] ![1, 1, 1] ![0, 0, 2047] ![0, 0, 0] B3) :
    IsR3 (a := 8) (b := 2048) (c := 2048) (Ideal.hostReduceWindowAdd ![1, 1, 2048] ![1, 1, 1] ![0, 0, 2047] ![0, 0, 0] h X 0) fun a t s => pre (x a t) (s + 1) := by
  intro a t s
  rw [window_apply]
  rw [sum_coe' (fun w => if 2047 ≤ s.val + w then x a t (s.val + w - 2047) else 0)]
  · congr 1
    show pre _ 2048 = pre (x a t) (s + 1)
    obtain ⟨a, ha⟩ := a
    obtain ⟨t, ht⟩ := t
    obtain ⟨s, hs⟩ := s
    dsimp only
    have hd : 2048 = (2047 - s) + (s + 1) := by omega
    refine (congrArg (pre _) hd).trans ?_
    rw [pre_add, pre_congr (g := fun _ => 0) (fun w hw => if_neg (by omega)),
      pre_congr (n := s + 1) (g := x a t) (fun w hw => by rw [if_pos (by omega)]; congr 1; omega)]
    simp [pre]
  · intro w
    dsimp only
    by_cases hw : 2047 ≤ s.val + w.val
    · rw [if_pos hw, dif_pos]
      · refine Eq.trans ?_ (hX a t ⟨s.val + w.val - 2047, by omega⟩)
        congr 1
        funext b
        match b with
        | ⟨0, _⟩ => exact Fin.ext (by simp [ix3])
        | ⟨1, _⟩ => exact Fin.ext (by simp [ix3])
        | ⟨2, _⟩ => exact Fin.ext (by simp [ix3])
      · intro b
        match b with
        | ⟨0, _⟩ => simp [ix3]
        | ⟨1, _⟩ => simp [ix3]
        | ⟨2, _⟩ => simp [ix3]; omega
    · rw [if_neg hw, dif_neg, EReal.coe_zero]
      intro hin
      have := (hin 2).1
      simp [ix3] at this; omega

/-! ### The softplus -/

/-- The softplus: the logarithm of one plus the exponential. -/
def sp (y : ℝ) : ℝ := -ls (-y)

theorem max_coe (x y : ℝ) : max ((x : ℝ) : EReal) ((y : ℝ) : EReal) = ((max x y : ℝ) : EReal) :=
  (EReal.coe_strictMono.monotone.map_max).symm

theorem sp_eq (y : ℝ) : sp y = max y 0 + Real.log (1 + Real.exp (-|y|)) := by
  unfold sp ls
  rw [abs_neg]
  rcases le_total y 0 with h | h
  · rw [min_eq_right (by linarith), max_eq_right h]; ring
  · rw [min_eq_left (by linarith), max_eq_left h]; ring

theorem zero_bits : Ideal.ofBits .f32 0x00000000#32 = 0 := by simp [Ideal.ofBits, Ideal.ieee]

theorem inf_bits : Ideal.ofBits .f32 0x7F800000#32 = ⊤ := by simp [Ideal.ofBits, Ideal.ieee]

/-- A real number is not unequal to itself, and not infinite. -/
theorem une_self (x : ℝ) : Ideal.cmp .une ((x : ℝ) : EReal) ((x : ℝ) : EReal) = 0#1 := by simp [Ideal.cmp]

theorem oeq_top (x : ℝ) : Ideal.cmp .oeq ((x : ℝ) : EReal) ⊤ = 0#1 := by simp [Ideal.cmp]

theorem select_no {α : Type} (a b : α) : Scalar.select (0#1) a b = b := rfl
theorem select_yes {α : Type} (a b : α) : Scalar.select (1#1) a b = a := rfl

theorem log1p_coe (y : ℝ) : Ideal.log1p (Ideal.exp (-(max ((y : ℝ) : EReal) (-((y : ℝ) : EReal))))) = ((Real.log (1 + Real.exp (-|y|)) : ℝ) : EReal) := by
  have hp : ¬ (1 + Real.exp (-|y|) ≤ 0) := not_le.2 (by positivity)
  rw [max_neg_coe, ← EReal.coe_neg, Ideal.exp_coe]
  unfold Ideal.log1p
  rw [← EReal.coe_one, ← EReal.coe_add, Ideal.log_coe, if_neg hp]

theorem sp_coe (y : ℝ) : max ((y : ℝ) : EReal) 0 + Ideal.log1p (Ideal.exp (-(max ((y : ℝ) : EReal) (-((y : ℝ) : EReal))))) = ((sp y : ℝ) : EReal) := by
  rw [log1p_coe, ← EReal.coe_zero, max_coe, ← EReal.coe_add, sp_eq]

end Cert.Sb

end
-- ==== Proof.Ref.lean ====
/- What the reference computes on real inputs: every stage as a real number, up to the three gradients. -/
module

public import proofs.«01_k».proof.Proof.Cumsum
public import proofs.«01_k».proof.Proof.Gen.ReferenceIdeal.Read
public import Idealize.ShloMosaic.Lib.WordCmp

@[expose] public section

set_option maxRecDepth 16384

noncomputable section

namespace Cert.Sb

open Idealize.ShloMosaic Idealize.ShloMosaic.TcCoe Idealize.SL.Sem

theorem IsR3.at {a b c : ℕ} {X : (⟨3, ![a, b, c]⟩ : Shape).Idx → EReal} {x : ℕ → ℕ → ℕ → ℝ} (hX : IsR3 X x) (i : (⟨3, ![a, b, c]⟩ : Shape).Idx) :
    X i = ((x (i 0).val (i 1).val (i 2).val : ℝ) : EReal) := by
  refine Eq.trans (congrArg X ?_) (hX (i 0) (i 1) (i 2))
  funext e
  match e with
  | ⟨0, _⟩ => rfl
  | ⟨1, _⟩ => rfl
  | ⟨2, _⟩ => rfl

theorem IsR3.congr {a b c : ℕ} {X : (⟨3, ![a, b, c]⟩ : Shape).Idx → EReal} {x y : ℕ → ℕ → ℕ → ℝ} (hX : IsR3 X x)
    (h : ∀ i j k, i < a → j < b → k < c → x i j k = y i j k) : IsR3 X y := fun i j k => by
  rw [hX i j k, h _ _ _ i.isLt j.isLt k.isLt]

/-- The real inputs: `q`, `k`, `v` in the columns of the packed array, `g` in the first half of the cotangent. -/
structure Inputs (x0 : (⟨2, ![2048, 3072]⟩ : Shape).Idx → EReal) (x1 : (⟨2, ![2048, 1024]⟩ : Shape).Idx → EReal) (q k v g : ℕ → ℕ → ℝ) : Prop where
  hq : ∀ (r : Fin 2048) (d : ℕ) (h : d < 512), x0 (ix2 r (⟨d, by omega⟩ : Fin 3072)) = ((q r d : ℝ) : EReal)
  hk : ∀ (r : Fin 2048) (d : ℕ) (h : d < 512), x0 (ix2 r (⟨1024 + d, by omega⟩ : Fin 3072)) = ((k r d : ℝ) : EReal)
  hv : ∀ (r : Fin 2048) (d : ℕ) (h : d < 512), x0 (ix2 r (⟨2048 + d, by omega⟩ : Fin 3072)) = ((v r d : ℝ) : EReal)
  hg : ∀ (r : Fin 2048) (d : ℕ) (h : d < 512), x1 (ix2 r (⟨d, by omega⟩ : Fin 1024)) = ((g r d : ℝ) : EReal)

theorem eighth_bits : Ideal.ofBits .f32 0x3E000000#32 = ((0.125 : ℝ) : EReal) := by
  simp [Ideal.ofBits, Ideal.ieee, -EReal.coe_mul]; norm_num

/-- The library's softplus with its test for a number unequal to itself. -/
theorem softplus_pt (Y : EReal) (y : ℝ) (h : Y = ((y : ℝ) : EReal)) :
    Scalar.select (Ideal.cmp .une (Y - Ideal.ofBits .f32 0x00000000#32) (Y - Ideal.ofBits .f32 0x00000000#32)) (Y + Ideal.ofBits .f32 0x00000000#32)
      (max Y (Ideal.ofBits .f32 0x00000000#32) + Ideal.log1p (Ideal.exp (-(max (Y - Ideal.ofBits .f32 0x00000000#32) (-(Y - Ideal.ofBits .f32 0x00000000#32))))))
      = ((sp y : ℝ) : EReal) := by
  rw [h, zero_bits, sub_zero, une_self, select_no, sp_coe]

/-- The factor of its derivative, with its tests for infinities. -/
theorem slope_pt (Y S : EReal) (y s : ℝ) (h : Y = ((y : ℝ) : EReal)) (hs : S = ((s : ℝ) : EReal)) :
    Ideal.exp (Scalar.select (Ideal.cmp .oeq Y (Ideal.ofBits .f32 0x7F800000#32)) (Ideal.ofBits .f32 0x00000000#32) Y
      - Scalar.select (Ideal.cmp .oeq S (Ideal.ofBits .f32 0x7F800000#32)) (Ideal.ofBits .f32 0x00000000#32) S)
      = ((Real.exp (y - s) : ℝ) : EReal) := by
  rw [h, hs, inf_bits, oeq_top, oeq_top, select_no, select_no, ← EReal.coe_sub, Ideal.exp_coe]

end Cert.Sb

namespace Cert.ReferenceIdeal

open Idealize.ShloMosaic Idealize.ShloMosaic.TcCoe Idealize.SL.Sem
open Cert.Sb Cert.ReferenceIdeal.Read
open Cert.KernelIdeal (sum_coe sum_coe')

variable (x0 : (⟨S2048x3072, .bf16⟩ : BufTy).Contents (Elt Ideal)) (x1 : (⟨S2048x1024, .f32⟩ : BufTy).Contents (Elt Ideal)) {q k v g : ℕ → ℕ → ℝ} (hin : Inputs x0 x1 q k v g)

/-! ### The heads of `q`, scaled, and of `k`, `v` and the cotangent -/

theorem stage7 (hin : Inputs x0 x1 q k v g) : IsR3 (a := 8) (b := 2048) (c := 64) (val_main_v7 (F := Ideal) x0) fun h t d => q t (64 * h + d) * 0.125 := by
  intro h t d
  have e := hin.hq t (64 * h.val + d.val) (by omega)
  rw [val_main_v7_apply, val_main_v6_apply, val_main_v5_apply, val_main_v1_apply, val_main_v0_apply, val_main_v4_apply]
  rw [val_main_cst_apply, EReal.coe_mul]
  show (x0 _ : EReal) * Ideal.ofBits .f32 0x3E000000#32 = _
  rw [eighth_bits]
  refine congrArg (· * _) (Eq.trans ?_ e)
  congr 1
  funext e
  match e with
  | ⟨0, _⟩ => exact Fin.ext (by show ((t.val * 8 + h.val) * 64 + d.val) / 512 = t.val; omega)
  | ⟨1, _⟩ => exact Fin.ext (by show ((t.val * 8 + h.val) * 64 + d.val) % 512 = (64 * h.val + d.val); omega)

theorem stage9 (hin : Inputs x0 x1 q k v g) : IsR3 (a := 8) (b := 2048) (c := 64) (val_main_v9 (F := Ideal) x0) fun h t d => k t (64 * h + d) := by
  intro h t d
  have e := hin.hk t (64 * h.val + d.val) (by omega)
  rw [val_main_v9_apply, val_main_v8_apply, val_main_v2_apply, val_main_v0_apply]
  refine Eq.trans ?_ e
  show (x0 _ : EReal) = x0 _
  congr 1
  funext e
  match e with
  | ⟨0, _⟩ => exact Fin.ext (by show ((t.val * 8 + h.val) * 64 + d.val) / 512 = t.val; omega)
  | ⟨1, _⟩ => exact Fin.ext (by show 1024 + ((t.val * 8 + h.val) * 64 + d.val) % 512 = 1024 + (64 * h.val + d.val); omega)

theorem stage11 (hin : Inputs x0 x1 q k v g) : IsR3 (a := 8) (b := 2048) (c := 64) (val_main_v11 (F := Ideal) x0) fun h t d => v t (64 * h + d) := by
  intro h t d
  have e := hin.hv t (64 * h.val + d.val) (by omega)
  rw [val_main_v11_apply, val_main_v10_apply, val_main_v3_apply, val_main_v0_apply]
  refine Eq.trans ?_ e
  show (x0 _ : EReal) = x0 _
  congr 1
  funext e
  match e with
  | ⟨0, _⟩ => exact Fin.ext (by show ((t.val * 8 + h.val) * 64 + d.val) / 512 = t.val; omega)
  | ⟨1, _⟩ => exact Fin.ext (by show 2048 + ((t.val * 8 + h.val) * 64 + d.val) % 512 = 2048 + (64 * h.val + d.val); omega)

theorem stage33 (hin : Inputs x0 x1 q k v g) : IsR3 (a := 8) (b := 2048) (c := 64) (val_main_v33 (F := Ideal) x1) fun h t d => g t (64 * h + d) := by
  intro h t d
  have e := hin.hg t (64 * h.val + d.val) (by omega)
  rw [val_main_v33_apply, val_main_v32_apply, val_main_v31_apply]
  refine Eq.trans ?_ e
  congr 1
  funext e
  match e with
  | ⟨0, _⟩ => exact Fin.ext (by show ((t.val * 8 + h.val) * 64 + d.val) / 512 = t.val; omega)
  | ⟨1, _⟩ => exact Fin.ext (by show ((t.val * 8 + h.val) * 64 + d.val) % 512 = (64 * h.val + d.val); omega)

/-- The scores. -/
theorem stage12 (hin : Inputs x0 x1 q k v g) : IsR3 (a := 8) (b := 2048) (c := 2048) (val_main_v12 (F := Ideal) x0) (Z q k) := by
  intro h t s
  rw [val_main_v12_apply, sum_coe' (fun d => q t (64 * h + d) * 0.125 * k s (64 * h + d))]
  · rfl
  · intro d
    rw [(stage7 x0 x1 hin).at, (stage9 x0 x1 hin).at, ← EReal.coe_mul]; rfl

/-- The product of the cotangent with the values. -/
theorem stage36 (hin : Inputs x0 x1 q k v g) : IsR3 (a := 8) (b := 2048) (c := 2048) (val_main_v36 (F := Ideal) x0 x1) (DP g v) := by
  intro h t s
  rw [val_main_v36_apply, sum_coe' (fun d => g t (64 * h + d) * v s (64 * h + d))]
  · rfl
  · intro d
    rw [(stage33 x0 x1 hin).at, (stage11 x0 x1 hin).at, ← EReal.coe_mul]; rfl

/-- The keys before the query. -/
theorem stage18 (t s : Fin 2048) : val_main_v18 (F := Ideal) (ix2 t s) = if s.val < t.val then 1#1 else 0#1 := by
  rw [val_main_v18_apply, val_main_v16_apply, val_main_v14_apply, val_main_v13_apply, val_main_v17_apply, val_main_v15_apply, val_main_v13_apply]
  refine (WordCmp.cmpi_slt_ofNat (w := 32) (a := s.val) (b := t.val) (by norm_num; omega) (by norm_num; omega)).trans ?_
  exact WordCmp.ofBool_decide_eq_ite _

theorem stage21_1 (h : Fin 8) (t s : Fin 2048) : val_main_v21_1 (F := Ideal) (ix3 h t s) = if s.val < t.val then 1#1 else 0#1 := by
  rw [val_main_v21_1_apply, ← stage18]
  congr 1
  funext e
  match e with
  | ⟨0, _⟩ => rfl
  | ⟨1, _⟩ => rfl

theorem stage27_1 (h : Fin 8) (t s : Fin 2048) : val_main_v27_1 (F := Ideal) (ix3 h t s) = if s.val < t.val then 1#1 else 0#1 := by
  rw [val_main_v27_1_apply, ← stage18]
  congr 1
  funext e
  match e with
  | ⟨0, _⟩ => rfl
  | ⟨1, _⟩ => rfl

/-- A choice by the mask between a real number and zero. -/
theorem masked {b : BitVec 1} {t s : ℕ} (hb : b = if s < t then 1#1 else 0#1) {X O : EReal} {x : ℝ} (hX : X = ((x : ℝ) : EReal)) (hO : O = 0) :
    Scalar.select b X O = ((if s < t then x else 0 : ℝ) : EReal) := by
  subst hb
  by_cases h : s < t
  · rw [if_pos h, if_pos h, select_yes, hX]
  · rw [if_neg h, if_neg h, select_no, hO, EReal.coe_zero]

theorem call0_0 (hin : Inputs x0 x1 q k v g) : IsR3 (a := 8) (b := 2048) (c := 2048) (val_main_call0_v0 (F := Ideal) x0) fun h t s => Z q k h t s := by
  intro h t s
  rw [val_main_call0_v0_apply, val_main_v19_apply, stage12 x0 x1 hin h t s]
  show -(-(((Z q k h t s : ℝ)) : EReal)) = _
  rw [neg_neg]

theorem call0_1 (hin : Inputs x0 x1 q k v g) : IsR3 (a := 8) (b := 2048) (c := 2048) (val_main_call0_v1_0 (F := Ideal) x0) fun h t s => sp (Z q k h t s) := by
  intro h t s
  simp only [val_main_call0_v1_0_apply, val_main_call0_call0_v4_apply, val_main_call0_call0_v3_apply, val_main_call0_call0_v2_apply, val_main_call0_call0_v6_apply, val_main_call0_call0_v5_apply, val_main_call0_call0_v11_apply, val_main_call0_call0_v1_apply, val_main_call0_call0_v0_apply, val_main_call0_call0_v10_apply, val_main_call0_call0_v9_apply, val_main_call0_call0_v8_apply, val_main_call0_call0_v7_apply, val_main_call0_call0_cst_apply]
  exact softplus_pt _ _ (call0_0 x0 x1 hin h t s)

theorem stage20_0 (hin : Inputs x0 x1 q k v g) : IsR3 (a := 8) (b := 2048) (c := 2048) (val_main_v20_0 (F := Ideal) x0) fun h t s => lm (Z q k h t s) := by
  intro h t s
  rw [val_main_v20_0_apply, call0_1 x0 x1 hin h t s]
  show -((_ : ℝ) : EReal) = _
  rw [← EReal.coe_neg]
  congr 1
  dsimp only
  rw [sp, ls_neg, neg_neg]

theorem stage20_1 (hin : Inputs x0 x1 q k v g) : IsR3 (a := 8) (b := 2048) (c := 2048) (val_main_v20_1 (F := Ideal) x0) fun h t s => beta (Z q k h t s) := by
  intro h t s
  have e0 := call0_0 x0 x1 hin h t s
  have e1 := call0_1 x0 x1 hin h t s
  rw [val_main_v20_1_apply]
  simp only [val_main_call0_call0_v21_apply, val_main_call0_call0_v16_apply, val_main_call0_call0_v14_apply, val_main_call0_call0_v13_apply, val_main_call0_call0_v15_apply, val_main_call0_call0_v20_apply, val_main_call0_call0_v18_apply, val_main_call0_call0_v17_apply, val_main_call0_call0_v19_apply, val_main_call0_call0_cst_0_apply, val_main_call0_call0_cst_1_apply, val_main_call0_call0_cst_2_apply, val_main_call0_call0_cst_3_apply]
  refine (slope_pt _ _ _ _ e0 e1).trans ?_
  congr 1
  dsimp only
  rw [sp, ls_neg, beta]; congr 1; unfold lm; ring

theorem call3_0 (hin : Inputs x0 x1 q k v g) : IsR3 (a := 8) (b := 2048) (c := 2048) (val_main_call3_v0 (F := Ideal) x0) fun h t s => -(Z q k h t s) := by
  intro h t s
  rw [val_main_call3_v0_apply, stage12 x0 x1 hin h t s]
  show -(((Z q k h t s : ℝ)) : EReal) = _
  rw [EReal.coe_neg]

theorem call3_1 (hin : Inputs x0 x1 q k v g) : IsR3 (a := 8) (b := 2048) (c := 2048) (val_main_call3_v1_0 (F := Ideal) x0) fun h t s => sp (-(Z q k h t s)) := by
  intro h t s
  simp only [val_main_call3_v1_0_apply, val_main_call3_call0_v4_apply, val_main_call3_call0_v3_apply, val_main_call3_call0_v2_apply, val_main_call3_call0_v6_apply, val_main_call3_call0_v5_apply, val_main_call3_call0_v11_apply, val_main_call3_call0_v1_apply, val_main_call3_call0_v0_apply, val_main_call3_call0_v10_apply, val_main_call3_call0_v9_apply, val_main_call3_call0_v8_apply, val_main_call3_call0_v7_apply, val_main_call3_call0_cst_apply]
  exact softplus_pt _ _ (call3_0 x0 x1 hin h t s)

theorem stage24_0 (hin : Inputs x0 x1 q k v g) : IsR3 (a := 8) (b := 2048) (c := 2048) (val_main_v24_0 (F := Ideal) x0) fun h t s => ls (Z q k h t s) := by
  intro h t s
  rw [val_main_v24_0_apply, call3_1 x0 x1 hin h t s]
  show -((_ : ℝ) : EReal) = _
  rw [← EReal.coe_neg]
  congr 1
  dsimp only
  rw [sp, neg_neg, neg_neg]

theorem stage24_1 (hin : Inputs x0 x1 q k v g) : IsR3 (a := 8) (b := 2048) (c := 2048) (val_main_v24_1 (F := Ideal) x0) fun h t s => 1 - beta (Z q k h t s) := by
  intro h t s
  have e0 := call3_0 x0 x1 hin h t s
  have e1 := call3_1 x0 x1 hin h t s
  rw [val_main_v24_1_apply]
  simp only [val_main_call3_call0_v21_apply, val_main_call3_call0_v16_apply, val_main_call3_call0_v14_apply, val_main_call3_call0_v13_apply, val_main_call3_call0_v15_apply, val_main_call3_call0_v20_apply, val_main_call3_call0_v18_apply, val_main_call3_call0_v17_apply, val_main_call3_call0_v19_apply, val_main_call3_call0_cst_0_apply, val_main_call3_call0_cst_1_apply, val_main_call3_call0_cst_2_apply, val_main_call3_call0_cst_3_apply]
  refine (slope_pt _ _ _ _ e0 e1).trans ?_
  congr 1
  dsimp only
  rw [sp, neg_neg, ← exp_lm]; congr 1; unfold lm; ring

theorem stage21_0 (hin : Inputs x0 x1 q k v g) : IsR3 (a := 8) (b := 2048) (c := 2048) (val_main_v21_0 (F := Ideal) x0) fun h t s => L (Z q k h) t s := by
  intro h t s
  rw [val_main_v21_0_apply]
  exact masked (stage21_1 h t s) (stage20_0 x0 x1 hin h t s) (by rw [val_main_call1_v2_apply, val_main_call1_v0_apply, val_main_cst_0_apply]; exact zero_bits)

theorem window_zero {lo hi : Fin 3 → ℕ} (X : B3.Idx → EReal) (O : Shape.Idx ⟨0, ![]⟩ → EReal) (hO : ∀ i, O i = 0) (h : B3.ReduceWindows ![1, 1, 2048] ![1, 1, 1] lo hi B3) :
    Host.reduceWindowAdd (F := Ideal) (φ := .f32) ![1, 1, 2048] ![1, 1, 1] lo hi X O h = Ideal.hostReduceWindowAdd ![1, 1, 2048] ![1, 1, 1] lo hi h X 0 := by
  show Ideal.hostReduceWindowAdd ![1, 1, 2048] ![1, 1, 1] lo hi h X (O _) = _
  rw [hO]

theorem stage22 (hin : Inputs x0 x1 q k v g) : IsR3 (a := 8) (b := 2048) (c := 2048) (val_main_v22 (F := Ideal) x0) fun h t s => pre (L (Z q k h) t) 2048 - pre (L (Z q k h) t) s := by
  have e := sum_from (stage21_0 x0 x1 hin) Facts₀.reduceWindows_S8x2048x2048_S8x2048x2048_w1s1p0_0_w1s1p0_0_w2048s1p0_2047
  rw [← window_zero _ (val_main_call2_v0 (F := Ideal)) (fun i => by rw [val_main_call2_v0_apply, val_main_call2_cst_apply]; exact zero_bits)] at e
  exact e

theorem stage26 (hin : Inputs x0 x1 q k v g) : IsR3 (a := 8) (b := 2048) (c := 2048) (val_main_v26 (F := Ideal) x0) fun h t s => Real.exp (ls (Z q k h t s) + ST (Z q k h) t - pre (L (Z q k h) t) (s + 1)) := by
  intro h t s
  rw [val_main_v26_apply, val_main_v25_apply, val_main_v23_apply, stage24_0 x0 x1 hin h t s, stage22 x0 x1 hin h t s, stage21_0 x0 x1 hin h t s]
  show Ideal.exp (((_ : ℝ) : EReal) + (((_ : ℝ) : EReal) - ((_ : ℝ) : EReal))) = _
  rw [← EReal.coe_sub, ← EReal.coe_add, Ideal.exp_coe]
  dsimp only
  rw [pre_add]
  congr 2
  unfold Cert.Sb.ST
  simp [pre]; ring

theorem stage27_0 (hin : Inputs x0 x1 q k v g) : IsR3 (a := 8) (b := 2048) (c := 2048) (val_main_v27_0 (F := Ideal) x0) fun h t s => A (Z q k h) t s := by
  intro h t s
  rw [val_main_v27_0_apply]
  exact masked (stage27_1 h t s) (stage26 x0 x1 hin h t s) (by rw [val_main_call4_v2_apply, val_main_call4_v0_apply, val_main_cst_1_apply]; exact zero_bits)

theorem stage38 (hin : Inputs x0 x1 q k v g) : IsR3 (a := 8) (b := 2048) (c := 2048) (val_main_v38 (F := Ideal) x0 x1) fun h t s => G (Z q k h) (DP g v h) t s := by
  intro h t s
  rw [val_main_v38_apply, stage26 x0 x1 hin h t s, val_main_v37_apply,
    masked (stage27_1 h t s) (stage36 x0 x1 hin h t s) (by rw [val_main_call5_v0_apply, val_main_call5_cst_apply]; exact zero_bits)]
  show ((_ : ℝ) : EReal) * ((_ : ℝ) : EReal) = _
  rw [← EReal.coe_mul]
  congr 1
  unfold G A
  dsimp only
  by_cases hs : s.val < t.val
  · rw [if_pos hs, if_pos hs]; ring
  · rw [if_neg hs, if_neg hs]; ring

theorem stage41 (hin : Inputs x0 x1 q k v g) : IsR3 (a := 8) (b := 2048) (c := 2048) (val_main_v41 (F := Ideal) x0 x1) fun h t s => pre (G (Z q k h) (DP g v h) t) (s + 1) := by
  have e := sum_upto (stage38 x0 x1 hin) Facts₀.reduceWindows_S8x2048x2048_S8x2048x2048_w1s1p0_0_w1s1p0_0_w2048s1p2047_0
  rw [← window_zero _ (val_main_call7_v0 (F := Ideal)) (fun i => by rw [val_main_call7_v0_apply, val_main_call7_cst_apply]; exact zero_bits)] at e
  exact e

theorem stage43 (hin : Inputs x0 x1 q k v g) : IsR3 (a := 8) (b := 2048) (c := 2048) (val_main_v43 (F := Ideal) x0 x1) fun h t s => if s < t then pre (G (Z q k h) (DP g v h) t) s else 0 := by
  intro h t s
  rw [val_main_v43_apply]
  refine masked (stage21_1 h t s) ?_ (by rw [val_main_call8_v0_apply, val_main_call8_cst_apply]; exact zero_bits)
  rw [val_main_v42_apply, val_main_v40_apply, stage41 x0 x1 hin h t s, stage38 x0 x1 hin h t s]
  show -((_ : ℝ) : EReal) + ((_ : ℝ) : EReal) = _
  rw [← EReal.coe_neg, ← EReal.coe_add]
  congr 1
  dsimp only
  rw [pre_add]
  simp [pre]

/-- The score's cotangent. -/
theorem stage46 (hin : Inputs x0 x1 q k v g) : IsR3 (a := 8) (b := 2048) (c := 2048) (val_main_v46 (F := Ideal) x0 x1) fun h t s => DZ (Z q k h) (DP g v h) t s := by
  intro h t s
  rw [val_main_v46_apply, val_main_v39_apply, val_main_call6_v1_apply, val_main_call6_v0_apply, val_main_v45_apply, val_main_v44_apply, val_main_call9_v1_apply, val_main_call9_v0_apply,
    stage38 x0 x1 hin h t s, stage24_1 x0 x1 hin h t s, stage43 x0 x1 hin h t s, stage20_1 x0 x1 hin h t s]
  show -(-((_ : ℝ) : EReal) * ((_ : ℝ) : EReal)) + -(-(-((_ : ℝ) : EReal) * ((_ : ℝ) : EReal))) = _
  rw [neg_neg, ← EReal.coe_neg, ← EReal.coe_mul, ← EReal.coe_neg, ← EReal.coe_neg, ← EReal.coe_mul, ← EReal.coe_add]
  congr 1
  dsimp only
  unfold DZ
  by_cases hs : s.val < t.val
  · rw [if_pos hs, if_pos hs]; ring
  · rw [if_neg hs, if_neg hs]; unfold G A; rw [if_neg hs]; ring

/-! ### The gradients -/

theorem stage48 (hin : Inputs x0 x1 q k v g) : IsR3 (a := 8) (b := 2048) (c := 64) (val_main_v48 (F := Ideal) x0 x1) fun h t d => pre (fun s => DZ (Z q k h) (DP g v h) t s * k s (64 * h + d)) 2048 := by
  intro h t d
  rw [val_main_v48_apply, sum_coe' (fun s => DZ (Z q k h) (DP g v h) t s * k s (64 * h + d))]
  intro s
  rw [(stage46 x0 x1 hin).at, (stage9 x0 x1 hin).at, ← EReal.coe_mul]; rfl

theorem stage47 (hin : Inputs x0 x1 q k v g) : IsR3 (a := 8) (b := 2048) (c := 64) (val_main_v47 (F := Ideal) x0 x1) fun h s d => pre (fun t => DZ (Z q k h) (DP g v h) t s * (q t (64 * h + d) * 0.125)) 2048 := by
  intro h s d
  rw [val_main_v47_apply, sum_coe' (fun t => DZ (Z q k h) (DP g v h) t s * (q t (64 * h + d) * 0.125))]
  intro t
  rw [(stage46 x0 x1 hin).at, (stage7 x0 x1 hin).at, ← EReal.coe_mul]; rfl

theorem stage35 (hin : Inputs x0 x1 q k v g) : IsR3 (a := 8) (b := 2048) (c := 64) (val_main_v35 (F := Ideal) x0 x1) fun h s d => pre (fun t => A (Z q k h) t s * g t (64 * h + d)) 2048 := by
  intro h s d
  rw [val_main_v35_apply, val_main_v34_apply, sum_coe' (fun t => A (Z q k h) t s * g t (64 * h + d))]
  intro t
  rw [(stage33 x0 x1 hin).at, (stage27_0 x0 x1 hin).at, mul_comm, ← EReal.coe_mul]; rfl

/-- A row of 512 columns reads its head's block. -/
theorem packed {X : (⟨3, ![8, 2048, 64]⟩ : Shape).Idx → EReal} {x : ℕ → ℕ → ℕ → ℝ} {y : ℕ → ℕ → ℝ} (hX : IsR3 X x) (hxy : ∀ t c, x (c / 64) t (c % 64) = y t c)
    (t : Fin 2048) (c : Fin 512) (i : (⟨3, ![8, 2048, 64]⟩ : Shape).Idx) (h0 : (i 0).val = (t.val * 512 + c.val) / 64 % 8) (h1 : (i 1).val = (t.val * 512 + c.val) / 512)
    (h2 : (i 2).val = (t.val * 512 + c.val) % 64) : X i = ((y t c : ℝ) : EReal) := by
  rw [hX.at, ← hxy, h0, h1, h2]
  congr 2 <;> omega

theorem split_col (c : ℕ) : 64 * (c / 64) + c % 64 = c := by omega

theorem res57 (hin : Inputs x0 x1 q k v g) (t : Fin 2048) (c : Fin 512) : (val_main_v57 (F := Ideal) x0 x1 (ix2 t c) : EReal) = ((DQ q k v g t c : ℝ) : EReal) := by
  rw [val_main_v57_apply, val_main_v56_apply, val_main_v55_apply, val_main_cst_2_apply, val_main_v54_apply, val_main_v53_apply]
  show (val_main_v48 (F := Ideal) x0 x1 _ : EReal) * Ideal.ofBits .f32 0x3E000000#32 = _
  rw [eighth_bits, packed (stage48 x0 x1 hin) (y := fun t c => pre (fun s => DZ (Z q k (c / 64)) (DP g v (c / 64)) t s * k s c) 2048) (fun t c => by simp only [split_col]) t c _ rfl rfl rfl, ← EReal.coe_mul]
  rfl

theorem res58 (hin : Inputs x0 x1 q k v g) (t : Fin 2048) (c : Fin 512) : (val_main_v58 (F := Ideal) x0 x1 (ix2 t c) : EReal) = ((DK q k v g t c : ℝ) : EReal) := by
  rw [val_main_v58_apply, val_main_v52_apply, val_main_v51_apply]
  show (val_main_v47 (F := Ideal) x0 x1 _ : EReal) = _
  exact packed (stage47 x0 x1 hin) (y := DK q k v g) (fun t c => by simp only [split_col]; rfl) t c _ rfl rfl rfl

theorem res59 (hin : Inputs x0 x1 q k v g) (t : Fin 2048) (c : Fin 512) : (val_main_v59 (F := Ideal) x0 x1 (ix2 t c) : EReal) = ((DV q k g t c : ℝ) : EReal) := by
  rw [val_main_v59_apply, val_main_v50_apply, val_main_v49_apply]
  show (val_main_v35 (F := Ideal) x0 x1 _ : EReal) = _
  exact packed (stage35 x0 x1 hin) (y := DV q k g) (fun t c => by simp only [split_col]; rfl) t c _ rfl rfl rfl

end Cert.ReferenceIdeal

end
-- ==== Proof.Stat.lean ====
/- The statistic the host hands the kernel: each row's sum of the logarithms of one minus the sigmoid, one copy per lane. -/
module

public import proofs.«01_k».proof.Proof.Ref
public import proofs.«01_k».proof.Proof.Gen.KernelIdeal.Value
public import Idealize.ShloMosaic.Lib.Claim
public import Idealize.ShloMosaic.Lib.Pointwise

@[expose] public section

set_option maxRecDepth 16384

noncomputable section

namespace Cert.KernelIdeal

open Idealize.ShloMosaic Idealize.ShloMosaic.TcCoe Idealize.SL.Sem
open Cert.Sb
open Gen

/-- The row sums of an array of logarithms, one copy per lane. -/
def rowSums (X : (⟨S8x2048x2048, .f32⟩ : BufTy).Contents (Elt Ideal)) : (⟨S8x2048x128, .f32⟩ : BufTy).Contents (Elt Ideal) :=
  broadcastInDim S8x2048x128 ![0, 1, 2] Facts₀.bcast_S8x2048x1_S8x2048x128_0_1_2
    (broadcastInDim S8x2048x1 ![0, 1] Facts₀.bcast_S8x2048_S8x2048x1_0_1
      (Host.reduceAdd (F := Ideal) (φ := .f32) X (constant S_ .f32 0x00000000#32) Facts₀.reducesTo_S8x2048x2048_S8x2048_d2 Facts₀.h_S_ : (⟨S8x2048, .f32⟩ : BufTy).Contents (Elt Ideal)))

theorem rowSums_apply {X : (⟨S8x2048x2048, .f32⟩ : BufTy).Contents (Elt Ideal)} {x : ℕ → ℕ → ℕ → ℝ} (hX : IsR3 (a := 8) (b := 2048) (c := 2048) X x)
    (h : Fin 8) (t : Fin 2048) (l : Fin 128) : (rowSums X (ix3 h t l) : EReal) = ((pre (x h t) 2048 : ℝ) : EReal) := by
  pointwise [rowSums]
  rw [sum_coe' (fun s => x h t s)]
  exact fun s => hX h t s

variable (m : (ℓ : Loc nD τ sig) → Buf (Elt Ideal) ℓ)

theorem scaled_heads (x0 : (⟨S2048x3072, .bf16⟩ : BufTy).Contents (Elt Ideal)) :
    mulf (F := Ideal) (φ := .f32) (transpose S8x2048x64 [1, 0, 2] (shapeCast S2048x8x64 (extractStridedSlice S2048x512 ![0, 0] (extf (F := Ideal) (φ := .bf16) .f32 x0 Facts₀.bitsLt_bf16_f32) Facts₀.slices_S2048x3072_S2048x512_0_0) Facts₀.shapeCasts_S2048x512_S2048x8x64) Facts₀.transposes_S2048x8x64_S8x2048x64_1_0_2)
      (broadcastInDim S8x2048x64 ![] Facts₀.bcast_S_S8x2048x64 (constant (F := Ideal) S_ .f32 0x3E000000#32))
      = Cert.ReferenceIdeal.Read.val_main_v7 (F := Ideal) x0 := rfl

/-- The hostScores as the host computes them. -/
def hostScores (x0 : (⟨S2048x3072, .bf16⟩ : BufTy).Contents (Elt Ideal)) : (⟨S8x2048x2048, .f32⟩ : BufTy).Contents (Elt Ideal) :=
  Host.dotGeneral (F := Ideal) dot_S8x2048x64_S8x2048x64_S8x2048x2048_2_2_1_1_0_0 none
    (mulf (F := Ideal) (φ := .f32) (transpose S8x2048x64 [1, 0, 2] (shapeCast S2048x8x64 (extractStridedSlice S2048x512 ![0, 0] (extf (F := Ideal) (φ := .bf16) .f32 x0 Facts₀.bitsLt_bf16_f32) Facts₀.slices_S2048x3072_S2048x512_0_0) Facts₀.shapeCasts_S2048x512_S2048x8x64) Facts₀.transposes_S2048x8x64_S8x2048x64_1_0_2)
      (broadcastInDim S8x2048x64 ![] Facts₀.bcast_S_S8x2048x64 (constant (F := Ideal) S_ .f32 0x3E000000#32)))
    (transpose S8x2048x64 [1, 0, 2] (shapeCast S2048x8x64 (extractStridedSlice S2048x512 ![0, 1024] (extf (F := Ideal) (φ := .bf16) .f32 x0 Facts₀.bitsLt_bf16_f32) Facts₀.slices_S2048x3072_S2048x512_0_1024) Facts₀.shapeCasts_S2048x512_S2048x8x64) Facts₀.transposes_S2048x8x64_S8x2048x64_1_0_2)

theorem hostScores_eq (x0 : (⟨S2048x3072, .bf16⟩ : BufTy).Contents (Elt Ideal)) : hostScores x0 = Cert.ReferenceIdeal.Read.val_main_v12 (F := Ideal) x0 := by
  unfold hostScores
  rw [scaled_heads]
  rfl

/-- The logarithms of one minus the sigmoid at the keys before the query, zero elsewhere. -/
def logs (z : (⟨S8x2048x2048, .f32⟩ : BufTy).Contents (Elt Ideal)) : (⟨S8x2048x2048, .f32⟩ : BufTy).Contents (Elt Ideal) :=
  let zero : (⟨S8x2048x2048, .f32⟩ : BufTy).Contents (Elt Ideal) := broadcastInDim S8x2048x2048 ![] Facts₀.bcast_S_S8x2048x2048 (constant (F := Ideal) S_ .f32 0x00000000#32)
  let y : (⟨S8x2048x2048, .f32⟩ : BufTy).Contents (Elt Ideal) := Host.negf (F := Ideal) (φ := .f32) (Host.negf (F := Ideal) (φ := .f32) z)
  select (broadcastInDim S8x2048x2048 ![1, 2] Facts₀.bcast_S2048x2048_S8x2048x2048_1_2
      (cmpi .slt (broadcastInDim S2048x2048 ![0, 1] Facts₀.bcast_S1x2048_S2048x2048_0_1 (broadcastInDim S1x2048 ![1] Facts₀.bcast_S2048_S1x2048_1 (iotaInDim S2048 32 0)))
        (broadcastInDim S2048x2048 ![0, 1] Facts₀.bcast_S2048x1_S2048x2048_0_1 (broadcastInDim S2048x1 ![0] Facts₀.bcast_S2048_S2048x1_0 (iotaInDim S2048 32 0)))))
    (Host.negf (F := Ideal) (φ := .f32) (select (cmpf (F := Ideal) (φ := .f32) .une (subf (F := Ideal) (φ := .f32) y zero) (subf (F := Ideal) (φ := .f32) y zero)) (addf (F := Ideal) (φ := .f32) y zero)
      (addf (F := Ideal) (φ := .f32) (maximumf (F := Ideal) (φ := .f32) y zero) (Host.log1p (F := Ideal) (φ := .f32) (Host.exp (F := Ideal) (φ := .f32) (Host.negf (F := Ideal) (φ := .f32) (Host.absf (F := Ideal) (φ := .f32) (subf (F := Ideal) (φ := .f32) y zero))))))))
    zero

theorem logs_eq (x0 : (⟨S2048x3072, .bf16⟩ : BufTy).Contents (Elt Ideal)) : logs (Cert.ReferenceIdeal.Read.val_main_v12 (F := Ideal) x0) = Cert.ReferenceIdeal.Read.val_main_v21_0 (F := Ideal) x0 := rfl

theorem stat_host (c : Dev nD) : V m c main_v21 = rowSums (Cert.ReferenceIdeal.Read.val_main_v21_0 (F := Ideal) (m ((c : Thread nD τ).loc main_arg0))) := by
  rw [← logs_eq, ← hostScores_eq]
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  rfl

end Cert.KernelIdeal

end
-- ==== Proof.Arrays.lean ====
/- The blocks each grid point reads, and the three arrays after the last point. -/
module

public import proofs.«01_k».proof.Proof.Cases
public import proofs.«01_k».proof.Proof.Stat
public import Idealize.ShloMosaic.Lib.Pipeline.ValueKit

@[expose] public section

set_option maxRecDepth 16384

noncomputable section

namespace Cert.KernelIdeal

open Idealize.ShloMosaic Idealize.ShloMosaic.TcCoe Idealize.SL.Sem
open Cert.Sb
open Gen Value

theorem idx : ∀ t : Fin cfg0.N, win0_0.index t = ![t.val % 4, t.val / 4] ∧ win0_1.index t = ![0, 8 + t.val / 4] ∧ win0_2.index t = ![0, 16 + t.val / 4]
    ∧ win0_3.index t = ![t.val % 4, t.val / 4] ∧ win0_4.index t = ![t.val / 4, t.val % 4, 0] ∧ t.val / 4 < 4 ∧ (grid0.coords t 1).val = t.val % 4 :=
  (by decide +kernel : ∀ t : Fin grid0.N, _)

variable (m : (ℓ : Loc nD τ sig) → Buf (Elt Ideal) ℓ) (c : Dev nD) (t : Fin cfg0.N)

/-! ### The blocks -/

theorem q_block (r : Fin 512) (d : Fin 128) (h1 : 512 * (t.val % 4) + r.val < 2048) (h2 : 128 * (t.val / 4) + d.val < 3072) :
    iblk m c 0 t (ix2 r d) = m ((c : Thread nD τ).loc main_arg0) (ix2 (⟨512 * (t.val % 4) + r.val, h1⟩ : Fin 2048) (⟨128 * (t.val / 4) + d.val, h2⟩ : Fin 3072)) := by
  rw [← V_main_arg0 m c]
  blk_ext [iblk, idx t]

theorem k_block (r : Fin 2048) (d : Fin 128) (h1 : r.val < 2048) (h2 : 128 * (8 + t.val / 4) + d.val < 3072) :
    iblk m c 1 t (ix2 r d) = m ((c : Thread nD τ).loc main_arg0) (ix2 (⟨r.val, h1⟩ : Fin 2048) (⟨128 * (8 + t.val / 4) + d.val, h2⟩ : Fin 3072)) := by
  rw [← V_main_arg0 m c]
  blk_ext [iblk, idx t]

theorem v_block (r : Fin 2048) (d : Fin 128) (h1 : r.val < 2048) (h2 : 128 * (16 + t.val / 4) + d.val < 3072) :
    iblk m c 2 t (ix2 r d) = m ((c : Thread nD τ).loc main_arg0) (ix2 (⟨r.val, h1⟩ : Fin 2048) (⟨128 * (16 + t.val / 4) + d.val, h2⟩ : Fin 3072)) := by
  rw [← V_main_arg0 m c]
  blk_ext [iblk, idx t]

theorem g_block (r : Fin 512) (d : Fin 128) (h1 : 512 * (t.val % 4) + r.val < 2048) (h2 : 128 * (t.val / 4) + d.val < 1024) :
    iblk m c 3 t (ix2 r d) = m ((c : Thread nD τ).loc main_arg1) (ix2 (⟨512 * (t.val % 4) + r.val, h1⟩ : Fin 2048) (⟨128 * (t.val / 4) + d.val, h2⟩ : Fin 1024)) := by
  rw [← V_main_arg1 m c]
  blk_ext [iblk, idx t]

theorem stat_block (a : Fin 2) (r : Fin 512) (l : Fin 128) (h1 : 512 * (t.val % 4) + r.val < 2048) (h2 : 2 * (t.val / 4) + a.val < 8) :
    iblk m c 4 t (ix3 a r l) = V m c main_v21 (ix3 (⟨2 * (t.val / 4) + a.val, h2⟩ : Fin 8) (⟨512 * (t.val % 4) + r.val, h1⟩ : Fin 2048) l) := by
  blk_ext [iblk, idx t]

variable {q k v g : ℕ → ℕ → ℝ}

/-- The real inputs on one device. -/
abbrev In (q k v g : ℕ → ℕ → ℝ) : Prop := Inputs (m ((c : Thread nD τ).loc main_arg0)) (m ((c : Thread nD τ).loc main_arg1)) q k v g

theorem stat_real (hin : In m c q k v g) (h : Fin 8) (r : Fin 2048) (l : Fin 128) :
    (V m c main_v21 (ix3 h r l) : EReal) = ((ST (Z q k h) r : ℝ) : EReal) := by
  rw [stat_host]
  exact rowSums_apply (Cert.ReferenceIdeal.stage21_0 _ _ hin) h r l

theorem blocksR (hin : In m c q k v g) : BlocksR q k v g (t.val / 4) (grid0.coords t) (iblk m c 0 t) (iblk m c 1 t) (iblk m c 2 t) (iblk m c 3 t) (iblk m c 4 t) := by
  have hp : t.val / 4 < 4 := (idx t).2.2.2.2.2.1
  have hi : (grid0.coords t 1).val = t.val % 4 := (idx t).2.2.2.2.2.2
  have h4 : t.val % 4 < 4 := Nat.mod_lt _ (by norm_num)
  constructor
  · intro r d
    rw [hi]
    exact (q_block m c t r d (by omega) (by omega)).trans (hin.hq ⟨512 * (t.val % 4) + r.val, by omega⟩ (128 * (t.val / 4) + d.val) (by omega))
  · intro r d
    refine (k_block m c t r d (by omega) (by omega)).trans (Eq.trans ?_ (hin.hk ⟨r.val, by omega⟩ (128 * (t.val / 4) + d.val) (by omega)))
    congr 2
    exact Fin.ext (by dsimp only; omega)
  · intro r d
    refine (v_block m c t r d (by omega) (by omega)).trans (Eq.trans ?_ (hin.hv ⟨r.val, by omega⟩ (128 * (t.val / 4) + d.val) (by omega)))
    congr 2
    exact Fin.ext (by dsimp only; omega)
  · intro r d
    rw [hi]
    exact (g_block m c t r d (by omega) (by omega)).trans (hin.hg ⟨512 * (t.val % 4) + r.val, by omega⟩ (128 * (t.val / 4) + d.val) (by omega))
  · intro a r l
    rw [hi]
    exact (stat_block m c t a r l (by omega) (by omega)).trans (stat_real m c hin ⟨2 * (t.val / 4) + a.val, by omega⟩ ⟨512 * (t.val % 4) + r.val, by omega⟩ l)

/-! ### The state after each point -/

/-- What a point leaves: `q`'s gradient in its block, the two running sums, and after a pair's last block the finished gradients. -/
structure StateR (q k v g : ℕ → ℕ → ℝ) (n : ℕ) (o : Vec Ideal S512x128 .bf16 × Vec Ideal S2048x128 .bf16 × Vec Ideal S2048x128 .bf16 × Vec Ideal S2048x128 .f32 × Vec Ideal S2048x128 .f32) : Prop where
  run : LeftR q k v g (n / 4) (n % 4) o.1 o.2.2.2.1 o.2.2.2.2
  dk : n % 4 = 3 → IsR o.2.1 fun s c => pre (dkT q k v g (n / 4) s c) 2048
  dv : n % 4 = 3 → IsR o.2.2.1 fun s c => pre (dvT q k g (n / 4) s c) 2048

theorem LeftR.cast {p a b : ℕ} {dq : Vec Ideal S512x128 .bf16} {dk dv : Vec Ideal S2048x128 .f32} (h : a = b) (l : LeftR q k v g p a dq dk dv) : LeftR q k v g p b dq dk dv := h ▸ l

theorem LeftR.allK {p a : ℕ} {dq : Vec Ideal S512x128 .bf16} {dk dv : Vec Ideal S2048x128 .f32} (h : a = 3) (l : LeftR q k v g p a dq dk dv) {o : Vec Ideal S2048x128 .bf16} (ho : o = k0_pay18 dk) :
    IsR o fun s c => pre (dkT q k v g p s c) 2048 := by
  subst h ho; exact l.dk

theorem LeftR.allV {p a : ℕ} {dq : Vec Ideal S512x128 .bf16} {dk dv : Vec Ideal S2048x128 .f32} (h : a = 3) (l : LeftR q k v g p a dq dk dv) {o : Vec Ideal S2048x128 .bf16} (ho : o = k0_pay19 dv) :
    IsR o fun s c => pre (dvT q k g p s c) 2048 := by
  subst h ho; exact l.dv

theorem StateR.mk' {n : ℕ} {o : Vec Ideal S512x128 .bf16 × Vec Ideal S2048x128 .bf16 × Vec Ideal S2048x128 .bf16 × Vec Ideal S2048x128 .f32 × Vec Ideal S2048x128 .f32}
    {a : Vec Ideal S512x128 .bf16} {x y : Vec Ideal S2048x128 .bf16} {z w : Vec Ideal S2048x128 .f32} (ho : o = (a, x, y, z, w)) (l : LeftR q k v g (n / 4) (n % 4) a z w)
    (hx : n % 4 = 3 → x = k0_pay18 z) (hy : n % 4 = 3 → y = k0_pay19 w) : StateR q k v g n o := by
  subst ho
  exact ⟨l, fun h => l.allK h (hx h), fun h => l.allV h (hy h)⟩

abbrev Acc := Vec Ideal S512x128 .bf16 × Vec Ideal S2048x128 .bf16 × Vec Ideal S2048x128 .bf16 × Vec Ideal S2048x128 .f32 × Vec Ideal S2048x128 .f32

theorem state_A (hin : In m c q k v g) (acc : Acc) (h0 : t.val % 4 = 0) : StateR q k v g t.val (stAt0 m c t.val t.isLt acc) := by
  have h1 : ¬t.val % 4 = 3 := by omega
  have hi : (grid0.coords t 1).val = t.val % 4 := (idx t).2.2.2.2.2.2
  exact StateR.mk' (stAt0_A m c t acc h0 h1)
    ((leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (blocksR m c t hin) ((hcond0_0 t).mpr h0) (fun h => h1 ((hcond0_1 t).mp h)) (hi.trans h0)).cast hi)
    (fun h => absurd h h1) (fun h => absurd h h1)

theorem state_B (hin : In m c q k v g) (acc : Acc) (h0 : ¬t.val % 4 = 0) (h1 : ¬t.val % 4 = 3)
    (a0 : IsR acc.2.2.2.1 (fun s c => pre (dkT q k v g (t.val / 4) s c) (512 * (grid0.coords t 1).val))) (a1 : IsR acc.2.2.2.2 (fun s c => pre (dvT q k g (t.val / 4) s c) (512 * (grid0.coords t 1).val))) :
    StateR q k v g t.val (stAt0 m c t.val t.isLt acc) := by
  have hi : (grid0.coords t 1).val = t.val % 4 := (idx t).2.2.2.2.2.2
  exact StateR.mk' (stAt0_B m c t acc h0 h1)
    ((leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (blocksR m c t hin) (fun h => h0 ((hcond0_0 t).mp h)) (fun h => h1 ((hcond0_1 t).mp h)) acc.2.2.2.1 acc.2.2.2.2 a0 a1).cast hi)
    (fun h => absurd h h1) (fun h => absurd h h1)

theorem state_C (hin : In m c q k v g) (acc : Acc) (h0 : ¬t.val % 4 = 0) (h1 : t.val % 4 = 3)
    (a0 : IsR acc.2.2.2.1 (fun s c => pre (dkT q k v g (t.val / 4) s c) (512 * (grid0.coords t 1).val))) (a1 : IsR acc.2.2.2.2 (fun s c => pre (dvT q k g (t.val / 4) s c) (512 * (grid0.coords t 1).val))) :
    StateR q k v g t.val (stAt0 m c t.val t.isLt acc) := by
  have hi : (grid0.coords t 1).val = t.val % 4 := (idx t).2.2.2.2.2.2
  exact StateR.mk' (stAt0_C m c t acc h0 h1)
    ((leftC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (blocksR m c t hin) (fun h => h0 ((hcond0_0 t).mp h)) ((hcond0_1 t).mpr h1) acc.2.2.2.1 acc.2.2.2.2 a0 a1).cast hi)
    (fun _ => outC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) acc.2.2.2.1 acc.2.2.2.2)
    (fun _ => outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (fun h => h0 ((hcond0_0 t).mp h)) ((hcond0_1 t).mpr h1) acc.2.2.2.1 acc.2.2.2.2)

theorem state_step (hin : In m c q k v g) (acc : Acc)
    (hacc : t.val % 4 ≠ 0 → IsR acc.2.2.2.1 (fun s c => pre (dkT q k v g (t.val / 4) s c) (512 * (t.val % 4))) ∧ IsR acc.2.2.2.2 (fun s c => pre (dvT q k g (t.val / 4) s c) (512 * (t.val % 4)))) :
    StateR q k v g t.val (stAt0 m c t.val t.isLt acc) := by
  by_cases h0 : t.val % 4 = 0
  · exact state_A m c t hin acc h0
  · have ha := hacc h0
    rw [← (idx t).2.2.2.2.2.2] at ha
    by_cases h1 : t.val % 4 = 3
    · exact state_C m c t hin acc h0 h1 ha.1 ha.2
    · exact state_B m c t hin acc h0 h1 ha.1 ha.2

theorem state (hin : In m c q k v g) : ∀ (n : ℕ) (hn : n < cfg0.N), StateR q k v g n (outsAt0 m c n hn)
  | 0, hn => by
    rw [outsAt0_zero]
    exact state_step m c ⟨0, hn⟩ hin junk0 (fun h => absurd rfl h)
  | n + 1, hn => by
    have e := state hin n (by omega)
    rw [outsAt0_succ]
    refine state_step m c ⟨n + 1, hn⟩ hin _ (fun h => ?_)
    have h : (n + 1) % 4 ≠ 0 := h
    have hd : (n + 1) / 4 = n / 4 := by omega
    have hm : (n + 1) % 4 = n % 4 + 1 := by omega
    show IsR _ (fun s c => pre (dkT q k v g ((n + 1) / 4) s c) (512 * ((n + 1) % 4))) ∧ IsR _ (fun s c => pre (dvT q k g ((n + 1) / 4) s c) (512 * ((n + 1) % 4)))
    rw [hd, hm]
    exact ⟨e.run.dk, e.run.dv⟩

/-! ### The arrays -/

theorem G5_real (hin : In m c q k v g) (r : Fin 2048) (d : Fin 512) : (G5 m c (ix2 r d) : EReal) = ((DQ q k v g r d : ℝ) : EReal) := by
  have hN : cfg0.N = 16 := N_0
  have hpt : pt5Of (ix2 r d) = r.val / 512 + 4 * (d.val / 128) := by
    show 1 * (r.val / 512 - 0) + 4 * (d.val / 128 - 0) = _
    omega
  have hlt : pt5Of (ix2 r d) < cfg0.N := by rw [hpt, hN]; omega
  have e := (state m c hin (pt5Of (ix2 r d)) hlt).run.dq ⟨r.val % 512, Nat.mod_lt _ (by norm_num)⟩ ⟨d.val % 128, Nat.mod_lt _ (by norm_num)⟩
  rw [outsAt0_sweep] at e
  have hl : loc5Of (ix2 r d) = ix2 (⟨r.val % 512, Nat.mod_lt _ (by norm_num)⟩ : Fin 512) (⟨d.val % 128, Nat.mod_lt _ (by norm_num)⟩ : Fin 128) := by
    funext a
    match a with
    | ⟨0, _⟩ => rfl
    | ⟨1, _⟩ => rfl
  unfold G5
  rw [dif_pos hlt, hl]
  refine e.trans ?_
  · dsimp only
    rw [hpt]
    congr 2 <;> omega

theorem G6_real (hin : In m c q k v g) (r : Fin 2048) (d : Fin 512) : (G6 m c (ix2 r d) : EReal) = ((DK q k v g r d : ℝ) : EReal) := by
  have hN : cfg0.N = 16 := N_0
  have hpt : pt6Of (ix2 r d) = 4 * (d.val / 128) + 3 := by
    show 4 * (4 * (r.val / 2048 - 0) + 1 * (d.val / 128 - 0)) + 3 = _
    omega
  have hlt : pt6Of (ix2 r d) < cfg0.N := by rw [hpt, hN]; omega
  have e := (state m c hin (pt6Of (ix2 r d)) hlt).dk (by rw [hpt]; omega) ⟨r.val % 2048, Nat.mod_lt _ (by norm_num)⟩ ⟨d.val % 128, Nat.mod_lt _ (by norm_num)⟩
  rw [outsAt0_sweep] at e
  have hl : loc6Of (ix2 r d) = ix2 (⟨r.val % 2048, Nat.mod_lt _ (by norm_num)⟩ : Fin 2048) (⟨d.val % 128, Nat.mod_lt _ (by norm_num)⟩ : Fin 128) := by
    funext a
    match a with
    | ⟨0, _⟩ => rfl
    | ⟨1, _⟩ => rfl
  unfold G6
  rw [dif_pos hlt, hl]
  refine e.trans ?_
  · dsimp only
    have hr : r.val % 2048 = r.val := Nat.mod_eq_of_lt r.isLt
    have hd : 128 * (pt6Of (ix2 r d) / 4) + d.val % 128 = d.val := by rw [hpt]; omega
    unfold dkT DK
    rw [hr, hd]

theorem G7_real (hin : In m c q k v g) (r : Fin 2048) (d : Fin 512) : (G7 m c (ix2 r d) : EReal) = ((DV q k g r d : ℝ) : EReal) := by
  have hN : cfg0.N = 16 := N_0
  have hpt : pt7Of (ix2 r d) = 4 * (d.val / 128) + 3 := by
    show 4 * (4 * (r.val / 2048 - 0) + 1 * (d.val / 128 - 0)) + 3 = _
    omega
  have hlt : pt7Of (ix2 r d) < cfg0.N := by rw [hpt, hN]; omega
  have e := (state m c hin (pt7Of (ix2 r d)) hlt).dv (by rw [hpt]; omega) ⟨r.val % 2048, Nat.mod_lt _ (by norm_num)⟩ ⟨d.val % 128, Nat.mod_lt _ (by norm_num)⟩
  rw [outsAt0_sweep] at e
  have hl : loc7Of (ix2 r d) = ix2 (⟨r.val % 2048, Nat.mod_lt _ (by norm_num)⟩ : Fin 2048) (⟨d.val % 128, Nat.mod_lt _ (by norm_num)⟩ : Fin 128) := by
    funext a
    match a with
    | ⟨0, _⟩ => rfl
    | ⟨1, _⟩ => rfl
  unfold G7
  rw [dif_pos hlt, hl]
  refine e.trans ?_
  · dsimp only
    have hr : r.val % 2048 = r.val := Nat.mod_eq_of_lt r.isLt
    have hd : 128 * (pt7Of (ix2 r d) / 4) + d.val % 128 = d.val := by rw [hpt]; omega
    unfold dvT DV
    rw [hr, hd]

end Cert.KernelIdeal

end
-- ==== Proof.Finite.lean ====
/- The precondition: where it holds, the entries the two programs read are real numbers. -/
module

public import proofs.«01_k».proof.Defs
public import proofs.«01_k».proof.Proof.Ref
public import proofs.«01_k».proof.Proof.Gen.KernelIdeal
public import proofs.«01_k».proof.Proof.Gen.ReferenceIdeal
public import Idealize.ShloMosaic.Lib.Pointwise

@[expose] public section

set_option maxRecDepth 16384

noncomputable section

namespace Cert.Sb

open Idealize.ShloMosaic Idealize.ShloMosaic.TcCoe Idealize.SL.Sem

/-- The shape relations the precondition states. -/
theorem finite_facts : Cert.Pre_finite.Facts where
  bitsLt_bf16_f32 := by decide
  slices_S2048x3072_S2048x512_0_0 := Cert.KernelIdeal.Gen.facts₀.slices_S2048x3072_S2048x512_0_0
  bcast_S_S2048x512 := Cert.ReferenceIdeal.Gen.facts₀.bcast_S_S2048x512
  slices_S2048x3072_S2048x512_0_1024 := Cert.KernelIdeal.Gen.facts₀.slices_S2048x3072_S2048x512_0_1024
  slices_S2048x3072_S2048x512_0_2048 := Cert.ReferenceIdeal.Gen.facts₀.slices_S2048x3072_S2048x512_0_2048
  slices_S2048x1024_S2048x512_0_0 := Cert.ReferenceIdeal.Gen.facts₀.slices_S2048x1024_S2048x512_0_0

/-- A number whose absolute value is below infinity is real. -/
theorem real_of_lt {x : EReal} (h : Ideal.cmp .olt (max x (-x)) (Ideal.ofBits .f32 0x7F800000#32) = 1#1) : x = ((x.toReal : ℝ) : EReal) := by
  have h' : max x (-x) < ⊤ := by
    rw [inf_bits] at h
    by_contra hc
    simp [Ideal.cmp, hc] at h
  refine (EReal.coe_toReal ?_ ?_).symm
  · rintro rfl; simp at h'
  · rintro rfl; simp at h'

theorem and_bits {a b : BitVec 1} (h : a &&& b = 1#1) : a = 1#1 ∧ b = 1#1 := by
  revert a b; decide

/-- An array's entries from column `o` on, as real numbers. -/
def cols {n : ℕ} (x : (⟨2, ![2048, n]⟩ : Shape).Idx → EReal) (o r d : ℕ) : ℝ :=
  if h : r < 2048 ∧ o + d < n then (x (ix2 (⟨r, h.1⟩ : Fin 2048) (⟨o + d, h.2⟩ : Fin n))).toReal else 0

theorem cols_eq {n : ℕ} (x : (⟨2, ![2048, n]⟩ : Shape).Idx → EReal) (o : ℕ) (r : Fin 2048) (d : ℕ) (h : o + d < n) :
    cols x o r d = (x (ix2 r (⟨o + d, h⟩ : Fin n))).toReal := by
  unfold cols; rw [dif_pos ⟨r.isLt, h⟩]

theorem finite_real (x0 : (⟨2, ![2048, 3072]⟩ : Shape).Idx → EReal) (x1 : (⟨2, ![2048, 1024]⟩ : Shape).Idx → EReal)
    (h : @Cert.Pre_finite.fn finite_facts Ideal _ x0 x1 = fun _ => 1#1) :
    Inputs x0 x1 (cols x0 0) (cols x0 1024) (cols x0 2048) (cols x1 0) := by
  have key : ∀ (r : Fin 2048) (d : Fin 512),
      ((Ideal.cmp .olt (max (x0 (ix2 r (⟨d.val, by omega⟩ : Fin 3072))) (-x0 (ix2 r (⟨d.val, by omega⟩ : Fin 3072)))) (Ideal.ofBits .f32 0x7F800000#32) = 1#1
      ∧ Ideal.cmp .olt (max (x0 (ix2 r (⟨1024 + d.val, by omega⟩ : Fin 3072))) (-x0 (ix2 r (⟨1024 + d.val, by omega⟩ : Fin 3072)))) (Ideal.ofBits .f32 0x7F800000#32) = 1#1)
      ∧ Ideal.cmp .olt (max (x0 (ix2 r (⟨2048 + d.val, by omega⟩ : Fin 3072))) (-x0 (ix2 r (⟨2048 + d.val, by omega⟩ : Fin 3072)))) (Ideal.ofBits .f32 0x7F800000#32) = 1#1)
      ∧ Ideal.cmp .olt (max (x1 (ix2 r (⟨d.val, by omega⟩ : Fin 1024))) (-x1 (ix2 r (⟨d.val, by omega⟩ : Fin 1024)))) (Ideal.ofBits .f32 0x7F800000#32) = 1#1 := by
    intro r d
    have e := congrFun h (ix2 r d)
    obtain ⟨e, e4⟩ := and_bits e
    obtain ⟨e, e3⟩ := and_bits e
    obtain ⟨e1, e2⟩ := and_bits e
    have i0 : ∀ (n o : ℕ) (hs : (⟨2, ![2048, n]⟩ : Shape).Slices ![0, o] ⟨2, ![2048, 512]⟩) (hb : o + d.val < n) (x : (⟨2, ![2048, n]⟩ : Shape).Idx → EReal),
        extractStridedSlice ⟨2, ![2048, 512]⟩ ![0, o] x hs (ix2 r d) = x (ix2 r (⟨o + d.val, hb⟩ : Fin n)) := by
      intro n o hs hb x
      unfold extractStridedSlice
      congr 1
      funext a
      match a with
      | ⟨0, _⟩ => exact Fin.ext (by show 0 + r.val = r.val; omega)
      | ⟨1, _⟩ => exact Fin.ext rfl
    have z : ∀ (n : ℕ) (hb : d.val < n), (⟨0 + d.val, by omega⟩ : Fin n) = ⟨d.val, hb⟩ := fun n hb => Fin.ext (Nat.zero_add _)
    refine ⟨⟨⟨?_, ?_⟩, ?_⟩, ?_⟩
    · have f := i0 3072 0 Cert.KernelIdeal.Gen.facts₀.slices_S2048x3072_S2048x512_0_0 (by omega) x0
      rw [z 3072 (by omega)] at f; rw [← f]; exact e1
    · rw [← i0 3072 1024 Cert.KernelIdeal.Gen.facts₀.slices_S2048x3072_S2048x512_0_1024 (by omega) x0]; exact e2
    · rw [← i0 3072 2048 Cert.ReferenceIdeal.Gen.facts₀.slices_S2048x3072_S2048x512_0_2048 (by omega) x0]; exact e3
    · have f := i0 1024 0 Cert.ReferenceIdeal.Gen.facts₀.slices_S2048x1024_S2048x512_0_0 (by omega) x1
      rw [z 1024 (by omega)] at f; rw [← f]; exact e4
  have z : ∀ (n d : ℕ) (hb : d < n), (⟨0 + d, by omega⟩ : Fin n) = ⟨d, hb⟩ := fun n d hb => Fin.ext (Nat.zero_add _)
  refine ⟨fun r d hd => ?_, fun r d hd => ?_, fun r d hd => ?_, fun r d hd => ?_⟩
  · rw [cols_eq _ _ _ _ (by omega), z 3072 d (by omega)]; exact real_of_lt (key r ⟨d, hd⟩).1.1.1
  · rw [cols_eq _ _ _ _ (by omega)]; exact real_of_lt (key r ⟨d, hd⟩).1.1.2
  · rw [cols_eq _ _ _ _ (by omega)]; exact real_of_lt (key r ⟨d, hd⟩).1.2
  · rw [cols_eq _ _ _ _ (by omega), z 1024 d (by omega)]; exact real_of_lt (key r ⟨d, hd⟩).2

end Cert.Sb

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FiKernel
public import proofs.«01_k».proof.Proof.Gen.FiKernel.Frame
public import proofs.«01_k».proof.Proof.Gen.FiKernelIdeal
public import proofs.«01_k».proof.Proof.Gen.FiKernelIdeal.Frame
public import proofs.«01_k».proof.Proof.Gen.FiKernelIdeal.Value
public import proofs.«01_k».proof.Proof.Gen.FiReferenceIdeal
public import proofs.«01_k».proof.Proof.Gen.FiReferenceIdeal.Run
public import proofs.«01_k».proof.Proof.Gen.FiReferenceIdeal.Read
public import proofs.«01_k».proof.Proof.FiValue
public import proofs.«01_k».proof.Proof.Gen.FoKernel
public import proofs.«01_k».proof.Proof.Gen.FoKernel.Frame
public import proofs.«01_k».proof.Proof.Gen.FoKernelIdeal
public import proofs.«01_k».proof.Proof.Gen.FoKernelIdeal.Frame
public import proofs.«01_k».proof.Proof.Gen.FoKernelIdeal.Value
public import proofs.«01_k».proof.Proof.Gen.FoReferenceIdeal
public import proofs.«01_k».proof.Proof.Gen.FoReferenceIdeal.Run
public import proofs.«01_k».proof.Proof.Gen.FoReferenceIdeal.Read
public import proofs.«01_k».proof.Proof.FoValue
public import proofs.«01_k».proof.Proof.Gen.SwKernel
public import proofs.«01_k».proof.Proof.Gen.SwKernel.Frame
public import proofs.«01_k».proof.Proof.Gen.SwKernelIdeal
public import proofs.«01_k».proof.Proof.Gen.SwKernelIdeal.Frame
public import proofs.«01_k».proof.Proof.Gen.SwKernelIdeal.Value
public import proofs.«01_k».proof.Proof.Gen.SwReferenceIdeal
public import proofs.«01_k».proof.Proof.Gen.SwReferenceIdeal.Run
public import proofs.«01_k».proof.Proof.Gen.SwReferenceIdeal.Read
public import proofs.«01_k».proof.Proof.SwValue
public import proofs.«01_k».proof.Proof.Gen.DhKernel
public import proofs.«01_k».proof.Proof.Gen.DhKernel.Frame
public import proofs.«01_k».proof.Proof.Gen.DhKernelIdeal
public import proofs.«01_k».proof.Proof.Gen.DhKernelIdeal.Frame
public import proofs.«01_k».proof.Proof.Gen.DhKernelIdeal.Value
public import proofs.«01_k».proof.Proof.Gen.DhReferenceIdeal
public import proofs.«01_k».proof.Proof.Gen.DhReferenceIdeal.Run
public import proofs.«01_k».proof.Proof.Gen.DhReferenceIdeal.Read
public import proofs.«01_k».proof.Proof.DhValue
public import proofs.«01_k».proof.Proof.Gen.FwKernel
public import proofs.«01_k».proof.Proof.Gen.FwKernel.Frame
public import proofs.«01_k».proof.Proof.Gen.FwKernelIdeal
public import proofs.«01_k».proof.Proof.Gen.FwKernelIdeal.Frame
public import proofs.«01_k».proof.Proof.Gen.FwKernelIdeal.Value
public import proofs.«01_k».proof.Proof.Gen.FwReferenceIdeal
public import proofs.«01_k».proof.Proof.Gen.FwReferenceIdeal.Run
public import proofs.«01_k».proof.Proof.Gen.FwReferenceIdeal.Read
public import proofs.«01_k».proof.Proof.FwValue
public import proofs.«01_k».proof.Proof.Gen.OuKernel
public import proofs.«01_k».proof.Proof.Gen.OuKernel.Frame
public import proofs.«01_k».proof.Proof.Gen.OuKernelIdeal
public import proofs.«01_k».proof.Proof.Gen.OuKernelIdeal.Frame
public import proofs.«01_k».proof.Proof.Gen.OuKernelIdeal.Value
public import proofs.«01_k».proof.Proof.Gen.OuReferenceIdeal
public import proofs.«01_k».proof.Proof.Gen.OuReferenceIdeal.Run
public import proofs.«01_k».proof.Proof.Gen.OuReferenceIdeal.Read
public import proofs.«01_k».proof.Proof.OuValue
public import proofs.«01_k».proof.Proof.Gen.AoKernel
public import proofs.«01_k».proof.Proof.Gen.AoKernel.Frame
public import proofs.«01_k».proof.Proof.Gen.AoKernelIdeal
public import proofs.«01_k».proof.Proof.Gen.AoKernelIdeal.Frame
public import proofs.«01_k».proof.Proof.Gen.AoKernelIdeal.Value
public import proofs.«01_k».proof.Proof.Gen.AoReferenceIdeal
public import proofs.«01_k».proof.Proof.Gen.AoReferenceIdeal.Run
public import proofs.«01_k».proof.Proof.Gen.AoReferenceIdeal.Read
public import proofs.«01_k».proof.Proof.AoValue
public import proofs.«01_k».proof.Proof.Gen.OlKernel
public import proofs.«01_k».proof.Proof.Gen.OlKernel.Frame
public import proofs.«01_k».proof.Proof.Gen.OlKernelIdeal
public import proofs.«01_k».proof.Proof.Gen.OlKernelIdeal.Frame
public import proofs.«01_k».proof.Proof.Gen.OlKernelIdeal.Value
public import proofs.«01_k».proof.Proof.Gen.OlReferenceIdeal
public import proofs.«01_k».proof.Proof.Gen.OlReferenceIdeal.Run
public import proofs.«01_k».proof.Proof.Gen.OlReferenceIdeal.Read
public import proofs.«01_k».proof.Proof.OlValue
public import proofs.«01_k».proof.Proof.Gen.GoKernel
public import proofs.«01_k».proof.Proof.Gen.GoKernel.Frame
public import proofs.«01_k».proof.Proof.Gen.GoKernelIdeal
public import proofs.«01_k».proof.Proof.Gen.GoKernelIdeal.Frame
public import proofs.«01_k».proof.Proof.Gen.GoKernelIdeal.Value
public import proofs.«01_k».proof.Proof.Gen.GoReferenceIdeal
public import proofs.«01_k».proof.Proof.Gen.GoReferenceIdeal.Run
public import proofs.«01_k».proof.Proof.Gen.GoReferenceIdeal.Read
public import proofs.«01_k».proof.Proof.GoValue
public import proofs.«01_k».proof.Proof.Gen.DaKernel
public import proofs.«01_k».proof.Proof.Gen.DaKernel.Frame
public import proofs.«01_k».proof.Proof.Gen.DaKernelIdeal
public import proofs.«01_k».proof.Proof.Gen.DaKernelIdeal.Frame
public import proofs.«01_k».proof.Proof.Gen.DaKernelIdeal.Value
public import proofs.«01_k».proof.Proof.Gen.DaReferenceIdeal
public import proofs.«01_k».proof.Proof.Gen.DaReferenceIdeal.Run
public import proofs.«01_k».proof.Proof.Gen.DaReferenceIdeal.Read
public import proofs.«01_k».proof.Proof.DaValue
public import proofs.«01_k».proof.Proof.Gen.QeKernel
public import proofs.«01_k».proof.Proof.Gen.QeKernel.Frame
public import proofs.«01_k».proof.Proof.Gen.QeKernelIdeal
public import proofs.«01_k».proof.Proof.Gen.QeKernelIdeal.Frame
public import proofs.«01_k».proof.Proof.Gen.QeKernelIdeal.Value
public import proofs.«01_k».proof.Proof.Gen.QeReferenceIdeal
public import proofs.«01_k».proof.Proof.Gen.QeReferenceIdeal.Run
public import proofs.«01_k».proof.Proof.Gen.QeReferenceIdeal.Read
public import proofs.«01_k».proof.Proof.QeValue
public import proofs.«01_k».proof.Proof.Gen.QoKernel
public import proofs.«01_k».proof.Proof.Gen.QoKernel.Frame
public import proofs.«01_k».proof.Proof.Gen.QoKernelIdeal
public import proofs.«01_k».proof.Proof.Gen.QoKernelIdeal.Frame
public import proofs.«01_k».proof.Proof.Gen.QoKernelIdeal.Value
public import proofs.«01_k».proof.Proof.Gen.QoReferenceIdeal
public import proofs.«01_k».proof.Proof.Gen.QoReferenceIdeal.Run
public import proofs.«01_k».proof.Proof.Gen.QoReferenceIdeal.Read
public import proofs.«01_k».proof.Proof.QoValue
public import proofs.«01_k».proof.Proof.Gen.GqKernel
public import proofs.«01_k».proof.Proof.Gen.GqKernel.Frame
public import proofs.«01_k».proof.Proof.Gen.GqKernelIdeal
public import proofs.«01_k».proof.Proof.Gen.GqKernelIdeal.Frame
public import proofs.«01_k».proof.Proof.Gen.GqKernelIdeal.Value
public import proofs.«01_k».proof.Proof.Gen.GqReferenceIdeal
public import proofs.«01_k».proof.Proof.Gen.GqReferenceIdeal.Run
public import proofs.«01_k».proof.Proof.Gen.GqReferenceIdeal.Read
public import proofs.«01_k».proof.Proof.GqValue
public import proofs.«01_k».proof.Proof.Gen.GnKernel
public import proofs.«01_k».proof.Proof.Gen.GnKernel.Frame
public import proofs.«01_k».proof.Proof.Gen.GnKernelIdeal
public import proofs.«01_k».proof.Proof.Gen.GnKernelIdeal.Frame
public import proofs.«01_k».proof.Proof.Gen.GnKernelIdeal.Value
public import proofs.«01_k».proof.Proof.Gen.GnReferenceIdeal
public import proofs.«01_k».proof.Proof.Gen.GnReferenceIdeal.Run
public import proofs.«01_k».proof.Proof.Gen.GnReferenceIdeal.Read
public import proofs.«01_k».proof.Proof.GnValue
public import proofs.«01_k».proof.Proof.Gen.DqKernel
public import proofs.«01_k».proof.Proof.Gen.DqKernel.Frame
public import proofs.«01_k».proof.Proof.Gen.DqKernelIdeal
public import proofs.«01_k».proof.Proof.Gen.DqKernelIdeal.Frame
public import proofs.«01_k».proof.Proof.Gen.DqKernelIdeal.Value
public import proofs.«01_k».proof.Proof.Gen.DqReferenceIdeal
public import proofs.«01_k».proof.Proof.Gen.DqReferenceIdeal.Run
public import proofs.«01_k».proof.Proof.Gen.DqReferenceIdeal.Read
public import proofs.«01_k».proof.Proof.DqValue
public import proofs.«01_k».proof.Proof.Gen.DnKernel
public import proofs.«01_k».proof.Proof.Gen.DnKernel.Frame
public import proofs.«01_k».proof.Proof.Gen.DnKernelIdeal
public import proofs.«01_k».proof.Proof.Gen.DnKernelIdeal.Frame
public import proofs.«01_k».proof.Proof.Gen.DnKernelIdeal.Value
public import proofs.«01_k».proof.Proof.Gen.DnReferenceIdeal
public import proofs.«01_k».proof.Proof.Gen.DnReferenceIdeal.Run
public import proofs.«01_k».proof.Proof.Gen.DnReferenceIdeal.Read
public import proofs.«01_k».proof.Proof.DnValue
public import proofs.«01_k».proof.Proof.Gen.UsKernel
public import proofs.«01_k».proof.Proof.Gen.UsKernel.Frame
public import proofs.«01_k».proof.Proof.Gen.UsKernelIdeal
public import proofs.«01_k».proof.Proof.Gen.UsKernelIdeal.Frame
public import proofs.«01_k».proof.Proof.Gen.UsKernelIdeal.Value
public import proofs.«01_k».proof.Proof.Gen.UsReferenceIdeal
public import proofs.«01_k».proof.Proof.Gen.UsReferenceIdeal.Run
public import proofs.«01_k».proof.Proof.Gen.UsReferenceIdeal.Read
public import proofs.«01_k».proof.Proof.UsValue
public import proofs.«01_k».proof.Proof.Gen.UqKernel
public import proofs.«01_k».proof.Proof.Gen.UqKernel.Frame
public import proofs.«01_k».proof.Proof.Gen.UqKernelIdeal
public import proofs.«01_k».proof.Proof.Gen.UqKernelIdeal.Frame
public import proofs.«01_k».proof.Proof.Gen.UqReferenceIdeal
public import proofs.«01_k».proof.Proof.Gen.UqReferenceIdeal.Run
public import proofs.«01_k».proof.Proof.Gen.UqReferenceIdeal.Read
public import proofs.«01_k».proof.Proof.UqValue
public import proofs.«01_k».proof.Proof.Gen.UoKernel
public import proofs.«01_k».proof.Proof.Gen.UoKernel.Frame
public import proofs.«01_k».proof.Proof.Gen.UoKernelIdeal
public import proofs.«01_k».proof.Proof.Gen.UoKernelIdeal.Frame
public import proofs.«01_k».proof.Proof.Gen.UoReferenceIdeal
public import proofs.«01_k».proof.Proof.Gen.UoReferenceIdeal.Run
public import proofs.«01_k».proof.Proof.Gen.UoReferenceIdeal.Read
public import proofs.«01_k».proof.Proof.UoValue
public import proofs.«01_k».proof.Proof.Gen.UfKernel
public import proofs.«01_k».proof.Proof.Gen.UfKernel.Frame
public import proofs.«01_k».proof.Proof.Gen.UfKernelIdeal
public import proofs.«01_k».proof.Proof.Gen.UfKernelIdeal.Frame
public import proofs.«01_k».proof.Proof.Gen.UfReferenceIdeal
public import proofs.«01_k».proof.Proof.Gen.UfReferenceIdeal.Run
public import proofs.«01_k».proof.Proof.Gen.UfReferenceIdeal.Read
public import proofs.«01_k».proof.Proof.UfValue
public import proofs.«01_k».proof.Proof.Gen.UiKernel
public import proofs.«01_k».proof.Proof.Gen.UiKernel.Frame
public import proofs.«01_k».proof.Proof.Gen.UiKernelIdeal
public import proofs.«01_k».proof.Proof.Gen.UiKernelIdeal.Frame
public import proofs.«01_k».proof.Proof.Gen.UiReferenceIdeal
public import proofs.«01_k».proof.Proof.Gen.UiReferenceIdeal.Run
public import proofs.«01_k».proof.Proof.Gen.UiReferenceIdeal.Read
public import proofs.«01_k».proof.Proof.UiValue
public import proofs.«01_k».proof.Proof.Gen.UxKernel
public import proofs.«01_k».proof.Proof.Gen.UxKernel.Frame
public import proofs.«01_k».proof.Proof.Gen.UxKernelIdeal
public import proofs.«01_k».proof.Proof.Gen.UxKernelIdeal.Frame
public import proofs.«01_k».proof.Proof.Gen.UxReferenceIdeal
public import proofs.«01_k».proof.Proof.Gen.UxReferenceIdeal.Run
public import proofs.«01_k».proof.Proof.Gen.UxReferenceIdeal.Read
public import proofs.«01_k».proof.Proof.UxValue
public import proofs.«01_k».proof.Proof.SwFinite
public import proofs.«01_k».proof.Proof.Arrays
public import proofs.«01_k».proof.Proof.Finite
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The kernel as printed runs to its end, keeps its arguments and leaves no signal behind. -/
theorem frame_kernel : @Cert.quiescent_Kernel Cert.Kernel.Gen.facts := fun m ρ _ => Cert.Kernel.Gen.frame m ρ

theorem frame_ideal : @Cert.quiescent_KernelIdeal Cert.KernelIdeal.Gen.facts := fun m ρ _ => Cert.KernelIdeal.Gen.frame m ρ

theorem frame_ideal_finite : @Cert.quiescent_KernelIdeal_pre_finite Cert.KernelIdeal.Gen.facts Cert.Sb.finite_facts := fun m ρ _ => Cert.KernelIdeal.Gen.frame m ρ

theorem frame_reference : @Cert.quiescent_ReferenceIdeal Cert.ReferenceIdeal.Gen.facts :=
  fun m g _ => (θ_run _ _ _).mono (fun _ h => ⟨fun c => (h c).2.2.2, sem_eq_zero_of_no_sems (by decide) _⟩) (Cert.ReferenceIdeal.Value.run m g)

theorem frame_reference_finite : @Cert.quiescent_ReferenceIdeal_pre_finite Cert.ReferenceIdeal.Gen.facts Cert.Sb.finite_facts := fun m g _ => frame_reference m g trivial

/-- Two arrays of 2048 rows and 512 columns that read the same real numbers are the same. -/
theorem same {X Y : (⟨2, ![2048, 512]⟩ : Shape).Idx → EReal} {x : ℕ → ℕ → ℝ} (hX : ∀ (r : Fin 2048) (d : Fin 512), X (ix2 r d) = ((x r d : ℝ) : EReal))
    (hY : ∀ (r : Fin 2048) (d : Fin 512), Y (ix2 r d) = ((x r d : ℝ) : EReal)) : X = Y := by
  funext i
  have e : i = ix2 (i 0 : Fin 2048) (i 1 : Fin 512) := by
    funext a
    match a with
    | ⟨0, _⟩ => rfl
    | ⟨1, _⟩ => rfl
  exact (congrArg X e).trans ((hX (i 0) (i 1)).trans ((hY (i 0) (i 1)).symm.trans (congrArg Y e.symm)))

/-- The kernel's three arrays are the three gradients the reference computes. -/
theorem algebraic : @Cert.algebraic_KernelIdeal_ReferenceIdeal_pre_finite Cert.KernelIdeal.Gen.facts Cert.ReferenceIdeal.Gen.facts Cert.Sb.finite_facts := by
  pair_intro
  · run_from Cert.KernelIdeal.Value.run m g
  · run_from Cert.ReferenceIdeal.Value.run m' g'
    · rw [Cert.ReferenceIdeal.Read.val_main_v57_eq, (hagree c).1, (hagree c).2]
      exact same (Cert.ReferenceIdeal.res57 _ _ (Cert.Sb.finite_real _ _ (hpre c))) (Cert.KernelIdeal.G5_real m c (Cert.Sb.finite_real _ _ (hpre c)))
    · rw [Cert.ReferenceIdeal.Read.val_main_v58_eq, (hagree c).1, (hagree c).2]
      exact same (Cert.ReferenceIdeal.res58 _ _ (Cert.Sb.finite_real _ _ (hpre c))) (Cert.KernelIdeal.G6_real m c (Cert.Sb.finite_real _ _ (hpre c)))
    · rw [Cert.ReferenceIdeal.Read.val_main_v59_eq, (hagree c).1, (hagree c).2]
      exact same (Cert.ReferenceIdeal.res59 _ _ (Cert.Sb.finite_real _ _ (hpre c))) (Cert.KernelIdeal.G7_real m c (Cert.Sb.finite_real _ _ (hpre c)))

/-! ## The products, norms and gates around the attention

 Of each program: the kernel as printed and in exact arithmetic run to their ends, keep their arguments and leave no signal behind; so does the
 reference; and the kernel's arrays are the reference's. -/

theorem fi_kernel : @Cert.quiescent_FiKernel Cert.FiKernel.Gen.facts := fun m ρ _ => Cert.FiKernel.Gen.frame m ρ

theorem fi_ideal : @Cert.quiescent_FiKernelIdeal Cert.FiKernelIdeal.Gen.facts := fun m ρ _ => Cert.FiKernelIdeal.Gen.frame m ρ

theorem fi_reference : @Cert.quiescent_FiReferenceIdeal Cert.FiReferenceIdeal.Gen.facts :=
  fun m g _ => (θ_run _ _ _).mono (fun _ h => ⟨fun c => (h c).2, sem_eq_zero_of_no_sems (by decide) _⟩) (Cert.FiReferenceIdeal.Value.run m g)

/-- The gradient of the feed-forward layer's input weights, `h2ᵀ · d_gateup` in the four-chip layout. -/
theorem fi_algebraic : @Cert.algebraic_FiKernelIdeal_FiReferenceIdeal Cert.FiKernelIdeal.Gen.facts Cert.FiReferenceIdeal.Gen.facts := by
  pair_intro
  · run_from Cert.FiKernelIdeal.Value.run_blocks m g
  · run_from Cert.FiReferenceIdeal.Value.run m' g'
    rw [Cert.FiReferenceIdeal.Read.val_main_v8_eq]
    exact (Cert.FiKernelIdeal.Whole.final m c).symm

theorem fo_kernel : @Cert.quiescent_FoKernel Cert.FoKernel.Gen.facts := fun m ρ _ => Cert.FoKernel.Gen.frame m ρ

theorem fo_ideal : @Cert.quiescent_FoKernelIdeal Cert.FoKernelIdeal.Gen.facts := fun m ρ _ => Cert.FoKernelIdeal.Gen.frame m ρ

theorem fo_reference : @Cert.quiescent_FoReferenceIdeal Cert.FoReferenceIdeal.Gen.facts :=
  fun m g _ => (θ_run _ _ _).mono (fun _ h => ⟨fun c => (h c).2, sem_eq_zero_of_no_sems (by decide) _⟩) (Cert.FoReferenceIdeal.Value.run m g)

/-- The gradient of the feed-forward layer's output weights, `actᵀ · d_x`. -/
theorem fo_algebraic : @Cert.algebraic_FoKernelIdeal_FoReferenceIdeal Cert.FoKernelIdeal.Gen.facts Cert.FoReferenceIdeal.Gen.facts := by
  pair_intro
  · run_from Cert.FoKernelIdeal.Value.run_blocks m g
  · run_from Cert.FoReferenceIdeal.Value.run m' g'
    rw [Cert.FoReferenceIdeal.Read.val_main_v5_eq]
    exact (Cert.FoKernelIdeal.Whole.final m c).symm

theorem sw_kernel : @Cert.quiescent_SwKernel Cert.SwKernel.Gen.facts := fun m ρ _ => Cert.SwKernel.Gen.frame m ρ

theorem sw_ideal : @Cert.quiescent_SwKernelIdeal Cert.SwKernelIdeal.Gen.facts := fun m ρ _ => Cert.SwKernelIdeal.Gen.frame m ρ

theorem sw_reference : @Cert.quiescent_SwReferenceIdeal Cert.SwReferenceIdeal.Gen.facts :=
  fun m g _ => (θ_run _ _ _).mono (fun _ h => ⟨fun c => (h c).2, sem_eq_zero_of_no_sems (by decide) _⟩) (Cert.SwReferenceIdeal.Value.run m g)

theorem sw_ideal_finite : @Cert.quiescent_SwKernelIdeal_pre_sw_finite Cert.SwKernelIdeal.Gen.facts Cert.SwKernelIdeal.Whole.sw_finite_facts := fun m ρ _ => Cert.SwKernelIdeal.Gen.frame m ρ

theorem sw_reference_finite : @Cert.quiescent_SwReferenceIdeal_pre_sw_finite Cert.SwReferenceIdeal.Gen.facts Cert.SwKernelIdeal.Whole.sw_finite_facts := fun m g _ => sw_reference m g trivial

/-- The gradients of the gate and of the other factor, where the inputs are finite. -/
theorem sw_algebraic : @Cert.algebraic_SwKernelIdeal_SwReferenceIdeal_pre_sw_finite Cert.SwKernelIdeal.Gen.facts Cert.SwReferenceIdeal.Gen.facts Cert.SwKernelIdeal.Whole.sw_finite_facts := by
  pair_intro
  · run_from Cert.SwKernelIdeal.Value.run_blocks m g
  · run_from Cert.SwReferenceIdeal.Value.run m' g'
    rw [Cert.SwReferenceIdeal.Read.val_main_v10_eq, (hagree c).2.2.2]
    exact (Cert.SwKernelIdeal.Whole.final m c (Cert.SwKernelIdeal.Whole.good_of_finite _ _ _ _ (hpre c))).symm

theorem dh_kernel : @Cert.quiescent_DhKernel Cert.DhKernel.Gen.facts := fun m ρ _ => Cert.DhKernel.Gen.frame m ρ

theorem dh_ideal : @Cert.quiescent_DhKernelIdeal Cert.DhKernelIdeal.Gen.facts := fun m ρ _ => Cert.DhKernelIdeal.Gen.frame m ρ

theorem dh_reference : @Cert.quiescent_DhReferenceIdeal Cert.DhReferenceIdeal.Gen.facts :=
  fun m g _ => (θ_run _ _ _).mono (fun _ h => ⟨fun c => (h c).2.2, sem_eq_zero_of_no_sems (by decide) _⟩) (Cert.DhReferenceIdeal.Value.run m g)

/-- The gradient that leaves the feed-forward layer through its norm, and the gradient of the norm's gain. -/
theorem dh_algebraic : @Cert.algebraic_DhKernelIdeal_DhReferenceIdeal Cert.DhKernelIdeal.Gen.facts Cert.DhReferenceIdeal.Gen.facts := by
  pair_intro
  · run_from Cert.DhKernelIdeal.Value.run_blocks m g
  · run_from Cert.DhReferenceIdeal.Value.run m' g'
    · rw [Cert.DhReferenceIdeal.Read.val_main_v39_eq, (hagree c).1, (hagree c).2.1, (hagree c).2.2.1, (hagree c).2.2.2.1, (hagree c).2.2.2.2]
      exact (Cert.DhKernelIdeal.Whole.final5 m c).symm
    · rw [Cert.DhReferenceIdeal.Read.val_main_v40_eq]
      exact (Cert.DhKernelIdeal.Whole.final6 m c).symm

theorem fw_kernel : @Cert.quiescent_FwKernel Cert.FwKernel.Gen.facts := fun m ρ _ => Cert.FwKernel.Gen.frame m ρ

theorem fw_ideal : @Cert.quiescent_FwKernelIdeal Cert.FwKernelIdeal.Gen.facts := fun m ρ _ => Cert.FwKernelIdeal.Gen.frame m ρ

theorem fw_reference : @Cert.quiescent_FwReferenceIdeal Cert.FwReferenceIdeal.Gen.facts :=
  fun m g _ => (θ_run _ _ _).mono (fun _ h => ⟨fun c => (h c).2.2.2, sem_eq_zero_of_no_sems (by decide) _⟩) (Cert.FwReferenceIdeal.Value.run m g)

/-- The feed-forward layer's first half: gate, other factor and their product. -/
theorem fw_algebraic : @Cert.algebraic_FwKernelIdeal_FwReferenceIdeal Cert.FwKernelIdeal.Gen.facts Cert.FwReferenceIdeal.Gen.facts := by
  pair_intro
  · run_from Cert.FwKernelIdeal.Value.run_blocks m g
  · run_from Cert.FwReferenceIdeal.Value.run m' g'
    · rw [Cert.FwReferenceIdeal.Read.val_main_v4_eq]
      exact (Cert.FwKernelIdeal.Whole.finalG m c).symm
    · rw [Cert.FwReferenceIdeal.Read.val_main_v5_eq]
      exact (Cert.FwKernelIdeal.Whole.finalU m c).symm
    · rw [Cert.FwReferenceIdeal.Read.val_main_v8_eq]
      exact (Cert.FwKernelIdeal.Whole.finalA m c).symm

theorem ou_kernel : @Cert.quiescent_OuKernel Cert.OuKernel.Gen.facts := fun m ρ _ => Cert.OuKernel.Gen.frame m ρ

theorem ou_ideal : @Cert.quiescent_OuKernelIdeal Cert.OuKernelIdeal.Gen.facts := fun m ρ _ => Cert.OuKernelIdeal.Gen.frame m ρ

theorem ou_reference : @Cert.quiescent_OuReferenceIdeal Cert.OuReferenceIdeal.Gen.facts :=
  fun m g _ => (θ_run _ _ _).mono (fun _ h => ⟨fun c => (h c).2.2, sem_eq_zero_of_no_sems (by decide) _⟩) (Cert.OuReferenceIdeal.Value.run m g)

/-- The feed-forward layer's second half with the residual, and the next layer's norm. -/
theorem ou_algebraic : @Cert.algebraic_OuKernelIdeal_OuReferenceIdeal Cert.OuKernelIdeal.Gen.facts Cert.OuReferenceIdeal.Gen.facts := by
  pair_intro
  · run_from Cert.OuKernelIdeal.Value.run_blocks m g
  · run_from Cert.OuReferenceIdeal.Value.run m' g'
    · rw [Cert.OuReferenceIdeal.Read.val_main_v2_eq]
      exact (Cert.OuKernelIdeal.Whole.finalX m c).symm
    · rw [Cert.OuReferenceIdeal.Read.val_main_v16_eq]
      exact (Cert.OuKernelIdeal.Whole.finalN m c).symm

theorem ao_kernel : @Cert.quiescent_AoKernel Cert.AoKernel.Gen.facts := fun m ρ _ => Cert.AoKernel.Gen.frame m ρ

theorem ao_ideal : @Cert.quiescent_AoKernelIdeal Cert.AoKernelIdeal.Gen.facts := fun m ρ _ => Cert.AoKernelIdeal.Gen.frame m ρ

theorem ao_reference : @Cert.quiescent_AoReferenceIdeal Cert.AoReferenceIdeal.Gen.facts :=
  fun m g _ => (θ_run _ _ _).mono (fun _ h => ⟨fun c => (h c).2.2, sem_eq_zero_of_no_sems (by decide) _⟩) (Cert.AoReferenceIdeal.Value.run m g)

/-- The attention's output product with the residual, and the feed-forward layer's norm. -/
theorem ao_algebraic : @Cert.algebraic_AoKernelIdeal_AoReferenceIdeal Cert.AoKernelIdeal.Gen.facts Cert.AoReferenceIdeal.Gen.facts := by
  pair_intro
  · run_from Cert.AoKernelIdeal.Value.run_blocks m g
  · run_from Cert.AoReferenceIdeal.Value.run m' g'
    · rw [Cert.AoReferenceIdeal.Read.val_main_v2_eq]
      exact (Cert.AoKernelIdeal.Whole.finalX m c).symm
    · rw [Cert.AoReferenceIdeal.Read.val_main_v16_eq]
      exact (Cert.AoKernelIdeal.Whole.finalN m c).symm

theorem ol_kernel : @Cert.quiescent_OlKernel Cert.OlKernel.Gen.facts := fun m ρ _ => Cert.OlKernel.Gen.frame m ρ

theorem ol_ideal : @Cert.quiescent_OlKernelIdeal Cert.OlKernelIdeal.Gen.facts := fun m ρ _ => Cert.OlKernelIdeal.Gen.frame m ρ

theorem ol_reference : @Cert.quiescent_OlReferenceIdeal Cert.OlReferenceIdeal.Gen.facts :=
  fun m g _ => (θ_run _ _ _).mono (fun _ h => ⟨fun c => (h c).2, sem_eq_zero_of_no_sems (by decide) _⟩) (Cert.OlReferenceIdeal.Value.run m g)

/-- The last layer's second half with the residual. -/
theorem ol_algebraic : @Cert.algebraic_OlKernelIdeal_OlReferenceIdeal Cert.OlKernelIdeal.Gen.facts Cert.OlReferenceIdeal.Gen.facts := by
  pair_intro
  · run_from Cert.OlKernelIdeal.Value.run_blocks m g
  · run_from Cert.OlReferenceIdeal.Value.run m' g'
    rw [Cert.OlReferenceIdeal.Read.val_main_v2_eq]
    exact (Cert.OlKernelIdeal.Whole.final m c).symm

theorem go_kernel : @Cert.quiescent_GoKernel Cert.GoKernel.Gen.facts := fun m ρ _ => Cert.GoKernel.Gen.frame m ρ

theorem go_ideal : @Cert.quiescent_GoKernelIdeal Cert.GoKernelIdeal.Gen.facts := fun m ρ _ => Cert.GoKernelIdeal.Gen.frame m ρ

theorem go_reference : @Cert.quiescent_GoReferenceIdeal Cert.GoReferenceIdeal.Gen.facts :=
  fun m g _ => (θ_run _ _ _).mono (fun _ h => ⟨fun c => (h c).2, sem_eq_zero_of_no_sems (by decide) _⟩) (Cert.GoReferenceIdeal.Value.run m g)

/-- The gradient of the attention's output weights. -/
theorem go_algebraic : @Cert.algebraic_GoKernelIdeal_GoReferenceIdeal Cert.GoKernelIdeal.Gen.facts Cert.GoReferenceIdeal.Gen.facts := by
  pair_intro
  · run_from Cert.GoKernelIdeal.Value.run_blocks m g
  · run_from Cert.GoReferenceIdeal.Value.run m' g'
    rw [Cert.GoReferenceIdeal.Read.val_main_v5_eq]
    exact (Cert.GoKernelIdeal.Whole.final m c).symm

theorem da_kernel : @Cert.quiescent_DaKernel Cert.DaKernel.Gen.facts := fun m ρ _ => Cert.DaKernel.Gen.frame m ρ

theorem da_ideal : @Cert.quiescent_DaKernelIdeal Cert.DaKernelIdeal.Gen.facts := fun m ρ _ => Cert.DaKernelIdeal.Gen.frame m ρ

theorem da_reference : @Cert.quiescent_DaReferenceIdeal Cert.DaReferenceIdeal.Gen.facts :=
  fun m g _ => (θ_run _ _ _).mono (fun _ h => ⟨fun c => (h c).2, sem_eq_zero_of_no_sems (by decide) _⟩) (Cert.DaReferenceIdeal.Value.run m g)

/-- The gradient of the attention's heads. -/
theorem da_algebraic : @Cert.algebraic_DaKernelIdeal_DaReferenceIdeal Cert.DaKernelIdeal.Gen.facts Cert.DaReferenceIdeal.Gen.facts := by
  pair_intro
  · run_from Cert.DaKernelIdeal.Value.run_blocks m g
  · run_from Cert.DaReferenceIdeal.Value.run m' g'
    exact (Eq.trans (Cert.DaReferenceIdeal.Read.val_main_v2_eq _ _) (Cert.DaKernelIdeal.Whole.final m c).symm :)

theorem qe_kernel : @Cert.quiescent_QeKernel Cert.QeKernel.Gen.facts := fun m ρ _ => Cert.QeKernel.Gen.frame m ρ

theorem qe_ideal : @Cert.quiescent_QeKernelIdeal Cert.QeKernelIdeal.Gen.facts := fun m ρ _ => Cert.QeKernelIdeal.Gen.frame m ρ

theorem qe_reference : @Cert.quiescent_QeReferenceIdeal Cert.QeReferenceIdeal.Gen.facts :=
  fun m g _ => (θ_run _ _ _).mono (fun _ h => ⟨fun c => (h c).2, sem_eq_zero_of_no_sems (by decide) _⟩) (Cert.QeReferenceIdeal.Value.run m g)

/-- The even layers' q, k and v. -/
theorem qe_algebraic : @Cert.algebraic_QeKernelIdeal_QeReferenceIdeal Cert.QeKernelIdeal.Gen.facts Cert.QeReferenceIdeal.Gen.facts := by
  pair_intro
  · run_from Cert.QeKernelIdeal.Value.run_blocks m g
  · run_from Cert.QeReferenceIdeal.Value.run m' g'
    rw [Cert.QeReferenceIdeal.Read.val_main_v2_eq]
    exact (Cert.QeKernelIdeal.Whole.final m c).symm

theorem qo_kernel : @Cert.quiescent_QoKernel Cert.QoKernel.Gen.facts := fun m ρ _ => Cert.QoKernel.Gen.frame m ρ

theorem qo_ideal : @Cert.quiescent_QoKernelIdeal Cert.QoKernelIdeal.Gen.facts := fun m ρ _ => Cert.QoKernelIdeal.Gen.frame m ρ

theorem qo_reference : @Cert.quiescent_QoReferenceIdeal Cert.QoReferenceIdeal.Gen.facts :=
  fun m g _ => (θ_run _ _ _).mono (fun _ h => ⟨fun c => (h c).2, sem_eq_zero_of_no_sems (by decide) _⟩) (Cert.QoReferenceIdeal.Value.run m g)

/-- The odd layers' q, k and v. -/
theorem qo_algebraic : @Cert.algebraic_QoKernelIdeal_QoReferenceIdeal Cert.QoKernelIdeal.Gen.facts Cert.QoReferenceIdeal.Gen.facts := by
  pair_intro
  · run_from Cert.QoKernelIdeal.Value.run_blocks m g
  · run_from Cert.QoReferenceIdeal.Value.run m' g'
    rw [Cert.QoReferenceIdeal.Read.val_main_v3_eq]
    exact (Cert.QoKernelIdeal.Whole.final m c).symm

theorem gq_kernel : @Cert.quiescent_GqKernel Cert.GqKernel.Gen.facts := fun m ρ _ => Cert.GqKernel.Gen.frame m ρ

theorem gq_ideal : @Cert.quiescent_GqKernelIdeal Cert.GqKernelIdeal.Gen.facts := fun m ρ _ => Cert.GqKernelIdeal.Gen.frame m ρ

theorem gq_reference : @Cert.quiescent_GqReferenceIdeal Cert.GqReferenceIdeal.Gen.facts :=
  fun m g _ => (θ_run _ _ _).mono (fun _ h => ⟨fun c => (h c).2, sem_eq_zero_of_no_sems (by decide) _⟩) (Cert.GqReferenceIdeal.Value.run m g)

/-- The gradient of the even layers' q, k, v weights in the four-chip layout. -/
theorem gq_algebraic : @Cert.algebraic_GqKernelIdeal_GqReferenceIdeal Cert.GqKernelIdeal.Gen.facts Cert.GqReferenceIdeal.Gen.facts := by
  pair_intro
  · run_from Cert.GqKernelIdeal.Value.run_blocks m g
  · run_from Cert.GqReferenceIdeal.Value.run m' g'
    rw [Cert.GqReferenceIdeal.Read.val_main_v8_eq]
    exact (Cert.GqKernelIdeal.Whole.final m c).symm

theorem gn_kernel : @Cert.quiescent_GnKernel Cert.GnKernel.Gen.facts := fun m ρ _ => Cert.GnKernel.Gen.frame m ρ

theorem gn_ideal : @Cert.quiescent_GnKernelIdeal Cert.GnKernelIdeal.Gen.facts := fun m ρ _ => Cert.GnKernelIdeal.Gen.frame m ρ

theorem gn_reference : @Cert.quiescent_GnReferenceIdeal Cert.GnReferenceIdeal.Gen.facts :=
  fun m g _ => (θ_run _ _ _).mono (fun _ h => ⟨fun c => (h c).2, sem_eq_zero_of_no_sems (by decide) _⟩) (Cert.GnReferenceIdeal.Value.run m g)

/-- The gradient of the odd layers' q, k, v and gate weights. -/
theorem gn_algebraic : @Cert.algebraic_GnKernelIdeal_GnReferenceIdeal Cert.GnKernelIdeal.Gen.facts Cert.GnReferenceIdeal.Gen.facts := by
  pair_intro
  · run_from Cert.GnKernelIdeal.Value.run_blocks m g
  · run_from Cert.GnReferenceIdeal.Value.run m' g'
    rw [Cert.GnReferenceIdeal.Read.val_main_v6_eq]
    exact (Cert.GnKernelIdeal.Whole.final m c).symm

theorem dq_kernel : @Cert.quiescent_DqKernel Cert.DqKernel.Gen.facts := fun m ρ _ => Cert.DqKernel.Gen.frame m ρ

theorem dq_ideal : @Cert.quiescent_DqKernelIdeal Cert.DqKernelIdeal.Gen.facts := fun m ρ _ => Cert.DqKernelIdeal.Gen.frame m ρ

theorem dq_reference : @Cert.quiescent_DqReferenceIdeal Cert.DqReferenceIdeal.Gen.facts :=
  fun m g _ => (θ_run _ _ _).mono (fun _ h => ⟨fun c => (h c).2.2, sem_eq_zero_of_no_sems (by decide) _⟩) (Cert.DqReferenceIdeal.Value.run m g)

/-- The gradient that leaves an even layer's attention through its norm, and the gradient of the norm's gain. -/
theorem dq_algebraic : @Cert.algebraic_DqKernelIdeal_DqReferenceIdeal Cert.DqKernelIdeal.Gen.facts Cert.DqReferenceIdeal.Gen.facts := by
  pair_intro
  · run_from Cert.DqKernelIdeal.Value.run_blocks m g
  · run_from Cert.DqReferenceIdeal.Value.run m' g'
    · rw [Cert.DqReferenceIdeal.Read.val_main_v39_eq, (hagree c).1, (hagree c).2.1, (hagree c).2.2.1, (hagree c).2.2.2.1, (hagree c).2.2.2.2]
      exact (Cert.DqKernelIdeal.Whole.final5 m c).symm
    · rw [Cert.DqReferenceIdeal.Read.val_main_v40_eq]
      exact (Cert.DqKernelIdeal.Whole.final6 m c).symm

theorem dn_kernel : @Cert.quiescent_DnKernel Cert.DnKernel.Gen.facts := fun m ρ _ => Cert.DnKernel.Gen.frame m ρ

theorem dn_ideal : @Cert.quiescent_DnKernelIdeal Cert.DnKernelIdeal.Gen.facts := fun m ρ _ => Cert.DnKernelIdeal.Gen.frame m ρ

theorem dn_reference : @Cert.quiescent_DnReferenceIdeal Cert.DnReferenceIdeal.Gen.facts :=
  fun m g _ => (θ_run _ _ _).mono (fun _ h => ⟨fun c => (h c).2.2, sem_eq_zero_of_no_sems (by decide) _⟩) (Cert.DnReferenceIdeal.Value.run m g)

/-- The gradient that leaves an odd layer's attention through its norm, and the gradient of the norm's gain. -/
theorem dn_algebraic : @Cert.algebraic_DnKernelIdeal_DnReferenceIdeal Cert.DnKernelIdeal.Gen.facts Cert.DnReferenceIdeal.Gen.facts := by
  pair_intro
  · run_from Cert.DnKernelIdeal.Value.run_blocks m g
  · run_from Cert.DnReferenceIdeal.Value.run m' g'
    · rw [Cert.DnReferenceIdeal.Read.val_main_v39_eq, (hagree c).1, (hagree c).2.1, (hagree c).2.2.1, (hagree c).2.2.2.1, (hagree c).2.2.2.2]
      exact (Cert.DnKernelIdeal.Whole.final5 m c).symm
    · rw [Cert.DnReferenceIdeal.Read.val_main_v40_eq]
      exact (Cert.DnKernelIdeal.Whole.final6 m c).symm

theorem us_kernel : @Cert.quiescent_UsKernel Cert.UsKernel.Gen.facts := fun m ρ _ => Cert.UsKernel.Gen.frame m ρ

theorem us_ideal : @Cert.quiescent_UsKernelIdeal Cert.UsKernelIdeal.Gen.facts := fun m ρ _ => Cert.UsKernelIdeal.Gen.frame m ρ

theorem us_reference : @Cert.quiescent_UsReferenceIdeal Cert.UsReferenceIdeal.Gen.facts :=
  fun m g _ => (θ_run _ _ _).mono (fun _ h => ⟨fun c => (h c).2.2.2, sem_eq_zero_of_no_sems (by decide) _⟩) (Cert.UsReferenceIdeal.Value.run m g)

/-- One AdamW step of the packed small weights. -/
theorem us_algebraic : @Cert.algebraic_UsKernelIdeal_UsReferenceIdeal Cert.UsKernelIdeal.Gen.facts Cert.UsReferenceIdeal.Gen.facts := by
  pair_intro
  · run_from Cert.UsKernelIdeal.Value.run_blocks m g
  · run_from Cert.UsReferenceIdeal.Value.run m' g'
    · rw [Cert.UsReferenceIdeal.Read.val_main_v23_eq]
      exact (Cert.UsKernelIdeal.Whole.finalD m c).symm
    · rw [Cert.UsReferenceIdeal.Read.val_main_v4_eq]
      exact (Cert.UsKernelIdeal.Whole.finalM m c).symm
    · rw [Cert.UsReferenceIdeal.Read.val_main_v10_eq]
      exact (Cert.UsKernelIdeal.Whole.finalV m c).symm

theorem uq_kernel : @Cert.quiescent_UqKernel Cert.UqKernel.Gen.facts := fun m ρ _ => Cert.UqKernel.Gen.frame m ρ (Cert.UqKernel.Whole.ok _)

theorem uq_ideal : @Cert.quiescent_UqKernelIdeal Cert.UqKernelIdeal.Gen.facts := fun m ρ _ => Cert.UqKernelIdeal.Gen.frame m ρ (Cert.UqKernelIdeal.Whole.ok _)

theorem uq_reference : @Cert.quiescent_UqReferenceIdeal Cert.UqReferenceIdeal.Gen.facts :=
  fun m g _ => (θ_run _ _ _).mono (fun _ h => ⟨fun c => (h c).2.2.2.2, sem_eq_zero_of_no_sems (by decide) _⟩) (Cert.UqReferenceIdeal.Value.run m g)

/-- One AdamW step of the even layers' q, k, v weights, and their gradient put together. -/
theorem uq_algebraic : @Cert.algebraic_UqKernelIdeal_UqReferenceIdeal Cert.UqKernelIdeal.Gen.facts Cert.UqReferenceIdeal.Gen.facts := by
  pair_intro
  · run_from Cert.UqKernelIdeal.Whole.run_blocks m g
  · run_from Cert.UqReferenceIdeal.Value.run m' g'
    · rw [Cert.UqReferenceIdeal.Read.val_main_v6_eq (F := Ideal), (hagree c).2.2.2.1, (hagree c).2.2.2.2.1, (hagree c).2.2.2.2.2]
    · rw [Cert.UqReferenceIdeal.Read.val_main_v30_eq (F := Ideal), (hagree c).2.2.2.1, (hagree c).2.2.2.2.1, (hagree c).2.2.2.2.2]
    · rw [Cert.UqReferenceIdeal.Read.val_main_v11_eq (F := Ideal), (hagree c).2.2.2.1, (hagree c).2.2.2.2.1, (hagree c).2.2.2.2.2]
    · rw [Cert.UqReferenceIdeal.Read.val_main_v17_eq (F := Ideal), (hagree c).2.2.2.1, (hagree c).2.2.2.2.1, (hagree c).2.2.2.2.2]

theorem uo_kernel : @Cert.quiescent_UoKernel Cert.UoKernel.Gen.facts := fun m ρ _ => Cert.UoKernel.Gen.frame m ρ (Cert.UoKernel.Whole.ok _)

theorem uo_ideal : @Cert.quiescent_UoKernelIdeal Cert.UoKernelIdeal.Gen.facts := fun m ρ _ => Cert.UoKernelIdeal.Gen.frame m ρ (Cert.UoKernelIdeal.Whole.ok _)

theorem uo_reference : @Cert.quiescent_UoReferenceIdeal Cert.UoReferenceIdeal.Gen.facts :=
  fun m g _ => (θ_run _ _ _).mono (fun _ h => ⟨fun c => (h c).2.2.2.2, sem_eq_zero_of_no_sems (by decide) _⟩) (Cert.UoReferenceIdeal.Value.run m g)

/-- One AdamW step of the attention's output weights, and their gradient put together. -/
theorem uo_algebraic : @Cert.algebraic_UoKernelIdeal_UoReferenceIdeal Cert.UoKernelIdeal.Gen.facts Cert.UoReferenceIdeal.Gen.facts := by
  pair_intro
  · run_from Cert.UoKernelIdeal.Whole.run_blocks m g
  · run_from Cert.UoReferenceIdeal.Value.run m' g'
    · rw [Cert.UoReferenceIdeal.Read.val_main_v6_eq (F := Ideal), (hagree c).2.2.2.1, (hagree c).2.2.2.2.1, (hagree c).2.2.2.2.2]
    · rw [Cert.UoReferenceIdeal.Read.val_main_v30_eq (F := Ideal), (hagree c).2.2.2.1, (hagree c).2.2.2.2.1, (hagree c).2.2.2.2.2]
    · rw [Cert.UoReferenceIdeal.Read.val_main_v11_eq (F := Ideal), (hagree c).2.2.2.1, (hagree c).2.2.2.2.1, (hagree c).2.2.2.2.2]
    · rw [Cert.UoReferenceIdeal.Read.val_main_v17_eq (F := Ideal), (hagree c).2.2.2.1, (hagree c).2.2.2.2.1, (hagree c).2.2.2.2.2]

theorem uf_kernel : @Cert.quiescent_UfKernel Cert.UfKernel.Gen.facts := fun m ρ _ => Cert.UfKernel.Gen.frame m ρ (Cert.UfKernel.Whole.ok _)

theorem uf_ideal : @Cert.quiescent_UfKernelIdeal Cert.UfKernelIdeal.Gen.facts := fun m ρ _ => Cert.UfKernelIdeal.Gen.frame m ρ (Cert.UfKernelIdeal.Whole.ok _)

theorem uf_reference : @Cert.quiescent_UfReferenceIdeal Cert.UfReferenceIdeal.Gen.facts :=
  fun m g _ => (θ_run _ _ _).mono (fun _ h => ⟨fun c => (h c).2.2.2.2, sem_eq_zero_of_no_sems (by decide) _⟩) (Cert.UfReferenceIdeal.Value.run m g)

/-- One AdamW step of the odd layers' q, k, v and gate weights, and their gradient put together. -/
theorem uf_algebraic : @Cert.algebraic_UfKernelIdeal_UfReferenceIdeal Cert.UfKernelIdeal.Gen.facts Cert.UfReferenceIdeal.Gen.facts := by
  pair_intro
  · run_from Cert.UfKernelIdeal.Whole.run_blocks m g
  · run_from Cert.UfReferenceIdeal.Value.run m' g'
    · rw [Cert.UfReferenceIdeal.Read.val_main_v7_eq (F := Ideal), (hagree c).2.2.2.1, (hagree c).2.2.2.2.1, (hagree c).2.2.2.2.2]
    · rw [Cert.UfReferenceIdeal.Read.val_main_v31_eq (F := Ideal), (hagree c).2.2.2.1, (hagree c).2.2.2.2.1, (hagree c).2.2.2.2.2]
    · rw [Cert.UfReferenceIdeal.Read.val_main_v12_eq (F := Ideal), (hagree c).2.2.2.1, (hagree c).2.2.2.2.1, (hagree c).2.2.2.2.2]
    · rw [Cert.UfReferenceIdeal.Read.val_main_v18_eq (F := Ideal), (hagree c).2.2.2.1, (hagree c).2.2.2.2.1, (hagree c).2.2.2.2.2]

theorem ui_kernel : @Cert.quiescent_UiKernel Cert.UiKernel.Gen.facts := fun m ρ _ => Cert.UiKernel.Gen.frame m ρ (Cert.UiKernel.Whole.ok _)

theorem ui_ideal : @Cert.quiescent_UiKernelIdeal Cert.UiKernelIdeal.Gen.facts := fun m ρ _ => Cert.UiKernelIdeal.Gen.frame m ρ (Cert.UiKernelIdeal.Whole.ok _)

theorem ui_reference : @Cert.quiescent_UiReferenceIdeal Cert.UiReferenceIdeal.Gen.facts :=
  fun m g _ => (θ_run _ _ _).mono (fun _ h => ⟨fun c => (h c).2.2.2.2, sem_eq_zero_of_no_sems (by decide) _⟩) (Cert.UiReferenceIdeal.Value.run m g)

/-- One AdamW step of the feed-forward layers' input weights, and their gradient put together. -/
theorem ui_algebraic : @Cert.algebraic_UiKernelIdeal_UiReferenceIdeal Cert.UiKernelIdeal.Gen.facts Cert.UiReferenceIdeal.Gen.facts := by
  pair_intro
  · run_from Cert.UiKernelIdeal.Whole.run_blocks m g
  · run_from Cert.UiReferenceIdeal.Value.run m' g'
    · rw [Cert.UiReferenceIdeal.Read.val_main_v6_eq (F := Ideal), (hagree c).2.2.2.1, (hagree c).2.2.2.2.1, (hagree c).2.2.2.2.2]
    · rw [Cert.UiReferenceIdeal.Read.val_main_v30_eq (F := Ideal), (hagree c).2.2.2.1, (hagree c).2.2.2.2.1, (hagree c).2.2.2.2.2]
    · rw [Cert.UiReferenceIdeal.Read.val_main_v11_eq (F := Ideal), (hagree c).2.2.2.1, (hagree c).2.2.2.2.1, (hagree c).2.2.2.2.2]
    · rw [Cert.UiReferenceIdeal.Read.val_main_v17_eq (F := Ideal), (hagree c).2.2.2.1, (hagree c).2.2.2.2.1, (hagree c).2.2.2.2.2]

theorem ux_kernel : @Cert.quiescent_UxKernel Cert.UxKernel.Gen.facts := fun m ρ _ => Cert.UxKernel.Gen.frame m ρ (Cert.UxKernel.Whole.ok _)

theorem ux_ideal : @Cert.quiescent_UxKernelIdeal Cert.UxKernelIdeal.Gen.facts := fun m ρ _ => Cert.UxKernelIdeal.Gen.frame m ρ (Cert.UxKernelIdeal.Whole.ok _)

theorem ux_reference : @Cert.quiescent_UxReferenceIdeal Cert.UxReferenceIdeal.Gen.facts :=
  fun m g _ => (θ_run _ _ _).mono (fun _ h => ⟨fun c => (h c).2.2.2.2, sem_eq_zero_of_no_sems (by decide) _⟩) (Cert.UxReferenceIdeal.Value.run m g)

/-- One AdamW step of the feed-forward layers' output weights, and their gradient put together. -/
theorem ux_algebraic : @Cert.algebraic_UxKernelIdeal_UxReferenceIdeal Cert.UxKernelIdeal.Gen.facts Cert.UxReferenceIdeal.Gen.facts := by
  pair_intro
  · run_from Cert.UxKernelIdeal.Whole.run_blocks m g
  · run_from Cert.UxReferenceIdeal.Value.run m' g'
    · rw [Cert.UxReferenceIdeal.Read.val_main_v6_eq (F := Ideal), (hagree c).2.2.2.1, (hagree c).2.2.2.2.1, (hagree c).2.2.2.2.2]
    · rw [Cert.UxReferenceIdeal.Read.val_main_v30_eq (F := Ideal), (hagree c).2.2.2.1, (hagree c).2.2.2.2.1, (hagree c).2.2.2.2.2]
    · rw [Cert.UxReferenceIdeal.Read.val_main_v11_eq (F := Ideal), (hagree c).2.2.2.1, (hagree c).2.2.2.2.1, (hagree c).2.2.2.2.2]
    · rw [Cert.UxReferenceIdeal.Read.val_main_v17_eq (F := Ideal), (hagree c).2.2.2.1, (hagree c).2.2.2.2.1, (hagree c).2.2.2.2.2]

theorem claim : Cert.Claim :=
  ⟨Cert.Kernel.Gen.facts,
    Cert.KernelIdeal.Gen.facts,
    Cert.ReferenceIdeal.Gen.facts,
    Cert.FiKernel.Gen.facts,
    Cert.FiKernelIdeal.Gen.facts,
    Cert.FiReferenceIdeal.Gen.facts,
    Cert.FoKernel.Gen.facts,
    Cert.FoKernelIdeal.Gen.facts,
    Cert.FoReferenceIdeal.Gen.facts,
    Cert.SwKernel.Gen.facts,
    Cert.SwKernelIdeal.Gen.facts,
    Cert.SwReferenceIdeal.Gen.facts,
    Cert.DhKernel.Gen.facts,
    Cert.DhKernelIdeal.Gen.facts,
    Cert.DhReferenceIdeal.Gen.facts,
    Cert.FwKernel.Gen.facts,
    Cert.FwKernelIdeal.Gen.facts,
    Cert.FwReferenceIdeal.Gen.facts,
    Cert.OuKernel.Gen.facts,
    Cert.OuKernelIdeal.Gen.facts,
    Cert.OuReferenceIdeal.Gen.facts,
    Cert.AoKernel.Gen.facts,
    Cert.AoKernelIdeal.Gen.facts,
    Cert.AoReferenceIdeal.Gen.facts,
    Cert.OlKernel.Gen.facts,
    Cert.OlKernelIdeal.Gen.facts,
    Cert.OlReferenceIdeal.Gen.facts,
    Cert.GoKernel.Gen.facts,
    Cert.GoKernelIdeal.Gen.facts,
    Cert.GoReferenceIdeal.Gen.facts,
    Cert.DaKernel.Gen.facts,
    Cert.DaKernelIdeal.Gen.facts,
    Cert.DaReferenceIdeal.Gen.facts,
    Cert.QeKernel.Gen.facts,
    Cert.QeKernelIdeal.Gen.facts,
    Cert.QeReferenceIdeal.Gen.facts,
    Cert.QoKernel.Gen.facts,
    Cert.QoKernelIdeal.Gen.facts,
    Cert.QoReferenceIdeal.Gen.facts,
    Cert.GqKernel.Gen.facts,
    Cert.GqKernelIdeal.Gen.facts,
    Cert.GqReferenceIdeal.Gen.facts,
    Cert.GnKernel.Gen.facts,
    Cert.GnKernelIdeal.Gen.facts,
    Cert.GnReferenceIdeal.Gen.facts,
    Cert.DqKernel.Gen.facts,
    Cert.DqKernelIdeal.Gen.facts,
    Cert.DqReferenceIdeal.Gen.facts,
    Cert.DnKernel.Gen.facts,
    Cert.DnKernelIdeal.Gen.facts,
    Cert.DnReferenceIdeal.Gen.facts,
    Cert.UsKernel.Gen.facts,
    Cert.UsKernelIdeal.Gen.facts,
    Cert.UsReferenceIdeal.Gen.facts,
    Cert.UqKernel.Gen.facts,
    Cert.UqKernelIdeal.Gen.facts,
    Cert.UqReferenceIdeal.Gen.facts,
    Cert.UoKernel.Gen.facts,
    Cert.UoKernelIdeal.Gen.facts,
    Cert.UoReferenceIdeal.Gen.facts,
    Cert.UfKernel.Gen.facts,
    Cert.UfKernelIdeal.Gen.facts,
    Cert.UfReferenceIdeal.Gen.facts,
    Cert.UiKernel.Gen.facts,
    Cert.UiKernelIdeal.Gen.facts,
    Cert.UiReferenceIdeal.Gen.facts,
    Cert.UxKernel.Gen.facts,
    Cert.UxKernelIdeal.Gen.facts,
    Cert.UxReferenceIdeal.Gen.facts,
    Cert.Sb.finite_facts,
    Cert.SwKernelIdeal.Whole.sw_finite_facts,
    frame_kernel,
    frame_ideal,
    frame_ideal_finite,
    frame_reference,
    frame_reference_finite,
    fi_kernel,
    fi_ideal,
    fi_reference,
    fo_kernel,
    fo_ideal,
    fo_reference,
    sw_kernel,
    sw_ideal,
    sw_ideal_finite,
    sw_reference,
    sw_reference_finite,
    dh_kernel,
    dh_ideal,
    dh_reference,
    fw_kernel,
    fw_ideal,
    fw_reference,
    ou_kernel,
    ou_ideal,
    ou_reference,
    ao_kernel,
    ao_ideal,
    ao_reference,
    ol_kernel,
    ol_ideal,
    ol_reference,
    go_kernel,
    go_ideal,
    go_reference,
    da_kernel,
    da_ideal,
    da_reference,
    qe_kernel,
    qe_ideal,
    qe_reference,
    qo_kernel,
    qo_ideal,
    qo_reference,
    gq_kernel,
    gq_ideal,
    gq_reference,
    gn_kernel,
    gn_ideal,
    gn_reference,
    dq_kernel,
    dq_ideal,
    dq_reference,
    dn_kernel,
    dn_ideal,
    dn_reference,
    us_kernel,
    us_ideal,
    us_reference,
    uq_kernel,
    uq_ideal,
    uq_reference,
    uo_kernel,
    uo_ideal,
    uo_reference,
    uf_kernel,
    uf_ideal,
    uf_reference,
    ui_kernel,
    ui_ideal,
    ui_reference,
    ux_kernel,
    ux_ideal,
    ux_reference,
    trivial,
    algebraic,
    trivial,
    fi_algebraic,
    trivial,
    fo_algebraic,
    trivial,
    sw_algebraic,
    trivial,
    dh_algebraic,
    trivial,
    fw_algebraic,
    trivial,
    ou_algebraic,
    trivial,
    ao_algebraic,
    trivial,
    ol_algebraic,
    trivial,
    go_algebraic,
    trivial,
    da_algebraic,
    trivial,
    qe_algebraic,
    trivial,
    qo_algebraic,
    trivial,
    gq_algebraic,
    trivial,
    gn_algebraic,
    trivial,
    dq_algebraic,
    trivial,
    dn_algebraic,
    trivial,
    us_algebraic,
    trivial,
    uq_algebraic,
    trivial,
    uo_algebraic,
    trivial,
    uf_algebraic,
    trivial,
    ui_algebraic,
    trivial,
    ux_algebraic⟩

end Cert.Proof

end
